-- ==== Defs.lean ====
def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_Transform (m : (ℓ : Loc Cert.Transform.nD Cert.Transform.τ Cert.Transform.sig) → Buf (Elt Bits) ℓ) : Prop :=
  True

def Pre_TransformIdeal (m : (ℓ : Loc Cert.TransformIdeal.nD Cert.TransformIdeal.τ Cert.TransformIdeal.sig) → Buf (Elt Ideal) ℓ) : Prop :=
  True

def Pre_TransformIdeal_finite_signs [hPre_finite_signs : Cert.Pre_finite_signs.Facts] (m : (ℓ : Loc Cert.TransformIdeal.nD Cert.TransformIdeal.τ Cert.TransformIdeal.sig) → Buf (Elt Ideal) ℓ) : Prop :=
  ∀ c : Dev Cert.TransformIdeal.nD,
    (Cert.Pre_finite_signs.fn (F := Ideal) (m ((c.tc : Thread Cert.TransformIdeal.nD Cert.TransformIdeal.τ).loc Cert.TransformIdeal.main_arg0)) (m ((c.tc : Thread Cert.TransformIdeal.nD Cert.TransformIdeal.τ).loc Cert.TransformIdeal.main_arg1)) (m ((c.tc : Thread Cert.TransformIdeal.nD Cert.TransformIdeal.τ).loc Cert.TransformIdeal.main_arg2))).1 = (fun _ => 1#1)
    ∧ (Cert.Pre_finite_signs.fn (F := Ideal) (m ((c.tc : Thread Cert.TransformIdeal.nD Cert.TransformIdeal.τ).loc Cert.TransformIdeal.main_arg0)) (m ((c.tc : Thread Cert.TransformIdeal.nD Cert.TransformIdeal.τ).loc Cert.TransformIdeal.main_arg1)) (m ((c.tc : Thread Cert.TransformIdeal.nD Cert.TransformIdeal.τ).loc Cert.TransformIdeal.main_arg2))).2.1 = (fun _ => 1#1)
    ∧ (Cert.Pre_finite_signs.fn (F := Ideal) (m ((c.tc : Thread Cert.TransformIdeal.nD Cert.TransformIdeal.τ).loc Cert.TransformIdeal.main_arg0)) (m ((c.tc : Thread Cert.TransformIdeal.nD Cert.TransformIdeal.τ).loc Cert.TransformIdeal.main_arg1)) (m ((c.tc : Thread Cert.TransformIdeal.nD Cert.TransformIdeal.τ).loc Cert.TransformIdeal.main_arg2))).2.2 = (fun _ => 1#1)

def Pre_TransformReferenceIdeal (m : (ℓ : Loc Cert.TransformReferenceIdeal.nD Cert.TransformReferenceIdeal.τ Cert.TransformReferenceIdeal.sig) → Buf (Elt Ideal) ℓ) : Prop :=
  True

def Pre_TransformReferenceIdeal_finite_signs [hPre_finite_signs : Cert.Pre_finite_signs.Facts] (m : (ℓ : Loc Cert.TransformReferenceIdeal.nD Cert.TransformReferenceIdeal.τ Cert.TransformReferenceIdeal.sig) → Buf (Elt Ideal) ℓ) : Prop :=
  ∀ c : Dev Cert.TransformReferenceIdeal.nD,
    (Cert.Pre_finite_signs.fn (F := Ideal) (m ((c.tc : Thread Cert.TransformReferenceIdeal.nD Cert.TransformReferenceIdeal.τ).loc Cert.TransformReferenceIdeal.main_arg0)) (m ((c.tc : Thread Cert.TransformReferenceIdeal.nD Cert.TransformReferenceIdeal.τ).loc Cert.TransformReferenceIdeal.main_arg1)) (m ((c.tc : Thread Cert.TransformReferenceIdeal.nD Cert.TransformReferenceIdeal.τ).loc Cert.TransformReferenceIdeal.main_arg2))).1 = (fun _ => 1#1)
    ∧ (Cert.Pre_finite_signs.fn (F := Ideal) (m ((c.tc : Thread Cert.TransformReferenceIdeal.nD Cert.TransformReferenceIdeal.τ).loc Cert.TransformReferenceIdeal.main_arg0)) (m ((c.tc : Thread Cert.TransformReferenceIdeal.nD Cert.TransformReferenceIdeal.τ).loc Cert.TransformReferenceIdeal.main_arg1)) (m ((c.tc : Thread Cert.TransformReferenceIdeal.nD Cert.TransformReferenceIdeal.τ).loc Cert.TransformReferenceIdeal.main_arg2))).2.1 = (fun _ => 1#1)
    ∧ (Cert.Pre_finite_signs.fn (F := Ideal) (m ((c.tc : Thread Cert.TransformReferenceIdeal.nD Cert.TransformReferenceIdeal.τ).loc Cert.TransformReferenceIdeal.main_arg0)) (m ((c.tc : Thread Cert.TransformReferenceIdeal.nD Cert.TransformReferenceIdeal.τ).loc Cert.TransformReferenceIdeal.main_arg1)) (m ((c.tc : Thread Cert.TransformReferenceIdeal.nD Cert.TransformReferenceIdeal.τ).loc Cert.TransformReferenceIdeal.main_arg2))).2.2 = (fun _ => 1#1)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3))
      ∧ r.2.sem = fun _ => 0)

def quiescent_Transform [hTransform : Cert.Transform.Facts] : Prop :=
  ∀ (m : (ℓ : Loc Cert.Transform.nD Cert.Transform.τ Cert.Transform.sig) → Buf (Elt Bits) ℓ) (g : Dev Cert.Transform.nD → PrngReg), Pre_Transform m →
    θ_run (Cert.Transform.defs (F := Bits)) (onTc (τ := Cert.Transform.τ) (Cert.Transform.main (F := Bits))) ⟨m, fun _ => 0, g⟩ (fun r => (∀ c : Dev Cert.Transform.nD,
      r.2.mem ((c.tc : Thread Cert.Transform.nD Cert.Transform.τ).loc Cert.Transform.main_arg0) = m ((c.tc : Thread Cert.Transform.nD Cert.Transform.τ).loc Cert.Transform.main_arg0)
      ∧ r.2.mem ((c.tc : Thread Cert.Transform.nD Cert.Transform.τ).loc Cert.Transform.main_arg1) = m ((c.tc : Thread Cert.Transform.nD Cert.Transform.τ).loc Cert.Transform.main_arg1)
      ∧ r.2.mem ((c.tc : Thread Cert.Transform.nD Cert.Transform.τ).loc Cert.Transform.main_arg2) = m ((c.tc : Thread Cert.Transform.nD Cert.Transform.τ).loc Cert.Transform.main_arg2))
      ∧ r.2.sem = fun _ => 0)

def quiescent_TransformIdeal [hTransformIdeal : Cert.TransformIdeal.Facts] : Prop :=
  ∀ (m : (ℓ : Loc Cert.TransformIdeal.nD Cert.TransformIdeal.τ Cert.TransformIdeal.sig) → Buf (Elt Ideal) ℓ) (g : Dev Cert.TransformIdeal.nD → PrngReg), Pre_TransformIdeal m →
    θ_run (Cert.TransformIdeal.defs (F := Ideal)) (onTc (τ := Cert.TransformIdeal.τ) (Cert.TransformIdeal.main (F := Ideal))) ⟨m, fun _ => 0, g⟩ (fun r => (∀ c : Dev Cert.TransformIdeal.nD,
      r.2.mem ((c.tc : Thread Cert.TransformIdeal.nD Cert.TransformIdeal.τ).loc Cert.TransformIdeal.main_arg0) = m ((c.tc : Thread Cert.TransformIdeal.nD Cert.TransformIdeal.τ).loc Cert.TransformIdeal.main_arg0)
      ∧ r.2.mem ((c.tc : Thread Cert.TransformIdeal.nD Cert.TransformIdeal.τ).loc Cert.TransformIdeal.main_arg1) = m ((c.tc : Thread Cert.TransformIdeal.nD Cert.TransformIdeal.τ).loc Cert.TransformIdeal.main_arg1)
      ∧ r.2.mem ((c.tc : Thread Cert.TransformIdeal.nD Cert.TransformIdeal.τ).loc Cert.TransformIdeal.main_arg2) = m ((c.tc : Thread Cert.TransformIdeal.nD Cert.TransformIdeal.τ).loc Cert.TransformIdeal.main_arg2))
      ∧ r.2.sem = fun _ => 0)

def quiescent_TransformIdeal_pre_finite_signs [hTransformIdeal : Cert.TransformIdeal.Facts] [hPre_finite_signs : Cert.Pre_finite_signs.Facts] : Prop :=
  ∀ (m : (ℓ : Loc Cert.TransformIdeal.nD Cert.TransformIdeal.τ Cert.TransformIdeal.sig) → Buf (Elt Ideal) ℓ) (g : Dev Cert.TransformIdeal.nD → PrngReg), Pre_TransformIdeal_finite_signs m →
    θ_run (Cert.TransformIdeal.defs (F := Ideal)) (onTc (τ := Cert.TransformIdeal.τ) (Cert.TransformIdeal.main (F := Ideal))) ⟨m, fun _ => 0, g⟩ (fun r => (∀ c : Dev Cert.TransformIdeal.nD,
      r.2.mem ((c.tc : Thread Cert.TransformIdeal.nD Cert.TransformIdeal.τ).loc Cert.TransformIdeal.main_arg0) = m ((c.tc : Thread Cert.TransformIdeal.nD Cert.TransformIdeal.τ).loc Cert.TransformIdeal.main_arg0)
      ∧ r.2.mem ((c.tc : Thread Cert.TransformIdeal.nD Cert.TransformIdeal.τ).loc Cert.TransformIdeal.main_arg1) = m ((c.tc : Thread Cert.TransformIdeal.nD Cert.TransformIdeal.τ).loc Cert.TransformIdeal.main_arg1)
      ∧ r.2.mem ((c.tc : Thread Cert.TransformIdeal.nD Cert.TransformIdeal.τ).loc Cert.TransformIdeal.main_arg2) = m ((c.tc : Thread Cert.TransformIdeal.nD Cert.TransformIdeal.τ).loc Cert.TransformIdeal.main_arg2))
      ∧ r.2.sem = fun _ => 0)

def quiescent_TransformReferenceIdeal [hTransformReferenceIdeal : Cert.TransformReferenceIdeal.Facts] : Prop :=
  ∀ (m : (ℓ : Loc Cert.TransformReferenceIdeal.nD Cert.TransformReferenceIdeal.τ Cert.TransformReferenceIdeal.sig) → Buf (Elt Ideal) ℓ) (g : Dev Cert.TransformReferenceIdeal.nD → PrngReg), Pre_TransformReferenceIdeal m →
    θ_run (Cert.TransformReferenceIdeal.defs (F := Ideal)) (onTc (τ := Cert.TransformReferenceIdeal.τ) (Cert.TransformReferenceIdeal.main (F := Ideal))) ⟨m, fun _ => 0, g⟩ (fun r => (∀ c : Dev Cert.TransformReferenceIdeal.nD,
      r.2.mem ((c.tc : Thread Cert.TransformReferenceIdeal.nD Cert.TransformReferenceIdeal.τ).loc Cert.TransformReferenceIdeal.main_arg0) = m ((c.tc : Thread Cert.TransformReferenceIdeal.nD Cert.TransformReferenceIdeal.τ).loc Cert.TransformReferenceIdeal.main_arg0)
      ∧ r.2.mem ((c.tc : Thread Cert.TransformReferenceIdeal.nD Cert.TransformReferenceIdeal.τ).loc Cert.TransformReferenceIdeal.main_arg1) = m ((c.tc : Thread Cert.TransformReferenceIdeal.nD Cert.TransformReferenceIdeal.τ).loc Cert.TransformReferenceIdeal.main_arg1)
      ∧ r.2.mem ((c.tc : Thread Cert.TransformReferenceIdeal.nD Cert.TransformReferenceIdeal.τ).loc Cert.TransformReferenceIdeal.main_arg2) = m ((c.tc : Thread Cert.TransformReferenceIdeal.nD Cert.TransformReferenceIdeal.τ).loc Cert.TransformReferenceIdeal.main_arg2))
      ∧ r.2.sem = fun _ => 0)

def quiescent_TransformReferenceIdeal_pre_finite_signs [hTransformReferenceIdeal : Cert.TransformReferenceIdeal.Facts] [hPre_finite_signs : Cert.Pre_finite_signs.Facts] : Prop :=
  ∀ (m : (ℓ : Loc Cert.TransformReferenceIdeal.nD Cert.TransformReferenceIdeal.τ Cert.TransformReferenceIdeal.sig) → Buf (Elt Ideal) ℓ) (g : Dev Cert.TransformReferenceIdeal.nD → PrngReg), Pre_TransformReferenceIdeal_finite_signs m →
    θ_run (Cert.TransformReferenceIdeal.defs (F := Ideal)) (onTc (τ := Cert.TransformReferenceIdeal.τ) (Cert.TransformReferenceIdeal.main (F := Ideal))) ⟨m, fun _ => 0, g⟩ (fun r => (∀ c : Dev Cert.TransformReferenceIdeal.nD,
      r.2.mem ((c.tc : Thread Cert.TransformReferenceIdeal.nD Cert.TransformReferenceIdeal.τ).loc Cert.TransformReferenceIdeal.main_arg0) = m ((c.tc : Thread Cert.TransformReferenceIdeal.nD Cert.TransformReferenceIdeal.τ).loc Cert.TransformReferenceIdeal.main_arg0)
      ∧ r.2.mem ((c.tc : Thread Cert.TransformReferenceIdeal.nD Cert.TransformReferenceIdeal.τ).loc Cert.TransformReferenceIdeal.main_arg1) = m ((c.tc : Thread Cert.TransformReferenceIdeal.nD Cert.TransformReferenceIdeal.τ).loc Cert.TransformReferenceIdeal.main_arg1)
      ∧ r.2.mem ((c.tc : Thread Cert.TransformReferenceIdeal.nD Cert.TransformReferenceIdeal.τ).loc Cert.TransformReferenceIdeal.main_arg2) = m ((c.tc : Thread Cert.TransformReferenceIdeal.nD Cert.TransformReferenceIdeal.τ).loc Cert.TransformReferenceIdeal.main_arg2))
      ∧ r.2.sem = fun _ => 0)

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)
      ∧ m' ((c.tc : Thread Cert.DownReferenceIdeal.nD Cert.DownReferenceIdeal.τ).loc Cert.DownReferenceIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v2) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3))

def preserves_Transform_TransformIdeal : Prop :=
  True

def algebraic_TransformIdeal_TransformReferenceIdeal_pre_finite_signs [hTransformIdeal : Cert.TransformIdeal.Facts] [hTransformReferenceIdeal : Cert.TransformReferenceIdeal.Facts] [hPre_finite_signs : Cert.Pre_finite_signs.Facts] : Prop :=
  ∀ (m : (ℓ : Loc Cert.TransformIdeal.nD Cert.TransformIdeal.τ Cert.TransformIdeal.sig) → Buf (Elt Ideal) ℓ) (g : Dev Cert.TransformIdeal.nD → PrngReg)
    (m' : (ℓ : Loc Cert.TransformReferenceIdeal.nD Cert.TransformReferenceIdeal.τ Cert.TransformReferenceIdeal.sig) → Buf (Elt Ideal) ℓ) (g' : Dev Cert.TransformReferenceIdeal.nD → PrngReg), Pre_TransformIdeal_finite_signs m →
    (∀ c : Dev Cert.TransformIdeal.nD,
      m' ((c.tc : Thread Cert.TransformReferenceIdeal.nD Cert.TransformReferenceIdeal.τ).loc Cert.TransformReferenceIdeal.main_arg0) = m ((c.tc : Thread Cert.TransformIdeal.nD Cert.TransformIdeal.τ).loc Cert.TransformIdeal.main_arg0)
      ∧ m' ((c.tc : Thread Cert.TransformReferenceIdeal.nD Cert.TransformReferenceIdeal.τ).loc Cert.TransformReferenceIdeal.main_arg1) = m ((c.tc : Thread Cert.TransformIdeal.nD Cert.TransformIdeal.τ).loc Cert.TransformIdeal.main_arg1)
      ∧ m' ((c.tc : Thread Cert.TransformReferenceIdeal.nD Cert.TransformReferenceIdeal.τ).loc Cert.TransformReferenceIdeal.main_arg2) = m ((c.tc : Thread Cert.TransformIdeal.nD Cert.TransformIdeal.τ).loc Cert.TransformIdeal.main_arg2)) →
    ∃ (v0 : (c : Dev Cert.TransformIdeal.nD) → Buf (Elt Ideal) ((c.tc : Thread Cert.TransformIdeal.nD Cert.TransformIdeal.τ).loc Cert.TransformIdeal.main_v0_0)) (v1 : (c : Dev Cert.TransformIdeal.nD) → Buf (Elt Ideal) ((c.tc : Thread Cert.TransformIdeal.nD Cert.TransformIdeal.τ).loc Cert.TransformIdeal.main_v0_1)),
      θ_run (Cert.TransformIdeal.defs (F := Ideal)) (onTc (τ := Cert.TransformIdeal.τ) (Cert.TransformIdeal.main (F := Ideal))) ⟨m, fun _ => 0, g⟩ (fun r => ∀ c : Dev Cert.TransformIdeal.nD,
          r.2.mem ((c.tc : Thread Cert.TransformIdeal.nD Cert.TransformIdeal.τ).loc Cert.TransformIdeal.main_v0_0) = v0 c
          ∧ r.2.mem ((c.tc : Thread Cert.TransformIdeal.nD Cert.TransformIdeal.τ).loc Cert.TransformIdeal.main_v0_1) = v1 c
          ∧ r.2.mem ((c.tc : Thread Cert.TransformIdeal.nD Cert.TransformIdeal.τ).loc Cert.TransformIdeal.main_arg0) = m ((c.tc : Thread Cert.TransformIdeal.nD Cert.TransformIdeal.τ).loc Cert.TransformIdeal.main_arg0)
          ∧ r.2.mem ((c.tc : Thread Cert.TransformIdeal.nD Cert.TransformIdeal.τ).loc Cert.TransformIdeal.main_arg1) = m ((c.tc : Thread Cert.TransformIdeal.nD Cert.TransformIdeal.τ).loc Cert.TransformIdeal.main_arg1)
          ∧ r.2.mem ((c.tc : Thread Cert.TransformIdeal.nD Cert.TransformIdeal.τ).loc Cert.TransformIdeal.main_arg2) = m ((c.tc : Thread Cert.TransformIdeal.nD Cert.TransformIdeal.τ).loc Cert.TransformIdeal.main_arg2))
      ∧ θ_run (Cert.TransformReferenceIdeal.defs (F := Ideal)) (onTc (τ := Cert.TransformReferenceIdeal.τ) (Cert.TransformReferenceIdeal.main (F := Ideal))) ⟨m', fun _ => 0, g'⟩ (fun r => ∀ c : Dev Cert.TransformReferenceIdeal.nD,
          r.2.mem ((c.tc : Thread Cert.TransformReferenceIdeal.nD Cert.TransformReferenceIdeal.τ).loc Cert.TransformReferenceIdeal.main_v54) = v0 c
          ∧ r.2.mem ((c.tc : Thread Cert.TransformReferenceIdeal.nD Cert.TransformReferenceIdeal.τ).loc Cert.TransformReferenceIdeal.main_v55) = v1 c
          ∧ r.2.mem ((c.tc : Thread Cert.TransformReferenceIdeal.nD Cert.TransformReferenceIdeal.τ).loc Cert.TransformReferenceIdeal.main_arg0) = m' ((c.tc : Thread Cert.TransformReferenceIdeal.nD Cert.TransformReferenceIdeal.τ).loc Cert.TransformReferenceIdeal.main_arg0)
          ∧ r.2.mem ((c.tc : Thread Cert.TransformReferenceIdeal.nD Cert.TransformReferenceIdeal.τ).loc Cert.TransformReferenceIdeal.main_arg1) = m' ((c.tc : Thread Cert.TransformReferenceIdeal.nD Cert.TransformReferenceIdeal.τ).loc Cert.TransformReferenceIdeal.main_arg1)
          ∧ r.2.mem ((c.tc : Thread Cert.TransformReferenceIdeal.nD Cert.TransformReferenceIdeal.τ).loc Cert.TransformReferenceIdeal.main_arg2) = m' ((c.tc : Thread Cert.TransformReferenceIdeal.nD Cert.TransformReferenceIdeal.τ).loc Cert.TransformReferenceIdeal.main_arg2))

def Claim : Prop :=
  ∃ (hDown : Cert.Down.Facts) (hDownIdeal : Cert.DownIdeal.Facts) (hDownReferenceIdeal : Cert.DownReferenceIdeal.Facts) (hTransform : Cert.Transform.Facts) (hTransformIdeal : Cert.TransformIdeal.Facts) (hTransformReferenceIdeal : Cert.TransformReferenceIdeal.Facts) (hPre_finite_signs : Cert.Pre_finite_signs.Facts),
    quiescent_Down (hDown := hDown)
    ∧ quiescent_DownIdeal (hDownIdeal := hDownIdeal)
    ∧ quiescent_DownReferenceIdeal (hDownReferenceIdeal := hDownReferenceIdeal)
    ∧ quiescent_Transform (hTransform := hTransform)
    ∧ quiescent_TransformIdeal (hTransformIdeal := hTransformIdeal)
    ∧ quiescent_TransformIdeal_pre_finite_signs (hTransformIdeal := hTransformIdeal) (hPre_finite_signs := hPre_finite_signs)
    ∧ quiescent_TransformReferenceIdeal (hTransformReferenceIdeal := hTransformReferenceIdeal)
    ∧ quiescent_TransformReferenceIdeal_pre_finite_signs (hTransformReferenceIdeal := hTransformReferenceIdeal) (hPre_finite_signs := hPre_finite_signs)
    ∧ preserves_Down_DownIdeal
    ∧ algebraic_DownIdeal_DownReferenceIdeal (hDownIdeal := hDownIdeal) (hDownReferenceIdeal := hDownReferenceIdeal)
    ∧ preserves_Transform_TransformIdeal
    ∧ algebraic_TransformIdeal_TransformReferenceIdeal_pre_finite_signs (hTransformIdeal := hTransformIdeal) (hTransformReferenceIdeal := hTransformReferenceIdeal) (hPre_finite_signs := hPre_finite_signs)
-- ==== Pre_finite_signs.lean ====
abbrev S1536x14336 : Shape := ⟨2, ![1536, 14336]⟩
abbrev S28x28 : Shape := ⟨2, ![28, 28]⟩
abbrev S_ : Shape := ⟨0, ![]⟩

class Facts : Prop where
  bcast_S_S1536x14336 : S_.BroadcastsInDim S1536x14336 (![] : Fin 0 → Fin S1536x14336.rank)
  bcast_S_S28x28 : S_.BroadcastsInDim S28x28 (![] : Fin 0 → Fin S28x28.rank)

variable [Facts]

def fn {F : FTy → Type} [FloatOps F] (main_arg0 : FVec F S1536x14336 .bf16) (main_arg1 : FVec F S1536x14336 .bf16) (main_arg2 : FVec F S28x28 .f32) : IVec S1536x14336 1 × IVec S1536x14336 1 × IVec S28x28 1 :=
  let main_v0 : FVec F S1536x14336 .bf16 := Host.absf main_arg0
  let main_cst : FVec F S_ .bf16 := constant S_ .bf16 0x7F80#16
  let main_v1 : FVec F S1536x14336 .bf16 := broadcastInDim S1536x14336 ![] bcast_S_S1536x14336 main_cst
  let main_v2 : IVec S1536x14336 1 := cmpf .olt main_v0 main_v1
  let main_v3 : FVec F S1536x14336 .bf16 := Host.absf main_arg1
  let main_cst_0 : FVec F S_ .bf16 := constant S_ .bf16 0x7F80#16
  let main_v4 : FVec F S1536x14336 .bf16 := broadcastInDim S1536x14336 ![] bcast_S_S1536x14336 main_cst_0
  let main_v5 : IVec S1536x14336 1 := cmpf .olt main_v3 main_v4
  let main_v6 : FVec F S28x28 .f32 := Host.absf main_arg2
  let main_cst_1 : FVec F S_ .f32 := constant S_ .f32 0x3F800000#32
  let main_v7 : FVec F S28x28 .f32 := broadcastInDim S28x28 ![] bcast_S_S28x28 main_cst_1
  let main_v8 : IVec S28x28 1 := cmpf .oeq main_v6 main_v7
  (main_v2, main_v5, main_v8)
-- ==== Down.lean ====
abbrev S1536x14336 : Shape := ⟨2, ![1536, 14336]⟩
abbrev S1536x128 : Shape := ⟨2, ![1536, 128]⟩
abbrev S14336x4096 : Shape := ⟨2, ![14336, 4096]⟩
abbrev S4096 : Shape := ⟨1, ![4096]⟩
abbrev S1x4096 : Shape := ⟨2, ![1, 4096]⟩
abbrev S1536x4096 : Shape := ⟨2, ![1536, 4096]⟩
abbrev S512x14336 : Shape := ⟨2, ![512, 14336]⟩
abbrev S512x128 : Shape := ⟨2, ![512, 128]⟩
abbrev S14336x512 : Shape := ⟨2, ![14336, 512]⟩
abbrev S1x512 : Shape := ⟨2, ![1, 512]⟩
abbrev S512x512 : Shape := ⟨2, ![512, 512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S1536x14336, .fp8e4m3⟩
  | .hbm, ⟨1, _⟩ => ⟨S1536x128, .f32⟩
  | .hbm, ⟨2, _⟩ => ⟨S14336x4096, .fp8e4m3⟩
  | .hbm, ⟨3, _⟩ => ⟨S4096, .f32⟩
  | .hbm, ⟨4, _⟩ => ⟨S1x4096, .f32⟩
  | .hbm, ⟨5, _⟩ => ⟨S1536x4096, .bf16⟩
  | .local _ .vmem, ⟨0, _⟩ => ⟨S512x14336, .fp8e4m3⟩
  | .local _ .vmem, ⟨1, _⟩ => ⟨S512x14336, .fp8e4m3⟩
  | .local _ .vmem, ⟨2, _⟩ => ⟨S512x128, .f32⟩
  | .local _ .vmem, ⟨3, _⟩ => ⟨S512x128, .f32⟩
  | .local _ .vmem, ⟨4, _⟩ => ⟨S14336x512, .fp8e4m3⟩
  | .local _ .vmem, ⟨5, _⟩ => ⟨S14336x512, .fp8e4m3⟩
  | .local _ .vmem, ⟨6, _⟩ => ⟨S1x512, .f32⟩
  | .local _ .vmem, ⟨7, _⟩ => ⟨S1x512, .f32⟩
  | .local _ .vmem, ⟨8, _⟩ => ⟨S512x512, .bf16⟩
  | .local _ .vmem, ⟨9, _⟩ => ⟨S512x512, .bf16⟩
  | _, _ => ⟨S1536x14336, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![3, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x14336 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S14336x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== DownReferenceIdeal.lean ====
abbrev S1536x14336 : Shape := ⟨2, ![1536, 14336]⟩
abbrev S1536x128 : Shape := ⟨2, ![1536, 128]⟩
abbrev S14336x4096 : Shape := ⟨2, ![14336, 4096]⟩
abbrev S4096 : Shape := ⟨1, ![4096]⟩
abbrev S1536x1 : Shape := ⟨2, ![1536, 1]⟩
abbrev S1x4096 : Shape := ⟨2, ![1, 4096]⟩
abbrev S1536x4096 : Shape := ⟨2, ![1536, 4096]⟩

abbrev nBuf : Space → Nat
  | .hbm => 7
  | .vmem => 5
  | .smem => 0
  | _ => 0

abbrev bufTy : (tb : Table) → Fin (tcTables nBuf tb) → BufTy
  | .hbm, ⟨0, _⟩ => ⟨S1536x14336, .fp8e4m3⟩
  | .hbm, ⟨1, _⟩ => ⟨S1536x128, .f32⟩
  | .hbm, ⟨2, _⟩ => ⟨S14336x4096, .fp8e4m3⟩
  | .hbm, ⟨3, _⟩ => ⟨S4096, .f32⟩
  | .hbm, ⟨4, _⟩ => ⟨S1536x1, .f32⟩
  | .hbm, ⟨5, _⟩ => ⟨S1x4096, .f32⟩
  | .hbm, ⟨6, _⟩ => ⟨S1536x4096, .bf16⟩
  | .local _ .vmem, ⟨0, _⟩ => ⟨S1536x14336, .fp8e4m3⟩
  | .local _ .vmem, ⟨1, _⟩ => ⟨S1536x1, .f32⟩
  | .local _ .vmem, ⟨2, _⟩ => ⟨S14336x4096, .fp8e4m3⟩
  | .local _ .vmem, ⟨3, _⟩ => ⟨S1x4096, .f32⟩
  | .local _ .vmem, ⟨4, _⟩ => ⟨S1536x4096, .bf16⟩
  | _, _ => ⟨S1536x14336, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S1536x14336 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S14336x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1536x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Transform.lean ====
abbrev S1536x14336 : Shape := ⟨2, ![1536, 14336]⟩
abbrev S28x28 : Shape := ⟨2, ![28, 28]⟩
abbrev S1536x128 : Shape := ⟨2, ![1536, 128]⟩
abbrev S32x14336 : Shape := ⟨2, ![32, 14336]⟩
abbrev S32x128 : Shape := ⟨2, ![32, 128]⟩
abbrev S256x256 : Shape := ⟨2, ![256, 256]⟩
abbrev S224 : Shape := ⟨1, ![224]⟩
abbrev S112x2x16x128 : Shape := ⟨4, ![112, 2, 16, 128]⟩
abbrev S2x3x896x256 : Shape := ⟨4, ![2, 3, 896, 256]⟩
abbrev S2x896x256 : Shape := ⟨3, ![2, 896, 256]⟩
abbrev S1x1 : Shape := ⟨2, ![1, 1]⟩
abbrev S1 : Shape := ⟨1, ![1]⟩
abbrev S16x128 : Shape := ⟨2, ![16, 128]⟩
abbrev S1x1x16x128 : Shape := ⟨4, ![1, 1, 16, 128]⟩
abbrev S1x2x16x128 : Shape := ⟨4, ![1, 2, 16, 128]⟩
abbrev S2x16x128 : Shape := ⟨3, ![2, 16, 128]⟩
abbrev S1x1x32x128 : Shape := ⟨4, ![1, 1, 32, 128]⟩
abbrev S1x1x224x256 : Shape := ⟨4, ![1, 1, 224, 256]⟩
abbrev S224x256 : Shape := ⟨2, ![224, 256]⟩
abbrev S1x224x256 : Shape := ⟨3, ![1, 224, 256]⟩
abbrev S14x16x256 : Shape := ⟨3, ![14, 16, 256]⟩
abbrev S16x256 : Shape := ⟨2, ![16, 256]⟩
abbrev S32 : Shape := ⟨1, ![32]⟩
abbrev S32x1 : Shape := ⟨2, ![32, 1]⟩
abbrev S32x256 : Shape := ⟨2, ![32, 256]⟩
abbrev S1x16x256 : Shape := ⟨3, ![1, 16, 256]⟩

abbrev nBuf : Space → Nat
  | .hbm => 5
  | .vmem => 12
  | .smem => 2
  | _ => 0

abbrev bufTy : (tb : Table) → Fin (tcTables nBuf tb) → BufTy
  | .hbm, ⟨0, _⟩ => ⟨S1536x14336, .bf16⟩
  | .hbm, ⟨1, _⟩ => ⟨S1536x14336, .bf16⟩
  | .hbm, ⟨2, _⟩ => ⟨S28x28, .f32⟩
  | .hbm, ⟨3, _⟩ => ⟨S1536x14336, .fp8e4m3⟩
  | .hbm, ⟨4, _⟩ => ⟨S1536x128, .f32⟩
  | .local _ .vmem, ⟨0, _⟩ => ⟨S32x14336, .bf16⟩
  | .local _ .vmem, ⟨1, _⟩ => ⟨S32x14336, .bf16⟩
  | .local _ .vmem, ⟨2, _⟩ => ⟨S32x14336, .bf16⟩
  | .local _ .vmem, ⟨3, _⟩ => ⟨S32x14336, .bf16⟩
  | .local _ .vmem, ⟨4, _⟩ => ⟨S32x14336, .fp8e4m3⟩
  | .local _ .vmem, ⟨5, _⟩ => ⟨S32x14336, .fp8e4m3⟩
  | .local _ .vmem, ⟨6, _⟩ => ⟨S32x128, .f32⟩
  | .local _ .vmem, ⟨7, _⟩ => ⟨S32x128, .f32⟩
  | .local _ .vmem, ⟨8, _⟩ => ⟨S256x256, .bf16⟩
  | .local _ .vmem, ⟨9, _⟩ => ⟨S112x2x16x128, .f32⟩
  | .local _ .vmem, ⟨10, _⟩ => ⟨S2x3x896x256, .bf16⟩
  | .local _ .vmem, ⟨11, _⟩ => ⟨S2x896x256, .f32⟩
  | .local _ .smem, ⟨0, _⟩ => ⟨S28x28, .f32⟩
  | .local _ .smem, ⟨1, _⟩ => ⟨S224, .i32⟩
  | _, _ => ⟨S1536x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_stg0_0 : Ref sig .tc := ⟨.smem, 0, rfl⟩
abbrev cc0_scratch1 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![48], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_10344 : BitVec 32 := 0#32
  let c28_i32 : BitVec 32 := 28#32
  let v13969 : BitVec 32 := Scalar.addi c0_i32_10344 c28_i32
  let c1_i32_10345 : BitVec 32 := 1#32
  ⟨c0_i32_10344, v13969, c1_i32_10345⟩
def k0_off1 (k0_t1 : Fin k0_t1_loop.trips) : Fin 2 → Nat :=
  let c0_i32_10344 : BitVec 32 := 0#32
  let c1_i32_10345 : BitVec 32 := 1#32
  let arg11 : BitVec 32 := Scf.iv c0_i32_10344 c1_i32_10345 k0_t1
  let v13970 : Index := Scalar.indexCast arg11
  let c0_10347 : Index := 0#32
  ![v13970.toNat, 0]
def k0_off2 (k0_t1 : Fin k0_t1_loop.trips) : Fin 2 → Nat :=
  let c0_i32_10344 : BitVec 32 := 0#32
  let c1_i32_10345 : BitVec 32 := 1#32
  let arg11 : BitVec 32 := Scf.iv c0_i32_10344 c1_i32_10345 k0_t1
  let v13975 : Index := Scalar.indexCast arg11
  let c1_10352 : Index := 1#32
  ![v13975.toNat, 1]
def k0_off3 (k0_t1 : Fin k0_t1_loop.trips) : Fin 2 → Nat :=
  let c0_i32_10344 : BitVec 32 := 0#32
  let c1_i32_10345 : BitVec 32 := 1#32
  let arg11 : BitVec 32 := Scf.iv c0_i32_10344 c1_i32_10345 k0_t1
  let v13980 : Index := Scalar.indexCast arg11
  let c2_10356 : Index := 2#32
  ![v13980.toNat, 2]
def k0_off4 (k0_t1 : Fin k0_t1_loop.trips) : Fin 2 → Nat :=
  let c0_i32_10344 : BitVec 32 := 0#32
  let c1_i32_10345 : BitVec 32 := 1#32
  let arg11 : BitVec 32 := Scf.iv c0_i32_10344 c1_i32_10345 k0_t1
  let v13985 : Index := Scalar.indexCast arg11
  let c3_10360 : Index := 3#32
  ![v13985.toNat, 3]
def k0_off5 (k0_t1 : Fin k0_t1_loop.trips) (c0_i32_10365 : BitVec 32) : Fin 1 → Nat :=
  let c0_i32_10344 : BitVec 32 := 0#32
  let c1_i32_10345 : BitVec 32 := 1#32
  let arg11 : BitVec 32 := Scf.iv c0_i32_10344 c1_i32_10345 k0_t1
  let c8_i32_10364 : BitVec 32 := 8#32
  let v13990 : BitVec 32 := Scalar.muli arg11 c8_i32_10364
  let v13991 : BitVec 32 := Scalar.addi v13990 c0_i32_10365
  let v13992 : Index := Scalar.indexCast v13991
  ![v13992.toNat]
def k0_off6 (k0_t1 : Fin k0_t1_loop.trips) : Fin 2 → Nat :=
  let c0_i32_10344 : BitVec 32 := 0#32
  let c1_i32_10345 : BitVec 32 := 1#32
  let arg11 : BitVec 32 := Scf.iv c0_i32_10344 c1_i32_10345 k0_t1
  let v13994 : Index := Scalar.indexCast arg11
  let c4_10366 : Index := 4#32
  ![v13994.toNat, 4]
def k0_off7 (k0_t1 : Fin k0_t1_loop.trips) : Fin 2 → Nat :=
  let c0_i32_10344 : BitVec 32 := 0#32
  let c1_i32_10345 : BitVec 32 := 1#32
  let arg11 : BitVec 32 := Scf.iv c0_i32_10344 c1_i32_10345 k0_t1
  let v13999 : Index := Scalar.indexCast arg11
  let c5_10371 : Index := 5#32
  ![v13999.toNat, 5]
def k0_off8 (k0_t1 : Fin k0_t1_loop.trips) : Fin 2 → Nat :=
  let c0_i32_10344 : BitVec 32 := 0#32
  let c1_i32_10345 : BitVec 32 := 1#32
  let arg11 : BitVec 32 := Scf.iv c0_i32_10344 c1_i32_10345 k0_t1
  let v14004 : Index := Scalar.indexCast arg11
  let c6_10375 : Index := 6#32
  ![v14004.toNat, 6]
def k0_off9 (k0_t1 : Fin k0_t1_loop.trips) : Fin 2 → Nat :=
  let c0_i32_10344 : BitVec 32 := 0#32
  let c1_i32_10345 : BitVec 32 := 1#32
  let arg11 : BitVec 32 := Scf.iv c0_i32_10344 c1_i32_10345 k0_t1
  let v14009 : Index := Scalar.indexCast arg11
  let c7_10379 : Index := 7#32
  ![v14009.toNat, 7]
def k0_off10 (k0_t1 : Fin k0_t1_loop.trips) : Fin 2 → Nat :=
  let c0_i32_10344 : BitVec 32 := 0#32
  let c1_i32_10345 : BitVec 32 := 1#32
  let arg11 : BitVec 32 := Scf.iv c0_i32_10344 c1_i32_10345 k0_t1
  let v14018 : Index := Scalar.indexCast arg11
  let c8_10385 : Index := 8#32
  ![v14018.toNat, 8]
def k0_off11 (k0_t1 : Fin k0_t1_loop.trips) : Fin 2 → Nat :=
  let c0_i32_10344 : BitVec 32 := 0#32
  let c1_i32_10345 : BitVec 32 := 1#32
  let arg11 : BitVec 32 := Scf.iv c0_i32_10344 c1_i32_10345 k0_t1
  let v14023 : Index := Scalar.indexCast arg11
  let c9_10390 : Index := 9#32
  ![v14023.toNat, 9]
def k0_off12 (k0_t1 : Fin k0_t1_loop.trips) : Fin 2 → Nat :=
  let c0_i32_10344 : BitVec 32 := 0#32
  let c1_i32_10345 : BitVec 32 := 1#32
  let arg11 : BitVec 32 := Scf.iv c0_i32_10344 c1_i32_10345 k0_t1
  let v14028 : Index := Scalar.indexCast arg11
  let c10_10394 : Index := 10#32
  ![v14028.toNat, 10]
def k0_off13 (k0_t1 : Fin k0_t1_loop.trips) : Fin 2 → Nat :=
  let c0_i32_10344 : BitVec 32 := 0#32
  let c1_i32_10345 : BitVec 32 := 1#32
  let arg11 : BitVec 32 := Scf.iv c0_i32_10344 c1_i32_10345 k0_t1
  let v14033 : Index := Scalar.indexCast arg11
  let c11_10398 : Index := 11#32
  ![v14033.toNat, 11]
def k0_off14 (k0_t1 : Fin k0_t1_loop.trips) : Fin 2 → Nat :=
  let c0_i32_10344 : BitVec 32 := 0#32
  let c1_i32_10345 : BitVec 32 := 1#32
  let arg11 : BitVec 32 := Scf.iv c0_i32_10344 c1_i32_10345 k0_t1
  let v14042 : Index := Scalar.indexCast arg11
  let c12_10404 : Index := 12#32
  ![v14042.toNat, 12]
def k0_off15 (k0_t1 : Fin k0_t1_loop.trips) : Fin 2 → Nat :=
  let c0_i32_10344 : BitVec 32 := 0#32
  let c1_i32_10345 : BitVec 32 := 1#32
  let arg11 : BitVec 32 := Scf.iv c0_i32_10344 c1_i32_10345 k0_t1
  let v14047 : Index := Scalar.indexCast arg11
  let c13_10408 : Index := 13#32
  ![v14047.toNat, 13]
def k0_off16 (k0_t1 : Fin k0_t1_loop.trips) : Fin 2 → Nat :=
  let c0_i32_10344 : BitVec 32 := 0#32
  let c1_i32_10345 : BitVec 32 := 1#32
  let arg11 : BitVec 32 := Scf.iv c0_i32_10344 c1_i32_10345 k0_t1
  let v14052 : Index := Scalar.indexCast arg11
  let c14_10412 : Index := 14#32
  ![v14052.toNat, 14]
def k0_off17 (k0_t1 : Fin k0_t1_loop.trips) : Fin 2 → Nat :=
  let c0_i32_10344 : BitVec 32 := 0#32
  let c1_i32_10345 : BitVec 32 := 1#32
  let arg11 : BitVec 32 := Scf.iv c0_i32_10344 c1_i32_10345 k0_t1
  let v14057 : Index := Scalar.indexCast arg11
  let c15_10416 : Index := 15#32
  ![v14057.toNat, 15]
def k0_off18 (k0_t1 : Fin k0_t1_loop.trips) : Fin 2 → Nat :=
  let c0_i32_10344 : BitVec 32 := 0#32
  let c1_i32_10345 : BitVec 32 := 1#32
  let arg11 : BitVec 32 := Scf.iv c0_i32_10344 c1_i32_10345 k0_t1
  let v14066 : Index := Scalar.indexCast arg11
  let c16_10421 : Index := 16#32
  ![v14066.toNat, 16]
def k0_off19 (k0_t1 : Fin k0_t1_loop.trips) : Fin 2 → Nat :=
  let c0_i32_10344 : BitVec 32 := 0#32
  let c1_i32_10345 : BitVec 32 := 1#32
  let arg11 : BitVec 32 := Scf.iv c0_i32_10344 c1_i32_10345 k0_t1
  let v14071 : Index := Scalar.indexCast arg11
  let c17_10426 : Index := 17#32
  ![v14071.toNat, 17]
def k0_off20 (k0_t1 : Fin k0_t1_loop.trips) : Fin 2 → Nat :=
  let c0_i32_10344 : BitVec 32 := 0#32
  let c1_i32_10345 : BitVec 32 := 1#32
  let arg11 : BitVec 32 := Scf.iv c0_i32_10344 c1_i32_10345 k0_t1
  let v14076 : Index := Scalar.indexCast arg11
  let c18_10430 : Index := 18#32
  ![v14076.toNat, 18]
def k0_off21 (k0_t1 : Fin k0_t1_loop.trips) : Fin 2 → Nat :=
  let c0_i32_10344 : BitVec 32 := 0#32
  let c1_i32_10345 : BitVec 32 := 1#32
  let arg11 : BitVec 32 := Scf.iv c0_i32_10344 c1_i32_10345 k0_t1
  let v14081 : Index := Scalar.indexCast arg11
  let c19_10434 : Index := 19#32
  ![v14081.toNat, 19]
def k0_off22 (k0_t1 : Fin k0_t1_loop.trips) : Fin 2 → Nat :=
  let c0_i32_10344 : BitVec 32 := 0#32
  let c1_i32_10345 : BitVec 32 := 1#32
  let arg11 : BitVec 32 := Scf.iv c0_i32_10344 c1_i32_10345 k0_t1
  let v14090 : Index := Scalar.indexCast arg11
  let c20_10440 : Index := 20#32
  ![v14090.toNat, 20]
def k0_off23 (k0_t1 : Fin k0_t1_loop.trips) : Fin 2 → Nat :=
  let c0_i32_10344 : BitVec 32 := 0#32
  let c1_i32_10345 : BitVec 32 := 1#32
  let arg11 : BitVec 32 := Scf.iv c0_i32_10344 c1_i32_10345 k0_t1
  let v14095 : Index := Scalar.indexCast arg11
  let c21_10444 : Index := 21#32
  ![v14095.toNat, 21]
def k0_off24 (k0_t1 : Fin k0_t1_loop.trips) : Fin 2 → Nat :=
  let c0_i32_10344 : BitVec 32 := 0#32
  let c1_i32_10345 : BitVec 32 := 1#32
  let arg11 : BitVec 32 := Scf.iv c0_i32_10344 c1_i32_10345 k0_t1
  let v14100 : Index := Scalar.indexCast arg11
  let c22_10448 : Index := 22#32
  ![v14100.toNat, 22]
def k0_off25 (k0_t1 : Fin k0_t1_loop.trips) : Fin 2 → Nat :=
  let c0_i32_10344 : BitVec 32 := 0#32
  let c1_i32_10345 : BitVec 32 := 1#32
  let arg11 : BitVec 32 := Scf.iv c0_i32_10344 c1_i32_10345 k0_t1
  let v14105 : Index := Scalar.indexCast arg11
  let c23_10452 : Index := 23#32
  ![v14105.toNat, 23]
def k0_off26 (k0_t1 : Fin k0_t1_loop.trips) : Fin 2 → Nat :=
  let c0_i32_10344 : BitVec 32 := 0#32
  let c1_i32_10345 : BitVec 32 := 1#32
  let arg11 : BitVec 32 := Scf.iv c0_i32_10344 c1_i32_10345 k0_t1
  let v14114 : Index := Scalar.indexCast arg11
  let c24_10457 : Index := 24#32
  ![v14114.toNat, 24]
def k0_off27 (k0_t1 : Fin k0_t1_loop.trips) : Fin 2 → Nat :=
  let c0_i32_10344 : BitVec 32 := 0#32
  let c1_i32_10345 : BitVec 32 := 1#32
  let arg11 : BitVec 32 := Scf.iv c0_i32_10344 c1_i32_10345 k0_t1
  let v14119 : Index := Scalar.indexCast arg11
  let c25_10461 : Index := 25#32
  ![v14119.toNat, 25]
def k0_off28 (k0_t1 : Fin k0_t1_loop.trips) : Fin 2 → Nat :=
  let c0_i32_10344 : BitVec 32 := 0#32
  let c1_i32_10345 : BitVec 32 := 1#32
  let arg11 : BitVec 32 := Scf.iv c0_i32_10344 c1_i32_10345 k0_t1
  let v14124 : Index := Scalar.indexCast arg11
  let c26_10465 : Index := 26#32
  ![v14124.toNat, 26]
def k0_off29 (k0_t1 : Fin k0_t1_loop.trips) : Fin 2 → Nat :=
  let c0_i32_10344 : BitVec 32 := 0#32
  let c1_i32_10345 : BitVec 32 := 1#32
  let arg11 : BitVec 32 := Scf.iv c0_i32_10344 c1_i32_10345 k0_t1
  let v14129 : Index := Scalar.indexCast arg11
  let c27_10469 : Index := 27#32
  ![v14129.toNat, 27]
def k0_off30 (v1795 : BitVec 32) : Fin 4 → Nat :=
  let v1796 : Index := Scalar.indexCast v1795
  let c0_1178 : Index := 0#32
  let c0_1179 : Index := 0#32
  let c0_1180 : Index := 0#32
  ![v1796.toNat, 0, 0, 0]

def k0_chk1 (v1795 : BitVec 32) : Prop :=
  (∀ a, (k0_off30 v1795) a + S1x2x16x128.size a ≤ S112x2x16x128.size a)
theorem k0_off30_inb : ∀ (v1795 : BitVec 32) (k0_hw1 : k0_chk1 v1795), ∀ a, (k0_off30 v1795) a + S1x2x16x128.size a ≤ S112x2x16x128.size a := fun v1795 k0_hw1 => k0_hw1

def k0_off31 (v1799 : BitVec 32) : Fin 4 → Nat :=
  let v1800 : Index := Scalar.indexCast v1799
  let c0_1182 : Index := 0#32
  let c0_1183 : Index := 0#32
  let c0_1184 : Index := 0#32
  ![v1800.toNat, 0, 0, 0]

def k0_chk2 (v1799 : BitVec 32) : Prop :=
  (∀ a, (k0_off31 v1799) a + S1x2x16x128.size a ≤ S112x2x16x128.size a)
theorem k0_off31_inb : ∀ (v1799 : BitVec 32) (k0_hw2 : k0_chk2 v1799), ∀ a, (k0_off31 v1799) a + S1x2x16x128.size a ≤ S112x2x16x128.size a := fun v1799 k0_hw2 => k0_hw2

def k0_off32 (v1803 : BitVec 32) : Fin 4 → Nat :=
  let v1804 : Index := Scalar.indexCast v1803
  let c0_1186 : Index := 0#32
  let c0_1187 : Index := 0#32
  let c0_1188 : Index := 0#32
  ![v1804.toNat, 0, 0, 0]

def k0_chk3 (v1803 : BitVec 32) : Prop :=
  (∀ a, (k0_off32 v1803) a + S1x2x16x128.size a ≤ S112x2x16x128.size a)
theorem k0_off32_inb : ∀ (v1803 : BitVec 32) (k0_hw3 : k0_chk3 v1803), ∀ a, (k0_off32 v1803) a + S1x2x16x128.size a ≤ S112x2x16x128.size a := fun v1803 k0_hw3 => k0_hw3

def k0_off33 (v1807 : BitVec 32) : Fin 4 → Nat :=
  let v1808 : Index := Scalar.indexCast v1807
  let c0_1190 : Index := 0#32
  let c0_1191 : Index := 0#32
  let c0_1192 : Index := 0#32
  ![v1808.toNat, 0, 0, 0]

def k0_chk4 (v1807 : BitVec 32) : Prop :=
  (∀ a, (k0_off33 v1807) a + S1x2x16x128.size a ≤ S112x2x16x128.size a)
theorem k0_off33_inb : ∀ (v1807 : BitVec 32) (k0_hw4 : k0_chk4 v1807), ∀ a, (k0_off33 v1807) a + S1x2x16x128.size a ≤ S112x2x16x128.size a := fun v1807 k0_hw4 => k0_hw4

def k0_off34 (v1811 : BitVec 32) : Fin 4 → Nat :=
  let v1812 : Index := Scalar.indexCast v1811
  let c0_1194 : Index := 0#32
  let c0_1195 : Index := 0#32
  let c0_1196 : Index := 0#32
  ![v1812.toNat, 0, 0, 0]

def k0_chk5 (v1811 : BitVec 32) : Prop :=
  (∀ a, (k0_off34 v1811) a + S1x2x16x128.size a ≤ S112x2x16x128.size a)
theorem k0_off34_inb : ∀ (v1811 : BitVec 32) (k0_hw5 : k0_chk5 v1811), ∀ a, (k0_off34 v1811) a + S1x2x16x128.size a ≤ S112x2x16x128.size a := fun v1811 k0_hw5 => k0_hw5

def k0_off35 (v1815 : BitVec 32) : Fin 4 → Nat :=
  let v1816 : Index := Scalar.indexCast v1815
  let c0_1198 : Index := 0#32
  let c0_1199 : Index := 0#32
  let c0_1200 : Index := 0#32
  ![v1816.toNat, 0, 0, 0]

def k0_chk6 (v1815 : BitVec 32) : Prop :=
  (∀ a, (k0_off35 v1815) a + S1x2x16x128.size a ≤ S112x2x16x128.size a)
theorem k0_off35_inb : ∀ (v1815 : BitVec 32) (k0_hw6 : k0_chk6 v1815), ∀ a, (k0_off35 v1815) a + S1x2x16x128.size a ≤ S112x2x16x128.size a := fun v1815 k0_hw6 => k0_hw6

def k0_off36 (v1819 : BitVec 32) : Fin 4 → Nat :=
  let v1820 : Index := Scalar.indexCast v1819
  let c0_1202 : Index := 0#32
  let c0_1203 : Index := 0#32
  let c0_1204 : Index := 0#32
  ![v1820.toNat, 0, 0, 0]

def k0_chk7 (v1819 : BitVec 32) : Prop :=
  (∀ a, (k0_off36 v1819) a + S1x2x16x128.size a ≤ S112x2x16x128.size a)
theorem k0_off36_inb : ∀ (v1819 : BitVec 32) (k0_hw7 : k0_chk7 v1819), ∀ a, (k0_off36 v1819) a + S1x2x16x128.size a ≤ S112x2x16x128.size a := fun v1819 k0_hw7 => k0_hw7

def k0_off37 (v1846 : BitVec 32) : Fin 4 → Nat :=
  let v1847 : Index := Scalar.indexCast v1846
  let c0_1218 : Index := 0#32
  let c0_1219 : Index := 0#32
  let c0_1220 : Index := 0#32
  ![v1847.toNat, 0, 0, 0]

def k0_chk8 (v1846 : BitVec 32) : Prop :=
  (∀ a, (k0_off37 v1846) a + S1x2x16x128.size a ≤ S112x2x16x128.size a)
theorem k0_off37_inb : ∀ (v1846 : BitVec 32) (k0_hw8 : k0_chk8 v1846), ∀ a, (k0_off37 v1846) a + S1x2x16x128.size a ≤ S112x2x16x128.size a := fun v1846 k0_hw8 => k0_hw8

def k0_off38 (v1850 : BitVec 32) : Fin 4 → Nat :=
  let v1851 : Index := Scalar.indexCast v1850
  let c0_1222 : Index := 0#32
  let c0_1223 : Index := 0#32
  let c0_1224 : Index := 0#32
  ![v1851.toNat, 0, 0, 0]

def k0_chk9 (v1850 : BitVec 32) : Prop :=
  (∀ a, (k0_off38 v1850) a + S1x2x16x128.size a ≤ S112x2x16x128.size a)
theorem k0_off38_inb : ∀ (v1850 : BitVec 32) (k0_hw9 : k0_chk9 v1850), ∀ a, (k0_off38 v1850) a + S1x2x16x128.size a ≤ S112x2x16x128.size a := fun v1850 k0_hw9 => k0_hw9

def k0_off39 (v1854 : BitVec 32) : Fin 4 → Nat :=
  let v1855 : Index := Scalar.indexCast v1854
  let c0_1226 : Index := 0#32
  let c0_1227 : Index := 0#32
  let c0_1228 : Index := 0#32
  ![v1855.toNat, 0, 0, 0]

def k0_chk10 (v1854 : BitVec 32) : Prop :=
  (∀ a, (k0_off39 v1854) a + S1x2x16x128.size a ≤ S112x2x16x128.size a)
theorem k0_off39_inb : ∀ (v1854 : BitVec 32) (k0_hw10 : k0_chk10 v1854), ∀ a, (k0_off39 v1854) a + S1x2x16x128.size a ≤ S112x2x16x128.size a := fun v1854 k0_hw10 => k0_hw10

def k0_off40 (v1858 : BitVec 32) : Fin 4 → Nat :=
  let v1859 : Index := Scalar.indexCast v1858
  let c0_1230 : Index := 0#32
  let c0_1231 : Index := 0#32
  let c0_1232 : Index := 0#32
  ![v1859.toNat, 0, 0, 0]

def k0_chk11 (v1858 : BitVec 32) : Prop :=
  (∀ a, (k0_off40 v1858) a + S1x2x16x128.size a ≤ S112x2x16x128.size a)
theorem k0_off40_inb : ∀ (v1858 : BitVec 32) (k0_hw11 : k0_chk11 v1858), ∀ a, (k0_off40 v1858) a + S1x2x16x128.size a ≤ S112x2x16x128.size a := fun v1858 k0_hw11 => k0_hw11

def k0_off41 (v1862 : BitVec 32) : Fin 4 → Nat :=
  let v1863 : Index := Scalar.indexCast v1862
  let c0_1234 : Index := 0#32
  let c0_1235 : Index := 0#32
  let c0_1236 : Index := 0#32
  ![v1863.toNat, 0, 0, 0]

def k0_chk12 (v1862 : BitVec 32) : Prop :=
  (∀ a, (k0_off41 v1862) a + S1x2x16x128.size a ≤ S112x2x16x128.size a)
theorem k0_off41_inb : ∀ (v1862 : BitVec 32) (k0_hw12 : k0_chk12 v1862), ∀ a, (k0_off41 v1862) a + S1x2x16x128.size a ≤ S112x2x16x128.size a := fun v1862 k0_hw12 => k0_hw12

def k0_off42 (v1866 : BitVec 32) : Fin 4 → Nat :=
  let v1867 : Index := Scalar.indexCast v1866
  let c0_1238 : Index := 0#32
  let c0_1239 : Index := 0#32
  let c0_1240 : Index := 0#32
  ![v1867.toNat, 0, 0, 0]

def k0_chk13 (v1866 : BitVec 32) : Prop :=
  (∀ a, (k0_off42 v1866) a + S1x2x16x128.size a ≤ S112x2x16x128.size a)
theorem k0_off42_inb : ∀ (v1866 : BitVec 32) (k0_hw13 : k0_chk13 v1866), ∀ a, (k0_off42 v1866) a + S1x2x16x128.size a ≤ S112x2x16x128.size a := fun v1866 k0_hw13 => k0_hw13

def k0_off43 (v1870 : BitVec 32) : Fin 4 → Nat :=
  let v1871 : Index := Scalar.indexCast v1870
  let c0_1242 : Index := 0#32
  let c0_1243 : Index := 0#32
  let c0_1244 : Index := 0#32
  ![v1871.toNat, 0, 0, 0]

def k0_chk14 (v1870 : BitVec 32) : Prop :=
  (∀ a, (k0_off43 v1870) a + S1x2x16x128.size a ≤ S112x2x16x128.size a)
theorem k0_off43_inb : ∀ (v1870 : BitVec 32) (k0_hw14 : k0_chk14 v1870), ∀ a, (k0_off43 v1870) a + S1x2x16x128.size a ≤ S112x2x16x128.size a := fun v1870 k0_hw14 => k0_hw14

def k0_off44 (v1897 : BitVec 32) : Fin 4 → Nat :=
  let v1898 : Index := Scalar.indexCast v1897
  let c0_1258 : Index := 0#32
  let c0_1259 : Index := 0#32
  let c0_1260 : Index := 0#32
  ![v1898.toNat, 0, 0, 0]

def k0_chk15 (v1897 : BitVec 32) : Prop :=
  (∀ a, (k0_off44 v1897) a + S1x2x16x128.size a ≤ S112x2x16x128.size a)
theorem k0_off44_inb : ∀ (v1897 : BitVec 32) (k0_hw15 : k0_chk15 v1897), ∀ a, (k0_off44 v1897) a + S1x2x16x128.size a ≤ S112x2x16x128.size a := fun v1897 k0_hw15 => k0_hw15

def k0_off45 (v1901 : BitVec 32) : Fin 4 → Nat :=
  let v1902 : Index := Scalar.indexCast v1901
  let c0_1262 : Index := 0#32
  let c0_1263 : Index := 0#32
  let c0_1264 : Index := 0#32
  ![v1902.toNat, 0, 0, 0]

def k0_chk16 (v1901 : BitVec 32) : Prop :=
  (∀ a, (k0_off45 v1901) a + S1x2x16x128.size a ≤ S112x2x16x128.size a)
theorem k0_off45_inb : ∀ (v1901 : BitVec 32) (k0_hw16 : k0_chk16 v1901), ∀ a, (k0_off45 v1901) a + S1x2x16x128.size a ≤ S112x2x16x128.size a := fun v1901 k0_hw16 => k0_hw16

def k0_off46 (v1905 : BitVec 32) : Fin 4 → Nat :=
  let v1906 : Index := Scalar.indexCast v1905
  let c0_1266 : Index := 0#32
  let c0_1267 : Index := 0#32
  let c0_1268 : Index := 0#32
  ![v1906.toNat, 0, 0, 0]

def k0_chk17 (v1905 : BitVec 32) : Prop :=
  (∀ a, (k0_off46 v1905) a + S1x2x16x128.size a ≤ S112x2x16x128.size a)
theorem k0_off46_inb : ∀ (v1905 : BitVec 32) (k0_hw17 : k0_chk17 v1905), ∀ a, (k0_off46 v1905) a + S1x2x16x128.size a ≤ S112x2x16x128.size a := fun v1905 k0_hw17 => k0_hw17

def k0_off47 (v1909 : BitVec 32) : Fin 4 → Nat :=
  let v1910 : Index := Scalar.indexCast v1909
  let c0_1270 : Index := 0#32
  let c0_1271 : Index := 0#32
  let c0_1272 : Index := 0#32
  ![v1910.toNat, 0, 0, 0]

def k0_chk18 (v1909 : BitVec 32) : Prop :=
  (∀ a, (k0_off47 v1909) a + S1x2x16x128.size a ≤ S112x2x16x128.size a)
theorem k0_off47_inb : ∀ (v1909 : BitVec 32) (k0_hw18 : k0_chk18 v1909), ∀ a, (k0_off47 v1909) a + S1x2x16x128.size a ≤ S112x2x16x128.size a := fun v1909 k0_hw18 => k0_hw18

def k0_off48 (v1913 : BitVec 32) : Fin 4 → Nat :=
  let v1914 : Index := Scalar.indexCast v1913
  let c0_1274 : Index := 0#32
  let c0_1275 : Index := 0#32
  let c0_1276 : Index := 0#32
  ![v1914.toNat, 0, 0, 0]

def k0_chk19 (v1913 : BitVec 32) : Prop :=
  (∀ a, (k0_off48 v1913) a + S1x2x16x128.size a ≤ S112x2x16x128.size a)
theorem k0_off48_inb : ∀ (v1913 : BitVec 32) (k0_hw19 : k0_chk19 v1913), ∀ a, (k0_off48 v1913) a + S1x2x16x128.size a ≤ S112x2x16x128.size a := fun v1913 k0_hw19 => k0_hw19

def k0_off49 (v1917 : BitVec 32) : Fin 4 → Nat :=
  let v1918 : Index := Scalar.indexCast v1917
  let c0_1278 : Index := 0#32
  let c0_1279 : Index := 0#32
  let c0_1280 : Index := 0#32
  ![v1918.toNat, 0, 0, 0]

def k0_chk20 (v1917 : BitVec 32) : Prop :=
  (∀ a, (k0_off49 v1917) a + S1x2x16x128.size a ≤ S112x2x16x128.size a)
theorem k0_off49_inb : ∀ (v1917 : BitVec 32) (k0_hw20 : k0_chk20 v1917), ∀ a, (k0_off49 v1917) a + S1x2x16x128.size a ≤ S112x2x16x128.size a := fun v1917 k0_hw20 => k0_hw20

def k0_off50 (v1921 : BitVec 32) : Fin 4 → Nat :=
  let v1922 : Index := Scalar.indexCast v1921
  let c0_1282 : Index := 0#32
  let c0_1283 : Index := 0#32
  let c0_1284 : Index := 0#32
  ![v1922.toNat, 0, 0, 0]

def k0_chk21 (v1921 : BitVec 32) : Prop :=
  (∀ a, (k0_off50 v1921) a + S1x2x16x128.size a ≤ S112x2x16x128.size a)
theorem k0_off50_inb : ∀ (v1921 : BitVec 32) (k0_hw21 : k0_chk21 v1921), ∀ a, (k0_off50 v1921) a + S1x2x16x128.size a ≤ S112x2x16x128.size a := fun v1921 k0_hw21 => k0_hw21

def k0_off51 (v1948 : BitVec 32) : Fin 4 → Nat :=
  let v1949 : Index := Scalar.indexCast v1948
  let c0_1298 : Index := 0#32
  let c0_1299 : Index := 0#32
  let c0_1300 : Index := 0#32
  ![v1949.toNat, 0, 0, 0]

def k0_chk22 (v1948 : BitVec 32) : Prop :=
  (∀ a, (k0_off51 v1948) a + S1x2x16x128.size a ≤ S112x2x16x128.size a)
theorem k0_off51_inb : ∀ (v1948 : BitVec 32) (k0_hw22 : k0_chk22 v1948), ∀ a, (k0_off51 v1948) a + S1x2x16x128.size a ≤ S112x2x16x128.size a := fun v1948 k0_hw22 => k0_hw22

def k0_off52 (v1952 : BitVec 32) : Fin 4 → Nat :=
  let v1953 : Index := Scalar.indexCast v1952
  let c0_1302 : Index := 0#32
  let c0_1303 : Index := 0#32
  let c0_1304 : Index := 0#32
  ![v1953.toNat, 0, 0, 0]

def k0_chk23 (v1952 : BitVec 32) : Prop :=
  (∀ a, (k0_off52 v1952) a + S1x2x16x128.size a ≤ S112x2x16x128.size a)
theorem k0_off52_inb : ∀ (v1952 : BitVec 32) (k0_hw23 : k0_chk23 v1952), ∀ a, (k0_off52 v1952) a + S1x2x16x128.size a ≤ S112x2x16x128.size a := fun v1952 k0_hw23 => k0_hw23

def k0_off53 (v1956 : BitVec 32) : Fin 4 → Nat :=
  let v1957 : Index := Scalar.indexCast v1956
  let c0_1306 : Index := 0#32
  let c0_1307 : Index := 0#32
  let c0_1308 : Index := 0#32
  ![v1957.toNat, 0, 0, 0]

def k0_chk24 (v1956 : BitVec 32) : Prop :=
  (∀ a, (k0_off53 v1956) a + S1x2x16x128.size a ≤ S112x2x16x128.size a)
theorem k0_off53_inb : ∀ (v1956 : BitVec 32) (k0_hw24 : k0_chk24 v1956), ∀ a, (k0_off53 v1956) a + S1x2x16x128.size a ≤ S112x2x16x128.size a := fun v1956 k0_hw24 => k0_hw24

def k0_off54 (v1960 : BitVec 32) : Fin 4 → Nat :=
  let v1961 : Index := Scalar.indexCast v1960
  let c0_1310 : Index := 0#32
  let c0_1311 : Index := 0#32
  let c0_1312 : Index := 0#32
  ![v1961.toNat, 0, 0, 0]

def k0_chk25 (v1960 : BitVec 32) : Prop :=
  (∀ a, (k0_off54 v1960) a + S1x2x16x128.size a ≤ S112x2x16x128.size a)
theorem k0_off54_inb : ∀ (v1960 : BitVec 32) (k0_hw25 : k0_chk25 v1960), ∀ a, (k0_off54 v1960) a + S1x2x16x128.size a ≤ S112x2x16x128.size a := fun v1960 k0_hw25 => k0_hw25

def k0_off55 (v1964 : BitVec 32) : Fin 4 → Nat :=
  let v1965 : Index := Scalar.indexCast v1964
  let c0_1314 : Index := 0#32
  let c0_1315 : Index := 0#32
  let c0_1316 : Index := 0#32
  ![v1965.toNat, 0, 0, 0]

def k0_chk26 (v1964 : BitVec 32) : Prop :=
  (∀ a, (k0_off55 v1964) a + S1x2x16x128.size a ≤ S112x2x16x128.size a)
theorem k0_off55_inb : ∀ (v1964 : BitVec 32) (k0_hw26 : k0_chk26 v1964), ∀ a, (k0_off55 v1964) a + S1x2x16x128.size a ≤ S112x2x16x128.size a := fun v1964 k0_hw26 => k0_hw26

def k0_off56 (v1968 : BitVec 32) : Fin 4 → Nat :=
  let v1969 : Index := Scalar.indexCast v1968
  let c0_1318 : Index := 0#32
  let c0_1319 : Index := 0#32
  let c0_1320 : Index := 0#32
  ![v1969.toNat, 0, 0, 0]

def k0_chk27 (v1968 : BitVec 32) : Prop :=
  (∀ a, (k0_off56 v1968) a + S1x2x16x128.size a ≤ S112x2x16x128.size a)
theorem k0_off56_inb : ∀ (v1968 : BitVec 32) (k0_hw27 : k0_chk27 v1968), ∀ a, (k0_off56 v1968) a + S1x2x16x128.size a ≤ S112x2x16x128.size a := fun v1968 k0_hw27 => k0_hw27

def k0_off57 (v1972 : BitVec 32) : Fin 4 → Nat :=
  let v1973 : Index := Scalar.indexCast v1972
  let c0_1322 : Index := 0#32
  let c0_1323 : Index := 0#32
  let c0_1324 : Index := 0#32
  ![v1973.toNat, 0, 0, 0]

def k0_chk28 (v1972 : BitVec 32) : Prop :=
  (∀ a, (k0_off57 v1972) a + S1x2x16x128.size a ≤ S112x2x16x128.size a)
theorem k0_off57_inb : ∀ (v1972 : BitVec 32) (k0_hw28 : k0_chk28 v1972), ∀ a, (k0_off57 v1972) a + S1x2x16x128.size a ≤ S112x2x16x128.size a := fun v1972 k0_hw28 => k0_hw28

def k0_off58 (v1999 : BitVec 32) : Fin 4 → Nat :=
  let v2000 : Index := Scalar.indexCast v1999
  let c0_1338 : Index := 0#32
  let c0_1339 : Index := 0#32
  let c0_1340 : Index := 0#32
  ![v2000.toNat, 0, 0, 0]

def k0_chk29 (v1999 : BitVec 32) : Prop :=
  (∀ a, (k0_off58 v1999) a + S1x2x16x128.size a ≤ S112x2x16x128.size a)
theorem k0_off58_inb : ∀ (v1999 : BitVec 32) (k0_hw29 : k0_chk29 v1999), ∀ a, (k0_off58 v1999) a + S1x2x16x128.size a ≤ S112x2x16x128.size a := fun v1999 k0_hw29 => k0_hw29

def k0_off59 (v2003 : BitVec 32) : Fin 4 → Nat :=
  let v2004 : Index := Scalar.indexCast v2003
  let c0_1342 : Index := 0#32
  let c0_1343 : Index := 0#32
  let c0_1344 : Index := 0#32
  ![v2004.toNat, 0, 0, 0]

def k0_chk30 (v2003 : BitVec 32) : Prop :=
  (∀ a, (k0_off59 v2003) a + S1x2x16x128.size a ≤ S112x2x16x128.size a)
theorem k0_off59_inb : ∀ (v2003 : BitVec 32) (k0_hw30 : k0_chk30 v2003), ∀ a, (k0_off59 v2003) a + S1x2x16x128.size a ≤ S112x2x16x128.size a := fun v2003 k0_hw30 => k0_hw30

def k0_off60 (v2007 : BitVec 32) : Fin 4 → Nat :=
  let v2008 : Index := Scalar.indexCast v2007
  let c0_1346 : Index := 0#32
  let c0_1347 : Index := 0#32
  let c0_1348 : Index := 0#32
  ![v2008.toNat, 0, 0, 0]

def k0_chk31 (v2007 : BitVec 32) : Prop :=
  (∀ a, (k0_off60 v2007) a + S1x2x16x128.size a ≤ S112x2x16x128.size a)
theorem k0_off60_inb : ∀ (v2007 : BitVec 32) (k0_hw31 : k0_chk31 v2007), ∀ a, (k0_off60 v2007) a + S1x2x16x128.size a ≤ S112x2x16x128.size a := fun v2007 k0_hw31 => k0_hw31

def k0_off61 (v2011 : BitVec 32) : Fin 4 → Nat :=
  let v2012 : Index := Scalar.indexCast v2011
  let c0_1350 : Index := 0#32
  let c0_1351 : Index := 0#32
  let c0_1352 : Index := 0#32
  ![v2012.toNat, 0, 0, 0]

def k0_chk32 (v2011 : BitVec 32) : Prop :=
  (∀ a, (k0_off61 v2011) a + S1x2x16x128.size a ≤ S112x2x16x128.size a)
theorem k0_off61_inb : ∀ (v2011 : BitVec 32) (k0_hw32 : k0_chk32 v2011), ∀ a, (k0_off61 v2011) a + S1x2x16x128.size a ≤ S112x2x16x128.size a := fun v2011 k0_hw32 => k0_hw32

def k0_off62 (v2015 : BitVec 32) : Fin 4 → Nat :=
  let v2016 : Index := Scalar.indexCast v2015
  let c0_1354 : Index := 0#32
  let c0_1355 : Index := 0#32
  let c0_1356 : Index := 0#32
  ![v2016.toNat, 0, 0, 0]

def k0_chk33 (v2015 : BitVec 32) : Prop :=
  (∀ a, (k0_off62 v2015) a + S1x2x16x128.size a ≤ S112x2x16x128.size a)
theorem k0_off62_inb : ∀ (v2015 : BitVec 32) (k0_hw33 : k0_chk33 v2015), ∀ a, (k0_off62 v2015) a + S1x2x16x128.size a ≤ S112x2x16x128.size a := fun v2015 k0_hw33 => k0_hw33

def k0_off63 (v2019 : BitVec 32) : Fin 4 → Nat :=
  let v2020 : Index := Scalar.indexCast v2019
  let c0_1358 : Index := 0#32
  let c0_1359 : Index := 0#32
  let c0_1360 : Index := 0#32
  ![v2020.toNat, 0, 0, 0]

def k0_chk34 (v2019 : BitVec 32) : Prop :=
  (∀ a, (k0_off63 v2019) a + S1x2x16x128.size a ≤ S112x2x16x128.size a)
theorem k0_off63_inb : ∀ (v2019 : BitVec 32) (k0_hw34 : k0_chk34 v2019), ∀ a, (k0_off63 v2019) a + S1x2x16x128.size a ≤ S112x2x16x128.size a := fun v2019 k0_hw34 => k0_hw34

def k0_off64 (v2023 : BitVec 32) : Fin 4 → Nat :=
  let v2024 : Index := Scalar.indexCast v2023
  let c0_1362 : Index := 0#32
  let c0_1363 : Index := 0#32
  let c0_1364 : Index := 0#32
  ![v2024.toNat, 0, 0, 0]

def k0_chk35 (v2023 : BitVec 32) : Prop :=
  (∀ a, (k0_off64 v2023) a + S1x2x16x128.size a ≤ S112x2x16x128.size a)
theorem k0_off64_inb : ∀ (v2023 : BitVec 32) (k0_hw35 : k0_chk35 v2023), ∀ a, (k0_off64 v2023) a + S1x2x16x128.size a ≤ S112x2x16x128.size a := fun v2023 k0_hw35 => k0_hw35

def k0_off65 (v2050 : BitVec 32) : Fin 4 → Nat :=
  let v2051 : Index := Scalar.indexCast v2050
  let c0_1377 : Index := 0#32
  let c0_1378 : Index := 0#32
  let c0_1379 : Index := 0#32
  ![v2051.toNat, 0, 0, 0]

def k0_chk36 (v2050 : BitVec 32) : Prop :=
  (∀ a, (k0_off65 v2050) a + S1x2x16x128.size a ≤ S112x2x16x128.size a)
theorem k0_off65_inb : ∀ (v2050 : BitVec 32) (k0_hw36 : k0_chk36 v2050), ∀ a, (k0_off65 v2050) a + S1x2x16x128.size a ≤ S112x2x16x128.size a := fun v2050 k0_hw36 => k0_hw36

def k0_off66 (v2054 : BitVec 32) : Fin 4 → Nat :=
  let v2055 : Index := Scalar.indexCast v2054
  let c0_1381 : Index := 0#32
  let c0_1382 : Index := 0#32
  let c0_1383 : Index := 0#32
  ![v2055.toNat, 0, 0, 0]

def k0_chk37 (v2054 : BitVec 32) : Prop :=
  (∀ a, (k0_off66 v2054) a + S1x2x16x128.size a ≤ S112x2x16x128.size a)
theorem k0_off66_inb : ∀ (v2054 : BitVec 32) (k0_hw37 : k0_chk37 v2054), ∀ a, (k0_off66 v2054) a + S1x2x16x128.size a ≤ S112x2x16x128.size a := fun v2054 k0_hw37 => k0_hw37

def k0_off67 (v2058 : BitVec 32) : Fin 4 → Nat :=
  let v2059 : Index := Scalar.indexCast v2058
  let c0_1385 : Index := 0#32
  let c0_1386 : Index := 0#32
  let c0_1387 : Index := 0#32
  ![v2059.toNat, 0, 0, 0]

def k0_chk38 (v2058 : BitVec 32) : Prop :=
  (∀ a, (k0_off67 v2058) a + S1x2x16x128.size a ≤ S112x2x16x128.size a)
theorem k0_off67_inb : ∀ (v2058 : BitVec 32) (k0_hw38 : k0_chk38 v2058), ∀ a, (k0_off67 v2058) a + S1x2x16x128.size a ≤ S112x2x16x128.size a := fun v2058 k0_hw38 => k0_hw38

def k0_off68 (v2062 : BitVec 32) : Fin 4 → Nat :=
  let v2063 : Index := Scalar.indexCast v2062
  let c0_1389 : Index := 0#32
  let c0_1390 : Index := 0#32
  let c0_1391 : Index := 0#32
  ![v2063.toNat, 0, 0, 0]

def k0_chk39 (v2062 : BitVec 32) : Prop :=
  (∀ a, (k0_off68 v2062) a + S1x2x16x128.size a ≤ S112x2x16x128.size a)
theorem k0_off68_inb : ∀ (v2062 : BitVec 32) (k0_hw39 : k0_chk39 v2062), ∀ a, (k0_off68 v2062) a + S1x2x16x128.size a ≤ S112x2x16x128.size a := fun v2062 k0_hw39 => k0_hw39

def k0_off69 (v2066 : BitVec 32) : Fin 4 → Nat :=
  let v2067 : Index := Scalar.indexCast v2066
  let c0_1393 : Index := 0#32
  let c0_1394 : Index := 0#32
  let c0_1395 : Index := 0#32
  ![v2067.toNat, 0, 0, 0]

def k0_chk40 (v2066 : BitVec 32) : Prop :=
  (∀ a, (k0_off69 v2066) a + S1x2x16x128.size a ≤ S112x2x16x128.size a)
theorem k0_off69_inb : ∀ (v2066 : BitVec 32) (k0_hw40 : k0_chk40 v2066), ∀ a, (k0_off69 v2066) a + S1x2x16x128.size a ≤ S112x2x16x128.size a := fun v2066 k0_hw40 => k0_hw40

def k0_off70 (v2070 : BitVec 32) : Fin 4 → Nat :=
  let v2071 : Index := Scalar.indexCast v2070
  let c0_1397 : Index := 0#32
  let c0_1398 : Index := 0#32
  let c0_1399 : Index := 0#32
  ![v2071.toNat, 0, 0, 0]

def k0_chk41 (v2070 : BitVec 32) : Prop :=
  (∀ a, (k0_off70 v2070) a + S1x2x16x128.size a ≤ S112x2x16x128.size a)
theorem k0_off70_inb : ∀ (v2070 : BitVec 32) (k0_hw41 : k0_chk41 v2070), ∀ a, (k0_off70 v2070) a + S1x2x16x128.size a ≤ S112x2x16x128.size a := fun v2070 k0_hw41 => k0_hw41

def k0_off71 (v2074 : BitVec 32) : Fin 4 → Nat :=
  let v2075 : Index := Scalar.indexCast v2074
  let c0_1401 : Index := 0#32
  let c0_1402 : Index := 0#32
  let c0_1403 : Index := 0#32
  ![v2075.toNat, 0, 0, 0]

def k0_chk42 (v2074 : BitVec 32) : Prop :=
  (∀ a, (k0_off71 v2074) a + S1x2x16x128.size a ≤ S112x2x16x128.size a)
theorem k0_off71_inb : ∀ (v2074 : BitVec 32) (k0_hw42 : k0_chk42 v2074), ∀ a, (k0_off71 v2074) a + S1x2x16x128.size a ≤ S112x2x16x128.size a := fun v2074 k0_hw42 => k0_hw42

def k0_off72 (v2101 : BitVec 32) : Fin 4 → Nat :=
  let v2102 : Index := Scalar.indexCast v2101
  let c0_1416 : Index := 0#32
  let c0_1417 : Index := 0#32
  let c0_1418 : Index := 0#32
  ![v2102.toNat, 0, 0, 0]

def k0_chk43 (v2101 : BitVec 32) : Prop :=
  (∀ a, (k0_off72 v2101) a + S1x2x16x128.size a ≤ S112x2x16x128.size a)
theorem k0_off72_inb : ∀ (v2101 : BitVec 32) (k0_hw43 : k0_chk43 v2101), ∀ a, (k0_off72 v2101) a + S1x2x16x128.size a ≤ S112x2x16x128.size a := fun v2101 k0_hw43 => k0_hw43

def k0_off73 (v2105 : BitVec 32) : Fin 4 → Nat :=
  let v2106 : Index := Scalar.indexCast v2105
  let c0_1420 : Index := 0#32
  let c0_1421 : Index := 0#32
  let c0_1422 : Index := 0#32
  ![v2106.toNat, 0, 0, 0]

def k0_chk44 (v2105 : BitVec 32) : Prop :=
  (∀ a, (k0_off73 v2105) a + S1x2x16x128.size a ≤ S112x2x16x128.size a)
theorem k0_off73_inb : ∀ (v2105 : BitVec 32) (k0_hw44 : k0_chk44 v2105), ∀ a, (k0_off73 v2105) a + S1x2x16x128.size a ≤ S112x2x16x128.size a := fun v2105 k0_hw44 => k0_hw44

def k0_off74 (v2109 : BitVec 32) : Fin 4 → Nat :=
  let v2110 : Index := Scalar.indexCast v2109
  let c0_1424 : Index := 0#32
  let c0_1425 : Index := 0#32
  let c0_1426 : Index := 0#32
  ![v2110.toNat, 0, 0, 0]

def k0_chk45 (v2109 : BitVec 32) : Prop :=
  (∀ a, (k0_off74 v2109) a + S1x2x16x128.size a ≤ S112x2x16x128.size a)
theorem k0_off74_inb : ∀ (v2109 : BitVec 32) (k0_hw45 : k0_chk45 v2109), ∀ a, (k0_off74 v2109) a + S1x2x16x128.size a ≤ S112x2x16x128.size a := fun v2109 k0_hw45 => k0_hw45

def k0_off75 (v2113 : BitVec 32) : Fin 4 → Nat :=
  let v2114 : Index := Scalar.indexCast v2113
  let c0_1428 : Index := 0#32
  let c0_1429 : Index := 0#32
  let c0_1430 : Index := 0#32
  ![v2114.toNat, 0, 0, 0]

def k0_chk46 (v2113 : BitVec 32) : Prop :=
  (∀ a, (k0_off75 v2113) a + S1x2x16x128.size a ≤ S112x2x16x128.size a)
theorem k0_off75_inb : ∀ (v2113 : BitVec 32) (k0_hw46 : k0_chk46 v2113), ∀ a, (k0_off75 v2113) a + S1x2x16x128.size a ≤ S112x2x16x128.size a := fun v2113 k0_hw46 => k0_hw46

def k0_off76 (v2117 : BitVec 32) : Fin 4 → Nat :=
  let v2118 : Index := Scalar.indexCast v2117
  let c0_1432 : Index := 0#32
  let c0_1433 : Index := 0#32
  let c0_1434 : Index := 0#32
  ![v2118.toNat, 0, 0, 0]

def k0_chk47 (v2117 : BitVec 32) : Prop :=
  (∀ a, (k0_off76 v2117) a + S1x2x16x128.size a ≤ S112x2x16x128.size a)
theorem k0_off76_inb : ∀ (v2117 : BitVec 32) (k0_hw47 : k0_chk47 v2117), ∀ a, (k0_off76 v2117) a + S1x2x16x128.size a ≤ S112x2x16x128.size a := fun v2117 k0_hw47 => k0_hw47

def k0_off77 (v2121 : BitVec 32) : Fin 4 → Nat :=
  let v2122 : Index := Scalar.indexCast v2121
  let c0_1436 : Index := 0#32
  let c0_1437 : Index := 0#32
  let c0_1438 : Index := 0#32
  ![v2122.toNat, 0, 0, 0]

def k0_chk48 (v2121 : BitVec 32) : Prop :=
  (∀ a, (k0_off77 v2121) a + S1x2x16x128.size a ≤ S112x2x16x128.size a)
theorem k0_off77_inb : ∀ (v2121 : BitVec 32) (k0_hw48 : k0_chk48 v2121), ∀ a, (k0_off77 v2121) a + S1x2x16x128.size a ≤ S112x2x16x128.size a := fun v2121 k0_hw48 => k0_hw48

def k0_off78 (v2125 : BitVec 32) : Fin 4 → Nat :=
  let v2126 : Index := Scalar.indexCast v2125
  let c0_1440 : Index := 0#32
  let c0_1441 : Index := 0#32
  let c0_1442 : Index := 0#32
  ![v2126.toNat, 0, 0, 0]

def k0_chk49 (v2125 : BitVec 32) : Prop :=
  (∀ a, (k0_off78 v2125) a + S1x2x16x128.size a ≤ S112x2x16x128.size a)
theorem k0_off78_inb : ∀ (v2125 : BitVec 32) (k0_hw49 : k0_chk49 v2125), ∀ a, (k0_off78 v2125) a + S1x2x16x128.size a ≤ S112x2x16x128.size a := fun v2125 k0_hw49 => k0_hw49

def k0_off79 (v2152 : BitVec 32) : Fin 4 → Nat :=
  let v2153 : Index := Scalar.indexCast v2152
  let c0_1455 : Index := 0#32
  let c0_1456 : Index := 0#32
  let c0_1457 : Index := 0#32
  ![v2153.toNat, 0, 0, 0]

def k0_chk50 (v2152 : BitVec 32) : Prop :=
  (∀ a, (k0_off79 v2152) a + S1x2x16x128.size a ≤ S112x2x16x128.size a)
theorem k0_off79_inb : ∀ (v2152 : BitVec 32) (k0_hw50 : k0_chk50 v2152), ∀ a, (k0_off79 v2152) a + S1x2x16x128.size a ≤ S112x2x16x128.size a := fun v2152 k0_hw50 => k0_hw50

def k0_off80 (v2156 : BitVec 32) : Fin 4 → Nat :=
  let v2157 : Index := Scalar.indexCast v2156
  let c0_1459 : Index := 0#32
  let c0_1460 : Index := 0#32
  let c0_1461 : Index := 0#32
  ![v2157.toNat, 0, 0, 0]

def k0_chk51 (v2156 : BitVec 32) : Prop :=
  (∀ a, (k0_off80 v2156) a + S1x2x16x128.size a ≤ S112x2x16x128.size a)
theorem k0_off80_inb : ∀ (v2156 : BitVec 32) (k0_hw51 : k0_chk51 v2156), ∀ a, (k0_off80 v2156) a + S1x2x16x128.size a ≤ S112x2x16x128.size a := fun v2156 k0_hw51 => k0_hw51

def k0_off81 (v2160 : BitVec 32) : Fin 4 → Nat :=
  let v2161 : Index := Scalar.indexCast v2160
  let c0_1463 : Index := 0#32
  let c0_1464 : Index := 0#32
  let c0_1465 : Index := 0#32
  ![v2161.toNat, 0, 0, 0]

def k0_chk52 (v2160 : BitVec 32) : Prop :=
  (∀ a, (k0_off81 v2160) a + S1x2x16x128.size a ≤ S112x2x16x128.size a)
theorem k0_off81_inb : ∀ (v2160 : BitVec 32) (k0_hw52 : k0_chk52 v2160), ∀ a, (k0_off81 v2160) a + S1x2x16x128.size a ≤ S112x2x16x128.size a := fun v2160 k0_hw52 => k0_hw52

def k0_off82 (v2164 : BitVec 32) : Fin 4 → Nat :=
  let v2165 : Index := Scalar.indexCast v2164
  let c0_1467 : Index := 0#32
  let c0_1468 : Index := 0#32
  let c0_1469 : Index := 0#32
  ![v2165.toNat, 0, 0, 0]

def k0_chk53 (v2164 : BitVec 32) : Prop :=
  (∀ a, (k0_off82 v2164) a + S1x2x16x128.size a ≤ S112x2x16x128.size a)
theorem k0_off82_inb : ∀ (v2164 : BitVec 32) (k0_hw53 : k0_chk53 v2164), ∀ a, (k0_off82 v2164) a + S1x2x16x128.size a ≤ S112x2x16x128.size a := fun v2164 k0_hw53 => k0_hw53

def k0_off83 (v2168 : BitVec 32) : Fin 4 → Nat :=
  let v2169 : Index := Scalar.indexCast v2168
  let c0_1471 : Index := 0#32
  let c0_1472 : Index := 0#32
  let c0_1473 : Index := 0#32
  ![v2169.toNat, 0, 0, 0]

def k0_chk54 (v2168 : BitVec 32) : Prop :=
  (∀ a, (k0_off83 v2168) a + S1x2x16x128.size a ≤ S112x2x16x128.size a)
theorem k0_off83_inb : ∀ (v2168 : BitVec 32) (k0_hw54 : k0_chk54 v2168), ∀ a, (k0_off83 v2168) a + S1x2x16x128.size a ≤ S112x2x16x128.size a := fun v2168 k0_hw54 => k0_hw54

def k0_off84 (v2172 : BitVec 32) : Fin 4 → Nat :=
  let v2173 : Index := Scalar.indexCast v2172
  let c0_1475 : Index := 0#32
  let c0_1476 : Index := 0#32
  let c0_1477 : Index := 0#32
  ![v2173.toNat, 0, 0, 0]

def k0_chk55 (v2172 : BitVec 32) : Prop :=
  (∀ a, (k0_off84 v2172) a + S1x2x16x128.size a ≤ S112x2x16x128.size a)
theorem k0_off84_inb : ∀ (v2172 : BitVec 32) (k0_hw55 : k0_chk55 v2172), ∀ a, (k0_off84 v2172) a + S1x2x16x128.size a ≤ S112x2x16x128.size a := fun v2172 k0_hw55 => k0_hw55

def k0_off85 (v2176 : BitVec 32) : Fin 4 → Nat :=
  let v2177 : Index := Scalar.indexCast v2176
  let c0_1479 : Index := 0#32
  let c0_1480 : Index := 0#32
  let c0_1481 : Index := 0#32
  ![v2177.toNat, 0, 0, 0]

def k0_chk56 (v2176 : BitVec 32) : Prop :=
  (∀ a, (k0_off85 v2176) a + S1x2x16x128.size a ≤ S112x2x16x128.size a)
theorem k0_off85_inb : ∀ (v2176 : BitVec 32) (k0_hw56 : k0_chk56 v2176), ∀ a, (k0_off85 v2176) a + S1x2x16x128.size a ≤ S112x2x16x128.size a := fun v2176 k0_hw56 => k0_hw56

def k0_off86 (v2203 : BitVec 32) : Fin 4 → Nat :=
  let v2204 : Index := Scalar.indexCast v2203
  let c0_1494 : Index := 0#32
  let c0_1495 : Index := 0#32
  let c0_1496 : Index := 0#32
  ![v2204.toNat, 0, 0, 0]

def k0_chk57 (v2203 : BitVec 32) : Prop :=
  (∀ a, (k0_off86 v2203) a + S1x2x16x128.size a ≤ S112x2x16x128.size a)
theorem k0_off86_inb : ∀ (v2203 : BitVec 32) (k0_hw57 : k0_chk57 v2203), ∀ a, (k0_off86 v2203) a + S1x2x16x128.size a ≤ S112x2x16x128.size a := fun v2203 k0_hw57 => k0_hw57

def k0_off87 (v2207 : BitVec 32) : Fin 4 → Nat :=
  let v2208 : Index := Scalar.indexCast v2207
  let c0_1498 : Index := 0#32
  let c0_1499 : Index := 0#32
  let c0_1500 : Index := 0#32
  ![v2208.toNat, 0, 0, 0]

def k0_chk58 (v2207 : BitVec 32) : Prop :=
  (∀ a, (k0_off87 v2207) a + S1x2x16x128.size a ≤ S112x2x16x128.size a)
theorem k0_off87_inb : ∀ (v2207 : BitVec 32) (k0_hw58 : k0_chk58 v2207), ∀ a, (k0_off87 v2207) a + S1x2x16x128.size a ≤ S112x2x16x128.size a := fun v2207 k0_hw58 => k0_hw58

def k0_off88 (v2211 : BitVec 32) : Fin 4 → Nat :=
  let v2212 : Index := Scalar.indexCast v2211
  let c0_1502 : Index := 0#32
  let c0_1503 : Index := 0#32
  let c0_1504 : Index := 0#32
  ![v2212.toNat, 0, 0, 0]

def k0_chk59 (v2211 : BitVec 32) : Prop :=
  (∀ a, (k0_off88 v2211) a + S1x2x16x128.size a ≤ S112x2x16x128.size a)
theorem k0_off88_inb : ∀ (v2211 : BitVec 32) (k0_hw59 : k0_chk59 v2211), ∀ a, (k0_off88 v2211) a + S1x2x16x128.size a ≤ S112x2x16x128.size a := fun v2211 k0_hw59 => k0_hw59

def k0_off89 (v2215 : BitVec 32) : Fin 4 → Nat :=
  let v2216 : Index := Scalar.indexCast v2215
  let c0_1506 : Index := 0#32
  let c0_1507 : Index := 0#32
  let c0_1508 : Index := 0#32
  ![v2216.toNat, 0, 0, 0]

def k0_chk60 (v2215 : BitVec 32) : Prop :=
  (∀ a, (k0_off89 v2215) a + S1x2x16x128.size a ≤ S112x2x16x128.size a)
theorem k0_off89_inb : ∀ (v2215 : BitVec 32) (k0_hw60 : k0_chk60 v2215), ∀ a, (k0_off89 v2215) a + S1x2x16x128.size a ≤ S112x2x16x128.size a := fun v2215 k0_hw60 => k0_hw60

def k0_off90 (v2219 : BitVec 32) : Fin 4 → Nat :=
  let v2220 : Index := Scalar.indexCast v2219
  let c0_1510 : Index := 0#32
  let c0_1511 : Index := 0#32
  let c0_1512 : Index := 0#32
  ![v2220.toNat, 0, 0, 0]

def k0_chk61 (v2219 : BitVec 32) : Prop :=
  (∀ a, (k0_off90 v2219) a + S1x2x16x128.size a ≤ S112x2x16x128.size a)
theorem k0_off90_inb : ∀ (v2219 : BitVec 32) (k0_hw61 : k0_chk61 v2219), ∀ a, (k0_off90 v2219) a + S1x2x16x128.size a ≤ S112x2x16x128.size a := fun v2219 k0_hw61 => k0_hw61

def k0_off91 (v2223 : BitVec 32) : Fin 4 → Nat :=
  let v2224 : Index := Scalar.indexCast v2223
  let c0_1514 : Index := 0#32
  let c0_1515 : Index := 0#32
  let c0_1516 : Index := 0#32
  ![v2224.toNat, 0, 0, 0]

def k0_chk62 (v2223 : BitVec 32) : Prop :=
  (∀ a, (k0_off91 v2223) a + S1x2x16x128.size a ≤ S112x2x16x128.size a)
theorem k0_off91_inb : ∀ (v2223 : BitVec 32) (k0_hw62 : k0_chk62 v2223), ∀ a, (k0_off91 v2223) a + S1x2x16x128.size a ≤ S112x2x16x128.size a := fun v2223 k0_hw62 => k0_hw62

def k0_off92 (v2227 : BitVec 32) : Fin 4 → Nat :=
  let v2228 : Index := Scalar.indexCast v2227
  let c0_1518 : Index := 0#32
  let c0_1519 : Index := 0#32
  let c0_1520 : Index := 0#32
  ![v2228.toNat, 0, 0, 0]

def k0_chk63 (v2227 : BitVec 32) : Prop :=
  (∀ a, (k0_off92 v2227) a + S1x2x16x128.size a ≤ S112x2x16x128.size a)
theorem k0_off92_inb : ∀ (v2227 : BitVec 32) (k0_hw63 : k0_chk63 v2227), ∀ a, (k0_off92 v2227) a + S1x2x16x128.size a ≤ S112x2x16x128.size a := fun v2227 k0_hw63 => k0_hw63

def k0_off93 (v2254 : BitVec 32) : Fin 4 → Nat :=
  let v2255 : Index := Scalar.indexCast v2254
  let c0_1534 : Index := 0#32
  let c0_1535 : Index := 0#32
  let c0_1536 : Index := 0#32
  ![v2255.toNat, 0, 0, 0]

def k0_chk64 (v2254 : BitVec 32) : Prop :=
  (∀ a, (k0_off93 v2254) a + S1x2x16x128.size a ≤ S112x2x16x128.size a)
theorem k0_off93_inb : ∀ (v2254 : BitVec 32) (k0_hw64 : k0_chk64 v2254), ∀ a, (k0_off93 v2254) a + S1x2x16x128.size a ≤ S112x2x16x128.size a := fun v2254 k0_hw64 => k0_hw64

def k0_off94 (v2258 : BitVec 32) : Fin 4 → Nat :=
  let v2259 : Index := Scalar.indexCast v2258
  let c0_1538 : Index := 0#32
  let c0_1539 : Index := 0#32
  let c0_1540 : Index := 0#32
  ![v2259.toNat, 0, 0, 0]

def k0_chk65 (v2258 : BitVec 32) : Prop :=
  (∀ a, (k0_off94 v2258) a + S1x2x16x128.size a ≤ S112x2x16x128.size a)
theorem k0_off94_inb : ∀ (v2258 : BitVec 32) (k0_hw65 : k0_chk65 v2258), ∀ a, (k0_off94 v2258) a + S1x2x16x128.size a ≤ S112x2x16x128.size a := fun v2258 k0_hw65 => k0_hw65

def k0_off95 (v2262 : BitVec 32) : Fin 4 → Nat :=
  let v2263 : Index := Scalar.indexCast v2262
  let c0_1542 : Index := 0#32
  let c0_1543 : Index := 0#32
  let c0_1544 : Index := 0#32
  ![v2263.toNat, 0, 0, 0]

def k0_chk66 (v2262 : BitVec 32) : Prop :=
  (∀ a, (k0_off95 v2262) a + S1x2x16x128.size a ≤ S112x2x16x128.size a)
theorem k0_off95_inb : ∀ (v2262 : BitVec 32) (k0_hw66 : k0_chk66 v2262), ∀ a, (k0_off95 v2262) a + S1x2x16x128.size a ≤ S112x2x16x128.size a := fun v2262 k0_hw66 => k0_hw66

def k0_off96 (v2266 : BitVec 32) : Fin 4 → Nat :=
  let v2267 : Index := Scalar.indexCast v2266
  let c0_1546 : Index := 0#32
  let c0_1547 : Index := 0#32
  let c0_1548 : Index := 0#32
  ![v2267.toNat, 0, 0, 0]

def k0_chk67 (v2266 : BitVec 32) : Prop :=
  (∀ a, (k0_off96 v2266) a + S1x2x16x128.size a ≤ S112x2x16x128.size a)
theorem k0_off96_inb : ∀ (v2266 : BitVec 32) (k0_hw67 : k0_chk67 v2266), ∀ a, (k0_off96 v2266) a + S1x2x16x128.size a ≤ S112x2x16x128.size a := fun v2266 k0_hw67 => k0_hw67

def k0_off97 (v2270 : BitVec 32) : Fin 4 → Nat :=
  let v2271 : Index := Scalar.indexCast v2270
  let c0_1550 : Index := 0#32
  let c0_1551 : Index := 0#32
  let c0_1552 : Index := 0#32
  ![v2271.toNat, 0, 0, 0]

def k0_chk68 (v2270 : BitVec 32) : Prop :=
  (∀ a, (k0_off97 v2270) a + S1x2x16x128.size a ≤ S112x2x16x128.size a)
theorem k0_off97_inb : ∀ (v2270 : BitVec 32) (k0_hw68 : k0_chk68 v2270), ∀ a, (k0_off97 v2270) a + S1x2x16x128.size a ≤ S112x2x16x128.size a := fun v2270 k0_hw68 => k0_hw68

def k0_off98 (v2274 : BitVec 32) : Fin 4 → Nat :=
  let v2275 : Index := Scalar.indexCast v2274
  let c0_1554 : Index := 0#32
  let c0_1555 : Index := 0#32
  let c0_1556 : Index := 0#32
  ![v2275.toNat, 0, 0, 0]

def k0_chk69 (v2274 : BitVec 32) : Prop :=
  (∀ a, (k0_off98 v2274) a + S1x2x16x128.size a ≤ S112x2x16x128.size a)
theorem k0_off98_inb : ∀ (v2274 : BitVec 32) (k0_hw69 : k0_chk69 v2274), ∀ a, (k0_off98 v2274) a + S1x2x16x128.size a ≤ S112x2x16x128.size a := fun v2274 k0_hw69 => k0_hw69

def k0_off99 (v2278 : BitVec 32) : Fin 4 → Nat :=
  let v2279 : Index := Scalar.indexCast v2278
  let c0_1558 : Index := 0#32
  let c0_1559 : Index := 0#32
  let c0_1560 : Index := 0#32
  ![v2279.toNat, 0, 0, 0]

def k0_chk70 (v2278 : BitVec 32) : Prop :=
  (∀ a, (k0_off99 v2278) a + S1x2x16x128.size a ≤ S112x2x16x128.size a)
theorem k0_off99_inb : ∀ (v2278 : BitVec 32) (k0_hw70 : k0_chk70 v2278), ∀ a, (k0_off99 v2278) a + S1x2x16x128.size a ≤ S112x2x16x128.size a := fun v2278 k0_hw70 => k0_hw70

def k0_off100 (v2305 : BitVec 32) : Fin 4 → Nat :=
  let v2306 : Index := Scalar.indexCast v2305
  let c0_1573 : Index := 0#32
  let c0_1574 : Index := 0#32
  let c0_1575 : Index := 0#32
  ![v2306.toNat, 0, 0, 0]

def k0_chk71 (v2305 : BitVec 32) : Prop :=
  (∀ a, (k0_off100 v2305) a + S1x2x16x128.size a ≤ S112x2x16x128.size a)
theorem k0_off100_inb : ∀ (v2305 : BitVec 32) (k0_hw71 : k0_chk71 v2305), ∀ a, (k0_off100 v2305) a + S1x2x16x128.size a ≤ S112x2x16x128.size a := fun v2305 k0_hw71 => k0_hw71

def k0_off101 (v2309 : BitVec 32) : Fin 4 → Nat :=
  let v2310 : Index := Scalar.indexCast v2309
  let c0_1577 : Index := 0#32
  let c0_1578 : Index := 0#32
  let c0_1579 : Index := 0#32
  ![v2310.toNat, 0, 0, 0]

def k0_chk72 (v2309 : BitVec 32) : Prop :=
  (∀ a, (k0_off101 v2309) a + S1x2x16x128.size a ≤ S112x2x16x128.size a)
theorem k0_off101_inb : ∀ (v2309 : BitVec 32) (k0_hw72 : k0_chk72 v2309), ∀ a, (k0_off101 v2309) a + S1x2x16x128.size a ≤ S112x2x16x128.size a := fun v2309 k0_hw72 => k0_hw72

def k0_off102 (v2313 : BitVec 32) : Fin 4 → Nat :=
  let v2314 : Index := Scalar.indexCast v2313
  let c0_1581 : Index := 0#32
  let c0_1582 : Index := 0#32
  let c0_1583 : Index := 0#32
  ![v2314.toNat, 0, 0, 0]

def k0_chk73 (v2313 : BitVec 32) : Prop :=
  (∀ a, (k0_off102 v2313) a + S1x2x16x128.size a ≤ S112x2x16x128.size a)
theorem k0_off102_inb : ∀ (v2313 : BitVec 32) (k0_hw73 : k0_chk73 v2313), ∀ a, (k0_off102 v2313) a + S1x2x16x128.size a ≤ S112x2x16x128.size a := fun v2313 k0_hw73 => k0_hw73

def k0_off103 (v2317 : BitVec 32) : Fin 4 → Nat :=
  let v2318 : Index := Scalar.indexCast v2317
  let c0_1585 : Index := 0#32
  let c0_1586 : Index := 0#32
  let c0_1587 : Index := 0#32
  ![v2318.toNat, 0, 0, 0]

def k0_chk74 (v2317 : BitVec 32) : Prop :=
  (∀ a, (k0_off103 v2317) a + S1x2x16x128.size a ≤ S112x2x16x128.size a)
theorem k0_off103_inb : ∀ (v2317 : BitVec 32) (k0_hw74 : k0_chk74 v2317), ∀ a, (k0_off103 v2317) a + S1x2x16x128.size a ≤ S112x2x16x128.size a := fun v2317 k0_hw74 => k0_hw74

def k0_off104 (v2321 : BitVec 32) : Fin 4 → Nat :=
  let v2322 : Index := Scalar.indexCast v2321
  let c0_1589 : Index := 0#32
  let c0_1590 : Index := 0#32
  let c0_1591 : Index := 0#32
  ![v2322.toNat, 0, 0, 0]

def k0_chk75 (v2321 : BitVec 32) : Prop :=
  (∀ a, (k0_off104 v2321) a + S1x2x16x128.size a ≤ S112x2x16x128.size a)
theorem k0_off104_inb : ∀ (v2321 : BitVec 32) (k0_hw75 : k0_chk75 v2321), ∀ a, (k0_off104 v2321) a + S1x2x16x128.size a ≤ S112x2x16x128.size a := fun v2321 k0_hw75 => k0_hw75

def k0_off105 (v2325 : BitVec 32) : Fin 4 → Nat :=
  let v2326 : Index := Scalar.indexCast v2325
  let c0_1593 : Index := 0#32
  let c0_1594 : Index := 0#32
  let c0_1595 : Index := 0#32
  ![v2326.toNat, 0, 0, 0]

def k0_chk76 (v2325 : BitVec 32) : Prop :=
  (∀ a, (k0_off105 v2325) a + S1x2x16x128.size a ≤ S112x2x16x128.size a)
theorem k0_off105_inb : ∀ (v2325 : BitVec 32) (k0_hw76 : k0_chk76 v2325), ∀ a, (k0_off105 v2325) a + S1x2x16x128.size a ≤ S112x2x16x128.size a := fun v2325 k0_hw76 => k0_hw76

def k0_off106 (v2329 : BitVec 32) : Fin 4 → Nat :=
  let v2330 : Index := Scalar.indexCast v2329
  let c0_1597 : Index := 0#32
  let c0_1598 : Index := 0#32
  let c0_1599 : Index := 0#32
  ![v2330.toNat, 0, 0, 0]

def k0_chk77 (v2329 : BitVec 32) : Prop :=
  (∀ a, (k0_off106 v2329) a + S1x2x16x128.size a ≤ S112x2x16x128.size a)
theorem k0_off106_inb : ∀ (v2329 : BitVec 32) (k0_hw77 : k0_chk77 v2329), ∀ a, (k0_off106 v2329) a + S1x2x16x128.size a ≤ S112x2x16x128.size a := fun v2329 k0_hw77 => k0_hw77

def k0_off107 (v2356 : BitVec 32) : Fin 4 → Nat :=
  let v2357 : Index := Scalar.indexCast v2356
  let c0_1612 : Index := 0#32
  let c0_1613 : Index := 0#32
  let c0_1614 : Index := 0#32
  ![v2357.toNat, 0, 0, 0]

def k0_chk78 (v2356 : BitVec 32) : Prop :=
  (∀ a, (k0_off107 v2356) a + S1x2x16x128.size a ≤ S112x2x16x128.size a)
theorem k0_off107_inb : ∀ (v2356 : BitVec 32) (k0_hw78 : k0_chk78 v2356), ∀ a, (k0_off107 v2356) a + S1x2x16x128.size a ≤ S112x2x16x128.size a := fun v2356 k0_hw78 => k0_hw78

def k0_off108 (v2360 : BitVec 32) : Fin 4 → Nat :=
  let v2361 : Index := Scalar.indexCast v2360
  let c0_1616 : Index := 0#32
  let c0_1617 : Index := 0#32
  let c0_1618 : Index := 0#32
  ![v2361.toNat, 0, 0, 0]

def k0_chk79 (v2360 : BitVec 32) : Prop :=
  (∀ a, (k0_off108 v2360) a + S1x2x16x128.size a ≤ S112x2x16x128.size a)
theorem k0_off108_inb : ∀ (v2360 : BitVec 32) (k0_hw79 : k0_chk79 v2360), ∀ a, (k0_off108 v2360) a + S1x2x16x128.size a ≤ S112x2x16x128.size a := fun v2360 k0_hw79 => k0_hw79

def k0_off109 (v2364 : BitVec 32) : Fin 4 → Nat :=
  let v2365 : Index := Scalar.indexCast v2364
  let c0_1620 : Index := 0#32
  let c0_1621 : Index := 0#32
  let c0_1622 : Index := 0#32
  ![v2365.toNat, 0, 0, 0]

def k0_chk80 (v2364 : BitVec 32) : Prop :=
  (∀ a, (k0_off109 v2364) a + S1x2x16x128.size a ≤ S112x2x16x128.size a)
theorem k0_off109_inb : ∀ (v2364 : BitVec 32) (k0_hw80 : k0_chk80 v2364), ∀ a, (k0_off109 v2364) a + S1x2x16x128.size a ≤ S112x2x16x128.size a := fun v2364 k0_hw80 => k0_hw80

def k0_off110 (v2368 : BitVec 32) : Fin 4 → Nat :=
  let v2369 : Index := Scalar.indexCast v2368
  let c0_1624 : Index := 0#32
  let c0_1625 : Index := 0#32
  let c0_1626 : Index := 0#32
  ![v2369.toNat, 0, 0, 0]

def k0_chk81 (v2368 : BitVec 32) : Prop :=
  (∀ a, (k0_off110 v2368) a + S1x2x16x128.size a ≤ S112x2x16x128.size a)
theorem k0_off110_inb : ∀ (v2368 : BitVec 32) (k0_hw81 : k0_chk81 v2368), ∀ a, (k0_off110 v2368) a + S1x2x16x128.size a ≤ S112x2x16x128.size a := fun v2368 k0_hw81 => k0_hw81

def k0_off111 (v2372 : BitVec 32) : Fin 4 → Nat :=
  let v2373 : Index := Scalar.indexCast v2372
  let c0_1628 : Index := 0#32
  let c0_1629 : Index := 0#32
  let c0_1630 : Index := 0#32
  ![v2373.toNat, 0, 0, 0]

def k0_chk82 (v2372 : BitVec 32) : Prop :=
  (∀ a, (k0_off111 v2372) a + S1x2x16x128.size a ≤ S112x2x16x128.size a)
theorem k0_off111_inb : ∀ (v2372 : BitVec 32) (k0_hw82 : k0_chk82 v2372), ∀ a, (k0_off111 v2372) a + S1x2x16x128.size a ≤ S112x2x16x128.size a := fun v2372 k0_hw82 => k0_hw82

def k0_off112 (v2376 : BitVec 32) : Fin 4 → Nat :=
  let v2377 : Index := Scalar.indexCast v2376
  let c0_1632 : Index := 0#32
  let c0_1633 : Index := 0#32
  let c0_1634 : Index := 0#32
  ![v2377.toNat, 0, 0, 0]

def k0_chk83 (v2376 : BitVec 32) : Prop :=
  (∀ a, (k0_off112 v2376) a + S1x2x16x128.size a ≤ S112x2x16x128.size a)
theorem k0_off112_inb : ∀ (v2376 : BitVec 32) (k0_hw83 : k0_chk83 v2376), ∀ a, (k0_off112 v2376) a + S1x2x16x128.size a ≤ S112x2x16x128.size a := fun v2376 k0_hw83 => k0_hw83

def k0_off113 (v2380 : BitVec 32) : Fin 4 → Nat :=
  let v2381 : Index := Scalar.indexCast v2380
  let c0_1636 : Index := 0#32
  let c0_1637 : Index := 0#32
  let c0_1638 : Index := 0#32
  ![v2381.toNat, 0, 0, 0]

def k0_chk84 (v2380 : BitVec 32) : Prop :=
  (∀ a, (k0_off113 v2380) a + S1x2x16x128.size a ≤ S112x2x16x128.size a)
theorem k0_off113_inb : ∀ (v2380 : BitVec 32) (k0_hw84 : k0_chk84 v2380), ∀ a, (k0_off113 v2380) a + S1x2x16x128.size a ≤ S112x2x16x128.size a := fun v2380 k0_hw84 => k0_hw84

def k0_off114 (v2407 : BitVec 32) : Fin 4 → Nat :=
  let v2408 : Index := Scalar.indexCast v2407
  let c0_1651 : Index := 0#32
  let c0_1652 : Index := 0#32
  let c0_1653 : Index := 0#32
  ![v2408.toNat, 0, 0, 0]

def k0_chk85 (v2407 : BitVec 32) : Prop :=
  (∀ a, (k0_off114 v2407) a + S1x2x16x128.size a ≤ S112x2x16x128.size a)
theorem k0_off114_inb : ∀ (v2407 : BitVec 32) (k0_hw85 : k0_chk85 v2407), ∀ a, (k0_off114 v2407) a + S1x2x16x128.size a ≤ S112x2x16x128.size a := fun v2407 k0_hw85 => k0_hw85

def k0_off115 (v2411 : BitVec 32) : Fin 4 → Nat :=
  let v2412 : Index := Scalar.indexCast v2411
  let c0_1655 : Index := 0#32
  let c0_1656 : Index := 0#32
  let c0_1657 : Index := 0#32
  ![v2412.toNat, 0, 0, 0]

def k0_chk86 (v2411 : BitVec 32) : Prop :=
  (∀ a, (k0_off115 v2411) a + S1x2x16x128.size a ≤ S112x2x16x128.size a)
theorem k0_off115_inb : ∀ (v2411 : BitVec 32) (k0_hw86 : k0_chk86 v2411), ∀ a, (k0_off115 v2411) a + S1x2x16x128.size a ≤ S112x2x16x128.size a := fun v2411 k0_hw86 => k0_hw86

def k0_off116 (v2415 : BitVec 32) : Fin 4 → Nat :=
  let v2416 : Index := Scalar.indexCast v2415
  let c0_1659 : Index := 0#32
  let c0_1660 : Index := 0#32
  let c0_1661 : Index := 0#32
  ![v2416.toNat, 0, 0, 0]

def k0_chk87 (v2415 : BitVec 32) : Prop :=
  (∀ a, (k0_off116 v2415) a + S1x2x16x128.size a ≤ S112x2x16x128.size a)
theorem k0_off116_inb : ∀ (v2415 : BitVec 32) (k0_hw87 : k0_chk87 v2415), ∀ a, (k0_off116 v2415) a + S1x2x16x128.size a ≤ S112x2x16x128.size a := fun v2415 k0_hw87 => k0_hw87

def k0_off117 (v2419 : BitVec 32) : Fin 4 → Nat :=
  let v2420 : Index := Scalar.indexCast v2419
  let c0_1663 : Index := 0#32
  let c0_1664 : Index := 0#32
  let c0_1665 : Index := 0#32
  ![v2420.toNat, 0, 0, 0]

def k0_chk88 (v2419 : BitVec 32) : Prop :=
  (∀ a, (k0_off117 v2419) a + S1x2x16x128.size a ≤ S112x2x16x128.size a)
theorem k0_off117_inb : ∀ (v2419 : BitVec 32) (k0_hw88 : k0_chk88 v2419), ∀ a, (k0_off117 v2419) a + S1x2x16x128.size a ≤ S112x2x16x128.size a := fun v2419 k0_hw88 => k0_hw88

def k0_off118 (v2423 : BitVec 32) : Fin 4 → Nat :=
  let v2424 : Index := Scalar.indexCast v2423
  let c0_1667 : Index := 0#32
  let c0_1668 : Index := 0#32
  let c0_1669 : Index := 0#32
  ![v2424.toNat, 0, 0, 0]

def k0_chk89 (v2423 : BitVec 32) : Prop :=
  (∀ a, (k0_off118 v2423) a + S1x2x16x128.size a ≤ S112x2x16x128.size a)
theorem k0_off118_inb : ∀ (v2423 : BitVec 32) (k0_hw89 : k0_chk89 v2423), ∀ a, (k0_off118 v2423) a + S1x2x16x128.size a ≤ S112x2x16x128.size a := fun v2423 k0_hw89 => k0_hw89

def k0_off119 (v2427 : BitVec 32) : Fin 4 → Nat :=
  let v2428 : Index := Scalar.indexCast v2427
  let c0_1671 : Index := 0#32
  let c0_1672 : Index := 0#32
  let c0_1673 : Index := 0#32
  ![v2428.toNat, 0, 0, 0]

def k0_chk90 (v2427 : BitVec 32) : Prop :=
  (∀ a, (k0_off119 v2427) a + S1x2x16x128.size a ≤ S112x2x16x128.size a)
theorem k0_off119_inb : ∀ (v2427 : BitVec 32) (k0_hw90 : k0_chk90 v2427), ∀ a, (k0_off119 v2427) a + S1x2x16x128.size a ≤ S112x2x16x128.size a := fun v2427 k0_hw90 => k0_hw90

def k0_off120 (v2431 : BitVec 32) : Fin 4 → Nat :=
  let v2432 : Index := Scalar.indexCast v2431
  let c0_1675 : Index := 0#32
  let c0_1676 : Index := 0#32
  let c0_1677 : Index := 0#32
  ![v2432.toNat, 0, 0, 0]

def k0_chk91 (v2431 : BitVec 32) : Prop :=
  (∀ a, (k0_off120 v2431) a + S1x2x16x128.size a ≤ S112x2x16x128.size a)
theorem k0_off120_inb : ∀ (v2431 : BitVec 32) (k0_hw91 : k0_chk91 v2431), ∀ a, (k0_off120 v2431) a + S1x2x16x128.size a ≤ S112x2x16x128.size a := fun v2431 k0_hw91 => k0_hw91

def k0_off121 (v2458 : BitVec 32) : Fin 4 → Nat :=
  let v2459 : Index := Scalar.indexCast v2458
  let c0_1690 : Index := 0#32
  let c0_1691 : Index := 0#32
  let c0_1692 : Index := 0#32
  ![v2459.toNat, 0, 0, 0]

def k0_chk92 (v2458 : BitVec 32) : Prop :=
  (∀ a, (k0_off121 v2458) a + S1x2x16x128.size a ≤ S112x2x16x128.size a)
theorem k0_off121_inb : ∀ (v2458 : BitVec 32) (k0_hw92 : k0_chk92 v2458), ∀ a, (k0_off121 v2458) a + S1x2x16x128.size a ≤ S112x2x16x128.size a := fun v2458 k0_hw92 => k0_hw92

def k0_off122 (v2462 : BitVec 32) : Fin 4 → Nat :=
  let v2463 : Index := Scalar.indexCast v2462
  let c0_1694 : Index := 0#32
  let c0_1695 : Index := 0#32
  let c0_1696 : Index := 0#32
  ![v2463.toNat, 0, 0, 0]

def k0_chk93 (v2462 : BitVec 32) : Prop :=
  (∀ a, (k0_off122 v2462) a + S1x2x16x128.size a ≤ S112x2x16x128.size a)
theorem k0_off122_inb : ∀ (v2462 : BitVec 32) (k0_hw93 : k0_chk93 v2462), ∀ a, (k0_off122 v2462) a + S1x2x16x128.size a ≤ S112x2x16x128.size a := fun v2462 k0_hw93 => k0_hw93

def k0_off123 (v2466 : BitVec 32) : Fin 4 → Nat :=
  let v2467 : Index := Scalar.indexCast v2466
  let c0_1698 : Index := 0#32
  let c0_1699 : Index := 0#32
  let c0_1700 : Index := 0#32
  ![v2467.toNat, 0, 0, 0]

def k0_chk94 (v2466 : BitVec 32) : Prop :=
  (∀ a, (k0_off123 v2466) a + S1x2x16x128.size a ≤ S112x2x16x128.size a)
theorem k0_off123_inb : ∀ (v2466 : BitVec 32) (k0_hw94 : k0_chk94 v2466), ∀ a, (k0_off123 v2466) a + S1x2x16x128.size a ≤ S112x2x16x128.size a := fun v2466 k0_hw94 => k0_hw94

def k0_off124 (v2470 : BitVec 32) : Fin 4 → Nat :=
  let v2471 : Index := Scalar.indexCast v2470
  let c0_1702 : Index := 0#32
  let c0_1703 : Index := 0#32
  let c0_1704 : Index := 0#32
  ![v2471.toNat, 0, 0, 0]

def k0_chk95 (v2470 : BitVec 32) : Prop :=
  (∀ a, (k0_off124 v2470) a + S1x2x16x128.size a ≤ S112x2x16x128.size a)
theorem k0_off124_inb : ∀ (v2470 : BitVec 32) (k0_hw95 : k0_chk95 v2470), ∀ a, (k0_off124 v2470) a + S1x2x16x128.size a ≤ S112x2x16x128.size a := fun v2470 k0_hw95 => k0_hw95

def k0_off125 (v2474 : BitVec 32) : Fin 4 → Nat :=
  let v2475 : Index := Scalar.indexCast v2474
  let c0_1706 : Index := 0#32
  let c0_1707 : Index := 0#32
  let c0_1708 : Index := 0#32
  ![v2475.toNat, 0, 0, 0]

def k0_chk96 (v2474 : BitVec 32) : Prop :=
  (∀ a, (k0_off125 v2474) a + S1x2x16x128.size a ≤ S112x2x16x128.size a)
theorem k0_off125_inb : ∀ (v2474 : BitVec 32) (k0_hw96 : k0_chk96 v2474), ∀ a, (k0_off125 v2474) a + S1x2x16x128.size a ≤ S112x2x16x128.size a := fun v2474 k0_hw96 => k0_hw96

def k0_off126 (v2478 : BitVec 32) : Fin 4 → Nat :=
  let v2479 : Index := Scalar.indexCast v2478
  let c0_1710 : Index := 0#32
  let c0_1711 : Index := 0#32
  let c0_1712 : Index := 0#32
  ![v2479.toNat, 0, 0, 0]

def k0_chk97 (v2478 : BitVec 32) : Prop :=
  (∀ a, (k0_off126 v2478) a + S1x2x16x128.size a ≤ S112x2x16x128.size a)
theorem k0_off126_inb : ∀ (v2478 : BitVec 32) (k0_hw97 : k0_chk97 v2478), ∀ a, (k0_off126 v2478) a + S1x2x16x128.size a ≤ S112x2x16x128.size a := fun v2478 k0_hw97 => k0_hw97

def k0_off127 (v2482 : BitVec 32) : Fin 4 → Nat :=
  let v2483 : Index := Scalar.indexCast v2482
  let c0_1714 : Index := 0#32
  let c0_1715 : Index := 0#32
  let c0_1716 : Index := 0#32
  ![v2483.toNat, 0, 0, 0]

def k0_chk98 (v2482 : BitVec 32) : Prop :=
  (∀ a, (k0_off127 v2482) a + S1x2x16x128.size a ≤ S112x2x16x128.size a)
theorem k0_off127_inb : ∀ (v2482 : BitVec 32) (k0_hw98 : k0_chk98 v2482), ∀ a, (k0_off127 v2482) a + S1x2x16x128.size a ≤ S112x2x16x128.size a := fun v2482 k0_hw98 => k0_hw98

def k0_off128 (v2509 : BitVec 32) : Fin 4 → Nat :=
  let v2510 : Index := Scalar.indexCast v2509
  let c0_1728 : Index := 0#32
  let c0_1729 : Index := 0#32
  let c0_1730 : Index := 0#32
  ![v2510.toNat, 0, 0, 0]

def k0_chk99 (v2509 : BitVec 32) : Prop :=
  (∀ a, (k0_off128 v2509) a + S1x2x16x128.size a ≤ S112x2x16x128.size a)
theorem k0_off128_inb : ∀ (v2509 : BitVec 32) (k0_hw99 : k0_chk99 v2509), ∀ a, (k0_off128 v2509) a + S1x2x16x128.size a ≤ S112x2x16x128.size a := fun v2509 k0_hw99 => k0_hw99

def k0_off129 (v2513 : BitVec 32) : Fin 4 → Nat :=
  let v2514 : Index := Scalar.indexCast v2513
  let c0_1731 : Index := 0#32
  let c0_1732 : Index := 0#32
  let c0_1733 : Index := 0#32
  ![v2514.toNat, 0, 0, 0]

def k0_chk100 (v2513 : BitVec 32) : Prop :=
  (∀ a, (k0_off129 v2513) a + S1x2x16x128.size a ≤ S112x2x16x128.size a)
theorem k0_off129_inb : ∀ (v2513 : BitVec 32) (k0_hw100 : k0_chk100 v2513), ∀ a, (k0_off129 v2513) a + S1x2x16x128.size a ≤ S112x2x16x128.size a := fun v2513 k0_hw100 => k0_hw100

def k0_off130 (v2517 : BitVec 32) : Fin 4 → Nat :=
  let v2518 : Index := Scalar.indexCast v2517
  let c0_1734 : Index := 0#32
  let c0_1735 : Index := 0#32
  let c0_1736 : Index := 0#32
  ![v2518.toNat, 0, 0, 0]

def k0_chk101 (v2517 : BitVec 32) : Prop :=
  (∀ a, (k0_off130 v2517) a + S1x2x16x128.size a ≤ S112x2x16x128.size a)
theorem k0_off130_inb : ∀ (v2517 : BitVec 32) (k0_hw101 : k0_chk101 v2517), ∀ a, (k0_off130 v2517) a + S1x2x16x128.size a ≤ S112x2x16x128.size a := fun v2517 k0_hw101 => k0_hw101

def k0_off131 (v2521 : BitVec 32) : Fin 4 → Nat :=
  let v2522 : Index := Scalar.indexCast v2521
  let c0_1737 : Index := 0#32
  let c0_1738 : Index := 0#32
  let c0_1739 : Index := 0#32
  ![v2522.toNat, 0, 0, 0]

def k0_chk102 (v2521 : BitVec 32) : Prop :=
  (∀ a, (k0_off131 v2521) a + S1x2x16x128.size a ≤ S112x2x16x128.size a)
theorem k0_off131_inb : ∀ (v2521 : BitVec 32) (k0_hw102 : k0_chk102 v2521), ∀ a, (k0_off131 v2521) a + S1x2x16x128.size a ≤ S112x2x16x128.size a := fun v2521 k0_hw102 => k0_hw102

def k0_off132 (v2525 : BitVec 32) : Fin 4 → Nat :=
  let v2526 : Index := Scalar.indexCast v2525
  let c0_1740 : Index := 0#32
  let c0_1741 : Index := 0#32
  let c0_1742 : Index := 0#32
  ![v2526.toNat, 0, 0, 0]

def k0_chk103 (v2525 : BitVec 32) : Prop :=
  (∀ a, (k0_off132 v2525) a + S1x2x16x128.size a ≤ S112x2x16x128.size a)
theorem k0_off132_inb : ∀ (v2525 : BitVec 32) (k0_hw103 : k0_chk103 v2525), ∀ a, (k0_off132 v2525) a + S1x2x16x128.size a ≤ S112x2x16x128.size a := fun v2525 k0_hw103 => k0_hw103

def k0_off133 (v2529 : BitVec 32) : Fin 4 → Nat :=
  let v2530 : Index := Scalar.indexCast v2529
  let c0_1743 : Index := 0#32
  let c0_1744 : Index := 0#32
  let c0_1745 : Index := 0#32
  ![v2530.toNat, 0, 0, 0]

def k0_chk104 (v2529 : BitVec 32) : Prop :=
  (∀ a, (k0_off133 v2529) a + S1x2x16x128.size a ≤ S112x2x16x128.size a)
theorem k0_off133_inb : ∀ (v2529 : BitVec 32) (k0_hw104 : k0_chk104 v2529), ∀ a, (k0_off133 v2529) a + S1x2x16x128.size a ≤ S112x2x16x128.size a := fun v2529 k0_hw104 => k0_hw104

def k0_off134 (v2533 : BitVec 32) : Fin 4 → Nat :=
  let v2534 : Index := Scalar.indexCast v2533
  let c0_1746 : Index := 0#32
  let c0_1747 : Index := 0#32
  let c0_1748 : Index := 0#32
  ![v2534.toNat, 0, 0, 0]

def k0_chk105 (v2533 : BitVec 32) : Prop :=
  (∀ a, (k0_off134 v2533) a + S1x2x16x128.size a ≤ S112x2x16x128.size a)
theorem k0_off134_inb : ∀ (v2533 : BitVec 32) (k0_hw105 : k0_chk105 v2533), ∀ a, (k0_off134 v2533) a + S1x2x16x128.size a ≤ S112x2x16x128.size a := fun v2533 k0_hw105 => k0_hw105

def k0_off135 (v2560 : BitVec 32) : Fin 4 → Nat :=
  let v2561 : Index := Scalar.indexCast v2560
  let c0_1760 : Index := 0#32
  let c0_1761 : Index := 0#32
  let c0_1762 : Index := 0#32
  ![v2561.toNat, 0, 0, 0]

def k0_chk106 (v2560 : BitVec 32) : Prop :=
  (∀ a, (k0_off135 v2560) a + S1x2x16x128.size a ≤ S112x2x16x128.size a)
theorem k0_off135_inb : ∀ (v2560 : BitVec 32) (k0_hw106 : k0_chk106 v2560), ∀ a, (k0_off135 v2560) a + S1x2x16x128.size a ≤ S112x2x16x128.size a := fun v2560 k0_hw106 => k0_hw106

def k0_off136 (v2564 : BitVec 32) : Fin 4 → Nat :=
  let v2565 : Index := Scalar.indexCast v2564
  let c0_1763 : Index := 0#32
  let c0_1764 : Index := 0#32
  let c0_1765 : Index := 0#32
  ![v2565.toNat, 0, 0, 0]

def k0_chk107 (v2564 : BitVec 32) : Prop :=
  (∀ a, (k0_off136 v2564) a + S1x2x16x128.size a ≤ S112x2x16x128.size a)
theorem k0_off136_inb : ∀ (v2564 : BitVec 32) (k0_hw107 : k0_chk107 v2564), ∀ a, (k0_off136 v2564) a + S1x2x16x128.size a ≤ S112x2x16x128.size a := fun v2564 k0_hw107 => k0_hw107

def k0_off137 (v2568 : BitVec 32) : Fin 4 → Nat :=
  let v2569 : Index := Scalar.indexCast v2568
  let c0_1766 : Index := 0#32
  let c0_1767 : Index := 0#32
  let c0_1768 : Index := 0#32
  ![v2569.toNat, 0, 0, 0]

def k0_chk108 (v2568 : BitVec 32) : Prop :=
  (∀ a, (k0_off137 v2568) a + S1x2x16x128.size a ≤ S112x2x16x128.size a)
theorem k0_off137_inb : ∀ (v2568 : BitVec 32) (k0_hw108 : k0_chk108 v2568), ∀ a, (k0_off137 v2568) a + S1x2x16x128.size a ≤ S112x2x16x128.size a := fun v2568 k0_hw108 => k0_hw108

def k0_off138 (v2572 : BitVec 32) : Fin 4 → Nat :=
  let v2573 : Index := Scalar.indexCast v2572
  let c0_1769 : Index := 0#32
  let c0_1770 : Index := 0#32
  let c0_1771 : Index := 0#32
  ![v2573.toNat, 0, 0, 0]

def k0_chk109 (v2572 : BitVec 32) : Prop :=
  (∀ a, (k0_off138 v2572) a + S1x2x16x128.size a ≤ S112x2x16x128.size a)
theorem k0_off138_inb : ∀ (v2572 : BitVec 32) (k0_hw109 : k0_chk109 v2572), ∀ a, (k0_off138 v2572) a + S1x2x16x128.size a ≤ S112x2x16x128.size a := fun v2572 k0_hw109 => k0_hw109

def k0_off139 (v2576 : BitVec 32) : Fin 4 → Nat :=
  let v2577 : Index := Scalar.indexCast v2576
  let c0_1772 : Index := 0#32
  let c0_1773 : Index := 0#32
  let c0_1774 : Index := 0#32
  ![v2577.toNat, 0, 0, 0]

def k0_chk110 (v2576 : BitVec 32) : Prop :=
  (∀ a, (k0_off139 v2576) a + S1x2x16x128.size a ≤ S112x2x16x128.size a)
theorem k0_off139_inb : ∀ (v2576 : BitVec 32) (k0_hw110 : k0_chk110 v2576), ∀ a, (k0_off139 v2576) a + S1x2x16x128.size a ≤ S112x2x16x128.size a := fun v2576 k0_hw110 => k0_hw110

def k0_off140 (v2580 : BitVec 32) : Fin 4 → Nat :=
  let v2581 : Index := Scalar.indexCast v2580
  let c0_1775 : Index := 0#32
  let c0_1776 : Index := 0#32
  let c0_1777 : Index := 0#32
  ![v2581.toNat, 0, 0, 0]

def k0_chk111 (v2580 : BitVec 32) : Prop :=
  (∀ a, (k0_off140 v2580) a + S1x2x16x128.size a ≤ S112x2x16x128.size a)
theorem k0_off140_inb : ∀ (v2580 : BitVec 32) (k0_hw111 : k0_chk111 v2580), ∀ a, (k0_off140 v2580) a + S1x2x16x128.size a ≤ S112x2x16x128.size a := fun v2580 k0_hw111 => k0_hw111

def k0_off141 (v2584 : BitVec 32) : Fin 4 → Nat :=
  let v2585 : Index := Scalar.indexCast v2584
  let c0_1778 : Index := 0#32
  let c0_1779 : Index := 0#32
  let c0_1780 : Index := 0#32
  ![v2585.toNat, 0, 0, 0]

def k0_chk112 (v2584 : BitVec 32) : Prop :=
  (∀ a, (k0_off141 v2584) a + S1x2x16x128.size a ≤ S112x2x16x128.size a)
theorem k0_off141_inb : ∀ (v2584 : BitVec 32) (k0_hw112 : k0_chk112 v2584), ∀ a, (k0_off141 v2584) a + S1x2x16x128.size a ≤ S112x2x16x128.size a := fun v2584 k0_hw112 => k0_hw112

def k0_off142 (v2611 : BitVec 32) : Fin 4 → Nat :=
  let v2612 : Index := Scalar.indexCast v2611
  let c0_1793 : Index := 0#32
  let c0_1794 : Index := 0#32
  let c0_1795 : Index := 0#32
  ![v2612.toNat, 0, 0, 0]

def k0_chk113 (v2611 : BitVec 32) : Prop :=
  (∀ a, (k0_off142 v2611) a + S1x2x16x128.size a ≤ S112x2x16x128.size a)
theorem k0_off142_inb : ∀ (v2611 : BitVec 32) (k0_hw113 : k0_chk113 v2611), ∀ a, (k0_off142 v2611) a + S1x2x16x128.size a ≤ S112x2x16x128.size a := fun v2611 k0_hw113 => k0_hw113

def k0_off143 (v2615 : BitVec 32) : Fin 4 → Nat :=
  let v2616 : Index := Scalar.indexCast v2615
  let c0_1796 : Index := 0#32
  let c0_1797 : Index := 0#32
  let c0_1798 : Index := 0#32
  ![v2616.toNat, 0, 0, 0]

def k0_chk114 (v2615 : BitVec 32) : Prop :=
  (∀ a, (k0_off143 v2615) a + S1x2x16x128.size a ≤ S112x2x16x128.size a)
theorem k0_off143_inb : ∀ (v2615 : BitVec 32) (k0_hw114 : k0_chk114 v2615), ∀ a, (k0_off143 v2615) a + S1x2x16x128.size a ≤ S112x2x16x128.size a := fun v2615 k0_hw114 => k0_hw114

def k0_off144 (v2619 : BitVec 32) : Fin 4 → Nat :=
  let v2620 : Index := Scalar.indexCast v2619
  let c0_1799 : Index := 0#32
  let c0_1800 : Index := 0#32
  let c0_1801 : Index := 0#32
  ![v2620.toNat, 0, 0, 0]

def k0_chk115 (v2619 : BitVec 32) : Prop :=
  (∀ a, (k0_off144 v2619) a + S1x2x16x128.size a ≤ S112x2x16x128.size a)
theorem k0_off144_inb : ∀ (v2619 : BitVec 32) (k0_hw115 : k0_chk115 v2619), ∀ a, (k0_off144 v2619) a + S1x2x16x128.size a ≤ S112x2x16x128.size a := fun v2619 k0_hw115 => k0_hw115

def k0_off145 (v2623 : BitVec 32) : Fin 4 → Nat :=
  let v2624 : Index := Scalar.indexCast v2623
  let c0_1802 : Index := 0#32
  let c0_1803 : Index := 0#32
  let c0_1804 : Index := 0#32
  ![v2624.toNat, 0, 0, 0]

def k0_chk116 (v2623 : BitVec 32) : Prop :=
  (∀ a, (k0_off145 v2623) a + S1x2x16x128.size a ≤ S112x2x16x128.size a)
theorem k0_off145_inb : ∀ (v2623 : BitVec 32) (k0_hw116 : k0_chk116 v2623), ∀ a, (k0_off145 v2623) a + S1x2x16x128.size a ≤ S112x2x16x128.size a := fun v2623 k0_hw116 => k0_hw116

def k0_off146 (v2627 : BitVec 32) : Fin 4 → Nat :=
  let v2628 : Index := Scalar.indexCast v2627
  let c0_1805 : Index := 0#32
  let c0_1806 : Index := 0#32
  let c0_1807 : Index := 0#32
  ![v2628.toNat, 0, 0, 0]

def k0_chk117 (v2627 : BitVec 32) : Prop :=
  (∀ a, (k0_off146 v2627) a + S1x2x16x128.size a ≤ S112x2x16x128.size a)
theorem k0_off146_inb : ∀ (v2627 : BitVec 32) (k0_hw117 : k0_chk117 v2627), ∀ a, (k0_off146 v2627) a + S1x2x16x128.size a ≤ S112x2x16x128.size a := fun v2627 k0_hw117 => k0_hw117

def k0_off147 (v2631 : BitVec 32) : Fin 4 → Nat :=
  let v2632 : Index := Scalar.indexCast v2631
  let c0_1808 : Index := 0#32
  let c0_1809 : Index := 0#32
  let c0_1810 : Index := 0#32
  ![v2632.toNat, 0, 0, 0]

def k0_chk118 (v2631 : BitVec 32) : Prop :=
  (∀ a, (k0_off147 v2631) a + S1x2x16x128.size a ≤ S112x2x16x128.size a)
theorem k0_off147_inb : ∀ (v2631 : BitVec 32) (k0_hw118 : k0_chk118 v2631), ∀ a, (k0_off147 v2631) a + S1x2x16x128.size a ≤ S112x2x16x128.size a := fun v2631 k0_hw118 => k0_hw118

def k0_off148 (v2635 : BitVec 32) : Fin 4 → Nat :=
  let v2636 : Index := Scalar.indexCast v2635
  let c0_1811 : Index := 0#32
  let c0_1812 : Index := 0#32
  let c0_1813 : Index := 0#32
  ![v2636.toNat, 0, 0, 0]

def k0_chk119 (v2635 : BitVec 32) : Prop :=
  (∀ a, (k0_off148 v2635) a + S1x2x16x128.size a ≤ S112x2x16x128.size a)
theorem k0_off148_inb : ∀ (v2635 : BitVec 32) (k0_hw119 : k0_chk119 v2635), ∀ a, (k0_off148 v2635) a + S1x2x16x128.size a ≤ S112x2x16x128.size a := fun v2635 k0_hw119 => k0_hw119

def k0_off149 (v2662 : BitVec 32) : Fin 4 → Nat :=
  let v2663 : Index := Scalar.indexCast v2662
  let c0_1826 : Index := 0#32
  let c0_1827 : Index := 0#32
  let c0_1828 : Index := 0#32
  ![v2663.toNat, 0, 0, 0]

def k0_chk120 (v2662 : BitVec 32) : Prop :=
  (∀ a, (k0_off149 v2662) a + S1x2x16x128.size a ≤ S112x2x16x128.size a)
theorem k0_off149_inb : ∀ (v2662 : BitVec 32) (k0_hw120 : k0_chk120 v2662), ∀ a, (k0_off149 v2662) a + S1x2x16x128.size a ≤ S112x2x16x128.size a := fun v2662 k0_hw120 => k0_hw120

def k0_off150 (v2666 : BitVec 32) : Fin 4 → Nat :=
  let v2667 : Index := Scalar.indexCast v2666
  let c0_1829 : Index := 0#32
  let c0_1830 : Index := 0#32
  let c0_1831 : Index := 0#32
  ![v2667.toNat, 0, 0, 0]

def k0_chk121 (v2666 : BitVec 32) : Prop :=
  (∀ a, (k0_off150 v2666) a + S1x2x16x128.size a ≤ S112x2x16x128.size a)
theorem k0_off150_inb : ∀ (v2666 : BitVec 32) (k0_hw121 : k0_chk121 v2666), ∀ a, (k0_off150 v2666) a + S1x2x16x128.size a ≤ S112x2x16x128.size a := fun v2666 k0_hw121 => k0_hw121

def k0_off151 (v2670 : BitVec 32) : Fin 4 → Nat :=
  let v2671 : Index := Scalar.indexCast v2670
  let c0_1832 : Index := 0#32
  let c0_1833 : Index := 0#32
  let c0_1834 : Index := 0#32
  ![v2671.toNat, 0, 0, 0]

def k0_chk122 (v2670 : BitVec 32) : Prop :=
  (∀ a, (k0_off151 v2670) a + S1x2x16x128.size a ≤ S112x2x16x128.size a)
theorem k0_off151_inb : ∀ (v2670 : BitVec 32) (k0_hw122 : k0_chk122 v2670), ∀ a, (k0_off151 v2670) a + S1x2x16x128.size a ≤ S112x2x16x128.size a := fun v2670 k0_hw122 => k0_hw122

def k0_off152 (v2674 : BitVec 32) : Fin 4 → Nat :=
  let v2675 : Index := Scalar.indexCast v2674
  let c0_1835 : Index := 0#32
  let c0_1836 : Index := 0#32
  let c0_1837 : Index := 0#32
  ![v2675.toNat, 0, 0, 0]

def k0_chk123 (v2674 : BitVec 32) : Prop :=
  (∀ a, (k0_off152 v2674) a + S1x2x16x128.size a ≤ S112x2x16x128.size a)
theorem k0_off152_inb : ∀ (v2674 : BitVec 32) (k0_hw123 : k0_chk123 v2674), ∀ a, (k0_off152 v2674) a + S1x2x16x128.size a ≤ S112x2x16x128.size a := fun v2674 k0_hw123 => k0_hw123

def k0_off153 (v2678 : BitVec 32) : Fin 4 → Nat :=
  let v2679 : Index := Scalar.indexCast v2678
  let c0_1838 : Index := 0#32
  let c0_1839 : Index := 0#32
  let c0_1840 : Index := 0#32
  ![v2679.toNat, 0, 0, 0]

def k0_chk124 (v2678 : BitVec 32) : Prop :=
  (∀ a, (k0_off153 v2678) a + S1x2x16x128.size a ≤ S112x2x16x128.size a)
theorem k0_off153_inb : ∀ (v2678 : BitVec 32) (k0_hw124 : k0_chk124 v2678), ∀ a, (k0_off153 v2678) a + S1x2x16x128.size a ≤ S112x2x16x128.size a := fun v2678 k0_hw124 => k0_hw124

def k0_off154 (v2682 : BitVec 32) : Fin 4 → Nat :=
  let v2683 : Index := Scalar.indexCast v2682
  let c0_1841 : Index := 0#32
  let c0_1842 : Index := 0#32
  let c0_1843 : Index := 0#32
  ![v2683.toNat, 0, 0, 0]

def k0_chk125 (v2682 : BitVec 32) : Prop :=
  (∀ a, (k0_off154 v2682) a + S1x2x16x128.size a ≤ S112x2x16x128.size a)
theorem k0_off154_inb : ∀ (v2682 : BitVec 32) (k0_hw125 : k0_chk125 v2682), ∀ a, (k0_off154 v2682) a + S1x2x16x128.size a ≤ S112x2x16x128.size a := fun v2682 k0_hw125 => k0_hw125

def k0_off155 (v2686 : BitVec 32) : Fin 4 → Nat :=
  let v2687 : Index := Scalar.indexCast v2686
  let c0_1844 : Index := 0#32
  let c0_1845 : Index := 0#32
  let c0_1846 : Index := 0#32
  ![v2687.toNat, 0, 0, 0]

def k0_chk126 (v2686 : BitVec 32) : Prop :=
  (∀ a, (k0_off155 v2686) a + S1x2x16x128.size a ≤ S112x2x16x128.size a)
theorem k0_off155_inb : ∀ (v2686 : BitVec 32) (k0_hw126 : k0_chk126 v2686), ∀ a, (k0_off155 v2686) a + S1x2x16x128.size a ≤ S112x2x16x128.size a := fun v2686 k0_hw126 => k0_hw126

def k0_off156 (v2713 : BitVec 32) : Fin 4 → Nat :=
  let v2714 : Index := Scalar.indexCast v2713
  let c0_1858 : Index := 0#32
  let c0_1859 : Index := 0#32
  let c0_1860 : Index := 0#32
  ![v2714.toNat, 0, 0, 0]

def k0_chk127 (v2713 : BitVec 32) : Prop :=
  (∀ a, (k0_off156 v2713) a + S1x2x16x128.size a ≤ S112x2x16x128.size a)
theorem k0_off156_inb : ∀ (v2713 : BitVec 32) (k0_hw127 : k0_chk127 v2713), ∀ a, (k0_off156 v2713) a + S1x2x16x128.size a ≤ S112x2x16x128.size a := fun v2713 k0_hw127 => k0_hw127

def k0_off157 (v2717 : BitVec 32) : Fin 4 → Nat :=
  let v2718 : Index := Scalar.indexCast v2717
  let c0_1861 : Index := 0#32
  let c0_1862 : Index := 0#32
  let c0_1863 : Index := 0#32
  ![v2718.toNat, 0, 0, 0]

def k0_chk128 (v2717 : BitVec 32) : Prop :=
  (∀ a, (k0_off157 v2717) a + S1x2x16x128.size a ≤ S112x2x16x128.size a)
theorem k0_off157_inb : ∀ (v2717 : BitVec 32) (k0_hw128 : k0_chk128 v2717), ∀ a, (k0_off157 v2717) a + S1x2x16x128.size a ≤ S112x2x16x128.size a := fun v2717 k0_hw128 => k0_hw128

def k0_off158 (v2721 : BitVec 32) : Fin 4 → Nat :=
  let v2722 : Index := Scalar.indexCast v2721
  let c0_1864 : Index := 0#32
  let c0_1865 : Index := 0#32
  let c0_1866 : Index := 0#32
  ![v2722.toNat, 0, 0, 0]

def k0_chk129 (v2721 : BitVec 32) : Prop :=
  (∀ a, (k0_off158 v2721) a + S1x2x16x128.size a ≤ S112x2x16x128.size a)
theorem k0_off158_inb : ∀ (v2721 : BitVec 32) (k0_hw129 : k0_chk129 v2721), ∀ a, (k0_off158 v2721) a + S1x2x16x128.size a ≤ S112x2x16x128.size a := fun v2721 k0_hw129 => k0_hw129

def k0_off159 (v2725 : BitVec 32) : Fin 4 → Nat :=
  let v2726 : Index := Scalar.indexCast v2725
  let c0_1867 : Index := 0#32
  let c0_1868 : Index := 0#32
  let c0_1869 : Index := 0#32
  ![v2726.toNat, 0, 0, 0]

def k0_chk130 (v2725 : BitVec 32) : Prop :=
  (∀ a, (k0_off159 v2725) a + S1x2x16x128.size a ≤ S112x2x16x128.size a)
theorem k0_off159_inb : ∀ (v2725 : BitVec 32) (k0_hw130 : k0_chk130 v2725), ∀ a, (k0_off159 v2725) a + S1x2x16x128.size a ≤ S112x2x16x128.size a := fun v2725 k0_hw130 => k0_hw130

def k0_off160 (v2729 : BitVec 32) : Fin 4 → Nat :=
  let v2730 : Index := Scalar.indexCast v2729
  let c0_1870 : Index := 0#32
  let c0_1871 : Index := 0#32
  let c0_1872 : Index := 0#32
  ![v2730.toNat, 0, 0, 0]

def k0_chk131 (v2729 : BitVec 32) : Prop :=
  (∀ a, (k0_off160 v2729) a + S1x2x16x128.size a ≤ S112x2x16x128.size a)
theorem k0_off160_inb : ∀ (v2729 : BitVec 32) (k0_hw131 : k0_chk131 v2729), ∀ a, (k0_off160 v2729) a + S1x2x16x128.size a ≤ S112x2x16x128.size a := fun v2729 k0_hw131 => k0_hw131

def k0_off161 (v2733 : BitVec 32) : Fin 4 → Nat :=
  let v2734 : Index := Scalar.indexCast v2733
  let c0_1873 : Index := 0#32
  let c0_1874 : Index := 0#32
  let c0_1875 : Index := 0#32
  ![v2734.toNat, 0, 0, 0]

def k0_chk132 (v2733 : BitVec 32) : Prop :=
  (∀ a, (k0_off161 v2733) a + S1x2x16x128.size a ≤ S112x2x16x128.size a)
theorem k0_off161_inb : ∀ (v2733 : BitVec 32) (k0_hw132 : k0_chk132 v2733), ∀ a, (k0_off161 v2733) a + S1x2x16x128.size a ≤ S112x2x16x128.size a := fun v2733 k0_hw132 => k0_hw132

def k0_off162 (v2737 : BitVec 32) : Fin 4 → Nat :=
  let v2738 : Index := Scalar.indexCast v2737
  let c0_1876 : Index := 0#32
  let c0_1877 : Index := 0#32
  let c0_1878 : Index := 0#32
  ![v2738.toNat, 0, 0, 0]

def k0_chk133 (v2737 : BitVec 32) : Prop :=
  (∀ a, (k0_off162 v2737) a + S1x2x16x128.size a ≤ S112x2x16x128.size a)
theorem k0_off162_inb : ∀ (v2737 : BitVec 32) (k0_hw133 : k0_chk133 v2737), ∀ a, (k0_off162 v2737) a + S1x2x16x128.size a ≤ S112x2x16x128.size a := fun v2737 k0_hw133 => k0_hw133

def k0_off163 (v2764 : BitVec 32) : Fin 4 → Nat :=
  let v2765 : Index := Scalar.indexCast v2764
  let c0_1890 : Index := 0#32
  let c0_1891 : Index := 0#32
  let c0_1892 : Index := 0#32
  ![v2765.toNat, 0, 0, 0]

def k0_chk134 (v2764 : BitVec 32) : Prop :=
  (∀ a, (k0_off163 v2764) a + S1x2x16x128.size a ≤ S112x2x16x128.size a)
theorem k0_off163_inb : ∀ (v2764 : BitVec 32) (k0_hw134 : k0_chk134 v2764), ∀ a, (k0_off163 v2764) a + S1x2x16x128.size a ≤ S112x2x16x128.size a := fun v2764 k0_hw134 => k0_hw134

def k0_off164 (v2768 : BitVec 32) : Fin 4 → Nat :=
  let v2769 : Index := Scalar.indexCast v2768
  let c0_1893 : Index := 0#32
  let c0_1894 : Index := 0#32
  let c0_1895 : Index := 0#32
  ![v2769.toNat, 0, 0, 0]

def k0_chk135 (v2768 : BitVec 32) : Prop :=
  (∀ a, (k0_off164 v2768) a + S1x2x16x128.size a ≤ S112x2x16x128.size a)
theorem k0_off164_inb : ∀ (v2768 : BitVec 32) (k0_hw135 : k0_chk135 v2768), ∀ a, (k0_off164 v2768) a + S1x2x16x128.size a ≤ S112x2x16x128.size a := fun v2768 k0_hw135 => k0_hw135

def k0_off165 (v2772 : BitVec 32) : Fin 4 → Nat :=
  let v2773 : Index := Scalar.indexCast v2772
  let c0_1896 : Index := 0#32
  let c0_1897 : Index := 0#32
  let c0_1898 : Index := 0#32
  ![v2773.toNat, 0, 0, 0]

def k0_chk136 (v2772 : BitVec 32) : Prop :=
  (∀ a, (k0_off165 v2772) a + S1x2x16x128.size a ≤ S112x2x16x128.size a)
theorem k0_off165_inb : ∀ (v2772 : BitVec 32) (k0_hw136 : k0_chk136 v2772), ∀ a, (k0_off165 v2772) a + S1x2x16x128.size a ≤ S112x2x16x128.size a := fun v2772 k0_hw136 => k0_hw136

def k0_off166 (v2776 : BitVec 32) : Fin 4 → Nat :=
  let v2777 : Index := Scalar.indexCast v2776
  let c0_1899 : Index := 0#32
  let c0_1900 : Index := 0#32
  let c0_1901 : Index := 0#32
  ![v2777.toNat, 0, 0, 0]

def k0_chk137 (v2776 : BitVec 32) : Prop :=
  (∀ a, (k0_off166 v2776) a + S1x2x16x128.size a ≤ S112x2x16x128.size a)
theorem k0_off166_inb : ∀ (v2776 : BitVec 32) (k0_hw137 : k0_chk137 v2776), ∀ a, (k0_off166 v2776) a + S1x2x16x128.size a ≤ S112x2x16x128.size a := fun v2776 k0_hw137 => k0_hw137

def k0_off167 (v2780 : BitVec 32) : Fin 4 → Nat :=
  let v2781 : Index := Scalar.indexCast v2780
  let c0_1902 : Index := 0#32
  let c0_1903 : Index := 0#32
  let c0_1904 : Index := 0#32
  ![v2781.toNat, 0, 0, 0]

def k0_chk138 (v2780 : BitVec 32) : Prop :=
  (∀ a, (k0_off167 v2780) a + S1x2x16x128.size a ≤ S112x2x16x128.size a)
theorem k0_off167_inb : ∀ (v2780 : BitVec 32) (k0_hw138 : k0_chk138 v2780), ∀ a, (k0_off167 v2780) a + S1x2x16x128.size a ≤ S112x2x16x128.size a := fun v2780 k0_hw138 => k0_hw138

def k0_off168 (v2784 : BitVec 32) : Fin 4 → Nat :=
  let v2785 : Index := Scalar.indexCast v2784
  let c0_1905 : Index := 0#32
  let c0_1906 : Index := 0#32
  let c0_1907 : Index := 0#32
  ![v2785.toNat, 0, 0, 0]

def k0_chk139 (v2784 : BitVec 32) : Prop :=
  (∀ a, (k0_off168 v2784) a + S1x2x16x128.size a ≤ S112x2x16x128.size a)
theorem k0_off168_inb : ∀ (v2784 : BitVec 32) (k0_hw139 : k0_chk139 v2784), ∀ a, (k0_off168 v2784) a + S1x2x16x128.size a ≤ S112x2x16x128.size a := fun v2784 k0_hw139 => k0_hw139

def k0_off169 (v2788 : BitVec 32) : Fin 4 → Nat :=
  let v2789 : Index := Scalar.indexCast v2788
  let c0_1908 : Index := 0#32
  let c0_1909 : Index := 0#32
  let c0_1910 : Index := 0#32
  ![v2789.toNat, 0, 0, 0]

def k0_chk140 (v2788 : BitVec 32) : Prop :=
  (∀ a, (k0_off169 v2788) a + S1x2x16x128.size a ≤ S112x2x16x128.size a)
theorem k0_off169_inb : ∀ (v2788 : BitVec 32) (k0_hw140 : k0_chk140 v2788), ∀ a, (k0_off169 v2788) a + S1x2x16x128.size a ≤ S112x2x16x128.size a := fun v2788 k0_hw140 => k0_hw140

def k0_off170 (v2815 : BitVec 32) : Fin 4 → Nat :=
  let v2816 : Index := Scalar.indexCast v2815
  let c0_1923 : Index := 0#32
  let c0_1924 : Index := 0#32
  let c0_1925 : Index := 0#32
  ![v2816.toNat, 0, 0, 0]

def k0_chk141 (v2815 : BitVec 32) : Prop :=
  (∀ a, (k0_off170 v2815) a + S1x2x16x128.size a ≤ S112x2x16x128.size a)
theorem k0_off170_inb : ∀ (v2815 : BitVec 32) (k0_hw141 : k0_chk141 v2815), ∀ a, (k0_off170 v2815) a + S1x2x16x128.size a ≤ S112x2x16x128.size a := fun v2815 k0_hw141 => k0_hw141

def k0_off171 (v2819 : BitVec 32) : Fin 4 → Nat :=
  let v2820 : Index := Scalar.indexCast v2819
  let c0_1926 : Index := 0#32
  let c0_1927 : Index := 0#32
  let c0_1928 : Index := 0#32
  ![v2820.toNat, 0, 0, 0]

def k0_chk142 (v2819 : BitVec 32) : Prop :=
  (∀ a, (k0_off171 v2819) a + S1x2x16x128.size a ≤ S112x2x16x128.size a)
theorem k0_off171_inb : ∀ (v2819 : BitVec 32) (k0_hw142 : k0_chk142 v2819), ∀ a, (k0_off171 v2819) a + S1x2x16x128.size a ≤ S112x2x16x128.size a := fun v2819 k0_hw142 => k0_hw142

def k0_off172 (v2823 : BitVec 32) : Fin 4 → Nat :=
  let v2824 : Index := Scalar.indexCast v2823
  let c0_1929 : Index := 0#32
  let c0_1930 : Index := 0#32
  let c0_1931 : Index := 0#32
  ![v2824.toNat, 0, 0, 0]

def k0_chk143 (v2823 : BitVec 32) : Prop :=
  (∀ a, (k0_off172 v2823) a + S1x2x16x128.size a ≤ S112x2x16x128.size a)
theorem k0_off172_inb : ∀ (v2823 : BitVec 32) (k0_hw143 : k0_chk143 v2823), ∀ a, (k0_off172 v2823) a + S1x2x16x128.size a ≤ S112x2x16x128.size a := fun v2823 k0_hw143 => k0_hw143

def k0_off173 (v2827 : BitVec 32) : Fin 4 → Nat :=
  let v2828 : Index := Scalar.indexCast v2827
  let c0_1932 : Index := 0#32
  let c0_1933 : Index := 0#32
  let c0_1934 : Index := 0#32
  ![v2828.toNat, 0, 0, 0]

def k0_chk144 (v2827 : BitVec 32) : Prop :=
  (∀ a, (k0_off173 v2827) a + S1x2x16x128.size a ≤ S112x2x16x128.size a)
theorem k0_off173_inb : ∀ (v2827 : BitVec 32) (k0_hw144 : k0_chk144 v2827), ∀ a, (k0_off173 v2827) a + S1x2x16x128.size a ≤ S112x2x16x128.size a := fun v2827 k0_hw144 => k0_hw144

def k0_off174 (v2831 : BitVec 32) : Fin 4 → Nat :=
  let v2832 : Index := Scalar.indexCast v2831
  let c0_1935 : Index := 0#32
  let c0_1936 : Index := 0#32
  let c0_1937 : Index := 0#32
  ![v2832.toNat, 0, 0, 0]

def k0_chk145 (v2831 : BitVec 32) : Prop :=
  (∀ a, (k0_off174 v2831) a + S1x2x16x128.size a ≤ S112x2x16x128.size a)
theorem k0_off174_inb : ∀ (v2831 : BitVec 32) (k0_hw145 : k0_chk145 v2831), ∀ a, (k0_off174 v2831) a + S1x2x16x128.size a ≤ S112x2x16x128.size a := fun v2831 k0_hw145 => k0_hw145

def k0_off175 (v2835 : BitVec 32) : Fin 4 → Nat :=
  let v2836 : Index := Scalar.indexCast v2835
  let c0_1938 : Index := 0#32
  let c0_1939 : Index := 0#32
  let c0_1940 : Index := 0#32
  ![v2836.toNat, 0, 0, 0]

def k0_chk146 (v2835 : BitVec 32) : Prop :=
  (∀ a, (k0_off175 v2835) a + S1x2x16x128.size a ≤ S112x2x16x128.size a)
theorem k0_off175_inb : ∀ (v2835 : BitVec 32) (k0_hw146 : k0_chk146 v2835), ∀ a, (k0_off175 v2835) a + S1x2x16x128.size a ≤ S112x2x16x128.size a := fun v2835 k0_hw146 => k0_hw146

def k0_off176 (v2839 : BitVec 32) : Fin 4 → Nat :=
  let v2840 : Index := Scalar.indexCast v2839
  let c0_1941 : Index := 0#32
  let c0_1942 : Index := 0#32
  let c0_1943 : Index := 0#32
  ![v2840.toNat, 0, 0, 0]

def k0_chk147 (v2839 : BitVec 32) : Prop :=
  (∀ a, (k0_off176 v2839) a + S1x2x16x128.size a ≤ S112x2x16x128.size a)
theorem k0_off176_inb : ∀ (v2839 : BitVec 32) (k0_hw147 : k0_chk147 v2839), ∀ a, (k0_off176 v2839) a + S1x2x16x128.size a ≤ S112x2x16x128.size a := fun v2839 k0_hw147 => k0_hw147

def k0_off177 (v2866 : BitVec 32) : Fin 4 → Nat :=
  let v2867 : Index := Scalar.indexCast v2866
  let c0_1955 : Index := 0#32
  let c0_1956 : Index := 0#32
  let c0_1957 : Index := 0#32
  ![v2867.toNat, 0, 0, 0]

def k0_chk148 (v2866 : BitVec 32) : Prop :=
  (∀ a, (k0_off177 v2866) a + S1x2x16x128.size a ≤ S112x2x16x128.size a)
theorem k0_off177_inb : ∀ (v2866 : BitVec 32) (k0_hw148 : k0_chk148 v2866), ∀ a, (k0_off177 v2866) a + S1x2x16x128.size a ≤ S112x2x16x128.size a := fun v2866 k0_hw148 => k0_hw148

def k0_off178 (v2870 : BitVec 32) : Fin 4 → Nat :=
  let v2871 : Index := Scalar.indexCast v2870
  let c0_1958 : Index := 0#32
  let c0_1959 : Index := 0#32
  let c0_1960 : Index := 0#32
  ![v2871.toNat, 0, 0, 0]

def k0_chk149 (v2870 : BitVec 32) : Prop :=
  (∀ a, (k0_off178 v2870) a + S1x2x16x128.size a ≤ S112x2x16x128.size a)
theorem k0_off178_inb : ∀ (v2870 : BitVec 32) (k0_hw149 : k0_chk149 v2870), ∀ a, (k0_off178 v2870) a + S1x2x16x128.size a ≤ S112x2x16x128.size a := fun v2870 k0_hw149 => k0_hw149

def k0_off179 (v2874 : BitVec 32) : Fin 4 → Nat :=
  let v2875 : Index := Scalar.indexCast v2874
  let c0_1961 : Index := 0#32
  let c0_1962 : Index := 0#32
  let c0_1963 : Index := 0#32
  ![v2875.toNat, 0, 0, 0]

def k0_chk150 (v2874 : BitVec 32) : Prop :=
  (∀ a, (k0_off179 v2874) a + S1x2x16x128.size a ≤ S112x2x16x128.size a)
theorem k0_off179_inb : ∀ (v2874 : BitVec 32) (k0_hw150 : k0_chk150 v2874), ∀ a, (k0_off179 v2874) a + S1x2x16x128.size a ≤ S112x2x16x128.size a := fun v2874 k0_hw150 => k0_hw150

def k0_off180 (v2878 : BitVec 32) : Fin 4 → Nat :=
  let v2879 : Index := Scalar.indexCast v2878
  let c0_1964 : Index := 0#32
  let c0_1965 : Index := 0#32
  let c0_1966 : Index := 0#32
  ![v2879.toNat, 0, 0, 0]

def k0_chk151 (v2878 : BitVec 32) : Prop :=
  (∀ a, (k0_off180 v2878) a + S1x2x16x128.size a ≤ S112x2x16x128.size a)
theorem k0_off180_inb : ∀ (v2878 : BitVec 32) (k0_hw151 : k0_chk151 v2878), ∀ a, (k0_off180 v2878) a + S1x2x16x128.size a ≤ S112x2x16x128.size a := fun v2878 k0_hw151 => k0_hw151

def k0_off181 (v2882 : BitVec 32) : Fin 4 → Nat :=
  let v2883 : Index := Scalar.indexCast v2882
  let c0_1967 : Index := 0#32
  let c0_1968 : Index := 0#32
  let c0_1969 : Index := 0#32
  ![v2883.toNat, 0, 0, 0]

def k0_chk152 (v2882 : BitVec 32) : Prop :=
  (∀ a, (k0_off181 v2882) a + S1x2x16x128.size a ≤ S112x2x16x128.size a)
theorem k0_off181_inb : ∀ (v2882 : BitVec 32) (k0_hw152 : k0_chk152 v2882), ∀ a, (k0_off181 v2882) a + S1x2x16x128.size a ≤ S112x2x16x128.size a := fun v2882 k0_hw152 => k0_hw152

def k0_off182 (v2886 : BitVec 32) : Fin 4 → Nat :=
  let v2887 : Index := Scalar.indexCast v2886
  let c0_1970 : Index := 0#32
  let c0_1971 : Index := 0#32
  let c0_1972 : Index := 0#32
  ![v2887.toNat, 0, 0, 0]

def k0_chk153 (v2886 : BitVec 32) : Prop :=
  (∀ a, (k0_off182 v2886) a + S1x2x16x128.size a ≤ S112x2x16x128.size a)
theorem k0_off182_inb : ∀ (v2886 : BitVec 32) (k0_hw153 : k0_chk153 v2886), ∀ a, (k0_off182 v2886) a + S1x2x16x128.size a ≤ S112x2x16x128.size a := fun v2886 k0_hw153 => k0_hw153

def k0_off183 (v2890 : BitVec 32) : Fin 4 → Nat :=
  let v2891 : Index := Scalar.indexCast v2890
  let c0_1973 : Index := 0#32
  let c0_1974 : Index := 0#32
  let c0_1975 : Index := 0#32
  ![v2891.toNat, 0, 0, 0]

def k0_chk154 (v2890 : BitVec 32) : Prop :=
  (∀ a, (k0_off183 v2890) a + S1x2x16x128.size a ≤ S112x2x16x128.size a)
theorem k0_off183_inb : ∀ (v2890 : BitVec 32) (k0_hw154 : k0_chk154 v2890), ∀ a, (k0_off183 v2890) a + S1x2x16x128.size a ≤ S112x2x16x128.size a := fun v2890 k0_hw154 => k0_hw154

def k0_off184 (v2917 : BitVec 32) : Fin 4 → Nat :=
  let v2918 : Index := Scalar.indexCast v2917
  let c0_1987 : Index := 0#32
  let c0_1988 : Index := 0#32
  let c0_1989 : Index := 0#32
  ![v2918.toNat, 0, 0, 0]

def k0_chk155 (v2917 : BitVec 32) : Prop :=
  (∀ a, (k0_off184 v2917) a + S1x2x16x128.size a ≤ S112x2x16x128.size a)
theorem k0_off184_inb : ∀ (v2917 : BitVec 32) (k0_hw155 : k0_chk155 v2917), ∀ a, (k0_off184 v2917) a + S1x2x16x128.size a ≤ S112x2x16x128.size a := fun v2917 k0_hw155 => k0_hw155

def k0_off185 (v2921 : BitVec 32) : Fin 4 → Nat :=
  let v2922 : Index := Scalar.indexCast v2921
  let c0_1990 : Index := 0#32
  let c0_1991 : Index := 0#32
  let c0_1992 : Index := 0#32
  ![v2922.toNat, 0, 0, 0]

def k0_chk156 (v2921 : BitVec 32) : Prop :=
  (∀ a, (k0_off185 v2921) a + S1x2x16x128.size a ≤ S112x2x16x128.size a)
theorem k0_off185_inb : ∀ (v2921 : BitVec 32) (k0_hw156 : k0_chk156 v2921), ∀ a, (k0_off185 v2921) a + S1x2x16x128.size a ≤ S112x2x16x128.size a := fun v2921 k0_hw156 => k0_hw156

def k0_off186 (v2925 : BitVec 32) : Fin 4 → Nat :=
  let v2926 : Index := Scalar.indexCast v2925
  let c0_1993 : Index := 0#32
  let c0_1994 : Index := 0#32
  let c0_1995 : Index := 0#32
  ![v2926.toNat, 0, 0, 0]

def k0_chk157 (v2925 : BitVec 32) : Prop :=
  (∀ a, (k0_off186 v2925) a + S1x2x16x128.size a ≤ S112x2x16x128.size a)
theorem k0_off186_inb : ∀ (v2925 : BitVec 32) (k0_hw157 : k0_chk157 v2925), ∀ a, (k0_off186 v2925) a + S1x2x16x128.size a ≤ S112x2x16x128.size a := fun v2925 k0_hw157 => k0_hw157

def k0_off187 (v2929 : BitVec 32) : Fin 4 → Nat :=
  let v2930 : Index := Scalar.indexCast v2929
  let c0_1996 : Index := 0#32
  let c0_1997 : Index := 0#32
  let c0_1998 : Index := 0#32
  ![v2930.toNat, 0, 0, 0]

def k0_chk158 (v2929 : BitVec 32) : Prop :=
  (∀ a, (k0_off187 v2929) a + S1x2x16x128.size a ≤ S112x2x16x128.size a)
theorem k0_off187_inb : ∀ (v2929 : BitVec 32) (k0_hw158 : k0_chk158 v2929), ∀ a, (k0_off187 v2929) a + S1x2x16x128.size a ≤ S112x2x16x128.size a := fun v2929 k0_hw158 => k0_hw158

def k0_off188 (v2933 : BitVec 32) : Fin 4 → Nat :=
  let v2934 : Index := Scalar.indexCast v2933
  let c0_1999 : Index := 0#32
  let c0_2000 : Index := 0#32
  let c0_2001 : Index := 0#32
  ![v2934.toNat, 0, 0, 0]

def k0_chk159 (v2933 : BitVec 32) : Prop :=
  (∀ a, (k0_off188 v2933) a + S1x2x16x128.size a ≤ S112x2x16x128.size a)
theorem k0_off188_inb : ∀ (v2933 : BitVec 32) (k0_hw159 : k0_chk159 v2933), ∀ a, (k0_off188 v2933) a + S1x2x16x128.size a ≤ S112x2x16x128.size a := fun v2933 k0_hw159 => k0_hw159

def k0_off189 (v2937 : BitVec 32) : Fin 4 → Nat :=
  let v2938 : Index := Scalar.indexCast v2937
  let c0_2002 : Index := 0#32
  let c0_2003 : Index := 0#32
  let c0_2004 : Index := 0#32
  ![v2938.toNat, 0, 0, 0]

def k0_chk160 (v2937 : BitVec 32) : Prop :=
  (∀ a, (k0_off189 v2937) a + S1x2x16x128.size a ≤ S112x2x16x128.size a)
theorem k0_off189_inb : ∀ (v2937 : BitVec 32) (k0_hw160 : k0_chk160 v2937), ∀ a, (k0_off189 v2937) a + S1x2x16x128.size a ≤ S112x2x16x128.size a := fun v2937 k0_hw160 => k0_hw160

def k0_off190 (v2941 : BitVec 32) : Fin 4 → Nat :=
  let v2942 : Index := Scalar.indexCast v2941
  let c0_2005 : Index := 0#32
  let c0_2006 : Index := 0#32
  let c0_2007 : Index := 0#32
  ![v2942.toNat, 0, 0, 0]

def k0_chk161 (v2941 : BitVec 32) : Prop :=
  (∀ a, (k0_off190 v2941) a + S1x2x16x128.size a ≤ S112x2x16x128.size a)
theorem k0_off190_inb : ∀ (v2941 : BitVec 32) (k0_hw161 : k0_chk161 v2941), ∀ a, (k0_off190 v2941) a + S1x2x16x128.size a ≤ S112x2x16x128.size a := fun v2941 k0_hw161 => k0_hw161

def k0_off191 (v2968 : BitVec 32) : Fin 4 → Nat :=
  let v2969 : Index := Scalar.indexCast v2968
  let c0_2019 : Index := 0#32
  let c0_2020 : Index := 0#32
  let c0_2021 : Index := 0#32
  ![v2969.toNat, 0, 0, 0]

def k0_chk162 (v2968 : BitVec 32) : Prop :=
  (∀ a, (k0_off191 v2968) a + S1x2x16x128.size a ≤ S112x2x16x128.size a)
theorem k0_off191_inb : ∀ (v2968 : BitVec 32) (k0_hw162 : k0_chk162 v2968), ∀ a, (k0_off191 v2968) a + S1x2x16x128.size a ≤ S112x2x16x128.size a := fun v2968 k0_hw162 => k0_hw162

def k0_off192 (v2972 : BitVec 32) : Fin 4 → Nat :=
  let v2973 : Index := Scalar.indexCast v2972
  let c0_2022 : Index := 0#32
  let c0_2023 : Index := 0#32
  let c0_2024 : Index := 0#32
  ![v2973.toNat, 0, 0, 0]

def k0_chk163 (v2972 : BitVec 32) : Prop :=
  (∀ a, (k0_off192 v2972) a + S1x2x16x128.size a ≤ S112x2x16x128.size a)
theorem k0_off192_inb : ∀ (v2972 : BitVec 32) (k0_hw163 : k0_chk163 v2972), ∀ a, (k0_off192 v2972) a + S1x2x16x128.size a ≤ S112x2x16x128.size a := fun v2972 k0_hw163 => k0_hw163

def k0_off193 (v2976 : BitVec 32) : Fin 4 → Nat :=
  let v2977 : Index := Scalar.indexCast v2976
  let c0_2025 : Index := 0#32
  let c0_2026 : Index := 0#32
  let c0_2027 : Index := 0#32
  ![v2977.toNat, 0, 0, 0]

def k0_chk164 (v2976 : BitVec 32) : Prop :=
  (∀ a, (k0_off193 v2976) a + S1x2x16x128.size a ≤ S112x2x16x128.size a)
theorem k0_off193_inb : ∀ (v2976 : BitVec 32) (k0_hw164 : k0_chk164 v2976), ∀ a, (k0_off193 v2976) a + S1x2x16x128.size a ≤ S112x2x16x128.size a := fun v2976 k0_hw164 => k0_hw164

def k0_off194 (v2980 : BitVec 32) : Fin 4 → Nat :=
  let v2981 : Index := Scalar.indexCast v2980
  let c0_2028 : Index := 0#32
  let c0_2029 : Index := 0#32
  let c0_2030 : Index := 0#32
  ![v2981.toNat, 0, 0, 0]

def k0_chk165 (v2980 : BitVec 32) : Prop :=
  (∀ a, (k0_off194 v2980) a + S1x2x16x128.size a ≤ S112x2x16x128.size a)
theorem k0_off194_inb : ∀ (v2980 : BitVec 32) (k0_hw165 : k0_chk165 v2980), ∀ a, (k0_off194 v2980) a + S1x2x16x128.size a ≤ S112x2x16x128.size a := fun v2980 k0_hw165 => k0_hw165

def k0_off195 (v2984 : BitVec 32) : Fin 4 → Nat :=
  let v2985 : Index := Scalar.indexCast v2984
  let c0_2031 : Index := 0#32
  let c0_2032 : Index := 0#32
  let c0_2033 : Index := 0#32
  ![v2985.toNat, 0, 0, 0]

def k0_chk166 (v2984 : BitVec 32) : Prop :=
  (∀ a, (k0_off195 v2984) a + S1x2x16x128.size a ≤ S112x2x16x128.size a)
theorem k0_off195_inb : ∀ (v2984 : BitVec 32) (k0_hw166 : k0_chk166 v2984), ∀ a, (k0_off195 v2984) a + S1x2x16x128.size a ≤ S112x2x16x128.size a := fun v2984 k0_hw166 => k0_hw166

def k0_off196 (v2988 : BitVec 32) : Fin 4 → Nat :=
  let v2989 : Index := Scalar.indexCast v2988
  let c0_2034 : Index := 0#32
  let c0_2035 : Index := 0#32
  let c0_2036 : Index := 0#32
  ![v2989.toNat, 0, 0, 0]

def k0_chk167 (v2988 : BitVec 32) : Prop :=
  (∀ a, (k0_off196 v2988) a + S1x2x16x128.size a ≤ S112x2x16x128.size a)
theorem k0_off196_inb : ∀ (v2988 : BitVec 32) (k0_hw167 : k0_chk167 v2988), ∀ a, (k0_off196 v2988) a + S1x2x16x128.size a ≤ S112x2x16x128.size a := fun v2988 k0_hw167 => k0_hw167

def k0_off197 (v2992 : BitVec 32) : Fin 4 → Nat :=
  let v2993 : Index := Scalar.indexCast v2992
  let c0_2037 : Index := 0#32
  let c0_2038 : Index := 0#32
  let c0_2039 : Index := 0#32
  ![v2993.toNat, 0, 0, 0]

def k0_chk168 (v2992 : BitVec 32) : Prop :=
  (∀ a, (k0_off197 v2992) a + S1x2x16x128.size a ≤ S112x2x16x128.size a)
theorem k0_off197_inb : ∀ (v2992 : BitVec 32) (k0_hw168 : k0_chk168 v2992), ∀ a, (k0_off197 v2992) a + S1x2x16x128.size a ≤ S112x2x16x128.size a := fun v2992 k0_hw168 => k0_hw168

def k0_off198 (v3019 : BitVec 32) : Fin 4 → Nat :=
  let v3020 : Index := Scalar.indexCast v3019
  let c0_2052 : Index := 0#32
  let c0_2053 : Index := 0#32
  let c0_2054 : Index := 0#32
  ![v3020.toNat, 0, 0, 0]

def k0_chk169 (v3019 : BitVec 32) : Prop :=
  (∀ a, (k0_off198 v3019) a + S1x2x16x128.size a ≤ S112x2x16x128.size a)
theorem k0_off198_inb : ∀ (v3019 : BitVec 32) (k0_hw169 : k0_chk169 v3019), ∀ a, (k0_off198 v3019) a + S1x2x16x128.size a ≤ S112x2x16x128.size a := fun v3019 k0_hw169 => k0_hw169

def k0_off199 (v3023 : BitVec 32) : Fin 4 → Nat :=
  let v3024 : Index := Scalar.indexCast v3023
  let c0_2055 : Index := 0#32
  let c0_2056 : Index := 0#32
  let c0_2057 : Index := 0#32
  ![v3024.toNat, 0, 0, 0]

def k0_chk170 (v3023 : BitVec 32) : Prop :=
  (∀ a, (k0_off199 v3023) a + S1x2x16x128.size a ≤ S112x2x16x128.size a)
theorem k0_off199_inb : ∀ (v3023 : BitVec 32) (k0_hw170 : k0_chk170 v3023), ∀ a, (k0_off199 v3023) a + S1x2x16x128.size a ≤ S112x2x16x128.size a := fun v3023 k0_hw170 => k0_hw170

def k0_off200 (v3027 : BitVec 32) : Fin 4 → Nat :=
  let v3028 : Index := Scalar.indexCast v3027
  let c0_2058 : Index := 0#32
  let c0_2059 : Index := 0#32
  let c0_2060 : Index := 0#32
  ![v3028.toNat, 0, 0, 0]

def k0_chk171 (v3027 : BitVec 32) : Prop :=
  (∀ a, (k0_off200 v3027) a + S1x2x16x128.size a ≤ S112x2x16x128.size a)
theorem k0_off200_inb : ∀ (v3027 : BitVec 32) (k0_hw171 : k0_chk171 v3027), ∀ a, (k0_off200 v3027) a + S1x2x16x128.size a ≤ S112x2x16x128.size a := fun v3027 k0_hw171 => k0_hw171

def k0_off201 (v3031 : BitVec 32) : Fin 4 → Nat :=
  let v3032 : Index := Scalar.indexCast v3031
  let c0_2061 : Index := 0#32
  let c0_2062 : Index := 0#32
  let c0_2063 : Index := 0#32
  ![v3032.toNat, 0, 0, 0]

def k0_chk172 (v3031 : BitVec 32) : Prop :=
  (∀ a, (k0_off201 v3031) a + S1x2x16x128.size a ≤ S112x2x16x128.size a)
theorem k0_off201_inb : ∀ (v3031 : BitVec 32) (k0_hw172 : k0_chk172 v3031), ∀ a, (k0_off201 v3031) a + S1x2x16x128.size a ≤ S112x2x16x128.size a := fun v3031 k0_hw172 => k0_hw172

def k0_off202 (v3035 : BitVec 32) : Fin 4 → Nat :=
  let v3036 : Index := Scalar.indexCast v3035
  let c0_2064 : Index := 0#32
  let c0_2065 : Index := 0#32
  let c0_2066 : Index := 0#32
  ![v3036.toNat, 0, 0, 0]

def k0_chk173 (v3035 : BitVec 32) : Prop :=
  (∀ a, (k0_off202 v3035) a + S1x2x16x128.size a ≤ S112x2x16x128.size a)
theorem k0_off202_inb : ∀ (v3035 : BitVec 32) (k0_hw173 : k0_chk173 v3035), ∀ a, (k0_off202 v3035) a + S1x2x16x128.size a ≤ S112x2x16x128.size a := fun v3035 k0_hw173 => k0_hw173

def k0_off203 (v3039 : BitVec 32) : Fin 4 → Nat :=
  let v3040 : Index := Scalar.indexCast v3039
  let c0_2067 : Index := 0#32
  let c0_2068 : Index := 0#32
  let c0_2069 : Index := 0#32
  ![v3040.toNat, 0, 0, 0]

def k0_chk174 (v3039 : BitVec 32) : Prop :=
  (∀ a, (k0_off203 v3039) a + S1x2x16x128.size a ≤ S112x2x16x128.size a)
theorem k0_off203_inb : ∀ (v3039 : BitVec 32) (k0_hw174 : k0_chk174 v3039), ∀ a, (k0_off203 v3039) a + S1x2x16x128.size a ≤ S112x2x16x128.size a := fun v3039 k0_hw174 => k0_hw174

def k0_off204 (v3043 : BitVec 32) : Fin 4 → Nat :=
  let v3044 : Index := Scalar.indexCast v3043
  let c0_2070 : Index := 0#32
  let c0_2071 : Index := 0#32
  let c0_2072 : Index := 0#32
  ![v3044.toNat, 0, 0, 0]

def k0_chk175 (v3043 : BitVec 32) : Prop :=
  (∀ a, (k0_off204 v3043) a + S1x2x16x128.size a ≤ S112x2x16x128.size a)
theorem k0_off204_inb : ∀ (v3043 : BitVec 32) (k0_hw175 : k0_chk175 v3043), ∀ a, (k0_off204 v3043) a + S1x2x16x128.size a ≤ S112x2x16x128.size a := fun v3043 k0_hw175 => k0_hw175

def k0_off205 (v3070 : BitVec 32) : Fin 4 → Nat :=
  let v3071 : Index := Scalar.indexCast v3070
  let c0_2085 : Index := 0#32
  let c0_2086 : Index := 0#32
  let c0_2087 : Index := 0#32
  ![v3071.toNat, 0, 0, 0]

def k0_chk176 (v3070 : BitVec 32) : Prop :=
  (∀ a, (k0_off205 v3070) a + S1x2x16x128.size a ≤ S112x2x16x128.size a)
theorem k0_off205_inb : ∀ (v3070 : BitVec 32) (k0_hw176 : k0_chk176 v3070), ∀ a, (k0_off205 v3070) a + S1x2x16x128.size a ≤ S112x2x16x128.size a := fun v3070 k0_hw176 => k0_hw176

def k0_off206 (v3074 : BitVec 32) : Fin 4 → Nat :=
  let v3075 : Index := Scalar.indexCast v3074
  let c0_2088 : Index := 0#32
  let c0_2089 : Index := 0#32
  let c0_2090 : Index := 0#32
  ![v3075.toNat, 0, 0, 0]

def k0_chk177 (v3074 : BitVec 32) : Prop :=
  (∀ a, (k0_off206 v3074) a + S1x2x16x128.size a ≤ S112x2x16x128.size a)
theorem k0_off206_inb : ∀ (v3074 : BitVec 32) (k0_hw177 : k0_chk177 v3074), ∀ a, (k0_off206 v3074) a + S1x2x16x128.size a ≤ S112x2x16x128.size a := fun v3074 k0_hw177 => k0_hw177

def k0_off207 (v3078 : BitVec 32) : Fin 4 → Nat :=
  let v3079 : Index := Scalar.indexCast v3078
  let c0_2091 : Index := 0#32
  let c0_2092 : Index := 0#32
  let c0_2093 : Index := 0#32
  ![v3079.toNat, 0, 0, 0]

def k0_chk178 (v3078 : BitVec 32) : Prop :=
  (∀ a, (k0_off207 v3078) a + S1x2x16x128.size a ≤ S112x2x16x128.size a)
theorem k0_off207_inb : ∀ (v3078 : BitVec 32) (k0_hw178 : k0_chk178 v3078), ∀ a, (k0_off207 v3078) a + S1x2x16x128.size a ≤ S112x2x16x128.size a := fun v3078 k0_hw178 => k0_hw178

def k0_off208 (v3082 : BitVec 32) : Fin 4 → Nat :=
  let v3083 : Index := Scalar.indexCast v3082
  let c0_2094 : Index := 0#32
  let c0_2095 : Index := 0#32
  let c0_2096 : Index := 0#32
  ![v3083.toNat, 0, 0, 0]

def k0_chk179 (v3082 : BitVec 32) : Prop :=
  (∀ a, (k0_off208 v3082) a + S1x2x16x128.size a ≤ S112x2x16x128.size a)
theorem k0_off208_inb : ∀ (v3082 : BitVec 32) (k0_hw179 : k0_chk179 v3082), ∀ a, (k0_off208 v3082) a + S1x2x16x128.size a ≤ S112x2x16x128.size a := fun v3082 k0_hw179 => k0_hw179

def k0_off209 (v3086 : BitVec 32) : Fin 4 → Nat :=
  let v3087 : Index := Scalar.indexCast v3086
  let c0_2097 : Index := 0#32
  let c0_2098 : Index := 0#32
  let c0_2099 : Index := 0#32
  ![v3087.toNat, 0, 0, 0]

def k0_chk180 (v3086 : BitVec 32) : Prop :=
  (∀ a, (k0_off209 v3086) a + S1x2x16x128.size a ≤ S112x2x16x128.size a)
theorem k0_off209_inb : ∀ (v3086 : BitVec 32) (k0_hw180 : k0_chk180 v3086), ∀ a, (k0_off209 v3086) a + S1x2x16x128.size a ≤ S112x2x16x128.size a := fun v3086 k0_hw180 => k0_hw180

def k0_off210 (v3090 : BitVec 32) : Fin 4 → Nat :=
  let v3091 : Index := Scalar.indexCast v3090
  let c0_2100 : Index := 0#32
  let c0_2101 : Index := 0#32
  let c0_2102 : Index := 0#32
  ![v3091.toNat, 0, 0, 0]

def k0_chk181 (v3090 : BitVec 32) : Prop :=
  (∀ a, (k0_off210 v3090) a + S1x2x16x128.size a ≤ S112x2x16x128.size a)
theorem k0_off210_inb : ∀ (v3090 : BitVec 32) (k0_hw181 : k0_chk181 v3090), ∀ a, (k0_off210 v3090) a + S1x2x16x128.size a ≤ S112x2x16x128.size a := fun v3090 k0_hw181 => k0_hw181

def k0_off211 (v3094 : BitVec 32) : Fin 4 → Nat :=
  let v3095 : Index := Scalar.indexCast v3094
  let c0_2103 : Index := 0#32
  let c0_2104 : Index := 0#32
  let c0_2105 : Index := 0#32
  ![v3095.toNat, 0, 0, 0]

def k0_chk182 (v3094 : BitVec 32) : Prop :=
  (∀ a, (k0_off211 v3094) a + S1x2x16x128.size a ≤ S112x2x16x128.size a)
theorem k0_off211_inb : ∀ (v3094 : BitVec 32) (k0_hw182 : k0_chk182 v3094), ∀ a, (k0_off211 v3094) a + S1x2x16x128.size a ≤ S112x2x16x128.size a := fun v3094 k0_hw182 => k0_hw182

def k0_off212 (v3121 : BitVec 32) : Fin 4 → Nat :=
  let v3122 : Index := Scalar.indexCast v3121
  let c0_2117 : Index := 0#32
  let c0_2118 : Index := 0#32
  let c0_2119 : Index := 0#32
  ![v3122.toNat, 0, 0, 0]

def k0_chk183 (v3121 : BitVec 32) : Prop :=
  (∀ a, (k0_off212 v3121) a + S1x2x16x128.size a ≤ S112x2x16x128.size a)
theorem k0_off212_inb : ∀ (v3121 : BitVec 32) (k0_hw183 : k0_chk183 v3121), ∀ a, (k0_off212 v3121) a + S1x2x16x128.size a ≤ S112x2x16x128.size a := fun v3121 k0_hw183 => k0_hw183

def k0_off213 (v3125 : BitVec 32) : Fin 4 → Nat :=
  let v3126 : Index := Scalar.indexCast v3125
  let c0_2120 : Index := 0#32
  let c0_2121 : Index := 0#32
  let c0_2122 : Index := 0#32
  ![v3126.toNat, 0, 0, 0]

def k0_chk184 (v3125 : BitVec 32) : Prop :=
  (∀ a, (k0_off213 v3125) a + S1x2x16x128.size a ≤ S112x2x16x128.size a)
theorem k0_off213_inb : ∀ (v3125 : BitVec 32) (k0_hw184 : k0_chk184 v3125), ∀ a, (k0_off213 v3125) a + S1x2x16x128.size a ≤ S112x2x16x128.size a := fun v3125 k0_hw184 => k0_hw184

def k0_off214 (v3129 : BitVec 32) : Fin 4 → Nat :=
  let v3130 : Index := Scalar.indexCast v3129
  let c0_2123 : Index := 0#32
  let c0_2124 : Index := 0#32
  let c0_2125 : Index := 0#32
  ![v3130.toNat, 0, 0, 0]

def k0_chk185 (v3129 : BitVec 32) : Prop :=
  (∀ a, (k0_off214 v3129) a + S1x2x16x128.size a ≤ S112x2x16x128.size a)
theorem k0_off214_inb : ∀ (v3129 : BitVec 32) (k0_hw185 : k0_chk185 v3129), ∀ a, (k0_off214 v3129) a + S1x2x16x128.size a ≤ S112x2x16x128.size a := fun v3129 k0_hw185 => k0_hw185

def k0_off215 (v3133 : BitVec 32) : Fin 4 → Nat :=
  let v3134 : Index := Scalar.indexCast v3133
  let c0_2126 : Index := 0#32
  let c0_2127 : Index := 0#32
  let c0_2128 : Index := 0#32
  ![v3134.toNat, 0, 0, 0]

def k0_chk186 (v3133 : BitVec 32) : Prop :=
  (∀ a, (k0_off215 v3133) a + S1x2x16x128.size a ≤ S112x2x16x128.size a)
theorem k0_off215_inb : ∀ (v3133 : BitVec 32) (k0_hw186 : k0_chk186 v3133), ∀ a, (k0_off215 v3133) a + S1x2x16x128.size a ≤ S112x2x16x128.size a := fun v3133 k0_hw186 => k0_hw186

def k0_off216 (v3137 : BitVec 32) : Fin 4 → Nat :=
  let v3138 : Index := Scalar.indexCast v3137
  let c0_2129 : Index := 0#32
  let c0_2130 : Index := 0#32
  let c0_2131 : Index := 0#32
  ![v3138.toNat, 0, 0, 0]

def k0_chk187 (v3137 : BitVec 32) : Prop :=
  (∀ a, (k0_off216 v3137) a + S1x2x16x128.size a ≤ S112x2x16x128.size a)
theorem k0_off216_inb : ∀ (v3137 : BitVec 32) (k0_hw187 : k0_chk187 v3137), ∀ a, (k0_off216 v3137) a + S1x2x16x128.size a ≤ S112x2x16x128.size a := fun v3137 k0_hw187 => k0_hw187

def k0_off217 (v3141 : BitVec 32) : Fin 4 → Nat :=
  let v3142 : Index := Scalar.indexCast v3141
  let c0_2132 : Index := 0#32
  let c0_2133 : Index := 0#32
  let c0_2134 : Index := 0#32
  ![v3142.toNat, 0, 0, 0]

def k0_chk188 (v3141 : BitVec 32) : Prop :=
  (∀ a, (k0_off217 v3141) a + S1x2x16x128.size a ≤ S112x2x16x128.size a)
theorem k0_off217_inb : ∀ (v3141 : BitVec 32) (k0_hw188 : k0_chk188 v3141), ∀ a, (k0_off217 v3141) a + S1x2x16x128.size a ≤ S112x2x16x128.size a := fun v3141 k0_hw188 => k0_hw188

def k0_off218 (v3145 : BitVec 32) : Fin 4 → Nat :=
  let v3146 : Index := Scalar.indexCast v3145
  let c0_2135 : Index := 0#32
  let c0_2136 : Index := 0#32
  let c0_2137 : Index := 0#32
  ![v3146.toNat, 0, 0, 0]

def k0_chk189 (v3145 : BitVec 32) : Prop :=
  (∀ a, (k0_off218 v3145) a + S1x2x16x128.size a ≤ S112x2x16x128.size a)
theorem k0_off218_inb : ∀ (v3145 : BitVec 32) (k0_hw189 : k0_chk189 v3145), ∀ a, (k0_off218 v3145) a + S1x2x16x128.size a ≤ S112x2x16x128.size a := fun v3145 k0_hw189 => k0_hw189

def k0_off219 (v3172 : BitVec 32) : Fin 4 → Nat :=
  let v3173 : Index := Scalar.indexCast v3172
  let c0_2149 : Index := 0#32
  let c0_2150 : Index := 0#32
  let c0_2151 : Index := 0#32
  ![v3173.toNat, 0, 0, 0]

def k0_chk190 (v3172 : BitVec 32) : Prop :=
  (∀ a, (k0_off219 v3172) a + S1x2x16x128.size a ≤ S112x2x16x128.size a)
theorem k0_off219_inb : ∀ (v3172 : BitVec 32) (k0_hw190 : k0_chk190 v3172), ∀ a, (k0_off219 v3172) a + S1x2x16x128.size a ≤ S112x2x16x128.size a := fun v3172 k0_hw190 => k0_hw190

def k0_off220 (v3176 : BitVec 32) : Fin 4 → Nat :=
  let v3177 : Index := Scalar.indexCast v3176
  let c0_2152 : Index := 0#32
  let c0_2153 : Index := 0#32
  let c0_2154 : Index := 0#32
  ![v3177.toNat, 0, 0, 0]

def k0_chk191 (v3176 : BitVec 32) : Prop :=
  (∀ a, (k0_off220 v3176) a + S1x2x16x128.size a ≤ S112x2x16x128.size a)
theorem k0_off220_inb : ∀ (v3176 : BitVec 32) (k0_hw191 : k0_chk191 v3176), ∀ a, (k0_off220 v3176) a + S1x2x16x128.size a ≤ S112x2x16x128.size a := fun v3176 k0_hw191 => k0_hw191

def k0_off221 (v3180 : BitVec 32) : Fin 4 → Nat :=
  let v3181 : Index := Scalar.indexCast v3180
  let c0_2155 : Index := 0#32
  let c0_2156 : Index := 0#32
  let c0_2157 : Index := 0#32
  ![v3181.toNat, 0, 0, 0]

def k0_chk192 (v3180 : BitVec 32) : Prop :=
  (∀ a, (k0_off221 v3180) a + S1x2x16x128.size a ≤ S112x2x16x128.size a)
theorem k0_off221_inb : ∀ (v3180 : BitVec 32) (k0_hw192 : k0_chk192 v3180), ∀ a, (k0_off221 v3180) a + S1x2x16x128.size a ≤ S112x2x16x128.size a := fun v3180 k0_hw192 => k0_hw192

def k0_off222 (v3184 : BitVec 32) : Fin 4 → Nat :=
  let v3185 : Index := Scalar.indexCast v3184
  let c0_2158 : Index := 0#32
  let c0_2159 : Index := 0#32
  let c0_2160 : Index := 0#32
  ![v3185.toNat, 0, 0, 0]

def k0_chk193 (v3184 : BitVec 32) : Prop :=
  (∀ a, (k0_off222 v3184) a + S1x2x16x128.size a ≤ S112x2x16x128.size a)
theorem k0_off222_inb : ∀ (v3184 : BitVec 32) (k0_hw193 : k0_chk193 v3184), ∀ a, (k0_off222 v3184) a + S1x2x16x128.size a ≤ S112x2x16x128.size a := fun v3184 k0_hw193 => k0_hw193

def k0_off223 (v3188 : BitVec 32) : Fin 4 → Nat :=
  let v3189 : Index := Scalar.indexCast v3188
  let c0_2161 : Index := 0#32
  let c0_2162 : Index := 0#32
  let c0_2163 : Index := 0#32
  ![v3189.toNat, 0, 0, 0]

def k0_chk194 (v3188 : BitVec 32) : Prop :=
  (∀ a, (k0_off223 v3188) a + S1x2x16x128.size a ≤ S112x2x16x128.size a)
theorem k0_off223_inb : ∀ (v3188 : BitVec 32) (k0_hw194 : k0_chk194 v3188), ∀ a, (k0_off223 v3188) a + S1x2x16x128.size a ≤ S112x2x16x128.size a := fun v3188 k0_hw194 => k0_hw194

def k0_off224 (v3192 : BitVec 32) : Fin 4 → Nat :=
  let v3193 : Index := Scalar.indexCast v3192
  let c0_2164 : Index := 0#32
  let c0_2165 : Index := 0#32
  let c0_2166 : Index := 0#32
  ![v3193.toNat, 0, 0, 0]

def k0_chk195 (v3192 : BitVec 32) : Prop :=
  (∀ a, (k0_off224 v3192) a + S1x2x16x128.size a ≤ S112x2x16x128.size a)
theorem k0_off224_inb : ∀ (v3192 : BitVec 32) (k0_hw195 : k0_chk195 v3192), ∀ a, (k0_off224 v3192) a + S1x2x16x128.size a ≤ S112x2x16x128.size a := fun v3192 k0_hw195 => k0_hw195

def k0_off225 (v3196 : BitVec 32) : Fin 4 → Nat :=
  let v3197 : Index := Scalar.indexCast v3196
  let c0_2167 : Index := 0#32
  let c0_2168 : Index := 0#32
  let c0_2169 : Index := 0#32
  ![v3197.toNat, 0, 0, 0]

def k0_chk196 (v3196 : BitVec 32) : Prop :=
  (∀ a, (k0_off225 v3196) a + S1x2x16x128.size a ≤ S112x2x16x128.size a)
theorem k0_off225_inb : ∀ (v3196 : BitVec 32) (k0_hw196 : k0_chk196 v3196), ∀ a, (k0_off225 v3196) a + S1x2x16x128.size a ≤ S112x2x16x128.size a := fun v3196 k0_hw196 => k0_hw196

def k0_off226 (v5015 : BitVec 32) : Fin 4 → Nat :=
  let v5016 : Index := Scalar.indexCast v5015
  let c0_3473 : Index := 0#32
  let c0_3474 : Index := 0#32
  let c0_3475 : Index := 0#32
  ![v5016.toNat, 0, 0, 0]

def k0_chk197 (v5015 : BitVec 32) : Prop :=
  (∀ a, (k0_off226 v5015) a + S1x2x16x128.size a ≤ S112x2x16x128.size a)
theorem k0_off226_inb : ∀ (v5015 : BitVec 32) (k0_hw197 : k0_chk197 v5015), ∀ a, (k0_off226 v5015) a + S1x2x16x128.size a ≤ S112x2x16x128.size a := fun v5015 k0_hw197 => k0_hw197

def k0_off227 (v5019 : BitVec 32) : Fin 4 → Nat :=
  let v5020 : Index := Scalar.indexCast v5019
  let c0_3477 : Index := 0#32
  let c0_3478 : Index := 0#32
  let c0_3479 : Index := 0#32
  ![v5020.toNat, 0, 0, 0]

def k0_chk198 (v5019 : BitVec 32) : Prop :=
  (∀ a, (k0_off227 v5019) a + S1x2x16x128.size a ≤ S112x2x16x128.size a)
theorem k0_off227_inb : ∀ (v5019 : BitVec 32) (k0_hw198 : k0_chk198 v5019), ∀ a, (k0_off227 v5019) a + S1x2x16x128.size a ≤ S112x2x16x128.size a := fun v5019 k0_hw198 => k0_hw198

def k0_off228 (v5023 : BitVec 32) : Fin 4 → Nat :=
  let v5024 : Index := Scalar.indexCast v5023
  let c0_3481 : Index := 0#32
  let c0_3482 : Index := 0#32
  let c0_3483 : Index := 0#32
  ![v5024.toNat, 0, 0, 0]

def k0_chk199 (v5023 : BitVec 32) : Prop :=
  (∀ a, (k0_off228 v5023) a + S1x2x16x128.size a ≤ S112x2x16x128.size a)
theorem k0_off228_inb : ∀ (v5023 : BitVec 32) (k0_hw199 : k0_chk199 v5023), ∀ a, (k0_off228 v5023) a + S1x2x16x128.size a ≤ S112x2x16x128.size a := fun v5023 k0_hw199 => k0_hw199

def k0_off229 (v5027 : BitVec 32) : Fin 4 → Nat :=
  let v5028 : Index := Scalar.indexCast v5027
  let c0_3485 : Index := 0#32
  let c0_3486 : Index := 0#32
  let c0_3487 : Index := 0#32
  ![v5028.toNat, 0, 0, 0]

def k0_chk200 (v5027 : BitVec 32) : Prop :=
  (∀ a, (k0_off229 v5027) a + S1x2x16x128.size a ≤ S112x2x16x128.size a)
theorem k0_off229_inb : ∀ (v5027 : BitVec 32) (k0_hw200 : k0_chk200 v5027), ∀ a, (k0_off229 v5027) a + S1x2x16x128.size a ≤ S112x2x16x128.size a := fun v5027 k0_hw200 => k0_hw200

def k0_off230 (v5031 : BitVec 32) : Fin 4 → Nat :=
  let v5032 : Index := Scalar.indexCast v5031
  let c0_3489 : Index := 0#32
  let c0_3490 : Index := 0#32
  let c0_3491 : Index := 0#32
  ![v5032.toNat, 0, 0, 0]

def k0_chk201 (v5031 : BitVec 32) : Prop :=
  (∀ a, (k0_off230 v5031) a + S1x2x16x128.size a ≤ S112x2x16x128.size a)
theorem k0_off230_inb : ∀ (v5031 : BitVec 32) (k0_hw201 : k0_chk201 v5031), ∀ a, (k0_off230 v5031) a + S1x2x16x128.size a ≤ S112x2x16x128.size a := fun v5031 k0_hw201 => k0_hw201

def k0_off231 (v5035 : BitVec 32) : Fin 4 → Nat :=
  let v5036 : Index := Scalar.indexCast v5035
  let c0_3493 : Index := 0#32
  let c0_3494 : Index := 0#32
  let c0_3495 : Index := 0#32
  ![v5036.toNat, 0, 0, 0]

def k0_chk202 (v5035 : BitVec 32) : Prop :=
  (∀ a, (k0_off231 v5035) a + S1x2x16x128.size a ≤ S112x2x16x128.size a)
theorem k0_off231_inb : ∀ (v5035 : BitVec 32) (k0_hw202 : k0_chk202 v5035), ∀ a, (k0_off231 v5035) a + S1x2x16x128.size a ≤ S112x2x16x128.size a := fun v5035 k0_hw202 => k0_hw202

def k0_off232 (v5039 : BitVec 32) : Fin 4 → Nat :=
  let v5040 : Index := Scalar.indexCast v5039
  let c0_3497 : Index := 0#32
  let c0_3498 : Index := 0#32
  let c0_3499 : Index := 0#32
  ![v5040.toNat, 0, 0, 0]

def k0_chk203 (v5039 : BitVec 32) : Prop :=
  (∀ a, (k0_off232 v5039) a + S1x2x16x128.size a ≤ S112x2x16x128.size a)
theorem k0_off232_inb : ∀ (v5039 : BitVec 32) (k0_hw203 : k0_chk203 v5039), ∀ a, (k0_off232 v5039) a + S1x2x16x128.size a ≤ S112x2x16x128.size a := fun v5039 k0_hw203 => k0_hw203

def k0_off233 (v5066 : BitVec 32) : Fin 4 → Nat :=
  let v5067 : Index := Scalar.indexCast v5066
  let c0_3513 : Index := 0#32
  let c0_3514 : Index := 0#32
  let c0_3515 : Index := 0#32
  ![v5067.toNat, 0, 0, 0]

def k0_chk204 (v5066 : BitVec 32) : Prop :=
  (∀ a, (k0_off233 v5066) a + S1x2x16x128.size a ≤ S112x2x16x128.size a)
theorem k0_off233_inb : ∀ (v5066 : BitVec 32) (k0_hw204 : k0_chk204 v5066), ∀ a, (k0_off233 v5066) a + S1x2x16x128.size a ≤ S112x2x16x128.size a := fun v5066 k0_hw204 => k0_hw204

def k0_off234 (v5070 : BitVec 32) : Fin 4 → Nat :=
  let v5071 : Index := Scalar.indexCast v5070
  let c0_3517 : Index := 0#32
  let c0_3518 : Index := 0#32
  let c0_3519 : Index := 0#32
  ![v5071.toNat, 0, 0, 0]

def k0_chk205 (v5070 : BitVec 32) : Prop :=
  (∀ a, (k0_off234 v5070) a + S1x2x16x128.size a ≤ S112x2x16x128.size a)
theorem k0_off234_inb : ∀ (v5070 : BitVec 32) (k0_hw205 : k0_chk205 v5070), ∀ a, (k0_off234 v5070) a + S1x2x16x128.size a ≤ S112x2x16x128.size a := fun v5070 k0_hw205 => k0_hw205

def k0_off235 (v5074 : BitVec 32) : Fin 4 → Nat :=
  let v5075 : Index := Scalar.indexCast v5074
  let c0_3521 : Index := 0#32
  let c0_3522 : Index := 0#32
  let c0_3523 : Index := 0#32
  ![v5075.toNat, 0, 0, 0]

def k0_chk206 (v5074 : BitVec 32) : Prop :=
  (∀ a, (k0_off235 v5074) a + S1x2x16x128.size a ≤ S112x2x16x128.size a)
theorem k0_off235_inb : ∀ (v5074 : BitVec 32) (k0_hw206 : k0_chk206 v5074), ∀ a, (k0_off235 v5074) a + S1x2x16x128.size a ≤ S112x2x16x128.size a := fun v5074 k0_hw206 => k0_hw206

def k0_off236 (v5078 : BitVec 32) : Fin 4 → Nat :=
  let v5079 : Index := Scalar.indexCast v5078
  let c0_3525 : Index := 0#32
  let c0_3526 : Index := 0#32
  let c0_3527 : Index := 0#32
  ![v5079.toNat, 0, 0, 0]

def k0_chk207 (v5078 : BitVec 32) : Prop :=
  (∀ a, (k0_off236 v5078) a + S1x2x16x128.size a ≤ S112x2x16x128.size a)
theorem k0_off236_inb : ∀ (v5078 : BitVec 32) (k0_hw207 : k0_chk207 v5078), ∀ a, (k0_off236 v5078) a + S1x2x16x128.size a ≤ S112x2x16x128.size a := fun v5078 k0_hw207 => k0_hw207

def k0_off237 (v5082 : BitVec 32) : Fin 4 → Nat :=
  let v5083 : Index := Scalar.indexCast v5082
  let c0_3529 : Index := 0#32
  let c0_3530 : Index := 0#32
  let c0_3531 : Index := 0#32
  ![v5083.toNat, 0, 0, 0]

def k0_chk208 (v5082 : BitVec 32) : Prop :=
  (∀ a, (k0_off237 v5082) a + S1x2x16x128.size a ≤ S112x2x16x128.size a)
theorem k0_off237_inb : ∀ (v5082 : BitVec 32) (k0_hw208 : k0_chk208 v5082), ∀ a, (k0_off237 v5082) a + S1x2x16x128.size a ≤ S112x2x16x128.size a := fun v5082 k0_hw208 => k0_hw208

def k0_off238 (v5086 : BitVec 32) : Fin 4 → Nat :=
  let v5087 : Index := Scalar.indexCast v5086
  let c0_3533 : Index := 0#32
  let c0_3534 : Index := 0#32
  let c0_3535 : Index := 0#32
  ![v5087.toNat, 0, 0, 0]

def k0_chk209 (v5086 : BitVec 32) : Prop :=
  (∀ a, (k0_off238 v5086) a + S1x2x16x128.size a ≤ S112x2x16x128.size a)
theorem k0_off238_inb : ∀ (v5086 : BitVec 32) (k0_hw209 : k0_chk209 v5086), ∀ a, (k0_off238 v5086) a + S1x2x16x128.size a ≤ S112x2x16x128.size a := fun v5086 k0_hw209 => k0_hw209

def k0_off239 (v5090 : BitVec 32) : Fin 4 → Nat :=
  let v5091 : Index := Scalar.indexCast v5090
  let c0_3537 : Index := 0#32
  let c0_3538 : Index := 0#32
  let c0_3539 : Index := 0#32
  ![v5091.toNat, 0, 0, 0]

def k0_chk210 (v5090 : BitVec 32) : Prop :=
  (∀ a, (k0_off239 v5090) a + S1x2x16x128.size a ≤ S112x2x16x128.size a)
theorem k0_off239_inb : ∀ (v5090 : BitVec 32) (k0_hw210 : k0_chk210 v5090), ∀ a, (k0_off239 v5090) a + S1x2x16x128.size a ≤ S112x2x16x128.size a := fun v5090 k0_hw210 => k0_hw210

def k0_off240 (v5117 : BitVec 32) : Fin 4 → Nat :=
  let v5118 : Index := Scalar.indexCast v5117
  let c0_3553 : Index := 0#32
  let c0_3554 : Index := 0#32
  let c0_3555 : Index := 0#32
  ![v5118.toNat, 0, 0, 0]

def k0_chk211 (v5117 : BitVec 32) : Prop :=
  (∀ a, (k0_off240 v5117) a + S1x2x16x128.size a ≤ S112x2x16x128.size a)
theorem k0_off240_inb : ∀ (v5117 : BitVec 32) (k0_hw211 : k0_chk211 v5117), ∀ a, (k0_off240 v5117) a + S1x2x16x128.size a ≤ S112x2x16x128.size a := fun v5117 k0_hw211 => k0_hw211

def k0_off241 (v5121 : BitVec 32) : Fin 4 → Nat :=
  let v5122 : Index := Scalar.indexCast v5121
  let c0_3557 : Index := 0#32
  let c0_3558 : Index := 0#32
  let c0_3559 : Index := 0#32
  ![v5122.toNat, 0, 0, 0]

def k0_chk212 (v5121 : BitVec 32) : Prop :=
  (∀ a, (k0_off241 v5121) a + S1x2x16x128.size a ≤ S112x2x16x128.size a)
theorem k0_off241_inb : ∀ (v5121 : BitVec 32) (k0_hw212 : k0_chk212 v5121), ∀ a, (k0_off241 v5121) a + S1x2x16x128.size a ≤ S112x2x16x128.size a := fun v5121 k0_hw212 => k0_hw212

def k0_off242 (v5125 : BitVec 32) : Fin 4 → Nat :=
  let v5126 : Index := Scalar.indexCast v5125
  let c0_3561 : Index := 0#32
  let c0_3562 : Index := 0#32
  let c0_3563 : Index := 0#32
  ![v5126.toNat, 0, 0, 0]

def k0_chk213 (v5125 : BitVec 32) : Prop :=
  (∀ a, (k0_off242 v5125) a + S1x2x16x128.size a ≤ S112x2x16x128.size a)
theorem k0_off242_inb : ∀ (v5125 : BitVec 32) (k0_hw213 : k0_chk213 v5125), ∀ a, (k0_off242 v5125) a + S1x2x16x128.size a ≤ S112x2x16x128.size a := fun v5125 k0_hw213 => k0_hw213

def k0_off243 (v5129 : BitVec 32) : Fin 4 → Nat :=
  let v5130 : Index := Scalar.indexCast v5129
  let c0_3565 : Index := 0#32
  let c0_3566 : Index := 0#32
  let c0_3567 : Index := 0#32
  ![v5130.toNat, 0, 0, 0]

def k0_chk214 (v5129 : BitVec 32) : Prop :=
  (∀ a, (k0_off243 v5129) a + S1x2x16x128.size a ≤ S112x2x16x128.size a)
theorem k0_off243_inb : ∀ (v5129 : BitVec 32) (k0_hw214 : k0_chk214 v5129), ∀ a, (k0_off243 v5129) a + S1x2x16x128.size a ≤ S112x2x16x128.size a := fun v5129 k0_hw214 => k0_hw214

def k0_off244 (v5133 : BitVec 32) : Fin 4 → Nat :=
  let v5134 : Index := Scalar.indexCast v5133
  let c0_3569 : Index := 0#32
  let c0_3570 : Index := 0#32
  let c0_3571 : Index := 0#32
  ![v5134.toNat, 0, 0, 0]

def k0_chk215 (v5133 : BitVec 32) : Prop :=
  (∀ a, (k0_off244 v5133) a + S1x2x16x128.size a ≤ S112x2x16x128.size a)
theorem k0_off244_inb : ∀ (v5133 : BitVec 32) (k0_hw215 : k0_chk215 v5133), ∀ a, (k0_off244 v5133) a + S1x2x16x128.size a ≤ S112x2x16x128.size a := fun v5133 k0_hw215 => k0_hw215

def k0_off245 (v5137 : BitVec 32) : Fin 4 → Nat :=
  let v5138 : Index := Scalar.indexCast v5137
  let c0_3573 : Index := 0#32
  let c0_3574 : Index := 0#32
  let c0_3575 : Index := 0#32
  ![v5138.toNat, 0, 0, 0]

def k0_chk216 (v5137 : BitVec 32) : Prop :=
  (∀ a, (k0_off245 v5137) a + S1x2x16x128.size a ≤ S112x2x16x128.size a)
theorem k0_off245_inb : ∀ (v5137 : BitVec 32) (k0_hw216 : k0_chk216 v5137), ∀ a, (k0_off245 v5137) a + S1x2x16x128.size a ≤ S112x2x16x128.size a := fun v5137 k0_hw216 => k0_hw216

def k0_off246 (v5141 : BitVec 32) : Fin 4 → Nat :=
  let v5142 : Index := Scalar.indexCast v5141
  let c0_3577 : Index := 0#32
  let c0_3578 : Index := 0#32
  let c0_3579 : Index := 0#32
  ![v5142.toNat, 0, 0, 0]

def k0_chk217 (v5141 : BitVec 32) : Prop :=
  (∀ a, (k0_off246 v5141) a + S1x2x16x128.size a ≤ S112x2x16x128.size a)
theorem k0_off246_inb : ∀ (v5141 : BitVec 32) (k0_hw217 : k0_chk217 v5141), ∀ a, (k0_off246 v5141) a + S1x2x16x128.size a ≤ S112x2x16x128.size a := fun v5141 k0_hw217 => k0_hw217

def k0_off247 (v5168 : BitVec 32) : Fin 4 → Nat :=
  let v5169 : Index := Scalar.indexCast v5168
  let c0_3593 : Index := 0#32
  let c0_3594 : Index := 0#32
  let c0_3595 : Index := 0#32
  ![v5169.toNat, 0, 0, 0]

def k0_chk218 (v5168 : BitVec 32) : Prop :=
  (∀ a, (k0_off247 v5168) a + S1x2x16x128.size a ≤ S112x2x16x128.size a)
theorem k0_off247_inb : ∀ (v5168 : BitVec 32) (k0_hw218 : k0_chk218 v5168), ∀ a, (k0_off247 v5168) a + S1x2x16x128.size a ≤ S112x2x16x128.size a := fun v5168 k0_hw218 => k0_hw218

def k0_off248 (v5172 : BitVec 32) : Fin 4 → Nat :=
  let v5173 : Index := Scalar.indexCast v5172
  let c0_3597 : Index := 0#32
  let c0_3598 : Index := 0#32
  let c0_3599 : Index := 0#32
  ![v5173.toNat, 0, 0, 0]

def k0_chk219 (v5172 : BitVec 32) : Prop :=
  (∀ a, (k0_off248 v5172) a + S1x2x16x128.size a ≤ S112x2x16x128.size a)
theorem k0_off248_inb : ∀ (v5172 : BitVec 32) (k0_hw219 : k0_chk219 v5172), ∀ a, (k0_off248 v5172) a + S1x2x16x128.size a ≤ S112x2x16x128.size a := fun v5172 k0_hw219 => k0_hw219

def k0_off249 (v5176 : BitVec 32) : Fin 4 → Nat :=
  let v5177 : Index := Scalar.indexCast v5176
  let c0_3601 : Index := 0#32
  let c0_3602 : Index := 0#32
  let c0_3603 : Index := 0#32
  ![v5177.toNat, 0, 0, 0]

def k0_chk220 (v5176 : BitVec 32) : Prop :=
  (∀ a, (k0_off249 v5176) a + S1x2x16x128.size a ≤ S112x2x16x128.size a)
theorem k0_off249_inb : ∀ (v5176 : BitVec 32) (k0_hw220 : k0_chk220 v5176), ∀ a, (k0_off249 v5176) a + S1x2x16x128.size a ≤ S112x2x16x128.size a := fun v5176 k0_hw220 => k0_hw220

def k0_off250 (v5180 : BitVec 32) : Fin 4 → Nat :=
  let v5181 : Index := Scalar.indexCast v5180
  let c0_3605 : Index := 0#32
  let c0_3606 : Index := 0#32
  let c0_3607 : Index := 0#32
  ![v5181.toNat, 0, 0, 0]

def k0_chk221 (v5180 : BitVec 32) : Prop :=
  (∀ a, (k0_off250 v5180) a + S1x2x16x128.size a ≤ S112x2x16x128.size a)
theorem k0_off250_inb : ∀ (v5180 : BitVec 32) (k0_hw221 : k0_chk221 v5180), ∀ a, (k0_off250 v5180) a + S1x2x16x128.size a ≤ S112x2x16x128.size a := fun v5180 k0_hw221 => k0_hw221

def k0_off251 (v5184 : BitVec 32) : Fin 4 → Nat :=
  let v5185 : Index := Scalar.indexCast v5184
  let c0_3609 : Index := 0#32
  let c0_3610 : Index := 0#32
  let c0_3611 : Index := 0#32
  ![v5185.toNat, 0, 0, 0]

def k0_chk222 (v5184 : BitVec 32) : Prop :=
  (∀ a, (k0_off251 v5184) a + S1x2x16x128.size a ≤ S112x2x16x128.size a)
theorem k0_off251_inb : ∀ (v5184 : BitVec 32) (k0_hw222 : k0_chk222 v5184), ∀ a, (k0_off251 v5184) a + S1x2x16x128.size a ≤ S112x2x16x128.size a := fun v5184 k0_hw222 => k0_hw222

def k0_off252 (v5188 : BitVec 32) : Fin 4 → Nat :=
  let v5189 : Index := Scalar.indexCast v5188
  let c0_3613 : Index := 0#32
  let c0_3614 : Index := 0#32
  let c0_3615 : Index := 0#32
  ![v5189.toNat, 0, 0, 0]

def k0_chk223 (v5188 : BitVec 32) : Prop :=
  (∀ a, (k0_off252 v5188) a + S1x2x16x128.size a ≤ S112x2x16x128.size a)
theorem k0_off252_inb : ∀ (v5188 : BitVec 32) (k0_hw223 : k0_chk223 v5188), ∀ a, (k0_off252 v5188) a + S1x2x16x128.size a ≤ S112x2x16x128.size a := fun v5188 k0_hw223 => k0_hw223

def k0_off253 (v5192 : BitVec 32) : Fin 4 → Nat :=
  let v5193 : Index := Scalar.indexCast v5192
  let c0_3617 : Index := 0#32
  let c0_3618 : Index := 0#32
  let c0_3619 : Index := 0#32
  ![v5193.toNat, 0, 0, 0]

def k0_chk224 (v5192 : BitVec 32) : Prop :=
  (∀ a, (k0_off253 v5192) a + S1x2x16x128.size a ≤ S112x2x16x128.size a)
theorem k0_off253_inb : ∀ (v5192 : BitVec 32) (k0_hw224 : k0_chk224 v5192), ∀ a, (k0_off253 v5192) a + S1x2x16x128.size a ≤ S112x2x16x128.size a := fun v5192 k0_hw224 => k0_hw224

def k0_off254 (v5219 : BitVec 32) : Fin 4 → Nat :=
  let v5220 : Index := Scalar.indexCast v5219
  let c0_3633 : Index := 0#32
  let c0_3634 : Index := 0#32
  let c0_3635 : Index := 0#32
  ![v5220.toNat, 0, 0, 0]

def k0_chk225 (v5219 : BitVec 32) : Prop :=
  (∀ a, (k0_off254 v5219) a + S1x2x16x128.size a ≤ S112x2x16x128.size a)
theorem k0_off254_inb : ∀ (v5219 : BitVec 32) (k0_hw225 : k0_chk225 v5219), ∀ a, (k0_off254 v5219) a + S1x2x16x128.size a ≤ S112x2x16x128.size a := fun v5219 k0_hw225 => k0_hw225

def k0_off255 (v5223 : BitVec 32) : Fin 4 → Nat :=
  let v5224 : Index := Scalar.indexCast v5223
  let c0_3637 : Index := 0#32
  let c0_3638 : Index := 0#32
  let c0_3639 : Index := 0#32
  ![v5224.toNat, 0, 0, 0]

def k0_chk226 (v5223 : BitVec 32) : Prop :=
  (∀ a, (k0_off255 v5223) a + S1x2x16x128.size a ≤ S112x2x16x128.size a)
theorem k0_off255_inb : ∀ (v5223 : BitVec 32) (k0_hw226 : k0_chk226 v5223), ∀ a, (k0_off255 v5223) a + S1x2x16x128.size a ≤ S112x2x16x128.size a := fun v5223 k0_hw226 => k0_hw226

def k0_off256 (v5227 : BitVec 32) : Fin 4 → Nat :=
  let v5228 : Index := Scalar.indexCast v5227
  let c0_3641 : Index := 0#32
  let c0_3642 : Index := 0#32
  let c0_3643 : Index := 0#32
  ![v5228.toNat, 0, 0, 0]

def k0_chk227 (v5227 : BitVec 32) : Prop :=
  (∀ a, (k0_off256 v5227) a + S1x2x16x128.size a ≤ S112x2x16x128.size a)
theorem k0_off256_inb : ∀ (v5227 : BitVec 32) (k0_hw227 : k0_chk227 v5227), ∀ a, (k0_off256 v5227) a + S1x2x16x128.size a ≤ S112x2x16x128.size a := fun v5227 k0_hw227 => k0_hw227

def k0_off257 (v5231 : BitVec 32) : Fin 4 → Nat :=
  let v5232 : Index := Scalar.indexCast v5231
  let c0_3645 : Index := 0#32
  let c0_3646 : Index := 0#32
  let c0_3647 : Index := 0#32
  ![v5232.toNat, 0, 0, 0]

def k0_chk228 (v5231 : BitVec 32) : Prop :=
  (∀ a, (k0_off257 v5231) a + S1x2x16x128.size a ≤ S112x2x16x128.size a)
theorem k0_off257_inb : ∀ (v5231 : BitVec 32) (k0_hw228 : k0_chk228 v5231), ∀ a, (k0_off257 v5231) a + S1x2x16x128.size a ≤ S112x2x16x128.size a := fun v5231 k0_hw228 => k0_hw228

def k0_off258 (v5235 : BitVec 32) : Fin 4 → Nat :=
  let v5236 : Index := Scalar.indexCast v5235
  let c0_3649 : Index := 0#32
  let c0_3650 : Index := 0#32
  let c0_3651 : Index := 0#32
  ![v5236.toNat, 0, 0, 0]

def k0_chk229 (v5235 : BitVec 32) : Prop :=
  (∀ a, (k0_off258 v5235) a + S1x2x16x128.size a ≤ S112x2x16x128.size a)
theorem k0_off258_inb : ∀ (v5235 : BitVec 32) (k0_hw229 : k0_chk229 v5235), ∀ a, (k0_off258 v5235) a + S1x2x16x128.size a ≤ S112x2x16x128.size a := fun v5235 k0_hw229 => k0_hw229

def k0_off259 (v5239 : BitVec 32) : Fin 4 → Nat :=
  let v5240 : Index := Scalar.indexCast v5239
  let c0_3653 : Index := 0#32
  let c0_3654 : Index := 0#32
  let c0_3655 : Index := 0#32
  ![v5240.toNat, 0, 0, 0]

def k0_chk230 (v5239 : BitVec 32) : Prop :=
  (∀ a, (k0_off259 v5239) a + S1x2x16x128.size a ≤ S112x2x16x128.size a)
theorem k0_off259_inb : ∀ (v5239 : BitVec 32) (k0_hw230 : k0_chk230 v5239), ∀ a, (k0_off259 v5239) a + S1x2x16x128.size a ≤ S112x2x16x128.size a := fun v5239 k0_hw230 => k0_hw230

def k0_off260 (v5243 : BitVec 32) : Fin 4 → Nat :=
  let v5244 : Index := Scalar.indexCast v5243
  let c0_3657 : Index := 0#32
  let c0_3658 : Index := 0#32
  let c0_3659 : Index := 0#32
  ![v5244.toNat, 0, 0, 0]

def k0_chk231 (v5243 : BitVec 32) : Prop :=
  (∀ a, (k0_off260 v5243) a + S1x2x16x128.size a ≤ S112x2x16x128.size a)
theorem k0_off260_inb : ∀ (v5243 : BitVec 32) (k0_hw231 : k0_chk231 v5243), ∀ a, (k0_off260 v5243) a + S1x2x16x128.size a ≤ S112x2x16x128.size a := fun v5243 k0_hw231 => k0_hw231

def k0_off261 (v5270 : BitVec 32) : Fin 4 → Nat :=
  let v5271 : Index := Scalar.indexCast v5270
  let c0_3673 : Index := 0#32
  let c0_3674 : Index := 0#32
  let c0_3675 : Index := 0#32
  ![v5271.toNat, 0, 0, 0]

def k0_chk232 (v5270 : BitVec 32) : Prop :=
  (∀ a, (k0_off261 v5270) a + S1x2x16x128.size a ≤ S112x2x16x128.size a)
theorem k0_off261_inb : ∀ (v5270 : BitVec 32) (k0_hw232 : k0_chk232 v5270), ∀ a, (k0_off261 v5270) a + S1x2x16x128.size a ≤ S112x2x16x128.size a := fun v5270 k0_hw232 => k0_hw232

def k0_off262 (v5274 : BitVec 32) : Fin 4 → Nat :=
  let v5275 : Index := Scalar.indexCast v5274
  let c0_3677 : Index := 0#32
  let c0_3678 : Index := 0#32
  let c0_3679 : Index := 0#32
  ![v5275.toNat, 0, 0, 0]

def k0_chk233 (v5274 : BitVec 32) : Prop :=
  (∀ a, (k0_off262 v5274) a + S1x2x16x128.size a ≤ S112x2x16x128.size a)
theorem k0_off262_inb : ∀ (v5274 : BitVec 32) (k0_hw233 : k0_chk233 v5274), ∀ a, (k0_off262 v5274) a + S1x2x16x128.size a ≤ S112x2x16x128.size a := fun v5274 k0_hw233 => k0_hw233

def k0_off263 (v5278 : BitVec 32) : Fin 4 → Nat :=
  let v5279 : Index := Scalar.indexCast v5278
  let c0_3681 : Index := 0#32
  let c0_3682 : Index := 0#32
  let c0_3683 : Index := 0#32
  ![v5279.toNat, 0, 0, 0]

def k0_chk234 (v5278 : BitVec 32) : Prop :=
  (∀ a, (k0_off263 v5278) a + S1x2x16x128.size a ≤ S112x2x16x128.size a)
theorem k0_off263_inb : ∀ (v5278 : BitVec 32) (k0_hw234 : k0_chk234 v5278), ∀ a, (k0_off263 v5278) a + S1x2x16x128.size a ≤ S112x2x16x128.size a := fun v5278 k0_hw234 => k0_hw234

def k0_off264 (v5282 : BitVec 32) : Fin 4 → Nat :=
  let v5283 : Index := Scalar.indexCast v5282
  let c0_3685 : Index := 0#32
  let c0_3686 : Index := 0#32
  let c0_3687 : Index := 0#32
  ![v5283.toNat, 0, 0, 0]

def k0_chk235 (v5282 : BitVec 32) : Prop :=
  (∀ a, (k0_off264 v5282) a + S1x2x16x128.size a ≤ S112x2x16x128.size a)
theorem k0_off264_inb : ∀ (v5282 : BitVec 32) (k0_hw235 : k0_chk235 v5282), ∀ a, (k0_off264 v5282) a + S1x2x16x128.size a ≤ S112x2x16x128.size a := fun v5282 k0_hw235 => k0_hw235

def k0_off265 (v5286 : BitVec 32) : Fin 4 → Nat :=
  let v5287 : Index := Scalar.indexCast v5286
  let c0_3689 : Index := 0#32
  let c0_3690 : Index := 0#32
  let c0_3691 : Index := 0#32
  ![v5287.toNat, 0, 0, 0]

def k0_chk236 (v5286 : BitVec 32) : Prop :=
  (∀ a, (k0_off265 v5286) a + S1x2x16x128.size a ≤ S112x2x16x128.size a)
theorem k0_off265_inb : ∀ (v5286 : BitVec 32) (k0_hw236 : k0_chk236 v5286), ∀ a, (k0_off265 v5286) a + S1x2x16x128.size a ≤ S112x2x16x128.size a := fun v5286 k0_hw236 => k0_hw236

def k0_off266 (v5290 : BitVec 32) : Fin 4 → Nat :=
  let v5291 : Index := Scalar.indexCast v5290
  let c0_3693 : Index := 0#32
  let c0_3694 : Index := 0#32
  let c0_3695 : Index := 0#32
  ![v5291.toNat, 0, 0, 0]

def k0_chk237 (v5290 : BitVec 32) : Prop :=
  (∀ a, (k0_off266 v5290) a + S1x2x16x128.size a ≤ S112x2x16x128.size a)
theorem k0_off266_inb : ∀ (v5290 : BitVec 32) (k0_hw237 : k0_chk237 v5290), ∀ a, (k0_off266 v5290) a + S1x2x16x128.size a ≤ S112x2x16x128.size a := fun v5290 k0_hw237 => k0_hw237

def k0_off267 (v5294 : BitVec 32) : Fin 4 → Nat :=
  let v5295 : Index := Scalar.indexCast v5294
  let c0_3697 : Index := 0#32
  let c0_3698 : Index := 0#32
  let c0_3699 : Index := 0#32
  ![v5295.toNat, 0, 0, 0]

def k0_chk238 (v5294 : BitVec 32) : Prop :=
  (∀ a, (k0_off267 v5294) a + S1x2x16x128.size a ≤ S112x2x16x128.size a)
theorem k0_off267_inb : ∀ (v5294 : BitVec 32) (k0_hw238 : k0_chk238 v5294), ∀ a, (k0_off267 v5294) a + S1x2x16x128.size a ≤ S112x2x16x128.size a := fun v5294 k0_hw238 => k0_hw238

def k0_off268 (v5321 : BitVec 32) : Fin 4 → Nat :=
  let v5322 : Index := Scalar.indexCast v5321
  let c0_3713 : Index := 0#32
  let c0_3714 : Index := 0#32
  let c0_3715 : Index := 0#32
  ![v5322.toNat, 0, 0, 0]

def k0_chk239 (v5321 : BitVec 32) : Prop :=
  (∀ a, (k0_off268 v5321) a + S1x2x16x128.size a ≤ S112x2x16x128.size a)
theorem k0_off268_inb : ∀ (v5321 : BitVec 32) (k0_hw239 : k0_chk239 v5321), ∀ a, (k0_off268 v5321) a + S1x2x16x128.size a ≤ S112x2x16x128.size a := fun v5321 k0_hw239 => k0_hw239

def k0_off269 (v5325 : BitVec 32) : Fin 4 → Nat :=
  let v5326 : Index := Scalar.indexCast v5325
  let c0_3717 : Index := 0#32
  let c0_3718 : Index := 0#32
  let c0_3719 : Index := 0#32
  ![v5326.toNat, 0, 0, 0]

def k0_chk240 (v5325 : BitVec 32) : Prop :=
  (∀ a, (k0_off269 v5325) a + S1x2x16x128.size a ≤ S112x2x16x128.size a)
theorem k0_off269_inb : ∀ (v5325 : BitVec 32) (k0_hw240 : k0_chk240 v5325), ∀ a, (k0_off269 v5325) a + S1x2x16x128.size a ≤ S112x2x16x128.size a := fun v5325 k0_hw240 => k0_hw240

def k0_off270 (v5329 : BitVec 32) : Fin 4 → Nat :=
  let v5330 : Index := Scalar.indexCast v5329
  let c0_3721 : Index := 0#32
  let c0_3722 : Index := 0#32
  let c0_3723 : Index := 0#32
  ![v5330.toNat, 0, 0, 0]

def k0_chk241 (v5329 : BitVec 32) : Prop :=
  (∀ a, (k0_off270 v5329) a + S1x2x16x128.size a ≤ S112x2x16x128.size a)
theorem k0_off270_inb : ∀ (v5329 : BitVec 32) (k0_hw241 : k0_chk241 v5329), ∀ a, (k0_off270 v5329) a + S1x2x16x128.size a ≤ S112x2x16x128.size a := fun v5329 k0_hw241 => k0_hw241

def k0_off271 (v5333 : BitVec 32) : Fin 4 → Nat :=
  let v5334 : Index := Scalar.indexCast v5333
  let c0_3725 : Index := 0#32
  let c0_3726 : Index := 0#32
  let c0_3727 : Index := 0#32
  ![v5334.toNat, 0, 0, 0]

def k0_chk242 (v5333 : BitVec 32) : Prop :=
  (∀ a, (k0_off271 v5333) a + S1x2x16x128.size a ≤ S112x2x16x128.size a)
theorem k0_off271_inb : ∀ (v5333 : BitVec 32) (k0_hw242 : k0_chk242 v5333), ∀ a, (k0_off271 v5333) a + S1x2x16x128.size a ≤ S112x2x16x128.size a := fun v5333 k0_hw242 => k0_hw242

def k0_off272 (v5337 : BitVec 32) : Fin 4 → Nat :=
  let v5338 : Index := Scalar.indexCast v5337
  let c0_3729 : Index := 0#32
  let c0_3730 : Index := 0#32
  let c0_3731 : Index := 0#32
  ![v5338.toNat, 0, 0, 0]

def k0_chk243 (v5337 : BitVec 32) : Prop :=
  (∀ a, (k0_off272 v5337) a + S1x2x16x128.size a ≤ S112x2x16x128.size a)
theorem k0_off272_inb : ∀ (v5337 : BitVec 32) (k0_hw243 : k0_chk243 v5337), ∀ a, (k0_off272 v5337) a + S1x2x16x128.size a ≤ S112x2x16x128.size a := fun v5337 k0_hw243 => k0_hw243

def k0_off273 (v5341 : BitVec 32) : Fin 4 → Nat :=
  let v5342 : Index := Scalar.indexCast v5341
  let c0_3733 : Index := 0#32
  let c0_3734 : Index := 0#32
  let c0_3735 : Index := 0#32
  ![v5342.toNat, 0, 0, 0]

def k0_chk244 (v5341 : BitVec 32) : Prop :=
  (∀ a, (k0_off273 v5341) a + S1x2x16x128.size a ≤ S112x2x16x128.size a)
theorem k0_off273_inb : ∀ (v5341 : BitVec 32) (k0_hw244 : k0_chk244 v5341), ∀ a, (k0_off273 v5341) a + S1x2x16x128.size a ≤ S112x2x16x128.size a := fun v5341 k0_hw244 => k0_hw244

def k0_off274 (v5345 : BitVec 32) : Fin 4 → Nat :=
  let v5346 : Index := Scalar.indexCast v5345
  let c0_3737 : Index := 0#32
  let c0_3738 : Index := 0#32
  let c0_3739 : Index := 0#32
  ![v5346.toNat, 0, 0, 0]

def k0_chk245 (v5345 : BitVec 32) : Prop :=
  (∀ a, (k0_off274 v5345) a + S1x2x16x128.size a ≤ S112x2x16x128.size a)
theorem k0_off274_inb : ∀ (v5345 : BitVec 32) (k0_hw245 : k0_chk245 v5345), ∀ a, (k0_off274 v5345) a + S1x2x16x128.size a ≤ S112x2x16x128.size a := fun v5345 k0_hw245 => k0_hw245

def k0_off275 (v5372 : BitVec 32) : Fin 4 → Nat :=
  let v5373 : Index := Scalar.indexCast v5372
  let c0_3753 : Index := 0#32
  let c0_3754 : Index := 0#32
  let c0_3755 : Index := 0#32
  ![v5373.toNat, 0, 0, 0]

def k0_chk246 (v5372 : BitVec 32) : Prop :=
  (∀ a, (k0_off275 v5372) a + S1x2x16x128.size a ≤ S112x2x16x128.size a)
theorem k0_off275_inb : ∀ (v5372 : BitVec 32) (k0_hw246 : k0_chk246 v5372), ∀ a, (k0_off275 v5372) a + S1x2x16x128.size a ≤ S112x2x16x128.size a := fun v5372 k0_hw246 => k0_hw246

def k0_off276 (v5376 : BitVec 32) : Fin 4 → Nat :=
  let v5377 : Index := Scalar.indexCast v5376
  let c0_3757 : Index := 0#32
  let c0_3758 : Index := 0#32
  let c0_3759 : Index := 0#32
  ![v5377.toNat, 0, 0, 0]

def k0_chk247 (v5376 : BitVec 32) : Prop :=
  (∀ a, (k0_off276 v5376) a + S1x2x16x128.size a ≤ S112x2x16x128.size a)
theorem k0_off276_inb : ∀ (v5376 : BitVec 32) (k0_hw247 : k0_chk247 v5376), ∀ a, (k0_off276 v5376) a + S1x2x16x128.size a ≤ S112x2x16x128.size a := fun v5376 k0_hw247 => k0_hw247

def k0_off277 (v5380 : BitVec 32) : Fin 4 → Nat :=
  let v5381 : Index := Scalar.indexCast v5380
  let c0_3761 : Index := 0#32
  let c0_3762 : Index := 0#32
  let c0_3763 : Index := 0#32
  ![v5381.toNat, 0, 0, 0]

def k0_chk248 (v5380 : BitVec 32) : Prop :=
  (∀ a, (k0_off277 v5380) a + S1x2x16x128.size a ≤ S112x2x16x128.size a)
theorem k0_off277_inb : ∀ (v5380 : BitVec 32) (k0_hw248 : k0_chk248 v5380), ∀ a, (k0_off277 v5380) a + S1x2x16x128.size a ≤ S112x2x16x128.size a := fun v5380 k0_hw248 => k0_hw248

def k0_off278 (v5384 : BitVec 32) : Fin 4 → Nat :=
  let v5385 : Index := Scalar.indexCast v5384
  let c0_3765 : Index := 0#32
  let c0_3766 : Index := 0#32
  let c0_3767 : Index := 0#32
  ![v5385.toNat, 0, 0, 0]

def k0_chk249 (v5384 : BitVec 32) : Prop :=
  (∀ a, (k0_off278 v5384) a + S1x2x16x128.size a ≤ S112x2x16x128.size a)
theorem k0_off278_inb : ∀ (v5384 : BitVec 32) (k0_hw249 : k0_chk249 v5384), ∀ a, (k0_off278 v5384) a + S1x2x16x128.size a ≤ S112x2x16x128.size a := fun v5384 k0_hw249 => k0_hw249

def k0_off279 (v5388 : BitVec 32) : Fin 4 → Nat :=
  let v5389 : Index := Scalar.indexCast v5388
  let c0_3769 : Index := 0#32
  let c0_3770 : Index := 0#32
  let c0_3771 : Index := 0#32
  ![v5389.toNat, 0, 0, 0]

def k0_chk250 (v5388 : BitVec 32) : Prop :=
  (∀ a, (k0_off279 v5388) a + S1x2x16x128.size a ≤ S112x2x16x128.size a)
theorem k0_off279_inb : ∀ (v5388 : BitVec 32) (k0_hw250 : k0_chk250 v5388), ∀ a, (k0_off279 v5388) a + S1x2x16x128.size a ≤ S112x2x16x128.size a := fun v5388 k0_hw250 => k0_hw250

def k0_off280 (v5392 : BitVec 32) : Fin 4 → Nat :=
  let v5393 : Index := Scalar.indexCast v5392
  let c0_3773 : Index := 0#32
  let c0_3774 : Index := 0#32
  let c0_3775 : Index := 0#32
  ![v5393.toNat, 0, 0, 0]

def k0_chk251 (v5392 : BitVec 32) : Prop :=
  (∀ a, (k0_off280 v5392) a + S1x2x16x128.size a ≤ S112x2x16x128.size a)
theorem k0_off280_inb : ∀ (v5392 : BitVec 32) (k0_hw251 : k0_chk251 v5392), ∀ a, (k0_off280 v5392) a + S1x2x16x128.size a ≤ S112x2x16x128.size a := fun v5392 k0_hw251 => k0_hw251

def k0_off281 (v5396 : BitVec 32) : Fin 4 → Nat :=
  let v5397 : Index := Scalar.indexCast v5396
  let c0_3777 : Index := 0#32
  let c0_3778 : Index := 0#32
  let c0_3779 : Index := 0#32
  ![v5397.toNat, 0, 0, 0]

def k0_chk252 (v5396 : BitVec 32) : Prop :=
  (∀ a, (k0_off281 v5396) a + S1x2x16x128.size a ≤ S112x2x16x128.size a)
theorem k0_off281_inb : ∀ (v5396 : BitVec 32) (k0_hw252 : k0_chk252 v5396), ∀ a, (k0_off281 v5396) a + S1x2x16x128.size a ≤ S112x2x16x128.size a := fun v5396 k0_hw252 => k0_hw252

def k0_off282 (v5423 : BitVec 32) : Fin 4 → Nat :=
  let v5424 : Index := Scalar.indexCast v5423
  let c0_3793 : Index := 0#32
  let c0_3794 : Index := 0#32
  let c0_3795 : Index := 0#32
  ![v5424.toNat, 0, 0, 0]

def k0_chk253 (v5423 : BitVec 32) : Prop :=
  (∀ a, (k0_off282 v5423) a + S1x2x16x128.size a ≤ S112x2x16x128.size a)
theorem k0_off282_inb : ∀ (v5423 : BitVec 32) (k0_hw253 : k0_chk253 v5423), ∀ a, (k0_off282 v5423) a + S1x2x16x128.size a ≤ S112x2x16x128.size a := fun v5423 k0_hw253 => k0_hw253

def k0_off283 (v5427 : BitVec 32) : Fin 4 → Nat :=
  let v5428 : Index := Scalar.indexCast v5427
  let c0_3797 : Index := 0#32
  let c0_3798 : Index := 0#32
  let c0_3799 : Index := 0#32
  ![v5428.toNat, 0, 0, 0]

def k0_chk254 (v5427 : BitVec 32) : Prop :=
  (∀ a, (k0_off283 v5427) a + S1x2x16x128.size a ≤ S112x2x16x128.size a)
theorem k0_off283_inb : ∀ (v5427 : BitVec 32) (k0_hw254 : k0_chk254 v5427), ∀ a, (k0_off283 v5427) a + S1x2x16x128.size a ≤ S112x2x16x128.size a := fun v5427 k0_hw254 => k0_hw254

def k0_off284 (v5431 : BitVec 32) : Fin 4 → Nat :=
  let v5432 : Index := Scalar.indexCast v5431
  let c0_3801 : Index := 0#32
  let c0_3802 : Index := 0#32
  let c0_3803 : Index := 0#32
  ![v5432.toNat, 0, 0, 0]

def k0_chk255 (v5431 : BitVec 32) : Prop :=
  (∀ a, (k0_off284 v5431) a + S1x2x16x128.size a ≤ S112x2x16x128.size a)
theorem k0_off284_inb : ∀ (v5431 : BitVec 32) (k0_hw255 : k0_chk255 v5431), ∀ a, (k0_off284 v5431) a + S1x2x16x128.size a ≤ S112x2x16x128.size a := fun v5431 k0_hw255 => k0_hw255

def k0_off285 (v5435 : BitVec 32) : Fin 4 → Nat :=
  let v5436 : Index := Scalar.indexCast v5435
  let c0_3805 : Index := 0#32
  let c0_3806 : Index := 0#32
  let c0_3807 : Index := 0#32
  ![v5436.toNat, 0, 0, 0]

def k0_chk256 (v5435 : BitVec 32) : Prop :=
  (∀ a, (k0_off285 v5435) a + S1x2x16x128.size a ≤ S112x2x16x128.size a)
theorem k0_off285_inb : ∀ (v5435 : BitVec 32) (k0_hw256 : k0_chk256 v5435), ∀ a, (k0_off285 v5435) a + S1x2x16x128.size a ≤ S112x2x16x128.size a := fun v5435 k0_hw256 => k0_hw256

def k0_off286 (v5439 : BitVec 32) : Fin 4 → Nat :=
  let v5440 : Index := Scalar.indexCast v5439
  let c0_3809 : Index := 0#32
  let c0_3810 : Index := 0#32
  let c0_3811 : Index := 0#32
  ![v5440.toNat, 0, 0, 0]

def k0_chk257 (v5439 : BitVec 32) : Prop :=
  (∀ a, (k0_off286 v5439) a + S1x2x16x128.size a ≤ S112x2x16x128.size a)
theorem k0_off286_inb : ∀ (v5439 : BitVec 32) (k0_hw257 : k0_chk257 v5439), ∀ a, (k0_off286 v5439) a + S1x2x16x128.size a ≤ S112x2x16x128.size a := fun v5439 k0_hw257 => k0_hw257

def k0_off287 (v5443 : BitVec 32) : Fin 4 → Nat :=
  let v5444 : Index := Scalar.indexCast v5443
  let c0_3813 : Index := 0#32
  let c0_3814 : Index := 0#32
  let c0_3815 : Index := 0#32
  ![v5444.toNat, 0, 0, 0]

def k0_chk258 (v5443 : BitVec 32) : Prop :=
  (∀ a, (k0_off287 v5443) a + S1x2x16x128.size a ≤ S112x2x16x128.size a)
theorem k0_off287_inb : ∀ (v5443 : BitVec 32) (k0_hw258 : k0_chk258 v5443), ∀ a, (k0_off287 v5443) a + S1x2x16x128.size a ≤ S112x2x16x128.size a := fun v5443 k0_hw258 => k0_hw258

def k0_off288 (v5447 : BitVec 32) : Fin 4 → Nat :=
  let v5448 : Index := Scalar.indexCast v5447
  let c0_3817 : Index := 0#32
  let c0_3818 : Index := 0#32
  let c0_3819 : Index := 0#32
  ![v5448.toNat, 0, 0, 0]

def k0_chk259 (v5447 : BitVec 32) : Prop :=
  (∀ a, (k0_off288 v5447) a + S1x2x16x128.size a ≤ S112x2x16x128.size a)
theorem k0_off288_inb : ∀ (v5447 : BitVec 32) (k0_hw259 : k0_chk259 v5447), ∀ a, (k0_off288 v5447) a + S1x2x16x128.size a ≤ S112x2x16x128.size a := fun v5447 k0_hw259 => k0_hw259

def k0_off289 (v5474 : BitVec 32) : Fin 4 → Nat :=
  let v5475 : Index := Scalar.indexCast v5474
  let c0_3833 : Index := 0#32
  let c0_3834 : Index := 0#32
  let c0_3835 : Index := 0#32
  ![v5475.toNat, 0, 0, 0]

def k0_chk260 (v5474 : BitVec 32) : Prop :=
  (∀ a, (k0_off289 v5474) a + S1x2x16x128.size a ≤ S112x2x16x128.size a)
theorem k0_off289_inb : ∀ (v5474 : BitVec 32) (k0_hw260 : k0_chk260 v5474), ∀ a, (k0_off289 v5474) a + S1x2x16x128.size a ≤ S112x2x16x128.size a := fun v5474 k0_hw260 => k0_hw260

def k0_off290 (v5478 : BitVec 32) : Fin 4 → Nat :=
  let v5479 : Index := Scalar.indexCast v5478
  let c0_3837 : Index := 0#32
  let c0_3838 : Index := 0#32
  let c0_3839 : Index := 0#32
  ![v5479.toNat, 0, 0, 0]

def k0_chk261 (v5478 : BitVec 32) : Prop :=
  (∀ a, (k0_off290 v5478) a + S1x2x16x128.size a ≤ S112x2x16x128.size a)
theorem k0_off290_inb : ∀ (v5478 : BitVec 32) (k0_hw261 : k0_chk261 v5478), ∀ a, (k0_off290 v5478) a + S1x2x16x128.size a ≤ S112x2x16x128.size a := fun v5478 k0_hw261 => k0_hw261

def k0_off291 (v5482 : BitVec 32) : Fin 4 → Nat :=
  let v5483 : Index := Scalar.indexCast v5482
  let c0_3841 : Index := 0#32
  let c0_3842 : Index := 0#32
  let c0_3843 : Index := 0#32
  ![v5483.toNat, 0, 0, 0]

def k0_chk262 (v5482 : BitVec 32) : Prop :=
  (∀ a, (k0_off291 v5482) a + S1x2x16x128.size a ≤ S112x2x16x128.size a)
theorem k0_off291_inb : ∀ (v5482 : BitVec 32) (k0_hw262 : k0_chk262 v5482), ∀ a, (k0_off291 v5482) a + S1x2x16x128.size a ≤ S112x2x16x128.size a := fun v5482 k0_hw262 => k0_hw262

def k0_off292 (v5486 : BitVec 32) : Fin 4 → Nat :=
  let v5487 : Index := Scalar.indexCast v5486
  let c0_3845 : Index := 0#32
  let c0_3846 : Index := 0#32
  let c0_3847 : Index := 0#32
  ![v5487.toNat, 0, 0, 0]

def k0_chk263 (v5486 : BitVec 32) : Prop :=
  (∀ a, (k0_off292 v5486) a + S1x2x16x128.size a ≤ S112x2x16x128.size a)
theorem k0_off292_inb : ∀ (v5486 : BitVec 32) (k0_hw263 : k0_chk263 v5486), ∀ a, (k0_off292 v5486) a + S1x2x16x128.size a ≤ S112x2x16x128.size a := fun v5486 k0_hw263 => k0_hw263

def k0_off293 (v5490 : BitVec 32) : Fin 4 → Nat :=
  let v5491 : Index := Scalar.indexCast v5490
  let c0_3849 : Index := 0#32
  let c0_3850 : Index := 0#32
  let c0_3851 : Index := 0#32
  ![v5491.toNat, 0, 0, 0]

def k0_chk264 (v5490 : BitVec 32) : Prop :=
  (∀ a, (k0_off293 v5490) a + S1x2x16x128.size a ≤ S112x2x16x128.size a)
theorem k0_off293_inb : ∀ (v5490 : BitVec 32) (k0_hw264 : k0_chk264 v5490), ∀ a, (k0_off293 v5490) a + S1x2x16x128.size a ≤ S112x2x16x128.size a := fun v5490 k0_hw264 => k0_hw264

def k0_off294 (v5494 : BitVec 32) : Fin 4 → Nat :=
  let v5495 : Index := Scalar.indexCast v5494
  let c0_3853 : Index := 0#32
  let c0_3854 : Index := 0#32
  let c0_3855 : Index := 0#32
  ![v5495.toNat, 0, 0, 0]

def k0_chk265 (v5494 : BitVec 32) : Prop :=
  (∀ a, (k0_off294 v5494) a + S1x2x16x128.size a ≤ S112x2x16x128.size a)
theorem k0_off294_inb : ∀ (v5494 : BitVec 32) (k0_hw265 : k0_chk265 v5494), ∀ a, (k0_off294 v5494) a + S1x2x16x128.size a ≤ S112x2x16x128.size a := fun v5494 k0_hw265 => k0_hw265

def k0_off295 (v5498 : BitVec 32) : Fin 4 → Nat :=
  let v5499 : Index := Scalar.indexCast v5498
  let c0_3857 : Index := 0#32
  let c0_3858 : Index := 0#32
  let c0_3859 : Index := 0#32
  ![v5499.toNat, 0, 0, 0]

def k0_chk266 (v5498 : BitVec 32) : Prop :=
  (∀ a, (k0_off295 v5498) a + S1x2x16x128.size a ≤ S112x2x16x128.size a)
theorem k0_off295_inb : ∀ (v5498 : BitVec 32) (k0_hw266 : k0_chk266 v5498), ∀ a, (k0_off295 v5498) a + S1x2x16x128.size a ≤ S112x2x16x128.size a := fun v5498 k0_hw266 => k0_hw266

def k0_off296 (v5525 : BitVec 32) : Fin 4 → Nat :=
  let v5526 : Index := Scalar.indexCast v5525
  let c0_3873 : Index := 0#32
  let c0_3874 : Index := 0#32
  let c0_3875 : Index := 0#32
  ![v5526.toNat, 0, 0, 0]

def k0_chk267 (v5525 : BitVec 32) : Prop :=
  (∀ a, (k0_off296 v5525) a + S1x2x16x128.size a ≤ S112x2x16x128.size a)
theorem k0_off296_inb : ∀ (v5525 : BitVec 32) (k0_hw267 : k0_chk267 v5525), ∀ a, (k0_off296 v5525) a + S1x2x16x128.size a ≤ S112x2x16x128.size a := fun v5525 k0_hw267 => k0_hw267

def k0_off297 (v5529 : BitVec 32) : Fin 4 → Nat :=
  let v5530 : Index := Scalar.indexCast v5529
  let c0_3877 : Index := 0#32
  let c0_3878 : Index := 0#32
  let c0_3879 : Index := 0#32
  ![v5530.toNat, 0, 0, 0]

def k0_chk268 (v5529 : BitVec 32) : Prop :=
  (∀ a, (k0_off297 v5529) a + S1x2x16x128.size a ≤ S112x2x16x128.size a)
theorem k0_off297_inb : ∀ (v5529 : BitVec 32) (k0_hw268 : k0_chk268 v5529), ∀ a, (k0_off297 v5529) a + S1x2x16x128.size a ≤ S112x2x16x128.size a := fun v5529 k0_hw268 => k0_hw268

def k0_off298 (v5533 : BitVec 32) : Fin 4 → Nat :=
  let v5534 : Index := Scalar.indexCast v5533
  let c0_3881 : Index := 0#32
  let c0_3882 : Index := 0#32
  let c0_3883 : Index := 0#32
  ![v5534.toNat, 0, 0, 0]

def k0_chk269 (v5533 : BitVec 32) : Prop :=
  (∀ a, (k0_off298 v5533) a + S1x2x16x128.size a ≤ S112x2x16x128.size a)
theorem k0_off298_inb : ∀ (v5533 : BitVec 32) (k0_hw269 : k0_chk269 v5533), ∀ a, (k0_off298 v5533) a + S1x2x16x128.size a ≤ S112x2x16x128.size a := fun v5533 k0_hw269 => k0_hw269

def k0_off299 (v5537 : BitVec 32) : Fin 4 → Nat :=
  let v5538 : Index := Scalar.indexCast v5537
  let c0_3885 : Index := 0#32
  let c0_3886 : Index := 0#32
  let c0_3887 : Index := 0#32
  ![v5538.toNat, 0, 0, 0]

def k0_chk270 (v5537 : BitVec 32) : Prop :=
  (∀ a, (k0_off299 v5537) a + S1x2x16x128.size a ≤ S112x2x16x128.size a)
theorem k0_off299_inb : ∀ (v5537 : BitVec 32) (k0_hw270 : k0_chk270 v5537), ∀ a, (k0_off299 v5537) a + S1x2x16x128.size a ≤ S112x2x16x128.size a := fun v5537 k0_hw270 => k0_hw270

def k0_off300 (v5541 : BitVec 32) : Fin 4 → Nat :=
  let v5542 : Index := Scalar.indexCast v5541
  let c0_3889 : Index := 0#32
  let c0_3890 : Index := 0#32
  let c0_3891 : Index := 0#32
  ![v5542.toNat, 0, 0, 0]

def k0_chk271 (v5541 : BitVec 32) : Prop :=
  (∀ a, (k0_off300 v5541) a + S1x2x16x128.size a ≤ S112x2x16x128.size a)
theorem k0_off300_inb : ∀ (v5541 : BitVec 32) (k0_hw271 : k0_chk271 v5541), ∀ a, (k0_off300 v5541) a + S1x2x16x128.size a ≤ S112x2x16x128.size a := fun v5541 k0_hw271 => k0_hw271

def k0_off301 (v5545 : BitVec 32) : Fin 4 → Nat :=
  let v5546 : Index := Scalar.indexCast v5545
  let c0_3893 : Index := 0#32
  let c0_3894 : Index := 0#32
  let c0_3895 : Index := 0#32
  ![v5546.toNat, 0, 0, 0]

def k0_chk272 (v5545 : BitVec 32) : Prop :=
  (∀ a, (k0_off301 v5545) a + S1x2x16x128.size a ≤ S112x2x16x128.size a)
theorem k0_off301_inb : ∀ (v5545 : BitVec 32) (k0_hw272 : k0_chk272 v5545), ∀ a, (k0_off301 v5545) a + S1x2x16x128.size a ≤ S112x2x16x128.size a := fun v5545 k0_hw272 => k0_hw272

def k0_off302 (v5549 : BitVec 32) : Fin 4 → Nat :=
  let v5550 : Index := Scalar.indexCast v5549
  let c0_3897 : Index := 0#32
  let c0_3898 : Index := 0#32
  let c0_3899 : Index := 0#32
  ![v5550.toNat, 0, 0, 0]

def k0_chk273 (v5549 : BitVec 32) : Prop :=
  (∀ a, (k0_off302 v5549) a + S1x2x16x128.size a ≤ S112x2x16x128.size a)
theorem k0_off302_inb : ∀ (v5549 : BitVec 32) (k0_hw273 : k0_chk273 v5549), ∀ a, (k0_off302 v5549) a + S1x2x16x128.size a ≤ S112x2x16x128.size a := fun v5549 k0_hw273 => k0_hw273

def k0_off303 (v5576 : BitVec 32) : Fin 4 → Nat :=
  let v5577 : Index := Scalar.indexCast v5576
  let c0_3913 : Index := 0#32
  let c0_3914 : Index := 0#32
  let c0_3915 : Index := 0#32
  ![v5577.toNat, 0, 0, 0]

def k0_chk274 (v5576 : BitVec 32) : Prop :=
  (∀ a, (k0_off303 v5576) a + S1x2x16x128.size a ≤ S112x2x16x128.size a)
theorem k0_off303_inb : ∀ (v5576 : BitVec 32) (k0_hw274 : k0_chk274 v5576), ∀ a, (k0_off303 v5576) a + S1x2x16x128.size a ≤ S112x2x16x128.size a := fun v5576 k0_hw274 => k0_hw274

def k0_off304 (v5580 : BitVec 32) : Fin 4 → Nat :=
  let v5581 : Index := Scalar.indexCast v5580
  let c0_3917 : Index := 0#32
  let c0_3918 : Index := 0#32
  let c0_3919 : Index := 0#32
  ![v5581.toNat, 0, 0, 0]

def k0_chk275 (v5580 : BitVec 32) : Prop :=
  (∀ a, (k0_off304 v5580) a + S1x2x16x128.size a ≤ S112x2x16x128.size a)
theorem k0_off304_inb : ∀ (v5580 : BitVec 32) (k0_hw275 : k0_chk275 v5580), ∀ a, (k0_off304 v5580) a + S1x2x16x128.size a ≤ S112x2x16x128.size a := fun v5580 k0_hw275 => k0_hw275

def k0_off305 (v5584 : BitVec 32) : Fin 4 → Nat :=
  let v5585 : Index := Scalar.indexCast v5584
  let c0_3921 : Index := 0#32
  let c0_3922 : Index := 0#32
  let c0_3923 : Index := 0#32
  ![v5585.toNat, 0, 0, 0]

def k0_chk276 (v5584 : BitVec 32) : Prop :=
  (∀ a, (k0_off305 v5584) a + S1x2x16x128.size a ≤ S112x2x16x128.size a)
theorem k0_off305_inb : ∀ (v5584 : BitVec 32) (k0_hw276 : k0_chk276 v5584), ∀ a, (k0_off305 v5584) a + S1x2x16x128.size a ≤ S112x2x16x128.size a := fun v5584 k0_hw276 => k0_hw276

def k0_off306 (v5588 : BitVec 32) : Fin 4 → Nat :=
  let v5589 : Index := Scalar.indexCast v5588
  let c0_3925 : Index := 0#32
  let c0_3926 : Index := 0#32
  let c0_3927 : Index := 0#32
  ![v5589.toNat, 0, 0, 0]

def k0_chk277 (v5588 : BitVec 32) : Prop :=
  (∀ a, (k0_off306 v5588) a + S1x2x16x128.size a ≤ S112x2x16x128.size a)
theorem k0_off306_inb : ∀ (v5588 : BitVec 32) (k0_hw277 : k0_chk277 v5588), ∀ a, (k0_off306 v5588) a + S1x2x16x128.size a ≤ S112x2x16x128.size a := fun v5588 k0_hw277 => k0_hw277

def k0_off307 (v5592 : BitVec 32) : Fin 4 → Nat :=
  let v5593 : Index := Scalar.indexCast v5592
  let c0_3929 : Index := 0#32
  let c0_3930 : Index := 0#32
  let c0_3931 : Index := 0#32
  ![v5593.toNat, 0, 0, 0]

def k0_chk278 (v5592 : BitVec 32) : Prop :=
  (∀ a, (k0_off307 v5592) a + S1x2x16x128.size a ≤ S112x2x16x128.size a)
theorem k0_off307_inb : ∀ (v5592 : BitVec 32) (k0_hw278 : k0_chk278 v5592), ∀ a, (k0_off307 v5592) a + S1x2x16x128.size a ≤ S112x2x16x128.size a := fun v5592 k0_hw278 => k0_hw278

def k0_off308 (v5596 : BitVec 32) : Fin 4 → Nat :=
  let v5597 : Index := Scalar.indexCast v5596
  let c0_3933 : Index := 0#32
  let c0_3934 : Index := 0#32
  let c0_3935 : Index := 0#32
  ![v5597.toNat, 0, 0, 0]

def k0_chk279 (v5596 : BitVec 32) : Prop :=
  (∀ a, (k0_off308 v5596) a + S1x2x16x128.size a ≤ S112x2x16x128.size a)
theorem k0_off308_inb : ∀ (v5596 : BitVec 32) (k0_hw279 : k0_chk279 v5596), ∀ a, (k0_off308 v5596) a + S1x2x16x128.size a ≤ S112x2x16x128.size a := fun v5596 k0_hw279 => k0_hw279

def k0_off309 (v5600 : BitVec 32) : Fin 4 → Nat :=
  let v5601 : Index := Scalar.indexCast v5600
  let c0_3937 : Index := 0#32
  let c0_3938 : Index := 0#32
  let c0_3939 : Index := 0#32
  ![v5601.toNat, 0, 0, 0]

def k0_chk280 (v5600 : BitVec 32) : Prop :=
  (∀ a, (k0_off309 v5600) a + S1x2x16x128.size a ≤ S112x2x16x128.size a)
theorem k0_off309_inb : ∀ (v5600 : BitVec 32) (k0_hw280 : k0_chk280 v5600), ∀ a, (k0_off309 v5600) a + S1x2x16x128.size a ≤ S112x2x16x128.size a := fun v5600 k0_hw280 => k0_hw280

def k0_off310 (v5627 : BitVec 32) : Fin 4 → Nat :=
  let v5628 : Index := Scalar.indexCast v5627
  let c0_3953 : Index := 0#32
  let c0_3954 : Index := 0#32
  let c0_3955 : Index := 0#32
  ![v5628.toNat, 0, 0, 0]

def k0_chk281 (v5627 : BitVec 32) : Prop :=
  (∀ a, (k0_off310 v5627) a + S1x2x16x128.size a ≤ S112x2x16x128.size a)
theorem k0_off310_inb : ∀ (v5627 : BitVec 32) (k0_hw281 : k0_chk281 v5627), ∀ a, (k0_off310 v5627) a + S1x2x16x128.size a ≤ S112x2x16x128.size a := fun v5627 k0_hw281 => k0_hw281

def k0_off311 (v5631 : BitVec 32) : Fin 4 → Nat :=
  let v5632 : Index := Scalar.indexCast v5631
  let c0_3957 : Index := 0#32
  let c0_3958 : Index := 0#32
  let c0_3959 : Index := 0#32
  ![v5632.toNat, 0, 0, 0]

def k0_chk282 (v5631 : BitVec 32) : Prop :=
  (∀ a, (k0_off311 v5631) a + S1x2x16x128.size a ≤ S112x2x16x128.size a)
theorem k0_off311_inb : ∀ (v5631 : BitVec 32) (k0_hw282 : k0_chk282 v5631), ∀ a, (k0_off311 v5631) a + S1x2x16x128.size a ≤ S112x2x16x128.size a := fun v5631 k0_hw282 => k0_hw282

def k0_off312 (v5635 : BitVec 32) : Fin 4 → Nat :=
  let v5636 : Index := Scalar.indexCast v5635
  let c0_3961 : Index := 0#32
  let c0_3962 : Index := 0#32
  let c0_3963 : Index := 0#32
  ![v5636.toNat, 0, 0, 0]

def k0_chk283 (v5635 : BitVec 32) : Prop :=
  (∀ a, (k0_off312 v5635) a + S1x2x16x128.size a ≤ S112x2x16x128.size a)
theorem k0_off312_inb : ∀ (v5635 : BitVec 32) (k0_hw283 : k0_chk283 v5635), ∀ a, (k0_off312 v5635) a + S1x2x16x128.size a ≤ S112x2x16x128.size a := fun v5635 k0_hw283 => k0_hw283

def k0_off313 (v5639 : BitVec 32) : Fin 4 → Nat :=
  let v5640 : Index := Scalar.indexCast v5639
  let c0_3965 : Index := 0#32
  let c0_3966 : Index := 0#32
  let c0_3967 : Index := 0#32
  ![v5640.toNat, 0, 0, 0]

def k0_chk284 (v5639 : BitVec 32) : Prop :=
  (∀ a, (k0_off313 v5639) a + S1x2x16x128.size a ≤ S112x2x16x128.size a)
theorem k0_off313_inb : ∀ (v5639 : BitVec 32) (k0_hw284 : k0_chk284 v5639), ∀ a, (k0_off313 v5639) a + S1x2x16x128.size a ≤ S112x2x16x128.size a := fun v5639 k0_hw284 => k0_hw284

def k0_off314 (v5643 : BitVec 32) : Fin 4 → Nat :=
  let v5644 : Index := Scalar.indexCast v5643
  let c0_3969 : Index := 0#32
  let c0_3970 : Index := 0#32
  let c0_3971 : Index := 0#32
  ![v5644.toNat, 0, 0, 0]

def k0_chk285 (v5643 : BitVec 32) : Prop :=
  (∀ a, (k0_off314 v5643) a + S1x2x16x128.size a ≤ S112x2x16x128.size a)
theorem k0_off314_inb : ∀ (v5643 : BitVec 32) (k0_hw285 : k0_chk285 v5643), ∀ a, (k0_off314 v5643) a + S1x2x16x128.size a ≤ S112x2x16x128.size a := fun v5643 k0_hw285 => k0_hw285

def k0_off315 (v5647 : BitVec 32) : Fin 4 → Nat :=
  let v5648 : Index := Scalar.indexCast v5647
  let c0_3973 : Index := 0#32
  let c0_3974 : Index := 0#32
  let c0_3975 : Index := 0#32
  ![v5648.toNat, 0, 0, 0]

def k0_chk286 (v5647 : BitVec 32) : Prop :=
  (∀ a, (k0_off315 v5647) a + S1x2x16x128.size a ≤ S112x2x16x128.size a)
theorem k0_off315_inb : ∀ (v5647 : BitVec 32) (k0_hw286 : k0_chk286 v5647), ∀ a, (k0_off315 v5647) a + S1x2x16x128.size a ≤ S112x2x16x128.size a := fun v5647 k0_hw286 => k0_hw286

def k0_off316 (v5651 : BitVec 32) : Fin 4 → Nat :=
  let v5652 : Index := Scalar.indexCast v5651
  let c0_3977 : Index := 0#32
  let c0_3978 : Index := 0#32
  let c0_3979 : Index := 0#32
  ![v5652.toNat, 0, 0, 0]

def k0_chk287 (v5651 : BitVec 32) : Prop :=
  (∀ a, (k0_off316 v5651) a + S1x2x16x128.size a ≤ S112x2x16x128.size a)
theorem k0_off316_inb : ∀ (v5651 : BitVec 32) (k0_hw287 : k0_chk287 v5651), ∀ a, (k0_off316 v5651) a + S1x2x16x128.size a ≤ S112x2x16x128.size a := fun v5651 k0_hw287 => k0_hw287

def k0_off317 (v5678 : BitVec 32) : Fin 4 → Nat :=
  let v5679 : Index := Scalar.indexCast v5678
  let c0_3993 : Index := 0#32
  let c0_3994 : Index := 0#32
  let c0_3995 : Index := 0#32
  ![v5679.toNat, 0, 0, 0]

def k0_chk288 (v5678 : BitVec 32) : Prop :=
  (∀ a, (k0_off317 v5678) a + S1x2x16x128.size a ≤ S112x2x16x128.size a)
theorem k0_off317_inb : ∀ (v5678 : BitVec 32) (k0_hw288 : k0_chk288 v5678), ∀ a, (k0_off317 v5678) a + S1x2x16x128.size a ≤ S112x2x16x128.size a := fun v5678 k0_hw288 => k0_hw288

def k0_off318 (v5682 : BitVec 32) : Fin 4 → Nat :=
  let v5683 : Index := Scalar.indexCast v5682
  let c0_3997 : Index := 0#32
  let c0_3998 : Index := 0#32
  let c0_3999 : Index := 0#32
  ![v5683.toNat, 0, 0, 0]

def k0_chk289 (v5682 : BitVec 32) : Prop :=
  (∀ a, (k0_off318 v5682) a + S1x2x16x128.size a ≤ S112x2x16x128.size a)
theorem k0_off318_inb : ∀ (v5682 : BitVec 32) (k0_hw289 : k0_chk289 v5682), ∀ a, (k0_off318 v5682) a + S1x2x16x128.size a ≤ S112x2x16x128.size a := fun v5682 k0_hw289 => k0_hw289

def k0_off319 (v5686 : BitVec 32) : Fin 4 → Nat :=
  let v5687 : Index := Scalar.indexCast v5686
  let c0_4001 : Index := 0#32
  let c0_4002 : Index := 0#32
  let c0_4003 : Index := 0#32
  ![v5687.toNat, 0, 0, 0]

def k0_chk290 (v5686 : BitVec 32) : Prop :=
  (∀ a, (k0_off319 v5686) a + S1x2x16x128.size a ≤ S112x2x16x128.size a)
theorem k0_off319_inb : ∀ (v5686 : BitVec 32) (k0_hw290 : k0_chk290 v5686), ∀ a, (k0_off319 v5686) a + S1x2x16x128.size a ≤ S112x2x16x128.size a := fun v5686 k0_hw290 => k0_hw290

def k0_off320 (v5690 : BitVec 32) : Fin 4 → Nat :=
  let v5691 : Index := Scalar.indexCast v5690
  let c0_4005 : Index := 0#32
  let c0_4006 : Index := 0#32
  let c0_4007 : Index := 0#32
  ![v5691.toNat, 0, 0, 0]

def k0_chk291 (v5690 : BitVec 32) : Prop :=
  (∀ a, (k0_off320 v5690) a + S1x2x16x128.size a ≤ S112x2x16x128.size a)
theorem k0_off320_inb : ∀ (v5690 : BitVec 32) (k0_hw291 : k0_chk291 v5690), ∀ a, (k0_off320 v5690) a + S1x2x16x128.size a ≤ S112x2x16x128.size a := fun v5690 k0_hw291 => k0_hw291

def k0_off321 (v5694 : BitVec 32) : Fin 4 → Nat :=
  let v5695 : Index := Scalar.indexCast v5694
  let c0_4009 : Index := 0#32
  let c0_4010 : Index := 0#32
  let c0_4011 : Index := 0#32
  ![v5695.toNat, 0, 0, 0]

def k0_chk292 (v5694 : BitVec 32) : Prop :=
  (∀ a, (k0_off321 v5694) a + S1x2x16x128.size a ≤ S112x2x16x128.size a)
theorem k0_off321_inb : ∀ (v5694 : BitVec 32) (k0_hw292 : k0_chk292 v5694), ∀ a, (k0_off321 v5694) a + S1x2x16x128.size a ≤ S112x2x16x128.size a := fun v5694 k0_hw292 => k0_hw292

def k0_off322 (v5698 : BitVec 32) : Fin 4 → Nat :=
  let v5699 : Index := Scalar.indexCast v5698
  let c0_4013 : Index := 0#32
  let c0_4014 : Index := 0#32
  let c0_4015 : Index := 0#32
  ![v5699.toNat, 0, 0, 0]

def k0_chk293 (v5698 : BitVec 32) : Prop :=
  (∀ a, (k0_off322 v5698) a + S1x2x16x128.size a ≤ S112x2x16x128.size a)
theorem k0_off322_inb : ∀ (v5698 : BitVec 32) (k0_hw293 : k0_chk293 v5698), ∀ a, (k0_off322 v5698) a + S1x2x16x128.size a ≤ S112x2x16x128.size a := fun v5698 k0_hw293 => k0_hw293

def k0_off323 (v5702 : BitVec 32) : Fin 4 → Nat :=
  let v5703 : Index := Scalar.indexCast v5702
  let c0_4017 : Index := 0#32
  let c0_4018 : Index := 0#32
  let c0_4019 : Index := 0#32
  ![v5703.toNat, 0, 0, 0]

def k0_chk294 (v5702 : BitVec 32) : Prop :=
  (∀ a, (k0_off323 v5702) a + S1x2x16x128.size a ≤ S112x2x16x128.size a)
theorem k0_off323_inb : ∀ (v5702 : BitVec 32) (k0_hw294 : k0_chk294 v5702), ∀ a, (k0_off323 v5702) a + S1x2x16x128.size a ≤ S112x2x16x128.size a := fun v5702 k0_hw294 => k0_hw294

def k0_off324 (v5729 : BitVec 32) : Fin 4 → Nat :=
  let v5730 : Index := Scalar.indexCast v5729
  let c0_4033 : Index := 0#32
  let c0_4034 : Index := 0#32
  let c0_4035 : Index := 0#32
  ![v5730.toNat, 0, 0, 0]

def k0_chk295 (v5729 : BitVec 32) : Prop :=
  (∀ a, (k0_off324 v5729) a + S1x2x16x128.size a ≤ S112x2x16x128.size a)
theorem k0_off324_inb : ∀ (v5729 : BitVec 32) (k0_hw295 : k0_chk295 v5729), ∀ a, (k0_off324 v5729) a + S1x2x16x128.size a ≤ S112x2x16x128.size a := fun v5729 k0_hw295 => k0_hw295

def k0_off325 (v5733 : BitVec 32) : Fin 4 → Nat :=
  let v5734 : Index := Scalar.indexCast v5733
  let c0_4037 : Index := 0#32
  let c0_4038 : Index := 0#32
  let c0_4039 : Index := 0#32
  ![v5734.toNat, 0, 0, 0]

def k0_chk296 (v5733 : BitVec 32) : Prop :=
  (∀ a, (k0_off325 v5733) a + S1x2x16x128.size a ≤ S112x2x16x128.size a)
theorem k0_off325_inb : ∀ (v5733 : BitVec 32) (k0_hw296 : k0_chk296 v5733), ∀ a, (k0_off325 v5733) a + S1x2x16x128.size a ≤ S112x2x16x128.size a := fun v5733 k0_hw296 => k0_hw296

def k0_off326 (v5737 : BitVec 32) : Fin 4 → Nat :=
  let v5738 : Index := Scalar.indexCast v5737
  let c0_4041 : Index := 0#32
  let c0_4042 : Index := 0#32
  let c0_4043 : Index := 0#32
  ![v5738.toNat, 0, 0, 0]

def k0_chk297 (v5737 : BitVec 32) : Prop :=
  (∀ a, (k0_off326 v5737) a + S1x2x16x128.size a ≤ S112x2x16x128.size a)
theorem k0_off326_inb : ∀ (v5737 : BitVec 32) (k0_hw297 : k0_chk297 v5737), ∀ a, (k0_off326 v5737) a + S1x2x16x128.size a ≤ S112x2x16x128.size a := fun v5737 k0_hw297 => k0_hw297

def k0_off327 (v5741 : BitVec 32) : Fin 4 → Nat :=
  let v5742 : Index := Scalar.indexCast v5741
  let c0_4045 : Index := 0#32
  let c0_4046 : Index := 0#32
  let c0_4047 : Index := 0#32
  ![v5742.toNat, 0, 0, 0]

def k0_chk298 (v5741 : BitVec 32) : Prop :=
  (∀ a, (k0_off327 v5741) a + S1x2x16x128.size a ≤ S112x2x16x128.size a)
theorem k0_off327_inb : ∀ (v5741 : BitVec 32) (k0_hw298 : k0_chk298 v5741), ∀ a, (k0_off327 v5741) a + S1x2x16x128.size a ≤ S112x2x16x128.size a := fun v5741 k0_hw298 => k0_hw298

def k0_off328 (v5745 : BitVec 32) : Fin 4 → Nat :=
  let v5746 : Index := Scalar.indexCast v5745
  let c0_4049 : Index := 0#32
  let c0_4050 : Index := 0#32
  let c0_4051 : Index := 0#32
  ![v5746.toNat, 0, 0, 0]

def k0_chk299 (v5745 : BitVec 32) : Prop :=
  (∀ a, (k0_off328 v5745) a + S1x2x16x128.size a ≤ S112x2x16x128.size a)
theorem k0_off328_inb : ∀ (v5745 : BitVec 32) (k0_hw299 : k0_chk299 v5745), ∀ a, (k0_off328 v5745) a + S1x2x16x128.size a ≤ S112x2x16x128.size a := fun v5745 k0_hw299 => k0_hw299

def k0_off329 (v5749 : BitVec 32) : Fin 4 → Nat :=
  let v5750 : Index := Scalar.indexCast v5749
  let c0_4053 : Index := 0#32
  let c0_4054 : Index := 0#32
  let c0_4055 : Index := 0#32
  ![v5750.toNat, 0, 0, 0]

def k0_chk300 (v5749 : BitVec 32) : Prop :=
  (∀ a, (k0_off329 v5749) a + S1x2x16x128.size a ≤ S112x2x16x128.size a)
theorem k0_off329_inb : ∀ (v5749 : BitVec 32) (k0_hw300 : k0_chk300 v5749), ∀ a, (k0_off329 v5749) a + S1x2x16x128.size a ≤ S112x2x16x128.size a := fun v5749 k0_hw300 => k0_hw300

def k0_off330 (v5753 : BitVec 32) : Fin 4 → Nat :=
  let v5754 : Index := Scalar.indexCast v5753
  let c0_4057 : Index := 0#32
  let c0_4058 : Index := 0#32
  let c0_4059 : Index := 0#32
  ![v5754.toNat, 0, 0, 0]

def k0_chk301 (v5753 : BitVec 32) : Prop :=
  (∀ a, (k0_off330 v5753) a + S1x2x16x128.size a ≤ S112x2x16x128.size a)
theorem k0_off330_inb : ∀ (v5753 : BitVec 32) (k0_hw301 : k0_chk301 v5753), ∀ a, (k0_off330 v5753) a + S1x2x16x128.size a ≤ S112x2x16x128.size a := fun v5753 k0_hw301 => k0_hw301

def k0_off331 (v5780 : BitVec 32) : Fin 4 → Nat :=
  let v5781 : Index := Scalar.indexCast v5780
  let c0_4073 : Index := 0#32
  let c0_4074 : Index := 0#32
  let c0_4075 : Index := 0#32
  ![v5781.toNat, 0, 0, 0]

def k0_chk302 (v5780 : BitVec 32) : Prop :=
  (∀ a, (k0_off331 v5780) a + S1x2x16x128.size a ≤ S112x2x16x128.size a)
theorem k0_off331_inb : ∀ (v5780 : BitVec 32) (k0_hw302 : k0_chk302 v5780), ∀ a, (k0_off331 v5780) a + S1x2x16x128.size a ≤ S112x2x16x128.size a := fun v5780 k0_hw302 => k0_hw302

def k0_off332 (v5784 : BitVec 32) : Fin 4 → Nat :=
  let v5785 : Index := Scalar.indexCast v5784
  let c0_4077 : Index := 0#32
  let c0_4078 : Index := 0#32
  let c0_4079 : Index := 0#32
  ![v5785.toNat, 0, 0, 0]

def k0_chk303 (v5784 : BitVec 32) : Prop :=
  (∀ a, (k0_off332 v5784) a + S1x2x16x128.size a ≤ S112x2x16x128.size a)
theorem k0_off332_inb : ∀ (v5784 : BitVec 32) (k0_hw303 : k0_chk303 v5784), ∀ a, (k0_off332 v5784) a + S1x2x16x128.size a ≤ S112x2x16x128.size a := fun v5784 k0_hw303 => k0_hw303

def k0_off333 (v5788 : BitVec 32) : Fin 4 → Nat :=
  let v5789 : Index := Scalar.indexCast v5788
  let c0_4081 : Index := 0#32
  let c0_4082 : Index := 0#32
  let c0_4083 : Index := 0#32
  ![v5789.toNat, 0, 0, 0]

def k0_chk304 (v5788 : BitVec 32) : Prop :=
  (∀ a, (k0_off333 v5788) a + S1x2x16x128.size a ≤ S112x2x16x128.size a)
theorem k0_off333_inb : ∀ (v5788 : BitVec 32) (k0_hw304 : k0_chk304 v5788), ∀ a, (k0_off333 v5788) a + S1x2x16x128.size a ≤ S112x2x16x128.size a := fun v5788 k0_hw304 => k0_hw304

def k0_off334 (v5792 : BitVec 32) : Fin 4 → Nat :=
  let v5793 : Index := Scalar.indexCast v5792
  let c0_4085 : Index := 0#32
  let c0_4086 : Index := 0#32
  let c0_4087 : Index := 0#32
  ![v5793.toNat, 0, 0, 0]

def k0_chk305 (v5792 : BitVec 32) : Prop :=
  (∀ a, (k0_off334 v5792) a + S1x2x16x128.size a ≤ S112x2x16x128.size a)
theorem k0_off334_inb : ∀ (v5792 : BitVec 32) (k0_hw305 : k0_chk305 v5792), ∀ a, (k0_off334 v5792) a + S1x2x16x128.size a ≤ S112x2x16x128.size a := fun v5792 k0_hw305 => k0_hw305

def k0_off335 (v5796 : BitVec 32) : Fin 4 → Nat :=
  let v5797 : Index := Scalar.indexCast v5796
  let c0_4089 : Index := 0#32
  let c0_4090 : Index := 0#32
  let c0_4091 : Index := 0#32
  ![v5797.toNat, 0, 0, 0]

def k0_chk306 (v5796 : BitVec 32) : Prop :=
  (∀ a, (k0_off335 v5796) a + S1x2x16x128.size a ≤ S112x2x16x128.size a)
theorem k0_off335_inb : ∀ (v5796 : BitVec 32) (k0_hw306 : k0_chk306 v5796), ∀ a, (k0_off335 v5796) a + S1x2x16x128.size a ≤ S112x2x16x128.size a := fun v5796 k0_hw306 => k0_hw306

def k0_off336 (v5800 : BitVec 32) : Fin 4 → Nat :=
  let v5801 : Index := Scalar.indexCast v5800
  let c0_4093 : Index := 0#32
  let c0_4094 : Index := 0#32
  let c0_4095 : Index := 0#32
  ![v5801.toNat, 0, 0, 0]

def k0_chk307 (v5800 : BitVec 32) : Prop :=
  (∀ a, (k0_off336 v5800) a + S1x2x16x128.size a ≤ S112x2x16x128.size a)
theorem k0_off336_inb : ∀ (v5800 : BitVec 32) (k0_hw307 : k0_chk307 v5800), ∀ a, (k0_off336 v5800) a + S1x2x16x128.size a ≤ S112x2x16x128.size a := fun v5800 k0_hw307 => k0_hw307

def k0_off337 (v5804 : BitVec 32) : Fin 4 → Nat :=
  let v5805 : Index := Scalar.indexCast v5804
  let c0_4097 : Index := 0#32
  let c0_4098 : Index := 0#32
  let c0_4099 : Index := 0#32
  ![v5805.toNat, 0, 0, 0]

def k0_chk308 (v5804 : BitVec 32) : Prop :=
  (∀ a, (k0_off337 v5804) a + S1x2x16x128.size a ≤ S112x2x16x128.size a)
theorem k0_off337_inb : ∀ (v5804 : BitVec 32) (k0_hw308 : k0_chk308 v5804), ∀ a, (k0_off337 v5804) a + S1x2x16x128.size a ≤ S112x2x16x128.size a := fun v5804 k0_hw308 => k0_hw308

def k0_off338 (v5831 : BitVec 32) : Fin 4 → Nat :=
  let v5832 : Index := Scalar.indexCast v5831
  let c0_4113 : Index := 0#32
  let c0_4114 : Index := 0#32
  let c0_4115 : Index := 0#32
  ![v5832.toNat, 0, 0, 0]

def k0_chk309 (v5831 : BitVec 32) : Prop :=
  (∀ a, (k0_off338 v5831) a + S1x2x16x128.size a ≤ S112x2x16x128.size a)
theorem k0_off338_inb : ∀ (v5831 : BitVec 32) (k0_hw309 : k0_chk309 v5831), ∀ a, (k0_off338 v5831) a + S1x2x16x128.size a ≤ S112x2x16x128.size a := fun v5831 k0_hw309 => k0_hw309

def k0_off339 (v5835 : BitVec 32) : Fin 4 → Nat :=
  let v5836 : Index := Scalar.indexCast v5835
  let c0_4117 : Index := 0#32
  let c0_4118 : Index := 0#32
  let c0_4119 : Index := 0#32
  ![v5836.toNat, 0, 0, 0]

def k0_chk310 (v5835 : BitVec 32) : Prop :=
  (∀ a, (k0_off339 v5835) a + S1x2x16x128.size a ≤ S112x2x16x128.size a)
theorem k0_off339_inb : ∀ (v5835 : BitVec 32) (k0_hw310 : k0_chk310 v5835), ∀ a, (k0_off339 v5835) a + S1x2x16x128.size a ≤ S112x2x16x128.size a := fun v5835 k0_hw310 => k0_hw310

def k0_off340 (v5839 : BitVec 32) : Fin 4 → Nat :=
  let v5840 : Index := Scalar.indexCast v5839
  let c0_4121 : Index := 0#32
  let c0_4122 : Index := 0#32
  let c0_4123 : Index := 0#32
  ![v5840.toNat, 0, 0, 0]

def k0_chk311 (v5839 : BitVec 32) : Prop :=
  (∀ a, (k0_off340 v5839) a + S1x2x16x128.size a ≤ S112x2x16x128.size a)
theorem k0_off340_inb : ∀ (v5839 : BitVec 32) (k0_hw311 : k0_chk311 v5839), ∀ a, (k0_off340 v5839) a + S1x2x16x128.size a ≤ S112x2x16x128.size a := fun v5839 k0_hw311 => k0_hw311

def k0_off341 (v5843 : BitVec 32) : Fin 4 → Nat :=
  let v5844 : Index := Scalar.indexCast v5843
  let c0_4125 : Index := 0#32
  let c0_4126 : Index := 0#32
  let c0_4127 : Index := 0#32
  ![v5844.toNat, 0, 0, 0]

def k0_chk312 (v5843 : BitVec 32) : Prop :=
  (∀ a, (k0_off341 v5843) a + S1x2x16x128.size a ≤ S112x2x16x128.size a)
theorem k0_off341_inb : ∀ (v5843 : BitVec 32) (k0_hw312 : k0_chk312 v5843), ∀ a, (k0_off341 v5843) a + S1x2x16x128.size a ≤ S112x2x16x128.size a := fun v5843 k0_hw312 => k0_hw312

def k0_off342 (v5847 : BitVec 32) : Fin 4 → Nat :=
  let v5848 : Index := Scalar.indexCast v5847
  let c0_4129 : Index := 0#32
  let c0_4130 : Index := 0#32
  let c0_4131 : Index := 0#32
  ![v5848.toNat, 0, 0, 0]

def k0_chk313 (v5847 : BitVec 32) : Prop :=
  (∀ a, (k0_off342 v5847) a + S1x2x16x128.size a ≤ S112x2x16x128.size a)
theorem k0_off342_inb : ∀ (v5847 : BitVec 32) (k0_hw313 : k0_chk313 v5847), ∀ a, (k0_off342 v5847) a + S1x2x16x128.size a ≤ S112x2x16x128.size a := fun v5847 k0_hw313 => k0_hw313

def k0_off343 (v5851 : BitVec 32) : Fin 4 → Nat :=
  let v5852 : Index := Scalar.indexCast v5851
  let c0_4133 : Index := 0#32
  let c0_4134 : Index := 0#32
  let c0_4135 : Index := 0#32
  ![v5852.toNat, 0, 0, 0]

def k0_chk314 (v5851 : BitVec 32) : Prop :=
  (∀ a, (k0_off343 v5851) a + S1x2x16x128.size a ≤ S112x2x16x128.size a)
theorem k0_off343_inb : ∀ (v5851 : BitVec 32) (k0_hw314 : k0_chk314 v5851), ∀ a, (k0_off343 v5851) a + S1x2x16x128.size a ≤ S112x2x16x128.size a := fun v5851 k0_hw314 => k0_hw314

def k0_off344 (v5855 : BitVec 32) : Fin 4 → Nat :=
  let v5856 : Index := Scalar.indexCast v5855
  let c0_4137 : Index := 0#32
  let c0_4138 : Index := 0#32
  let c0_4139 : Index := 0#32
  ![v5856.toNat, 0, 0, 0]

def k0_chk315 (v5855 : BitVec 32) : Prop :=
  (∀ a, (k0_off344 v5855) a + S1x2x16x128.size a ≤ S112x2x16x128.size a)
theorem k0_off344_inb : ∀ (v5855 : BitVec 32) (k0_hw315 : k0_chk315 v5855), ∀ a, (k0_off344 v5855) a + S1x2x16x128.size a ≤ S112x2x16x128.size a := fun v5855 k0_hw315 => k0_hw315

def k0_off345 (v5882 : BitVec 32) : Fin 4 → Nat :=
  let v5883 : Index := Scalar.indexCast v5882
  let c0_4153 : Index := 0#32
  let c0_4154 : Index := 0#32
  let c0_4155 : Index := 0#32
  ![v5883.toNat, 0, 0, 0]

def k0_chk316 (v5882 : BitVec 32) : Prop :=
  (∀ a, (k0_off345 v5882) a + S1x2x16x128.size a ≤ S112x2x16x128.size a)
theorem k0_off345_inb : ∀ (v5882 : BitVec 32) (k0_hw316 : k0_chk316 v5882), ∀ a, (k0_off345 v5882) a + S1x2x16x128.size a ≤ S112x2x16x128.size a := fun v5882 k0_hw316 => k0_hw316

def k0_off346 (v5886 : BitVec 32) : Fin 4 → Nat :=
  let v5887 : Index := Scalar.indexCast v5886
  let c0_4157 : Index := 0#32
  let c0_4158 : Index := 0#32
  let c0_4159 : Index := 0#32
  ![v5887.toNat, 0, 0, 0]

def k0_chk317 (v5886 : BitVec 32) : Prop :=
  (∀ a, (k0_off346 v5886) a + S1x2x16x128.size a ≤ S112x2x16x128.size a)
theorem k0_off346_inb : ∀ (v5886 : BitVec 32) (k0_hw317 : k0_chk317 v5886), ∀ a, (k0_off346 v5886) a + S1x2x16x128.size a ≤ S112x2x16x128.size a := fun v5886 k0_hw317 => k0_hw317

def k0_off347 (v5890 : BitVec 32) : Fin 4 → Nat :=
  let v5891 : Index := Scalar.indexCast v5890
  let c0_4161 : Index := 0#32
  let c0_4162 : Index := 0#32
  let c0_4163 : Index := 0#32
  ![v5891.toNat, 0, 0, 0]

def k0_chk318 (v5890 : BitVec 32) : Prop :=
  (∀ a, (k0_off347 v5890) a + S1x2x16x128.size a ≤ S112x2x16x128.size a)
theorem k0_off347_inb : ∀ (v5890 : BitVec 32) (k0_hw318 : k0_chk318 v5890), ∀ a, (k0_off347 v5890) a + S1x2x16x128.size a ≤ S112x2x16x128.size a := fun v5890 k0_hw318 => k0_hw318

def k0_off348 (v5894 : BitVec 32) : Fin 4 → Nat :=
  let v5895 : Index := Scalar.indexCast v5894
  let c0_4165 : Index := 0#32
  let c0_4166 : Index := 0#32
  let c0_4167 : Index := 0#32
  ![v5895.toNat, 0, 0, 0]

def k0_chk319 (v5894 : BitVec 32) : Prop :=
  (∀ a, (k0_off348 v5894) a + S1x2x16x128.size a ≤ S112x2x16x128.size a)
theorem k0_off348_inb : ∀ (v5894 : BitVec 32) (k0_hw319 : k0_chk319 v5894), ∀ a, (k0_off348 v5894) a + S1x2x16x128.size a ≤ S112x2x16x128.size a := fun v5894 k0_hw319 => k0_hw319

def k0_off349 (v5898 : BitVec 32) : Fin 4 → Nat :=
  let v5899 : Index := Scalar.indexCast v5898
  let c0_4169 : Index := 0#32
  let c0_4170 : Index := 0#32
  let c0_4171 : Index := 0#32
  ![v5899.toNat, 0, 0, 0]

def k0_chk320 (v5898 : BitVec 32) : Prop :=
  (∀ a, (k0_off349 v5898) a + S1x2x16x128.size a ≤ S112x2x16x128.size a)
theorem k0_off349_inb : ∀ (v5898 : BitVec 32) (k0_hw320 : k0_chk320 v5898), ∀ a, (k0_off349 v5898) a + S1x2x16x128.size a ≤ S112x2x16x128.size a := fun v5898 k0_hw320 => k0_hw320

def k0_off350 (v5902 : BitVec 32) : Fin 4 → Nat :=
  let v5903 : Index := Scalar.indexCast v5902
  let c0_4173 : Index := 0#32
  let c0_4174 : Index := 0#32
  let c0_4175 : Index := 0#32
  ![v5903.toNat, 0, 0, 0]

def k0_chk321 (v5902 : BitVec 32) : Prop :=
  (∀ a, (k0_off350 v5902) a + S1x2x16x128.size a ≤ S112x2x16x128.size a)
theorem k0_off350_inb : ∀ (v5902 : BitVec 32) (k0_hw321 : k0_chk321 v5902), ∀ a, (k0_off350 v5902) a + S1x2x16x128.size a ≤ S112x2x16x128.size a := fun v5902 k0_hw321 => k0_hw321

def k0_off351 (v5906 : BitVec 32) : Fin 4 → Nat :=
  let v5907 : Index := Scalar.indexCast v5906
  let c0_4177 : Index := 0#32
  let c0_4178 : Index := 0#32
  let c0_4179 : Index := 0#32
  ![v5907.toNat, 0, 0, 0]

def k0_chk322 (v5906 : BitVec 32) : Prop :=
  (∀ a, (k0_off351 v5906) a + S1x2x16x128.size a ≤ S112x2x16x128.size a)
theorem k0_off351_inb : ∀ (v5906 : BitVec 32) (k0_hw322 : k0_chk322 v5906), ∀ a, (k0_off351 v5906) a + S1x2x16x128.size a ≤ S112x2x16x128.size a := fun v5906 k0_hw322 => k0_hw322

def k0_off352 (v5933 : BitVec 32) : Fin 4 → Nat :=
  let v5934 : Index := Scalar.indexCast v5933
  let c0_4193 : Index := 0#32
  let c0_4194 : Index := 0#32
  let c0_4195 : Index := 0#32
  ![v5934.toNat, 0, 0, 0]

def k0_chk323 (v5933 : BitVec 32) : Prop :=
  (∀ a, (k0_off352 v5933) a + S1x2x16x128.size a ≤ S112x2x16x128.size a)
theorem k0_off352_inb : ∀ (v5933 : BitVec 32) (k0_hw323 : k0_chk323 v5933), ∀ a, (k0_off352 v5933) a + S1x2x16x128.size a ≤ S112x2x16x128.size a := fun v5933 k0_hw323 => k0_hw323

def k0_off353 (v5937 : BitVec 32) : Fin 4 → Nat :=
  let v5938 : Index := Scalar.indexCast v5937
  let c0_4197 : Index := 0#32
  let c0_4198 : Index := 0#32
  let c0_4199 : Index := 0#32
  ![v5938.toNat, 0, 0, 0]

def k0_chk324 (v5937 : BitVec 32) : Prop :=
  (∀ a, (k0_off353 v5937) a + S1x2x16x128.size a ≤ S112x2x16x128.size a)
theorem k0_off353_inb : ∀ (v5937 : BitVec 32) (k0_hw324 : k0_chk324 v5937), ∀ a, (k0_off353 v5937) a + S1x2x16x128.size a ≤ S112x2x16x128.size a := fun v5937 k0_hw324 => k0_hw324

def k0_off354 (v5941 : BitVec 32) : Fin 4 → Nat :=
  let v5942 : Index := Scalar.indexCast v5941
  let c0_4201 : Index := 0#32
  let c0_4202 : Index := 0#32
  let c0_4203 : Index := 0#32
  ![v5942.toNat, 0, 0, 0]

def k0_chk325 (v5941 : BitVec 32) : Prop :=
  (∀ a, (k0_off354 v5941) a + S1x2x16x128.size a ≤ S112x2x16x128.size a)
theorem k0_off354_inb : ∀ (v5941 : BitVec 32) (k0_hw325 : k0_chk325 v5941), ∀ a, (k0_off354 v5941) a + S1x2x16x128.size a ≤ S112x2x16x128.size a := fun v5941 k0_hw325 => k0_hw325

def k0_off355 (v5945 : BitVec 32) : Fin 4 → Nat :=
  let v5946 : Index := Scalar.indexCast v5945
  let c0_4205 : Index := 0#32
  let c0_4206 : Index := 0#32
  let c0_4207 : Index := 0#32
  ![v5946.toNat, 0, 0, 0]

def k0_chk326 (v5945 : BitVec 32) : Prop :=
  (∀ a, (k0_off355 v5945) a + S1x2x16x128.size a ≤ S112x2x16x128.size a)
theorem k0_off355_inb : ∀ (v5945 : BitVec 32) (k0_hw326 : k0_chk326 v5945), ∀ a, (k0_off355 v5945) a + S1x2x16x128.size a ≤ S112x2x16x128.size a := fun v5945 k0_hw326 => k0_hw326

def k0_off356 (v5949 : BitVec 32) : Fin 4 → Nat :=
  let v5950 : Index := Scalar.indexCast v5949
  let c0_4209 : Index := 0#32
  let c0_4210 : Index := 0#32
  let c0_4211 : Index := 0#32
  ![v5950.toNat, 0, 0, 0]

def k0_chk327 (v5949 : BitVec 32) : Prop :=
  (∀ a, (k0_off356 v5949) a + S1x2x16x128.size a ≤ S112x2x16x128.size a)
theorem k0_off356_inb : ∀ (v5949 : BitVec 32) (k0_hw327 : k0_chk327 v5949), ∀ a, (k0_off356 v5949) a + S1x2x16x128.size a ≤ S112x2x16x128.size a := fun v5949 k0_hw327 => k0_hw327

def k0_off357 (v5953 : BitVec 32) : Fin 4 → Nat :=
  let v5954 : Index := Scalar.indexCast v5953
  let c0_4213 : Index := 0#32
  let c0_4214 : Index := 0#32
  let c0_4215 : Index := 0#32
  ![v5954.toNat, 0, 0, 0]

def k0_chk328 (v5953 : BitVec 32) : Prop :=
  (∀ a, (k0_off357 v5953) a + S1x2x16x128.size a ≤ S112x2x16x128.size a)
theorem k0_off357_inb : ∀ (v5953 : BitVec 32) (k0_hw328 : k0_chk328 v5953), ∀ a, (k0_off357 v5953) a + S1x2x16x128.size a ≤ S112x2x16x128.size a := fun v5953 k0_hw328 => k0_hw328

def k0_off358 (v5957 : BitVec 32) : Fin 4 → Nat :=
  let v5958 : Index := Scalar.indexCast v5957
  let c0_4217 : Index := 0#32
  let c0_4218 : Index := 0#32
  let c0_4219 : Index := 0#32
  ![v5958.toNat, 0, 0, 0]

def k0_chk329 (v5957 : BitVec 32) : Prop :=
  (∀ a, (k0_off358 v5957) a + S1x2x16x128.size a ≤ S112x2x16x128.size a)
theorem k0_off358_inb : ∀ (v5957 : BitVec 32) (k0_hw329 : k0_chk329 v5957), ∀ a, (k0_off358 v5957) a + S1x2x16x128.size a ≤ S112x2x16x128.size a := fun v5957 k0_hw329 => k0_hw329

def k0_off359 (v5984 : BitVec 32) : Fin 4 → Nat :=
  let v5985 : Index := Scalar.indexCast v5984
  let c0_4233 : Index := 0#32
  let c0_4234 : Index := 0#32
  let c0_4235 : Index := 0#32
  ![v5985.toNat, 0, 0, 0]

def k0_chk330 (v5984 : BitVec 32) : Prop :=
  (∀ a, (k0_off359 v5984) a + S1x2x16x128.size a ≤ S112x2x16x128.size a)
theorem k0_off359_inb : ∀ (v5984 : BitVec 32) (k0_hw330 : k0_chk330 v5984), ∀ a, (k0_off359 v5984) a + S1x2x16x128.size a ≤ S112x2x16x128.size a := fun v5984 k0_hw330 => k0_hw330

def k0_off360 (v5988 : BitVec 32) : Fin 4 → Nat :=
  let v5989 : Index := Scalar.indexCast v5988
  let c0_4237 : Index := 0#32
  let c0_4238 : Index := 0#32
  let c0_4239 : Index := 0#32
  ![v5989.toNat, 0, 0, 0]

def k0_chk331 (v5988 : BitVec 32) : Prop :=
  (∀ a, (k0_off360 v5988) a + S1x2x16x128.size a ≤ S112x2x16x128.size a)
theorem k0_off360_inb : ∀ (v5988 : BitVec 32) (k0_hw331 : k0_chk331 v5988), ∀ a, (k0_off360 v5988) a + S1x2x16x128.size a ≤ S112x2x16x128.size a := fun v5988 k0_hw331 => k0_hw331

def k0_off361 (v5992 : BitVec 32) : Fin 4 → Nat :=
  let v5993 : Index := Scalar.indexCast v5992
  let c0_4241 : Index := 0#32
  let c0_4242 : Index := 0#32
  let c0_4243 : Index := 0#32
  ![v5993.toNat, 0, 0, 0]

def k0_chk332 (v5992 : BitVec 32) : Prop :=
  (∀ a, (k0_off361 v5992) a + S1x2x16x128.size a ≤ S112x2x16x128.size a)
theorem k0_off361_inb : ∀ (v5992 : BitVec 32) (k0_hw332 : k0_chk332 v5992), ∀ a, (k0_off361 v5992) a + S1x2x16x128.size a ≤ S112x2x16x128.size a := fun v5992 k0_hw332 => k0_hw332

def k0_off362 (v5996 : BitVec 32) : Fin 4 → Nat :=
  let v5997 : Index := Scalar.indexCast v5996
  let c0_4245 : Index := 0#32
  let c0_4246 : Index := 0#32
  let c0_4247 : Index := 0#32
  ![v5997.toNat, 0, 0, 0]

def k0_chk333 (v5996 : BitVec 32) : Prop :=
  (∀ a, (k0_off362 v5996) a + S1x2x16x128.size a ≤ S112x2x16x128.size a)
theorem k0_off362_inb : ∀ (v5996 : BitVec 32) (k0_hw333 : k0_chk333 v5996), ∀ a, (k0_off362 v5996) a + S1x2x16x128.size a ≤ S112x2x16x128.size a := fun v5996 k0_hw333 => k0_hw333

def k0_off363 (v6000 : BitVec 32) : Fin 4 → Nat :=
  let v6001 : Index := Scalar.indexCast v6000
  let c0_4249 : Index := 0#32
  let c0_4250 : Index := 0#32
  let c0_4251 : Index := 0#32
  ![v6001.toNat, 0, 0, 0]

def k0_chk334 (v6000 : BitVec 32) : Prop :=
  (∀ a, (k0_off363 v6000) a + S1x2x16x128.size a ≤ S112x2x16x128.size a)
theorem k0_off363_inb : ∀ (v6000 : BitVec 32) (k0_hw334 : k0_chk334 v6000), ∀ a, (k0_off363 v6000) a + S1x2x16x128.size a ≤ S112x2x16x128.size a := fun v6000 k0_hw334 => k0_hw334

def k0_off364 (v6004 : BitVec 32) : Fin 4 → Nat :=
  let v6005 : Index := Scalar.indexCast v6004
  let c0_4253 : Index := 0#32
  let c0_4254 : Index := 0#32
  let c0_4255 : Index := 0#32
  ![v6005.toNat, 0, 0, 0]

def k0_chk335 (v6004 : BitVec 32) : Prop :=
  (∀ a, (k0_off364 v6004) a + S1x2x16x128.size a ≤ S112x2x16x128.size a)
theorem k0_off364_inb : ∀ (v6004 : BitVec 32) (k0_hw335 : k0_chk335 v6004), ∀ a, (k0_off364 v6004) a + S1x2x16x128.size a ≤ S112x2x16x128.size a := fun v6004 k0_hw335 => k0_hw335

def k0_off365 (v6008 : BitVec 32) : Fin 4 → Nat :=
  let v6009 : Index := Scalar.indexCast v6008
  let c0_4257 : Index := 0#32
  let c0_4258 : Index := 0#32
  let c0_4259 : Index := 0#32
  ![v6009.toNat, 0, 0, 0]

def k0_chk336 (v6008 : BitVec 32) : Prop :=
  (∀ a, (k0_off365 v6008) a + S1x2x16x128.size a ≤ S112x2x16x128.size a)
theorem k0_off365_inb : ∀ (v6008 : BitVec 32) (k0_hw336 : k0_chk336 v6008), ∀ a, (k0_off365 v6008) a + S1x2x16x128.size a ≤ S112x2x16x128.size a := fun v6008 k0_hw336 => k0_hw336

def k0_off366 (v6035 : BitVec 32) : Fin 4 → Nat :=
  let v6036 : Index := Scalar.indexCast v6035
  let c0_4273 : Index := 0#32
  let c0_4274 : Index := 0#32
  let c0_4275 : Index := 0#32
  ![v6036.toNat, 0, 0, 0]

def k0_chk337 (v6035 : BitVec 32) : Prop :=
  (∀ a, (k0_off366 v6035) a + S1x2x16x128.size a ≤ S112x2x16x128.size a)
theorem k0_off366_inb : ∀ (v6035 : BitVec 32) (k0_hw337 : k0_chk337 v6035), ∀ a, (k0_off366 v6035) a + S1x2x16x128.size a ≤ S112x2x16x128.size a := fun v6035 k0_hw337 => k0_hw337

def k0_off367 (v6039 : BitVec 32) : Fin 4 → Nat :=
  let v6040 : Index := Scalar.indexCast v6039
  let c0_4277 : Index := 0#32
  let c0_4278 : Index := 0#32
  let c0_4279 : Index := 0#32
  ![v6040.toNat, 0, 0, 0]

def k0_chk338 (v6039 : BitVec 32) : Prop :=
  (∀ a, (k0_off367 v6039) a + S1x2x16x128.size a ≤ S112x2x16x128.size a)
theorem k0_off367_inb : ∀ (v6039 : BitVec 32) (k0_hw338 : k0_chk338 v6039), ∀ a, (k0_off367 v6039) a + S1x2x16x128.size a ≤ S112x2x16x128.size a := fun v6039 k0_hw338 => k0_hw338

def k0_off368 (v6043 : BitVec 32) : Fin 4 → Nat :=
  let v6044 : Index := Scalar.indexCast v6043
  let c0_4281 : Index := 0#32
  let c0_4282 : Index := 0#32
  let c0_4283 : Index := 0#32
  ![v6044.toNat, 0, 0, 0]

def k0_chk339 (v6043 : BitVec 32) : Prop :=
  (∀ a, (k0_off368 v6043) a + S1x2x16x128.size a ≤ S112x2x16x128.size a)
theorem k0_off368_inb : ∀ (v6043 : BitVec 32) (k0_hw339 : k0_chk339 v6043), ∀ a, (k0_off368 v6043) a + S1x2x16x128.size a ≤ S112x2x16x128.size a := fun v6043 k0_hw339 => k0_hw339

def k0_off369 (v6047 : BitVec 32) : Fin 4 → Nat :=
  let v6048 : Index := Scalar.indexCast v6047
  let c0_4285 : Index := 0#32
  let c0_4286 : Index := 0#32
  let c0_4287 : Index := 0#32
  ![v6048.toNat, 0, 0, 0]

def k0_chk340 (v6047 : BitVec 32) : Prop :=
  (∀ a, (k0_off369 v6047) a + S1x2x16x128.size a ≤ S112x2x16x128.size a)
theorem k0_off369_inb : ∀ (v6047 : BitVec 32) (k0_hw340 : k0_chk340 v6047), ∀ a, (k0_off369 v6047) a + S1x2x16x128.size a ≤ S112x2x16x128.size a := fun v6047 k0_hw340 => k0_hw340

def k0_off370 (v6051 : BitVec 32) : Fin 4 → Nat :=
  let v6052 : Index := Scalar.indexCast v6051
  let c0_4289 : Index := 0#32
  let c0_4290 : Index := 0#32
  let c0_4291 : Index := 0#32
  ![v6052.toNat, 0, 0, 0]

def k0_chk341 (v6051 : BitVec 32) : Prop :=
  (∀ a, (k0_off370 v6051) a + S1x2x16x128.size a ≤ S112x2x16x128.size a)
theorem k0_off370_inb : ∀ (v6051 : BitVec 32) (k0_hw341 : k0_chk341 v6051), ∀ a, (k0_off370 v6051) a + S1x2x16x128.size a ≤ S112x2x16x128.size a := fun v6051 k0_hw341 => k0_hw341

def k0_off371 (v6055 : BitVec 32) : Fin 4 → Nat :=
  let v6056 : Index := Scalar.indexCast v6055
  let c0_4293 : Index := 0#32
  let c0_4294 : Index := 0#32
  let c0_4295 : Index := 0#32
  ![v6056.toNat, 0, 0, 0]

def k0_chk342 (v6055 : BitVec 32) : Prop :=
  (∀ a, (k0_off371 v6055) a + S1x2x16x128.size a ≤ S112x2x16x128.size a)
theorem k0_off371_inb : ∀ (v6055 : BitVec 32) (k0_hw342 : k0_chk342 v6055), ∀ a, (k0_off371 v6055) a + S1x2x16x128.size a ≤ S112x2x16x128.size a := fun v6055 k0_hw342 => k0_hw342

def k0_off372 (v6059 : BitVec 32) : Fin 4 → Nat :=
  let v6060 : Index := Scalar.indexCast v6059
  let c0_4297 : Index := 0#32
  let c0_4298 : Index := 0#32
  let c0_4299 : Index := 0#32
  ![v6060.toNat, 0, 0, 0]

def k0_chk343 (v6059 : BitVec 32) : Prop :=
  (∀ a, (k0_off372 v6059) a + S1x2x16x128.size a ≤ S112x2x16x128.size a)
theorem k0_off372_inb : ∀ (v6059 : BitVec 32) (k0_hw343 : k0_chk343 v6059), ∀ a, (k0_off372 v6059) a + S1x2x16x128.size a ≤ S112x2x16x128.size a := fun v6059 k0_hw343 => k0_hw343

def k0_off373 (v6086 : BitVec 32) : Fin 4 → Nat :=
  let v6087 : Index := Scalar.indexCast v6086
  let c0_4313 : Index := 0#32
  let c0_4314 : Index := 0#32
  let c0_4315 : Index := 0#32
  ![v6087.toNat, 0, 0, 0]

def k0_chk344 (v6086 : BitVec 32) : Prop :=
  (∀ a, (k0_off373 v6086) a + S1x2x16x128.size a ≤ S112x2x16x128.size a)
theorem k0_off373_inb : ∀ (v6086 : BitVec 32) (k0_hw344 : k0_chk344 v6086), ∀ a, (k0_off373 v6086) a + S1x2x16x128.size a ≤ S112x2x16x128.size a := fun v6086 k0_hw344 => k0_hw344

def k0_off374 (v6090 : BitVec 32) : Fin 4 → Nat :=
  let v6091 : Index := Scalar.indexCast v6090
  let c0_4317 : Index := 0#32
  let c0_4318 : Index := 0#32
  let c0_4319 : Index := 0#32
  ![v6091.toNat, 0, 0, 0]

def k0_chk345 (v6090 : BitVec 32) : Prop :=
  (∀ a, (k0_off374 v6090) a + S1x2x16x128.size a ≤ S112x2x16x128.size a)
theorem k0_off374_inb : ∀ (v6090 : BitVec 32) (k0_hw345 : k0_chk345 v6090), ∀ a, (k0_off374 v6090) a + S1x2x16x128.size a ≤ S112x2x16x128.size a := fun v6090 k0_hw345 => k0_hw345

def k0_off375 (v6094 : BitVec 32) : Fin 4 → Nat :=
  let v6095 : Index := Scalar.indexCast v6094
  let c0_4321 : Index := 0#32
  let c0_4322 : Index := 0#32
  let c0_4323 : Index := 0#32
  ![v6095.toNat, 0, 0, 0]

def k0_chk346 (v6094 : BitVec 32) : Prop :=
  (∀ a, (k0_off375 v6094) a + S1x2x16x128.size a ≤ S112x2x16x128.size a)
theorem k0_off375_inb : ∀ (v6094 : BitVec 32) (k0_hw346 : k0_chk346 v6094), ∀ a, (k0_off375 v6094) a + S1x2x16x128.size a ≤ S112x2x16x128.size a := fun v6094 k0_hw346 => k0_hw346

def k0_off376 (v6098 : BitVec 32) : Fin 4 → Nat :=
  let v6099 : Index := Scalar.indexCast v6098
  let c0_4325 : Index := 0#32
  let c0_4326 : Index := 0#32
  let c0_4327 : Index := 0#32
  ![v6099.toNat, 0, 0, 0]

def k0_chk347 (v6098 : BitVec 32) : Prop :=
  (∀ a, (k0_off376 v6098) a + S1x2x16x128.size a ≤ S112x2x16x128.size a)
theorem k0_off376_inb : ∀ (v6098 : BitVec 32) (k0_hw347 : k0_chk347 v6098), ∀ a, (k0_off376 v6098) a + S1x2x16x128.size a ≤ S112x2x16x128.size a := fun v6098 k0_hw347 => k0_hw347

def k0_off377 (v6102 : BitVec 32) : Fin 4 → Nat :=
  let v6103 : Index := Scalar.indexCast v6102
  let c0_4329 : Index := 0#32
  let c0_4330 : Index := 0#32
  let c0_4331 : Index := 0#32
  ![v6103.toNat, 0, 0, 0]

def k0_chk348 (v6102 : BitVec 32) : Prop :=
  (∀ a, (k0_off377 v6102) a + S1x2x16x128.size a ≤ S112x2x16x128.size a)
theorem k0_off377_inb : ∀ (v6102 : BitVec 32) (k0_hw348 : k0_chk348 v6102), ∀ a, (k0_off377 v6102) a + S1x2x16x128.size a ≤ S112x2x16x128.size a := fun v6102 k0_hw348 => k0_hw348

def k0_off378 (v6106 : BitVec 32) : Fin 4 → Nat :=
  let v6107 : Index := Scalar.indexCast v6106
  let c0_4333 : Index := 0#32
  let c0_4334 : Index := 0#32
  let c0_4335 : Index := 0#32
  ![v6107.toNat, 0, 0, 0]

def k0_chk349 (v6106 : BitVec 32) : Prop :=
  (∀ a, (k0_off378 v6106) a + S1x2x16x128.size a ≤ S112x2x16x128.size a)
theorem k0_off378_inb : ∀ (v6106 : BitVec 32) (k0_hw349 : k0_chk349 v6106), ∀ a, (k0_off378 v6106) a + S1x2x16x128.size a ≤ S112x2x16x128.size a := fun v6106 k0_hw349 => k0_hw349

def k0_off379 (v6110 : BitVec 32) : Fin 4 → Nat :=
  let v6111 : Index := Scalar.indexCast v6110
  let c0_4337 : Index := 0#32
  let c0_4338 : Index := 0#32
  let c0_4339 : Index := 0#32
  ![v6111.toNat, 0, 0, 0]

def k0_chk350 (v6110 : BitVec 32) : Prop :=
  (∀ a, (k0_off379 v6110) a + S1x2x16x128.size a ≤ S112x2x16x128.size a)
theorem k0_off379_inb : ∀ (v6110 : BitVec 32) (k0_hw350 : k0_chk350 v6110), ∀ a, (k0_off379 v6110) a + S1x2x16x128.size a ≤ S112x2x16x128.size a := fun v6110 k0_hw350 => k0_hw350

def k0_off380 (v6137 : BitVec 32) : Fin 4 → Nat :=
  let v6138 : Index := Scalar.indexCast v6137
  let c0_4353 : Index := 0#32
  let c0_4354 : Index := 0#32
  let c0_4355 : Index := 0#32
  ![v6138.toNat, 0, 0, 0]

def k0_chk351 (v6137 : BitVec 32) : Prop :=
  (∀ a, (k0_off380 v6137) a + S1x2x16x128.size a ≤ S112x2x16x128.size a)
theorem k0_off380_inb : ∀ (v6137 : BitVec 32) (k0_hw351 : k0_chk351 v6137), ∀ a, (k0_off380 v6137) a + S1x2x16x128.size a ≤ S112x2x16x128.size a := fun v6137 k0_hw351 => k0_hw351

def k0_off381 (v6141 : BitVec 32) : Fin 4 → Nat :=
  let v6142 : Index := Scalar.indexCast v6141
  let c0_4357 : Index := 0#32
  let c0_4358 : Index := 0#32
  let c0_4359 : Index := 0#32
  ![v6142.toNat, 0, 0, 0]

def k0_chk352 (v6141 : BitVec 32) : Prop :=
  (∀ a, (k0_off381 v6141) a + S1x2x16x128.size a ≤ S112x2x16x128.size a)
theorem k0_off381_inb : ∀ (v6141 : BitVec 32) (k0_hw352 : k0_chk352 v6141), ∀ a, (k0_off381 v6141) a + S1x2x16x128.size a ≤ S112x2x16x128.size a := fun v6141 k0_hw352 => k0_hw352

def k0_off382 (v6145 : BitVec 32) : Fin 4 → Nat :=
  let v6146 : Index := Scalar.indexCast v6145
  let c0_4361 : Index := 0#32
  let c0_4362 : Index := 0#32
  let c0_4363 : Index := 0#32
  ![v6146.toNat, 0, 0, 0]

def k0_chk353 (v6145 : BitVec 32) : Prop :=
  (∀ a, (k0_off382 v6145) a + S1x2x16x128.size a ≤ S112x2x16x128.size a)
theorem k0_off382_inb : ∀ (v6145 : BitVec 32) (k0_hw353 : k0_chk353 v6145), ∀ a, (k0_off382 v6145) a + S1x2x16x128.size a ≤ S112x2x16x128.size a := fun v6145 k0_hw353 => k0_hw353

def k0_off383 (v6149 : BitVec 32) : Fin 4 → Nat :=
  let v6150 : Index := Scalar.indexCast v6149
  let c0_4365 : Index := 0#32
  let c0_4366 : Index := 0#32
  let c0_4367 : Index := 0#32
  ![v6150.toNat, 0, 0, 0]

def k0_chk354 (v6149 : BitVec 32) : Prop :=
  (∀ a, (k0_off383 v6149) a + S1x2x16x128.size a ≤ S112x2x16x128.size a)
theorem k0_off383_inb : ∀ (v6149 : BitVec 32) (k0_hw354 : k0_chk354 v6149), ∀ a, (k0_off383 v6149) a + S1x2x16x128.size a ≤ S112x2x16x128.size a := fun v6149 k0_hw354 => k0_hw354

def k0_off384 (v6153 : BitVec 32) : Fin 4 → Nat :=
  let v6154 : Index := Scalar.indexCast v6153
  let c0_4369 : Index := 0#32
  let c0_4370 : Index := 0#32
  let c0_4371 : Index := 0#32
  ![v6154.toNat, 0, 0, 0]

def k0_chk355 (v6153 : BitVec 32) : Prop :=
  (∀ a, (k0_off384 v6153) a + S1x2x16x128.size a ≤ S112x2x16x128.size a)
theorem k0_off384_inb : ∀ (v6153 : BitVec 32) (k0_hw355 : k0_chk355 v6153), ∀ a, (k0_off384 v6153) a + S1x2x16x128.size a ≤ S112x2x16x128.size a := fun v6153 k0_hw355 => k0_hw355

def k0_off385 (v6157 : BitVec 32) : Fin 4 → Nat :=
  let v6158 : Index := Scalar.indexCast v6157
  let c0_4373 : Index := 0#32
  let c0_4374 : Index := 0#32
  let c0_4375 : Index := 0#32
  ![v6158.toNat, 0, 0, 0]

def k0_chk356 (v6157 : BitVec 32) : Prop :=
  (∀ a, (k0_off385 v6157) a + S1x2x16x128.size a ≤ S112x2x16x128.size a)
theorem k0_off385_inb : ∀ (v6157 : BitVec 32) (k0_hw356 : k0_chk356 v6157), ∀ a, (k0_off385 v6157) a + S1x2x16x128.size a ≤ S112x2x16x128.size a := fun v6157 k0_hw356 => k0_hw356

def k0_off386 (v6161 : BitVec 32) : Fin 4 → Nat :=
  let v6162 : Index := Scalar.indexCast v6161
  let c0_4377 : Index := 0#32
  let c0_4378 : Index := 0#32
  let c0_4379 : Index := 0#32
  ![v6162.toNat, 0, 0, 0]

def k0_chk357 (v6161 : BitVec 32) : Prop :=
  (∀ a, (k0_off386 v6161) a + S1x2x16x128.size a ≤ S112x2x16x128.size a)
theorem k0_off386_inb : ∀ (v6161 : BitVec 32) (k0_hw357 : k0_chk357 v6161), ∀ a, (k0_off386 v6161) a + S1x2x16x128.size a ≤ S112x2x16x128.size a := fun v6161 k0_hw357 => k0_hw357

def k0_off387 (v6188 : BitVec 32) : Fin 4 → Nat :=
  let v6189 : Index := Scalar.indexCast v6188
  let c0_4393 : Index := 0#32
  let c0_4394 : Index := 0#32
  let c0_4395 : Index := 0#32
  ![v6189.toNat, 0, 0, 0]

def k0_chk358 (v6188 : BitVec 32) : Prop :=
  (∀ a, (k0_off387 v6188) a + S1x2x16x128.size a ≤ S112x2x16x128.size a)
theorem k0_off387_inb : ∀ (v6188 : BitVec 32) (k0_hw358 : k0_chk358 v6188), ∀ a, (k0_off387 v6188) a + S1x2x16x128.size a ≤ S112x2x16x128.size a := fun v6188 k0_hw358 => k0_hw358

def k0_off388 (v6192 : BitVec 32) : Fin 4 → Nat :=
  let v6193 : Index := Scalar.indexCast v6192
  let c0_4397 : Index := 0#32
  let c0_4398 : Index := 0#32
  let c0_4399 : Index := 0#32
  ![v6193.toNat, 0, 0, 0]

def k0_chk359 (v6192 : BitVec 32) : Prop :=
  (∀ a, (k0_off388 v6192) a + S1x2x16x128.size a ≤ S112x2x16x128.size a)
theorem k0_off388_inb : ∀ (v6192 : BitVec 32) (k0_hw359 : k0_chk359 v6192), ∀ a, (k0_off388 v6192) a + S1x2x16x128.size a ≤ S112x2x16x128.size a := fun v6192 k0_hw359 => k0_hw359

def k0_off389 (v6196 : BitVec 32) : Fin 4 → Nat :=
  let v6197 : Index := Scalar.indexCast v6196
  let c0_4401 : Index := 0#32
  let c0_4402 : Index := 0#32
  let c0_4403 : Index := 0#32
  ![v6197.toNat, 0, 0, 0]

def k0_chk360 (v6196 : BitVec 32) : Prop :=
  (∀ a, (k0_off389 v6196) a + S1x2x16x128.size a ≤ S112x2x16x128.size a)
theorem k0_off389_inb : ∀ (v6196 : BitVec 32) (k0_hw360 : k0_chk360 v6196), ∀ a, (k0_off389 v6196) a + S1x2x16x128.size a ≤ S112x2x16x128.size a := fun v6196 k0_hw360 => k0_hw360

def k0_off390 (v6200 : BitVec 32) : Fin 4 → Nat :=
  let v6201 : Index := Scalar.indexCast v6200
  let c0_4405 : Index := 0#32
  let c0_4406 : Index := 0#32
  let c0_4407 : Index := 0#32
  ![v6201.toNat, 0, 0, 0]

def k0_chk361 (v6200 : BitVec 32) : Prop :=
  (∀ a, (k0_off390 v6200) a + S1x2x16x128.size a ≤ S112x2x16x128.size a)
theorem k0_off390_inb : ∀ (v6200 : BitVec 32) (k0_hw361 : k0_chk361 v6200), ∀ a, (k0_off390 v6200) a + S1x2x16x128.size a ≤ S112x2x16x128.size a := fun v6200 k0_hw361 => k0_hw361

def k0_off391 (v6204 : BitVec 32) : Fin 4 → Nat :=
  let v6205 : Index := Scalar.indexCast v6204
  let c0_4409 : Index := 0#32
  let c0_4410 : Index := 0#32
  let c0_4411 : Index := 0#32
  ![v6205.toNat, 0, 0, 0]

def k0_chk362 (v6204 : BitVec 32) : Prop :=
  (∀ a, (k0_off391 v6204) a + S1x2x16x128.size a ≤ S112x2x16x128.size a)
theorem k0_off391_inb : ∀ (v6204 : BitVec 32) (k0_hw362 : k0_chk362 v6204), ∀ a, (k0_off391 v6204) a + S1x2x16x128.size a ≤ S112x2x16x128.size a := fun v6204 k0_hw362 => k0_hw362

def k0_off392 (v6208 : BitVec 32) : Fin 4 → Nat :=
  let v6209 : Index := Scalar.indexCast v6208
  let c0_4413 : Index := 0#32
  let c0_4414 : Index := 0#32
  let c0_4415 : Index := 0#32
  ![v6209.toNat, 0, 0, 0]

def k0_chk363 (v6208 : BitVec 32) : Prop :=
  (∀ a, (k0_off392 v6208) a + S1x2x16x128.size a ≤ S112x2x16x128.size a)
theorem k0_off392_inb : ∀ (v6208 : BitVec 32) (k0_hw363 : k0_chk363 v6208), ∀ a, (k0_off392 v6208) a + S1x2x16x128.size a ≤ S112x2x16x128.size a := fun v6208 k0_hw363 => k0_hw363

def k0_off393 (v6212 : BitVec 32) : Fin 4 → Nat :=
  let v6213 : Index := Scalar.indexCast v6212
  let c0_4417 : Index := 0#32
  let c0_4418 : Index := 0#32
  let c0_4419 : Index := 0#32
  ![v6213.toNat, 0, 0, 0]

def k0_chk364 (v6212 : BitVec 32) : Prop :=
  (∀ a, (k0_off393 v6212) a + S1x2x16x128.size a ≤ S112x2x16x128.size a)
theorem k0_off393_inb : ∀ (v6212 : BitVec 32) (k0_hw364 : k0_chk364 v6212), ∀ a, (k0_off393 v6212) a + S1x2x16x128.size a ≤ S112x2x16x128.size a := fun v6212 k0_hw364 => k0_hw364

def k0_off394 (v6239 : BitVec 32) : Fin 4 → Nat :=
  let v6240 : Index := Scalar.indexCast v6239
  let c0_4433 : Index := 0#32
  let c0_4434 : Index := 0#32
  let c0_4435 : Index := 0#32
  ![v6240.toNat, 0, 0, 0]

def k0_chk365 (v6239 : BitVec 32) : Prop :=
  (∀ a, (k0_off394 v6239) a + S1x2x16x128.size a ≤ S112x2x16x128.size a)
theorem k0_off394_inb : ∀ (v6239 : BitVec 32) (k0_hw365 : k0_chk365 v6239), ∀ a, (k0_off394 v6239) a + S1x2x16x128.size a ≤ S112x2x16x128.size a := fun v6239 k0_hw365 => k0_hw365

def k0_off395 (v6243 : BitVec 32) : Fin 4 → Nat :=
  let v6244 : Index := Scalar.indexCast v6243
  let c0_4437 : Index := 0#32
  let c0_4438 : Index := 0#32
  let c0_4439 : Index := 0#32
  ![v6244.toNat, 0, 0, 0]

def k0_chk366 (v6243 : BitVec 32) : Prop :=
  (∀ a, (k0_off395 v6243) a + S1x2x16x128.size a ≤ S112x2x16x128.size a)
theorem k0_off395_inb : ∀ (v6243 : BitVec 32) (k0_hw366 : k0_chk366 v6243), ∀ a, (k0_off395 v6243) a + S1x2x16x128.size a ≤ S112x2x16x128.size a := fun v6243 k0_hw366 => k0_hw366

def k0_off396 (v6247 : BitVec 32) : Fin 4 → Nat :=
  let v6248 : Index := Scalar.indexCast v6247
  let c0_4441 : Index := 0#32
  let c0_4442 : Index := 0#32
  let c0_4443 : Index := 0#32
  ![v6248.toNat, 0, 0, 0]

def k0_chk367 (v6247 : BitVec 32) : Prop :=
  (∀ a, (k0_off396 v6247) a + S1x2x16x128.size a ≤ S112x2x16x128.size a)
theorem k0_off396_inb : ∀ (v6247 : BitVec 32) (k0_hw367 : k0_chk367 v6247), ∀ a, (k0_off396 v6247) a + S1x2x16x128.size a ≤ S112x2x16x128.size a := fun v6247 k0_hw367 => k0_hw367

def k0_off397 (v6251 : BitVec 32) : Fin 4 → Nat :=
  let v6252 : Index := Scalar.indexCast v6251
  let c0_4445 : Index := 0#32
  let c0_4446 : Index := 0#32
  let c0_4447 : Index := 0#32
  ![v6252.toNat, 0, 0, 0]

def k0_chk368 (v6251 : BitVec 32) : Prop :=
  (∀ a, (k0_off397 v6251) a + S1x2x16x128.size a ≤ S112x2x16x128.size a)
theorem k0_off397_inb : ∀ (v6251 : BitVec 32) (k0_hw368 : k0_chk368 v6251), ∀ a, (k0_off397 v6251) a + S1x2x16x128.size a ≤ S112x2x16x128.size a := fun v6251 k0_hw368 => k0_hw368

def k0_off398 (v6255 : BitVec 32) : Fin 4 → Nat :=
  let v6256 : Index := Scalar.indexCast v6255
  let c0_4449 : Index := 0#32
  let c0_4450 : Index := 0#32
  let c0_4451 : Index := 0#32
  ![v6256.toNat, 0, 0, 0]

def k0_chk369 (v6255 : BitVec 32) : Prop :=
  (∀ a, (k0_off398 v6255) a + S1x2x16x128.size a ≤ S112x2x16x128.size a)
theorem k0_off398_inb : ∀ (v6255 : BitVec 32) (k0_hw369 : k0_chk369 v6255), ∀ a, (k0_off398 v6255) a + S1x2x16x128.size a ≤ S112x2x16x128.size a := fun v6255 k0_hw369 => k0_hw369

def k0_off399 (v6259 : BitVec 32) : Fin 4 → Nat :=
  let v6260 : Index := Scalar.indexCast v6259
  let c0_4453 : Index := 0#32
  let c0_4454 : Index := 0#32
  let c0_4455 : Index := 0#32
  ![v6260.toNat, 0, 0, 0]

def k0_chk370 (v6259 : BitVec 32) : Prop :=
  (∀ a, (k0_off399 v6259) a + S1x2x16x128.size a ≤ S112x2x16x128.size a)
theorem k0_off399_inb : ∀ (v6259 : BitVec 32) (k0_hw370 : k0_chk370 v6259), ∀ a, (k0_off399 v6259) a + S1x2x16x128.size a ≤ S112x2x16x128.size a := fun v6259 k0_hw370 => k0_hw370

def k0_off400 (v6263 : BitVec 32) : Fin 4 → Nat :=
  let v6264 : Index := Scalar.indexCast v6263
  let c0_4457 : Index := 0#32
  let c0_4458 : Index := 0#32
  let c0_4459 : Index := 0#32
  ![v6264.toNat, 0, 0, 0]

def k0_chk371 (v6263 : BitVec 32) : Prop :=
  (∀ a, (k0_off400 v6263) a + S1x2x16x128.size a ≤ S112x2x16x128.size a)
theorem k0_off400_inb : ∀ (v6263 : BitVec 32) (k0_hw371 : k0_chk371 v6263), ∀ a, (k0_off400 v6263) a + S1x2x16x128.size a ≤ S112x2x16x128.size a := fun v6263 k0_hw371 => k0_hw371

def k0_off401 (v6290 : BitVec 32) : Fin 4 → Nat :=
  let v6291 : Index := Scalar.indexCast v6290
  let c0_4473 : Index := 0#32
  let c0_4474 : Index := 0#32
  let c0_4475 : Index := 0#32
  ![v6291.toNat, 0, 0, 0]

def k0_chk372 (v6290 : BitVec 32) : Prop :=
  (∀ a, (k0_off401 v6290) a + S1x2x16x128.size a ≤ S112x2x16x128.size a)
theorem k0_off401_inb : ∀ (v6290 : BitVec 32) (k0_hw372 : k0_chk372 v6290), ∀ a, (k0_off401 v6290) a + S1x2x16x128.size a ≤ S112x2x16x128.size a := fun v6290 k0_hw372 => k0_hw372

def k0_off402 (v6294 : BitVec 32) : Fin 4 → Nat :=
  let v6295 : Index := Scalar.indexCast v6294
  let c0_4477 : Index := 0#32
  let c0_4478 : Index := 0#32
  let c0_4479 : Index := 0#32
  ![v6295.toNat, 0, 0, 0]

def k0_chk373 (v6294 : BitVec 32) : Prop :=
  (∀ a, (k0_off402 v6294) a + S1x2x16x128.size a ≤ S112x2x16x128.size a)
theorem k0_off402_inb : ∀ (v6294 : BitVec 32) (k0_hw373 : k0_chk373 v6294), ∀ a, (k0_off402 v6294) a + S1x2x16x128.size a ≤ S112x2x16x128.size a := fun v6294 k0_hw373 => k0_hw373

def k0_off403 (v6298 : BitVec 32) : Fin 4 → Nat :=
  let v6299 : Index := Scalar.indexCast v6298
  let c0_4481 : Index := 0#32
  let c0_4482 : Index := 0#32
  let c0_4483 : Index := 0#32
  ![v6299.toNat, 0, 0, 0]

def k0_chk374 (v6298 : BitVec 32) : Prop :=
  (∀ a, (k0_off403 v6298) a + S1x2x16x128.size a ≤ S112x2x16x128.size a)
theorem k0_off403_inb : ∀ (v6298 : BitVec 32) (k0_hw374 : k0_chk374 v6298), ∀ a, (k0_off403 v6298) a + S1x2x16x128.size a ≤ S112x2x16x128.size a := fun v6298 k0_hw374 => k0_hw374

def k0_off404 (v6302 : BitVec 32) : Fin 4 → Nat :=
  let v6303 : Index := Scalar.indexCast v6302
  let c0_4485 : Index := 0#32
  let c0_4486 : Index := 0#32
  let c0_4487 : Index := 0#32
  ![v6303.toNat, 0, 0, 0]

def k0_chk375 (v6302 : BitVec 32) : Prop :=
  (∀ a, (k0_off404 v6302) a + S1x2x16x128.size a ≤ S112x2x16x128.size a)
theorem k0_off404_inb : ∀ (v6302 : BitVec 32) (k0_hw375 : k0_chk375 v6302), ∀ a, (k0_off404 v6302) a + S1x2x16x128.size a ≤ S112x2x16x128.size a := fun v6302 k0_hw375 => k0_hw375

def k0_off405 (v6306 : BitVec 32) : Fin 4 → Nat :=
  let v6307 : Index := Scalar.indexCast v6306
  let c0_4489 : Index := 0#32
  let c0_4490 : Index := 0#32
  let c0_4491 : Index := 0#32
  ![v6307.toNat, 0, 0, 0]

def k0_chk376 (v6306 : BitVec 32) : Prop :=
  (∀ a, (k0_off405 v6306) a + S1x2x16x128.size a ≤ S112x2x16x128.size a)
theorem k0_off405_inb : ∀ (v6306 : BitVec 32) (k0_hw376 : k0_chk376 v6306), ∀ a, (k0_off405 v6306) a + S1x2x16x128.size a ≤ S112x2x16x128.size a := fun v6306 k0_hw376 => k0_hw376

def k0_off406 (v6310 : BitVec 32) : Fin 4 → Nat :=
  let v6311 : Index := Scalar.indexCast v6310
  let c0_4493 : Index := 0#32
  let c0_4494 : Index := 0#32
  let c0_4495 : Index := 0#32
  ![v6311.toNat, 0, 0, 0]

def k0_chk377 (v6310 : BitVec 32) : Prop :=
  (∀ a, (k0_off406 v6310) a + S1x2x16x128.size a ≤ S112x2x16x128.size a)
theorem k0_off406_inb : ∀ (v6310 : BitVec 32) (k0_hw377 : k0_chk377 v6310), ∀ a, (k0_off406 v6310) a + S1x2x16x128.size a ≤ S112x2x16x128.size a := fun v6310 k0_hw377 => k0_hw377

def k0_off407 (v6314 : BitVec 32) : Fin 4 → Nat :=
  let v6315 : Index := Scalar.indexCast v6314
  let c0_4497 : Index := 0#32
  let c0_4498 : Index := 0#32
  let c0_4499 : Index := 0#32
  ![v6315.toNat, 0, 0, 0]

def k0_chk378 (v6314 : BitVec 32) : Prop :=
  (∀ a, (k0_off407 v6314) a + S1x2x16x128.size a ≤ S112x2x16x128.size a)
theorem k0_off407_inb : ∀ (v6314 : BitVec 32) (k0_hw378 : k0_chk378 v6314), ∀ a, (k0_off407 v6314) a + S1x2x16x128.size a ≤ S112x2x16x128.size a := fun v6314 k0_hw378 => k0_hw378

def k0_off408 (v6341 : BitVec 32) : Fin 4 → Nat :=
  let v6342 : Index := Scalar.indexCast v6341
  let c0_4513 : Index := 0#32
  let c0_4514 : Index := 0#32
  let c0_4515 : Index := 0#32
  ![v6342.toNat, 0, 0, 0]

def k0_chk379 (v6341 : BitVec 32) : Prop :=
  (∀ a, (k0_off408 v6341) a + S1x2x16x128.size a ≤ S112x2x16x128.size a)
theorem k0_off408_inb : ∀ (v6341 : BitVec 32) (k0_hw379 : k0_chk379 v6341), ∀ a, (k0_off408 v6341) a + S1x2x16x128.size a ≤ S112x2x16x128.size a := fun v6341 k0_hw379 => k0_hw379

def k0_off409 (v6345 : BitVec 32) : Fin 4 → Nat :=
  let v6346 : Index := Scalar.indexCast v6345
  let c0_4517 : Index := 0#32
  let c0_4518 : Index := 0#32
  let c0_4519 : Index := 0#32
  ![v6346.toNat, 0, 0, 0]

def k0_chk380 (v6345 : BitVec 32) : Prop :=
  (∀ a, (k0_off409 v6345) a + S1x2x16x128.size a ≤ S112x2x16x128.size a)
theorem k0_off409_inb : ∀ (v6345 : BitVec 32) (k0_hw380 : k0_chk380 v6345), ∀ a, (k0_off409 v6345) a + S1x2x16x128.size a ≤ S112x2x16x128.size a := fun v6345 k0_hw380 => k0_hw380

def k0_off410 (v6349 : BitVec 32) : Fin 4 → Nat :=
  let v6350 : Index := Scalar.indexCast v6349
  let c0_4521 : Index := 0#32
  let c0_4522 : Index := 0#32
  let c0_4523 : Index := 0#32
  ![v6350.toNat, 0, 0, 0]

def k0_chk381 (v6349 : BitVec 32) : Prop :=
  (∀ a, (k0_off410 v6349) a + S1x2x16x128.size a ≤ S112x2x16x128.size a)
theorem k0_off410_inb : ∀ (v6349 : BitVec 32) (k0_hw381 : k0_chk381 v6349), ∀ a, (k0_off410 v6349) a + S1x2x16x128.size a ≤ S112x2x16x128.size a := fun v6349 k0_hw381 => k0_hw381

def k0_off411 (v6353 : BitVec 32) : Fin 4 → Nat :=
  let v6354 : Index := Scalar.indexCast v6353
  let c0_4525 : Index := 0#32
  let c0_4526 : Index := 0#32
  let c0_4527 : Index := 0#32
  ![v6354.toNat, 0, 0, 0]

def k0_chk382 (v6353 : BitVec 32) : Prop :=
  (∀ a, (k0_off411 v6353) a + S1x2x16x128.size a ≤ S112x2x16x128.size a)
theorem k0_off411_inb : ∀ (v6353 : BitVec 32) (k0_hw382 : k0_chk382 v6353), ∀ a, (k0_off411 v6353) a + S1x2x16x128.size a ≤ S112x2x16x128.size a := fun v6353 k0_hw382 => k0_hw382

def k0_off412 (v6357 : BitVec 32) : Fin 4 → Nat :=
  let v6358 : Index := Scalar.indexCast v6357
  let c0_4529 : Index := 0#32
  let c0_4530 : Index := 0#32
  let c0_4531 : Index := 0#32
  ![v6358.toNat, 0, 0, 0]

def k0_chk383 (v6357 : BitVec 32) : Prop :=
  (∀ a, (k0_off412 v6357) a + S1x2x16x128.size a ≤ S112x2x16x128.size a)
theorem k0_off412_inb : ∀ (v6357 : BitVec 32) (k0_hw383 : k0_chk383 v6357), ∀ a, (k0_off412 v6357) a + S1x2x16x128.size a ≤ S112x2x16x128.size a := fun v6357 k0_hw383 => k0_hw383

def k0_off413 (v6361 : BitVec 32) : Fin 4 → Nat :=
  let v6362 : Index := Scalar.indexCast v6361
  let c0_4533 : Index := 0#32
  let c0_4534 : Index := 0#32
  let c0_4535 : Index := 0#32
  ![v6362.toNat, 0, 0, 0]

def k0_chk384 (v6361 : BitVec 32) : Prop :=
  (∀ a, (k0_off413 v6361) a + S1x2x16x128.size a ≤ S112x2x16x128.size a)
theorem k0_off413_inb : ∀ (v6361 : BitVec 32) (k0_hw384 : k0_chk384 v6361), ∀ a, (k0_off413 v6361) a + S1x2x16x128.size a ≤ S112x2x16x128.size a := fun v6361 k0_hw384 => k0_hw384

def k0_off414 (v6365 : BitVec 32) : Fin 4 → Nat :=
  let v6366 : Index := Scalar.indexCast v6365
  let c0_4537 : Index := 0#32
  let c0_4538 : Index := 0#32
  let c0_4539 : Index := 0#32
  ![v6366.toNat, 0, 0, 0]

def k0_chk385 (v6365 : BitVec 32) : Prop :=
  (∀ a, (k0_off414 v6365) a + S1x2x16x128.size a ≤ S112x2x16x128.size a)
theorem k0_off414_inb : ∀ (v6365 : BitVec 32) (k0_hw385 : k0_chk385 v6365), ∀ a, (k0_off414 v6365) a + S1x2x16x128.size a ≤ S112x2x16x128.size a := fun v6365 k0_hw385 => k0_hw385

def k0_off415 (v6392 : BitVec 32) : Fin 4 → Nat :=
  let v6393 : Index := Scalar.indexCast v6392
  let c0_4553 : Index := 0#32
  let c0_4554 : Index := 0#32
  let c0_4555 : Index := 0#32
  ![v6393.toNat, 0, 0, 0]

def k0_chk386 (v6392 : BitVec 32) : Prop :=
  (∀ a, (k0_off415 v6392) a + S1x2x16x128.size a ≤ S112x2x16x128.size a)
theorem k0_off415_inb : ∀ (v6392 : BitVec 32) (k0_hw386 : k0_chk386 v6392), ∀ a, (k0_off415 v6392) a + S1x2x16x128.size a ≤ S112x2x16x128.size a := fun v6392 k0_hw386 => k0_hw386

def k0_off416 (v6396 : BitVec 32) : Fin 4 → Nat :=
  let v6397 : Index := Scalar.indexCast v6396
  let c0_4557 : Index := 0#32
  let c0_4558 : Index := 0#32
  let c0_4559 : Index := 0#32
  ![v6397.toNat, 0, 0, 0]

def k0_chk387 (v6396 : BitVec 32) : Prop :=
  (∀ a, (k0_off416 v6396) a + S1x2x16x128.size a ≤ S112x2x16x128.size a)
theorem k0_off416_inb : ∀ (v6396 : BitVec 32) (k0_hw387 : k0_chk387 v6396), ∀ a, (k0_off416 v6396) a + S1x2x16x128.size a ≤ S112x2x16x128.size a := fun v6396 k0_hw387 => k0_hw387

def k0_off417 (v6400 : BitVec 32) : Fin 4 → Nat :=
  let v6401 : Index := Scalar.indexCast v6400
  let c0_4561 : Index := 0#32
  let c0_4562 : Index := 0#32
  let c0_4563 : Index := 0#32
  ![v6401.toNat, 0, 0, 0]

def k0_chk388 (v6400 : BitVec 32) : Prop :=
  (∀ a, (k0_off417 v6400) a + S1x2x16x128.size a ≤ S112x2x16x128.size a)
theorem k0_off417_inb : ∀ (v6400 : BitVec 32) (k0_hw388 : k0_chk388 v6400), ∀ a, (k0_off417 v6400) a + S1x2x16x128.size a ≤ S112x2x16x128.size a := fun v6400 k0_hw388 => k0_hw388

def k0_off418 (v6404 : BitVec 32) : Fin 4 → Nat :=
  let v6405 : Index := Scalar.indexCast v6404
  let c0_4565 : Index := 0#32
  let c0_4566 : Index := 0#32
  let c0_4567 : Index := 0#32
  ![v6405.toNat, 0, 0, 0]

def k0_chk389 (v6404 : BitVec 32) : Prop :=
  (∀ a, (k0_off418 v6404) a + S1x2x16x128.size a ≤ S112x2x16x128.size a)
theorem k0_off418_inb : ∀ (v6404 : BitVec 32) (k0_hw389 : k0_chk389 v6404), ∀ a, (k0_off418 v6404) a + S1x2x16x128.size a ≤ S112x2x16x128.size a := fun v6404 k0_hw389 => k0_hw389

def k0_off419 (v6408 : BitVec 32) : Fin 4 → Nat :=
  let v6409 : Index := Scalar.indexCast v6408
  let c0_4569 : Index := 0#32
  let c0_4570 : Index := 0#32
  let c0_4571 : Index := 0#32
  ![v6409.toNat, 0, 0, 0]

def k0_chk390 (v6408 : BitVec 32) : Prop :=
  (∀ a, (k0_off419 v6408) a + S1x2x16x128.size a ≤ S112x2x16x128.size a)
theorem k0_off419_inb : ∀ (v6408 : BitVec 32) (k0_hw390 : k0_chk390 v6408), ∀ a, (k0_off419 v6408) a + S1x2x16x128.size a ≤ S112x2x16x128.size a := fun v6408 k0_hw390 => k0_hw390

def k0_off420 (v6412 : BitVec 32) : Fin 4 → Nat :=
  let v6413 : Index := Scalar.indexCast v6412
  let c0_4573 : Index := 0#32
  let c0_4574 : Index := 0#32
  let c0_4575 : Index := 0#32
  ![v6413.toNat, 0, 0, 0]

def k0_chk391 (v6412 : BitVec 32) : Prop :=
  (∀ a, (k0_off420 v6412) a + S1x2x16x128.size a ≤ S112x2x16x128.size a)
theorem k0_off420_inb : ∀ (v6412 : BitVec 32) (k0_hw391 : k0_chk391 v6412), ∀ a, (k0_off420 v6412) a + S1x2x16x128.size a ≤ S112x2x16x128.size a := fun v6412 k0_hw391 => k0_hw391

def k0_off421 (v6416 : BitVec 32) : Fin 4 → Nat :=
  let v6417 : Index := Scalar.indexCast v6416
  let c0_4577 : Index := 0#32
  let c0_4578 : Index := 0#32
  let c0_4579 : Index := 0#32
  ![v6417.toNat, 0, 0, 0]

def k0_chk392 (v6416 : BitVec 32) : Prop :=
  (∀ a, (k0_off421 v6416) a + S1x2x16x128.size a ≤ S112x2x16x128.size a)
theorem k0_off421_inb : ∀ (v6416 : BitVec 32) (k0_hw392 : k0_chk392 v6416), ∀ a, (k0_off421 v6416) a + S1x2x16x128.size a ≤ S112x2x16x128.size a := fun v6416 k0_hw392 => k0_hw392

def k0_off422 (v8235 : BitVec 32) : Fin 4 → Nat :=
  let v8236 : Index := Scalar.indexCast v8235
  let c0_5937 : Index := 0#32
  let c0_5938 : Index := 0#32
  let c0_5939 : Index := 0#32
  ![v8236.toNat, 0, 0, 0]

def k0_chk393 (v8235 : BitVec 32) : Prop :=
  (∀ a, (k0_off422 v8235) a + S1x2x16x128.size a ≤ S112x2x16x128.size a)
theorem k0_off422_inb : ∀ (v8235 : BitVec 32) (k0_hw393 : k0_chk393 v8235), ∀ a, (k0_off422 v8235) a + S1x2x16x128.size a ≤ S112x2x16x128.size a := fun v8235 k0_hw393 => k0_hw393

def k0_off423 (v8239 : BitVec 32) : Fin 4 → Nat :=
  let v8240 : Index := Scalar.indexCast v8239
  let c0_5941 : Index := 0#32
  let c0_5942 : Index := 0#32
  let c0_5943 : Index := 0#32
  ![v8240.toNat, 0, 0, 0]

def k0_chk394 (v8239 : BitVec 32) : Prop :=
  (∀ a, (k0_off423 v8239) a + S1x2x16x128.size a ≤ S112x2x16x128.size a)
theorem k0_off423_inb : ∀ (v8239 : BitVec 32) (k0_hw394 : k0_chk394 v8239), ∀ a, (k0_off423 v8239) a + S1x2x16x128.size a ≤ S112x2x16x128.size a := fun v8239 k0_hw394 => k0_hw394

def k0_off424 (v8243 : BitVec 32) : Fin 4 → Nat :=
  let v8244 : Index := Scalar.indexCast v8243
  let c0_5945 : Index := 0#32
  let c0_5946 : Index := 0#32
  let c0_5947 : Index := 0#32
  ![v8244.toNat, 0, 0, 0]

def k0_chk395 (v8243 : BitVec 32) : Prop :=
  (∀ a, (k0_off424 v8243) a + S1x2x16x128.size a ≤ S112x2x16x128.size a)
theorem k0_off424_inb : ∀ (v8243 : BitVec 32) (k0_hw395 : k0_chk395 v8243), ∀ a, (k0_off424 v8243) a + S1x2x16x128.size a ≤ S112x2x16x128.size a := fun v8243 k0_hw395 => k0_hw395

def k0_off425 (v8247 : BitVec 32) : Fin 4 → Nat :=
  let v8248 : Index := Scalar.indexCast v8247
  let c0_5949 : Index := 0#32
  let c0_5950 : Index := 0#32
  let c0_5951 : Index := 0#32
  ![v8248.toNat, 0, 0, 0]

def k0_chk396 (v8247 : BitVec 32) : Prop :=
  (∀ a, (k0_off425 v8247) a + S1x2x16x128.size a ≤ S112x2x16x128.size a)
theorem k0_off425_inb : ∀ (v8247 : BitVec 32) (k0_hw396 : k0_chk396 v8247), ∀ a, (k0_off425 v8247) a + S1x2x16x128.size a ≤ S112x2x16x128.size a := fun v8247 k0_hw396 => k0_hw396

def k0_off426 (v8251 : BitVec 32) : Fin 4 → Nat :=
  let v8252 : Index := Scalar.indexCast v8251
  let c0_5953 : Index := 0#32
  let c0_5954 : Index := 0#32
  let c0_5955 : Index := 0#32
  ![v8252.toNat, 0, 0, 0]

def k0_chk397 (v8251 : BitVec 32) : Prop :=
  (∀ a, (k0_off426 v8251) a + S1x2x16x128.size a ≤ S112x2x16x128.size a)
theorem k0_off426_inb : ∀ (v8251 : BitVec 32) (k0_hw397 : k0_chk397 v8251), ∀ a, (k0_off426 v8251) a + S1x2x16x128.size a ≤ S112x2x16x128.size a := fun v8251 k0_hw397 => k0_hw397

def k0_off427 (v8255 : BitVec 32) : Fin 4 → Nat :=
  let v8256 : Index := Scalar.indexCast v8255
  let c0_5957 : Index := 0#32
  let c0_5958 : Index := 0#32
  let c0_5959 : Index := 0#32
  ![v8256.toNat, 0, 0, 0]

def k0_chk398 (v8255 : BitVec 32) : Prop :=
  (∀ a, (k0_off427 v8255) a + S1x2x16x128.size a ≤ S112x2x16x128.size a)
theorem k0_off427_inb : ∀ (v8255 : BitVec 32) (k0_hw398 : k0_chk398 v8255), ∀ a, (k0_off427 v8255) a + S1x2x16x128.size a ≤ S112x2x16x128.size a := fun v8255 k0_hw398 => k0_hw398

def k0_off428 (v8259 : BitVec 32) : Fin 4 → Nat :=
  let v8260 : Index := Scalar.indexCast v8259
  let c0_5961 : Index := 0#32
  let c0_5962 : Index := 0#32
  let c0_5963 : Index := 0#32
  ![v8260.toNat, 0, 0, 0]

def k0_chk399 (v8259 : BitVec 32) : Prop :=
  (∀ a, (k0_off428 v8259) a + S1x2x16x128.size a ≤ S112x2x16x128.size a)
theorem k0_off428_inb : ∀ (v8259 : BitVec 32) (k0_hw399 : k0_chk399 v8259), ∀ a, (k0_off428 v8259) a + S1x2x16x128.size a ≤ S112x2x16x128.size a := fun v8259 k0_hw399 => k0_hw399

def k0_off429 (v8286 : BitVec 32) : Fin 4 → Nat :=
  let v8287 : Index := Scalar.indexCast v8286
  let c0_5977 : Index := 0#32
  let c0_5978 : Index := 0#32
  let c0_5979 : Index := 0#32
  ![v8287.toNat, 0, 0, 0]

def k0_chk400 (v8286 : BitVec 32) : Prop :=
  (∀ a, (k0_off429 v8286) a + S1x2x16x128.size a ≤ S112x2x16x128.size a)
theorem k0_off429_inb : ∀ (v8286 : BitVec 32) (k0_hw400 : k0_chk400 v8286), ∀ a, (k0_off429 v8286) a + S1x2x16x128.size a ≤ S112x2x16x128.size a := fun v8286 k0_hw400 => k0_hw400

def k0_off430 (v8290 : BitVec 32) : Fin 4 → Nat :=
  let v8291 : Index := Scalar.indexCast v8290
  let c0_5981 : Index := 0#32
  let c0_5982 : Index := 0#32
  let c0_5983 : Index := 0#32
  ![v8291.toNat, 0, 0, 0]

def k0_chk401 (v8290 : BitVec 32) : Prop :=
  (∀ a, (k0_off430 v8290) a + S1x2x16x128.size a ≤ S112x2x16x128.size a)
theorem k0_off430_inb : ∀ (v8290 : BitVec 32) (k0_hw401 : k0_chk401 v8290), ∀ a, (k0_off430 v8290) a + S1x2x16x128.size a ≤ S112x2x16x128.size a := fun v8290 k0_hw401 => k0_hw401

def k0_off431 (v8294 : BitVec 32) : Fin 4 → Nat :=
  let v8295 : Index := Scalar.indexCast v8294
  let c0_5985 : Index := 0#32
  let c0_5986 : Index := 0#32
  let c0_5987 : Index := 0#32
  ![v8295.toNat, 0, 0, 0]

def k0_chk402 (v8294 : BitVec 32) : Prop :=
  (∀ a, (k0_off431 v8294) a + S1x2x16x128.size a ≤ S112x2x16x128.size a)
theorem k0_off431_inb : ∀ (v8294 : BitVec 32) (k0_hw402 : k0_chk402 v8294), ∀ a, (k0_off431 v8294) a + S1x2x16x128.size a ≤ S112x2x16x128.size a := fun v8294 k0_hw402 => k0_hw402

def k0_off432 (v8298 : BitVec 32) : Fin 4 → Nat :=
  let v8299 : Index := Scalar.indexCast v8298
  let c0_5989 : Index := 0#32
  let c0_5990 : Index := 0#32
  let c0_5991 : Index := 0#32
  ![v8299.toNat, 0, 0, 0]

def k0_chk403 (v8298 : BitVec 32) : Prop :=
  (∀ a, (k0_off432 v8298) a + S1x2x16x128.size a ≤ S112x2x16x128.size a)
theorem k0_off432_inb : ∀ (v8298 : BitVec 32) (k0_hw403 : k0_chk403 v8298), ∀ a, (k0_off432 v8298) a + S1x2x16x128.size a ≤ S112x2x16x128.size a := fun v8298 k0_hw403 => k0_hw403

def k0_off433 (v8302 : BitVec 32) : Fin 4 → Nat :=
  let v8303 : Index := Scalar.indexCast v8302
  let c0_5993 : Index := 0#32
  let c0_5994 : Index := 0#32
  let c0_5995 : Index := 0#32
  ![v8303.toNat, 0, 0, 0]

def k0_chk404 (v8302 : BitVec 32) : Prop :=
  (∀ a, (k0_off433 v8302) a + S1x2x16x128.size a ≤ S112x2x16x128.size a)
theorem k0_off433_inb : ∀ (v8302 : BitVec 32) (k0_hw404 : k0_chk404 v8302), ∀ a, (k0_off433 v8302) a + S1x2x16x128.size a ≤ S112x2x16x128.size a := fun v8302 k0_hw404 => k0_hw404

def k0_off434 (v8306 : BitVec 32) : Fin 4 → Nat :=
  let v8307 : Index := Scalar.indexCast v8306
  let c0_5997 : Index := 0#32
  let c0_5998 : Index := 0#32
  let c0_5999 : Index := 0#32
  ![v8307.toNat, 0, 0, 0]

def k0_chk405 (v8306 : BitVec 32) : Prop :=
  (∀ a, (k0_off434 v8306) a + S1x2x16x128.size a ≤ S112x2x16x128.size a)
theorem k0_off434_inb : ∀ (v8306 : BitVec 32) (k0_hw405 : k0_chk405 v8306), ∀ a, (k0_off434 v8306) a + S1x2x16x128.size a ≤ S112x2x16x128.size a := fun v8306 k0_hw405 => k0_hw405

def k0_off435 (v8310 : BitVec 32) : Fin 4 → Nat :=
  let v8311 : Index := Scalar.indexCast v8310
  let c0_6001 : Index := 0#32
  let c0_6002 : Index := 0#32
  let c0_6003 : Index := 0#32
  ![v8311.toNat, 0, 0, 0]

def k0_chk406 (v8310 : BitVec 32) : Prop :=
  (∀ a, (k0_off435 v8310) a + S1x2x16x128.size a ≤ S112x2x16x128.size a)
theorem k0_off435_inb : ∀ (v8310 : BitVec 32) (k0_hw406 : k0_chk406 v8310), ∀ a, (k0_off435 v8310) a + S1x2x16x128.size a ≤ S112x2x16x128.size a := fun v8310 k0_hw406 => k0_hw406

def k0_off436 (v8337 : BitVec 32) : Fin 4 → Nat :=
  let v8338 : Index := Scalar.indexCast v8337
  let c0_6017 : Index := 0#32
  let c0_6018 : Index := 0#32
  let c0_6019 : Index := 0#32
  ![v8338.toNat, 0, 0, 0]

def k0_chk407 (v8337 : BitVec 32) : Prop :=
  (∀ a, (k0_off436 v8337) a + S1x2x16x128.size a ≤ S112x2x16x128.size a)
theorem k0_off436_inb : ∀ (v8337 : BitVec 32) (k0_hw407 : k0_chk407 v8337), ∀ a, (k0_off436 v8337) a + S1x2x16x128.size a ≤ S112x2x16x128.size a := fun v8337 k0_hw407 => k0_hw407

def k0_off437 (v8341 : BitVec 32) : Fin 4 → Nat :=
  let v8342 : Index := Scalar.indexCast v8341
  let c0_6021 : Index := 0#32
  let c0_6022 : Index := 0#32
  let c0_6023 : Index := 0#32
  ![v8342.toNat, 0, 0, 0]

def k0_chk408 (v8341 : BitVec 32) : Prop :=
  (∀ a, (k0_off437 v8341) a + S1x2x16x128.size a ≤ S112x2x16x128.size a)
theorem k0_off437_inb : ∀ (v8341 : BitVec 32) (k0_hw408 : k0_chk408 v8341), ∀ a, (k0_off437 v8341) a + S1x2x16x128.size a ≤ S112x2x16x128.size a := fun v8341 k0_hw408 => k0_hw408

def k0_off438 (v8345 : BitVec 32) : Fin 4 → Nat :=
  let v8346 : Index := Scalar.indexCast v8345
  let c0_6025 : Index := 0#32
  let c0_6026 : Index := 0#32
  let c0_6027 : Index := 0#32
  ![v8346.toNat, 0, 0, 0]

def k0_chk409 (v8345 : BitVec 32) : Prop :=
  (∀ a, (k0_off438 v8345) a + S1x2x16x128.size a ≤ S112x2x16x128.size a)
theorem k0_off438_inb : ∀ (v8345 : BitVec 32) (k0_hw409 : k0_chk409 v8345), ∀ a, (k0_off438 v8345) a + S1x2x16x128.size a ≤ S112x2x16x128.size a := fun v8345 k0_hw409 => k0_hw409

def k0_off439 (v8349 : BitVec 32) : Fin 4 → Nat :=
  let v8350 : Index := Scalar.indexCast v8349
  let c0_6029 : Index := 0#32
  let c0_6030 : Index := 0#32
  let c0_6031 : Index := 0#32
  ![v8350.toNat, 0, 0, 0]

def k0_chk410 (v8349 : BitVec 32) : Prop :=
  (∀ a, (k0_off439 v8349) a + S1x2x16x128.size a ≤ S112x2x16x128.size a)
theorem k0_off439_inb : ∀ (v8349 : BitVec 32) (k0_hw410 : k0_chk410 v8349), ∀ a, (k0_off439 v8349) a + S1x2x16x128.size a ≤ S112x2x16x128.size a := fun v8349 k0_hw410 => k0_hw410

def k0_off440 (v8353 : BitVec 32) : Fin 4 → Nat :=
  let v8354 : Index := Scalar.indexCast v8353
  let c0_6033 : Index := 0#32
  let c0_6034 : Index := 0#32
  let c0_6035 : Index := 0#32
  ![v8354.toNat, 0, 0, 0]

def k0_chk411 (v8353 : BitVec 32) : Prop :=
  (∀ a, (k0_off440 v8353) a + S1x2x16x128.size a ≤ S112x2x16x128.size a)
theorem k0_off440_inb : ∀ (v8353 : BitVec 32) (k0_hw411 : k0_chk411 v8353), ∀ a, (k0_off440 v8353) a + S1x2x16x128.size a ≤ S112x2x16x128.size a := fun v8353 k0_hw411 => k0_hw411

def k0_off441 (v8357 : BitVec 32) : Fin 4 → Nat :=
  let v8358 : Index := Scalar.indexCast v8357
  let c0_6037 : Index := 0#32
  let c0_6038 : Index := 0#32
  let c0_6039 : Index := 0#32
  ![v8358.toNat, 0, 0, 0]

def k0_chk412 (v8357 : BitVec 32) : Prop :=
  (∀ a, (k0_off441 v8357) a + S1x2x16x128.size a ≤ S112x2x16x128.size a)
theorem k0_off441_inb : ∀ (v8357 : BitVec 32) (k0_hw412 : k0_chk412 v8357), ∀ a, (k0_off441 v8357) a + S1x2x16x128.size a ≤ S112x2x16x128.size a := fun v8357 k0_hw412 => k0_hw412

def k0_off442 (v8361 : BitVec 32) : Fin 4 → Nat :=
  let v8362 : Index := Scalar.indexCast v8361
  let c0_6041 : Index := 0#32
  let c0_6042 : Index := 0#32
  let c0_6043 : Index := 0#32
  ![v8362.toNat, 0, 0, 0]

def k0_chk413 (v8361 : BitVec 32) : Prop :=
  (∀ a, (k0_off442 v8361) a + S1x2x16x128.size a ≤ S112x2x16x128.size a)
theorem k0_off442_inb : ∀ (v8361 : BitVec 32) (k0_hw413 : k0_chk413 v8361), ∀ a, (k0_off442 v8361) a + S1x2x16x128.size a ≤ S112x2x16x128.size a := fun v8361 k0_hw413 => k0_hw413

def k0_off443 (v8388 : BitVec 32) : Fin 4 → Nat :=
  let v8389 : Index := Scalar.indexCast v8388
  let c0_6057 : Index := 0#32
  let c0_6058 : Index := 0#32
  let c0_6059 : Index := 0#32
  ![v8389.toNat, 0, 0, 0]

def k0_chk414 (v8388 : BitVec 32) : Prop :=
  (∀ a, (k0_off443 v8388) a + S1x2x16x128.size a ≤ S112x2x16x128.size a)
theorem k0_off443_inb : ∀ (v8388 : BitVec 32) (k0_hw414 : k0_chk414 v8388), ∀ a, (k0_off443 v8388) a + S1x2x16x128.size a ≤ S112x2x16x128.size a := fun v8388 k0_hw414 => k0_hw414

def k0_off444 (v8392 : BitVec 32) : Fin 4 → Nat :=
  let v8393 : Index := Scalar.indexCast v8392
  let c0_6061 : Index := 0#32
  let c0_6062 : Index := 0#32
  let c0_6063 : Index := 0#32
  ![v8393.toNat, 0, 0, 0]

def k0_chk415 (v8392 : BitVec 32) : Prop :=
  (∀ a, (k0_off444 v8392) a + S1x2x16x128.size a ≤ S112x2x16x128.size a)
theorem k0_off444_inb : ∀ (v8392 : BitVec 32) (k0_hw415 : k0_chk415 v8392), ∀ a, (k0_off444 v8392) a + S1x2x16x128.size a ≤ S112x2x16x128.size a := fun v8392 k0_hw415 => k0_hw415

def k0_off445 (v8396 : BitVec 32) : Fin 4 → Nat :=
  let v8397 : Index := Scalar.indexCast v8396
  let c0_6065 : Index := 0#32
  let c0_6066 : Index := 0#32
  let c0_6067 : Index := 0#32
  ![v8397.toNat, 0, 0, 0]

def k0_chk416 (v8396 : BitVec 32) : Prop :=
  (∀ a, (k0_off445 v8396) a + S1x2x16x128.size a ≤ S112x2x16x128.size a)
theorem k0_off445_inb : ∀ (v8396 : BitVec 32) (k0_hw416 : k0_chk416 v8396), ∀ a, (k0_off445 v8396) a + S1x2x16x128.size a ≤ S112x2x16x128.size a := fun v8396 k0_hw416 => k0_hw416

def k0_off446 (v8400 : BitVec 32) : Fin 4 → Nat :=
  let v8401 : Index := Scalar.indexCast v8400
  let c0_6069 : Index := 0#32
  let c0_6070 : Index := 0#32
  let c0_6071 : Index := 0#32
  ![v8401.toNat, 0, 0, 0]

def k0_chk417 (v8400 : BitVec 32) : Prop :=
  (∀ a, (k0_off446 v8400) a + S1x2x16x128.size a ≤ S112x2x16x128.size a)
theorem k0_off446_inb : ∀ (v8400 : BitVec 32) (k0_hw417 : k0_chk417 v8400), ∀ a, (k0_off446 v8400) a + S1x2x16x128.size a ≤ S112x2x16x128.size a := fun v8400 k0_hw417 => k0_hw417

def k0_off447 (v8404 : BitVec 32) : Fin 4 → Nat :=
  let v8405 : Index := Scalar.indexCast v8404
  let c0_6073 : Index := 0#32
  let c0_6074 : Index := 0#32
  let c0_6075 : Index := 0#32
  ![v8405.toNat, 0, 0, 0]

def k0_chk418 (v8404 : BitVec 32) : Prop :=
  (∀ a, (k0_off447 v8404) a + S1x2x16x128.size a ≤ S112x2x16x128.size a)
theorem k0_off447_inb : ∀ (v8404 : BitVec 32) (k0_hw418 : k0_chk418 v8404), ∀ a, (k0_off447 v8404) a + S1x2x16x128.size a ≤ S112x2x16x128.size a := fun v8404 k0_hw418 => k0_hw418

def k0_off448 (v8408 : BitVec 32) : Fin 4 → Nat :=
  let v8409 : Index := Scalar.indexCast v8408
  let c0_6077 : Index := 0#32
  let c0_6078 : Index := 0#32
  let c0_6079 : Index := 0#32
  ![v8409.toNat, 0, 0, 0]

def k0_chk419 (v8408 : BitVec 32) : Prop :=
  (∀ a, (k0_off448 v8408) a + S1x2x16x128.size a ≤ S112x2x16x128.size a)
theorem k0_off448_inb : ∀ (v8408 : BitVec 32) (k0_hw419 : k0_chk419 v8408), ∀ a, (k0_off448 v8408) a + S1x2x16x128.size a ≤ S112x2x16x128.size a := fun v8408 k0_hw419 => k0_hw419

def k0_off449 (v8412 : BitVec 32) : Fin 4 → Nat :=
  let v8413 : Index := Scalar.indexCast v8412
  let c0_6081 : Index := 0#32
  let c0_6082 : Index := 0#32
  let c0_6083 : Index := 0#32
  ![v8413.toNat, 0, 0, 0]

def k0_chk420 (v8412 : BitVec 32) : Prop :=
  (∀ a, (k0_off449 v8412) a + S1x2x16x128.size a ≤ S112x2x16x128.size a)
theorem k0_off449_inb : ∀ (v8412 : BitVec 32) (k0_hw420 : k0_chk420 v8412), ∀ a, (k0_off449 v8412) a + S1x2x16x128.size a ≤ S112x2x16x128.size a := fun v8412 k0_hw420 => k0_hw420

def k0_off450 (v8439 : BitVec 32) : Fin 4 → Nat :=
  let v8440 : Index := Scalar.indexCast v8439
  let c0_6097 : Index := 0#32
  let c0_6098 : Index := 0#32
  let c0_6099 : Index := 0#32
  ![v8440.toNat, 0, 0, 0]

def k0_chk421 (v8439 : BitVec 32) : Prop :=
  (∀ a, (k0_off450 v8439) a + S1x2x16x128.size a ≤ S112x2x16x128.size a)
theorem k0_off450_inb : ∀ (v8439 : BitVec 32) (k0_hw421 : k0_chk421 v8439), ∀ a, (k0_off450 v8439) a + S1x2x16x128.size a ≤ S112x2x16x128.size a := fun v8439 k0_hw421 => k0_hw421

def k0_off451 (v8443 : BitVec 32) : Fin 4 → Nat :=
  let v8444 : Index := Scalar.indexCast v8443
  let c0_6101 : Index := 0#32
  let c0_6102 : Index := 0#32
  let c0_6103 : Index := 0#32
  ![v8444.toNat, 0, 0, 0]

def k0_chk422 (v8443 : BitVec 32) : Prop :=
  (∀ a, (k0_off451 v8443) a + S1x2x16x128.size a ≤ S112x2x16x128.size a)
theorem k0_off451_inb : ∀ (v8443 : BitVec 32) (k0_hw422 : k0_chk422 v8443), ∀ a, (k0_off451 v8443) a + S1x2x16x128.size a ≤ S112x2x16x128.size a := fun v8443 k0_hw422 => k0_hw422

def k0_off452 (v8447 : BitVec 32) : Fin 4 → Nat :=
  let v8448 : Index := Scalar.indexCast v8447
  let c0_6105 : Index := 0#32
  let c0_6106 : Index := 0#32
  let c0_6107 : Index := 0#32
  ![v8448.toNat, 0, 0, 0]

def k0_chk423 (v8447 : BitVec 32) : Prop :=
  (∀ a, (k0_off452 v8447) a + S1x2x16x128.size a ≤ S112x2x16x128.size a)
theorem k0_off452_inb : ∀ (v8447 : BitVec 32) (k0_hw423 : k0_chk423 v8447), ∀ a, (k0_off452 v8447) a + S1x2x16x128.size a ≤ S112x2x16x128.size a := fun v8447 k0_hw423 => k0_hw423

def k0_off453 (v8451 : BitVec 32) : Fin 4 → Nat :=
  let v8452 : Index := Scalar.indexCast v8451
  let c0_6109 : Index := 0#32
  let c0_6110 : Index := 0#32
  let c0_6111 : Index := 0#32
  ![v8452.toNat, 0, 0, 0]

def k0_chk424 (v8451 : BitVec 32) : Prop :=
  (∀ a, (k0_off453 v8451) a + S1x2x16x128.size a ≤ S112x2x16x128.size a)
theorem k0_off453_inb : ∀ (v8451 : BitVec 32) (k0_hw424 : k0_chk424 v8451), ∀ a, (k0_off453 v8451) a + S1x2x16x128.size a ≤ S112x2x16x128.size a := fun v8451 k0_hw424 => k0_hw424

def k0_off454 (v8455 : BitVec 32) : Fin 4 → Nat :=
  let v8456 : Index := Scalar.indexCast v8455
  let c0_6113 : Index := 0#32
  let c0_6114 : Index := 0#32
  let c0_6115 : Index := 0#32
  ![v8456.toNat, 0, 0, 0]

def k0_chk425 (v8455 : BitVec 32) : Prop :=
  (∀ a, (k0_off454 v8455) a + S1x2x16x128.size a ≤ S112x2x16x128.size a)
theorem k0_off454_inb : ∀ (v8455 : BitVec 32) (k0_hw425 : k0_chk425 v8455), ∀ a, (k0_off454 v8455) a + S1x2x16x128.size a ≤ S112x2x16x128.size a := fun v8455 k0_hw425 => k0_hw425

def k0_off455 (v8459 : BitVec 32) : Fin 4 → Nat :=
  let v8460 : Index := Scalar.indexCast v8459
  let c0_6117 : Index := 0#32
  let c0_6118 : Index := 0#32
  let c0_6119 : Index := 0#32
  ![v8460.toNat, 0, 0, 0]

def k0_chk426 (v8459 : BitVec 32) : Prop :=
  (∀ a, (k0_off455 v8459) a + S1x2x16x128.size a ≤ S112x2x16x128.size a)
theorem k0_off455_inb : ∀ (v8459 : BitVec 32) (k0_hw426 : k0_chk426 v8459), ∀ a, (k0_off455 v8459) a + S1x2x16x128.size a ≤ S112x2x16x128.size a := fun v8459 k0_hw426 => k0_hw426

def k0_off456 (v8463 : BitVec 32) : Fin 4 → Nat :=
  let v8464 : Index := Scalar.indexCast v8463
  let c0_6121 : Index := 0#32
  let c0_6122 : Index := 0#32
  let c0_6123 : Index := 0#32
  ![v8464.toNat, 0, 0, 0]

def k0_chk427 (v8463 : BitVec 32) : Prop :=
  (∀ a, (k0_off456 v8463) a + S1x2x16x128.size a ≤ S112x2x16x128.size a)
theorem k0_off456_inb : ∀ (v8463 : BitVec 32) (k0_hw427 : k0_chk427 v8463), ∀ a, (k0_off456 v8463) a + S1x2x16x128.size a ≤ S112x2x16x128.size a := fun v8463 k0_hw427 => k0_hw427

def k0_off457 (v8490 : BitVec 32) : Fin 4 → Nat :=
  let v8491 : Index := Scalar.indexCast v8490
  let c0_6137 : Index := 0#32
  let c0_6138 : Index := 0#32
  let c0_6139 : Index := 0#32
  ![v8491.toNat, 0, 0, 0]

def k0_chk428 (v8490 : BitVec 32) : Prop :=
  (∀ a, (k0_off457 v8490) a + S1x2x16x128.size a ≤ S112x2x16x128.size a)
theorem k0_off457_inb : ∀ (v8490 : BitVec 32) (k0_hw428 : k0_chk428 v8490), ∀ a, (k0_off457 v8490) a + S1x2x16x128.size a ≤ S112x2x16x128.size a := fun v8490 k0_hw428 => k0_hw428

def k0_off458 (v8494 : BitVec 32) : Fin 4 → Nat :=
  let v8495 : Index := Scalar.indexCast v8494
  let c0_6141 : Index := 0#32
  let c0_6142 : Index := 0#32
  let c0_6143 : Index := 0#32
  ![v8495.toNat, 0, 0, 0]

def k0_chk429 (v8494 : BitVec 32) : Prop :=
  (∀ a, (k0_off458 v8494) a + S1x2x16x128.size a ≤ S112x2x16x128.size a)
theorem k0_off458_inb : ∀ (v8494 : BitVec 32) (k0_hw429 : k0_chk429 v8494), ∀ a, (k0_off458 v8494) a + S1x2x16x128.size a ≤ S112x2x16x128.size a := fun v8494 k0_hw429 => k0_hw429

def k0_off459 (v8498 : BitVec 32) : Fin 4 → Nat :=
  let v8499 : Index := Scalar.indexCast v8498
  let c0_6145 : Index := 0#32
  let c0_6146 : Index := 0#32
  let c0_6147 : Index := 0#32
  ![v8499.toNat, 0, 0, 0]

def k0_chk430 (v8498 : BitVec 32) : Prop :=
  (∀ a, (k0_off459 v8498) a + S1x2x16x128.size a ≤ S112x2x16x128.size a)
theorem k0_off459_inb : ∀ (v8498 : BitVec 32) (k0_hw430 : k0_chk430 v8498), ∀ a, (k0_off459 v8498) a + S1x2x16x128.size a ≤ S112x2x16x128.size a := fun v8498 k0_hw430 => k0_hw430

def k0_off460 (v8502 : BitVec 32) : Fin 4 → Nat :=
  let v8503 : Index := Scalar.indexCast v8502
  let c0_6149 : Index := 0#32
  let c0_6150 : Index := 0#32
  let c0_6151 : Index := 0#32
  ![v8503.toNat, 0, 0, 0]

def k0_chk431 (v8502 : BitVec 32) : Prop :=
  (∀ a, (k0_off460 v8502) a + S1x2x16x128.size a ≤ S112x2x16x128.size a)
theorem k0_off460_inb : ∀ (v8502 : BitVec 32) (k0_hw431 : k0_chk431 v8502), ∀ a, (k0_off460 v8502) a + S1x2x16x128.size a ≤ S112x2x16x128.size a := fun v8502 k0_hw431 => k0_hw431

def k0_off461 (v8506 : BitVec 32) : Fin 4 → Nat :=
  let v8507 : Index := Scalar.indexCast v8506
  let c0_6153 : Index := 0#32
  let c0_6154 : Index := 0#32
  let c0_6155 : Index := 0#32
  ![v8507.toNat, 0, 0, 0]

def k0_chk432 (v8506 : BitVec 32) : Prop :=
  (∀ a, (k0_off461 v8506) a + S1x2x16x128.size a ≤ S112x2x16x128.size a)
theorem k0_off461_inb : ∀ (v8506 : BitVec 32) (k0_hw432 : k0_chk432 v8506), ∀ a, (k0_off461 v8506) a + S1x2x16x128.size a ≤ S112x2x16x128.size a := fun v8506 k0_hw432 => k0_hw432

def k0_off462 (v8510 : BitVec 32) : Fin 4 → Nat :=
  let v8511 : Index := Scalar.indexCast v8510
  let c0_6157 : Index := 0#32
  let c0_6158 : Index := 0#32
  let c0_6159 : Index := 0#32
  ![v8511.toNat, 0, 0, 0]

def k0_chk433 (v8510 : BitVec 32) : Prop :=
  (∀ a, (k0_off462 v8510) a + S1x2x16x128.size a ≤ S112x2x16x128.size a)
theorem k0_off462_inb : ∀ (v8510 : BitVec 32) (k0_hw433 : k0_chk433 v8510), ∀ a, (k0_off462 v8510) a + S1x2x16x128.size a ≤ S112x2x16x128.size a := fun v8510 k0_hw433 => k0_hw433

def k0_off463 (v8514 : BitVec 32) : Fin 4 → Nat :=
  let v8515 : Index := Scalar.indexCast v8514
  let c0_6161 : Index := 0#32
  let c0_6162 : Index := 0#32
  let c0_6163 : Index := 0#32
  ![v8515.toNat, 0, 0, 0]

def k0_chk434 (v8514 : BitVec 32) : Prop :=
  (∀ a, (k0_off463 v8514) a + S1x2x16x128.size a ≤ S112x2x16x128.size a)
theorem k0_off463_inb : ∀ (v8514 : BitVec 32) (k0_hw434 : k0_chk434 v8514), ∀ a, (k0_off463 v8514) a + S1x2x16x128.size a ≤ S112x2x16x128.size a := fun v8514 k0_hw434 => k0_hw434

def k0_off464 (v8541 : BitVec 32) : Fin 4 → Nat :=
  let v8542 : Index := Scalar.indexCast v8541
  let c0_6177 : Index := 0#32
  let c0_6178 : Index := 0#32
  let c0_6179 : Index := 0#32
  ![v8542.toNat, 0, 0, 0]

def k0_chk435 (v8541 : BitVec 32) : Prop :=
  (∀ a, (k0_off464 v8541) a + S1x2x16x128.size a ≤ S112x2x16x128.size a)
theorem k0_off464_inb : ∀ (v8541 : BitVec 32) (k0_hw435 : k0_chk435 v8541), ∀ a, (k0_off464 v8541) a + S1x2x16x128.size a ≤ S112x2x16x128.size a := fun v8541 k0_hw435 => k0_hw435

def k0_off465 (v8545 : BitVec 32) : Fin 4 → Nat :=
  let v8546 : Index := Scalar.indexCast v8545
  let c0_6181 : Index := 0#32
  let c0_6182 : Index := 0#32
  let c0_6183 : Index := 0#32
  ![v8546.toNat, 0, 0, 0]

def k0_chk436 (v8545 : BitVec 32) : Prop :=
  (∀ a, (k0_off465 v8545) a + S1x2x16x128.size a ≤ S112x2x16x128.size a)
theorem k0_off465_inb : ∀ (v8545 : BitVec 32) (k0_hw436 : k0_chk436 v8545), ∀ a, (k0_off465 v8545) a + S1x2x16x128.size a ≤ S112x2x16x128.size a := fun v8545 k0_hw436 => k0_hw436

def k0_off466 (v8549 : BitVec 32) : Fin 4 → Nat :=
  let v8550 : Index := Scalar.indexCast v8549
  let c0_6185 : Index := 0#32
  let c0_6186 : Index := 0#32
  let c0_6187 : Index := 0#32
  ![v8550.toNat, 0, 0, 0]

def k0_chk437 (v8549 : BitVec 32) : Prop :=
  (∀ a, (k0_off466 v8549) a + S1x2x16x128.size a ≤ S112x2x16x128.size a)
theorem k0_off466_inb : ∀ (v8549 : BitVec 32) (k0_hw437 : k0_chk437 v8549), ∀ a, (k0_off466 v8549) a + S1x2x16x128.size a ≤ S112x2x16x128.size a := fun v8549 k0_hw437 => k0_hw437

def k0_off467 (v8553 : BitVec 32) : Fin 4 → Nat :=
  let v8554 : Index := Scalar.indexCast v8553
  let c0_6189 : Index := 0#32
  let c0_6190 : Index := 0#32
  let c0_6191 : Index := 0#32
  ![v8554.toNat, 0, 0, 0]

def k0_chk438 (v8553 : BitVec 32) : Prop :=
  (∀ a, (k0_off467 v8553) a + S1x2x16x128.size a ≤ S112x2x16x128.size a)
theorem k0_off467_inb : ∀ (v8553 : BitVec 32) (k0_hw438 : k0_chk438 v8553), ∀ a, (k0_off467 v8553) a + S1x2x16x128.size a ≤ S112x2x16x128.size a := fun v8553 k0_hw438 => k0_hw438

def k0_off468 (v8557 : BitVec 32) : Fin 4 → Nat :=
  let v8558 : Index := Scalar.indexCast v8557
  let c0_6193 : Index := 0#32
  let c0_6194 : Index := 0#32
  let c0_6195 : Index := 0#32
  ![v8558.toNat, 0, 0, 0]

def k0_chk439 (v8557 : BitVec 32) : Prop :=
  (∀ a, (k0_off468 v8557) a + S1x2x16x128.size a ≤ S112x2x16x128.size a)
theorem k0_off468_inb : ∀ (v8557 : BitVec 32) (k0_hw439 : k0_chk439 v8557), ∀ a, (k0_off468 v8557) a + S1x2x16x128.size a ≤ S112x2x16x128.size a := fun v8557 k0_hw439 => k0_hw439

def k0_off469 (v8561 : BitVec 32) : Fin 4 → Nat :=
  let v8562 : Index := Scalar.indexCast v8561
  let c0_6197 : Index := 0#32
  let c0_6198 : Index := 0#32
  let c0_6199 : Index := 0#32
  ![v8562.toNat, 0, 0, 0]

def k0_chk440 (v8561 : BitVec 32) : Prop :=
  (∀ a, (k0_off469 v8561) a + S1x2x16x128.size a ≤ S112x2x16x128.size a)
theorem k0_off469_inb : ∀ (v8561 : BitVec 32) (k0_hw440 : k0_chk440 v8561), ∀ a, (k0_off469 v8561) a + S1x2x16x128.size a ≤ S112x2x16x128.size a := fun v8561 k0_hw440 => k0_hw440

def k0_off470 (v8565 : BitVec 32) : Fin 4 → Nat :=
  let v8566 : Index := Scalar.indexCast v8565
  let c0_6201 : Index := 0#32
  let c0_6202 : Index := 0#32
  let c0_6203 : Index := 0#32
  ![v8566.toNat, 0, 0, 0]

def k0_chk441 (v8565 : BitVec 32) : Prop :=
  (∀ a, (k0_off470 v8565) a + S1x2x16x128.size a ≤ S112x2x16x128.size a)
theorem k0_off470_inb : ∀ (v8565 : BitVec 32) (k0_hw441 : k0_chk441 v8565), ∀ a, (k0_off470 v8565) a + S1x2x16x128.size a ≤ S112x2x16x128.size a := fun v8565 k0_hw441 => k0_hw441

def k0_off471 (v8592 : BitVec 32) : Fin 4 → Nat :=
  let v8593 : Index := Scalar.indexCast v8592
  let c0_6217 : Index := 0#32
  let c0_6218 : Index := 0#32
  let c0_6219 : Index := 0#32
  ![v8593.toNat, 0, 0, 0]

def k0_chk442 (v8592 : BitVec 32) : Prop :=
  (∀ a, (k0_off471 v8592) a + S1x2x16x128.size a ≤ S112x2x16x128.size a)
theorem k0_off471_inb : ∀ (v8592 : BitVec 32) (k0_hw442 : k0_chk442 v8592), ∀ a, (k0_off471 v8592) a + S1x2x16x128.size a ≤ S112x2x16x128.size a := fun v8592 k0_hw442 => k0_hw442

def k0_off472 (v8596 : BitVec 32) : Fin 4 → Nat :=
  let v8597 : Index := Scalar.indexCast v8596
  let c0_6221 : Index := 0#32
  let c0_6222 : Index := 0#32
  let c0_6223 : Index := 0#32
  ![v8597.toNat, 0, 0, 0]

def k0_chk443 (v8596 : BitVec 32) : Prop :=
  (∀ a, (k0_off472 v8596) a + S1x2x16x128.size a ≤ S112x2x16x128.size a)
theorem k0_off472_inb : ∀ (v8596 : BitVec 32) (k0_hw443 : k0_chk443 v8596), ∀ a, (k0_off472 v8596) a + S1x2x16x128.size a ≤ S112x2x16x128.size a := fun v8596 k0_hw443 => k0_hw443

def k0_off473 (v8600 : BitVec 32) : Fin 4 → Nat :=
  let v8601 : Index := Scalar.indexCast v8600
  let c0_6225 : Index := 0#32
  let c0_6226 : Index := 0#32
  let c0_6227 : Index := 0#32
  ![v8601.toNat, 0, 0, 0]

def k0_chk444 (v8600 : BitVec 32) : Prop :=
  (∀ a, (k0_off473 v8600) a + S1x2x16x128.size a ≤ S112x2x16x128.size a)
theorem k0_off473_inb : ∀ (v8600 : BitVec 32) (k0_hw444 : k0_chk444 v8600), ∀ a, (k0_off473 v8600) a + S1x2x16x128.size a ≤ S112x2x16x128.size a := fun v8600 k0_hw444 => k0_hw444

def k0_off474 (v8604 : BitVec 32) : Fin 4 → Nat :=
  let v8605 : Index := Scalar.indexCast v8604
  let c0_6229 : Index := 0#32
  let c0_6230 : Index := 0#32
  let c0_6231 : Index := 0#32
  ![v8605.toNat, 0, 0, 0]

def k0_chk445 (v8604 : BitVec 32) : Prop :=
  (∀ a, (k0_off474 v8604) a + S1x2x16x128.size a ≤ S112x2x16x128.size a)
theorem k0_off474_inb : ∀ (v8604 : BitVec 32) (k0_hw445 : k0_chk445 v8604), ∀ a, (k0_off474 v8604) a + S1x2x16x128.size a ≤ S112x2x16x128.size a := fun v8604 k0_hw445 => k0_hw445

def k0_off475 (v8608 : BitVec 32) : Fin 4 → Nat :=
  let v8609 : Index := Scalar.indexCast v8608
  let c0_6233 : Index := 0#32
  let c0_6234 : Index := 0#32
  let c0_6235 : Index := 0#32
  ![v8609.toNat, 0, 0, 0]

def k0_chk446 (v8608 : BitVec 32) : Prop :=
  (∀ a, (k0_off475 v8608) a + S1x2x16x128.size a ≤ S112x2x16x128.size a)
theorem k0_off475_inb : ∀ (v8608 : BitVec 32) (k0_hw446 : k0_chk446 v8608), ∀ a, (k0_off475 v8608) a + S1x2x16x128.size a ≤ S112x2x16x128.size a := fun v8608 k0_hw446 => k0_hw446

def k0_off476 (v8612 : BitVec 32) : Fin 4 → Nat :=
  let v8613 : Index := Scalar.indexCast v8612
  let c0_6237 : Index := 0#32
  let c0_6238 : Index := 0#32
  let c0_6239 : Index := 0#32
  ![v8613.toNat, 0, 0, 0]

def k0_chk447 (v8612 : BitVec 32) : Prop :=
  (∀ a, (k0_off476 v8612) a + S1x2x16x128.size a ≤ S112x2x16x128.size a)
theorem k0_off476_inb : ∀ (v8612 : BitVec 32) (k0_hw447 : k0_chk447 v8612), ∀ a, (k0_off476 v8612) a + S1x2x16x128.size a ≤ S112x2x16x128.size a := fun v8612 k0_hw447 => k0_hw447

def k0_off477 (v8616 : BitVec 32) : Fin 4 → Nat :=
  let v8617 : Index := Scalar.indexCast v8616
  let c0_6241 : Index := 0#32
  let c0_6242 : Index := 0#32
  let c0_6243 : Index := 0#32
  ![v8617.toNat, 0, 0, 0]

def k0_chk448 (v8616 : BitVec 32) : Prop :=
  (∀ a, (k0_off477 v8616) a + S1x2x16x128.size a ≤ S112x2x16x128.size a)
theorem k0_off477_inb : ∀ (v8616 : BitVec 32) (k0_hw448 : k0_chk448 v8616), ∀ a, (k0_off477 v8616) a + S1x2x16x128.size a ≤ S112x2x16x128.size a := fun v8616 k0_hw448 => k0_hw448

def k0_off478 (v8643 : BitVec 32) : Fin 4 → Nat :=
  let v8644 : Index := Scalar.indexCast v8643
  let c0_6257 : Index := 0#32
  let c0_6258 : Index := 0#32
  let c0_6259 : Index := 0#32
  ![v8644.toNat, 0, 0, 0]

def k0_chk449 (v8643 : BitVec 32) : Prop :=
  (∀ a, (k0_off478 v8643) a + S1x2x16x128.size a ≤ S112x2x16x128.size a)
theorem k0_off478_inb : ∀ (v8643 : BitVec 32) (k0_hw449 : k0_chk449 v8643), ∀ a, (k0_off478 v8643) a + S1x2x16x128.size a ≤ S112x2x16x128.size a := fun v8643 k0_hw449 => k0_hw449

def k0_off479 (v8647 : BitVec 32) : Fin 4 → Nat :=
  let v8648 : Index := Scalar.indexCast v8647
  let c0_6261 : Index := 0#32
  let c0_6262 : Index := 0#32
  let c0_6263 : Index := 0#32
  ![v8648.toNat, 0, 0, 0]

def k0_chk450 (v8647 : BitVec 32) : Prop :=
  (∀ a, (k0_off479 v8647) a + S1x2x16x128.size a ≤ S112x2x16x128.size a)
theorem k0_off479_inb : ∀ (v8647 : BitVec 32) (k0_hw450 : k0_chk450 v8647), ∀ a, (k0_off479 v8647) a + S1x2x16x128.size a ≤ S112x2x16x128.size a := fun v8647 k0_hw450 => k0_hw450

def k0_off480 (v8651 : BitVec 32) : Fin 4 → Nat :=
  let v8652 : Index := Scalar.indexCast v8651
  let c0_6265 : Index := 0#32
  let c0_6266 : Index := 0#32
  let c0_6267 : Index := 0#32
  ![v8652.toNat, 0, 0, 0]

def k0_chk451 (v8651 : BitVec 32) : Prop :=
  (∀ a, (k0_off480 v8651) a + S1x2x16x128.size a ≤ S112x2x16x128.size a)
theorem k0_off480_inb : ∀ (v8651 : BitVec 32) (k0_hw451 : k0_chk451 v8651), ∀ a, (k0_off480 v8651) a + S1x2x16x128.size a ≤ S112x2x16x128.size a := fun v8651 k0_hw451 => k0_hw451

def k0_off481 (v8655 : BitVec 32) : Fin 4 → Nat :=
  let v8656 : Index := Scalar.indexCast v8655
  let c0_6269 : Index := 0#32
  let c0_6270 : Index := 0#32
  let c0_6271 : Index := 0#32
  ![v8656.toNat, 0, 0, 0]

def k0_chk452 (v8655 : BitVec 32) : Prop :=
  (∀ a, (k0_off481 v8655) a + S1x2x16x128.size a ≤ S112x2x16x128.size a)
theorem k0_off481_inb : ∀ (v8655 : BitVec 32) (k0_hw452 : k0_chk452 v8655), ∀ a, (k0_off481 v8655) a + S1x2x16x128.size a ≤ S112x2x16x128.size a := fun v8655 k0_hw452 => k0_hw452

def k0_off482 (v8659 : BitVec 32) : Fin 4 → Nat :=
  let v8660 : Index := Scalar.indexCast v8659
  let c0_6273 : Index := 0#32
  let c0_6274 : Index := 0#32
  let c0_6275 : Index := 0#32
  ![v8660.toNat, 0, 0, 0]

def k0_chk453 (v8659 : BitVec 32) : Prop :=
  (∀ a, (k0_off482 v8659) a + S1x2x16x128.size a ≤ S112x2x16x128.size a)
theorem k0_off482_inb : ∀ (v8659 : BitVec 32) (k0_hw453 : k0_chk453 v8659), ∀ a, (k0_off482 v8659) a + S1x2x16x128.size a ≤ S112x2x16x128.size a := fun v8659 k0_hw453 => k0_hw453

def k0_off483 (v8663 : BitVec 32) : Fin 4 → Nat :=
  let v8664 : Index := Scalar.indexCast v8663
  let c0_6277 : Index := 0#32
  let c0_6278 : Index := 0#32
  let c0_6279 : Index := 0#32
  ![v8664.toNat, 0, 0, 0]

def k0_chk454 (v8663 : BitVec 32) : Prop :=
  (∀ a, (k0_off483 v8663) a + S1x2x16x128.size a ≤ S112x2x16x128.size a)
theorem k0_off483_inb : ∀ (v8663 : BitVec 32) (k0_hw454 : k0_chk454 v8663), ∀ a, (k0_off483 v8663) a + S1x2x16x128.size a ≤ S112x2x16x128.size a := fun v8663 k0_hw454 => k0_hw454

def k0_off484 (v8667 : BitVec 32) : Fin 4 → Nat :=
  let v8668 : Index := Scalar.indexCast v8667
  let c0_6281 : Index := 0#32
  let c0_6282 : Index := 0#32
  let c0_6283 : Index := 0#32
  ![v8668.toNat, 0, 0, 0]

def k0_chk455 (v8667 : BitVec 32) : Prop :=
  (∀ a, (k0_off484 v8667) a + S1x2x16x128.size a ≤ S112x2x16x128.size a)
theorem k0_off484_inb : ∀ (v8667 : BitVec 32) (k0_hw455 : k0_chk455 v8667), ∀ a, (k0_off484 v8667) a + S1x2x16x128.size a ≤ S112x2x16x128.size a := fun v8667 k0_hw455 => k0_hw455

def k0_off485 (v8694 : BitVec 32) : Fin 4 → Nat :=
  let v8695 : Index := Scalar.indexCast v8694
  let c0_6297 : Index := 0#32
  let c0_6298 : Index := 0#32
  let c0_6299 : Index := 0#32
  ![v8695.toNat, 0, 0, 0]

def k0_chk456 (v8694 : BitVec 32) : Prop :=
  (∀ a, (k0_off485 v8694) a + S1x2x16x128.size a ≤ S112x2x16x128.size a)
theorem k0_off485_inb : ∀ (v8694 : BitVec 32) (k0_hw456 : k0_chk456 v8694), ∀ a, (k0_off485 v8694) a + S1x2x16x128.size a ≤ S112x2x16x128.size a := fun v8694 k0_hw456 => k0_hw456

def k0_off486 (v8698 : BitVec 32) : Fin 4 → Nat :=
  let v8699 : Index := Scalar.indexCast v8698
  let c0_6301 : Index := 0#32
  let c0_6302 : Index := 0#32
  let c0_6303 : Index := 0#32
  ![v8699.toNat, 0, 0, 0]

def k0_chk457 (v8698 : BitVec 32) : Prop :=
  (∀ a, (k0_off486 v8698) a + S1x2x16x128.size a ≤ S112x2x16x128.size a)
theorem k0_off486_inb : ∀ (v8698 : BitVec 32) (k0_hw457 : k0_chk457 v8698), ∀ a, (k0_off486 v8698) a + S1x2x16x128.size a ≤ S112x2x16x128.size a := fun v8698 k0_hw457 => k0_hw457

def k0_off487 (v8702 : BitVec 32) : Fin 4 → Nat :=
  let v8703 : Index := Scalar.indexCast v8702
  let c0_6305 : Index := 0#32
  let c0_6306 : Index := 0#32
  let c0_6307 : Index := 0#32
  ![v8703.toNat, 0, 0, 0]

def k0_chk458 (v8702 : BitVec 32) : Prop :=
  (∀ a, (k0_off487 v8702) a + S1x2x16x128.size a ≤ S112x2x16x128.size a)
theorem k0_off487_inb : ∀ (v8702 : BitVec 32) (k0_hw458 : k0_chk458 v8702), ∀ a, (k0_off487 v8702) a + S1x2x16x128.size a ≤ S112x2x16x128.size a := fun v8702 k0_hw458 => k0_hw458

def k0_off488 (v8706 : BitVec 32) : Fin 4 → Nat :=
  let v8707 : Index := Scalar.indexCast v8706
  let c0_6309 : Index := 0#32
  let c0_6310 : Index := 0#32
  let c0_6311 : Index := 0#32
  ![v8707.toNat, 0, 0, 0]

def k0_chk459 (v8706 : BitVec 32) : Prop :=
  (∀ a, (k0_off488 v8706) a + S1x2x16x128.size a ≤ S112x2x16x128.size a)
theorem k0_off488_inb : ∀ (v8706 : BitVec 32) (k0_hw459 : k0_chk459 v8706), ∀ a, (k0_off488 v8706) a + S1x2x16x128.size a ≤ S112x2x16x128.size a := fun v8706 k0_hw459 => k0_hw459

def k0_off489 (v8710 : BitVec 32) : Fin 4 → Nat :=
  let v8711 : Index := Scalar.indexCast v8710
  let c0_6313 : Index := 0#32
  let c0_6314 : Index := 0#32
  let c0_6315 : Index := 0#32
  ![v8711.toNat, 0, 0, 0]

def k0_chk460 (v8710 : BitVec 32) : Prop :=
  (∀ a, (k0_off489 v8710) a + S1x2x16x128.size a ≤ S112x2x16x128.size a)
theorem k0_off489_inb : ∀ (v8710 : BitVec 32) (k0_hw460 : k0_chk460 v8710), ∀ a, (k0_off489 v8710) a + S1x2x16x128.size a ≤ S112x2x16x128.size a := fun v8710 k0_hw460 => k0_hw460

def k0_off490 (v8714 : BitVec 32) : Fin 4 → Nat :=
  let v8715 : Index := Scalar.indexCast v8714
  let c0_6317 : Index := 0#32
  let c0_6318 : Index := 0#32
  let c0_6319 : Index := 0#32
  ![v8715.toNat, 0, 0, 0]

def k0_chk461 (v8714 : BitVec 32) : Prop :=
  (∀ a, (k0_off490 v8714) a + S1x2x16x128.size a ≤ S112x2x16x128.size a)
theorem k0_off490_inb : ∀ (v8714 : BitVec 32) (k0_hw461 : k0_chk461 v8714), ∀ a, (k0_off490 v8714) a + S1x2x16x128.size a ≤ S112x2x16x128.size a := fun v8714 k0_hw461 => k0_hw461

def k0_off491 (v8718 : BitVec 32) : Fin 4 → Nat :=
  let v8719 : Index := Scalar.indexCast v8718
  let c0_6321 : Index := 0#32
  let c0_6322 : Index := 0#32
  let c0_6323 : Index := 0#32
  ![v8719.toNat, 0, 0, 0]

def k0_chk462 (v8718 : BitVec 32) : Prop :=
  (∀ a, (k0_off491 v8718) a + S1x2x16x128.size a ≤ S112x2x16x128.size a)
theorem k0_off491_inb : ∀ (v8718 : BitVec 32) (k0_hw462 : k0_chk462 v8718), ∀ a, (k0_off491 v8718) a + S1x2x16x128.size a ≤ S112x2x16x128.size a := fun v8718 k0_hw462 => k0_hw462

def k0_off492 (v8745 : BitVec 32) : Fin 4 → Nat :=
  let v8746 : Index := Scalar.indexCast v8745
  let c0_6337 : Index := 0#32
  let c0_6338 : Index := 0#32
  let c0_6339 : Index := 0#32
  ![v8746.toNat, 0, 0, 0]

def k0_chk463 (v8745 : BitVec 32) : Prop :=
  (∀ a, (k0_off492 v8745) a + S1x2x16x128.size a ≤ S112x2x16x128.size a)
theorem k0_off492_inb : ∀ (v8745 : BitVec 32) (k0_hw463 : k0_chk463 v8745), ∀ a, (k0_off492 v8745) a + S1x2x16x128.size a ≤ S112x2x16x128.size a := fun v8745 k0_hw463 => k0_hw463

def k0_off493 (v8749 : BitVec 32) : Fin 4 → Nat :=
  let v8750 : Index := Scalar.indexCast v8749
  let c0_6341 : Index := 0#32
  let c0_6342 : Index := 0#32
  let c0_6343 : Index := 0#32
  ![v8750.toNat, 0, 0, 0]

def k0_chk464 (v8749 : BitVec 32) : Prop :=
  (∀ a, (k0_off493 v8749) a + S1x2x16x128.size a ≤ S112x2x16x128.size a)
theorem k0_off493_inb : ∀ (v8749 : BitVec 32) (k0_hw464 : k0_chk464 v8749), ∀ a, (k0_off493 v8749) a + S1x2x16x128.size a ≤ S112x2x16x128.size a := fun v8749 k0_hw464 => k0_hw464

def k0_off494 (v8753 : BitVec 32) : Fin 4 → Nat :=
  let v8754 : Index := Scalar.indexCast v8753
  let c0_6345 : Index := 0#32
  let c0_6346 : Index := 0#32
  let c0_6347 : Index := 0#32
  ![v8754.toNat, 0, 0, 0]

def k0_chk465 (v8753 : BitVec 32) : Prop :=
  (∀ a, (k0_off494 v8753) a + S1x2x16x128.size a ≤ S112x2x16x128.size a)
theorem k0_off494_inb : ∀ (v8753 : BitVec 32) (k0_hw465 : k0_chk465 v8753), ∀ a, (k0_off494 v8753) a + S1x2x16x128.size a ≤ S112x2x16x128.size a := fun v8753 k0_hw465 => k0_hw465

def k0_off495 (v8757 : BitVec 32) : Fin 4 → Nat :=
  let v8758 : Index := Scalar.indexCast v8757
  let c0_6349 : Index := 0#32
  let c0_6350 : Index := 0#32
  let c0_6351 : Index := 0#32
  ![v8758.toNat, 0, 0, 0]

def k0_chk466 (v8757 : BitVec 32) : Prop :=
  (∀ a, (k0_off495 v8757) a + S1x2x16x128.size a ≤ S112x2x16x128.size a)
theorem k0_off495_inb : ∀ (v8757 : BitVec 32) (k0_hw466 : k0_chk466 v8757), ∀ a, (k0_off495 v8757) a + S1x2x16x128.size a ≤ S112x2x16x128.size a := fun v8757 k0_hw466 => k0_hw466

def k0_off496 (v8761 : BitVec 32) : Fin 4 → Nat :=
  let v8762 : Index := Scalar.indexCast v8761
  let c0_6353 : Index := 0#32
  let c0_6354 : Index := 0#32
  let c0_6355 : Index := 0#32
  ![v8762.toNat, 0, 0, 0]

def k0_chk467 (v8761 : BitVec 32) : Prop :=
  (∀ a, (k0_off496 v8761) a + S1x2x16x128.size a ≤ S112x2x16x128.size a)
theorem k0_off496_inb : ∀ (v8761 : BitVec 32) (k0_hw467 : k0_chk467 v8761), ∀ a, (k0_off496 v8761) a + S1x2x16x128.size a ≤ S112x2x16x128.size a := fun v8761 k0_hw467 => k0_hw467

def k0_off497 (v8765 : BitVec 32) : Fin 4 → Nat :=
  let v8766 : Index := Scalar.indexCast v8765
  let c0_6357 : Index := 0#32
  let c0_6358 : Index := 0#32
  let c0_6359 : Index := 0#32
  ![v8766.toNat, 0, 0, 0]

def k0_chk468 (v8765 : BitVec 32) : Prop :=
  (∀ a, (k0_off497 v8765) a + S1x2x16x128.size a ≤ S112x2x16x128.size a)
theorem k0_off497_inb : ∀ (v8765 : BitVec 32) (k0_hw468 : k0_chk468 v8765), ∀ a, (k0_off497 v8765) a + S1x2x16x128.size a ≤ S112x2x16x128.size a := fun v8765 k0_hw468 => k0_hw468

def k0_off498 (v8769 : BitVec 32) : Fin 4 → Nat :=
  let v8770 : Index := Scalar.indexCast v8769
  let c0_6361 : Index := 0#32
  let c0_6362 : Index := 0#32
  let c0_6363 : Index := 0#32
  ![v8770.toNat, 0, 0, 0]

def k0_chk469 (v8769 : BitVec 32) : Prop :=
  (∀ a, (k0_off498 v8769) a + S1x2x16x128.size a ≤ S112x2x16x128.size a)
theorem k0_off498_inb : ∀ (v8769 : BitVec 32) (k0_hw469 : k0_chk469 v8769), ∀ a, (k0_off498 v8769) a + S1x2x16x128.size a ≤ S112x2x16x128.size a := fun v8769 k0_hw469 => k0_hw469

def k0_off499 (v8796 : BitVec 32) : Fin 4 → Nat :=
  let v8797 : Index := Scalar.indexCast v8796
  let c0_6377 : Index := 0#32
  let c0_6378 : Index := 0#32
  let c0_6379 : Index := 0#32
  ![v8797.toNat, 0, 0, 0]

def k0_chk470 (v8796 : BitVec 32) : Prop :=
  (∀ a, (k0_off499 v8796) a + S1x2x16x128.size a ≤ S112x2x16x128.size a)
theorem k0_off499_inb : ∀ (v8796 : BitVec 32) (k0_hw470 : k0_chk470 v8796), ∀ a, (k0_off499 v8796) a + S1x2x16x128.size a ≤ S112x2x16x128.size a := fun v8796 k0_hw470 => k0_hw470

def k0_off500 (v8800 : BitVec 32) : Fin 4 → Nat :=
  let v8801 : Index := Scalar.indexCast v8800
  let c0_6381 : Index := 0#32
  let c0_6382 : Index := 0#32
  let c0_6383 : Index := 0#32
  ![v8801.toNat, 0, 0, 0]

def k0_chk471 (v8800 : BitVec 32) : Prop :=
  (∀ a, (k0_off500 v8800) a + S1x2x16x128.size a ≤ S112x2x16x128.size a)
theorem k0_off500_inb : ∀ (v8800 : BitVec 32) (k0_hw471 : k0_chk471 v8800), ∀ a, (k0_off500 v8800) a + S1x2x16x128.size a ≤ S112x2x16x128.size a := fun v8800 k0_hw471 => k0_hw471

def k0_off501 (v8804 : BitVec 32) : Fin 4 → Nat :=
  let v8805 : Index := Scalar.indexCast v8804
  let c0_6385 : Index := 0#32
  let c0_6386 : Index := 0#32
  let c0_6387 : Index := 0#32
  ![v8805.toNat, 0, 0, 0]

def k0_chk472 (v8804 : BitVec 32) : Prop :=
  (∀ a, (k0_off501 v8804) a + S1x2x16x128.size a ≤ S112x2x16x128.size a)
theorem k0_off501_inb : ∀ (v8804 : BitVec 32) (k0_hw472 : k0_chk472 v8804), ∀ a, (k0_off501 v8804) a + S1x2x16x128.size a ≤ S112x2x16x128.size a := fun v8804 k0_hw472 => k0_hw472

def k0_off502 (v8808 : BitVec 32) : Fin 4 → Nat :=
  let v8809 : Index := Scalar.indexCast v8808
  let c0_6389 : Index := 0#32
  let c0_6390 : Index := 0#32
  let c0_6391 : Index := 0#32
  ![v8809.toNat, 0, 0, 0]

def k0_chk473 (v8808 : BitVec 32) : Prop :=
  (∀ a, (k0_off502 v8808) a + S1x2x16x128.size a ≤ S112x2x16x128.size a)
theorem k0_off502_inb : ∀ (v8808 : BitVec 32) (k0_hw473 : k0_chk473 v8808), ∀ a, (k0_off502 v8808) a + S1x2x16x128.size a ≤ S112x2x16x128.size a := fun v8808 k0_hw473 => k0_hw473

def k0_off503 (v8812 : BitVec 32) : Fin 4 → Nat :=
  let v8813 : Index := Scalar.indexCast v8812
  let c0_6393 : Index := 0#32
  let c0_6394 : Index := 0#32
  let c0_6395 : Index := 0#32
  ![v8813.toNat, 0, 0, 0]

def k0_chk474 (v8812 : BitVec 32) : Prop :=
  (∀ a, (k0_off503 v8812) a + S1x2x16x128.size a ≤ S112x2x16x128.size a)
theorem k0_off503_inb : ∀ (v8812 : BitVec 32) (k0_hw474 : k0_chk474 v8812), ∀ a, (k0_off503 v8812) a + S1x2x16x128.size a ≤ S112x2x16x128.size a := fun v8812 k0_hw474 => k0_hw474

def k0_off504 (v8816 : BitVec 32) : Fin 4 → Nat :=
  let v8817 : Index := Scalar.indexCast v8816
  let c0_6397 : Index := 0#32
  let c0_6398 : Index := 0#32
  let c0_6399 : Index := 0#32
  ![v8817.toNat, 0, 0, 0]

def k0_chk475 (v8816 : BitVec 32) : Prop :=
  (∀ a, (k0_off504 v8816) a + S1x2x16x128.size a ≤ S112x2x16x128.size a)
theorem k0_off504_inb : ∀ (v8816 : BitVec 32) (k0_hw475 : k0_chk475 v8816), ∀ a, (k0_off504 v8816) a + S1x2x16x128.size a ≤ S112x2x16x128.size a := fun v8816 k0_hw475 => k0_hw475

def k0_off505 (v8820 : BitVec 32) : Fin 4 → Nat :=
  let v8821 : Index := Scalar.indexCast v8820
  let c0_6401 : Index := 0#32
  let c0_6402 : Index := 0#32
  let c0_6403 : Index := 0#32
  ![v8821.toNat, 0, 0, 0]

def k0_chk476 (v8820 : BitVec 32) : Prop :=
  (∀ a, (k0_off505 v8820) a + S1x2x16x128.size a ≤ S112x2x16x128.size a)
theorem k0_off505_inb : ∀ (v8820 : BitVec 32) (k0_hw476 : k0_chk476 v8820), ∀ a, (k0_off505 v8820) a + S1x2x16x128.size a ≤ S112x2x16x128.size a := fun v8820 k0_hw476 => k0_hw476

def k0_off506 (v8847 : BitVec 32) : Fin 4 → Nat :=
  let v8848 : Index := Scalar.indexCast v8847
  let c0_6417 : Index := 0#32
  let c0_6418 : Index := 0#32
  let c0_6419 : Index := 0#32
  ![v8848.toNat, 0, 0, 0]

def k0_chk477 (v8847 : BitVec 32) : Prop :=
  (∀ a, (k0_off506 v8847) a + S1x2x16x128.size a ≤ S112x2x16x128.size a)
theorem k0_off506_inb : ∀ (v8847 : BitVec 32) (k0_hw477 : k0_chk477 v8847), ∀ a, (k0_off506 v8847) a + S1x2x16x128.size a ≤ S112x2x16x128.size a := fun v8847 k0_hw477 => k0_hw477

def k0_off507 (v8851 : BitVec 32) : Fin 4 → Nat :=
  let v8852 : Index := Scalar.indexCast v8851
  let c0_6421 : Index := 0#32
  let c0_6422 : Index := 0#32
  let c0_6423 : Index := 0#32
  ![v8852.toNat, 0, 0, 0]

def k0_chk478 (v8851 : BitVec 32) : Prop :=
  (∀ a, (k0_off507 v8851) a + S1x2x16x128.size a ≤ S112x2x16x128.size a)
theorem k0_off507_inb : ∀ (v8851 : BitVec 32) (k0_hw478 : k0_chk478 v8851), ∀ a, (k0_off507 v8851) a + S1x2x16x128.size a ≤ S112x2x16x128.size a := fun v8851 k0_hw478 => k0_hw478

def k0_off508 (v8855 : BitVec 32) : Fin 4 → Nat :=
  let v8856 : Index := Scalar.indexCast v8855
  let c0_6425 : Index := 0#32
  let c0_6426 : Index := 0#32
  let c0_6427 : Index := 0#32
  ![v8856.toNat, 0, 0, 0]

def k0_chk479 (v8855 : BitVec 32) : Prop :=
  (∀ a, (k0_off508 v8855) a + S1x2x16x128.size a ≤ S112x2x16x128.size a)
theorem k0_off508_inb : ∀ (v8855 : BitVec 32) (k0_hw479 : k0_chk479 v8855), ∀ a, (k0_off508 v8855) a + S1x2x16x128.size a ≤ S112x2x16x128.size a := fun v8855 k0_hw479 => k0_hw479

def k0_off509 (v8859 : BitVec 32) : Fin 4 → Nat :=
  let v8860 : Index := Scalar.indexCast v8859
  let c0_6429 : Index := 0#32
  let c0_6430 : Index := 0#32
  let c0_6431 : Index := 0#32
  ![v8860.toNat, 0, 0, 0]

def k0_chk480 (v8859 : BitVec 32) : Prop :=
  (∀ a, (k0_off509 v8859) a + S1x2x16x128.size a ≤ S112x2x16x128.size a)
theorem k0_off509_inb : ∀ (v8859 : BitVec 32) (k0_hw480 : k0_chk480 v8859), ∀ a, (k0_off509 v8859) a + S1x2x16x128.size a ≤ S112x2x16x128.size a := fun v8859 k0_hw480 => k0_hw480

def k0_off510 (v8863 : BitVec 32) : Fin 4 → Nat :=
  let v8864 : Index := Scalar.indexCast v8863
  let c0_6433 : Index := 0#32
  let c0_6434 : Index := 0#32
  let c0_6435 : Index := 0#32
  ![v8864.toNat, 0, 0, 0]

def k0_chk481 (v8863 : BitVec 32) : Prop :=
  (∀ a, (k0_off510 v8863) a + S1x2x16x128.size a ≤ S112x2x16x128.size a)
theorem k0_off510_inb : ∀ (v8863 : BitVec 32) (k0_hw481 : k0_chk481 v8863), ∀ a, (k0_off510 v8863) a + S1x2x16x128.size a ≤ S112x2x16x128.size a := fun v8863 k0_hw481 => k0_hw481

def k0_off511 (v8867 : BitVec 32) : Fin 4 → Nat :=
  let v8868 : Index := Scalar.indexCast v8867
  let c0_6437 : Index := 0#32
  let c0_6438 : Index := 0#32
  let c0_6439 : Index := 0#32
  ![v8868.toNat, 0, 0, 0]

def k0_chk482 (v8867 : BitVec 32) : Prop :=
  (∀ a, (k0_off511 v8867) a + S1x2x16x128.size a ≤ S112x2x16x128.size a)
theorem k0_off511_inb : ∀ (v8867 : BitVec 32) (k0_hw482 : k0_chk482 v8867), ∀ a, (k0_off511 v8867) a + S1x2x16x128.size a ≤ S112x2x16x128.size a := fun v8867 k0_hw482 => k0_hw482

def k0_off512 (v8871 : BitVec 32) : Fin 4 → Nat :=
  let v8872 : Index := Scalar.indexCast v8871
  let c0_6441 : Index := 0#32
  let c0_6442 : Index := 0#32
  let c0_6443 : Index := 0#32
  ![v8872.toNat, 0, 0, 0]

def k0_chk483 (v8871 : BitVec 32) : Prop :=
  (∀ a, (k0_off512 v8871) a + S1x2x16x128.size a ≤ S112x2x16x128.size a)
theorem k0_off512_inb : ∀ (v8871 : BitVec 32) (k0_hw483 : k0_chk483 v8871), ∀ a, (k0_off512 v8871) a + S1x2x16x128.size a ≤ S112x2x16x128.size a := fun v8871 k0_hw483 => k0_hw483

def k0_off513 (v8898 : BitVec 32) : Fin 4 → Nat :=
  let v8899 : Index := Scalar.indexCast v8898
  let c0_6457 : Index := 0#32
  let c0_6458 : Index := 0#32
  let c0_6459 : Index := 0#32
  ![v8899.toNat, 0, 0, 0]

def k0_chk484 (v8898 : BitVec 32) : Prop :=
  (∀ a, (k0_off513 v8898) a + S1x2x16x128.size a ≤ S112x2x16x128.size a)
theorem k0_off513_inb : ∀ (v8898 : BitVec 32) (k0_hw484 : k0_chk484 v8898), ∀ a, (k0_off513 v8898) a + S1x2x16x128.size a ≤ S112x2x16x128.size a := fun v8898 k0_hw484 => k0_hw484

def k0_off514 (v8902 : BitVec 32) : Fin 4 → Nat :=
  let v8903 : Index := Scalar.indexCast v8902
  let c0_6461 : Index := 0#32
  let c0_6462 : Index := 0#32
  let c0_6463 : Index := 0#32
  ![v8903.toNat, 0, 0, 0]

def k0_chk485 (v8902 : BitVec 32) : Prop :=
  (∀ a, (k0_off514 v8902) a + S1x2x16x128.size a ≤ S112x2x16x128.size a)
theorem k0_off514_inb : ∀ (v8902 : BitVec 32) (k0_hw485 : k0_chk485 v8902), ∀ a, (k0_off514 v8902) a + S1x2x16x128.size a ≤ S112x2x16x128.size a := fun v8902 k0_hw485 => k0_hw485

def k0_off515 (v8906 : BitVec 32) : Fin 4 → Nat :=
  let v8907 : Index := Scalar.indexCast v8906
  let c0_6465 : Index := 0#32
  let c0_6466 : Index := 0#32
  let c0_6467 : Index := 0#32
  ![v8907.toNat, 0, 0, 0]

def k0_chk486 (v8906 : BitVec 32) : Prop :=
  (∀ a, (k0_off515 v8906) a + S1x2x16x128.size a ≤ S112x2x16x128.size a)
theorem k0_off515_inb : ∀ (v8906 : BitVec 32) (k0_hw486 : k0_chk486 v8906), ∀ a, (k0_off515 v8906) a + S1x2x16x128.size a ≤ S112x2x16x128.size a := fun v8906 k0_hw486 => k0_hw486

def k0_off516 (v8910 : BitVec 32) : Fin 4 → Nat :=
  let v8911 : Index := Scalar.indexCast v8910
  let c0_6469 : Index := 0#32
  let c0_6470 : Index := 0#32
  let c0_6471 : Index := 0#32
  ![v8911.toNat, 0, 0, 0]

def k0_chk487 (v8910 : BitVec 32) : Prop :=
  (∀ a, (k0_off516 v8910) a + S1x2x16x128.size a ≤ S112x2x16x128.size a)
theorem k0_off516_inb : ∀ (v8910 : BitVec 32) (k0_hw487 : k0_chk487 v8910), ∀ a, (k0_off516 v8910) a + S1x2x16x128.size a ≤ S112x2x16x128.size a := fun v8910 k0_hw487 => k0_hw487

def k0_off517 (v8914 : BitVec 32) : Fin 4 → Nat :=
  let v8915 : Index := Scalar.indexCast v8914
  let c0_6473 : Index := 0#32
  let c0_6474 : Index := 0#32
  let c0_6475 : Index := 0#32
  ![v8915.toNat, 0, 0, 0]

def k0_chk488 (v8914 : BitVec 32) : Prop :=
  (∀ a, (k0_off517 v8914) a + S1x2x16x128.size a ≤ S112x2x16x128.size a)
theorem k0_off517_inb : ∀ (v8914 : BitVec 32) (k0_hw488 : k0_chk488 v8914), ∀ a, (k0_off517 v8914) a + S1x2x16x128.size a ≤ S112x2x16x128.size a := fun v8914 k0_hw488 => k0_hw488

def k0_off518 (v8918 : BitVec 32) : Fin 4 → Nat :=
  let v8919 : Index := Scalar.indexCast v8918
  let c0_6477 : Index := 0#32
  let c0_6478 : Index := 0#32
  let c0_6479 : Index := 0#32
  ![v8919.toNat, 0, 0, 0]

def k0_chk489 (v8918 : BitVec 32) : Prop :=
  (∀ a, (k0_off518 v8918) a + S1x2x16x128.size a ≤ S112x2x16x128.size a)
theorem k0_off518_inb : ∀ (v8918 : BitVec 32) (k0_hw489 : k0_chk489 v8918), ∀ a, (k0_off518 v8918) a + S1x2x16x128.size a ≤ S112x2x16x128.size a := fun v8918 k0_hw489 => k0_hw489

def k0_off519 (v8922 : BitVec 32) : Fin 4 → Nat :=
  let v8923 : Index := Scalar.indexCast v8922
  let c0_6481 : Index := 0#32
  let c0_6482 : Index := 0#32
  let c0_6483 : Index := 0#32
  ![v8923.toNat, 0, 0, 0]

def k0_chk490 (v8922 : BitVec 32) : Prop :=
  (∀ a, (k0_off519 v8922) a + S1x2x16x128.size a ≤ S112x2x16x128.size a)
theorem k0_off519_inb : ∀ (v8922 : BitVec 32) (k0_hw490 : k0_chk490 v8922), ∀ a, (k0_off519 v8922) a + S1x2x16x128.size a ≤ S112x2x16x128.size a := fun v8922 k0_hw490 => k0_hw490

def k0_off520 (v8949 : BitVec 32) : Fin 4 → Nat :=
  let v8950 : Index := Scalar.indexCast v8949
  let c0_6497 : Index := 0#32
  let c0_6498 : Index := 0#32
  let c0_6499 : Index := 0#32
  ![v8950.toNat, 0, 0, 0]

def k0_chk491 (v8949 : BitVec 32) : Prop :=
  (∀ a, (k0_off520 v8949) a + S1x2x16x128.size a ≤ S112x2x16x128.size a)
theorem k0_off520_inb : ∀ (v8949 : BitVec 32) (k0_hw491 : k0_chk491 v8949), ∀ a, (k0_off520 v8949) a + S1x2x16x128.size a ≤ S112x2x16x128.size a := fun v8949 k0_hw491 => k0_hw491

def k0_off521 (v8953 : BitVec 32) : Fin 4 → Nat :=
  let v8954 : Index := Scalar.indexCast v8953
  let c0_6501 : Index := 0#32
  let c0_6502 : Index := 0#32
  let c0_6503 : Index := 0#32
  ![v8954.toNat, 0, 0, 0]

def k0_chk492 (v8953 : BitVec 32) : Prop :=
  (∀ a, (k0_off521 v8953) a + S1x2x16x128.size a ≤ S112x2x16x128.size a)
theorem k0_off521_inb : ∀ (v8953 : BitVec 32) (k0_hw492 : k0_chk492 v8953), ∀ a, (k0_off521 v8953) a + S1x2x16x128.size a ≤ S112x2x16x128.size a := fun v8953 k0_hw492 => k0_hw492

def k0_off522 (v8957 : BitVec 32) : Fin 4 → Nat :=
  let v8958 : Index := Scalar.indexCast v8957
  let c0_6505 : Index := 0#32
  let c0_6506 : Index := 0#32
  let c0_6507 : Index := 0#32
  ![v8958.toNat, 0, 0, 0]

def k0_chk493 (v8957 : BitVec 32) : Prop :=
  (∀ a, (k0_off522 v8957) a + S1x2x16x128.size a ≤ S112x2x16x128.size a)
theorem k0_off522_inb : ∀ (v8957 : BitVec 32) (k0_hw493 : k0_chk493 v8957), ∀ a, (k0_off522 v8957) a + S1x2x16x128.size a ≤ S112x2x16x128.size a := fun v8957 k0_hw493 => k0_hw493

def k0_off523 (v8961 : BitVec 32) : Fin 4 → Nat :=
  let v8962 : Index := Scalar.indexCast v8961
  let c0_6509 : Index := 0#32
  let c0_6510 : Index := 0#32
  let c0_6511 : Index := 0#32
  ![v8962.toNat, 0, 0, 0]

def k0_chk494 (v8961 : BitVec 32) : Prop :=
  (∀ a, (k0_off523 v8961) a + S1x2x16x128.size a ≤ S112x2x16x128.size a)
theorem k0_off523_inb : ∀ (v8961 : BitVec 32) (k0_hw494 : k0_chk494 v8961), ∀ a, (k0_off523 v8961) a + S1x2x16x128.size a ≤ S112x2x16x128.size a := fun v8961 k0_hw494 => k0_hw494

def k0_off524 (v8965 : BitVec 32) : Fin 4 → Nat :=
  let v8966 : Index := Scalar.indexCast v8965
  let c0_6513 : Index := 0#32
  let c0_6514 : Index := 0#32
  let c0_6515 : Index := 0#32
  ![v8966.toNat, 0, 0, 0]

def k0_chk495 (v8965 : BitVec 32) : Prop :=
  (∀ a, (k0_off524 v8965) a + S1x2x16x128.size a ≤ S112x2x16x128.size a)
theorem k0_off524_inb : ∀ (v8965 : BitVec 32) (k0_hw495 : k0_chk495 v8965), ∀ a, (k0_off524 v8965) a + S1x2x16x128.size a ≤ S112x2x16x128.size a := fun v8965 k0_hw495 => k0_hw495

def k0_off525 (v8969 : BitVec 32) : Fin 4 → Nat :=
  let v8970 : Index := Scalar.indexCast v8969
  let c0_6517 : Index := 0#32
  let c0_6518 : Index := 0#32
  let c0_6519 : Index := 0#32
  ![v8970.toNat, 0, 0, 0]

def k0_chk496 (v8969 : BitVec 32) : Prop :=
  (∀ a, (k0_off525 v8969) a + S1x2x16x128.size a ≤ S112x2x16x128.size a)
theorem k0_off525_inb : ∀ (v8969 : BitVec 32) (k0_hw496 : k0_chk496 v8969), ∀ a, (k0_off525 v8969) a + S1x2x16x128.size a ≤ S112x2x16x128.size a := fun v8969 k0_hw496 => k0_hw496

def k0_off526 (v8973 : BitVec 32) : Fin 4 → Nat :=
  let v8974 : Index := Scalar.indexCast v8973
  let c0_6521 : Index := 0#32
  let c0_6522 : Index := 0#32
  let c0_6523 : Index := 0#32
  ![v8974.toNat, 0, 0, 0]

def k0_chk497 (v8973 : BitVec 32) : Prop :=
  (∀ a, (k0_off526 v8973) a + S1x2x16x128.size a ≤ S112x2x16x128.size a)
theorem k0_off526_inb : ∀ (v8973 : BitVec 32) (k0_hw497 : k0_chk497 v8973), ∀ a, (k0_off526 v8973) a + S1x2x16x128.size a ≤ S112x2x16x128.size a := fun v8973 k0_hw497 => k0_hw497

def k0_off527 (v9000 : BitVec 32) : Fin 4 → Nat :=
  let v9001 : Index := Scalar.indexCast v9000
  let c0_6537 : Index := 0#32
  let c0_6538 : Index := 0#32
  let c0_6539 : Index := 0#32
  ![v9001.toNat, 0, 0, 0]

def k0_chk498 (v9000 : BitVec 32) : Prop :=
  (∀ a, (k0_off527 v9000) a + S1x2x16x128.size a ≤ S112x2x16x128.size a)
theorem k0_off527_inb : ∀ (v9000 : BitVec 32) (k0_hw498 : k0_chk498 v9000), ∀ a, (k0_off527 v9000) a + S1x2x16x128.size a ≤ S112x2x16x128.size a := fun v9000 k0_hw498 => k0_hw498

def k0_off528 (v9004 : BitVec 32) : Fin 4 → Nat :=
  let v9005 : Index := Scalar.indexCast v9004
  let c0_6541 : Index := 0#32
  let c0_6542 : Index := 0#32
  let c0_6543 : Index := 0#32
  ![v9005.toNat, 0, 0, 0]

def k0_chk499 (v9004 : BitVec 32) : Prop :=
  (∀ a, (k0_off528 v9004) a + S1x2x16x128.size a ≤ S112x2x16x128.size a)
theorem k0_off528_inb : ∀ (v9004 : BitVec 32) (k0_hw499 : k0_chk499 v9004), ∀ a, (k0_off528 v9004) a + S1x2x16x128.size a ≤ S112x2x16x128.size a := fun v9004 k0_hw499 => k0_hw499

def k0_off529 (v9008 : BitVec 32) : Fin 4 → Nat :=
  let v9009 : Index := Scalar.indexCast v9008
  let c0_6545 : Index := 0#32
  let c0_6546 : Index := 0#32
  let c0_6547 : Index := 0#32
  ![v9009.toNat, 0, 0, 0]

def k0_chk500 (v9008 : BitVec 32) : Prop :=
  (∀ a, (k0_off529 v9008) a + S1x2x16x128.size a ≤ S112x2x16x128.size a)
theorem k0_off529_inb : ∀ (v9008 : BitVec 32) (k0_hw500 : k0_chk500 v9008), ∀ a, (k0_off529 v9008) a + S1x2x16x128.size a ≤ S112x2x16x128.size a := fun v9008 k0_hw500 => k0_hw500

def k0_off530 (v9012 : BitVec 32) : Fin 4 → Nat :=
  let v9013 : Index := Scalar.indexCast v9012
  let c0_6549 : Index := 0#32
  let c0_6550 : Index := 0#32
  let c0_6551 : Index := 0#32
  ![v9013.toNat, 0, 0, 0]

def k0_chk501 (v9012 : BitVec 32) : Prop :=
  (∀ a, (k0_off530 v9012) a + S1x2x16x128.size a ≤ S112x2x16x128.size a)
theorem k0_off530_inb : ∀ (v9012 : BitVec 32) (k0_hw501 : k0_chk501 v9012), ∀ a, (k0_off530 v9012) a + S1x2x16x128.size a ≤ S112x2x16x128.size a := fun v9012 k0_hw501 => k0_hw501

def k0_off531 (v9016 : BitVec 32) : Fin 4 → Nat :=
  let v9017 : Index := Scalar.indexCast v9016
  let c0_6553 : Index := 0#32
  let c0_6554 : Index := 0#32
  let c0_6555 : Index := 0#32
  ![v9017.toNat, 0, 0, 0]

def k0_chk502 (v9016 : BitVec 32) : Prop :=
  (∀ a, (k0_off531 v9016) a + S1x2x16x128.size a ≤ S112x2x16x128.size a)
theorem k0_off531_inb : ∀ (v9016 : BitVec 32) (k0_hw502 : k0_chk502 v9016), ∀ a, (k0_off531 v9016) a + S1x2x16x128.size a ≤ S112x2x16x128.size a := fun v9016 k0_hw502 => k0_hw502

def k0_off532 (v9020 : BitVec 32) : Fin 4 → Nat :=
  let v9021 : Index := Scalar.indexCast v9020
  let c0_6557 : Index := 0#32
  let c0_6558 : Index := 0#32
  let c0_6559 : Index := 0#32
  ![v9021.toNat, 0, 0, 0]

def k0_chk503 (v9020 : BitVec 32) : Prop :=
  (∀ a, (k0_off532 v9020) a + S1x2x16x128.size a ≤ S112x2x16x128.size a)
theorem k0_off532_inb : ∀ (v9020 : BitVec 32) (k0_hw503 : k0_chk503 v9020), ∀ a, (k0_off532 v9020) a + S1x2x16x128.size a ≤ S112x2x16x128.size a := fun v9020 k0_hw503 => k0_hw503

def k0_off533 (v9024 : BitVec 32) : Fin 4 → Nat :=
  let v9025 : Index := Scalar.indexCast v9024
  let c0_6561 : Index := 0#32
  let c0_6562 : Index := 0#32
  let c0_6563 : Index := 0#32
  ![v9025.toNat, 0, 0, 0]

def k0_chk504 (v9024 : BitVec 32) : Prop :=
  (∀ a, (k0_off533 v9024) a + S1x2x16x128.size a ≤ S112x2x16x128.size a)
theorem k0_off533_inb : ∀ (v9024 : BitVec 32) (k0_hw504 : k0_chk504 v9024), ∀ a, (k0_off533 v9024) a + S1x2x16x128.size a ≤ S112x2x16x128.size a := fun v9024 k0_hw504 => k0_hw504

def k0_off534 (v9051 : BitVec 32) : Fin 4 → Nat :=
  let v9052 : Index := Scalar.indexCast v9051
  let c0_6577 : Index := 0#32
  let c0_6578 : Index := 0#32
  let c0_6579 : Index := 0#32
  ![v9052.toNat, 0, 0, 0]

def k0_chk505 (v9051 : BitVec 32) : Prop :=
  (∀ a, (k0_off534 v9051) a + S1x2x16x128.size a ≤ S112x2x16x128.size a)
theorem k0_off534_inb : ∀ (v9051 : BitVec 32) (k0_hw505 : k0_chk505 v9051), ∀ a, (k0_off534 v9051) a + S1x2x16x128.size a ≤ S112x2x16x128.size a := fun v9051 k0_hw505 => k0_hw505

def k0_off535 (v9055 : BitVec 32) : Fin 4 → Nat :=
  let v9056 : Index := Scalar.indexCast v9055
  let c0_6581 : Index := 0#32
  let c0_6582 : Index := 0#32
  let c0_6583 : Index := 0#32
  ![v9056.toNat, 0, 0, 0]

def k0_chk506 (v9055 : BitVec 32) : Prop :=
  (∀ a, (k0_off535 v9055) a + S1x2x16x128.size a ≤ S112x2x16x128.size a)
theorem k0_off535_inb : ∀ (v9055 : BitVec 32) (k0_hw506 : k0_chk506 v9055), ∀ a, (k0_off535 v9055) a + S1x2x16x128.size a ≤ S112x2x16x128.size a := fun v9055 k0_hw506 => k0_hw506

def k0_off536 (v9059 : BitVec 32) : Fin 4 → Nat :=
  let v9060 : Index := Scalar.indexCast v9059
  let c0_6585 : Index := 0#32
  let c0_6586 : Index := 0#32
  let c0_6587 : Index := 0#32
  ![v9060.toNat, 0, 0, 0]

def k0_chk507 (v9059 : BitVec 32) : Prop :=
  (∀ a, (k0_off536 v9059) a + S1x2x16x128.size a ≤ S112x2x16x128.size a)
theorem k0_off536_inb : ∀ (v9059 : BitVec 32) (k0_hw507 : k0_chk507 v9059), ∀ a, (k0_off536 v9059) a + S1x2x16x128.size a ≤ S112x2x16x128.size a := fun v9059 k0_hw507 => k0_hw507

def k0_off537 (v9063 : BitVec 32) : Fin 4 → Nat :=
  let v9064 : Index := Scalar.indexCast v9063
  let c0_6589 : Index := 0#32
  let c0_6590 : Index := 0#32
  let c0_6591 : Index := 0#32
  ![v9064.toNat, 0, 0, 0]

def k0_chk508 (v9063 : BitVec 32) : Prop :=
  (∀ a, (k0_off537 v9063) a + S1x2x16x128.size a ≤ S112x2x16x128.size a)
theorem k0_off537_inb : ∀ (v9063 : BitVec 32) (k0_hw508 : k0_chk508 v9063), ∀ a, (k0_off537 v9063) a + S1x2x16x128.size a ≤ S112x2x16x128.size a := fun v9063 k0_hw508 => k0_hw508

def k0_off538 (v9067 : BitVec 32) : Fin 4 → Nat :=
  let v9068 : Index := Scalar.indexCast v9067
  let c0_6593 : Index := 0#32
  let c0_6594 : Index := 0#32
  let c0_6595 : Index := 0#32
  ![v9068.toNat, 0, 0, 0]

def k0_chk509 (v9067 : BitVec 32) : Prop :=
  (∀ a, (k0_off538 v9067) a + S1x2x16x128.size a ≤ S112x2x16x128.size a)
theorem k0_off538_inb : ∀ (v9067 : BitVec 32) (k0_hw509 : k0_chk509 v9067), ∀ a, (k0_off538 v9067) a + S1x2x16x128.size a ≤ S112x2x16x128.size a := fun v9067 k0_hw509 => k0_hw509

def k0_off539 (v9071 : BitVec 32) : Fin 4 → Nat :=
  let v9072 : Index := Scalar.indexCast v9071
  let c0_6597 : Index := 0#32
  let c0_6598 : Index := 0#32
  let c0_6599 : Index := 0#32
  ![v9072.toNat, 0, 0, 0]

def k0_chk510 (v9071 : BitVec 32) : Prop :=
  (∀ a, (k0_off539 v9071) a + S1x2x16x128.size a ≤ S112x2x16x128.size a)
theorem k0_off539_inb : ∀ (v9071 : BitVec 32) (k0_hw510 : k0_chk510 v9071), ∀ a, (k0_off539 v9071) a + S1x2x16x128.size a ≤ S112x2x16x128.size a := fun v9071 k0_hw510 => k0_hw510

def k0_off540 (v9075 : BitVec 32) : Fin 4 → Nat :=
  let v9076 : Index := Scalar.indexCast v9075
  let c0_6601 : Index := 0#32
  let c0_6602 : Index := 0#32
  let c0_6603 : Index := 0#32
  ![v9076.toNat, 0, 0, 0]

def k0_chk511 (v9075 : BitVec 32) : Prop :=
  (∀ a, (k0_off540 v9075) a + S1x2x16x128.size a ≤ S112x2x16x128.size a)
theorem k0_off540_inb : ∀ (v9075 : BitVec 32) (k0_hw511 : k0_chk511 v9075), ∀ a, (k0_off540 v9075) a + S1x2x16x128.size a ≤ S112x2x16x128.size a := fun v9075 k0_hw511 => k0_hw511

def k0_off541 (v9102 : BitVec 32) : Fin 4 → Nat :=
  let v9103 : Index := Scalar.indexCast v9102
  let c0_6617 : Index := 0#32
  let c0_6618 : Index := 0#32
  let c0_6619 : Index := 0#32
  ![v9103.toNat, 0, 0, 0]

def k0_chk512 (v9102 : BitVec 32) : Prop :=
  (∀ a, (k0_off541 v9102) a + S1x2x16x128.size a ≤ S112x2x16x128.size a)
theorem k0_off541_inb : ∀ (v9102 : BitVec 32) (k0_hw512 : k0_chk512 v9102), ∀ a, (k0_off541 v9102) a + S1x2x16x128.size a ≤ S112x2x16x128.size a := fun v9102 k0_hw512 => k0_hw512

def k0_off542 (v9106 : BitVec 32) : Fin 4 → Nat :=
  let v9107 : Index := Scalar.indexCast v9106
  let c0_6621 : Index := 0#32
  let c0_6622 : Index := 0#32
  let c0_6623 : Index := 0#32
  ![v9107.toNat, 0, 0, 0]

def k0_chk513 (v9106 : BitVec 32) : Prop :=
  (∀ a, (k0_off542 v9106) a + S1x2x16x128.size a ≤ S112x2x16x128.size a)
theorem k0_off542_inb : ∀ (v9106 : BitVec 32) (k0_hw513 : k0_chk513 v9106), ∀ a, (k0_off542 v9106) a + S1x2x16x128.size a ≤ S112x2x16x128.size a := fun v9106 k0_hw513 => k0_hw513

def k0_off543 (v9110 : BitVec 32) : Fin 4 → Nat :=
  let v9111 : Index := Scalar.indexCast v9110
  let c0_6625 : Index := 0#32
  let c0_6626 : Index := 0#32
  let c0_6627 : Index := 0#32
  ![v9111.toNat, 0, 0, 0]

def k0_chk514 (v9110 : BitVec 32) : Prop :=
  (∀ a, (k0_off543 v9110) a + S1x2x16x128.size a ≤ S112x2x16x128.size a)
theorem k0_off543_inb : ∀ (v9110 : BitVec 32) (k0_hw514 : k0_chk514 v9110), ∀ a, (k0_off543 v9110) a + S1x2x16x128.size a ≤ S112x2x16x128.size a := fun v9110 k0_hw514 => k0_hw514

def k0_off544 (v9114 : BitVec 32) : Fin 4 → Nat :=
  let v9115 : Index := Scalar.indexCast v9114
  let c0_6629 : Index := 0#32
  let c0_6630 : Index := 0#32
  let c0_6631 : Index := 0#32
  ![v9115.toNat, 0, 0, 0]

def k0_chk515 (v9114 : BitVec 32) : Prop :=
  (∀ a, (k0_off544 v9114) a + S1x2x16x128.size a ≤ S112x2x16x128.size a)
theorem k0_off544_inb : ∀ (v9114 : BitVec 32) (k0_hw515 : k0_chk515 v9114), ∀ a, (k0_off544 v9114) a + S1x2x16x128.size a ≤ S112x2x16x128.size a := fun v9114 k0_hw515 => k0_hw515

def k0_off545 (v9118 : BitVec 32) : Fin 4 → Nat :=
  let v9119 : Index := Scalar.indexCast v9118
  let c0_6633 : Index := 0#32
  let c0_6634 : Index := 0#32
  let c0_6635 : Index := 0#32
  ![v9119.toNat, 0, 0, 0]

def k0_chk516 (v9118 : BitVec 32) : Prop :=
  (∀ a, (k0_off545 v9118) a + S1x2x16x128.size a ≤ S112x2x16x128.size a)
theorem k0_off545_inb : ∀ (v9118 : BitVec 32) (k0_hw516 : k0_chk516 v9118), ∀ a, (k0_off545 v9118) a + S1x2x16x128.size a ≤ S112x2x16x128.size a := fun v9118 k0_hw516 => k0_hw516

def k0_off546 (v9122 : BitVec 32) : Fin 4 → Nat :=
  let v9123 : Index := Scalar.indexCast v9122
  let c0_6637 : Index := 0#32
  let c0_6638 : Index := 0#32
  let c0_6639 : Index := 0#32
  ![v9123.toNat, 0, 0, 0]

def k0_chk517 (v9122 : BitVec 32) : Prop :=
  (∀ a, (k0_off546 v9122) a + S1x2x16x128.size a ≤ S112x2x16x128.size a)
theorem k0_off546_inb : ∀ (v9122 : BitVec 32) (k0_hw517 : k0_chk517 v9122), ∀ a, (k0_off546 v9122) a + S1x2x16x128.size a ≤ S112x2x16x128.size a := fun v9122 k0_hw517 => k0_hw517

def k0_off547 (v9126 : BitVec 32) : Fin 4 → Nat :=
  let v9127 : Index := Scalar.indexCast v9126
  let c0_6641 : Index := 0#32
  let c0_6642 : Index := 0#32
  let c0_6643 : Index := 0#32
  ![v9127.toNat, 0, 0, 0]

def k0_chk518 (v9126 : BitVec 32) : Prop :=
  (∀ a, (k0_off547 v9126) a + S1x2x16x128.size a ≤ S112x2x16x128.size a)
theorem k0_off547_inb : ∀ (v9126 : BitVec 32) (k0_hw518 : k0_chk518 v9126), ∀ a, (k0_off547 v9126) a + S1x2x16x128.size a ≤ S112x2x16x128.size a := fun v9126 k0_hw518 => k0_hw518

def k0_off548 (v9153 : BitVec 32) : Fin 4 → Nat :=
  let v9154 : Index := Scalar.indexCast v9153
  let c0_6657 : Index := 0#32
  let c0_6658 : Index := 0#32
  let c0_6659 : Index := 0#32
  ![v9154.toNat, 0, 0, 0]

def k0_chk519 (v9153 : BitVec 32) : Prop :=
  (∀ a, (k0_off548 v9153) a + S1x2x16x128.size a ≤ S112x2x16x128.size a)
theorem k0_off548_inb : ∀ (v9153 : BitVec 32) (k0_hw519 : k0_chk519 v9153), ∀ a, (k0_off548 v9153) a + S1x2x16x128.size a ≤ S112x2x16x128.size a := fun v9153 k0_hw519 => k0_hw519

def k0_off549 (v9157 : BitVec 32) : Fin 4 → Nat :=
  let v9158 : Index := Scalar.indexCast v9157
  let c0_6661 : Index := 0#32
  let c0_6662 : Index := 0#32
  let c0_6663 : Index := 0#32
  ![v9158.toNat, 0, 0, 0]

def k0_chk520 (v9157 : BitVec 32) : Prop :=
  (∀ a, (k0_off549 v9157) a + S1x2x16x128.size a ≤ S112x2x16x128.size a)
theorem k0_off549_inb : ∀ (v9157 : BitVec 32) (k0_hw520 : k0_chk520 v9157), ∀ a, (k0_off549 v9157) a + S1x2x16x128.size a ≤ S112x2x16x128.size a := fun v9157 k0_hw520 => k0_hw520

def k0_off550 (v9161 : BitVec 32) : Fin 4 → Nat :=
  let v9162 : Index := Scalar.indexCast v9161
  let c0_6665 : Index := 0#32
  let c0_6666 : Index := 0#32
  let c0_6667 : Index := 0#32
  ![v9162.toNat, 0, 0, 0]

def k0_chk521 (v9161 : BitVec 32) : Prop :=
  (∀ a, (k0_off550 v9161) a + S1x2x16x128.size a ≤ S112x2x16x128.size a)
theorem k0_off550_inb : ∀ (v9161 : BitVec 32) (k0_hw521 : k0_chk521 v9161), ∀ a, (k0_off550 v9161) a + S1x2x16x128.size a ≤ S112x2x16x128.size a := fun v9161 k0_hw521 => k0_hw521

def k0_off551 (v9165 : BitVec 32) : Fin 4 → Nat :=
  let v9166 : Index := Scalar.indexCast v9165
  let c0_6669 : Index := 0#32
  let c0_6670 : Index := 0#32
  let c0_6671 : Index := 0#32
  ![v9166.toNat, 0, 0, 0]

def k0_chk522 (v9165 : BitVec 32) : Prop :=
  (∀ a, (k0_off551 v9165) a + S1x2x16x128.size a ≤ S112x2x16x128.size a)
theorem k0_off551_inb : ∀ (v9165 : BitVec 32) (k0_hw522 : k0_chk522 v9165), ∀ a, (k0_off551 v9165) a + S1x2x16x128.size a ≤ S112x2x16x128.size a := fun v9165 k0_hw522 => k0_hw522

def k0_off552 (v9169 : BitVec 32) : Fin 4 → Nat :=
  let v9170 : Index := Scalar.indexCast v9169
  let c0_6673 : Index := 0#32
  let c0_6674 : Index := 0#32
  let c0_6675 : Index := 0#32
  ![v9170.toNat, 0, 0, 0]

def k0_chk523 (v9169 : BitVec 32) : Prop :=
  (∀ a, (k0_off552 v9169) a + S1x2x16x128.size a ≤ S112x2x16x128.size a)
theorem k0_off552_inb : ∀ (v9169 : BitVec 32) (k0_hw523 : k0_chk523 v9169), ∀ a, (k0_off552 v9169) a + S1x2x16x128.size a ≤ S112x2x16x128.size a := fun v9169 k0_hw523 => k0_hw523

def k0_off553 (v9173 : BitVec 32) : Fin 4 → Nat :=
  let v9174 : Index := Scalar.indexCast v9173
  let c0_6677 : Index := 0#32
  let c0_6678 : Index := 0#32
  let c0_6679 : Index := 0#32
  ![v9174.toNat, 0, 0, 0]

def k0_chk524 (v9173 : BitVec 32) : Prop :=
  (∀ a, (k0_off553 v9173) a + S1x2x16x128.size a ≤ S112x2x16x128.size a)
theorem k0_off553_inb : ∀ (v9173 : BitVec 32) (k0_hw524 : k0_chk524 v9173), ∀ a, (k0_off553 v9173) a + S1x2x16x128.size a ≤ S112x2x16x128.size a := fun v9173 k0_hw524 => k0_hw524

def k0_off554 (v9177 : BitVec 32) : Fin 4 → Nat :=
  let v9178 : Index := Scalar.indexCast v9177
  let c0_6681 : Index := 0#32
  let c0_6682 : Index := 0#32
  let c0_6683 : Index := 0#32
  ![v9178.toNat, 0, 0, 0]

def k0_chk525 (v9177 : BitVec 32) : Prop :=
  (∀ a, (k0_off554 v9177) a + S1x2x16x128.size a ≤ S112x2x16x128.size a)
theorem k0_off554_inb : ∀ (v9177 : BitVec 32) (k0_hw525 : k0_chk525 v9177), ∀ a, (k0_off554 v9177) a + S1x2x16x128.size a ≤ S112x2x16x128.size a := fun v9177 k0_hw525 => k0_hw525

def k0_off555 (v9204 : BitVec 32) : Fin 4 → Nat :=
  let v9205 : Index := Scalar.indexCast v9204
  let c0_6697 : Index := 0#32
  let c0_6698 : Index := 0#32
  let c0_6699 : Index := 0#32
  ![v9205.toNat, 0, 0, 0]

def k0_chk526 (v9204 : BitVec 32) : Prop :=
  (∀ a, (k0_off555 v9204) a + S1x2x16x128.size a ≤ S112x2x16x128.size a)
theorem k0_off555_inb : ∀ (v9204 : BitVec 32) (k0_hw526 : k0_chk526 v9204), ∀ a, (k0_off555 v9204) a + S1x2x16x128.size a ≤ S112x2x16x128.size a := fun v9204 k0_hw526 => k0_hw526

def k0_off556 (v9208 : BitVec 32) : Fin 4 → Nat :=
  let v9209 : Index := Scalar.indexCast v9208
  let c0_6701 : Index := 0#32
  let c0_6702 : Index := 0#32
  let c0_6703 : Index := 0#32
  ![v9209.toNat, 0, 0, 0]

def k0_chk527 (v9208 : BitVec 32) : Prop :=
  (∀ a, (k0_off556 v9208) a + S1x2x16x128.size a ≤ S112x2x16x128.size a)
theorem k0_off556_inb : ∀ (v9208 : BitVec 32) (k0_hw527 : k0_chk527 v9208), ∀ a, (k0_off556 v9208) a + S1x2x16x128.size a ≤ S112x2x16x128.size a := fun v9208 k0_hw527 => k0_hw527

def k0_off557 (v9212 : BitVec 32) : Fin 4 → Nat :=
  let v9213 : Index := Scalar.indexCast v9212
  let c0_6705 : Index := 0#32
  let c0_6706 : Index := 0#32
  let c0_6707 : Index := 0#32
  ![v9213.toNat, 0, 0, 0]

def k0_chk528 (v9212 : BitVec 32) : Prop :=
  (∀ a, (k0_off557 v9212) a + S1x2x16x128.size a ≤ S112x2x16x128.size a)
theorem k0_off557_inb : ∀ (v9212 : BitVec 32) (k0_hw528 : k0_chk528 v9212), ∀ a, (k0_off557 v9212) a + S1x2x16x128.size a ≤ S112x2x16x128.size a := fun v9212 k0_hw528 => k0_hw528

def k0_off558 (v9216 : BitVec 32) : Fin 4 → Nat :=
  let v9217 : Index := Scalar.indexCast v9216
  let c0_6709 : Index := 0#32
  let c0_6710 : Index := 0#32
  let c0_6711 : Index := 0#32
  ![v9217.toNat, 0, 0, 0]

def k0_chk529 (v9216 : BitVec 32) : Prop :=
  (∀ a, (k0_off558 v9216) a + S1x2x16x128.size a ≤ S112x2x16x128.size a)
theorem k0_off558_inb : ∀ (v9216 : BitVec 32) (k0_hw529 : k0_chk529 v9216), ∀ a, (k0_off558 v9216) a + S1x2x16x128.size a ≤ S112x2x16x128.size a := fun v9216 k0_hw529 => k0_hw529

def k0_off559 (v9220 : BitVec 32) : Fin 4 → Nat :=
  let v9221 : Index := Scalar.indexCast v9220
  let c0_6713 : Index := 0#32
  let c0_6714 : Index := 0#32
  let c0_6715 : Index := 0#32
  ![v9221.toNat, 0, 0, 0]

def k0_chk530 (v9220 : BitVec 32) : Prop :=
  (∀ a, (k0_off559 v9220) a + S1x2x16x128.size a ≤ S112x2x16x128.size a)
theorem k0_off559_inb : ∀ (v9220 : BitVec 32) (k0_hw530 : k0_chk530 v9220), ∀ a, (k0_off559 v9220) a + S1x2x16x128.size a ≤ S112x2x16x128.size a := fun v9220 k0_hw530 => k0_hw530

def k0_off560 (v9224 : BitVec 32) : Fin 4 → Nat :=
  let v9225 : Index := Scalar.indexCast v9224
  let c0_6717 : Index := 0#32
  let c0_6718 : Index := 0#32
  let c0_6719 : Index := 0#32
  ![v9225.toNat, 0, 0, 0]

def k0_chk531 (v9224 : BitVec 32) : Prop :=
  (∀ a, (k0_off560 v9224) a + S1x2x16x128.size a ≤ S112x2x16x128.size a)
theorem k0_off560_inb : ∀ (v9224 : BitVec 32) (k0_hw531 : k0_chk531 v9224), ∀ a, (k0_off560 v9224) a + S1x2x16x128.size a ≤ S112x2x16x128.size a := fun v9224 k0_hw531 => k0_hw531

def k0_off561 (v9228 : BitVec 32) : Fin 4 → Nat :=
  let v9229 : Index := Scalar.indexCast v9228
  let c0_6721 : Index := 0#32
  let c0_6722 : Index := 0#32
  let c0_6723 : Index := 0#32
  ![v9229.toNat, 0, 0, 0]

def k0_chk532 (v9228 : BitVec 32) : Prop :=
  (∀ a, (k0_off561 v9228) a + S1x2x16x128.size a ≤ S112x2x16x128.size a)
theorem k0_off561_inb : ∀ (v9228 : BitVec 32) (k0_hw532 : k0_chk532 v9228), ∀ a, (k0_off561 v9228) a + S1x2x16x128.size a ≤ S112x2x16x128.size a := fun v9228 k0_hw532 => k0_hw532

def k0_off562 (v9255 : BitVec 32) : Fin 4 → Nat :=
  let v9256 : Index := Scalar.indexCast v9255
  let c0_6737 : Index := 0#32
  let c0_6738 : Index := 0#32
  let c0_6739 : Index := 0#32
  ![v9256.toNat, 0, 0, 0]

def k0_chk533 (v9255 : BitVec 32) : Prop :=
  (∀ a, (k0_off562 v9255) a + S1x2x16x128.size a ≤ S112x2x16x128.size a)
theorem k0_off562_inb : ∀ (v9255 : BitVec 32) (k0_hw533 : k0_chk533 v9255), ∀ a, (k0_off562 v9255) a + S1x2x16x128.size a ≤ S112x2x16x128.size a := fun v9255 k0_hw533 => k0_hw533

def k0_off563 (v9259 : BitVec 32) : Fin 4 → Nat :=
  let v9260 : Index := Scalar.indexCast v9259
  let c0_6741 : Index := 0#32
  let c0_6742 : Index := 0#32
  let c0_6743 : Index := 0#32
  ![v9260.toNat, 0, 0, 0]

def k0_chk534 (v9259 : BitVec 32) : Prop :=
  (∀ a, (k0_off563 v9259) a + S1x2x16x128.size a ≤ S112x2x16x128.size a)
theorem k0_off563_inb : ∀ (v9259 : BitVec 32) (k0_hw534 : k0_chk534 v9259), ∀ a, (k0_off563 v9259) a + S1x2x16x128.size a ≤ S112x2x16x128.size a := fun v9259 k0_hw534 => k0_hw534

def k0_off564 (v9263 : BitVec 32) : Fin 4 → Nat :=
  let v9264 : Index := Scalar.indexCast v9263
  let c0_6745 : Index := 0#32
  let c0_6746 : Index := 0#32
  let c0_6747 : Index := 0#32
  ![v9264.toNat, 0, 0, 0]

def k0_chk535 (v9263 : BitVec 32) : Prop :=
  (∀ a, (k0_off564 v9263) a + S1x2x16x128.size a ≤ S112x2x16x128.size a)
theorem k0_off564_inb : ∀ (v9263 : BitVec 32) (k0_hw535 : k0_chk535 v9263), ∀ a, (k0_off564 v9263) a + S1x2x16x128.size a ≤ S112x2x16x128.size a := fun v9263 k0_hw535 => k0_hw535

def k0_off565 (v9267 : BitVec 32) : Fin 4 → Nat :=
  let v9268 : Index := Scalar.indexCast v9267
  let c0_6749 : Index := 0#32
  let c0_6750 : Index := 0#32
  let c0_6751 : Index := 0#32
  ![v9268.toNat, 0, 0, 0]

def k0_chk536 (v9267 : BitVec 32) : Prop :=
  (∀ a, (k0_off565 v9267) a + S1x2x16x128.size a ≤ S112x2x16x128.size a)
theorem k0_off565_inb : ∀ (v9267 : BitVec 32) (k0_hw536 : k0_chk536 v9267), ∀ a, (k0_off565 v9267) a + S1x2x16x128.size a ≤ S112x2x16x128.size a := fun v9267 k0_hw536 => k0_hw536

def k0_off566 (v9271 : BitVec 32) : Fin 4 → Nat :=
  let v9272 : Index := Scalar.indexCast v9271
  let c0_6753 : Index := 0#32
  let c0_6754 : Index := 0#32
  let c0_6755 : Index := 0#32
  ![v9272.toNat, 0, 0, 0]

def k0_chk537 (v9271 : BitVec 32) : Prop :=
  (∀ a, (k0_off566 v9271) a + S1x2x16x128.size a ≤ S112x2x16x128.size a)
theorem k0_off566_inb : ∀ (v9271 : BitVec 32) (k0_hw537 : k0_chk537 v9271), ∀ a, (k0_off566 v9271) a + S1x2x16x128.size a ≤ S112x2x16x128.size a := fun v9271 k0_hw537 => k0_hw537

def k0_off567 (v9275 : BitVec 32) : Fin 4 → Nat :=
  let v9276 : Index := Scalar.indexCast v9275
  let c0_6757 : Index := 0#32
  let c0_6758 : Index := 0#32
  let c0_6759 : Index := 0#32
  ![v9276.toNat, 0, 0, 0]

def k0_chk538 (v9275 : BitVec 32) : Prop :=
  (∀ a, (k0_off567 v9275) a + S1x2x16x128.size a ≤ S112x2x16x128.size a)
theorem k0_off567_inb : ∀ (v9275 : BitVec 32) (k0_hw538 : k0_chk538 v9275), ∀ a, (k0_off567 v9275) a + S1x2x16x128.size a ≤ S112x2x16x128.size a := fun v9275 k0_hw538 => k0_hw538

def k0_off568 (v9279 : BitVec 32) : Fin 4 → Nat :=
  let v9280 : Index := Scalar.indexCast v9279
  let c0_6761 : Index := 0#32
  let c0_6762 : Index := 0#32
  let c0_6763 : Index := 0#32
  ![v9280.toNat, 0, 0, 0]

def k0_chk539 (v9279 : BitVec 32) : Prop :=
  (∀ a, (k0_off568 v9279) a + S1x2x16x128.size a ≤ S112x2x16x128.size a)
theorem k0_off568_inb : ∀ (v9279 : BitVec 32) (k0_hw539 : k0_chk539 v9279), ∀ a, (k0_off568 v9279) a + S1x2x16x128.size a ≤ S112x2x16x128.size a := fun v9279 k0_hw539 => k0_hw539

def k0_off569 (v9306 : BitVec 32) : Fin 4 → Nat :=
  let v9307 : Index := Scalar.indexCast v9306
  let c0_6777 : Index := 0#32
  let c0_6778 : Index := 0#32
  let c0_6779 : Index := 0#32
  ![v9307.toNat, 0, 0, 0]

def k0_chk540 (v9306 : BitVec 32) : Prop :=
  (∀ a, (k0_off569 v9306) a + S1x2x16x128.size a ≤ S112x2x16x128.size a)
theorem k0_off569_inb : ∀ (v9306 : BitVec 32) (k0_hw540 : k0_chk540 v9306), ∀ a, (k0_off569 v9306) a + S1x2x16x128.size a ≤ S112x2x16x128.size a := fun v9306 k0_hw540 => k0_hw540

def k0_off570 (v9310 : BitVec 32) : Fin 4 → Nat :=
  let v9311 : Index := Scalar.indexCast v9310
  let c0_6781 : Index := 0#32
  let c0_6782 : Index := 0#32
  let c0_6783 : Index := 0#32
  ![v9311.toNat, 0, 0, 0]

def k0_chk541 (v9310 : BitVec 32) : Prop :=
  (∀ a, (k0_off570 v9310) a + S1x2x16x128.size a ≤ S112x2x16x128.size a)
theorem k0_off570_inb : ∀ (v9310 : BitVec 32) (k0_hw541 : k0_chk541 v9310), ∀ a, (k0_off570 v9310) a + S1x2x16x128.size a ≤ S112x2x16x128.size a := fun v9310 k0_hw541 => k0_hw541

def k0_off571 (v9314 : BitVec 32) : Fin 4 → Nat :=
  let v9315 : Index := Scalar.indexCast v9314
  let c0_6785 : Index := 0#32
  let c0_6786 : Index := 0#32
  let c0_6787 : Index := 0#32
  ![v9315.toNat, 0, 0, 0]

def k0_chk542 (v9314 : BitVec 32) : Prop :=
  (∀ a, (k0_off571 v9314) a + S1x2x16x128.size a ≤ S112x2x16x128.size a)
theorem k0_off571_inb : ∀ (v9314 : BitVec 32) (k0_hw542 : k0_chk542 v9314), ∀ a, (k0_off571 v9314) a + S1x2x16x128.size a ≤ S112x2x16x128.size a := fun v9314 k0_hw542 => k0_hw542

def k0_off572 (v9318 : BitVec 32) : Fin 4 → Nat :=
  let v9319 : Index := Scalar.indexCast v9318
  let c0_6789 : Index := 0#32
  let c0_6790 : Index := 0#32
  let c0_6791 : Index := 0#32
  ![v9319.toNat, 0, 0, 0]

def k0_chk543 (v9318 : BitVec 32) : Prop :=
  (∀ a, (k0_off572 v9318) a + S1x2x16x128.size a ≤ S112x2x16x128.size a)
theorem k0_off572_inb : ∀ (v9318 : BitVec 32) (k0_hw543 : k0_chk543 v9318), ∀ a, (k0_off572 v9318) a + S1x2x16x128.size a ≤ S112x2x16x128.size a := fun v9318 k0_hw543 => k0_hw543

def k0_off573 (v9322 : BitVec 32) : Fin 4 → Nat :=
  let v9323 : Index := Scalar.indexCast v9322
  let c0_6793 : Index := 0#32
  let c0_6794 : Index := 0#32
  let c0_6795 : Index := 0#32
  ![v9323.toNat, 0, 0, 0]

def k0_chk544 (v9322 : BitVec 32) : Prop :=
  (∀ a, (k0_off573 v9322) a + S1x2x16x128.size a ≤ S112x2x16x128.size a)
theorem k0_off573_inb : ∀ (v9322 : BitVec 32) (k0_hw544 : k0_chk544 v9322), ∀ a, (k0_off573 v9322) a + S1x2x16x128.size a ≤ S112x2x16x128.size a := fun v9322 k0_hw544 => k0_hw544

def k0_off574 (v9326 : BitVec 32) : Fin 4 → Nat :=
  let v9327 : Index := Scalar.indexCast v9326
  let c0_6797 : Index := 0#32
  let c0_6798 : Index := 0#32
  let c0_6799 : Index := 0#32
  ![v9327.toNat, 0, 0, 0]

def k0_chk545 (v9326 : BitVec 32) : Prop :=
  (∀ a, (k0_off574 v9326) a + S1x2x16x128.size a ≤ S112x2x16x128.size a)
theorem k0_off574_inb : ∀ (v9326 : BitVec 32) (k0_hw545 : k0_chk545 v9326), ∀ a, (k0_off574 v9326) a + S1x2x16x128.size a ≤ S112x2x16x128.size a := fun v9326 k0_hw545 => k0_hw545

def k0_off575 (v9330 : BitVec 32) : Fin 4 → Nat :=
  let v9331 : Index := Scalar.indexCast v9330
  let c0_6801 : Index := 0#32
  let c0_6802 : Index := 0#32
  let c0_6803 : Index := 0#32
  ![v9331.toNat, 0, 0, 0]

def k0_chk546 (v9330 : BitVec 32) : Prop :=
  (∀ a, (k0_off575 v9330) a + S1x2x16x128.size a ≤ S112x2x16x128.size a)
theorem k0_off575_inb : ∀ (v9330 : BitVec 32) (k0_hw546 : k0_chk546 v9330), ∀ a, (k0_off575 v9330) a + S1x2x16x128.size a ≤ S112x2x16x128.size a := fun v9330 k0_hw546 => k0_hw546

def k0_off576 (v9357 : BitVec 32) : Fin 4 → Nat :=
  let v9358 : Index := Scalar.indexCast v9357
  let c0_6817 : Index := 0#32
  let c0_6818 : Index := 0#32
  let c0_6819 : Index := 0#32
  ![v9358.toNat, 0, 0, 0]

def k0_chk547 (v9357 : BitVec 32) : Prop :=
  (∀ a, (k0_off576 v9357) a + S1x2x16x128.size a ≤ S112x2x16x128.size a)
theorem k0_off576_inb : ∀ (v9357 : BitVec 32) (k0_hw547 : k0_chk547 v9357), ∀ a, (k0_off576 v9357) a + S1x2x16x128.size a ≤ S112x2x16x128.size a := fun v9357 k0_hw547 => k0_hw547

def k0_off577 (v9361 : BitVec 32) : Fin 4 → Nat :=
  let v9362 : Index := Scalar.indexCast v9361
  let c0_6821 : Index := 0#32
  let c0_6822 : Index := 0#32
  let c0_6823 : Index := 0#32
  ![v9362.toNat, 0, 0, 0]

def k0_chk548 (v9361 : BitVec 32) : Prop :=
  (∀ a, (k0_off577 v9361) a + S1x2x16x128.size a ≤ S112x2x16x128.size a)
theorem k0_off577_inb : ∀ (v9361 : BitVec 32) (k0_hw548 : k0_chk548 v9361), ∀ a, (k0_off577 v9361) a + S1x2x16x128.size a ≤ S112x2x16x128.size a := fun v9361 k0_hw548 => k0_hw548

def k0_off578 (v9365 : BitVec 32) : Fin 4 → Nat :=
  let v9366 : Index := Scalar.indexCast v9365
  let c0_6825 : Index := 0#32
  let c0_6826 : Index := 0#32
  let c0_6827 : Index := 0#32
  ![v9366.toNat, 0, 0, 0]

def k0_chk549 (v9365 : BitVec 32) : Prop :=
  (∀ a, (k0_off578 v9365) a + S1x2x16x128.size a ≤ S112x2x16x128.size a)
theorem k0_off578_inb : ∀ (v9365 : BitVec 32) (k0_hw549 : k0_chk549 v9365), ∀ a, (k0_off578 v9365) a + S1x2x16x128.size a ≤ S112x2x16x128.size a := fun v9365 k0_hw549 => k0_hw549

def k0_off579 (v9369 : BitVec 32) : Fin 4 → Nat :=
  let v9370 : Index := Scalar.indexCast v9369
  let c0_6829 : Index := 0#32
  let c0_6830 : Index := 0#32
  let c0_6831 : Index := 0#32
  ![v9370.toNat, 0, 0, 0]

def k0_chk550 (v9369 : BitVec 32) : Prop :=
  (∀ a, (k0_off579 v9369) a + S1x2x16x128.size a ≤ S112x2x16x128.size a)
theorem k0_off579_inb : ∀ (v9369 : BitVec 32) (k0_hw550 : k0_chk550 v9369), ∀ a, (k0_off579 v9369) a + S1x2x16x128.size a ≤ S112x2x16x128.size a := fun v9369 k0_hw550 => k0_hw550

def k0_off580 (v9373 : BitVec 32) : Fin 4 → Nat :=
  let v9374 : Index := Scalar.indexCast v9373
  let c0_6833 : Index := 0#32
  let c0_6834 : Index := 0#32
  let c0_6835 : Index := 0#32
  ![v9374.toNat, 0, 0, 0]

def k0_chk551 (v9373 : BitVec 32) : Prop :=
  (∀ a, (k0_off580 v9373) a + S1x2x16x128.size a ≤ S112x2x16x128.size a)
theorem k0_off580_inb : ∀ (v9373 : BitVec 32) (k0_hw551 : k0_chk551 v9373), ∀ a, (k0_off580 v9373) a + S1x2x16x128.size a ≤ S112x2x16x128.size a := fun v9373 k0_hw551 => k0_hw551

def k0_off581 (v9377 : BitVec 32) : Fin 4 → Nat :=
  let v9378 : Index := Scalar.indexCast v9377
  let c0_6837 : Index := 0#32
  let c0_6838 : Index := 0#32
  let c0_6839 : Index := 0#32
  ![v9378.toNat, 0, 0, 0]

def k0_chk552 (v9377 : BitVec 32) : Prop :=
  (∀ a, (k0_off581 v9377) a + S1x2x16x128.size a ≤ S112x2x16x128.size a)
theorem k0_off581_inb : ∀ (v9377 : BitVec 32) (k0_hw552 : k0_chk552 v9377), ∀ a, (k0_off581 v9377) a + S1x2x16x128.size a ≤ S112x2x16x128.size a := fun v9377 k0_hw552 => k0_hw552

def k0_off582 (v9381 : BitVec 32) : Fin 4 → Nat :=
  let v9382 : Index := Scalar.indexCast v9381
  let c0_6841 : Index := 0#32
  let c0_6842 : Index := 0#32
  let c0_6843 : Index := 0#32
  ![v9382.toNat, 0, 0, 0]

def k0_chk553 (v9381 : BitVec 32) : Prop :=
  (∀ a, (k0_off582 v9381) a + S1x2x16x128.size a ≤ S112x2x16x128.size a)
theorem k0_off582_inb : ∀ (v9381 : BitVec 32) (k0_hw553 : k0_chk553 v9381), ∀ a, (k0_off582 v9381) a + S1x2x16x128.size a ≤ S112x2x16x128.size a := fun v9381 k0_hw553 => k0_hw553

def k0_off583 (v9408 : BitVec 32) : Fin 4 → Nat :=
  let v9409 : Index := Scalar.indexCast v9408
  let c0_6857 : Index := 0#32
  let c0_6858 : Index := 0#32
  let c0_6859 : Index := 0#32
  ![v9409.toNat, 0, 0, 0]

def k0_chk554 (v9408 : BitVec 32) : Prop :=
  (∀ a, (k0_off583 v9408) a + S1x2x16x128.size a ≤ S112x2x16x128.size a)
theorem k0_off583_inb : ∀ (v9408 : BitVec 32) (k0_hw554 : k0_chk554 v9408), ∀ a, (k0_off583 v9408) a + S1x2x16x128.size a ≤ S112x2x16x128.size a := fun v9408 k0_hw554 => k0_hw554

def k0_off584 (v9412 : BitVec 32) : Fin 4 → Nat :=
  let v9413 : Index := Scalar.indexCast v9412
  let c0_6861 : Index := 0#32
  let c0_6862 : Index := 0#32
  let c0_6863 : Index := 0#32
  ![v9413.toNat, 0, 0, 0]

def k0_chk555 (v9412 : BitVec 32) : Prop :=
  (∀ a, (k0_off584 v9412) a + S1x2x16x128.size a ≤ S112x2x16x128.size a)
theorem k0_off584_inb : ∀ (v9412 : BitVec 32) (k0_hw555 : k0_chk555 v9412), ∀ a, (k0_off584 v9412) a + S1x2x16x128.size a ≤ S112x2x16x128.size a := fun v9412 k0_hw555 => k0_hw555

def k0_off585 (v9416 : BitVec 32) : Fin 4 → Nat :=
  let v9417 : Index := Scalar.indexCast v9416
  let c0_6865 : Index := 0#32
  let c0_6866 : Index := 0#32
  let c0_6867 : Index := 0#32
  ![v9417.toNat, 0, 0, 0]

def k0_chk556 (v9416 : BitVec 32) : Prop :=
  (∀ a, (k0_off585 v9416) a + S1x2x16x128.size a ≤ S112x2x16x128.size a)
theorem k0_off585_inb : ∀ (v9416 : BitVec 32) (k0_hw556 : k0_chk556 v9416), ∀ a, (k0_off585 v9416) a + S1x2x16x128.size a ≤ S112x2x16x128.size a := fun v9416 k0_hw556 => k0_hw556

def k0_off586 (v9420 : BitVec 32) : Fin 4 → Nat :=
  let v9421 : Index := Scalar.indexCast v9420
  let c0_6869 : Index := 0#32
  let c0_6870 : Index := 0#32
  let c0_6871 : Index := 0#32
  ![v9421.toNat, 0, 0, 0]

def k0_chk557 (v9420 : BitVec 32) : Prop :=
  (∀ a, (k0_off586 v9420) a + S1x2x16x128.size a ≤ S112x2x16x128.size a)
theorem k0_off586_inb : ∀ (v9420 : BitVec 32) (k0_hw557 : k0_chk557 v9420), ∀ a, (k0_off586 v9420) a + S1x2x16x128.size a ≤ S112x2x16x128.size a := fun v9420 k0_hw557 => k0_hw557

def k0_off587 (v9424 : BitVec 32) : Fin 4 → Nat :=
  let v9425 : Index := Scalar.indexCast v9424
  let c0_6873 : Index := 0#32
  let c0_6874 : Index := 0#32
  let c0_6875 : Index := 0#32
  ![v9425.toNat, 0, 0, 0]

def k0_chk558 (v9424 : BitVec 32) : Prop :=
  (∀ a, (k0_off587 v9424) a + S1x2x16x128.size a ≤ S112x2x16x128.size a)
theorem k0_off587_inb : ∀ (v9424 : BitVec 32) (k0_hw558 : k0_chk558 v9424), ∀ a, (k0_off587 v9424) a + S1x2x16x128.size a ≤ S112x2x16x128.size a := fun v9424 k0_hw558 => k0_hw558

def k0_off588 (v9428 : BitVec 32) : Fin 4 → Nat :=
  let v9429 : Index := Scalar.indexCast v9428
  let c0_6877 : Index := 0#32
  let c0_6878 : Index := 0#32
  let c0_6879 : Index := 0#32
  ![v9429.toNat, 0, 0, 0]

def k0_chk559 (v9428 : BitVec 32) : Prop :=
  (∀ a, (k0_off588 v9428) a + S1x2x16x128.size a ≤ S112x2x16x128.size a)
theorem k0_off588_inb : ∀ (v9428 : BitVec 32) (k0_hw559 : k0_chk559 v9428), ∀ a, (k0_off588 v9428) a + S1x2x16x128.size a ≤ S112x2x16x128.size a := fun v9428 k0_hw559 => k0_hw559

def k0_off589 (v9432 : BitVec 32) : Fin 4 → Nat :=
  let v9433 : Index := Scalar.indexCast v9432
  let c0_6881 : Index := 0#32
  let c0_6882 : Index := 0#32
  let c0_6883 : Index := 0#32
  ![v9433.toNat, 0, 0, 0]

def k0_chk560 (v9432 : BitVec 32) : Prop :=
  (∀ a, (k0_off589 v9432) a + S1x2x16x128.size a ≤ S112x2x16x128.size a)
theorem k0_off589_inb : ∀ (v9432 : BitVec 32) (k0_hw560 : k0_chk560 v9432), ∀ a, (k0_off589 v9432) a + S1x2x16x128.size a ≤ S112x2x16x128.size a := fun v9432 k0_hw560 => k0_hw560

def k0_off590 (v9459 : BitVec 32) : Fin 4 → Nat :=
  let v9460 : Index := Scalar.indexCast v9459
  let c0_6897 : Index := 0#32
  let c0_6898 : Index := 0#32
  let c0_6899 : Index := 0#32
  ![v9460.toNat, 0, 0, 0]

def k0_chk561 (v9459 : BitVec 32) : Prop :=
  (∀ a, (k0_off590 v9459) a + S1x2x16x128.size a ≤ S112x2x16x128.size a)
theorem k0_off590_inb : ∀ (v9459 : BitVec 32) (k0_hw561 : k0_chk561 v9459), ∀ a, (k0_off590 v9459) a + S1x2x16x128.size a ≤ S112x2x16x128.size a := fun v9459 k0_hw561 => k0_hw561

def k0_off591 (v9463 : BitVec 32) : Fin 4 → Nat :=
  let v9464 : Index := Scalar.indexCast v9463
  let c0_6901 : Index := 0#32
  let c0_6902 : Index := 0#32
  let c0_6903 : Index := 0#32
  ![v9464.toNat, 0, 0, 0]

def k0_chk562 (v9463 : BitVec 32) : Prop :=
  (∀ a, (k0_off591 v9463) a + S1x2x16x128.size a ≤ S112x2x16x128.size a)
theorem k0_off591_inb : ∀ (v9463 : BitVec 32) (k0_hw562 : k0_chk562 v9463), ∀ a, (k0_off591 v9463) a + S1x2x16x128.size a ≤ S112x2x16x128.size a := fun v9463 k0_hw562 => k0_hw562

def k0_off592 (v9467 : BitVec 32) : Fin 4 → Nat :=
  let v9468 : Index := Scalar.indexCast v9467
  let c0_6905 : Index := 0#32
  let c0_6906 : Index := 0#32
  let c0_6907 : Index := 0#32
  ![v9468.toNat, 0, 0, 0]

def k0_chk563 (v9467 : BitVec 32) : Prop :=
  (∀ a, (k0_off592 v9467) a + S1x2x16x128.size a ≤ S112x2x16x128.size a)
theorem k0_off592_inb : ∀ (v9467 : BitVec 32) (k0_hw563 : k0_chk563 v9467), ∀ a, (k0_off592 v9467) a + S1x2x16x128.size a ≤ S112x2x16x128.size a := fun v9467 k0_hw563 => k0_hw563

def k0_off593 (v9471 : BitVec 32) : Fin 4 → Nat :=
  let v9472 : Index := Scalar.indexCast v9471
  let c0_6909 : Index := 0#32
  let c0_6910 : Index := 0#32
  let c0_6911 : Index := 0#32
  ![v9472.toNat, 0, 0, 0]

def k0_chk564 (v9471 : BitVec 32) : Prop :=
  (∀ a, (k0_off593 v9471) a + S1x2x16x128.size a ≤ S112x2x16x128.size a)
theorem k0_off593_inb : ∀ (v9471 : BitVec 32) (k0_hw564 : k0_chk564 v9471), ∀ a, (k0_off593 v9471) a + S1x2x16x128.size a ≤ S112x2x16x128.size a := fun v9471 k0_hw564 => k0_hw564

def k0_off594 (v9475 : BitVec 32) : Fin 4 → Nat :=
  let v9476 : Index := Scalar.indexCast v9475
  let c0_6913 : Index := 0#32
  let c0_6914 : Index := 0#32
  let c0_6915 : Index := 0#32
  ![v9476.toNat, 0, 0, 0]

def k0_chk565 (v9475 : BitVec 32) : Prop :=
  (∀ a, (k0_off594 v9475) a + S1x2x16x128.size a ≤ S112x2x16x128.size a)
theorem k0_off594_inb : ∀ (v9475 : BitVec 32) (k0_hw565 : k0_chk565 v9475), ∀ a, (k0_off594 v9475) a + S1x2x16x128.size a ≤ S112x2x16x128.size a := fun v9475 k0_hw565 => k0_hw565

def k0_off595 (v9479 : BitVec 32) : Fin 4 → Nat :=
  let v9480 : Index := Scalar.indexCast v9479
  let c0_6917 : Index := 0#32
  let c0_6918 : Index := 0#32
  let c0_6919 : Index := 0#32
  ![v9480.toNat, 0, 0, 0]

def k0_chk566 (v9479 : BitVec 32) : Prop :=
  (∀ a, (k0_off595 v9479) a + S1x2x16x128.size a ≤ S112x2x16x128.size a)
theorem k0_off595_inb : ∀ (v9479 : BitVec 32) (k0_hw566 : k0_chk566 v9479), ∀ a, (k0_off595 v9479) a + S1x2x16x128.size a ≤ S112x2x16x128.size a := fun v9479 k0_hw566 => k0_hw566

def k0_off596 (v9483 : BitVec 32) : Fin 4 → Nat :=
  let v9484 : Index := Scalar.indexCast v9483
  let c0_6921 : Index := 0#32
  let c0_6922 : Index := 0#32
  let c0_6923 : Index := 0#32
  ![v9484.toNat, 0, 0, 0]

def k0_chk567 (v9483 : BitVec 32) : Prop :=
  (∀ a, (k0_off596 v9483) a + S1x2x16x128.size a ≤ S112x2x16x128.size a)
theorem k0_off596_inb : ∀ (v9483 : BitVec 32) (k0_hw567 : k0_chk567 v9483), ∀ a, (k0_off596 v9483) a + S1x2x16x128.size a ≤ S112x2x16x128.size a := fun v9483 k0_hw567 => k0_hw567

def k0_off597 (v9510 : BitVec 32) : Fin 4 → Nat :=
  let v9511 : Index := Scalar.indexCast v9510
  let c0_6937 : Index := 0#32
  let c0_6938 : Index := 0#32
  let c0_6939 : Index := 0#32
  ![v9511.toNat, 0, 0, 0]

def k0_chk568 (v9510 : BitVec 32) : Prop :=
  (∀ a, (k0_off597 v9510) a + S1x2x16x128.size a ≤ S112x2x16x128.size a)
theorem k0_off597_inb : ∀ (v9510 : BitVec 32) (k0_hw568 : k0_chk568 v9510), ∀ a, (k0_off597 v9510) a + S1x2x16x128.size a ≤ S112x2x16x128.size a := fun v9510 k0_hw568 => k0_hw568

def k0_off598 (v9514 : BitVec 32) : Fin 4 → Nat :=
  let v9515 : Index := Scalar.indexCast v9514
  let c0_6941 : Index := 0#32
  let c0_6942 : Index := 0#32
  let c0_6943 : Index := 0#32
  ![v9515.toNat, 0, 0, 0]

def k0_chk569 (v9514 : BitVec 32) : Prop :=
  (∀ a, (k0_off598 v9514) a + S1x2x16x128.size a ≤ S112x2x16x128.size a)
theorem k0_off598_inb : ∀ (v9514 : BitVec 32) (k0_hw569 : k0_chk569 v9514), ∀ a, (k0_off598 v9514) a + S1x2x16x128.size a ≤ S112x2x16x128.size a := fun v9514 k0_hw569 => k0_hw569

def k0_off599 (v9518 : BitVec 32) : Fin 4 → Nat :=
  let v9519 : Index := Scalar.indexCast v9518
  let c0_6945 : Index := 0#32
  let c0_6946 : Index := 0#32
  let c0_6947 : Index := 0#32
  ![v9519.toNat, 0, 0, 0]

def k0_chk570 (v9518 : BitVec 32) : Prop :=
  (∀ a, (k0_off599 v9518) a + S1x2x16x128.size a ≤ S112x2x16x128.size a)
theorem k0_off599_inb : ∀ (v9518 : BitVec 32) (k0_hw570 : k0_chk570 v9518), ∀ a, (k0_off599 v9518) a + S1x2x16x128.size a ≤ S112x2x16x128.size a := fun v9518 k0_hw570 => k0_hw570

def k0_off600 (v9522 : BitVec 32) : Fin 4 → Nat :=
  let v9523 : Index := Scalar.indexCast v9522
  let c0_6949 : Index := 0#32
  let c0_6950 : Index := 0#32
  let c0_6951 : Index := 0#32
  ![v9523.toNat, 0, 0, 0]

def k0_chk571 (v9522 : BitVec 32) : Prop :=
  (∀ a, (k0_off600 v9522) a + S1x2x16x128.size a ≤ S112x2x16x128.size a)
theorem k0_off600_inb : ∀ (v9522 : BitVec 32) (k0_hw571 : k0_chk571 v9522), ∀ a, (k0_off600 v9522) a + S1x2x16x128.size a ≤ S112x2x16x128.size a := fun v9522 k0_hw571 => k0_hw571

def k0_off601 (v9526 : BitVec 32) : Fin 4 → Nat :=
  let v9527 : Index := Scalar.indexCast v9526
  let c0_6953 : Index := 0#32
  let c0_6954 : Index := 0#32
  let c0_6955 : Index := 0#32
  ![v9527.toNat, 0, 0, 0]

def k0_chk572 (v9526 : BitVec 32) : Prop :=
  (∀ a, (k0_off601 v9526) a + S1x2x16x128.size a ≤ S112x2x16x128.size a)
theorem k0_off601_inb : ∀ (v9526 : BitVec 32) (k0_hw572 : k0_chk572 v9526), ∀ a, (k0_off601 v9526) a + S1x2x16x128.size a ≤ S112x2x16x128.size a := fun v9526 k0_hw572 => k0_hw572

def k0_off602 (v9530 : BitVec 32) : Fin 4 → Nat :=
  let v9531 : Index := Scalar.indexCast v9530
  let c0_6957 : Index := 0#32
  let c0_6958 : Index := 0#32
  let c0_6959 : Index := 0#32
  ![v9531.toNat, 0, 0, 0]

def k0_chk573 (v9530 : BitVec 32) : Prop :=
  (∀ a, (k0_off602 v9530) a + S1x2x16x128.size a ≤ S112x2x16x128.size a)
theorem k0_off602_inb : ∀ (v9530 : BitVec 32) (k0_hw573 : k0_chk573 v9530), ∀ a, (k0_off602 v9530) a + S1x2x16x128.size a ≤ S112x2x16x128.size a := fun v9530 k0_hw573 => k0_hw573

def k0_off603 (v9534 : BitVec 32) : Fin 4 → Nat :=
  let v9535 : Index := Scalar.indexCast v9534
  let c0_6961 : Index := 0#32
  let c0_6962 : Index := 0#32
  let c0_6963 : Index := 0#32
  ![v9535.toNat, 0, 0, 0]

def k0_chk574 (v9534 : BitVec 32) : Prop :=
  (∀ a, (k0_off603 v9534) a + S1x2x16x128.size a ≤ S112x2x16x128.size a)
theorem k0_off603_inb : ∀ (v9534 : BitVec 32) (k0_hw574 : k0_chk574 v9534), ∀ a, (k0_off603 v9534) a + S1x2x16x128.size a ≤ S112x2x16x128.size a := fun v9534 k0_hw574 => k0_hw574

def k0_off604 (v9561 : BitVec 32) : Fin 4 → Nat :=
  let v9562 : Index := Scalar.indexCast v9561
  let c0_6977 : Index := 0#32
  let c0_6978 : Index := 0#32
  let c0_6979 : Index := 0#32
  ![v9562.toNat, 0, 0, 0]

def k0_chk575 (v9561 : BitVec 32) : Prop :=
  (∀ a, (k0_off604 v9561) a + S1x2x16x128.size a ≤ S112x2x16x128.size a)
theorem k0_off604_inb : ∀ (v9561 : BitVec 32) (k0_hw575 : k0_chk575 v9561), ∀ a, (k0_off604 v9561) a + S1x2x16x128.size a ≤ S112x2x16x128.size a := fun v9561 k0_hw575 => k0_hw575

def k0_off605 (v9565 : BitVec 32) : Fin 4 → Nat :=
  let v9566 : Index := Scalar.indexCast v9565
  let c0_6981 : Index := 0#32
  let c0_6982 : Index := 0#32
  let c0_6983 : Index := 0#32
  ![v9566.toNat, 0, 0, 0]

def k0_chk576 (v9565 : BitVec 32) : Prop :=
  (∀ a, (k0_off605 v9565) a + S1x2x16x128.size a ≤ S112x2x16x128.size a)
theorem k0_off605_inb : ∀ (v9565 : BitVec 32) (k0_hw576 : k0_chk576 v9565), ∀ a, (k0_off605 v9565) a + S1x2x16x128.size a ≤ S112x2x16x128.size a := fun v9565 k0_hw576 => k0_hw576

def k0_off606 (v9569 : BitVec 32) : Fin 4 → Nat :=
  let v9570 : Index := Scalar.indexCast v9569
  let c0_6985 : Index := 0#32
  let c0_6986 : Index := 0#32
  let c0_6987 : Index := 0#32
  ![v9570.toNat, 0, 0, 0]

def k0_chk577 (v9569 : BitVec 32) : Prop :=
  (∀ a, (k0_off606 v9569) a + S1x2x16x128.size a ≤ S112x2x16x128.size a)
theorem k0_off606_inb : ∀ (v9569 : BitVec 32) (k0_hw577 : k0_chk577 v9569), ∀ a, (k0_off606 v9569) a + S1x2x16x128.size a ≤ S112x2x16x128.size a := fun v9569 k0_hw577 => k0_hw577

def k0_off607 (v9573 : BitVec 32) : Fin 4 → Nat :=
  let v9574 : Index := Scalar.indexCast v9573
  let c0_6989 : Index := 0#32
  let c0_6990 : Index := 0#32
  let c0_6991 : Index := 0#32
  ![v9574.toNat, 0, 0, 0]

def k0_chk578 (v9573 : BitVec 32) : Prop :=
  (∀ a, (k0_off607 v9573) a + S1x2x16x128.size a ≤ S112x2x16x128.size a)
theorem k0_off607_inb : ∀ (v9573 : BitVec 32) (k0_hw578 : k0_chk578 v9573), ∀ a, (k0_off607 v9573) a + S1x2x16x128.size a ≤ S112x2x16x128.size a := fun v9573 k0_hw578 => k0_hw578

def k0_off608 (v9577 : BitVec 32) : Fin 4 → Nat :=
  let v9578 : Index := Scalar.indexCast v9577
  let c0_6993 : Index := 0#32
  let c0_6994 : Index := 0#32
  let c0_6995 : Index := 0#32
  ![v9578.toNat, 0, 0, 0]

def k0_chk579 (v9577 : BitVec 32) : Prop :=
  (∀ a, (k0_off608 v9577) a + S1x2x16x128.size a ≤ S112x2x16x128.size a)
theorem k0_off608_inb : ∀ (v9577 : BitVec 32) (k0_hw579 : k0_chk579 v9577), ∀ a, (k0_off608 v9577) a + S1x2x16x128.size a ≤ S112x2x16x128.size a := fun v9577 k0_hw579 => k0_hw579

def k0_off609 (v9581 : BitVec 32) : Fin 4 → Nat :=
  let v9582 : Index := Scalar.indexCast v9581
  let c0_6997 : Index := 0#32
  let c0_6998 : Index := 0#32
  let c0_6999 : Index := 0#32
  ![v9582.toNat, 0, 0, 0]

def k0_chk580 (v9581 : BitVec 32) : Prop :=
  (∀ a, (k0_off609 v9581) a + S1x2x16x128.size a ≤ S112x2x16x128.size a)
theorem k0_off609_inb : ∀ (v9581 : BitVec 32) (k0_hw580 : k0_chk580 v9581), ∀ a, (k0_off609 v9581) a + S1x2x16x128.size a ≤ S112x2x16x128.size a := fun v9581 k0_hw580 => k0_hw580

def k0_off610 (v9585 : BitVec 32) : Fin 4 → Nat :=
  let v9586 : Index := Scalar.indexCast v9585
  let c0_7001 : Index := 0#32
  let c0_7002 : Index := 0#32
  let c0_7003 : Index := 0#32
  ![v9586.toNat, 0, 0, 0]

def k0_chk581 (v9585 : BitVec 32) : Prop :=
  (∀ a, (k0_off610 v9585) a + S1x2x16x128.size a ≤ S112x2x16x128.size a)
theorem k0_off610_inb : ∀ (v9585 : BitVec 32) (k0_hw581 : k0_chk581 v9585), ∀ a, (k0_off610 v9585) a + S1x2x16x128.size a ≤ S112x2x16x128.size a := fun v9585 k0_hw581 => k0_hw581

def k0_off611 (v9612 : BitVec 32) : Fin 4 → Nat :=
  let v9613 : Index := Scalar.indexCast v9612
  let c0_7017 : Index := 0#32
  let c0_7018 : Index := 0#32
  let c0_7019 : Index := 0#32
  ![v9613.toNat, 0, 0, 0]

def k0_chk582 (v9612 : BitVec 32) : Prop :=
  (∀ a, (k0_off611 v9612) a + S1x2x16x128.size a ≤ S112x2x16x128.size a)
theorem k0_off611_inb : ∀ (v9612 : BitVec 32) (k0_hw582 : k0_chk582 v9612), ∀ a, (k0_off611 v9612) a + S1x2x16x128.size a ≤ S112x2x16x128.size a := fun v9612 k0_hw582 => k0_hw582

def k0_off612 (v9616 : BitVec 32) : Fin 4 → Nat :=
  let v9617 : Index := Scalar.indexCast v9616
  let c0_7021 : Index := 0#32
  let c0_7022 : Index := 0#32
  let c0_7023 : Index := 0#32
  ![v9617.toNat, 0, 0, 0]

def k0_chk583 (v9616 : BitVec 32) : Prop :=
  (∀ a, (k0_off612 v9616) a + S1x2x16x128.size a ≤ S112x2x16x128.size a)
theorem k0_off612_inb : ∀ (v9616 : BitVec 32) (k0_hw583 : k0_chk583 v9616), ∀ a, (k0_off612 v9616) a + S1x2x16x128.size a ≤ S112x2x16x128.size a := fun v9616 k0_hw583 => k0_hw583

def k0_off613 (v9620 : BitVec 32) : Fin 4 → Nat :=
  let v9621 : Index := Scalar.indexCast v9620
  let c0_7025 : Index := 0#32
  let c0_7026 : Index := 0#32
  let c0_7027 : Index := 0#32
  ![v9621.toNat, 0, 0, 0]

def k0_chk584 (v9620 : BitVec 32) : Prop :=
  (∀ a, (k0_off613 v9620) a + S1x2x16x128.size a ≤ S112x2x16x128.size a)
theorem k0_off613_inb : ∀ (v9620 : BitVec 32) (k0_hw584 : k0_chk584 v9620), ∀ a, (k0_off613 v9620) a + S1x2x16x128.size a ≤ S112x2x16x128.size a := fun v9620 k0_hw584 => k0_hw584

def k0_off614 (v9624 : BitVec 32) : Fin 4 → Nat :=
  let v9625 : Index := Scalar.indexCast v9624
  let c0_7029 : Index := 0#32
  let c0_7030 : Index := 0#32
  let c0_7031 : Index := 0#32
  ![v9625.toNat, 0, 0, 0]

def k0_chk585 (v9624 : BitVec 32) : Prop :=
  (∀ a, (k0_off614 v9624) a + S1x2x16x128.size a ≤ S112x2x16x128.size a)
theorem k0_off614_inb : ∀ (v9624 : BitVec 32) (k0_hw585 : k0_chk585 v9624), ∀ a, (k0_off614 v9624) a + S1x2x16x128.size a ≤ S112x2x16x128.size a := fun v9624 k0_hw585 => k0_hw585

def k0_off615 (v9628 : BitVec 32) : Fin 4 → Nat :=
  let v9629 : Index := Scalar.indexCast v9628
  let c0_7033 : Index := 0#32
  let c0_7034 : Index := 0#32
  let c0_7035 : Index := 0#32
  ![v9629.toNat, 0, 0, 0]

def k0_chk586 (v9628 : BitVec 32) : Prop :=
  (∀ a, (k0_off615 v9628) a + S1x2x16x128.size a ≤ S112x2x16x128.size a)
theorem k0_off615_inb : ∀ (v9628 : BitVec 32) (k0_hw586 : k0_chk586 v9628), ∀ a, (k0_off615 v9628) a + S1x2x16x128.size a ≤ S112x2x16x128.size a := fun v9628 k0_hw586 => k0_hw586

def k0_off616 (v9632 : BitVec 32) : Fin 4 → Nat :=
  let v9633 : Index := Scalar.indexCast v9632
  let c0_7037 : Index := 0#32
  let c0_7038 : Index := 0#32
  let c0_7039 : Index := 0#32
  ![v9633.toNat, 0, 0, 0]

def k0_chk587 (v9632 : BitVec 32) : Prop :=
  (∀ a, (k0_off616 v9632) a + S1x2x16x128.size a ≤ S112x2x16x128.size a)
theorem k0_off616_inb : ∀ (v9632 : BitVec 32) (k0_hw587 : k0_chk587 v9632), ∀ a, (k0_off616 v9632) a + S1x2x16x128.size a ≤ S112x2x16x128.size a := fun v9632 k0_hw587 => k0_hw587

def k0_off617 (v9636 : BitVec 32) : Fin 4 → Nat :=
  let v9637 : Index := Scalar.indexCast v9636
  let c0_7041 : Index := 0#32
  let c0_7042 : Index := 0#32
  let c0_7043 : Index := 0#32
  ![v9637.toNat, 0, 0, 0]

def k0_chk588 (v9636 : BitVec 32) : Prop :=
  (∀ a, (k0_off617 v9636) a + S1x2x16x128.size a ≤ S112x2x16x128.size a)
theorem k0_off617_inb : ∀ (v9636 : BitVec 32) (k0_hw588 : k0_chk588 v9636), ∀ a, (k0_off617 v9636) a + S1x2x16x128.size a ≤ S112x2x16x128.size a := fun v9636 k0_hw588 => k0_hw588

def k0_off618 (v11455 : BitVec 32) : Fin 4 → Nat :=
  let v11456 : Index := Scalar.indexCast v11455
  let c0_8401 : Index := 0#32
  let c0_8402 : Index := 0#32
  let c0_8403 : Index := 0#32
  ![v11456.toNat, 0, 0, 0]

def k0_chk589 (v11455 : BitVec 32) : Prop :=
  (∀ a, (k0_off618 v11455) a + S1x2x16x128.size a ≤ S112x2x16x128.size a)
theorem k0_off618_inb : ∀ (v11455 : BitVec 32) (k0_hw589 : k0_chk589 v11455), ∀ a, (k0_off618 v11455) a + S1x2x16x128.size a ≤ S112x2x16x128.size a := fun v11455 k0_hw589 => k0_hw589

def k0_off619 (v11459 : BitVec 32) : Fin 4 → Nat :=
  let v11460 : Index := Scalar.indexCast v11459
  let c0_8405 : Index := 0#32
  let c0_8406 : Index := 0#32
  let c0_8407 : Index := 0#32
  ![v11460.toNat, 0, 0, 0]

def k0_chk590 (v11459 : BitVec 32) : Prop :=
  (∀ a, (k0_off619 v11459) a + S1x2x16x128.size a ≤ S112x2x16x128.size a)
theorem k0_off619_inb : ∀ (v11459 : BitVec 32) (k0_hw590 : k0_chk590 v11459), ∀ a, (k0_off619 v11459) a + S1x2x16x128.size a ≤ S112x2x16x128.size a := fun v11459 k0_hw590 => k0_hw590

def k0_off620 (v11463 : BitVec 32) : Fin 4 → Nat :=
  let v11464 : Index := Scalar.indexCast v11463
  let c0_8409 : Index := 0#32
  let c0_8410 : Index := 0#32
  let c0_8411 : Index := 0#32
  ![v11464.toNat, 0, 0, 0]

def k0_chk591 (v11463 : BitVec 32) : Prop :=
  (∀ a, (k0_off620 v11463) a + S1x2x16x128.size a ≤ S112x2x16x128.size a)
theorem k0_off620_inb : ∀ (v11463 : BitVec 32) (k0_hw591 : k0_chk591 v11463), ∀ a, (k0_off620 v11463) a + S1x2x16x128.size a ≤ S112x2x16x128.size a := fun v11463 k0_hw591 => k0_hw591

def k0_off621 (v11467 : BitVec 32) : Fin 4 → Nat :=
  let v11468 : Index := Scalar.indexCast v11467
  let c0_8413 : Index := 0#32
  let c0_8414 : Index := 0#32
  let c0_8415 : Index := 0#32
  ![v11468.toNat, 0, 0, 0]

def k0_chk592 (v11467 : BitVec 32) : Prop :=
  (∀ a, (k0_off621 v11467) a + S1x2x16x128.size a ≤ S112x2x16x128.size a)
theorem k0_off621_inb : ∀ (v11467 : BitVec 32) (k0_hw592 : k0_chk592 v11467), ∀ a, (k0_off621 v11467) a + S1x2x16x128.size a ≤ S112x2x16x128.size a := fun v11467 k0_hw592 => k0_hw592

def k0_off622 (v11471 : BitVec 32) : Fin 4 → Nat :=
  let v11472 : Index := Scalar.indexCast v11471
  let c0_8417 : Index := 0#32
  let c0_8418 : Index := 0#32
  let c0_8419 : Index := 0#32
  ![v11472.toNat, 0, 0, 0]

def k0_chk593 (v11471 : BitVec 32) : Prop :=
  (∀ a, (k0_off622 v11471) a + S1x2x16x128.size a ≤ S112x2x16x128.size a)
theorem k0_off622_inb : ∀ (v11471 : BitVec 32) (k0_hw593 : k0_chk593 v11471), ∀ a, (k0_off622 v11471) a + S1x2x16x128.size a ≤ S112x2x16x128.size a := fun v11471 k0_hw593 => k0_hw593

def k0_off623 (v11475 : BitVec 32) : Fin 4 → Nat :=
  let v11476 : Index := Scalar.indexCast v11475
  let c0_8421 : Index := 0#32
  let c0_8422 : Index := 0#32
  let c0_8423 : Index := 0#32
  ![v11476.toNat, 0, 0, 0]

def k0_chk594 (v11475 : BitVec 32) : Prop :=
  (∀ a, (k0_off623 v11475) a + S1x2x16x128.size a ≤ S112x2x16x128.size a)
theorem k0_off623_inb : ∀ (v11475 : BitVec 32) (k0_hw594 : k0_chk594 v11475), ∀ a, (k0_off623 v11475) a + S1x2x16x128.size a ≤ S112x2x16x128.size a := fun v11475 k0_hw594 => k0_hw594

def k0_off624 (v11479 : BitVec 32) : Fin 4 → Nat :=
  let v11480 : Index := Scalar.indexCast v11479
  let c0_8425 : Index := 0#32
  let c0_8426 : Index := 0#32
  let c0_8427 : Index := 0#32
  ![v11480.toNat, 0, 0, 0]

def k0_chk595 (v11479 : BitVec 32) : Prop :=
  (∀ a, (k0_off624 v11479) a + S1x2x16x128.size a ≤ S112x2x16x128.size a)
theorem k0_off624_inb : ∀ (v11479 : BitVec 32) (k0_hw595 : k0_chk595 v11479), ∀ a, (k0_off624 v11479) a + S1x2x16x128.size a ≤ S112x2x16x128.size a := fun v11479 k0_hw595 => k0_hw595

def k0_off625 (v11506 : BitVec 32) : Fin 4 → Nat :=
  let v11507 : Index := Scalar.indexCast v11506
  let c0_8441 : Index := 0#32
  let c0_8442 : Index := 0#32
  let c0_8443 : Index := 0#32
  ![v11507.toNat, 0, 0, 0]

def k0_chk596 (v11506 : BitVec 32) : Prop :=
  (∀ a, (k0_off625 v11506) a + S1x2x16x128.size a ≤ S112x2x16x128.size a)
theorem k0_off625_inb : ∀ (v11506 : BitVec 32) (k0_hw596 : k0_chk596 v11506), ∀ a, (k0_off625 v11506) a + S1x2x16x128.size a ≤ S112x2x16x128.size a := fun v11506 k0_hw596 => k0_hw596

def k0_off626 (v11510 : BitVec 32) : Fin 4 → Nat :=
  let v11511 : Index := Scalar.indexCast v11510
  let c0_8445 : Index := 0#32
  let c0_8446 : Index := 0#32
  let c0_8447 : Index := 0#32
  ![v11511.toNat, 0, 0, 0]

def k0_chk597 (v11510 : BitVec 32) : Prop :=
  (∀ a, (k0_off626 v11510) a + S1x2x16x128.size a ≤ S112x2x16x128.size a)
theorem k0_off626_inb : ∀ (v11510 : BitVec 32) (k0_hw597 : k0_chk597 v11510), ∀ a, (k0_off626 v11510) a + S1x2x16x128.size a ≤ S112x2x16x128.size a := fun v11510 k0_hw597 => k0_hw597

def k0_off627 (v11514 : BitVec 32) : Fin 4 → Nat :=
  let v11515 : Index := Scalar.indexCast v11514
  let c0_8449 : Index := 0#32
  let c0_8450 : Index := 0#32
  let c0_8451 : Index := 0#32
  ![v11515.toNat, 0, 0, 0]

def k0_chk598 (v11514 : BitVec 32) : Prop :=
  (∀ a, (k0_off627 v11514) a + S1x2x16x128.size a ≤ S112x2x16x128.size a)
theorem k0_off627_inb : ∀ (v11514 : BitVec 32) (k0_hw598 : k0_chk598 v11514), ∀ a, (k0_off627 v11514) a + S1x2x16x128.size a ≤ S112x2x16x128.size a := fun v11514 k0_hw598 => k0_hw598

def k0_off628 (v11518 : BitVec 32) : Fin 4 → Nat :=
  let v11519 : Index := Scalar.indexCast v11518
  let c0_8453 : Index := 0#32
  let c0_8454 : Index := 0#32
  let c0_8455 : Index := 0#32
  ![v11519.toNat, 0, 0, 0]

def k0_chk599 (v11518 : BitVec 32) : Prop :=
  (∀ a, (k0_off628 v11518) a + S1x2x16x128.size a ≤ S112x2x16x128.size a)
theorem k0_off628_inb : ∀ (v11518 : BitVec 32) (k0_hw599 : k0_chk599 v11518), ∀ a, (k0_off628 v11518) a + S1x2x16x128.size a ≤ S112x2x16x128.size a := fun v11518 k0_hw599 => k0_hw599

def k0_off629 (v11522 : BitVec 32) : Fin 4 → Nat :=
  let v11523 : Index := Scalar.indexCast v11522
  let c0_8457 : Index := 0#32
  let c0_8458 : Index := 0#32
  let c0_8459 : Index := 0#32
  ![v11523.toNat, 0, 0, 0]

def k0_chk600 (v11522 : BitVec 32) : Prop :=
  (∀ a, (k0_off629 v11522) a + S1x2x16x128.size a ≤ S112x2x16x128.size a)
theorem k0_off629_inb : ∀ (v11522 : BitVec 32) (k0_hw600 : k0_chk600 v11522), ∀ a, (k0_off629 v11522) a + S1x2x16x128.size a ≤ S112x2x16x128.size a := fun v11522 k0_hw600 => k0_hw600

def k0_off630 (v11526 : BitVec 32) : Fin 4 → Nat :=
  let v11527 : Index := Scalar.indexCast v11526
  let c0_8461 : Index := 0#32
  let c0_8462 : Index := 0#32
  let c0_8463 : Index := 0#32
  ![v11527.toNat, 0, 0, 0]

def k0_chk601 (v11526 : BitVec 32) : Prop :=
  (∀ a, (k0_off630 v11526) a + S1x2x16x128.size a ≤ S112x2x16x128.size a)
theorem k0_off630_inb : ∀ (v11526 : BitVec 32) (k0_hw601 : k0_chk601 v11526), ∀ a, (k0_off630 v11526) a + S1x2x16x128.size a ≤ S112x2x16x128.size a := fun v11526 k0_hw601 => k0_hw601

def k0_off631 (v11530 : BitVec 32) : Fin 4 → Nat :=
  let v11531 : Index := Scalar.indexCast v11530
  let c0_8465 : Index := 0#32
  let c0_8466 : Index := 0#32
  let c0_8467 : Index := 0#32
  ![v11531.toNat, 0, 0, 0]

def k0_chk602 (v11530 : BitVec 32) : Prop :=
  (∀ a, (k0_off631 v11530) a + S1x2x16x128.size a ≤ S112x2x16x128.size a)
theorem k0_off631_inb : ∀ (v11530 : BitVec 32) (k0_hw602 : k0_chk602 v11530), ∀ a, (k0_off631 v11530) a + S1x2x16x128.size a ≤ S112x2x16x128.size a := fun v11530 k0_hw602 => k0_hw602

def k0_off632 (v11557 : BitVec 32) : Fin 4 → Nat :=
  let v11558 : Index := Scalar.indexCast v11557
  let c0_8481 : Index := 0#32
  let c0_8482 : Index := 0#32
  let c0_8483 : Index := 0#32
  ![v11558.toNat, 0, 0, 0]

def k0_chk603 (v11557 : BitVec 32) : Prop :=
  (∀ a, (k0_off632 v11557) a + S1x2x16x128.size a ≤ S112x2x16x128.size a)
theorem k0_off632_inb : ∀ (v11557 : BitVec 32) (k0_hw603 : k0_chk603 v11557), ∀ a, (k0_off632 v11557) a + S1x2x16x128.size a ≤ S112x2x16x128.size a := fun v11557 k0_hw603 => k0_hw603

def k0_off633 (v11561 : BitVec 32) : Fin 4 → Nat :=
  let v11562 : Index := Scalar.indexCast v11561
  let c0_8485 : Index := 0#32
  let c0_8486 : Index := 0#32
  let c0_8487 : Index := 0#32
  ![v11562.toNat, 0, 0, 0]

def k0_chk604 (v11561 : BitVec 32) : Prop :=
  (∀ a, (k0_off633 v11561) a + S1x2x16x128.size a ≤ S112x2x16x128.size a)
theorem k0_off633_inb : ∀ (v11561 : BitVec 32) (k0_hw604 : k0_chk604 v11561), ∀ a, (k0_off633 v11561) a + S1x2x16x128.size a ≤ S112x2x16x128.size a := fun v11561 k0_hw604 => k0_hw604

def k0_off634 (v11565 : BitVec 32) : Fin 4 → Nat :=
  let v11566 : Index := Scalar.indexCast v11565
  let c0_8489 : Index := 0#32
  let c0_8490 : Index := 0#32
  let c0_8491 : Index := 0#32
  ![v11566.toNat, 0, 0, 0]

def k0_chk605 (v11565 : BitVec 32) : Prop :=
  (∀ a, (k0_off634 v11565) a + S1x2x16x128.size a ≤ S112x2x16x128.size a)
theorem k0_off634_inb : ∀ (v11565 : BitVec 32) (k0_hw605 : k0_chk605 v11565), ∀ a, (k0_off634 v11565) a + S1x2x16x128.size a ≤ S112x2x16x128.size a := fun v11565 k0_hw605 => k0_hw605

def k0_off635 (v11569 : BitVec 32) : Fin 4 → Nat :=
  let v11570 : Index := Scalar.indexCast v11569
  let c0_8493 : Index := 0#32
  let c0_8494 : Index := 0#32
  let c0_8495 : Index := 0#32
  ![v11570.toNat, 0, 0, 0]

def k0_chk606 (v11569 : BitVec 32) : Prop :=
  (∀ a, (k0_off635 v11569) a + S1x2x16x128.size a ≤ S112x2x16x128.size a)
theorem k0_off635_inb : ∀ (v11569 : BitVec 32) (k0_hw606 : k0_chk606 v11569), ∀ a, (k0_off635 v11569) a + S1x2x16x128.size a ≤ S112x2x16x128.size a := fun v11569 k0_hw606 => k0_hw606

def k0_off636 (v11573 : BitVec 32) : Fin 4 → Nat :=
  let v11574 : Index := Scalar.indexCast v11573
  let c0_8497 : Index := 0#32
  let c0_8498 : Index := 0#32
  let c0_8499 : Index := 0#32
  ![v11574.toNat, 0, 0, 0]

def k0_chk607 (v11573 : BitVec 32) : Prop :=
  (∀ a, (k0_off636 v11573) a + S1x2x16x128.size a ≤ S112x2x16x128.size a)
theorem k0_off636_inb : ∀ (v11573 : BitVec 32) (k0_hw607 : k0_chk607 v11573), ∀ a, (k0_off636 v11573) a + S1x2x16x128.size a ≤ S112x2x16x128.size a := fun v11573 k0_hw607 => k0_hw607

def k0_off637 (v11577 : BitVec 32) : Fin 4 → Nat :=
  let v11578 : Index := Scalar.indexCast v11577
  let c0_8501 : Index := 0#32
  let c0_8502 : Index := 0#32
  let c0_8503 : Index := 0#32
  ![v11578.toNat, 0, 0, 0]

def k0_chk608 (v11577 : BitVec 32) : Prop :=
  (∀ a, (k0_off637 v11577) a + S1x2x16x128.size a ≤ S112x2x16x128.size a)
theorem k0_off637_inb : ∀ (v11577 : BitVec 32) (k0_hw608 : k0_chk608 v11577), ∀ a, (k0_off637 v11577) a + S1x2x16x128.size a ≤ S112x2x16x128.size a := fun v11577 k0_hw608 => k0_hw608

def k0_off638 (v11581 : BitVec 32) : Fin 4 → Nat :=
  let v11582 : Index := Scalar.indexCast v11581
  let c0_8505 : Index := 0#32
  let c0_8506 : Index := 0#32
  let c0_8507 : Index := 0#32
  ![v11582.toNat, 0, 0, 0]

def k0_chk609 (v11581 : BitVec 32) : Prop :=
  (∀ a, (k0_off638 v11581) a + S1x2x16x128.size a ≤ S112x2x16x128.size a)
theorem k0_off638_inb : ∀ (v11581 : BitVec 32) (k0_hw609 : k0_chk609 v11581), ∀ a, (k0_off638 v11581) a + S1x2x16x128.size a ≤ S112x2x16x128.size a := fun v11581 k0_hw609 => k0_hw609

def k0_off639 (v11608 : BitVec 32) : Fin 4 → Nat :=
  let v11609 : Index := Scalar.indexCast v11608
  let c0_8521 : Index := 0#32
  let c0_8522 : Index := 0#32
  let c0_8523 : Index := 0#32
  ![v11609.toNat, 0, 0, 0]

def k0_chk610 (v11608 : BitVec 32) : Prop :=
  (∀ a, (k0_off639 v11608) a + S1x2x16x128.size a ≤ S112x2x16x128.size a)
theorem k0_off639_inb : ∀ (v11608 : BitVec 32) (k0_hw610 : k0_chk610 v11608), ∀ a, (k0_off639 v11608) a + S1x2x16x128.size a ≤ S112x2x16x128.size a := fun v11608 k0_hw610 => k0_hw610

def k0_off640 (v11612 : BitVec 32) : Fin 4 → Nat :=
  let v11613 : Index := Scalar.indexCast v11612
  let c0_8525 : Index := 0#32
  let c0_8526 : Index := 0#32
  let c0_8527 : Index := 0#32
  ![v11613.toNat, 0, 0, 0]

def k0_chk611 (v11612 : BitVec 32) : Prop :=
  (∀ a, (k0_off640 v11612) a + S1x2x16x128.size a ≤ S112x2x16x128.size a)
theorem k0_off640_inb : ∀ (v11612 : BitVec 32) (k0_hw611 : k0_chk611 v11612), ∀ a, (k0_off640 v11612) a + S1x2x16x128.size a ≤ S112x2x16x128.size a := fun v11612 k0_hw611 => k0_hw611

def k0_off641 (v11616 : BitVec 32) : Fin 4 → Nat :=
  let v11617 : Index := Scalar.indexCast v11616
  let c0_8529 : Index := 0#32
  let c0_8530 : Index := 0#32
  let c0_8531 : Index := 0#32
  ![v11617.toNat, 0, 0, 0]

def k0_chk612 (v11616 : BitVec 32) : Prop :=
  (∀ a, (k0_off641 v11616) a + S1x2x16x128.size a ≤ S112x2x16x128.size a)
theorem k0_off641_inb : ∀ (v11616 : BitVec 32) (k0_hw612 : k0_chk612 v11616), ∀ a, (k0_off641 v11616) a + S1x2x16x128.size a ≤ S112x2x16x128.size a := fun v11616 k0_hw612 => k0_hw612

def k0_off642 (v11620 : BitVec 32) : Fin 4 → Nat :=
  let v11621 : Index := Scalar.indexCast v11620
  let c0_8533 : Index := 0#32
  let c0_8534 : Index := 0#32
  let c0_8535 : Index := 0#32
  ![v11621.toNat, 0, 0, 0]

def k0_chk613 (v11620 : BitVec 32) : Prop :=
  (∀ a, (k0_off642 v11620) a + S1x2x16x128.size a ≤ S112x2x16x128.size a)
theorem k0_off642_inb : ∀ (v11620 : BitVec 32) (k0_hw613 : k0_chk613 v11620), ∀ a, (k0_off642 v11620) a + S1x2x16x128.size a ≤ S112x2x16x128.size a := fun v11620 k0_hw613 => k0_hw613

def k0_off643 (v11624 : BitVec 32) : Fin 4 → Nat :=
  let v11625 : Index := Scalar.indexCast v11624
  let c0_8537 : Index := 0#32
  let c0_8538 : Index := 0#32
  let c0_8539 : Index := 0#32
  ![v11625.toNat, 0, 0, 0]

def k0_chk614 (v11624 : BitVec 32) : Prop :=
  (∀ a, (k0_off643 v11624) a + S1x2x16x128.size a ≤ S112x2x16x128.size a)
theorem k0_off643_inb : ∀ (v11624 : BitVec 32) (k0_hw614 : k0_chk614 v11624), ∀ a, (k0_off643 v11624) a + S1x2x16x128.size a ≤ S112x2x16x128.size a := fun v11624 k0_hw614 => k0_hw614

def k0_off644 (v11628 : BitVec 32) : Fin 4 → Nat :=
  let v11629 : Index := Scalar.indexCast v11628
  let c0_8541 : Index := 0#32
  let c0_8542 : Index := 0#32
  let c0_8543 : Index := 0#32
  ![v11629.toNat, 0, 0, 0]

def k0_chk615 (v11628 : BitVec 32) : Prop :=
  (∀ a, (k0_off644 v11628) a + S1x2x16x128.size a ≤ S112x2x16x128.size a)
theorem k0_off644_inb : ∀ (v11628 : BitVec 32) (k0_hw615 : k0_chk615 v11628), ∀ a, (k0_off644 v11628) a + S1x2x16x128.size a ≤ S112x2x16x128.size a := fun v11628 k0_hw615 => k0_hw615

def k0_off645 (v11632 : BitVec 32) : Fin 4 → Nat :=
  let v11633 : Index := Scalar.indexCast v11632
  let c0_8545 : Index := 0#32
  let c0_8546 : Index := 0#32
  let c0_8547 : Index := 0#32
  ![v11633.toNat, 0, 0, 0]

def k0_chk616 (v11632 : BitVec 32) : Prop :=
  (∀ a, (k0_off645 v11632) a + S1x2x16x128.size a ≤ S112x2x16x128.size a)
theorem k0_off645_inb : ∀ (v11632 : BitVec 32) (k0_hw616 : k0_chk616 v11632), ∀ a, (k0_off645 v11632) a + S1x2x16x128.size a ≤ S112x2x16x128.size a := fun v11632 k0_hw616 => k0_hw616

def k0_off646 (v11659 : BitVec 32) : Fin 4 → Nat :=
  let v11660 : Index := Scalar.indexCast v11659
  let c0_8561 : Index := 0#32
  let c0_8562 : Index := 0#32
  let c0_8563 : Index := 0#32
  ![v11660.toNat, 0, 0, 0]

def k0_chk617 (v11659 : BitVec 32) : Prop :=
  (∀ a, (k0_off646 v11659) a + S1x2x16x128.size a ≤ S112x2x16x128.size a)
theorem k0_off646_inb : ∀ (v11659 : BitVec 32) (k0_hw617 : k0_chk617 v11659), ∀ a, (k0_off646 v11659) a + S1x2x16x128.size a ≤ S112x2x16x128.size a := fun v11659 k0_hw617 => k0_hw617

def k0_off647 (v11663 : BitVec 32) : Fin 4 → Nat :=
  let v11664 : Index := Scalar.indexCast v11663
  let c0_8565 : Index := 0#32
  let c0_8566 : Index := 0#32
  let c0_8567 : Index := 0#32
  ![v11664.toNat, 0, 0, 0]

def k0_chk618 (v11663 : BitVec 32) : Prop :=
  (∀ a, (k0_off647 v11663) a + S1x2x16x128.size a ≤ S112x2x16x128.size a)
theorem k0_off647_inb : ∀ (v11663 : BitVec 32) (k0_hw618 : k0_chk618 v11663), ∀ a, (k0_off647 v11663) a + S1x2x16x128.size a ≤ S112x2x16x128.size a := fun v11663 k0_hw618 => k0_hw618

def k0_off648 (v11667 : BitVec 32) : Fin 4 → Nat :=
  let v11668 : Index := Scalar.indexCast v11667
  let c0_8569 : Index := 0#32
  let c0_8570 : Index := 0#32
  let c0_8571 : Index := 0#32
  ![v11668.toNat, 0, 0, 0]

def k0_chk619 (v11667 : BitVec 32) : Prop :=
  (∀ a, (k0_off648 v11667) a + S1x2x16x128.size a ≤ S112x2x16x128.size a)
theorem k0_off648_inb : ∀ (v11667 : BitVec 32) (k0_hw619 : k0_chk619 v11667), ∀ a, (k0_off648 v11667) a + S1x2x16x128.size a ≤ S112x2x16x128.size a := fun v11667 k0_hw619 => k0_hw619

def k0_off649 (v11671 : BitVec 32) : Fin 4 → Nat :=
  let v11672 : Index := Scalar.indexCast v11671
  let c0_8573 : Index := 0#32
  let c0_8574 : Index := 0#32
  let c0_8575 : Index := 0#32
  ![v11672.toNat, 0, 0, 0]

def k0_chk620 (v11671 : BitVec 32) : Prop :=
  (∀ a, (k0_off649 v11671) a + S1x2x16x128.size a ≤ S112x2x16x128.size a)
theorem k0_off649_inb : ∀ (v11671 : BitVec 32) (k0_hw620 : k0_chk620 v11671), ∀ a, (k0_off649 v11671) a + S1x2x16x128.size a ≤ S112x2x16x128.size a := fun v11671 k0_hw620 => k0_hw620

def k0_off650 (v11675 : BitVec 32) : Fin 4 → Nat :=
  let v11676 : Index := Scalar.indexCast v11675
  let c0_8577 : Index := 0#32
  let c0_8578 : Index := 0#32
  let c0_8579 : Index := 0#32
  ![v11676.toNat, 0, 0, 0]

def k0_chk621 (v11675 : BitVec 32) : Prop :=
  (∀ a, (k0_off650 v11675) a + S1x2x16x128.size a ≤ S112x2x16x128.size a)
theorem k0_off650_inb : ∀ (v11675 : BitVec 32) (k0_hw621 : k0_chk621 v11675), ∀ a, (k0_off650 v11675) a + S1x2x16x128.size a ≤ S112x2x16x128.size a := fun v11675 k0_hw621 => k0_hw621

def k0_off651 (v11679 : BitVec 32) : Fin 4 → Nat :=
  let v11680 : Index := Scalar.indexCast v11679
  let c0_8581 : Index := 0#32
  let c0_8582 : Index := 0#32
  let c0_8583 : Index := 0#32
  ![v11680.toNat, 0, 0, 0]

def k0_chk622 (v11679 : BitVec 32) : Prop :=
  (∀ a, (k0_off651 v11679) a + S1x2x16x128.size a ≤ S112x2x16x128.size a)
theorem k0_off651_inb : ∀ (v11679 : BitVec 32) (k0_hw622 : k0_chk622 v11679), ∀ a, (k0_off651 v11679) a + S1x2x16x128.size a ≤ S112x2x16x128.size a := fun v11679 k0_hw622 => k0_hw622

def k0_off652 (v11683 : BitVec 32) : Fin 4 → Nat :=
  let v11684 : Index := Scalar.indexCast v11683
  let c0_8585 : Index := 0#32
  let c0_8586 : Index := 0#32
  let c0_8587 : Index := 0#32
  ![v11684.toNat, 0, 0, 0]

def k0_chk623 (v11683 : BitVec 32) : Prop :=
  (∀ a, (k0_off652 v11683) a + S1x2x16x128.size a ≤ S112x2x16x128.size a)
theorem k0_off652_inb : ∀ (v11683 : BitVec 32) (k0_hw623 : k0_chk623 v11683), ∀ a, (k0_off652 v11683) a + S1x2x16x128.size a ≤ S112x2x16x128.size a := fun v11683 k0_hw623 => k0_hw623

def k0_off653 (v11710 : BitVec 32) : Fin 4 → Nat :=
  let v11711 : Index := Scalar.indexCast v11710
  let c0_8601 : Index := 0#32
  let c0_8602 : Index := 0#32
  let c0_8603 : Index := 0#32
  ![v11711.toNat, 0, 0, 0]

def k0_chk624 (v11710 : BitVec 32) : Prop :=
  (∀ a, (k0_off653 v11710) a + S1x2x16x128.size a ≤ S112x2x16x128.size a)
theorem k0_off653_inb : ∀ (v11710 : BitVec 32) (k0_hw624 : k0_chk624 v11710), ∀ a, (k0_off653 v11710) a + S1x2x16x128.size a ≤ S112x2x16x128.size a := fun v11710 k0_hw624 => k0_hw624

def k0_off654 (v11714 : BitVec 32) : Fin 4 → Nat :=
  let v11715 : Index := Scalar.indexCast v11714
  let c0_8605 : Index := 0#32
  let c0_8606 : Index := 0#32
  let c0_8607 : Index := 0#32
  ![v11715.toNat, 0, 0, 0]

def k0_chk625 (v11714 : BitVec 32) : Prop :=
  (∀ a, (k0_off654 v11714) a + S1x2x16x128.size a ≤ S112x2x16x128.size a)
theorem k0_off654_inb : ∀ (v11714 : BitVec 32) (k0_hw625 : k0_chk625 v11714), ∀ a, (k0_off654 v11714) a + S1x2x16x128.size a ≤ S112x2x16x128.size a := fun v11714 k0_hw625 => k0_hw625

def k0_off655 (v11718 : BitVec 32) : Fin 4 → Nat :=
  let v11719 : Index := Scalar.indexCast v11718
  let c0_8609 : Index := 0#32
  let c0_8610 : Index := 0#32
  let c0_8611 : Index := 0#32
  ![v11719.toNat, 0, 0, 0]

def k0_chk626 (v11718 : BitVec 32) : Prop :=
  (∀ a, (k0_off655 v11718) a + S1x2x16x128.size a ≤ S112x2x16x128.size a)
theorem k0_off655_inb : ∀ (v11718 : BitVec 32) (k0_hw626 : k0_chk626 v11718), ∀ a, (k0_off655 v11718) a + S1x2x16x128.size a ≤ S112x2x16x128.size a := fun v11718 k0_hw626 => k0_hw626

def k0_off656 (v11722 : BitVec 32) : Fin 4 → Nat :=
  let v11723 : Index := Scalar.indexCast v11722
  let c0_8613 : Index := 0#32
  let c0_8614 : Index := 0#32
  let c0_8615 : Index := 0#32
  ![v11723.toNat, 0, 0, 0]

def k0_chk627 (v11722 : BitVec 32) : Prop :=
  (∀ a, (k0_off656 v11722) a + S1x2x16x128.size a ≤ S112x2x16x128.size a)
theorem k0_off656_inb : ∀ (v11722 : BitVec 32) (k0_hw627 : k0_chk627 v11722), ∀ a, (k0_off656 v11722) a + S1x2x16x128.size a ≤ S112x2x16x128.size a := fun v11722 k0_hw627 => k0_hw627

def k0_off657 (v11726 : BitVec 32) : Fin 4 → Nat :=
  let v11727 : Index := Scalar.indexCast v11726
  let c0_8617 : Index := 0#32
  let c0_8618 : Index := 0#32
  let c0_8619 : Index := 0#32
  ![v11727.toNat, 0, 0, 0]

def k0_chk628 (v11726 : BitVec 32) : Prop :=
  (∀ a, (k0_off657 v11726) a + S1x2x16x128.size a ≤ S112x2x16x128.size a)
theorem k0_off657_inb : ∀ (v11726 : BitVec 32) (k0_hw628 : k0_chk628 v11726), ∀ a, (k0_off657 v11726) a + S1x2x16x128.size a ≤ S112x2x16x128.size a := fun v11726 k0_hw628 => k0_hw628

def k0_off658 (v11730 : BitVec 32) : Fin 4 → Nat :=
  let v11731 : Index := Scalar.indexCast v11730
  let c0_8621 : Index := 0#32
  let c0_8622 : Index := 0#32
  let c0_8623 : Index := 0#32
  ![v11731.toNat, 0, 0, 0]

def k0_chk629 (v11730 : BitVec 32) : Prop :=
  (∀ a, (k0_off658 v11730) a + S1x2x16x128.size a ≤ S112x2x16x128.size a)
theorem k0_off658_inb : ∀ (v11730 : BitVec 32) (k0_hw629 : k0_chk629 v11730), ∀ a, (k0_off658 v11730) a + S1x2x16x128.size a ≤ S112x2x16x128.size a := fun v11730 k0_hw629 => k0_hw629

def k0_off659 (v11734 : BitVec 32) : Fin 4 → Nat :=
  let v11735 : Index := Scalar.indexCast v11734
  let c0_8625 : Index := 0#32
  let c0_8626 : Index := 0#32
  let c0_8627 : Index := 0#32
  ![v11735.toNat, 0, 0, 0]

def k0_chk630 (v11734 : BitVec 32) : Prop :=
  (∀ a, (k0_off659 v11734) a + S1x2x16x128.size a ≤ S112x2x16x128.size a)
theorem k0_off659_inb : ∀ (v11734 : BitVec 32) (k0_hw630 : k0_chk630 v11734), ∀ a, (k0_off659 v11734) a + S1x2x16x128.size a ≤ S112x2x16x128.size a := fun v11734 k0_hw630 => k0_hw630

def k0_off660 (v11761 : BitVec 32) : Fin 4 → Nat :=
  let v11762 : Index := Scalar.indexCast v11761
  let c0_8641 : Index := 0#32
  let c0_8642 : Index := 0#32
  let c0_8643 : Index := 0#32
  ![v11762.toNat, 0, 0, 0]

def k0_chk631 (v11761 : BitVec 32) : Prop :=
  (∀ a, (k0_off660 v11761) a + S1x2x16x128.size a ≤ S112x2x16x128.size a)
theorem k0_off660_inb : ∀ (v11761 : BitVec 32) (k0_hw631 : k0_chk631 v11761), ∀ a, (k0_off660 v11761) a + S1x2x16x128.size a ≤ S112x2x16x128.size a := fun v11761 k0_hw631 => k0_hw631

def k0_off661 (v11765 : BitVec 32) : Fin 4 → Nat :=
  let v11766 : Index := Scalar.indexCast v11765
  let c0_8645 : Index := 0#32
  let c0_8646 : Index := 0#32
  let c0_8647 : Index := 0#32
  ![v11766.toNat, 0, 0, 0]

def k0_chk632 (v11765 : BitVec 32) : Prop :=
  (∀ a, (k0_off661 v11765) a + S1x2x16x128.size a ≤ S112x2x16x128.size a)
theorem k0_off661_inb : ∀ (v11765 : BitVec 32) (k0_hw632 : k0_chk632 v11765), ∀ a, (k0_off661 v11765) a + S1x2x16x128.size a ≤ S112x2x16x128.size a := fun v11765 k0_hw632 => k0_hw632

def k0_off662 (v11769 : BitVec 32) : Fin 4 → Nat :=
  let v11770 : Index := Scalar.indexCast v11769
  let c0_8649 : Index := 0#32
  let c0_8650 : Index := 0#32
  let c0_8651 : Index := 0#32
  ![v11770.toNat, 0, 0, 0]

def k0_chk633 (v11769 : BitVec 32) : Prop :=
  (∀ a, (k0_off662 v11769) a + S1x2x16x128.size a ≤ S112x2x16x128.size a)
theorem k0_off662_inb : ∀ (v11769 : BitVec 32) (k0_hw633 : k0_chk633 v11769), ∀ a, (k0_off662 v11769) a + S1x2x16x128.size a ≤ S112x2x16x128.size a := fun v11769 k0_hw633 => k0_hw633

def k0_off663 (v11773 : BitVec 32) : Fin 4 → Nat :=
  let v11774 : Index := Scalar.indexCast v11773
  let c0_8653 : Index := 0#32
  let c0_8654 : Index := 0#32
  let c0_8655 : Index := 0#32
  ![v11774.toNat, 0, 0, 0]

def k0_chk634 (v11773 : BitVec 32) : Prop :=
  (∀ a, (k0_off663 v11773) a + S1x2x16x128.size a ≤ S112x2x16x128.size a)
theorem k0_off663_inb : ∀ (v11773 : BitVec 32) (k0_hw634 : k0_chk634 v11773), ∀ a, (k0_off663 v11773) a + S1x2x16x128.size a ≤ S112x2x16x128.size a := fun v11773 k0_hw634 => k0_hw634

def k0_off664 (v11777 : BitVec 32) : Fin 4 → Nat :=
  let v11778 : Index := Scalar.indexCast v11777
  let c0_8657 : Index := 0#32
  let c0_8658 : Index := 0#32
  let c0_8659 : Index := 0#32
  ![v11778.toNat, 0, 0, 0]

def k0_chk635 (v11777 : BitVec 32) : Prop :=
  (∀ a, (k0_off664 v11777) a + S1x2x16x128.size a ≤ S112x2x16x128.size a)
theorem k0_off664_inb : ∀ (v11777 : BitVec 32) (k0_hw635 : k0_chk635 v11777), ∀ a, (k0_off664 v11777) a + S1x2x16x128.size a ≤ S112x2x16x128.size a := fun v11777 k0_hw635 => k0_hw635

def k0_off665 (v11781 : BitVec 32) : Fin 4 → Nat :=
  let v11782 : Index := Scalar.indexCast v11781
  let c0_8661 : Index := 0#32
  let c0_8662 : Index := 0#32
  let c0_8663 : Index := 0#32
  ![v11782.toNat, 0, 0, 0]

def k0_chk636 (v11781 : BitVec 32) : Prop :=
  (∀ a, (k0_off665 v11781) a + S1x2x16x128.size a ≤ S112x2x16x128.size a)
theorem k0_off665_inb : ∀ (v11781 : BitVec 32) (k0_hw636 : k0_chk636 v11781), ∀ a, (k0_off665 v11781) a + S1x2x16x128.size a ≤ S112x2x16x128.size a := fun v11781 k0_hw636 => k0_hw636

def k0_off666 (v11785 : BitVec 32) : Fin 4 → Nat :=
  let v11786 : Index := Scalar.indexCast v11785
  let c0_8665 : Index := 0#32
  let c0_8666 : Index := 0#32
  let c0_8667 : Index := 0#32
  ![v11786.toNat, 0, 0, 0]

def k0_chk637 (v11785 : BitVec 32) : Prop :=
  (∀ a, (k0_off666 v11785) a + S1x2x16x128.size a ≤ S112x2x16x128.size a)
theorem k0_off666_inb : ∀ (v11785 : BitVec 32) (k0_hw637 : k0_chk637 v11785), ∀ a, (k0_off666 v11785) a + S1x2x16x128.size a ≤ S112x2x16x128.size a := fun v11785 k0_hw637 => k0_hw637

def k0_off667 (v11812 : BitVec 32) : Fin 4 → Nat :=
  let v11813 : Index := Scalar.indexCast v11812
  let c0_8681 : Index := 0#32
  let c0_8682 : Index := 0#32
  let c0_8683 : Index := 0#32
  ![v11813.toNat, 0, 0, 0]

def k0_chk638 (v11812 : BitVec 32) : Prop :=
  (∀ a, (k0_off667 v11812) a + S1x2x16x128.size a ≤ S112x2x16x128.size a)
theorem k0_off667_inb : ∀ (v11812 : BitVec 32) (k0_hw638 : k0_chk638 v11812), ∀ a, (k0_off667 v11812) a + S1x2x16x128.size a ≤ S112x2x16x128.size a := fun v11812 k0_hw638 => k0_hw638

def k0_off668 (v11816 : BitVec 32) : Fin 4 → Nat :=
  let v11817 : Index := Scalar.indexCast v11816
  let c0_8685 : Index := 0#32
  let c0_8686 : Index := 0#32
  let c0_8687 : Index := 0#32
  ![v11817.toNat, 0, 0, 0]

def k0_chk639 (v11816 : BitVec 32) : Prop :=
  (∀ a, (k0_off668 v11816) a + S1x2x16x128.size a ≤ S112x2x16x128.size a)
theorem k0_off668_inb : ∀ (v11816 : BitVec 32) (k0_hw639 : k0_chk639 v11816), ∀ a, (k0_off668 v11816) a + S1x2x16x128.size a ≤ S112x2x16x128.size a := fun v11816 k0_hw639 => k0_hw639

def k0_off669 (v11820 : BitVec 32) : Fin 4 → Nat :=
  let v11821 : Index := Scalar.indexCast v11820
  let c0_8689 : Index := 0#32
  let c0_8690 : Index := 0#32
  let c0_8691 : Index := 0#32
  ![v11821.toNat, 0, 0, 0]

def k0_chk640 (v11820 : BitVec 32) : Prop :=
  (∀ a, (k0_off669 v11820) a + S1x2x16x128.size a ≤ S112x2x16x128.size a)
theorem k0_off669_inb : ∀ (v11820 : BitVec 32) (k0_hw640 : k0_chk640 v11820), ∀ a, (k0_off669 v11820) a + S1x2x16x128.size a ≤ S112x2x16x128.size a := fun v11820 k0_hw640 => k0_hw640

def k0_off670 (v11824 : BitVec 32) : Fin 4 → Nat :=
  let v11825 : Index := Scalar.indexCast v11824
  let c0_8693 : Index := 0#32
  let c0_8694 : Index := 0#32
  let c0_8695 : Index := 0#32
  ![v11825.toNat, 0, 0, 0]

def k0_chk641 (v11824 : BitVec 32) : Prop :=
  (∀ a, (k0_off670 v11824) a + S1x2x16x128.size a ≤ S112x2x16x128.size a)
theorem k0_off670_inb : ∀ (v11824 : BitVec 32) (k0_hw641 : k0_chk641 v11824), ∀ a, (k0_off670 v11824) a + S1x2x16x128.size a ≤ S112x2x16x128.size a := fun v11824 k0_hw641 => k0_hw641

def k0_off671 (v11828 : BitVec 32) : Fin 4 → Nat :=
  let v11829 : Index := Scalar.indexCast v11828
  let c0_8697 : Index := 0#32
  let c0_8698 : Index := 0#32
  let c0_8699 : Index := 0#32
  ![v11829.toNat, 0, 0, 0]

def k0_chk642 (v11828 : BitVec 32) : Prop :=
  (∀ a, (k0_off671 v11828) a + S1x2x16x128.size a ≤ S112x2x16x128.size a)
theorem k0_off671_inb : ∀ (v11828 : BitVec 32) (k0_hw642 : k0_chk642 v11828), ∀ a, (k0_off671 v11828) a + S1x2x16x128.size a ≤ S112x2x16x128.size a := fun v11828 k0_hw642 => k0_hw642

def k0_off672 (v11832 : BitVec 32) : Fin 4 → Nat :=
  let v11833 : Index := Scalar.indexCast v11832
  let c0_8701 : Index := 0#32
  let c0_8702 : Index := 0#32
  let c0_8703 : Index := 0#32
  ![v11833.toNat, 0, 0, 0]

def k0_chk643 (v11832 : BitVec 32) : Prop :=
  (∀ a, (k0_off672 v11832) a + S1x2x16x128.size a ≤ S112x2x16x128.size a)
theorem k0_off672_inb : ∀ (v11832 : BitVec 32) (k0_hw643 : k0_chk643 v11832), ∀ a, (k0_off672 v11832) a + S1x2x16x128.size a ≤ S112x2x16x128.size a := fun v11832 k0_hw643 => k0_hw643

def k0_off673 (v11836 : BitVec 32) : Fin 4 → Nat :=
  let v11837 : Index := Scalar.indexCast v11836
  let c0_8705 : Index := 0#32
  let c0_8706 : Index := 0#32
  let c0_8707 : Index := 0#32
  ![v11837.toNat, 0, 0, 0]

def k0_chk644 (v11836 : BitVec 32) : Prop :=
  (∀ a, (k0_off673 v11836) a + S1x2x16x128.size a ≤ S112x2x16x128.size a)
theorem k0_off673_inb : ∀ (v11836 : BitVec 32) (k0_hw644 : k0_chk644 v11836), ∀ a, (k0_off673 v11836) a + S1x2x16x128.size a ≤ S112x2x16x128.size a := fun v11836 k0_hw644 => k0_hw644

def k0_off674 (v11863 : BitVec 32) : Fin 4 → Nat :=
  let v11864 : Index := Scalar.indexCast v11863
  let c0_8721 : Index := 0#32
  let c0_8722 : Index := 0#32
  let c0_8723 : Index := 0#32
  ![v11864.toNat, 0, 0, 0]

def k0_chk645 (v11863 : BitVec 32) : Prop :=
  (∀ a, (k0_off674 v11863) a + S1x2x16x128.size a ≤ S112x2x16x128.size a)
theorem k0_off674_inb : ∀ (v11863 : BitVec 32) (k0_hw645 : k0_chk645 v11863), ∀ a, (k0_off674 v11863) a + S1x2x16x128.size a ≤ S112x2x16x128.size a := fun v11863 k0_hw645 => k0_hw645

def k0_off675 (v11867 : BitVec 32) : Fin 4 → Nat :=
  let v11868 : Index := Scalar.indexCast v11867
  let c0_8725 : Index := 0#32
  let c0_8726 : Index := 0#32
  let c0_8727 : Index := 0#32
  ![v11868.toNat, 0, 0, 0]

def k0_chk646 (v11867 : BitVec 32) : Prop :=
  (∀ a, (k0_off675 v11867) a + S1x2x16x128.size a ≤ S112x2x16x128.size a)
theorem k0_off675_inb : ∀ (v11867 : BitVec 32) (k0_hw646 : k0_chk646 v11867), ∀ a, (k0_off675 v11867) a + S1x2x16x128.size a ≤ S112x2x16x128.size a := fun v11867 k0_hw646 => k0_hw646

def k0_off676 (v11871 : BitVec 32) : Fin 4 → Nat :=
  let v11872 : Index := Scalar.indexCast v11871
  let c0_8729 : Index := 0#32
  let c0_8730 : Index := 0#32
  let c0_8731 : Index := 0#32
  ![v11872.toNat, 0, 0, 0]

def k0_chk647 (v11871 : BitVec 32) : Prop :=
  (∀ a, (k0_off676 v11871) a + S1x2x16x128.size a ≤ S112x2x16x128.size a)
theorem k0_off676_inb : ∀ (v11871 : BitVec 32) (k0_hw647 : k0_chk647 v11871), ∀ a, (k0_off676 v11871) a + S1x2x16x128.size a ≤ S112x2x16x128.size a := fun v11871 k0_hw647 => k0_hw647

def k0_off677 (v11875 : BitVec 32) : Fin 4 → Nat :=
  let v11876 : Index := Scalar.indexCast v11875
  let c0_8733 : Index := 0#32
  let c0_8734 : Index := 0#32
  let c0_8735 : Index := 0#32
  ![v11876.toNat, 0, 0, 0]

def k0_chk648 (v11875 : BitVec 32) : Prop :=
  (∀ a, (k0_off677 v11875) a + S1x2x16x128.size a ≤ S112x2x16x128.size a)
theorem k0_off677_inb : ∀ (v11875 : BitVec 32) (k0_hw648 : k0_chk648 v11875), ∀ a, (k0_off677 v11875) a + S1x2x16x128.size a ≤ S112x2x16x128.size a := fun v11875 k0_hw648 => k0_hw648

def k0_off678 (v11879 : BitVec 32) : Fin 4 → Nat :=
  let v11880 : Index := Scalar.indexCast v11879
  let c0_8737 : Index := 0#32
  let c0_8738 : Index := 0#32
  let c0_8739 : Index := 0#32
  ![v11880.toNat, 0, 0, 0]

def k0_chk649 (v11879 : BitVec 32) : Prop :=
  (∀ a, (k0_off678 v11879) a + S1x2x16x128.size a ≤ S112x2x16x128.size a)
theorem k0_off678_inb : ∀ (v11879 : BitVec 32) (k0_hw649 : k0_chk649 v11879), ∀ a, (k0_off678 v11879) a + S1x2x16x128.size a ≤ S112x2x16x128.size a := fun v11879 k0_hw649 => k0_hw649

def k0_off679 (v11883 : BitVec 32) : Fin 4 → Nat :=
  let v11884 : Index := Scalar.indexCast v11883
  let c0_8741 : Index := 0#32
  let c0_8742 : Index := 0#32
  let c0_8743 : Index := 0#32
  ![v11884.toNat, 0, 0, 0]

def k0_chk650 (v11883 : BitVec 32) : Prop :=
  (∀ a, (k0_off679 v11883) a + S1x2x16x128.size a ≤ S112x2x16x128.size a)
theorem k0_off679_inb : ∀ (v11883 : BitVec 32) (k0_hw650 : k0_chk650 v11883), ∀ a, (k0_off679 v11883) a + S1x2x16x128.size a ≤ S112x2x16x128.size a := fun v11883 k0_hw650 => k0_hw650

def k0_off680 (v11887 : BitVec 32) : Fin 4 → Nat :=
  let v11888 : Index := Scalar.indexCast v11887
  let c0_8745 : Index := 0#32
  let c0_8746 : Index := 0#32
  let c0_8747 : Index := 0#32
  ![v11888.toNat, 0, 0, 0]

def k0_chk651 (v11887 : BitVec 32) : Prop :=
  (∀ a, (k0_off680 v11887) a + S1x2x16x128.size a ≤ S112x2x16x128.size a)
theorem k0_off680_inb : ∀ (v11887 : BitVec 32) (k0_hw651 : k0_chk651 v11887), ∀ a, (k0_off680 v11887) a + S1x2x16x128.size a ≤ S112x2x16x128.size a := fun v11887 k0_hw651 => k0_hw651

def k0_off681 (v11914 : BitVec 32) : Fin 4 → Nat :=
  let v11915 : Index := Scalar.indexCast v11914
  let c0_8761 : Index := 0#32
  let c0_8762 : Index := 0#32
  let c0_8763 : Index := 0#32
  ![v11915.toNat, 0, 0, 0]

def k0_chk652 (v11914 : BitVec 32) : Prop :=
  (∀ a, (k0_off681 v11914) a + S1x2x16x128.size a ≤ S112x2x16x128.size a)
theorem k0_off681_inb : ∀ (v11914 : BitVec 32) (k0_hw652 : k0_chk652 v11914), ∀ a, (k0_off681 v11914) a + S1x2x16x128.size a ≤ S112x2x16x128.size a := fun v11914 k0_hw652 => k0_hw652

def k0_off682 (v11918 : BitVec 32) : Fin 4 → Nat :=
  let v11919 : Index := Scalar.indexCast v11918
  let c0_8765 : Index := 0#32
  let c0_8766 : Index := 0#32
  let c0_8767 : Index := 0#32
  ![v11919.toNat, 0, 0, 0]

def k0_chk653 (v11918 : BitVec 32) : Prop :=
  (∀ a, (k0_off682 v11918) a + S1x2x16x128.size a ≤ S112x2x16x128.size a)
theorem k0_off682_inb : ∀ (v11918 : BitVec 32) (k0_hw653 : k0_chk653 v11918), ∀ a, (k0_off682 v11918) a + S1x2x16x128.size a ≤ S112x2x16x128.size a := fun v11918 k0_hw653 => k0_hw653

def k0_off683 (v11922 : BitVec 32) : Fin 4 → Nat :=
  let v11923 : Index := Scalar.indexCast v11922
  let c0_8769 : Index := 0#32
  let c0_8770 : Index := 0#32
  let c0_8771 : Index := 0#32
  ![v11923.toNat, 0, 0, 0]

def k0_chk654 (v11922 : BitVec 32) : Prop :=
  (∀ a, (k0_off683 v11922) a + S1x2x16x128.size a ≤ S112x2x16x128.size a)
theorem k0_off683_inb : ∀ (v11922 : BitVec 32) (k0_hw654 : k0_chk654 v11922), ∀ a, (k0_off683 v11922) a + S1x2x16x128.size a ≤ S112x2x16x128.size a := fun v11922 k0_hw654 => k0_hw654

def k0_off684 (v11926 : BitVec 32) : Fin 4 → Nat :=
  let v11927 : Index := Scalar.indexCast v11926
  let c0_8773 : Index := 0#32
  let c0_8774 : Index := 0#32
  let c0_8775 : Index := 0#32
  ![v11927.toNat, 0, 0, 0]

def k0_chk655 (v11926 : BitVec 32) : Prop :=
  (∀ a, (k0_off684 v11926) a + S1x2x16x128.size a ≤ S112x2x16x128.size a)
theorem k0_off684_inb : ∀ (v11926 : BitVec 32) (k0_hw655 : k0_chk655 v11926), ∀ a, (k0_off684 v11926) a + S1x2x16x128.size a ≤ S112x2x16x128.size a := fun v11926 k0_hw655 => k0_hw655

def k0_off685 (v11930 : BitVec 32) : Fin 4 → Nat :=
  let v11931 : Index := Scalar.indexCast v11930
  let c0_8777 : Index := 0#32
  let c0_8778 : Index := 0#32
  let c0_8779 : Index := 0#32
  ![v11931.toNat, 0, 0, 0]

def k0_chk656 (v11930 : BitVec 32) : Prop :=
  (∀ a, (k0_off685 v11930) a + S1x2x16x128.size a ≤ S112x2x16x128.size a)
theorem k0_off685_inb : ∀ (v11930 : BitVec 32) (k0_hw656 : k0_chk656 v11930), ∀ a, (k0_off685 v11930) a + S1x2x16x128.size a ≤ S112x2x16x128.size a := fun v11930 k0_hw656 => k0_hw656

def k0_off686 (v11934 : BitVec 32) : Fin 4 → Nat :=
  let v11935 : Index := Scalar.indexCast v11934
  let c0_8781 : Index := 0#32
  let c0_8782 : Index := 0#32
  let c0_8783 : Index := 0#32
  ![v11935.toNat, 0, 0, 0]

def k0_chk657 (v11934 : BitVec 32) : Prop :=
  (∀ a, (k0_off686 v11934) a + S1x2x16x128.size a ≤ S112x2x16x128.size a)
theorem k0_off686_inb : ∀ (v11934 : BitVec 32) (k0_hw657 : k0_chk657 v11934), ∀ a, (k0_off686 v11934) a + S1x2x16x128.size a ≤ S112x2x16x128.size a := fun v11934 k0_hw657 => k0_hw657

def k0_off687 (v11938 : BitVec 32) : Fin 4 → Nat :=
  let v11939 : Index := Scalar.indexCast v11938
  let c0_8785 : Index := 0#32
  let c0_8786 : Index := 0#32
  let c0_8787 : Index := 0#32
  ![v11939.toNat, 0, 0, 0]

def k0_chk658 (v11938 : BitVec 32) : Prop :=
  (∀ a, (k0_off687 v11938) a + S1x2x16x128.size a ≤ S112x2x16x128.size a)
theorem k0_off687_inb : ∀ (v11938 : BitVec 32) (k0_hw658 : k0_chk658 v11938), ∀ a, (k0_off687 v11938) a + S1x2x16x128.size a ≤ S112x2x16x128.size a := fun v11938 k0_hw658 => k0_hw658

def k0_off688 (v11965 : BitVec 32) : Fin 4 → Nat :=
  let v11966 : Index := Scalar.indexCast v11965
  let c0_8801 : Index := 0#32
  let c0_8802 : Index := 0#32
  let c0_8803 : Index := 0#32
  ![v11966.toNat, 0, 0, 0]

def k0_chk659 (v11965 : BitVec 32) : Prop :=
  (∀ a, (k0_off688 v11965) a + S1x2x16x128.size a ≤ S112x2x16x128.size a)
theorem k0_off688_inb : ∀ (v11965 : BitVec 32) (k0_hw659 : k0_chk659 v11965), ∀ a, (k0_off688 v11965) a + S1x2x16x128.size a ≤ S112x2x16x128.size a := fun v11965 k0_hw659 => k0_hw659

def k0_off689 (v11969 : BitVec 32) : Fin 4 → Nat :=
  let v11970 : Index := Scalar.indexCast v11969
  let c0_8805 : Index := 0#32
  let c0_8806 : Index := 0#32
  let c0_8807 : Index := 0#32
  ![v11970.toNat, 0, 0, 0]

def k0_chk660 (v11969 : BitVec 32) : Prop :=
  (∀ a, (k0_off689 v11969) a + S1x2x16x128.size a ≤ S112x2x16x128.size a)
theorem k0_off689_inb : ∀ (v11969 : BitVec 32) (k0_hw660 : k0_chk660 v11969), ∀ a, (k0_off689 v11969) a + S1x2x16x128.size a ≤ S112x2x16x128.size a := fun v11969 k0_hw660 => k0_hw660

def k0_off690 (v11973 : BitVec 32) : Fin 4 → Nat :=
  let v11974 : Index := Scalar.indexCast v11973
  let c0_8809 : Index := 0#32
  let c0_8810 : Index := 0#32
  let c0_8811 : Index := 0#32
  ![v11974.toNat, 0, 0, 0]

def k0_chk661 (v11973 : BitVec 32) : Prop :=
  (∀ a, (k0_off690 v11973) a + S1x2x16x128.size a ≤ S112x2x16x128.size a)
theorem k0_off690_inb : ∀ (v11973 : BitVec 32) (k0_hw661 : k0_chk661 v11973), ∀ a, (k0_off690 v11973) a + S1x2x16x128.size a ≤ S112x2x16x128.size a := fun v11973 k0_hw661 => k0_hw661

def k0_off691 (v11977 : BitVec 32) : Fin 4 → Nat :=
  let v11978 : Index := Scalar.indexCast v11977
  let c0_8813 : Index := 0#32
  let c0_8814 : Index := 0#32
  let c0_8815 : Index := 0#32
  ![v11978.toNat, 0, 0, 0]

def k0_chk662 (v11977 : BitVec 32) : Prop :=
  (∀ a, (k0_off691 v11977) a + S1x2x16x128.size a ≤ S112x2x16x128.size a)
theorem k0_off691_inb : ∀ (v11977 : BitVec 32) (k0_hw662 : k0_chk662 v11977), ∀ a, (k0_off691 v11977) a + S1x2x16x128.size a ≤ S112x2x16x128.size a := fun v11977 k0_hw662 => k0_hw662

def k0_off692 (v11981 : BitVec 32) : Fin 4 → Nat :=
  let v11982 : Index := Scalar.indexCast v11981
  let c0_8817 : Index := 0#32
  let c0_8818 : Index := 0#32
  let c0_8819 : Index := 0#32
  ![v11982.toNat, 0, 0, 0]

def k0_chk663 (v11981 : BitVec 32) : Prop :=
  (∀ a, (k0_off692 v11981) a + S1x2x16x128.size a ≤ S112x2x16x128.size a)
theorem k0_off692_inb : ∀ (v11981 : BitVec 32) (k0_hw663 : k0_chk663 v11981), ∀ a, (k0_off692 v11981) a + S1x2x16x128.size a ≤ S112x2x16x128.size a := fun v11981 k0_hw663 => k0_hw663

def k0_off693 (v11985 : BitVec 32) : Fin 4 → Nat :=
  let v11986 : Index := Scalar.indexCast v11985
  let c0_8821 : Index := 0#32
  let c0_8822 : Index := 0#32
  let c0_8823 : Index := 0#32
  ![v11986.toNat, 0, 0, 0]

def k0_chk664 (v11985 : BitVec 32) : Prop :=
  (∀ a, (k0_off693 v11985) a + S1x2x16x128.size a ≤ S112x2x16x128.size a)
theorem k0_off693_inb : ∀ (v11985 : BitVec 32) (k0_hw664 : k0_chk664 v11985), ∀ a, (k0_off693 v11985) a + S1x2x16x128.size a ≤ S112x2x16x128.size a := fun v11985 k0_hw664 => k0_hw664

def k0_off694 (v11989 : BitVec 32) : Fin 4 → Nat :=
  let v11990 : Index := Scalar.indexCast v11989
  let c0_8825 : Index := 0#32
  let c0_8826 : Index := 0#32
  let c0_8827 : Index := 0#32
  ![v11990.toNat, 0, 0, 0]

def k0_chk665 (v11989 : BitVec 32) : Prop :=
  (∀ a, (k0_off694 v11989) a + S1x2x16x128.size a ≤ S112x2x16x128.size a)
theorem k0_off694_inb : ∀ (v11989 : BitVec 32) (k0_hw665 : k0_chk665 v11989), ∀ a, (k0_off694 v11989) a + S1x2x16x128.size a ≤ S112x2x16x128.size a := fun v11989 k0_hw665 => k0_hw665

def k0_off695 (v12016 : BitVec 32) : Fin 4 → Nat :=
  let v12017 : Index := Scalar.indexCast v12016
  let c0_8841 : Index := 0#32
  let c0_8842 : Index := 0#32
  let c0_8843 : Index := 0#32
  ![v12017.toNat, 0, 0, 0]

def k0_chk666 (v12016 : BitVec 32) : Prop :=
  (∀ a, (k0_off695 v12016) a + S1x2x16x128.size a ≤ S112x2x16x128.size a)
theorem k0_off695_inb : ∀ (v12016 : BitVec 32) (k0_hw666 : k0_chk666 v12016), ∀ a, (k0_off695 v12016) a + S1x2x16x128.size a ≤ S112x2x16x128.size a := fun v12016 k0_hw666 => k0_hw666

def k0_off696 (v12020 : BitVec 32) : Fin 4 → Nat :=
  let v12021 : Index := Scalar.indexCast v12020
  let c0_8845 : Index := 0#32
  let c0_8846 : Index := 0#32
  let c0_8847 : Index := 0#32
  ![v12021.toNat, 0, 0, 0]

def k0_chk667 (v12020 : BitVec 32) : Prop :=
  (∀ a, (k0_off696 v12020) a + S1x2x16x128.size a ≤ S112x2x16x128.size a)
theorem k0_off696_inb : ∀ (v12020 : BitVec 32) (k0_hw667 : k0_chk667 v12020), ∀ a, (k0_off696 v12020) a + S1x2x16x128.size a ≤ S112x2x16x128.size a := fun v12020 k0_hw667 => k0_hw667

def k0_off697 (v12024 : BitVec 32) : Fin 4 → Nat :=
  let v12025 : Index := Scalar.indexCast v12024
  let c0_8849 : Index := 0#32
  let c0_8850 : Index := 0#32
  let c0_8851 : Index := 0#32
  ![v12025.toNat, 0, 0, 0]

def k0_chk668 (v12024 : BitVec 32) : Prop :=
  (∀ a, (k0_off697 v12024) a + S1x2x16x128.size a ≤ S112x2x16x128.size a)
theorem k0_off697_inb : ∀ (v12024 : BitVec 32) (k0_hw668 : k0_chk668 v12024), ∀ a, (k0_off697 v12024) a + S1x2x16x128.size a ≤ S112x2x16x128.size a := fun v12024 k0_hw668 => k0_hw668

def k0_off698 (v12028 : BitVec 32) : Fin 4 → Nat :=
  let v12029 : Index := Scalar.indexCast v12028
  let c0_8853 : Index := 0#32
  let c0_8854 : Index := 0#32
  let c0_8855 : Index := 0#32
  ![v12029.toNat, 0, 0, 0]

def k0_chk669 (v12028 : BitVec 32) : Prop :=
  (∀ a, (k0_off698 v12028) a + S1x2x16x128.size a ≤ S112x2x16x128.size a)
theorem k0_off698_inb : ∀ (v12028 : BitVec 32) (k0_hw669 : k0_chk669 v12028), ∀ a, (k0_off698 v12028) a + S1x2x16x128.size a ≤ S112x2x16x128.size a := fun v12028 k0_hw669 => k0_hw669

def k0_off699 (v12032 : BitVec 32) : Fin 4 → Nat :=
  let v12033 : Index := Scalar.indexCast v12032
  let c0_8857 : Index := 0#32
  let c0_8858 : Index := 0#32
  let c0_8859 : Index := 0#32
  ![v12033.toNat, 0, 0, 0]

def k0_chk670 (v12032 : BitVec 32) : Prop :=
  (∀ a, (k0_off699 v12032) a + S1x2x16x128.size a ≤ S112x2x16x128.size a)
theorem k0_off699_inb : ∀ (v12032 : BitVec 32) (k0_hw670 : k0_chk670 v12032), ∀ a, (k0_off699 v12032) a + S1x2x16x128.size a ≤ S112x2x16x128.size a := fun v12032 k0_hw670 => k0_hw670

def k0_off700 (v12036 : BitVec 32) : Fin 4 → Nat :=
  let v12037 : Index := Scalar.indexCast v12036
  let c0_8861 : Index := 0#32
  let c0_8862 : Index := 0#32
  let c0_8863 : Index := 0#32
  ![v12037.toNat, 0, 0, 0]

def k0_chk671 (v12036 : BitVec 32) : Prop :=
  (∀ a, (k0_off700 v12036) a + S1x2x16x128.size a ≤ S112x2x16x128.size a)
theorem k0_off700_inb : ∀ (v12036 : BitVec 32) (k0_hw671 : k0_chk671 v12036), ∀ a, (k0_off700 v12036) a + S1x2x16x128.size a ≤ S112x2x16x128.size a := fun v12036 k0_hw671 => k0_hw671

def k0_off701 (v12040 : BitVec 32) : Fin 4 → Nat :=
  let v12041 : Index := Scalar.indexCast v12040
  let c0_8865 : Index := 0#32
  let c0_8866 : Index := 0#32
  let c0_8867 : Index := 0#32
  ![v12041.toNat, 0, 0, 0]

def k0_chk672 (v12040 : BitVec 32) : Prop :=
  (∀ a, (k0_off701 v12040) a + S1x2x16x128.size a ≤ S112x2x16x128.size a)
theorem k0_off701_inb : ∀ (v12040 : BitVec 32) (k0_hw672 : k0_chk672 v12040), ∀ a, (k0_off701 v12040) a + S1x2x16x128.size a ≤ S112x2x16x128.size a := fun v12040 k0_hw672 => k0_hw672

def k0_off702 (v12067 : BitVec 32) : Fin 4 → Nat :=
  let v12068 : Index := Scalar.indexCast v12067
  let c0_8881 : Index := 0#32
  let c0_8882 : Index := 0#32
  let c0_8883 : Index := 0#32
  ![v12068.toNat, 0, 0, 0]

def k0_chk673 (v12067 : BitVec 32) : Prop :=
  (∀ a, (k0_off702 v12067) a + S1x2x16x128.size a ≤ S112x2x16x128.size a)
theorem k0_off702_inb : ∀ (v12067 : BitVec 32) (k0_hw673 : k0_chk673 v12067), ∀ a, (k0_off702 v12067) a + S1x2x16x128.size a ≤ S112x2x16x128.size a := fun v12067 k0_hw673 => k0_hw673

def k0_off703 (v12071 : BitVec 32) : Fin 4 → Nat :=
  let v12072 : Index := Scalar.indexCast v12071
  let c0_8885 : Index := 0#32
  let c0_8886 : Index := 0#32
  let c0_8887 : Index := 0#32
  ![v12072.toNat, 0, 0, 0]

def k0_chk674 (v12071 : BitVec 32) : Prop :=
  (∀ a, (k0_off703 v12071) a + S1x2x16x128.size a ≤ S112x2x16x128.size a)
theorem k0_off703_inb : ∀ (v12071 : BitVec 32) (k0_hw674 : k0_chk674 v12071), ∀ a, (k0_off703 v12071) a + S1x2x16x128.size a ≤ S112x2x16x128.size a := fun v12071 k0_hw674 => k0_hw674

def k0_off704 (v12075 : BitVec 32) : Fin 4 → Nat :=
  let v12076 : Index := Scalar.indexCast v12075
  let c0_8889 : Index := 0#32
  let c0_8890 : Index := 0#32
  let c0_8891 : Index := 0#32
  ![v12076.toNat, 0, 0, 0]

def k0_chk675 (v12075 : BitVec 32) : Prop :=
  (∀ a, (k0_off704 v12075) a + S1x2x16x128.size a ≤ S112x2x16x128.size a)
theorem k0_off704_inb : ∀ (v12075 : BitVec 32) (k0_hw675 : k0_chk675 v12075), ∀ a, (k0_off704 v12075) a + S1x2x16x128.size a ≤ S112x2x16x128.size a := fun v12075 k0_hw675 => k0_hw675

def k0_off705 (v12079 : BitVec 32) : Fin 4 → Nat :=
  let v12080 : Index := Scalar.indexCast v12079
  let c0_8893 : Index := 0#32
  let c0_8894 : Index := 0#32
  let c0_8895 : Index := 0#32
  ![v12080.toNat, 0, 0, 0]

def k0_chk676 (v12079 : BitVec 32) : Prop :=
  (∀ a, (k0_off705 v12079) a + S1x2x16x128.size a ≤ S112x2x16x128.size a)
theorem k0_off705_inb : ∀ (v12079 : BitVec 32) (k0_hw676 : k0_chk676 v12079), ∀ a, (k0_off705 v12079) a + S1x2x16x128.size a ≤ S112x2x16x128.size a := fun v12079 k0_hw676 => k0_hw676

def k0_off706 (v12083 : BitVec 32) : Fin 4 → Nat :=
  let v12084 : Index := Scalar.indexCast v12083
  let c0_8897 : Index := 0#32
  let c0_8898 : Index := 0#32
  let c0_8899 : Index := 0#32
  ![v12084.toNat, 0, 0, 0]

def k0_chk677 (v12083 : BitVec 32) : Prop :=
  (∀ a, (k0_off706 v12083) a + S1x2x16x128.size a ≤ S112x2x16x128.size a)
theorem k0_off706_inb : ∀ (v12083 : BitVec 32) (k0_hw677 : k0_chk677 v12083), ∀ a, (k0_off706 v12083) a + S1x2x16x128.size a ≤ S112x2x16x128.size a := fun v12083 k0_hw677 => k0_hw677

def k0_off707 (v12087 : BitVec 32) : Fin 4 → Nat :=
  let v12088 : Index := Scalar.indexCast v12087
  let c0_8901 : Index := 0#32
  let c0_8902 : Index := 0#32
  let c0_8903 : Index := 0#32
  ![v12088.toNat, 0, 0, 0]

def k0_chk678 (v12087 : BitVec 32) : Prop :=
  (∀ a, (k0_off707 v12087) a + S1x2x16x128.size a ≤ S112x2x16x128.size a)
theorem k0_off707_inb : ∀ (v12087 : BitVec 32) (k0_hw678 : k0_chk678 v12087), ∀ a, (k0_off707 v12087) a + S1x2x16x128.size a ≤ S112x2x16x128.size a := fun v12087 k0_hw678 => k0_hw678

def k0_off708 (v12091 : BitVec 32) : Fin 4 → Nat :=
  let v12092 : Index := Scalar.indexCast v12091
  let c0_8905 : Index := 0#32
  let c0_8906 : Index := 0#32
  let c0_8907 : Index := 0#32
  ![v12092.toNat, 0, 0, 0]

def k0_chk679 (v12091 : BitVec 32) : Prop :=
  (∀ a, (k0_off708 v12091) a + S1x2x16x128.size a ≤ S112x2x16x128.size a)
theorem k0_off708_inb : ∀ (v12091 : BitVec 32) (k0_hw679 : k0_chk679 v12091), ∀ a, (k0_off708 v12091) a + S1x2x16x128.size a ≤ S112x2x16x128.size a := fun v12091 k0_hw679 => k0_hw679

def k0_off709 (v12118 : BitVec 32) : Fin 4 → Nat :=
  let v12119 : Index := Scalar.indexCast v12118
  let c0_8921 : Index := 0#32
  let c0_8922 : Index := 0#32
  let c0_8923 : Index := 0#32
  ![v12119.toNat, 0, 0, 0]

def k0_chk680 (v12118 : BitVec 32) : Prop :=
  (∀ a, (k0_off709 v12118) a + S1x2x16x128.size a ≤ S112x2x16x128.size a)
theorem k0_off709_inb : ∀ (v12118 : BitVec 32) (k0_hw680 : k0_chk680 v12118), ∀ a, (k0_off709 v12118) a + S1x2x16x128.size a ≤ S112x2x16x128.size a := fun v12118 k0_hw680 => k0_hw680

def k0_off710 (v12122 : BitVec 32) : Fin 4 → Nat :=
  let v12123 : Index := Scalar.indexCast v12122
  let c0_8925 : Index := 0#32
  let c0_8926 : Index := 0#32
  let c0_8927 : Index := 0#32
  ![v12123.toNat, 0, 0, 0]

def k0_chk681 (v12122 : BitVec 32) : Prop :=
  (∀ a, (k0_off710 v12122) a + S1x2x16x128.size a ≤ S112x2x16x128.size a)
theorem k0_off710_inb : ∀ (v12122 : BitVec 32) (k0_hw681 : k0_chk681 v12122), ∀ a, (k0_off710 v12122) a + S1x2x16x128.size a ≤ S112x2x16x128.size a := fun v12122 k0_hw681 => k0_hw681

def k0_off711 (v12126 : BitVec 32) : Fin 4 → Nat :=
  let v12127 : Index := Scalar.indexCast v12126
  let c0_8929 : Index := 0#32
  let c0_8930 : Index := 0#32
  let c0_8931 : Index := 0#32
  ![v12127.toNat, 0, 0, 0]

def k0_chk682 (v12126 : BitVec 32) : Prop :=
  (∀ a, (k0_off711 v12126) a + S1x2x16x128.size a ≤ S112x2x16x128.size a)
theorem k0_off711_inb : ∀ (v12126 : BitVec 32) (k0_hw682 : k0_chk682 v12126), ∀ a, (k0_off711 v12126) a + S1x2x16x128.size a ≤ S112x2x16x128.size a := fun v12126 k0_hw682 => k0_hw682

def k0_off712 (v12130 : BitVec 32) : Fin 4 → Nat :=
  let v12131 : Index := Scalar.indexCast v12130
  let c0_8933 : Index := 0#32
  let c0_8934 : Index := 0#32
  let c0_8935 : Index := 0#32
  ![v12131.toNat, 0, 0, 0]

def k0_chk683 (v12130 : BitVec 32) : Prop :=
  (∀ a, (k0_off712 v12130) a + S1x2x16x128.size a ≤ S112x2x16x128.size a)
theorem k0_off712_inb : ∀ (v12130 : BitVec 32) (k0_hw683 : k0_chk683 v12130), ∀ a, (k0_off712 v12130) a + S1x2x16x128.size a ≤ S112x2x16x128.size a := fun v12130 k0_hw683 => k0_hw683

def k0_off713 (v12134 : BitVec 32) : Fin 4 → Nat :=
  let v12135 : Index := Scalar.indexCast v12134
  let c0_8937 : Index := 0#32
  let c0_8938 : Index := 0#32
  let c0_8939 : Index := 0#32
  ![v12135.toNat, 0, 0, 0]

def k0_chk684 (v12134 : BitVec 32) : Prop :=
  (∀ a, (k0_off713 v12134) a + S1x2x16x128.size a ≤ S112x2x16x128.size a)
theorem k0_off713_inb : ∀ (v12134 : BitVec 32) (k0_hw684 : k0_chk684 v12134), ∀ a, (k0_off713 v12134) a + S1x2x16x128.size a ≤ S112x2x16x128.size a := fun v12134 k0_hw684 => k0_hw684

def k0_off714 (v12138 : BitVec 32) : Fin 4 → Nat :=
  let v12139 : Index := Scalar.indexCast v12138
  let c0_8941 : Index := 0#32
  let c0_8942 : Index := 0#32
  let c0_8943 : Index := 0#32
  ![v12139.toNat, 0, 0, 0]

def k0_chk685 (v12138 : BitVec 32) : Prop :=
  (∀ a, (k0_off714 v12138) a + S1x2x16x128.size a ≤ S112x2x16x128.size a)
theorem k0_off714_inb : ∀ (v12138 : BitVec 32) (k0_hw685 : k0_chk685 v12138), ∀ a, (k0_off714 v12138) a + S1x2x16x128.size a ≤ S112x2x16x128.size a := fun v12138 k0_hw685 => k0_hw685

def k0_off715 (v12142 : BitVec 32) : Fin 4 → Nat :=
  let v12143 : Index := Scalar.indexCast v12142
  let c0_8945 : Index := 0#32
  let c0_8946 : Index := 0#32
  let c0_8947 : Index := 0#32
  ![v12143.toNat, 0, 0, 0]

def k0_chk686 (v12142 : BitVec 32) : Prop :=
  (∀ a, (k0_off715 v12142) a + S1x2x16x128.size a ≤ S112x2x16x128.size a)
theorem k0_off715_inb : ∀ (v12142 : BitVec 32) (k0_hw686 : k0_chk686 v12142), ∀ a, (k0_off715 v12142) a + S1x2x16x128.size a ≤ S112x2x16x128.size a := fun v12142 k0_hw686 => k0_hw686

def k0_off716 (v12169 : BitVec 32) : Fin 4 → Nat :=
  let v12170 : Index := Scalar.indexCast v12169
  let c0_8961 : Index := 0#32
  let c0_8962 : Index := 0#32
  let c0_8963 : Index := 0#32
  ![v12170.toNat, 0, 0, 0]

def k0_chk687 (v12169 : BitVec 32) : Prop :=
  (∀ a, (k0_off716 v12169) a + S1x2x16x128.size a ≤ S112x2x16x128.size a)
theorem k0_off716_inb : ∀ (v12169 : BitVec 32) (k0_hw687 : k0_chk687 v12169), ∀ a, (k0_off716 v12169) a + S1x2x16x128.size a ≤ S112x2x16x128.size a := fun v12169 k0_hw687 => k0_hw687

def k0_off717 (v12173 : BitVec 32) : Fin 4 → Nat :=
  let v12174 : Index := Scalar.indexCast v12173
  let c0_8965 : Index := 0#32
  let c0_8966 : Index := 0#32
  let c0_8967 : Index := 0#32
  ![v12174.toNat, 0, 0, 0]

def k0_chk688 (v12173 : BitVec 32) : Prop :=
  (∀ a, (k0_off717 v12173) a + S1x2x16x128.size a ≤ S112x2x16x128.size a)
theorem k0_off717_inb : ∀ (v12173 : BitVec 32) (k0_hw688 : k0_chk688 v12173), ∀ a, (k0_off717 v12173) a + S1x2x16x128.size a ≤ S112x2x16x128.size a := fun v12173 k0_hw688 => k0_hw688

def k0_off718 (v12177 : BitVec 32) : Fin 4 → Nat :=
  let v12178 : Index := Scalar.indexCast v12177
  let c0_8969 : Index := 0#32
  let c0_8970 : Index := 0#32
  let c0_8971 : Index := 0#32
  ![v12178.toNat, 0, 0, 0]

def k0_chk689 (v12177 : BitVec 32) : Prop :=
  (∀ a, (k0_off718 v12177) a + S1x2x16x128.size a ≤ S112x2x16x128.size a)
theorem k0_off718_inb : ∀ (v12177 : BitVec 32) (k0_hw689 : k0_chk689 v12177), ∀ a, (k0_off718 v12177) a + S1x2x16x128.size a ≤ S112x2x16x128.size a := fun v12177 k0_hw689 => k0_hw689

def k0_off719 (v12181 : BitVec 32) : Fin 4 → Nat :=
  let v12182 : Index := Scalar.indexCast v12181
  let c0_8973 : Index := 0#32
  let c0_8974 : Index := 0#32
  let c0_8975 : Index := 0#32
  ![v12182.toNat, 0, 0, 0]

def k0_chk690 (v12181 : BitVec 32) : Prop :=
  (∀ a, (k0_off719 v12181) a + S1x2x16x128.size a ≤ S112x2x16x128.size a)
theorem k0_off719_inb : ∀ (v12181 : BitVec 32) (k0_hw690 : k0_chk690 v12181), ∀ a, (k0_off719 v12181) a + S1x2x16x128.size a ≤ S112x2x16x128.size a := fun v12181 k0_hw690 => k0_hw690

def k0_off720 (v12185 : BitVec 32) : Fin 4 → Nat :=
  let v12186 : Index := Scalar.indexCast v12185
  let c0_8977 : Index := 0#32
  let c0_8978 : Index := 0#32
  let c0_8979 : Index := 0#32
  ![v12186.toNat, 0, 0, 0]

def k0_chk691 (v12185 : BitVec 32) : Prop :=
  (∀ a, (k0_off720 v12185) a + S1x2x16x128.size a ≤ S112x2x16x128.size a)
theorem k0_off720_inb : ∀ (v12185 : BitVec 32) (k0_hw691 : k0_chk691 v12185), ∀ a, (k0_off720 v12185) a + S1x2x16x128.size a ≤ S112x2x16x128.size a := fun v12185 k0_hw691 => k0_hw691

def k0_off721 (v12189 : BitVec 32) : Fin 4 → Nat :=
  let v12190 : Index := Scalar.indexCast v12189
  let c0_8981 : Index := 0#32
  let c0_8982 : Index := 0#32
  let c0_8983 : Index := 0#32
  ![v12190.toNat, 0, 0, 0]

def k0_chk692 (v12189 : BitVec 32) : Prop :=
  (∀ a, (k0_off721 v12189) a + S1x2x16x128.size a ≤ S112x2x16x128.size a)
theorem k0_off721_inb : ∀ (v12189 : BitVec 32) (k0_hw692 : k0_chk692 v12189), ∀ a, (k0_off721 v12189) a + S1x2x16x128.size a ≤ S112x2x16x128.size a := fun v12189 k0_hw692 => k0_hw692

def k0_off722 (v12193 : BitVec 32) : Fin 4 → Nat :=
  let v12194 : Index := Scalar.indexCast v12193
  let c0_8985 : Index := 0#32
  let c0_8986 : Index := 0#32
  let c0_8987 : Index := 0#32
  ![v12194.toNat, 0, 0, 0]

def k0_chk693 (v12193 : BitVec 32) : Prop :=
  (∀ a, (k0_off722 v12193) a + S1x2x16x128.size a ≤ S112x2x16x128.size a)
theorem k0_off722_inb : ∀ (v12193 : BitVec 32) (k0_hw693 : k0_chk693 v12193), ∀ a, (k0_off722 v12193) a + S1x2x16x128.size a ≤ S112x2x16x128.size a := fun v12193 k0_hw693 => k0_hw693

def k0_off723 (v12220 : BitVec 32) : Fin 4 → Nat :=
  let v12221 : Index := Scalar.indexCast v12220
  let c0_9001 : Index := 0#32
  let c0_9002 : Index := 0#32
  let c0_9003 : Index := 0#32
  ![v12221.toNat, 0, 0, 0]

def k0_chk694 (v12220 : BitVec 32) : Prop :=
  (∀ a, (k0_off723 v12220) a + S1x2x16x128.size a ≤ S112x2x16x128.size a)
theorem k0_off723_inb : ∀ (v12220 : BitVec 32) (k0_hw694 : k0_chk694 v12220), ∀ a, (k0_off723 v12220) a + S1x2x16x128.size a ≤ S112x2x16x128.size a := fun v12220 k0_hw694 => k0_hw694

def k0_off724 (v12224 : BitVec 32) : Fin 4 → Nat :=
  let v12225 : Index := Scalar.indexCast v12224
  let c0_9005 : Index := 0#32
  let c0_9006 : Index := 0#32
  let c0_9007 : Index := 0#32
  ![v12225.toNat, 0, 0, 0]

def k0_chk695 (v12224 : BitVec 32) : Prop :=
  (∀ a, (k0_off724 v12224) a + S1x2x16x128.size a ≤ S112x2x16x128.size a)
theorem k0_off724_inb : ∀ (v12224 : BitVec 32) (k0_hw695 : k0_chk695 v12224), ∀ a, (k0_off724 v12224) a + S1x2x16x128.size a ≤ S112x2x16x128.size a := fun v12224 k0_hw695 => k0_hw695

def k0_off725 (v12228 : BitVec 32) : Fin 4 → Nat :=
  let v12229 : Index := Scalar.indexCast v12228
  let c0_9009 : Index := 0#32
  let c0_9010 : Index := 0#32
  let c0_9011 : Index := 0#32
  ![v12229.toNat, 0, 0, 0]

def k0_chk696 (v12228 : BitVec 32) : Prop :=
  (∀ a, (k0_off725 v12228) a + S1x2x16x128.size a ≤ S112x2x16x128.size a)
theorem k0_off725_inb : ∀ (v12228 : BitVec 32) (k0_hw696 : k0_chk696 v12228), ∀ a, (k0_off725 v12228) a + S1x2x16x128.size a ≤ S112x2x16x128.size a := fun v12228 k0_hw696 => k0_hw696

def k0_off726 (v12232 : BitVec 32) : Fin 4 → Nat :=
  let v12233 : Index := Scalar.indexCast v12232
  let c0_9013 : Index := 0#32
  let c0_9014 : Index := 0#32
  let c0_9015 : Index := 0#32
  ![v12233.toNat, 0, 0, 0]

def k0_chk697 (v12232 : BitVec 32) : Prop :=
  (∀ a, (k0_off726 v12232) a + S1x2x16x128.size a ≤ S112x2x16x128.size a)
theorem k0_off726_inb : ∀ (v12232 : BitVec 32) (k0_hw697 : k0_chk697 v12232), ∀ a, (k0_off726 v12232) a + S1x2x16x128.size a ≤ S112x2x16x128.size a := fun v12232 k0_hw697 => k0_hw697

def k0_off727 (v12236 : BitVec 32) : Fin 4 → Nat :=
  let v12237 : Index := Scalar.indexCast v12236
  let c0_9017 : Index := 0#32
  let c0_9018 : Index := 0#32
  let c0_9019 : Index := 0#32
  ![v12237.toNat, 0, 0, 0]

def k0_chk698 (v12236 : BitVec 32) : Prop :=
  (∀ a, (k0_off727 v12236) a + S1x2x16x128.size a ≤ S112x2x16x128.size a)
theorem k0_off727_inb : ∀ (v12236 : BitVec 32) (k0_hw698 : k0_chk698 v12236), ∀ a, (k0_off727 v12236) a + S1x2x16x128.size a ≤ S112x2x16x128.size a := fun v12236 k0_hw698 => k0_hw698

def k0_off728 (v12240 : BitVec 32) : Fin 4 → Nat :=
  let v12241 : Index := Scalar.indexCast v12240
  let c0_9021 : Index := 0#32
  let c0_9022 : Index := 0#32
  let c0_9023 : Index := 0#32
  ![v12241.toNat, 0, 0, 0]

def k0_chk699 (v12240 : BitVec 32) : Prop :=
  (∀ a, (k0_off728 v12240) a + S1x2x16x128.size a ≤ S112x2x16x128.size a)
theorem k0_off728_inb : ∀ (v12240 : BitVec 32) (k0_hw699 : k0_chk699 v12240), ∀ a, (k0_off728 v12240) a + S1x2x16x128.size a ≤ S112x2x16x128.size a := fun v12240 k0_hw699 => k0_hw699

def k0_off729 (v12244 : BitVec 32) : Fin 4 → Nat :=
  let v12245 : Index := Scalar.indexCast v12244
  let c0_9025 : Index := 0#32
  let c0_9026 : Index := 0#32
  let c0_9027 : Index := 0#32
  ![v12245.toNat, 0, 0, 0]

def k0_chk700 (v12244 : BitVec 32) : Prop :=
  (∀ a, (k0_off729 v12244) a + S1x2x16x128.size a ≤ S112x2x16x128.size a)
theorem k0_off729_inb : ∀ (v12244 : BitVec 32) (k0_hw700 : k0_chk700 v12244), ∀ a, (k0_off729 v12244) a + S1x2x16x128.size a ≤ S112x2x16x128.size a := fun v12244 k0_hw700 => k0_hw700

def k0_off730 (v12271 : BitVec 32) : Fin 4 → Nat :=
  let v12272 : Index := Scalar.indexCast v12271
  let c0_9041 : Index := 0#32
  let c0_9042 : Index := 0#32
  let c0_9043 : Index := 0#32
  ![v12272.toNat, 0, 0, 0]

def k0_chk701 (v12271 : BitVec 32) : Prop :=
  (∀ a, (k0_off730 v12271) a + S1x2x16x128.size a ≤ S112x2x16x128.size a)
theorem k0_off730_inb : ∀ (v12271 : BitVec 32) (k0_hw701 : k0_chk701 v12271), ∀ a, (k0_off730 v12271) a + S1x2x16x128.size a ≤ S112x2x16x128.size a := fun v12271 k0_hw701 => k0_hw701

def k0_off731 (v12275 : BitVec 32) : Fin 4 → Nat :=
  let v12276 : Index := Scalar.indexCast v12275
  let c0_9045 : Index := 0#32
  let c0_9046 : Index := 0#32
  let c0_9047 : Index := 0#32
  ![v12276.toNat, 0, 0, 0]

def k0_chk702 (v12275 : BitVec 32) : Prop :=
  (∀ a, (k0_off731 v12275) a + S1x2x16x128.size a ≤ S112x2x16x128.size a)
theorem k0_off731_inb : ∀ (v12275 : BitVec 32) (k0_hw702 : k0_chk702 v12275), ∀ a, (k0_off731 v12275) a + S1x2x16x128.size a ≤ S112x2x16x128.size a := fun v12275 k0_hw702 => k0_hw702

def k0_off732 (v12279 : BitVec 32) : Fin 4 → Nat :=
  let v12280 : Index := Scalar.indexCast v12279
  let c0_9049 : Index := 0#32
  let c0_9050 : Index := 0#32
  let c0_9051 : Index := 0#32
  ![v12280.toNat, 0, 0, 0]

def k0_chk703 (v12279 : BitVec 32) : Prop :=
  (∀ a, (k0_off732 v12279) a + S1x2x16x128.size a ≤ S112x2x16x128.size a)
theorem k0_off732_inb : ∀ (v12279 : BitVec 32) (k0_hw703 : k0_chk703 v12279), ∀ a, (k0_off732 v12279) a + S1x2x16x128.size a ≤ S112x2x16x128.size a := fun v12279 k0_hw703 => k0_hw703

def k0_off733 (v12283 : BitVec 32) : Fin 4 → Nat :=
  let v12284 : Index := Scalar.indexCast v12283
  let c0_9053 : Index := 0#32
  let c0_9054 : Index := 0#32
  let c0_9055 : Index := 0#32
  ![v12284.toNat, 0, 0, 0]

def k0_chk704 (v12283 : BitVec 32) : Prop :=
  (∀ a, (k0_off733 v12283) a + S1x2x16x128.size a ≤ S112x2x16x128.size a)
theorem k0_off733_inb : ∀ (v12283 : BitVec 32) (k0_hw704 : k0_chk704 v12283), ∀ a, (k0_off733 v12283) a + S1x2x16x128.size a ≤ S112x2x16x128.size a := fun v12283 k0_hw704 => k0_hw704

def k0_off734 (v12287 : BitVec 32) : Fin 4 → Nat :=
  let v12288 : Index := Scalar.indexCast v12287
  let c0_9057 : Index := 0#32
  let c0_9058 : Index := 0#32
  let c0_9059 : Index := 0#32
  ![v12288.toNat, 0, 0, 0]

def k0_chk705 (v12287 : BitVec 32) : Prop :=
  (∀ a, (k0_off734 v12287) a + S1x2x16x128.size a ≤ S112x2x16x128.size a)
theorem k0_off734_inb : ∀ (v12287 : BitVec 32) (k0_hw705 : k0_chk705 v12287), ∀ a, (k0_off734 v12287) a + S1x2x16x128.size a ≤ S112x2x16x128.size a := fun v12287 k0_hw705 => k0_hw705

def k0_off735 (v12291 : BitVec 32) : Fin 4 → Nat :=
  let v12292 : Index := Scalar.indexCast v12291
  let c0_9061 : Index := 0#32
  let c0_9062 : Index := 0#32
  let c0_9063 : Index := 0#32
  ![v12292.toNat, 0, 0, 0]

def k0_chk706 (v12291 : BitVec 32) : Prop :=
  (∀ a, (k0_off735 v12291) a + S1x2x16x128.size a ≤ S112x2x16x128.size a)
theorem k0_off735_inb : ∀ (v12291 : BitVec 32) (k0_hw706 : k0_chk706 v12291), ∀ a, (k0_off735 v12291) a + S1x2x16x128.size a ≤ S112x2x16x128.size a := fun v12291 k0_hw706 => k0_hw706

def k0_off736 (v12295 : BitVec 32) : Fin 4 → Nat :=
  let v12296 : Index := Scalar.indexCast v12295
  let c0_9065 : Index := 0#32
  let c0_9066 : Index := 0#32
  let c0_9067 : Index := 0#32
  ![v12296.toNat, 0, 0, 0]

def k0_chk707 (v12295 : BitVec 32) : Prop :=
  (∀ a, (k0_off736 v12295) a + S1x2x16x128.size a ≤ S112x2x16x128.size a)
theorem k0_off736_inb : ∀ (v12295 : BitVec 32) (k0_hw707 : k0_chk707 v12295), ∀ a, (k0_off736 v12295) a + S1x2x16x128.size a ≤ S112x2x16x128.size a := fun v12295 k0_hw707 => k0_hw707

def k0_off737 (v12322 : BitVec 32) : Fin 4 → Nat :=
  let v12323 : Index := Scalar.indexCast v12322
  let c0_9081 : Index := 0#32
  let c0_9082 : Index := 0#32
  let c0_9083 : Index := 0#32
  ![v12323.toNat, 0, 0, 0]

def k0_chk708 (v12322 : BitVec 32) : Prop :=
  (∀ a, (k0_off737 v12322) a + S1x2x16x128.size a ≤ S112x2x16x128.size a)
theorem k0_off737_inb : ∀ (v12322 : BitVec 32) (k0_hw708 : k0_chk708 v12322), ∀ a, (k0_off737 v12322) a + S1x2x16x128.size a ≤ S112x2x16x128.size a := fun v12322 k0_hw708 => k0_hw708

def k0_off738 (v12326 : BitVec 32) : Fin 4 → Nat :=
  let v12327 : Index := Scalar.indexCast v12326
  let c0_9085 : Index := 0#32
  let c0_9086 : Index := 0#32
  let c0_9087 : Index := 0#32
  ![v12327.toNat, 0, 0, 0]

def k0_chk709 (v12326 : BitVec 32) : Prop :=
  (∀ a, (k0_off738 v12326) a + S1x2x16x128.size a ≤ S112x2x16x128.size a)
theorem k0_off738_inb : ∀ (v12326 : BitVec 32) (k0_hw709 : k0_chk709 v12326), ∀ a, (k0_off738 v12326) a + S1x2x16x128.size a ≤ S112x2x16x128.size a := fun v12326 k0_hw709 => k0_hw709

def k0_off739 (v12330 : BitVec 32) : Fin 4 → Nat :=
  let v12331 : Index := Scalar.indexCast v12330
  let c0_9089 : Index := 0#32
  let c0_9090 : Index := 0#32
  let c0_9091 : Index := 0#32
  ![v12331.toNat, 0, 0, 0]

def k0_chk710 (v12330 : BitVec 32) : Prop :=
  (∀ a, (k0_off739 v12330) a + S1x2x16x128.size a ≤ S112x2x16x128.size a)
theorem k0_off739_inb : ∀ (v12330 : BitVec 32) (k0_hw710 : k0_chk710 v12330), ∀ a, (k0_off739 v12330) a + S1x2x16x128.size a ≤ S112x2x16x128.size a := fun v12330 k0_hw710 => k0_hw710

def k0_off740 (v12334 : BitVec 32) : Fin 4 → Nat :=
  let v12335 : Index := Scalar.indexCast v12334
  let c0_9093 : Index := 0#32
  let c0_9094 : Index := 0#32
  let c0_9095 : Index := 0#32
  ![v12335.toNat, 0, 0, 0]

def k0_chk711 (v12334 : BitVec 32) : Prop :=
  (∀ a, (k0_off740 v12334) a + S1x2x16x128.size a ≤ S112x2x16x128.size a)
theorem k0_off740_inb : ∀ (v12334 : BitVec 32) (k0_hw711 : k0_chk711 v12334), ∀ a, (k0_off740 v12334) a + S1x2x16x128.size a ≤ S112x2x16x128.size a := fun v12334 k0_hw711 => k0_hw711

def k0_off741 (v12338 : BitVec 32) : Fin 4 → Nat :=
  let v12339 : Index := Scalar.indexCast v12338
  let c0_9097 : Index := 0#32
  let c0_9098 : Index := 0#32
  let c0_9099 : Index := 0#32
  ![v12339.toNat, 0, 0, 0]

def k0_chk712 (v12338 : BitVec 32) : Prop :=
  (∀ a, (k0_off741 v12338) a + S1x2x16x128.size a ≤ S112x2x16x128.size a)
theorem k0_off741_inb : ∀ (v12338 : BitVec 32) (k0_hw712 : k0_chk712 v12338), ∀ a, (k0_off741 v12338) a + S1x2x16x128.size a ≤ S112x2x16x128.size a := fun v12338 k0_hw712 => k0_hw712

def k0_off742 (v12342 : BitVec 32) : Fin 4 → Nat :=
  let v12343 : Index := Scalar.indexCast v12342
  let c0_9101 : Index := 0#32
  let c0_9102 : Index := 0#32
  let c0_9103 : Index := 0#32
  ![v12343.toNat, 0, 0, 0]

def k0_chk713 (v12342 : BitVec 32) : Prop :=
  (∀ a, (k0_off742 v12342) a + S1x2x16x128.size a ≤ S112x2x16x128.size a)
theorem k0_off742_inb : ∀ (v12342 : BitVec 32) (k0_hw713 : k0_chk713 v12342), ∀ a, (k0_off742 v12342) a + S1x2x16x128.size a ≤ S112x2x16x128.size a := fun v12342 k0_hw713 => k0_hw713

def k0_off743 (v12346 : BitVec 32) : Fin 4 → Nat :=
  let v12347 : Index := Scalar.indexCast v12346
  let c0_9105 : Index := 0#32
  let c0_9106 : Index := 0#32
  let c0_9107 : Index := 0#32
  ![v12347.toNat, 0, 0, 0]

def k0_chk714 (v12346 : BitVec 32) : Prop :=
  (∀ a, (k0_off743 v12346) a + S1x2x16x128.size a ≤ S112x2x16x128.size a)
theorem k0_off743_inb : ∀ (v12346 : BitVec 32) (k0_hw714 : k0_chk714 v12346), ∀ a, (k0_off743 v12346) a + S1x2x16x128.size a ≤ S112x2x16x128.size a := fun v12346 k0_hw714 => k0_hw714

def k0_off744 (v12373 : BitVec 32) : Fin 4 → Nat :=
  let v12374 : Index := Scalar.indexCast v12373
  let c0_9121 : Index := 0#32
  let c0_9122 : Index := 0#32
  let c0_9123 : Index := 0#32
  ![v12374.toNat, 0, 0, 0]

def k0_chk715 (v12373 : BitVec 32) : Prop :=
  (∀ a, (k0_off744 v12373) a + S1x2x16x128.size a ≤ S112x2x16x128.size a)
theorem k0_off744_inb : ∀ (v12373 : BitVec 32) (k0_hw715 : k0_chk715 v12373), ∀ a, (k0_off744 v12373) a + S1x2x16x128.size a ≤ S112x2x16x128.size a := fun v12373 k0_hw715 => k0_hw715

def k0_off745 (v12377 : BitVec 32) : Fin 4 → Nat :=
  let v12378 : Index := Scalar.indexCast v12377
  let c0_9125 : Index := 0#32
  let c0_9126 : Index := 0#32
  let c0_9127 : Index := 0#32
  ![v12378.toNat, 0, 0, 0]

def k0_chk716 (v12377 : BitVec 32) : Prop :=
  (∀ a, (k0_off745 v12377) a + S1x2x16x128.size a ≤ S112x2x16x128.size a)
theorem k0_off745_inb : ∀ (v12377 : BitVec 32) (k0_hw716 : k0_chk716 v12377), ∀ a, (k0_off745 v12377) a + S1x2x16x128.size a ≤ S112x2x16x128.size a := fun v12377 k0_hw716 => k0_hw716

def k0_off746 (v12381 : BitVec 32) : Fin 4 → Nat :=
  let v12382 : Index := Scalar.indexCast v12381
  let c0_9129 : Index := 0#32
  let c0_9130 : Index := 0#32
  let c0_9131 : Index := 0#32
  ![v12382.toNat, 0, 0, 0]

def k0_chk717 (v12381 : BitVec 32) : Prop :=
  (∀ a, (k0_off746 v12381) a + S1x2x16x128.size a ≤ S112x2x16x128.size a)
theorem k0_off746_inb : ∀ (v12381 : BitVec 32) (k0_hw717 : k0_chk717 v12381), ∀ a, (k0_off746 v12381) a + S1x2x16x128.size a ≤ S112x2x16x128.size a := fun v12381 k0_hw717 => k0_hw717

def k0_off747 (v12385 : BitVec 32) : Fin 4 → Nat :=
  let v12386 : Index := Scalar.indexCast v12385
  let c0_9133 : Index := 0#32
  let c0_9134 : Index := 0#32
  let c0_9135 : Index := 0#32
  ![v12386.toNat, 0, 0, 0]

def k0_chk718 (v12385 : BitVec 32) : Prop :=
  (∀ a, (k0_off747 v12385) a + S1x2x16x128.size a ≤ S112x2x16x128.size a)
theorem k0_off747_inb : ∀ (v12385 : BitVec 32) (k0_hw718 : k0_chk718 v12385), ∀ a, (k0_off747 v12385) a + S1x2x16x128.size a ≤ S112x2x16x128.size a := fun v12385 k0_hw718 => k0_hw718

def k0_off748 (v12389 : BitVec 32) : Fin 4 → Nat :=
  let v12390 : Index := Scalar.indexCast v12389
  let c0_9137 : Index := 0#32
  let c0_9138 : Index := 0#32
  let c0_9139 : Index := 0#32
  ![v12390.toNat, 0, 0, 0]

def k0_chk719 (v12389 : BitVec 32) : Prop :=
  (∀ a, (k0_off748 v12389) a + S1x2x16x128.size a ≤ S112x2x16x128.size a)
theorem k0_off748_inb : ∀ (v12389 : BitVec 32) (k0_hw719 : k0_chk719 v12389), ∀ a, (k0_off748 v12389) a + S1x2x16x128.size a ≤ S112x2x16x128.size a := fun v12389 k0_hw719 => k0_hw719

def k0_off749 (v12393 : BitVec 32) : Fin 4 → Nat :=
  let v12394 : Index := Scalar.indexCast v12393
  let c0_9141 : Index := 0#32
  let c0_9142 : Index := 0#32
  let c0_9143 : Index := 0#32
  ![v12394.toNat, 0, 0, 0]

def k0_chk720 (v12393 : BitVec 32) : Prop :=
  (∀ a, (k0_off749 v12393) a + S1x2x16x128.size a ≤ S112x2x16x128.size a)
theorem k0_off749_inb : ∀ (v12393 : BitVec 32) (k0_hw720 : k0_chk720 v12393), ∀ a, (k0_off749 v12393) a + S1x2x16x128.size a ≤ S112x2x16x128.size a := fun v12393 k0_hw720 => k0_hw720

def k0_off750 (v12397 : BitVec 32) : Fin 4 → Nat :=
  let v12398 : Index := Scalar.indexCast v12397
  let c0_9145 : Index := 0#32
  let c0_9146 : Index := 0#32
  let c0_9147 : Index := 0#32
  ![v12398.toNat, 0, 0, 0]

def k0_chk721 (v12397 : BitVec 32) : Prop :=
  (∀ a, (k0_off750 v12397) a + S1x2x16x128.size a ≤ S112x2x16x128.size a)
theorem k0_off750_inb : ∀ (v12397 : BitVec 32) (k0_hw721 : k0_chk721 v12397), ∀ a, (k0_off750 v12397) a + S1x2x16x128.size a ≤ S112x2x16x128.size a := fun v12397 k0_hw721 => k0_hw721

def k0_off751 (v12424 : BitVec 32) : Fin 4 → Nat :=
  let v12425 : Index := Scalar.indexCast v12424
  let c0_9161 : Index := 0#32
  let c0_9162 : Index := 0#32
  let c0_9163 : Index := 0#32
  ![v12425.toNat, 0, 0, 0]

def k0_chk722 (v12424 : BitVec 32) : Prop :=
  (∀ a, (k0_off751 v12424) a + S1x2x16x128.size a ≤ S112x2x16x128.size a)
theorem k0_off751_inb : ∀ (v12424 : BitVec 32) (k0_hw722 : k0_chk722 v12424), ∀ a, (k0_off751 v12424) a + S1x2x16x128.size a ≤ S112x2x16x128.size a := fun v12424 k0_hw722 => k0_hw722

def k0_off752 (v12428 : BitVec 32) : Fin 4 → Nat :=
  let v12429 : Index := Scalar.indexCast v12428
  let c0_9165 : Index := 0#32
  let c0_9166 : Index := 0#32
  let c0_9167 : Index := 0#32
  ![v12429.toNat, 0, 0, 0]

def k0_chk723 (v12428 : BitVec 32) : Prop :=
  (∀ a, (k0_off752 v12428) a + S1x2x16x128.size a ≤ S112x2x16x128.size a)
theorem k0_off752_inb : ∀ (v12428 : BitVec 32) (k0_hw723 : k0_chk723 v12428), ∀ a, (k0_off752 v12428) a + S1x2x16x128.size a ≤ S112x2x16x128.size a := fun v12428 k0_hw723 => k0_hw723

def k0_off753 (v12432 : BitVec 32) : Fin 4 → Nat :=
  let v12433 : Index := Scalar.indexCast v12432
  let c0_9169 : Index := 0#32
  let c0_9170 : Index := 0#32
  let c0_9171 : Index := 0#32
  ![v12433.toNat, 0, 0, 0]

def k0_chk724 (v12432 : BitVec 32) : Prop :=
  (∀ a, (k0_off753 v12432) a + S1x2x16x128.size a ≤ S112x2x16x128.size a)
theorem k0_off753_inb : ∀ (v12432 : BitVec 32) (k0_hw724 : k0_chk724 v12432), ∀ a, (k0_off753 v12432) a + S1x2x16x128.size a ≤ S112x2x16x128.size a := fun v12432 k0_hw724 => k0_hw724

def k0_off754 (v12436 : BitVec 32) : Fin 4 → Nat :=
  let v12437 : Index := Scalar.indexCast v12436
  let c0_9173 : Index := 0#32
  let c0_9174 : Index := 0#32
  let c0_9175 : Index := 0#32
  ![v12437.toNat, 0, 0, 0]

def k0_chk725 (v12436 : BitVec 32) : Prop :=
  (∀ a, (k0_off754 v12436) a + S1x2x16x128.size a ≤ S112x2x16x128.size a)
theorem k0_off754_inb : ∀ (v12436 : BitVec 32) (k0_hw725 : k0_chk725 v12436), ∀ a, (k0_off754 v12436) a + S1x2x16x128.size a ≤ S112x2x16x128.size a := fun v12436 k0_hw725 => k0_hw725

def k0_off755 (v12440 : BitVec 32) : Fin 4 → Nat :=
  let v12441 : Index := Scalar.indexCast v12440
  let c0_9177 : Index := 0#32
  let c0_9178 : Index := 0#32
  let c0_9179 : Index := 0#32
  ![v12441.toNat, 0, 0, 0]

def k0_chk726 (v12440 : BitVec 32) : Prop :=
  (∀ a, (k0_off755 v12440) a + S1x2x16x128.size a ≤ S112x2x16x128.size a)
theorem k0_off755_inb : ∀ (v12440 : BitVec 32) (k0_hw726 : k0_chk726 v12440), ∀ a, (k0_off755 v12440) a + S1x2x16x128.size a ≤ S112x2x16x128.size a := fun v12440 k0_hw726 => k0_hw726

def k0_off756 (v12444 : BitVec 32) : Fin 4 → Nat :=
  let v12445 : Index := Scalar.indexCast v12444
  let c0_9181 : Index := 0#32
  let c0_9182 : Index := 0#32
  let c0_9183 : Index := 0#32
  ![v12445.toNat, 0, 0, 0]

def k0_chk727 (v12444 : BitVec 32) : Prop :=
  (∀ a, (k0_off756 v12444) a + S1x2x16x128.size a ≤ S112x2x16x128.size a)
theorem k0_off756_inb : ∀ (v12444 : BitVec 32) (k0_hw727 : k0_chk727 v12444), ∀ a, (k0_off756 v12444) a + S1x2x16x128.size a ≤ S112x2x16x128.size a := fun v12444 k0_hw727 => k0_hw727

def k0_off757 (v12448 : BitVec 32) : Fin 4 → Nat :=
  let v12449 : Index := Scalar.indexCast v12448
  let c0_9185 : Index := 0#32
  let c0_9186 : Index := 0#32
  let c0_9187 : Index := 0#32
  ![v12449.toNat, 0, 0, 0]

def k0_chk728 (v12448 : BitVec 32) : Prop :=
  (∀ a, (k0_off757 v12448) a + S1x2x16x128.size a ≤ S112x2x16x128.size a)
theorem k0_off757_inb : ∀ (v12448 : BitVec 32) (k0_hw728 : k0_chk728 v12448), ∀ a, (k0_off757 v12448) a + S1x2x16x128.size a ≤ S112x2x16x128.size a := fun v12448 k0_hw728 => k0_hw728

def k0_off758 (v12475 : BitVec 32) : Fin 4 → Nat :=
  let v12476 : Index := Scalar.indexCast v12475
  let c0_9201 : Index := 0#32
  let c0_9202 : Index := 0#32
  let c0_9203 : Index := 0#32
  ![v12476.toNat, 0, 0, 0]

def k0_chk729 (v12475 : BitVec 32) : Prop :=
  (∀ a, (k0_off758 v12475) a + S1x2x16x128.size a ≤ S112x2x16x128.size a)
theorem k0_off758_inb : ∀ (v12475 : BitVec 32) (k0_hw729 : k0_chk729 v12475), ∀ a, (k0_off758 v12475) a + S1x2x16x128.size a ≤ S112x2x16x128.size a := fun v12475 k0_hw729 => k0_hw729

def k0_off759 (v12479 : BitVec 32) : Fin 4 → Nat :=
  let v12480 : Index := Scalar.indexCast v12479
  let c0_9205 : Index := 0#32
  let c0_9206 : Index := 0#32
  let c0_9207 : Index := 0#32
  ![v12480.toNat, 0, 0, 0]

def k0_chk730 (v12479 : BitVec 32) : Prop :=
  (∀ a, (k0_off759 v12479) a + S1x2x16x128.size a ≤ S112x2x16x128.size a)
theorem k0_off759_inb : ∀ (v12479 : BitVec 32) (k0_hw730 : k0_chk730 v12479), ∀ a, (k0_off759 v12479) a + S1x2x16x128.size a ≤ S112x2x16x128.size a := fun v12479 k0_hw730 => k0_hw730

def k0_off760 (v12483 : BitVec 32) : Fin 4 → Nat :=
  let v12484 : Index := Scalar.indexCast v12483
  let c0_9209 : Index := 0#32
  let c0_9210 : Index := 0#32
  let c0_9211 : Index := 0#32
  ![v12484.toNat, 0, 0, 0]

def k0_chk731 (v12483 : BitVec 32) : Prop :=
  (∀ a, (k0_off760 v12483) a + S1x2x16x128.size a ≤ S112x2x16x128.size a)
theorem k0_off760_inb : ∀ (v12483 : BitVec 32) (k0_hw731 : k0_chk731 v12483), ∀ a, (k0_off760 v12483) a + S1x2x16x128.size a ≤ S112x2x16x128.size a := fun v12483 k0_hw731 => k0_hw731

def k0_off761 (v12487 : BitVec 32) : Fin 4 → Nat :=
  let v12488 : Index := Scalar.indexCast v12487
  let c0_9213 : Index := 0#32
  let c0_9214 : Index := 0#32
  let c0_9215 : Index := 0#32
  ![v12488.toNat, 0, 0, 0]

def k0_chk732 (v12487 : BitVec 32) : Prop :=
  (∀ a, (k0_off761 v12487) a + S1x2x16x128.size a ≤ S112x2x16x128.size a)
theorem k0_off761_inb : ∀ (v12487 : BitVec 32) (k0_hw732 : k0_chk732 v12487), ∀ a, (k0_off761 v12487) a + S1x2x16x128.size a ≤ S112x2x16x128.size a := fun v12487 k0_hw732 => k0_hw732

def k0_off762 (v12491 : BitVec 32) : Fin 4 → Nat :=
  let v12492 : Index := Scalar.indexCast v12491
  let c0_9217 : Index := 0#32
  let c0_9218 : Index := 0#32
  let c0_9219 : Index := 0#32
  ![v12492.toNat, 0, 0, 0]

def k0_chk733 (v12491 : BitVec 32) : Prop :=
  (∀ a, (k0_off762 v12491) a + S1x2x16x128.size a ≤ S112x2x16x128.size a)
theorem k0_off762_inb : ∀ (v12491 : BitVec 32) (k0_hw733 : k0_chk733 v12491), ∀ a, (k0_off762 v12491) a + S1x2x16x128.size a ≤ S112x2x16x128.size a := fun v12491 k0_hw733 => k0_hw733

def k0_off763 (v12495 : BitVec 32) : Fin 4 → Nat :=
  let v12496 : Index := Scalar.indexCast v12495
  let c0_9221 : Index := 0#32
  let c0_9222 : Index := 0#32
  let c0_9223 : Index := 0#32
  ![v12496.toNat, 0, 0, 0]

def k0_chk734 (v12495 : BitVec 32) : Prop :=
  (∀ a, (k0_off763 v12495) a + S1x2x16x128.size a ≤ S112x2x16x128.size a)
theorem k0_off763_inb : ∀ (v12495 : BitVec 32) (k0_hw734 : k0_chk734 v12495), ∀ a, (k0_off763 v12495) a + S1x2x16x128.size a ≤ S112x2x16x128.size a := fun v12495 k0_hw734 => k0_hw734

def k0_off764 (v12499 : BitVec 32) : Fin 4 → Nat :=
  let v12500 : Index := Scalar.indexCast v12499
  let c0_9225 : Index := 0#32
  let c0_9226 : Index := 0#32
  let c0_9227 : Index := 0#32
  ![v12500.toNat, 0, 0, 0]

def k0_chk735 (v12499 : BitVec 32) : Prop :=
  (∀ a, (k0_off764 v12499) a + S1x2x16x128.size a ≤ S112x2x16x128.size a)
theorem k0_off764_inb : ∀ (v12499 : BitVec 32) (k0_hw735 : k0_chk735 v12499), ∀ a, (k0_off764 v12499) a + S1x2x16x128.size a ≤ S112x2x16x128.size a := fun v12499 k0_hw735 => k0_hw735

def k0_off765 (v12526 : BitVec 32) : Fin 4 → Nat :=
  let v12527 : Index := Scalar.indexCast v12526
  let c0_9241 : Index := 0#32
  let c0_9242 : Index := 0#32
  let c0_9243 : Index := 0#32
  ![v12527.toNat, 0, 0, 0]

def k0_chk736 (v12526 : BitVec 32) : Prop :=
  (∀ a, (k0_off765 v12526) a + S1x2x16x128.size a ≤ S112x2x16x128.size a)
theorem k0_off765_inb : ∀ (v12526 : BitVec 32) (k0_hw736 : k0_chk736 v12526), ∀ a, (k0_off765 v12526) a + S1x2x16x128.size a ≤ S112x2x16x128.size a := fun v12526 k0_hw736 => k0_hw736

def k0_off766 (v12530 : BitVec 32) : Fin 4 → Nat :=
  let v12531 : Index := Scalar.indexCast v12530
  let c0_9245 : Index := 0#32
  let c0_9246 : Index := 0#32
  let c0_9247 : Index := 0#32
  ![v12531.toNat, 0, 0, 0]

def k0_chk737 (v12530 : BitVec 32) : Prop :=
  (∀ a, (k0_off766 v12530) a + S1x2x16x128.size a ≤ S112x2x16x128.size a)
theorem k0_off766_inb : ∀ (v12530 : BitVec 32) (k0_hw737 : k0_chk737 v12530), ∀ a, (k0_off766 v12530) a + S1x2x16x128.size a ≤ S112x2x16x128.size a := fun v12530 k0_hw737 => k0_hw737

def k0_off767 (v12534 : BitVec 32) : Fin 4 → Nat :=
  let v12535 : Index := Scalar.indexCast v12534
  let c0_9249 : Index := 0#32
  let c0_9250 : Index := 0#32
  let c0_9251 : Index := 0#32
  ![v12535.toNat, 0, 0, 0]

def k0_chk738 (v12534 : BitVec 32) : Prop :=
  (∀ a, (k0_off767 v12534) a + S1x2x16x128.size a ≤ S112x2x16x128.size a)
theorem k0_off767_inb : ∀ (v12534 : BitVec 32) (k0_hw738 : k0_chk738 v12534), ∀ a, (k0_off767 v12534) a + S1x2x16x128.size a ≤ S112x2x16x128.size a := fun v12534 k0_hw738 => k0_hw738

def k0_off768 (v12538 : BitVec 32) : Fin 4 → Nat :=
  let v12539 : Index := Scalar.indexCast v12538
  let c0_9253 : Index := 0#32
  let c0_9254 : Index := 0#32
  let c0_9255 : Index := 0#32
  ![v12539.toNat, 0, 0, 0]

def k0_chk739 (v12538 : BitVec 32) : Prop :=
  (∀ a, (k0_off768 v12538) a + S1x2x16x128.size a ≤ S112x2x16x128.size a)
theorem k0_off768_inb : ∀ (v12538 : BitVec 32) (k0_hw739 : k0_chk739 v12538), ∀ a, (k0_off768 v12538) a + S1x2x16x128.size a ≤ S112x2x16x128.size a := fun v12538 k0_hw739 => k0_hw739

def k0_off769 (v12542 : BitVec 32) : Fin 4 → Nat :=
  let v12543 : Index := Scalar.indexCast v12542
  let c0_9257 : Index := 0#32
  let c0_9258 : Index := 0#32
  let c0_9259 : Index := 0#32
  ![v12543.toNat, 0, 0, 0]

def k0_chk740 (v12542 : BitVec 32) : Prop :=
  (∀ a, (k0_off769 v12542) a + S1x2x16x128.size a ≤ S112x2x16x128.size a)
theorem k0_off769_inb : ∀ (v12542 : BitVec 32) (k0_hw740 : k0_chk740 v12542), ∀ a, (k0_off769 v12542) a + S1x2x16x128.size a ≤ S112x2x16x128.size a := fun v12542 k0_hw740 => k0_hw740

def k0_off770 (v12546 : BitVec 32) : Fin 4 → Nat :=
  let v12547 : Index := Scalar.indexCast v12546
  let c0_9261 : Index := 0#32
  let c0_9262 : Index := 0#32
  let c0_9263 : Index := 0#32
  ![v12547.toNat, 0, 0, 0]

def k0_chk741 (v12546 : BitVec 32) : Prop :=
  (∀ a, (k0_off770 v12546) a + S1x2x16x128.size a ≤ S112x2x16x128.size a)
theorem k0_off770_inb : ∀ (v12546 : BitVec 32) (k0_hw741 : k0_chk741 v12546), ∀ a, (k0_off770 v12546) a + S1x2x16x128.size a ≤ S112x2x16x128.size a := fun v12546 k0_hw741 => k0_hw741

def k0_off771 (v12550 : BitVec 32) : Fin 4 → Nat :=
  let v12551 : Index := Scalar.indexCast v12550
  let c0_9265 : Index := 0#32
  let c0_9266 : Index := 0#32
  let c0_9267 : Index := 0#32
  ![v12551.toNat, 0, 0, 0]

def k0_chk742 (v12550 : BitVec 32) : Prop :=
  (∀ a, (k0_off771 v12550) a + S1x2x16x128.size a ≤ S112x2x16x128.size a)
theorem k0_off771_inb : ∀ (v12550 : BitVec 32) (k0_hw742 : k0_chk742 v12550), ∀ a, (k0_off771 v12550) a + S1x2x16x128.size a ≤ S112x2x16x128.size a := fun v12550 k0_hw742 => k0_hw742

def k0_off772 (v12577 : BitVec 32) : Fin 4 → Nat :=
  let v12578 : Index := Scalar.indexCast v12577
  let c0_9281 : Index := 0#32
  let c0_9282 : Index := 0#32
  let c0_9283 : Index := 0#32
  ![v12578.toNat, 0, 0, 0]

def k0_chk743 (v12577 : BitVec 32) : Prop :=
  (∀ a, (k0_off772 v12577) a + S1x2x16x128.size a ≤ S112x2x16x128.size a)
theorem k0_off772_inb : ∀ (v12577 : BitVec 32) (k0_hw743 : k0_chk743 v12577), ∀ a, (k0_off772 v12577) a + S1x2x16x128.size a ≤ S112x2x16x128.size a := fun v12577 k0_hw743 => k0_hw743

def k0_off773 (v12581 : BitVec 32) : Fin 4 → Nat :=
  let v12582 : Index := Scalar.indexCast v12581
  let c0_9285 : Index := 0#32
  let c0_9286 : Index := 0#32
  let c0_9287 : Index := 0#32
  ![v12582.toNat, 0, 0, 0]

def k0_chk744 (v12581 : BitVec 32) : Prop :=
  (∀ a, (k0_off773 v12581) a + S1x2x16x128.size a ≤ S112x2x16x128.size a)
theorem k0_off773_inb : ∀ (v12581 : BitVec 32) (k0_hw744 : k0_chk744 v12581), ∀ a, (k0_off773 v12581) a + S1x2x16x128.size a ≤ S112x2x16x128.size a := fun v12581 k0_hw744 => k0_hw744

def k0_off774 (v12585 : BitVec 32) : Fin 4 → Nat :=
  let v12586 : Index := Scalar.indexCast v12585
  let c0_9289 : Index := 0#32
  let c0_9290 : Index := 0#32
  let c0_9291 : Index := 0#32
  ![v12586.toNat, 0, 0, 0]

def k0_chk745 (v12585 : BitVec 32) : Prop :=
  (∀ a, (k0_off774 v12585) a + S1x2x16x128.size a ≤ S112x2x16x128.size a)
theorem k0_off774_inb : ∀ (v12585 : BitVec 32) (k0_hw745 : k0_chk745 v12585), ∀ a, (k0_off774 v12585) a + S1x2x16x128.size a ≤ S112x2x16x128.size a := fun v12585 k0_hw745 => k0_hw745

def k0_off775 (v12589 : BitVec 32) : Fin 4 → Nat :=
  let v12590 : Index := Scalar.indexCast v12589
  let c0_9293 : Index := 0#32
  let c0_9294 : Index := 0#32
  let c0_9295 : Index := 0#32
  ![v12590.toNat, 0, 0, 0]

def k0_chk746 (v12589 : BitVec 32) : Prop :=
  (∀ a, (k0_off775 v12589) a + S1x2x16x128.size a ≤ S112x2x16x128.size a)
theorem k0_off775_inb : ∀ (v12589 : BitVec 32) (k0_hw746 : k0_chk746 v12589), ∀ a, (k0_off775 v12589) a + S1x2x16x128.size a ≤ S112x2x16x128.size a := fun v12589 k0_hw746 => k0_hw746

def k0_off776 (v12593 : BitVec 32) : Fin 4 → Nat :=
  let v12594 : Index := Scalar.indexCast v12593
  let c0_9297 : Index := 0#32
  let c0_9298 : Index := 0#32
  let c0_9299 : Index := 0#32
  ![v12594.toNat, 0, 0, 0]

def k0_chk747 (v12593 : BitVec 32) : Prop :=
  (∀ a, (k0_off776 v12593) a + S1x2x16x128.size a ≤ S112x2x16x128.size a)
theorem k0_off776_inb : ∀ (v12593 : BitVec 32) (k0_hw747 : k0_chk747 v12593), ∀ a, (k0_off776 v12593) a + S1x2x16x128.size a ≤ S112x2x16x128.size a := fun v12593 k0_hw747 => k0_hw747

def k0_off777 (v12597 : BitVec 32) : Fin 4 → Nat :=
  let v12598 : Index := Scalar.indexCast v12597
  let c0_9301 : Index := 0#32
  let c0_9302 : Index := 0#32
  let c0_9303 : Index := 0#32
  ![v12598.toNat, 0, 0, 0]

def k0_chk748 (v12597 : BitVec 32) : Prop :=
  (∀ a, (k0_off777 v12597) a + S1x2x16x128.size a ≤ S112x2x16x128.size a)
theorem k0_off777_inb : ∀ (v12597 : BitVec 32) (k0_hw748 : k0_chk748 v12597), ∀ a, (k0_off777 v12597) a + S1x2x16x128.size a ≤ S112x2x16x128.size a := fun v12597 k0_hw748 => k0_hw748

def k0_off778 (v12601 : BitVec 32) : Fin 4 → Nat :=
  let v12602 : Index := Scalar.indexCast v12601
  let c0_9305 : Index := 0#32
  let c0_9306 : Index := 0#32
  let c0_9307 : Index := 0#32
  ![v12602.toNat, 0, 0, 0]

def k0_chk749 (v12601 : BitVec 32) : Prop :=
  (∀ a, (k0_off778 v12601) a + S1x2x16x128.size a ≤ S112x2x16x128.size a)
theorem k0_off778_inb : ∀ (v12601 : BitVec 32) (k0_hw749 : k0_chk749 v12601), ∀ a, (k0_off778 v12601) a + S1x2x16x128.size a ≤ S112x2x16x128.size a := fun v12601 k0_hw749 => k0_hw749

def k0_off779 (v12628 : BitVec 32) : Fin 4 → Nat :=
  let v12629 : Index := Scalar.indexCast v12628
  let c0_9321 : Index := 0#32
  let c0_9322 : Index := 0#32
  let c0_9323 : Index := 0#32
  ![v12629.toNat, 0, 0, 0]

def k0_chk750 (v12628 : BitVec 32) : Prop :=
  (∀ a, (k0_off779 v12628) a + S1x2x16x128.size a ≤ S112x2x16x128.size a)
theorem k0_off779_inb : ∀ (v12628 : BitVec 32) (k0_hw750 : k0_chk750 v12628), ∀ a, (k0_off779 v12628) a + S1x2x16x128.size a ≤ S112x2x16x128.size a := fun v12628 k0_hw750 => k0_hw750

def k0_off780 (v12632 : BitVec 32) : Fin 4 → Nat :=
  let v12633 : Index := Scalar.indexCast v12632
  let c0_9325 : Index := 0#32
  let c0_9326 : Index := 0#32
  let c0_9327 : Index := 0#32
  ![v12633.toNat, 0, 0, 0]

def k0_chk751 (v12632 : BitVec 32) : Prop :=
  (∀ a, (k0_off780 v12632) a + S1x2x16x128.size a ≤ S112x2x16x128.size a)
theorem k0_off780_inb : ∀ (v12632 : BitVec 32) (k0_hw751 : k0_chk751 v12632), ∀ a, (k0_off780 v12632) a + S1x2x16x128.size a ≤ S112x2x16x128.size a := fun v12632 k0_hw751 => k0_hw751

def k0_off781 (v12636 : BitVec 32) : Fin 4 → Nat :=
  let v12637 : Index := Scalar.indexCast v12636
  let c0_9329 : Index := 0#32
  let c0_9330 : Index := 0#32
  let c0_9331 : Index := 0#32
  ![v12637.toNat, 0, 0, 0]

def k0_chk752 (v12636 : BitVec 32) : Prop :=
  (∀ a, (k0_off781 v12636) a + S1x2x16x128.size a ≤ S112x2x16x128.size a)
theorem k0_off781_inb : ∀ (v12636 : BitVec 32) (k0_hw752 : k0_chk752 v12636), ∀ a, (k0_off781 v12636) a + S1x2x16x128.size a ≤ S112x2x16x128.size a := fun v12636 k0_hw752 => k0_hw752

def k0_off782 (v12640 : BitVec 32) : Fin 4 → Nat :=
  let v12641 : Index := Scalar.indexCast v12640
  let c0_9333 : Index := 0#32
  let c0_9334 : Index := 0#32
  let c0_9335 : Index := 0#32
  ![v12641.toNat, 0, 0, 0]

def k0_chk753 (v12640 : BitVec 32) : Prop :=
  (∀ a, (k0_off782 v12640) a + S1x2x16x128.size a ≤ S112x2x16x128.size a)
theorem k0_off782_inb : ∀ (v12640 : BitVec 32) (k0_hw753 : k0_chk753 v12640), ∀ a, (k0_off782 v12640) a + S1x2x16x128.size a ≤ S112x2x16x128.size a := fun v12640 k0_hw753 => k0_hw753

def k0_off783 (v12644 : BitVec 32) : Fin 4 → Nat :=
  let v12645 : Index := Scalar.indexCast v12644
  let c0_9337 : Index := 0#32
  let c0_9338 : Index := 0#32
  let c0_9339 : Index := 0#32
  ![v12645.toNat, 0, 0, 0]

def k0_chk754 (v12644 : BitVec 32) : Prop :=
  (∀ a, (k0_off783 v12644) a + S1x2x16x128.size a ≤ S112x2x16x128.size a)
theorem k0_off783_inb : ∀ (v12644 : BitVec 32) (k0_hw754 : k0_chk754 v12644), ∀ a, (k0_off783 v12644) a + S1x2x16x128.size a ≤ S112x2x16x128.size a := fun v12644 k0_hw754 => k0_hw754

def k0_off784 (v12648 : BitVec 32) : Fin 4 → Nat :=
  let v12649 : Index := Scalar.indexCast v12648
  let c0_9341 : Index := 0#32
  let c0_9342 : Index := 0#32
  let c0_9343 : Index := 0#32
  ![v12649.toNat, 0, 0, 0]

def k0_chk755 (v12648 : BitVec 32) : Prop :=
  (∀ a, (k0_off784 v12648) a + S1x2x16x128.size a ≤ S112x2x16x128.size a)
theorem k0_off784_inb : ∀ (v12648 : BitVec 32) (k0_hw755 : k0_chk755 v12648), ∀ a, (k0_off784 v12648) a + S1x2x16x128.size a ≤ S112x2x16x128.size a := fun v12648 k0_hw755 => k0_hw755

def k0_off785 (v12652 : BitVec 32) : Fin 4 → Nat :=
  let v12653 : Index := Scalar.indexCast v12652
  let c0_9345 : Index := 0#32
  let c0_9346 : Index := 0#32
  let c0_9347 : Index := 0#32
  ![v12653.toNat, 0, 0, 0]

def k0_chk756 (v12652 : BitVec 32) : Prop :=
  (∀ a, (k0_off785 v12652) a + S1x2x16x128.size a ≤ S112x2x16x128.size a)
theorem k0_off785_inb : ∀ (v12652 : BitVec 32) (k0_hw756 : k0_chk756 v12652), ∀ a, (k0_off785 v12652) a + S1x2x16x128.size a ≤ S112x2x16x128.size a := fun v12652 k0_hw756 => k0_hw756

def k0_off786 (v12679 : BitVec 32) : Fin 4 → Nat :=
  let v12680 : Index := Scalar.indexCast v12679
  let c0_9361 : Index := 0#32
  let c0_9362 : Index := 0#32
  let c0_9363 : Index := 0#32
  ![v12680.toNat, 0, 0, 0]

def k0_chk757 (v12679 : BitVec 32) : Prop :=
  (∀ a, (k0_off786 v12679) a + S1x2x16x128.size a ≤ S112x2x16x128.size a)
theorem k0_off786_inb : ∀ (v12679 : BitVec 32) (k0_hw757 : k0_chk757 v12679), ∀ a, (k0_off786 v12679) a + S1x2x16x128.size a ≤ S112x2x16x128.size a := fun v12679 k0_hw757 => k0_hw757

def k0_off787 (v12683 : BitVec 32) : Fin 4 → Nat :=
  let v12684 : Index := Scalar.indexCast v12683
  let c0_9365 : Index := 0#32
  let c0_9366 : Index := 0#32
  let c0_9367 : Index := 0#32
  ![v12684.toNat, 0, 0, 0]

def k0_chk758 (v12683 : BitVec 32) : Prop :=
  (∀ a, (k0_off787 v12683) a + S1x2x16x128.size a ≤ S112x2x16x128.size a)
theorem k0_off787_inb : ∀ (v12683 : BitVec 32) (k0_hw758 : k0_chk758 v12683), ∀ a, (k0_off787 v12683) a + S1x2x16x128.size a ≤ S112x2x16x128.size a := fun v12683 k0_hw758 => k0_hw758

def k0_off788 (v12687 : BitVec 32) : Fin 4 → Nat :=
  let v12688 : Index := Scalar.indexCast v12687
  let c0_9369 : Index := 0#32
  let c0_9370 : Index := 0#32
  let c0_9371 : Index := 0#32
  ![v12688.toNat, 0, 0, 0]

def k0_chk759 (v12687 : BitVec 32) : Prop :=
  (∀ a, (k0_off788 v12687) a + S1x2x16x128.size a ≤ S112x2x16x128.size a)
theorem k0_off788_inb : ∀ (v12687 : BitVec 32) (k0_hw759 : k0_chk759 v12687), ∀ a, (k0_off788 v12687) a + S1x2x16x128.size a ≤ S112x2x16x128.size a := fun v12687 k0_hw759 => k0_hw759

def k0_off789 (v12691 : BitVec 32) : Fin 4 → Nat :=
  let v12692 : Index := Scalar.indexCast v12691
  let c0_9373 : Index := 0#32
  let c0_9374 : Index := 0#32
  let c0_9375 : Index := 0#32
  ![v12692.toNat, 0, 0, 0]

def k0_chk760 (v12691 : BitVec 32) : Prop :=
  (∀ a, (k0_off789 v12691) a + S1x2x16x128.size a ≤ S112x2x16x128.size a)
theorem k0_off789_inb : ∀ (v12691 : BitVec 32) (k0_hw760 : k0_chk760 v12691), ∀ a, (k0_off789 v12691) a + S1x2x16x128.size a ≤ S112x2x16x128.size a := fun v12691 k0_hw760 => k0_hw760

def k0_off790 (v12695 : BitVec 32) : Fin 4 → Nat :=
  let v12696 : Index := Scalar.indexCast v12695
  let c0_9377 : Index := 0#32
  let c0_9378 : Index := 0#32
  let c0_9379 : Index := 0#32
  ![v12696.toNat, 0, 0, 0]

def k0_chk761 (v12695 : BitVec 32) : Prop :=
  (∀ a, (k0_off790 v12695) a + S1x2x16x128.size a ≤ S112x2x16x128.size a)
theorem k0_off790_inb : ∀ (v12695 : BitVec 32) (k0_hw761 : k0_chk761 v12695), ∀ a, (k0_off790 v12695) a + S1x2x16x128.size a ≤ S112x2x16x128.size a := fun v12695 k0_hw761 => k0_hw761

def k0_off791 (v12699 : BitVec 32) : Fin 4 → Nat :=
  let v12700 : Index := Scalar.indexCast v12699
  let c0_9381 : Index := 0#32
  let c0_9382 : Index := 0#32
  let c0_9383 : Index := 0#32
  ![v12700.toNat, 0, 0, 0]

def k0_chk762 (v12699 : BitVec 32) : Prop :=
  (∀ a, (k0_off791 v12699) a + S1x2x16x128.size a ≤ S112x2x16x128.size a)
theorem k0_off791_inb : ∀ (v12699 : BitVec 32) (k0_hw762 : k0_chk762 v12699), ∀ a, (k0_off791 v12699) a + S1x2x16x128.size a ≤ S112x2x16x128.size a := fun v12699 k0_hw762 => k0_hw762

def k0_off792 (v12703 : BitVec 32) : Fin 4 → Nat :=
  let v12704 : Index := Scalar.indexCast v12703
  let c0_9385 : Index := 0#32
  let c0_9386 : Index := 0#32
  let c0_9387 : Index := 0#32
  ![v12704.toNat, 0, 0, 0]

def k0_chk763 (v12703 : BitVec 32) : Prop :=
  (∀ a, (k0_off792 v12703) a + S1x2x16x128.size a ≤ S112x2x16x128.size a)
theorem k0_off792_inb : ∀ (v12703 : BitVec 32) (k0_hw763 : k0_chk763 v12703), ∀ a, (k0_off792 v12703) a + S1x2x16x128.size a ≤ S112x2x16x128.size a := fun v12703 k0_hw763 => k0_hw763

def k0_off793 (v12730 : BitVec 32) : Fin 4 → Nat :=
  let v12731 : Index := Scalar.indexCast v12730
  let c0_9401 : Index := 0#32
  let c0_9402 : Index := 0#32
  let c0_9403 : Index := 0#32
  ![v12731.toNat, 0, 0, 0]

def k0_chk764 (v12730 : BitVec 32) : Prop :=
  (∀ a, (k0_off793 v12730) a + S1x2x16x128.size a ≤ S112x2x16x128.size a)
theorem k0_off793_inb : ∀ (v12730 : BitVec 32) (k0_hw764 : k0_chk764 v12730), ∀ a, (k0_off793 v12730) a + S1x2x16x128.size a ≤ S112x2x16x128.size a := fun v12730 k0_hw764 => k0_hw764

def k0_off794 (v12734 : BitVec 32) : Fin 4 → Nat :=
  let v12735 : Index := Scalar.indexCast v12734
  let c0_9405 : Index := 0#32
  let c0_9406 : Index := 0#32
  let c0_9407 : Index := 0#32
  ![v12735.toNat, 0, 0, 0]

def k0_chk765 (v12734 : BitVec 32) : Prop :=
  (∀ a, (k0_off794 v12734) a + S1x2x16x128.size a ≤ S112x2x16x128.size a)
theorem k0_off794_inb : ∀ (v12734 : BitVec 32) (k0_hw765 : k0_chk765 v12734), ∀ a, (k0_off794 v12734) a + S1x2x16x128.size a ≤ S112x2x16x128.size a := fun v12734 k0_hw765 => k0_hw765

def k0_off795 (v12738 : BitVec 32) : Fin 4 → Nat :=
  let v12739 : Index := Scalar.indexCast v12738
  let c0_9409 : Index := 0#32
  let c0_9410 : Index := 0#32
  let c0_9411 : Index := 0#32
  ![v12739.toNat, 0, 0, 0]

def k0_chk766 (v12738 : BitVec 32) : Prop :=
  (∀ a, (k0_off795 v12738) a + S1x2x16x128.size a ≤ S112x2x16x128.size a)
theorem k0_off795_inb : ∀ (v12738 : BitVec 32) (k0_hw766 : k0_chk766 v12738), ∀ a, (k0_off795 v12738) a + S1x2x16x128.size a ≤ S112x2x16x128.size a := fun v12738 k0_hw766 => k0_hw766

def k0_off796 (v12742 : BitVec 32) : Fin 4 → Nat :=
  let v12743 : Index := Scalar.indexCast v12742
  let c0_9413 : Index := 0#32
  let c0_9414 : Index := 0#32
  let c0_9415 : Index := 0#32
  ![v12743.toNat, 0, 0, 0]

def k0_chk767 (v12742 : BitVec 32) : Prop :=
  (∀ a, (k0_off796 v12742) a + S1x2x16x128.size a ≤ S112x2x16x128.size a)
theorem k0_off796_inb : ∀ (v12742 : BitVec 32) (k0_hw767 : k0_chk767 v12742), ∀ a, (k0_off796 v12742) a + S1x2x16x128.size a ≤ S112x2x16x128.size a := fun v12742 k0_hw767 => k0_hw767

def k0_off797 (v12746 : BitVec 32) : Fin 4 → Nat :=
  let v12747 : Index := Scalar.indexCast v12746
  let c0_9417 : Index := 0#32
  let c0_9418 : Index := 0#32
  let c0_9419 : Index := 0#32
  ![v12747.toNat, 0, 0, 0]

def k0_chk768 (v12746 : BitVec 32) : Prop :=
  (∀ a, (k0_off797 v12746) a + S1x2x16x128.size a ≤ S112x2x16x128.size a)
theorem k0_off797_inb : ∀ (v12746 : BitVec 32) (k0_hw768 : k0_chk768 v12746), ∀ a, (k0_off797 v12746) a + S1x2x16x128.size a ≤ S112x2x16x128.size a := fun v12746 k0_hw768 => k0_hw768

def k0_off798 (v12750 : BitVec 32) : Fin 4 → Nat :=
  let v12751 : Index := Scalar.indexCast v12750
  let c0_9421 : Index := 0#32
  let c0_9422 : Index := 0#32
  let c0_9423 : Index := 0#32
  ![v12751.toNat, 0, 0, 0]

def k0_chk769 (v12750 : BitVec 32) : Prop :=
  (∀ a, (k0_off798 v12750) a + S1x2x16x128.size a ≤ S112x2x16x128.size a)
theorem k0_off798_inb : ∀ (v12750 : BitVec 32) (k0_hw769 : k0_chk769 v12750), ∀ a, (k0_off798 v12750) a + S1x2x16x128.size a ≤ S112x2x16x128.size a := fun v12750 k0_hw769 => k0_hw769

def k0_off799 (v12754 : BitVec 32) : Fin 4 → Nat :=
  let v12755 : Index := Scalar.indexCast v12754
  let c0_9425 : Index := 0#32
  let c0_9426 : Index := 0#32
  let c0_9427 : Index := 0#32
  ![v12755.toNat, 0, 0, 0]

def k0_chk770 (v12754 : BitVec 32) : Prop :=
  (∀ a, (k0_off799 v12754) a + S1x2x16x128.size a ≤ S112x2x16x128.size a)
theorem k0_off799_inb : ∀ (v12754 : BitVec 32) (k0_hw770 : k0_chk770 v12754), ∀ a, (k0_off799 v12754) a + S1x2x16x128.size a ≤ S112x2x16x128.size a := fun v12754 k0_hw770 => k0_hw770

def k0_off800 (v12781 : BitVec 32) : Fin 4 → Nat :=
  let v12782 : Index := Scalar.indexCast v12781
  let c0_9441 : Index := 0#32
  let c0_9442 : Index := 0#32
  let c0_9443 : Index := 0#32
  ![v12782.toNat, 0, 0, 0]

def k0_chk771 (v12781 : BitVec 32) : Prop :=
  (∀ a, (k0_off800 v12781) a + S1x2x16x128.size a ≤ S112x2x16x128.size a)
theorem k0_off800_inb : ∀ (v12781 : BitVec 32) (k0_hw771 : k0_chk771 v12781), ∀ a, (k0_off800 v12781) a + S1x2x16x128.size a ≤ S112x2x16x128.size a := fun v12781 k0_hw771 => k0_hw771

def k0_off801 (v12785 : BitVec 32) : Fin 4 → Nat :=
  let v12786 : Index := Scalar.indexCast v12785
  let c0_9445 : Index := 0#32
  let c0_9446 : Index := 0#32
  let c0_9447 : Index := 0#32
  ![v12786.toNat, 0, 0, 0]

def k0_chk772 (v12785 : BitVec 32) : Prop :=
  (∀ a, (k0_off801 v12785) a + S1x2x16x128.size a ≤ S112x2x16x128.size a)
theorem k0_off801_inb : ∀ (v12785 : BitVec 32) (k0_hw772 : k0_chk772 v12785), ∀ a, (k0_off801 v12785) a + S1x2x16x128.size a ≤ S112x2x16x128.size a := fun v12785 k0_hw772 => k0_hw772

def k0_off802 (v12789 : BitVec 32) : Fin 4 → Nat :=
  let v12790 : Index := Scalar.indexCast v12789
  let c0_9449 : Index := 0#32
  let c0_9450 : Index := 0#32
  let c0_9451 : Index := 0#32
  ![v12790.toNat, 0, 0, 0]

def k0_chk773 (v12789 : BitVec 32) : Prop :=
  (∀ a, (k0_off802 v12789) a + S1x2x16x128.size a ≤ S112x2x16x128.size a)
theorem k0_off802_inb : ∀ (v12789 : BitVec 32) (k0_hw773 : k0_chk773 v12789), ∀ a, (k0_off802 v12789) a + S1x2x16x128.size a ≤ S112x2x16x128.size a := fun v12789 k0_hw773 => k0_hw773

def k0_off803 (v12793 : BitVec 32) : Fin 4 → Nat :=
  let v12794 : Index := Scalar.indexCast v12793
  let c0_9453 : Index := 0#32
  let c0_9454 : Index := 0#32
  let c0_9455 : Index := 0#32
  ![v12794.toNat, 0, 0, 0]

def k0_chk774 (v12793 : BitVec 32) : Prop :=
  (∀ a, (k0_off803 v12793) a + S1x2x16x128.size a ≤ S112x2x16x128.size a)
theorem k0_off803_inb : ∀ (v12793 : BitVec 32) (k0_hw774 : k0_chk774 v12793), ∀ a, (k0_off803 v12793) a + S1x2x16x128.size a ≤ S112x2x16x128.size a := fun v12793 k0_hw774 => k0_hw774

def k0_off804 (v12797 : BitVec 32) : Fin 4 → Nat :=
  let v12798 : Index := Scalar.indexCast v12797
  let c0_9457 : Index := 0#32
  let c0_9458 : Index := 0#32
  let c0_9459 : Index := 0#32
  ![v12798.toNat, 0, 0, 0]

def k0_chk775 (v12797 : BitVec 32) : Prop :=
  (∀ a, (k0_off804 v12797) a + S1x2x16x128.size a ≤ S112x2x16x128.size a)
theorem k0_off804_inb : ∀ (v12797 : BitVec 32) (k0_hw775 : k0_chk775 v12797), ∀ a, (k0_off804 v12797) a + S1x2x16x128.size a ≤ S112x2x16x128.size a := fun v12797 k0_hw775 => k0_hw775

def k0_off805 (v12801 : BitVec 32) : Fin 4 → Nat :=
  let v12802 : Index := Scalar.indexCast v12801
  let c0_9461 : Index := 0#32
  let c0_9462 : Index := 0#32
  let c0_9463 : Index := 0#32
  ![v12802.toNat, 0, 0, 0]

def k0_chk776 (v12801 : BitVec 32) : Prop :=
  (∀ a, (k0_off805 v12801) a + S1x2x16x128.size a ≤ S112x2x16x128.size a)
theorem k0_off805_inb : ∀ (v12801 : BitVec 32) (k0_hw776 : k0_chk776 v12801), ∀ a, (k0_off805 v12801) a + S1x2x16x128.size a ≤ S112x2x16x128.size a := fun v12801 k0_hw776 => k0_hw776

def k0_off806 (v12805 : BitVec 32) : Fin 4 → Nat :=
  let v12806 : Index := Scalar.indexCast v12805
  let c0_9465 : Index := 0#32
  let c0_9466 : Index := 0#32
  let c0_9467 : Index := 0#32
  ![v12806.toNat, 0, 0, 0]

def k0_chk777 (v12805 : BitVec 32) : Prop :=
  (∀ a, (k0_off806 v12805) a + S1x2x16x128.size a ≤ S112x2x16x128.size a)
theorem k0_off806_inb : ∀ (v12805 : BitVec 32) (k0_hw777 : k0_chk777 v12805), ∀ a, (k0_off806 v12805) a + S1x2x16x128.size a ≤ S112x2x16x128.size a := fun v12805 k0_hw777 => k0_hw777

def k0_off807 (v12832 : BitVec 32) : Fin 4 → Nat :=
  let v12833 : Index := Scalar.indexCast v12832
  let c0_9481 : Index := 0#32
  let c0_9482 : Index := 0#32
  let c0_9483 : Index := 0#32
  ![v12833.toNat, 0, 0, 0]

def k0_chk778 (v12832 : BitVec 32) : Prop :=
  (∀ a, (k0_off807 v12832) a + S1x2x16x128.size a ≤ S112x2x16x128.size a)
theorem k0_off807_inb : ∀ (v12832 : BitVec 32) (k0_hw778 : k0_chk778 v12832), ∀ a, (k0_off807 v12832) a + S1x2x16x128.size a ≤ S112x2x16x128.size a := fun v12832 k0_hw778 => k0_hw778

def k0_off808 (v12836 : BitVec 32) : Fin 4 → Nat :=
  let v12837 : Index := Scalar.indexCast v12836
  let c0_9485 : Index := 0#32
  let c0_9486 : Index := 0#32
  let c0_9487 : Index := 0#32
  ![v12837.toNat, 0, 0, 0]

def k0_chk779 (v12836 : BitVec 32) : Prop :=
  (∀ a, (k0_off808 v12836) a + S1x2x16x128.size a ≤ S112x2x16x128.size a)
theorem k0_off808_inb : ∀ (v12836 : BitVec 32) (k0_hw779 : k0_chk779 v12836), ∀ a, (k0_off808 v12836) a + S1x2x16x128.size a ≤ S112x2x16x128.size a := fun v12836 k0_hw779 => k0_hw779

def k0_off809 (v12840 : BitVec 32) : Fin 4 → Nat :=
  let v12841 : Index := Scalar.indexCast v12840
  let c0_9489 : Index := 0#32
  let c0_9490 : Index := 0#32
  let c0_9491 : Index := 0#32
  ![v12841.toNat, 0, 0, 0]

def k0_chk780 (v12840 : BitVec 32) : Prop :=
  (∀ a, (k0_off809 v12840) a + S1x2x16x128.size a ≤ S112x2x16x128.size a)
theorem k0_off809_inb : ∀ (v12840 : BitVec 32) (k0_hw780 : k0_chk780 v12840), ∀ a, (k0_off809 v12840) a + S1x2x16x128.size a ≤ S112x2x16x128.size a := fun v12840 k0_hw780 => k0_hw780

def k0_off810 (v12844 : BitVec 32) : Fin 4 → Nat :=
  let v12845 : Index := Scalar.indexCast v12844
  let c0_9493 : Index := 0#32
  let c0_9494 : Index := 0#32
  let c0_9495 : Index := 0#32
  ![v12845.toNat, 0, 0, 0]

def k0_chk781 (v12844 : BitVec 32) : Prop :=
  (∀ a, (k0_off810 v12844) a + S1x2x16x128.size a ≤ S112x2x16x128.size a)
theorem k0_off810_inb : ∀ (v12844 : BitVec 32) (k0_hw781 : k0_chk781 v12844), ∀ a, (k0_off810 v12844) a + S1x2x16x128.size a ≤ S112x2x16x128.size a := fun v12844 k0_hw781 => k0_hw781

def k0_off811 (v12848 : BitVec 32) : Fin 4 → Nat :=
  let v12849 : Index := Scalar.indexCast v12848
  let c0_9497 : Index := 0#32
  let c0_9498 : Index := 0#32
  let c0_9499 : Index := 0#32
  ![v12849.toNat, 0, 0, 0]

def k0_chk782 (v12848 : BitVec 32) : Prop :=
  (∀ a, (k0_off811 v12848) a + S1x2x16x128.size a ≤ S112x2x16x128.size a)
theorem k0_off811_inb : ∀ (v12848 : BitVec 32) (k0_hw782 : k0_chk782 v12848), ∀ a, (k0_off811 v12848) a + S1x2x16x128.size a ≤ S112x2x16x128.size a := fun v12848 k0_hw782 => k0_hw782

def k0_off812 (v12852 : BitVec 32) : Fin 4 → Nat :=
  let v12853 : Index := Scalar.indexCast v12852
  let c0_9501 : Index := 0#32
  let c0_9502 : Index := 0#32
  let c0_9503 : Index := 0#32
  ![v12853.toNat, 0, 0, 0]

def k0_chk783 (v12852 : BitVec 32) : Prop :=
  (∀ a, (k0_off812 v12852) a + S1x2x16x128.size a ≤ S112x2x16x128.size a)
theorem k0_off812_inb : ∀ (v12852 : BitVec 32) (k0_hw783 : k0_chk783 v12852), ∀ a, (k0_off812 v12852) a + S1x2x16x128.size a ≤ S112x2x16x128.size a := fun v12852 k0_hw783 => k0_hw783

def k0_off813 (v12856 : BitVec 32) : Fin 4 → Nat :=
  let v12857 : Index := Scalar.indexCast v12856
  let c0_9505 : Index := 0#32
  let c0_9506 : Index := 0#32
  let c0_9507 : Index := 0#32
  ![v12857.toNat, 0, 0, 0]

def k0_chk784 (v12856 : BitVec 32) : Prop :=
  (∀ a, (k0_off813 v12856) a + S1x2x16x128.size a ≤ S112x2x16x128.size a)
theorem k0_off813_inb : ∀ (v12856 : BitVec 32) (k0_hw784 : k0_chk784 v12856), ∀ a, (k0_off813 v12856) a + S1x2x16x128.size a ≤ S112x2x16x128.size a := fun v12856 k0_hw784 => k0_hw784

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S28x28 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S32x14336 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x14336 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x14336 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== TransformReferenceIdeal.lean ====
abbrev S1536x14336 : Shape := ⟨2, ![1536, 14336]⟩
abbrev S28x28 : Shape := ⟨2, ![28, 28]⟩
abbrev S_ : Shape := ⟨0, ![]⟩
abbrev S1536x28x512 : Shape := ⟨3, ![1536, 28, 512]⟩
abbrev S28x1536x512 : Shape := ⟨3, ![28, 1536, 512]⟩
abbrev S512x512 : Shape := ⟨2, ![512, 512]⟩
abbrev S1536 : Shape := ⟨1, ![1536]⟩
abbrev S1536x1 : Shape := ⟨2, ![1536, 1]⟩
abbrev S1536x255 : Shape := ⟨2, ![1536, 255]⟩
abbrev S1536x128 : Shape := ⟨2, ![1536, 128]⟩

abbrev nBuf : Space → Nat
  | .hbm => 95
  | .vmem => 0
  | .smem => 0
  | _ => 0

abbrev bufTy : (tb : Table) → Fin (tcTables nBuf tb) → BufTy
  | .hbm, ⟨0, _⟩ => ⟨S1536x14336, .bf16⟩
  | .hbm, ⟨1, _⟩ => ⟨S1536x14336, .bf16⟩
  | .hbm, ⟨2, _⟩ => ⟨S28x28, .f32⟩
  | .hbm, ⟨3, _⟩ => ⟨S1536x14336, .f32⟩
  | .hbm, ⟨4, _⟩ => ⟨S1536x14336, .f32⟩
  | .hbm, ⟨5, _⟩ => ⟨S1536x14336, .f32⟩
  | .hbm, ⟨6, _⟩ => ⟨S_, .f32⟩
  | .hbm, ⟨7, _⟩ => ⟨S1536x14336, .f32⟩
  | .hbm, ⟨8, _⟩ => ⟨S1536x14336, .f32⟩
  | .hbm, ⟨9, _⟩ => ⟨S_, .f32⟩
  | .hbm, ⟨10, _⟩ => ⟨S1536x14336, .f32⟩
  | .hbm, ⟨11, _⟩ => ⟨S1536x14336, .f32⟩
  | .hbm, ⟨12, _⟩ => ⟨S1536x14336, .f32⟩
  | .hbm, ⟨13, _⟩ => ⟨S1536x14336, .f32⟩
  | .hbm, ⟨14, _⟩ => ⟨S1536x14336, .f32⟩
  | .hbm, ⟨15, _⟩ => ⟨S1536x28x512, .f32⟩
  | .hbm, ⟨16, _⟩ => ⟨S28x1536x512, .f32⟩
  | .hbm, ⟨17, _⟩ => ⟨S1536x28x512, .f32⟩
  | .hbm, ⟨18, _⟩ => ⟨S512x512, .i32⟩
  | .hbm, ⟨19, _⟩ => ⟨S512x512, .i32⟩
  | .hbm, ⟨20, _⟩ => ⟨S512x512, .i32⟩
  | .hbm, ⟨21, _⟩ => ⟨S512x512, .i32⟩
  | .hbm, ⟨22, _⟩ => ⟨S_, .i32⟩
  | .hbm, ⟨23, _⟩ => ⟨S512x512, .i32⟩
  | .hbm, ⟨24, _⟩ => ⟨S512x512, .i32⟩
  | .hbm, ⟨25, _⟩ => ⟨S_, .i32⟩
  | .hbm, ⟨26, _⟩ => ⟨S512x512, .i32⟩
  | .hbm, ⟨27, _⟩ => ⟨S512x512, .i1⟩
  | .hbm, ⟨28, _⟩ => ⟨S_, .f32⟩
  | .hbm, ⟨29, _⟩ => ⟨S_, .f32⟩
  | .hbm, ⟨30, _⟩ => ⟨S512x512, .f32⟩
  | .hbm, ⟨31, _⟩ => ⟨S512x512, .f32⟩
  | .hbm, ⟨32, _⟩ => ⟨S512x512, .f32⟩
  | .hbm, ⟨33, _⟩ => ⟨S1536x28x512, .f32⟩
  | .hbm, ⟨34, _⟩ => ⟨S_, .f32⟩
  | .hbm, ⟨35, _⟩ => ⟨S1536x28x512, .f32⟩
  | .hbm, ⟨36, _⟩ => ⟨S1536x28x512, .f32⟩
  | .hbm, ⟨37, _⟩ => ⟨S1536x14336, .f32⟩
  | .hbm, ⟨38, _⟩ => ⟨S1536x14336, .f32⟩
  | .hbm, ⟨39, _⟩ => ⟨S_, .f32⟩
  | .hbm, ⟨40, _⟩ => ⟨S1536, .f32⟩
  | .hbm, ⟨41, _⟩ => ⟨S1536x1, .f32⟩
  | .hbm, ⟨42, _⟩ => ⟨S_, .f32⟩
  | .hbm, ⟨43, _⟩ => ⟨S1536x1, .f32⟩
  | .hbm, ⟨44, _⟩ => ⟨S1536x1, .f32⟩
  | .hbm, ⟨45, _⟩ => ⟨S1536x255, .i32⟩
  | .hbm, ⟨46, _⟩ => ⟨S_, .i32⟩
  | .hbm, ⟨47, _⟩ => ⟨S1536x255, .i32⟩
  | .hbm, ⟨48, _⟩ => ⟨S1536x255, .i32⟩
  | .hbm, ⟨49, _⟩ => ⟨S_, .i32⟩
  | .hbm, ⟨50, _⟩ => ⟨S1536x255, .i32⟩
  | .hbm, ⟨51, _⟩ => ⟨S1536x255, .i32⟩
  | .hbm, ⟨52, _⟩ => ⟨S1536x255, .f32⟩
  | .hbm, ⟨53, _⟩ => ⟨S1536x255, .f32⟩
  | .hbm, ⟨54, _⟩ => ⟨S1536x255, .i1⟩
  | .hbm, ⟨55, _⟩ => ⟨S1536x255, .i32⟩
  | .hbm, ⟨56, _⟩ => ⟨S_, .i32⟩
  | .hbm, ⟨57, _⟩ => ⟨S1536, .i32⟩
  | .hbm, ⟨58, _⟩ => ⟨S1536x1, .i32⟩
  | .hbm, ⟨59, _⟩ => ⟨S_, .i32⟩
  | .hbm, ⟨60, _⟩ => ⟨S1536x1, .i32⟩
  | .hbm, ⟨61, _⟩ => ⟨S1536x1, .i1⟩
  | .hbm, ⟨62, _⟩ => ⟨S_, .i32⟩
  | .hbm, ⟨63, _⟩ => ⟨S1536x1, .i32⟩
  | .hbm, ⟨64, _⟩ => ⟨S1536x1, .i32⟩
  | .hbm, ⟨65, _⟩ => ⟨S_, .i32⟩
  | .hbm, ⟨66, _⟩ => ⟨S_, .i32⟩
  | .hbm, ⟨67, _⟩ => ⟨S1536x1, .i32⟩
  | .hbm, ⟨68, _⟩ => ⟨S1536x1, .i32⟩
  | .hbm, ⟨69, _⟩ => ⟨S_, .i32⟩
  | .hbm, ⟨70, _⟩ => ⟨S1536x1, .i32⟩
  | .hbm, ⟨71, _⟩ => ⟨S1536x1, .i32⟩
  | .hbm, ⟨72, _⟩ => ⟨S_, .i32⟩
  | .hbm, ⟨73, _⟩ => ⟨S1536x1, .i32⟩
  | .hbm, ⟨74, _⟩ => ⟨S1536x1, .i32⟩
  | .hbm, ⟨75, _⟩ => ⟨S1536x1, .f32⟩
  | .hbm, ⟨76, _⟩ => ⟨S_, .i32⟩
  | .hbm, ⟨77, _⟩ => ⟨S1536x1, .i32⟩
  | .hbm, ⟨78, _⟩ => ⟨S1536x1, .i32⟩
  | .hbm, ⟨79, _⟩ => ⟨S_, .i32⟩
  | .hbm, ⟨80, _⟩ => ⟨S1536x1, .i32⟩
  | .hbm, ⟨81, _⟩ => ⟨S1536x1, .i32⟩
  | .hbm, ⟨82, _⟩ => ⟨S1536x1, .f32⟩
  | .hbm, ⟨83, _⟩ => ⟨S1536x14336, .f32⟩
  | .hbm, ⟨84, _⟩ => ⟨S1536x14336, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S1536x14336, .f32⟩
  | .hbm, ⟨89, _⟩ => ⟨S1536x14336, .f32⟩
  | .hbm, ⟨90, _⟩ => ⟨S_, .f32⟩
  | .hbm, ⟨91, _⟩ => ⟨S1536x14336, .f32⟩
  | .hbm, ⟨92, _⟩ => ⟨S1536x14336, .f32⟩
  | .hbm, ⟨93, _⟩ => ⟨S1536x14336, .fp8e4m3⟩
  | .hbm, ⟨94, _⟩ => ⟨S1536x128, .f32⟩
  | _, _ => ⟨S1536x14336, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_0 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_cst_1 : Ref sig .tc := ⟨.hbm, 29, rfl⟩
abbrev main_call1_v0 : Ref sig .tc := ⟨.hbm, 30, rfl⟩
abbrev main_call1_v1 : Ref sig .tc := ⟨.hbm, 31, rfl⟩
abbrev main_v15 : Ref sig .tc := ⟨.hbm, 32, rfl⟩
abbrev main_v16 : Ref sig .tc := ⟨.hbm, 33, rfl⟩
abbrev main_cst_2 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_cst_4 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c_5 : Ref sig .tc := ⟨.hbm, 46, rfl⟩
abbrev main_v26 : Ref sig .tc := ⟨.hbm, 47, rfl⟩
abbrev main_v27 : Ref sig .tc := ⟨.hbm, 48, rfl⟩
abbrev main_c_6 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_c_7 : Ref sig .tc := ⟨.hbm, 56, rfl⟩
abbrev main_v34 : Ref sig .tc := ⟨.hbm, 57, rfl⟩
abbrev main_v35 : Ref sig .tc := ⟨.hbm, 58, rfl⟩
abbrev main_c_8 : Ref sig .tc := ⟨.hbm, 59, rfl⟩
abbrev main_v36 : Ref sig .tc := ⟨.hbm, 60, rfl⟩
abbrev main_v37 : Ref sig .tc := ⟨.hbm, 61, rfl⟩
abbrev main_c_9 : Ref sig .tc := ⟨.hbm, 62, rfl⟩
abbrev main_v38 : Ref sig .tc := ⟨.hbm, 63, rfl⟩
abbrev main_v39 : Ref sig .tc := ⟨.hbm, 64, rfl⟩
abbrev main_c_10 : Ref sig .tc := ⟨.hbm, 65, rfl⟩
abbrev main_call2_v0 : Ref sig .tc := ⟨.hbm, 66, rfl⟩
abbrev main_call2_v1 : Ref sig .tc := ⟨.hbm, 67, rfl⟩
abbrev main_v40 : Ref sig .tc := ⟨.hbm, 68, rfl⟩
abbrev main_c_11 : Ref sig .tc := ⟨.hbm, 69, rfl⟩
abbrev main_v41 : Ref sig .tc := ⟨.hbm, 70, rfl⟩
abbrev main_v42 : Ref sig .tc := ⟨.hbm, 71, rfl⟩
abbrev main_c_12 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_c_13 : Ref sig .tc := ⟨.hbm, 76, rfl⟩
abbrev main_v46 : Ref sig .tc := ⟨.hbm, 77, rfl⟩
abbrev main_v47 : Ref sig .tc := ⟨.hbm, 78, rfl⟩
abbrev main_c_14 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_15 : Ref sig .tc := ⟨.hbm, 85, rfl⟩
abbrev main_cst_16 : Ref sig .tc := ⟨.hbm, 86, rfl⟩
abbrev main_call3_v0 : Ref sig .tc := ⟨.hbm, 87, rfl⟩
abbrev main_call3_v1 : Ref sig .tc := ⟨.hbm, 88, rfl⟩
abbrev main_call3_v2 : Ref sig .tc := ⟨.hbm, 89, rfl⟩
abbrev main_call3_v3 : Ref sig .tc := ⟨.hbm, 90, rfl⟩
abbrev main_call3_v4 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩

abbrev nD : Nat := 1
abbrev τ : Topo := Topo.v7x

variable {F : FTy → Type} [FloatOps F]
-- ==== Proof.Down.Value.lean ====
/-
  The two programs' results, each as one function of the argument arrays (hand-written, untrusted).
-/
module

public import proofs.«01_k».proof.Defs
public import proofs.«01_k».proof.Proof.Gen.DownIdeal.Value
public import proofs.«01_k».proof.Proof.Gen.DownReferenceIdeal.Value
public import Idealize.ShloMosaic.Lib.Pipeline.ValueKit
public import Idealize.ShloMosaic.Lib.ValueIdx
public import Idealize.ShloMosaic.Lib.Pointwise

@[expose] public section

set_option maxRecDepth 16384

noncomputable section

open Idealize.ShloMosaic Idealize.ShloMosaic.TcCoe Idealize.SL.Sem
open Idealize.ShloMosaic.Pipeline (Dat)

/-! ## The one-point reference: its result array is its payload of the arguments -/

namespace Cert.DownReferenceIdeal.Hand

open Cert.DownReferenceIdeal Cert.DownReferenceIdeal.Gen

variable (m : (ℓ : Loc nD τ sig) → Buf (Elt Ideal) ℓ)

/-- The scaled product of the arrays: the reference's own payload, the scales' first lane and the weights' scales as one row. -/
abbrev REF (X : FVec Ideal S1536x14336 .fp8e4m3) (s : FVec Ideal S1536x128 .f32) (W : FVec Ideal S14336x4096 .fp8e4m3)
    (ws : FVec Ideal S4096 .f32) : FVec Ideal S1536x4096 .bf16 :=
  k0_pay1 (F := Ideal) X W (fun i => s (ix2 (i 0) 0)) (fun i => ws (ix1 (i 1)))

theorem idx : ∀ t : Fin cfg0.N, win0_0.index t = ![0, 0] ∧ win0_1.index t = ![0, 0] ∧ win0_2.index t = ![0, 0]
    ∧ win0_3.index t = ![0, 0] ∧ win0_4.index t = ![0, 0] :=
  (by decide +kernel : ∀ t : Fin grid0.N, _)

/-- The reference's result array after the run. -/
theorem final (c : Dev nD) : (dats m 0 c).arrAt 4 (cfgs 0).N
    = REF (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t _ y => ?_
  blk_simp
  rw [after0_4]; frame_out
  pointwise [k0_pay1, REF]
  blk_point [iblk, V, idx t]

end Cert.DownReferenceIdeal.Hand

/-! ## The tiled kernel: its result array is the same function of the arguments -/

namespace Cert.DownIdeal.Hand

open Cert.DownIdeal Cert.DownIdeal.Gen

variable (m : (ℓ : Loc nD τ sig) → Buf (Elt Ideal) ℓ)

theorem idx : ∀ t : Fin cfg0.N, win0_0.index t = ![(grid0.coords t 0).val, 0] ∧ win0_1.index t = ![(grid0.coords t 0).val, 0]
    ∧ win0_2.index t = ![0, (grid0.coords t 1).val]
    ∧ win0_3.index t = ![0, (grid0.coords t 1).val] ∧ win0_4.index t = ![(grid0.coords t 0).val, (grid0.coords t 1).val] :=
  (by decide +kernel : ∀ t : Fin grid0.N, _)

open Cert.DownReferenceIdeal.Hand (REF)

/-- The kernel's result array after the run. -/
theorem final (c : Dev nD) : (dats m 0 c).arrAt 4 (cfgs 0).N
    = REF (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t _ y => ?_
  blk_simp
  rw [after0_4]; frame_out
  pointwise [k0_pay1, REF, Cert.DownReferenceIdeal.Gen.k0_pay1]
  blk_point [iblk, V, idx t]

end Cert.DownIdeal.Hand

end
-- ==== Proof.Transform.Reference.lean ====
module

public import proofs.«01_k».proof.Proof.Gen.TransformReferenceIdeal.Run
public import proofs.«01_k».proof.Proof.Gen.TransformReferenceIdeal.Read

@[expose] public section

set_option maxRecDepth 16384

end
-- ==== Proof.Transform.Struct.lean ====
/-
  The body of the transform call written again with its loops, and the printed body equal to it (hand-written, untrusted).
-/
module

public import proofs.«01_k».proof.Transform
public import Idealize.ShloMosaic.Lib.Pipeline.Regions
public import Idealize.ShloMosaic.Lib.PairWhole

@[expose] public section

set_option maxRecDepth 16384

noncomputable section

open Idealize.ShloMosaic Idealize.SL.Sem

namespace Cert.Transform.Hand

open Cert.Transform Cert.Transform.Facts₀ Cert.Transform.K0.Facts₀ Cert.Transform.Shapes1.Facts₀ Cert.Transform.Shapes2.Facts₀

variable {F : FTy → Type} [FloatOps F] [Facts]

/-- The kernel's programs. -/
abbrev P (F : FTy → Type) [FloatOps F] [Facts] (α : Type) := Prog (TpuEff nD τ sig (Elt F) Λ₀ .tc) α

/-! ## Loops over literals -/

def loopAux {E : Type → Type} {n : ℕ} (f : Fin n → Prog E PUnit) : (k i : ℕ) → i + k = n → Prog E PUnit
  | 0, _, _ => .ret ⟨⟩
  | k + 1, i, h => f ⟨i, by omega⟩ >>= fun _ => loopAux f k (i + 1) (by omega)

/-- Run `f 0`, …, `f (n - 1)`. -/
def loop {E : Type → Type} (n : ℕ) (f : Fin n → Prog E PUnit) : Prog E PUnit := loopAux f n 0 (by omega)

/-! ## Pure pieces -/

/-- The gated product of two loaded pieces. -/
def gated (g u : FVec F S16x128 .bf16) : FVec F S16x128 .f32 :=
  mulf (mulf (extf .f32 g bitsLt_bf16_f32) (divf (broadcast S16x128 (Scalar.ofBits .f32 0x3F800000#32))
    (addf (broadcast S16x128 (Scalar.ofBits .f32 0x3F800000#32))
      (exp (subf (broadcast S16x128 (Scalar.ofBits .f32 0x00000000#32)) (extf .f32 g bitsLt_bf16_f32))))))
    (extf .f32 u bitsLt_bf16_f32)

def neg0 (x : FVec F S16x128 .f32) : FVec F S16x128 .f32 := subf (broadcast S16x128 (Scalar.ofBits .f32 0x00000000#32)) x

/-- The sixteen sums of four pieces, each under its signs: bit `j` of `m` set means minus before `x_j`. -/
def combo (x0 x1 x2 x3 : FVec F S16x128 .f32) : ℕ → FVec F S16x128 .f32
  | 0 => addf (addf x0 x1) (addf x2 x3)
  | 1 => subf (addf x2 x3) (subf x0 x1)
  | 2 => addf (subf x0 x1) (addf x2 x3)
  | 3 => subf (addf x2 x3) (addf x0 x1)
  | 4 => subf (addf x0 x1) (subf x2 x3)
  | 5 => neg0 (addf (subf x0 x1) (subf x2 x3))
  | 6 => subf (subf x0 x1) (subf x2 x3)
  | 7 => neg0 (addf (addf x0 x1) (subf x2 x3))
  | 8 => addf (addf x0 x1) (subf x2 x3)
  | 9 => subf (subf x2 x3) (subf x0 x1)
  | 10 => addf (subf x0 x1) (subf x2 x3)
  | 11 => subf (subf x2 x3) (addf x0 x1)
  | 12 => subf (addf x0 x1) (addf x2 x3)
  | 13 => neg0 (addf (subf x0 x1) (addf x2 x3))
  | 14 => subf (subf x0 x1) (addf x2 x3)
  | _ => neg0 (addf (addf x0 x1) (addf x2 x3))

def sum7 (t0 t1 t2 t3 t4 t5 t6 : FVec F S2x16x128 .f32) : FVec F S32x128 .f32 :=
  shapeCast S32x128 (addf (addf (addf t0 t1) (addf t2 t3)) (addf (addf t4 t5) t6)) shapeCasts_S2x16x128_S32x128

def hi (z : FVec F S32x128 .f32) : FVec F S32x128 .bf16 := truncf .bf16 z bitsLt_bf16_f32
def rest (z : FVec F S32x128 .f32) : FVec F S32x128 .f32 := subf z (extf .f32 (hi z) bitsLt_bf16_f32)

/-- The greatest magnitude of a computed chunk, folded to one row of 128 a token. -/
def peak (d : FVec F S224x256 .f32) : FVec F S16x128 .f32 :=
  have m : FVec F S16x256 .f32 := multiReduction .maximumf [0] S16x256 (shapeCast S14x16x256 (absf d) shapeCasts_S224x256_S14x16x256) 0xFF800000#32 reduces_S14x16x256_S16x256 (.inl rfl) rfl
  maximumf (extractStridedSlice S16x128 ![0, 0] m slices_S16x256_o0_0_S16x128) (extractStridedSlice S16x128 ![0, 128] m slices_S16x256_o0_128_S16x128)

/-- The row's greatest magnitude over 448. -/
def tOf (a b : FVec F S16x128 .f32) : FVec F S32x1 .f32 :=
  mulf (mulf (shapeCast S32x1 (multiReduction .maximumf [1] S32 (concatenate S32x128 0 [⟨S16x128, a⟩, ⟨S16x128, b⟩] concatenates_S16x128_S16x128_S32x128_d0) 0xFF800000#32 reduces_S32x128_S32 (.inl rfl) rfl) shapeCasts_S32_S32x1)
    (broadcast S32x1 (Scalar.ofBits .f32 0x3C08D677#32))) (broadcast S32x1 (Scalar.ofBits .f32 0x3B124925#32))

def bisect (t : FVec F S32x1 .f32) (bit : BitVec 32) (e : IVec S32x1 32) : IVec S32x1 32 :=
  select (cmpf .oge t (bitcastToFloat .f32 (shli (addi e (broadcast S32x1 bit)) (broadcast S32x1 23#32)))) (addi e (broadcast S32x1 bit)) e

def expo (t : FVec F S32x1 .f32) : IVec S32x1 32 :=
  have e : IVec S32x1 32 := bisect t 1#32 (bisect t 2#32 (bisect t 4#32 (bisect t 8#32 (bisect t 16#32 (bisect t 32#32 (bisect t 64#32 (bisect t 128#32 (broadcast S32x1 0#32))))))))
  select (cmpi .eq e (broadcast S32x1 0#32)) (broadcast S32x1 0#32) (subi e (broadcast S32x1 126#32))

def scaleOf (t : FVec F S32x1 .f32) : FVec F S32x128 .f32 :=
  broadcastTo S32x128 (shapeCast S32x1 (bitcastToFloat .f32 (shli (addi (expo t) (broadcast S32x1 127#32)) (broadcast S32x1 23#32))) shapeCasts_S32x1_S32x1) broadcasts_S32x1_S32x128

def invOf (t : FVec F S32x1 .f32) : FVec F S32x256 .f32 :=
  broadcastTo S32x256 (shapeCast S32x1 (bitcastToFloat .f32 (shli (subi (broadcast S32x1 127#32) (expo t)) (broadcast S32x1 23#32))) shapeCasts_S32x1_S32x1) broadcasts_S32x1_S32x256

def code (a b : FVec F S16x256 .f32) (inv : FVec F S32x256 .f32) : FVec F S32x256 .fp8e4m3 :=
  truncf .fp8e4m3 (minimumf (broadcast S32x256 (Scalar.ofBits .f32 0x43E00000#32)) (maximumf (broadcast S32x256 (Scalar.ofBits .f32 0xC3E00000#32))
    (mulf (mulf (concatenate S32x256 0 [⟨S16x256, a⟩, ⟨S16x256, b⟩] concatenates_S16x256_S16x256_S32x256_d0) (broadcast S32x256 (Scalar.ofBits .f32 0x3C08D677#32))) inv))) bitsLt_fp8e4m3_f32

/-! ## The body -/

section
variable (i : grid0.Coords) (arg1 : Memref sig .tc .smem S28x28 .f32) (harg1 : arg1.IsWhole) (arg2 : Memref sig .tc .vmem S32x14336 .bf16) (harg2 : arg2.IsWhole) (arg3 : Memref sig .tc .vmem S32x14336 .bf16) (harg3 : arg3.IsWhole) (arg4 : Memref sig .tc .vmem S32x14336 .fp8e4m3) (harg4 : arg4.IsWhole) (arg5 : Memref sig .tc .vmem S32x128 .f32) (harg5 : arg5.IsWhole) (arg6 : Memref sig .tc .vmem S256x256 .bf16) (harg6 : arg6.IsWhole) (arg7 : Memref sig .tc .smem S224 .i32) (harg7 : arg7.IsWhole) (arg8 : Memref sig .tc .vmem S112x2x16x128 .f32) (harg8 : arg8.IsWhole) (arg9 : Memref sig .tc .vmem S2x3x896x256 .bf16) (harg9 : arg9.IsWhole) (arg10 : Memref sig .tc .vmem S2x896x256 .f32) (harg10 : arg10.IsWhole)

theorem inbX (s : Fin 2) (c : Fin 112) : ∀ a, (![16 * s.val, 128 * c.val] : Fin 2 → Nat) a + S16x128.size a ≤ S32x14336.size a := by
  intro a; fin_cases a
  · show 16 * s.val + 16 ≤ 32; omega
  · show 128 * c.val + 128 ≤ 14336; omega

/-- One gated piece: rows `16 s …`, columns `128 c …`. -/
def piece (s : Fin 2) (c : Fin 112) : P F (FVec F S16x128 .f32) := do
  let g : Vec F S16x128 .bf16 ← Prog.lift (.load arg2 (Rect.unit (s := S32x14336) ![16 * s.val, 128 * c.val] S16x128.size (inbX s c)).toLoadRect (View.loadsAt_vmem h_S16x128))
  let u : Vec F S16x128 .bf16 ← Prog.lift (.load arg3 (Rect.unit (s := S32x14336) ![16 * s.val, 128 * c.val] S16x128.size (inbX s c)).toLoadRect (View.loadsAt_vmem h_S16x128))
  pure (gated g u)

theorem inbT (r : Fin 112) (b : Fin 2) : ∀ a, (![r.val, b.val, 0, 0] : Fin 4 → Nat) a + S1x1x16x128.size a ≤ S112x2x16x128.size a := by
  intro a; fin_cases a
  · show r.val + 1 ≤ 112; omega
  · show b.val + 1 ≤ 2; omega
  · exact Nat.le_refl _
  · exact Nat.le_refl _

/-- Row `r` of the table, half `b`. -/
def putT (r : Fin 112) (b : Fin 2) (v : FVec F S16x128 .f32) : P F PUnit := do
  let _ ← Prog.lift (.load arg8 (Rect.unit (s := S112x2x16x128) ![r.val, b.val, 0, 0] S1x1x16x128.size (inbT r b)).toLoadRect (View.loadsAt_vmem h_S1x1x16x128))
  Prog.lift (.store arg8 (Rect.unit (s := S112x2x16x128) ![r.val, b.val, 0, 0] S1x1x16x128.size (inbT r b)) (shapeCast S1x1x16x128 v shapeCasts_S16x128_S1x1x16x128) Finset.univ (View.stores_vmem_bits_univ h_S1x1x16x128 rfl) (.inl rfl))

/-- The sums of group `g`'s four pieces, for half `b0`. -/
def group (s b0 : Fin 2) (g : Fin 7) : P F PUnit := do
  let l0 ← piece arg2 arg3 s ⟨(4 * g.val + 0) * 4 + b0.val, by omega⟩
  let r0 ← piece arg2 arg3 s ⟨(4 * g.val + 0) * 4 + b0.val + 2, by omega⟩
  let l1 ← piece arg2 arg3 s ⟨(4 * g.val + 1) * 4 + b0.val, by omega⟩
  let r1 ← piece arg2 arg3 s ⟨(4 * g.val + 1) * 4 + b0.val + 2, by omega⟩
  let l2 ← piece arg2 arg3 s ⟨(4 * g.val + 2) * 4 + b0.val, by omega⟩
  let r2 ← piece arg2 arg3 s ⟨(4 * g.val + 2) * 4 + b0.val + 2, by omega⟩
  let l3 ← piece arg2 arg3 s ⟨(4 * g.val + 3) * 4 + b0.val, by omega⟩
  let r3 ← piece arg2 arg3 s ⟨(4 * g.val + 3) * 4 + b0.val + 2, by omega⟩
  loop 16 fun m => putT arg8 ⟨16 * g.val + m.val, by omega⟩ 0 (combo (addf l0 r0) (addf l1 r1) (addf l2 r2) (addf l3 r3) m.val)
  loop 16 fun m => putT arg8 ⟨16 * g.val + m.val, by omega⟩ 1 (combo (subf l0 r0) (subf l1 r1) (subf l2 r2) (subf l3 r3) m.val)

theorem inbW (k : ℕ) (hk : k < 224) : ∀ a, (![k] : Fin 1 → Nat) a + S1.size a ≤ S224.size a := by
  intro a; fin_cases a; show k + 1 ≤ 224; omega

/-- The table row that word `k` names. -/
def row (k : ℕ) (hk : k < 224) : P F (FVec F S2x16x128 .f32) := do
  let v : Elt F .i32 ← smemLoad arg7 (Rect.unit (s := S224) ![k] S1.size (inbW k hk)) numel1_S1 rfl
  have hw : k0_chk1 v := (← Prog.lift (TpuEff.assume (k0_chk1 v) (k0_chk1.dec v))).down
  let t : Vec F S1x2x16x128 .f32 ← Prog.lift (.load arg8 (Rect.unit (s := S112x2x16x128) (k0_off30 v) S1x2x16x128.size (k0_off30_inb v hw)).toLoadRect (View.loadsAt_vmem h_S1x2x16x128))
  pure (shapeCast S2x16x128 t shapeCasts_S1x2x16x128_S2x16x128)

theorem inbZ (s b0 : Fin 2) (p : Fin 3) (a : Fin 28) : ∀ d, (![s.val, p.val, 32 * a.val, 128 * b0.val] : Fin 4 → Nat) d + S1x1x32x128.size d ≤ S2x3x896x256.size d := by
  intro d; fin_cases d
  · show s.val + 1 ≤ 2; omega
  · show p.val + 1 ≤ 3; omega
  · show 32 * a.val + 32 ≤ 896; omega
  · show 128 * b0.val + 128 ≤ 256; omega

theorem packZ (s b0 : Fin 2) (p : Fin 3) (a : Fin 28) :
    (Rect.unit (s := S2x3x896x256) ![s.val, p.val, 32 * a.val, 128 * b0.val] S1x1x32x128.size (inbZ s b0 p a)).PackedRows (EltTy.packing .bf16) :=
  have h1 : EltTy.packing .bf16 = 2 := rfl
  have h2 : (Rect.unit (s := S2x3x896x256) ![s.val, p.val, 32 * a.val, 128 * b0.val] S1x1x32x128.size (inbZ s b0 p a)).off
      (S2x3x896x256.rowAx (show 2 ≤ 4 by decide)) = 32 * a.val := rfl
  Rect.packedRows_of_rowAxis _ _ (show 2 ≤ 4 by decide) (by rw [h1, h2]; omega) (Dvd.intro 16 rfl) rfl

/-- Part `p` of the rows that the matrix unit is to transform. -/
def putZ (s b0 : Fin 2) (p : Fin 3) (a : Fin 28) (v : FVec F S32x128 .bf16) : P F PUnit := do
  let _ ← Prog.lift (.load arg9 (Rect.unit (s := S2x3x896x256) ![s.val, p.val, 32 * a.val, 128 * b0.val] S1x1x32x128.size (inbZ s b0 p a)).toLoadRect (View.loadsAt_vmem h_S1x1x32x128))
  Prog.lift (.store arg9 (Rect.unit (s := S2x3x896x256) ![s.val, p.val, 32 * a.val, 128 * b0.val] S1x1x32x128.size (inbZ s b0 p a)) (shapeCast S1x1x32x128 v shapeCasts_S32x128_S1x1x32x128) Finset.univ (View.stores_vmem h_S1x1x32x128 (harg9.storeExact_slice rfl _ (packZ s b0 p a)) (fun _ => rfl)) (.inl rfl))

/-- One row of signs: the sum of its seven table rows, split in three and stored. -/
def signed (s b0 : Fin 2) (a : Fin 28) : P F PUnit := do
  let t0 ← row arg7 arg8 (8 * a.val + 0) (by omega)
  let t1 ← row arg7 arg8 (8 * a.val + 1) (by omega)
  let t2 ← row arg7 arg8 (8 * a.val + 2) (by omega)
  let t3 ← row arg7 arg8 (8 * a.val + 3) (by omega)
  let t4 ← row arg7 arg8 (8 * a.val + 4) (by omega)
  let t5 ← row arg7 arg8 (8 * a.val + 5) (by omega)
  let t6 ← row arg7 arg8 (8 * a.val + 6) (by omega)
  putZ arg9 harg9 s b0 0 a (hi (sum7 t0 t1 t2 t3 t4 t5 t6))
  putZ arg9 harg9 s b0 1 a (hi (rest (sum7 t0 t1 t2 t3 t4 t5 t6)))
  putZ arg9 harg9 s b0 2 a (hi (rest (rest (sum7 t0 t1 t2 t3 t4 t5 t6))))

def phase1 : P F PUnit :=
  loop 2 fun s => loop 2 fun b0 => do
    loop 7 fun g => group arg2 arg3 arg8 s b0 g
    loop 28 fun a => signed arg7 arg8 arg9 harg9 s b0 a

theorem inbL (s : Fin 2) (p : Fin 3) (c : Fin 4) : ∀ d, (![s.val, p.val, 224 * c.val, 0] : Fin 4 → Nat) d + S1x1x224x256.size d ≤ S2x3x896x256.size d := by
  intro d; fin_cases d
  · show s.val + 1 ≤ 2; omega
  · show p.val + 1 ≤ 3; omega
  · show 224 * c.val + 224 ≤ 896; omega
  · exact Nat.le_refl _

/-- One product with the matrix of signs. -/
def prodP (s : Fin 2) (c : Fin 4) (p : Fin 3) : P F (FVec F S224x256 .f32) := do
  let z : Vec F S1x1x224x256 .bf16 ← Prog.lift (.load arg9 (Rect.unit (s := S2x3x896x256) ![s.val, p.val, 224 * c.val, 0] S1x1x224x256.size (inbL s p c)).toLoadRect (View.loadsAt_vmem h_S1x1x224x256))
  let h : Vec F S256x256 .bf16 ← Prog.lift (.load arg6 (Rect.unit (s := S256x256) ![0, 0] S256x256.size inb_S256x256_S256x256_0_0).toLoadRect (View.loadsAt_vmem h_S256x256))
  pure (matmul dot_S224x256_S256x256_S224x256_1_0_0_1_n_n none (shapeCast S224x256 z shapeCasts_S1x1x224x256_S224x256 : FVec F S224x256 .bf16) (h : FVec F S256x256 .bf16) (constant S224x256 .f32 0x00000000#32))

theorem inbY (s : Fin 2) (c : Fin 4) : ∀ d, (![s.val, 224 * c.val, 0] : Fin 3 → Nat) d + S1x224x256.size d ≤ S2x896x256.size d := by
  intro d; fin_cases d
  · show s.val + 1 ≤ 2; omega
  · show 224 * c.val + 224 ≤ 896; omega
  · exact Nat.le_refl _

/-- One chunk of the products stored, and the greatest magnitude so far. -/
def chunk (s : Fin 2) (c : Fin 4) (acc : FVec F S16x128 .f32) : P F (FVec F S16x128 .f32) := do
  let d0 ← prodP arg6 arg9 s c 0
  let d1 ← prodP arg6 arg9 s c 1
  let d2 ← prodP arg6 arg9 s c 2
  let _ ← Prog.lift (.load arg10 (Rect.unit (s := S2x896x256) ![s.val, 224 * c.val, 0] S1x224x256.size (inbY s c)).toLoadRect (View.loadsAt_vmem h_S1x224x256))
  Prog.lift (.store arg10 (Rect.unit (s := S2x896x256) ![s.val, 224 * c.val, 0] S1x224x256.size (inbY s c)) (shapeCast S1x224x256 (addf (addf d0 d1) d2) shapeCasts_S224x256_S1x224x256) Finset.univ (View.stores_vmem_bits_univ h_S1x224x256 rfl) (.inl rfl))
  pure (maximumf acc (peak (addf (addf d0 d1) d2)))

def half (s : Fin 2) : P F (FVec F S16x128 .f32) := do
  let a0 ← chunk arg6 arg9 arg10 s 0 (broadcast S16x128 (Scalar.ofBits .f32 0x00000000#32))
  let a1 ← chunk arg6 arg9 arg10 s 1 a0
  let a2 ← chunk arg6 arg9 arg10 s 2 a1
  chunk arg6 arg9 arg10 s 3 a2

theorem inbQ (s : Fin 2) (q : Fin 56) : ∀ d, (![s.val, 16 * q.val, 0] : Fin 3 → Nat) d + S1x16x256.size d ≤ S2x896x256.size d := by
  intro d; fin_cases d
  · show s.val + 1 ≤ 2; omega
  · show 16 * q.val + 16 ≤ 896; omega
  · exact Nat.le_refl _

theorem inbC (q : Fin 56) : ∀ d, (![0, 256 * q.val] : Fin 2 → Nat) d + S32x256.size d ≤ S32x14336.size d := by
  intro d; fin_cases d
  · exact Nat.le_refl _
  · show 256 * q.val + 256 ≤ 14336; omega

theorem packC (q : Fin 56) : (Rect.unit (s := S32x14336) ![0, 256 * q.val] S32x256.size (inbC q)).PackedRows (EltTy.packing .fp8e4m3) :=
  Rect.packedRows_of_rowAxis _ _ (show 2 ≤ 2 by decide) (Dvd.intro 0 rfl) (Dvd.intro 8 rfl) rfl

/-- One block of codes. -/
def quant (inv : FVec F S32x256 .f32) (q : Fin 56) : P F PUnit := do
  let a : Vec F S1x16x256 .f32 ← Prog.lift (.load arg10 (Rect.unit (s := S2x896x256) ![(0 : Fin 2).val, 16 * q.val, 0] S1x16x256.size (inbQ 0 q)).toLoadRect (View.loadsAt_vmem h_S1x16x256))
  let b : Vec F S1x16x256 .f32 ← Prog.lift (.load arg10 (Rect.unit (s := S2x896x256) ![(1 : Fin 2).val, 16 * q.val, 0] S1x16x256.size (inbQ 1 q)).toLoadRect (View.loadsAt_vmem h_S1x16x256))
  let _ ← Prog.lift (.load arg4 (Rect.unit (s := S32x14336) ![0, 256 * q.val] S32x256.size (inbC q)).toLoadRect (View.loadsAt_vmem h_S32x256))
  Prog.lift (.store arg4 (Rect.unit (s := S32x14336) ![0, 256 * q.val] S32x256.size (inbC q)) (code (shapeCast S16x256 a shapeCasts_S1x16x256_S16x256) (shapeCast S16x256 b shapeCasts_S1x16x256_S16x256) inv) Finset.univ (View.stores_vmem h_S32x256 (harg4.storeExact_slice rfl _ (packC q)) (fun _ => rfl)) (.inl rfl))

/-- What every grid point does. -/
def mainS : P F PUnit := do
  phase1 arg2 arg3 arg7 arg8 arg9 harg9
  let a ← half arg6 arg9 arg10 0
  let b ← half arg6 arg9 arg10 1
  let _ ← Prog.lift (.load arg5 (Rect.unit (s := S32x128) ![0, 0] S32x128.size inb_S32x128_S32x128_0_0).toLoadRect (View.loadsAt_vmem h_S32x128))
  Prog.lift (.store arg5 (Rect.unit (s := S32x128) ![0, 0] S32x128.size inb_S32x128_S32x128_0_0) (scaleOf (tOf a b)) Finset.univ (View.stores_vmem_bits_univ h_S32x128 rfl) (.inl rfl))
  loop 56 fun q => quant arg4 harg4 arg10 (invOf (tOf a b)) q

/-! ### What the first grid point does before -/

theorem inbH (a k : Fin 28) : ∀ d, (![a.val, k.val] : Fin 2 → Nat) d + S1x1.size d ≤ S28x28.size d := by
  intro d; fin_cases d
  · show a.val + 1 ≤ 28; omega
  · show k.val + 1 ≤ 28; omega

/-- The word of four signs, from the four entries. -/
def word (v0 v1 v2 v3 : F .f32) (base : BitVec 32) : BitVec 32 :=
  Scalar.addi (Scalar.addi (Scalar.addi (Scalar.addi base
    (Scalar.select (Scalar.cmpf .olt v0 (Scalar.ofBits .f32 0x00000000#32)) 1#32 0#32))
    (Scalar.select (Scalar.cmpf .olt v1 (Scalar.ofBits .f32 0x00000000#32)) 2#32 0#32))
    (Scalar.select (Scalar.cmpf .olt v2 (Scalar.ofBits .f32 0x00000000#32)) 4#32 0#32))
    (Scalar.select (Scalar.cmpf .olt v3 (Scalar.ofBits .f32 0x00000000#32)) 8#32 0#32)

/-- Row `a`'s word of group `g`. -/
def wordP (a : Fin 28) (g : Fin 7) : P F PUnit := do
  let v0 : Elt F .f32 ← smemLoad arg1 (Rect.unit (s := S28x28) ![a.val, (⟨4 * g.val + 0, by omega⟩ : Fin 28).val] S1x1.size (inbH a ⟨4 * g.val + 0, by omega⟩)) numel1_S1x1 rfl
  let v1 : Elt F .f32 ← smemLoad arg1 (Rect.unit (s := S28x28) ![a.val, (⟨4 * g.val + 1, by omega⟩ : Fin 28).val] S1x1.size (inbH a ⟨4 * g.val + 1, by omega⟩)) numel1_S1x1 rfl
  let v2 : Elt F .f32 ← smemLoad arg1 (Rect.unit (s := S28x28) ![a.val, (⟨4 * g.val + 2, by omega⟩ : Fin 28).val] S1x1.size (inbH a ⟨4 * g.val + 2, by omega⟩)) numel1_S1x1 rfl
  let v3 : Elt F .f32 ← smemLoad arg1 (Rect.unit (s := S28x28) ![a.val, (⟨4 * g.val + 3, by omega⟩ : Fin 28).val] S1x1.size (inbH a ⟨4 * g.val + 3, by omega⟩)) numel1_S1x1 rfl
  let _ ← smemLoad arg7 (Rect.unit (s := S224) ![8 * a.val + g.val] S1.size (inbW (8 * a.val + g.val) (by omega))) numel1_S1 rfl
  Prog.lift (.store arg7 (Rect.unit (s := S224) ![8 * a.val + g.val] S1.size (inbW (8 * a.val + g.val) (by omega))) (fun _ => (word v0 v1 v2 v3 (BitVec.ofNat 32 (16 * g.val)) : BitVec 32)) Finset.univ (View.stores_smem_one rfl numel1_S1) (.inl rfl))

/-- The matrix of signs `(-1)^(number of common one bits)`. -/
def signs : FVec F S256x256 .bf16 :=
  have v0 : IVec S256x256 32 := andi (iota .tc S256x256 32 [0] iota_S256x256_d0_w32) (iota .tc S256x256 32 [1] iota_S256x256_d1_w32)
  have v1 : IVec S256x256 32 := xori v0 (shrsi v0 (broadcast S256x256 4#32))
  have v2 : IVec S256x256 32 := xori v1 (shrsi v1 (broadcast S256x256 2#32))
  have v3 : IVec S256x256 32 := xori v2 (shrsi v2 (broadcast S256x256 1#32))
  truncf .bf16 (select (cmpi .eq (andi v3 (broadcast S256x256 1#32)) (broadcast S256x256 1#32))
    (broadcast S256x256 (Scalar.ofBits .f32 0xBF800000#32 : F .f32)) (broadcast S256x256 (Scalar.ofBits .f32 0x3F800000#32))) bitsLt_bf16_f32

def initS : P F PUnit := do
  let _ ← Prog.lift (.load arg6 (Rect.unit (s := S256x256) ![0, 0] S256x256.size inb_S256x256_S256x256_0_0).toLoadRect (View.loadsAt_vmem h_S256x256))
  Prog.lift (.store arg6 (Rect.unit (s := S256x256) ![0, 0] S256x256.size inb_S256x256_S256x256_0_0) (shapeCast S256x256 (signs (F := F)) shapeCasts_S256x256_S256x256) Finset.univ (View.stores_vmem h_S256x256 (harg6.storeExact_slice rfl _ packedbf16_S256x256_S256x256_0_0) (fun _ => rfl)) (.inl rfl))
  loop 28 fun a => loop 7 fun g => wordP arg1 arg7 a g

end

end Cert.Transform.Hand
-- ==== Proof.Transform.Hoare.lean ====
/-
  Triples of deterministic programs over buffers known where they were written (hand-written, untrusted).
-/
module

public import proofs.«01_k».proof.Proof.Transform.Struct
public import proofs.«01_k».proof.Proof.Gen.Transform.Launch
public import Idealize.ShloMosaic.Lib.MemrefSat
public import Idealize.ShloMosaic.Lib.Tactic

@[expose] public section

set_option maxRecDepth 16384

noncomputable section

namespace Cert.Transform.Hand

open Cert.Transform
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- Started with `R`, the program `p` ends with the value `a` and with `R'`. -/
def Does (c : Dev nD) {α : Type} (R : sProp (MT nD τ sig Unit (Elt F) ℕ (UR sig nD τ) ℕ)) (p : P F α) (a : α) (R' : sProp (MT nD τ sig Unit (Elt F) ℕ (UR sig nD τ) ℕ)) : Prop :=
  ∀ Q : α → sProp (MT nD τ sig Unit (Elt F) ℕ (UR sig nD τ) ℕ), iprop(R ∗ (R' -∗ Q a)) ⊢ wp frame (wpE (defs₀ (F := F)) Variants.none c none) Set.univ p Q

variable {c : Dev nD} {α β : Type}
variable {R R' R'' : sProp (MT nD τ sig Unit (Elt F) ℕ (UR sig nD τ) ℕ)}

theorem Does.ret (a : α) : Does c R (.ret a : P F α) a R := fun Q => by
  rw [wp_ret]
  iintro ⟨HR, HQ⟩
  imodintro
  iapply HQ; iexact HR

theorem Does.pure (a : α) : Does c R (Pure.pure a : P F α) a R := Does.ret a

theorem Does.bind {p : P F α} {k : α → P F β} {a : α} {b : β} (h : Does c R p a R') (h' : Does c R' (k a) b R'') :
    Does c R (p >>= k) b R'' := fun Q => by
  rw [wp_bind]
  iintro ⟨HR, HQ⟩
  iapply (h _)
  isplitl [HR]; · iexact HR
  iintro HR
  iapply (h' _)
  isplitl [HR]; · iexact HR
  iexact HQ

/-- A pair of steps before the rest. -/
theorem Does.seq {γ : Type} {p : P F γ} {q : P F α} {k : α → P F β} {a : α} {b : β} (h : Does c R (p >>= fun _ => q) a R') (h' : Does c R' (k a) b R'') :
    Does c R (p >>= fun _ => q >>= k) b R'' := by
  have e := Does.bind h h'
  rwa [bind_assoc] at e

theorem Does.val {p : P F α} {a b : α} (h : Does c R p a R') (e : a = b) : Does c R p b R' := e ▸ h

theorem Does.conseq {R₁ R₂ : sProp (MT nD τ sig Unit (Elt F) ℕ (UR sig nD τ) ℕ)} {p : P F α} {a : α} (h : Does c R p a R') (h₁ : R₁ ⊢ R) (h₂ : R' ⊢ R₂) : Does c R₁ p a R₂ := fun Q => by
  iintro ⟨HR, HQ⟩
  iapply (h _)
  isplitl [HR]; · iapply h₁; iexact HR
  iintro HR
  iapply HQ
  iapply h₂; iexact HR

theorem Does.loopAux {n : ℕ} (f : Fin n → P F PUnit) (I : ℕ → sProp (MT nD τ sig Unit (Elt F) ℕ (UR sig nD τ) ℕ)) (h : ∀ k : Fin n, Does c (I k.val) (f k) ⟨⟩ (I (k.val + 1))) :
    ∀ (k i : ℕ) (hi : i + k = n), Does c (I i) (Hand.loopAux f k i hi) ⟨⟩ (I n)
  | 0, i, hi => by
      have : i = n := by omega
      subst this
      exact Does.ret _
  | k + 1, i, hi => Does.bind (h ⟨i, by omega⟩) (Does.loopAux f I h k (i + 1) (by omega))

/-- A loop, by what holds before each of its trips. -/
theorem Does.loop {n : ℕ} (f : Fin n → P F PUnit) (I : ℕ → sProp (MT nD τ sig Unit (Elt F) ℕ (UR sig nD τ) ℕ)) (h : ∀ k : Fin n, Does c (I k.val) (f k) ⟨⟩ (I (k.val + 1))) :
    Does c (I 0) (Hand.loop n f) ⟨⟩ (I n) := Does.loopAux f I h n 0 _

/-! ## Buffers known on part of their elements -/

/-- The buffer reads `X` at the elements of `D`, and anything elsewhere. -/
def known (c : Dev nD) {sp : Space} {s : Shape} {e : EltTy} (m : Memref sig .tc sp s e) (X : s.Idx → Elt F e) (D : s.Idx → Prop) : sProp (MT nD τ sig Unit (Elt F) ℕ (UR sig nD τ) ℕ) :=
  ownsSat (c : Thread nD τ) m fullShare fun Y => ∀ y, D y → Y y = X y

variable {cs : CoreSpace} {s : Shape} {e : EltTy} {m : Memref sig .tc cs s e} {X X' : s.Idx → Elt F e} {D D' : s.Idx → Prop}

theorem known_weaken {sp : Space} {m : Memref sig .tc sp s e} (h : ∀ y, D' y → D y ∧ X' y = X y) : (known c m X D : sProp (MT nD τ sig Unit (Elt F) ℕ (UR sig nD τ) ℕ)) ⊢ known c m X' D' :=
  ownsSat_mono _ _ _ fun Y hY y hy => (hY y (h y hy).1).trans (h y hy).2.symm

theorem known_all {sp : Space} {m : Memref sig .tc sp s e} : (known c m X (fun _ => True) : sProp (MT nD τ sig Unit (Elt F) ℕ (UR sig nD τ) ℕ)) ⊢ owns (c : Thread nD τ) m fullShare X := by
  unfold known ownsSat owns
  iintro ⟨%f, %hf, H⟩
  iexists f
  isplitr; · ipureintro; exact funext fun y => hf y trivial
  iexact H

theorem all_known {sp : Space} {m : Memref sig .tc sp s e} : (owns (c : Thread nD τ) m fullShare X : sProp (MT nD τ sig Unit (Elt F) ℕ (UR sig nD τ) ℕ)) ⊢ known c m X D := by
  unfold known
  exact ownsSat_intro _ _ _ fun _ _ => rfl

/-- A load of known elements. -/
theorem Does.load (r : Rect s) (hl : m.view.LoadsAt r) (v : r.shape.Idx → Elt F e) (hD : ∀ x, D (r.idx x)) (hv : ∀ x, X (r.idx x) = v x) :
    Does c (known c m X D) (Prog.lift (.load m r.toLoadRect hl)) v (known c m X D) := fun Q => by
  unfold known ownsSat
  iintro ⟨⟨%f, %hf, H⟩, HQ⟩
  iapply (wp_load_rect Variants.none (c : Thread nD τ) none Set.univ (hl := hl) (k := Prog.ret) (View.set_slice_subset m.view r)) $$ H
  iintro H
  rw [wp_ret]
  imodintro
  have he : (m.access r).read (Elt F) f = v := funext fun x => (hf _ (hD x)).trans (hv x)
  rw [he]
  iapply HQ
  iexists f
  isplitr; · ipureintro; exact hf
  iexact H

/-- A load whose value is not used. -/
theorem Does.load_unused (r : Rect s) (hl : m.view.LoadsAt r) {k : P F β} {b : β} (h : Does c (known c m X D) k b R) :
    Does c (known c m X D) (Prog.lift (.load m r.toLoadRect hl) >>= fun _ => k) b R := fun Q => by
  rw [wp_bind]
  unfold known ownsSat
  iintro ⟨⟨%f, %hf, H⟩, HQ⟩
  iapply (wp_load_rect Variants.none (c : Thread nD τ) none Set.univ (hl := hl) (k := Prog.ret) (View.set_slice_subset m.view r)) $$ H
  iintro H
  rw [wp_ret]
  imodintro
  iapply (h Q)
  isplitl [H]
  · unfold known ownsSat
    iexists f
    isplitr; · ipureintro; exact hf
    iexact H
  iexact HQ

/-- A store of known elements. -/
theorem Does.store (r : Rect s) (w : r.shape.Idx → Elt F e) (hx : (m.access r).Stores Finset.univ) (hm)
    (hw : ∀ x, w x = X (r.idx x)) (hD : ∀ y, D' y → D y ∨ y ∈ r.set) :
    Does c (known c m X D) (Prog.lift (.store m r w Finset.univ hx hm)) ⟨⟩ (known c m X D') := fun Q => by
  unfold known ownsSat
  iintro ⟨⟨%f, %hf, H⟩, HQ⟩
  iapply (wp_store Variants.none (c : Thread nD τ) none Set.univ (hx := hx) (hm := hm) (k := Prog.ret) (View.set_slice_subset m.view r)) $$ H
  iintro H
  rw [wp_ret]
  imodintro
  iapply HQ
  iexists _
  isplitr
  swap; · iexact H
  ipureintro
  intro y hy
  by_cases hr : y ∈ r.set
  · obtain ⟨x, rfl⟩ := r.exists_idx_of_mem hr
    exact (View.read_slice_write_emb (v := m.view) r f w (Finset.mem_univ x)).trans (hw x)
  · rw [View.read_slice_write_of_not_mem (v := m.view) r f w _ (by rwa [Rect.map_emb_univ])]
    exact hf y ((hD y hy).resolve_right hr)

/-- A word of scalar memory. -/
theorem Does.smem {m : Memref sig .tc .smem s e} (r : Rect s) (h1 : r.shape.numel = 1) (hp : e.packing = 1) (v : Elt F e) (hD : ∀ x, D (r.idx x)) (hv : ∀ x, X (r.idx x) = v) :
    Does c (known c m X D) (smemLoad m r h1 hp) v (known c m X D) := fun Q => by
  unfold known ownsSat
  iintro ⟨⟨%f, %hf, H⟩, HQ⟩
  iapply (wp_smemLoadElt Variants.none (c : Thread nD τ) none Set.univ (k := Prog.ret) (View.set_slice_subset m.view r)) $$ H
  iintro H
  rw [wp_ret]
  imodintro
  have he : (m.access r).read (Elt F) f (Shape.Idx.first (h1.symm ▸ Nat.one_pos)) = v := (hf _ (hD _)).trans (hv _)
  rw [he]
  iapply HQ
  iexists f
  isplitr; · ipureintro; exact hf
  iexact H

theorem Does.smem_unused {m : Memref sig .tc .smem s e} (r : Rect s) (h1 : r.shape.numel = 1) (hp : e.packing = 1) {k : P F β} {b : β} (h : Does c (known c m X D) k b R) :
    Does c (known c m X D) (smemLoad m r h1 hp >>= fun _ => k) b R := fun Q => by
  rw [wp_bind]
  unfold known ownsSat
  iintro ⟨⟨%f, %hf, H⟩, HQ⟩
  iapply (wp_smemLoadElt Variants.none (c : Thread nD τ) none Set.univ (k := Prog.ret) (View.set_slice_subset m.view r)) $$ H
  iintro H
  rw [wp_ret]
  imodintro
  iapply (h Q)
  isplitl [H]
  · unfold known ownsSat
    iexists f
    isplitr; · ipureintro; exact hf
    iexact H
  iexact HQ

theorem Does.assume {p : Prop} {d : Decidable p} (h : p) : Does c R (Prog.lift (TpuEff.assume p d)) ⟨h⟩ R := fun Q => by
  iintro ⟨HR, HQ⟩
  iapply (wp_assume Variants.none (c : Thread nD τ) none Set.univ (k := Prog.ret) h)
  rw [wp_ret]
  imodintro
  iapply HQ; iexact HR

/-- A triple in a larger context. -/
theorem Does.frame {p : P F α} {a : α} (S : sProp (MT nD τ sig Unit (Elt F) ℕ (UR sig nD τ) ℕ)) (h : Does c R p a R') : Does c iprop(R ∗ S) p a iprop(R' ∗ S) := fun Q => by
  iintro ⟨⟨HR, HS⟩, HQ⟩
  iapply (h _)
  isplitl [HR]; · iexact HR
  iintro HR
  iapply HQ
  isplitl [HR]; · iexact HR
  iexact HS

end Cert.Transform.Hand
-- ==== Proof.Transform.Spec.lean ====
/-
  What each buffer of the transform call holds, as functions of the operands (hand-written, untrusted).
-/
module

public import proofs.«01_k».proof.Proof.Transform.Hoare
public import Idealize.ShloMosaic.Lib.Pointwise
public import Idealize.ShloMosaic.Lib.ValueLayout

@[expose] public section

set_option maxRecDepth 16384

noncomputable section

namespace Cert.Transform.Hand

open Cert.Transform Cert.Transform.Facts₀ Cert.Transform.K0.Facts₀ Cert.Transform.Shapes1.Facts₀ Cert.Transform.Shapes2.Facts₀
open Idealize.ShloMosaic

variable {F : FTy → Type} [FloatOps F]
variable (h : S28x28.Idx → F .f32) (g u : S32x14336.Idx → F .bf16)

/-- The gated piece at rows `16 s …`, columns `128 c …`. -/
def gp (s : Fin 2) (c : Fin 112) : FVec F S16x128 .f32 :=
  gated (fun x => g ((Rect.unit (s := S32x14336) ![16 * s.val, 128 * c.val] S16x128.size (inbX s c)).idx x))
    (fun x => u ((Rect.unit (s := S32x14336) ![16 * s.val, 128 * c.val] S16x128.size (inbX s c)).idx x))

/-- Row `k`'s sum (`b = 0`) or difference (`b = 1`) of the pieces 256 columns apart. -/
def side (s b0 b : Fin 2) (k : Fin 28) : FVec F S16x128 .f32 :=
  if b = 0 then addf (gp g u s ⟨k.val * 4 + b0.val, by omega⟩) (gp g u s ⟨k.val * 4 + b0.val + 2, by omega⟩)
  else subf (gp g u s ⟨k.val * 4 + b0.val, by omega⟩) (gp g u s ⟨k.val * 4 + b0.val + 2, by omega⟩)

def tabRow (s b0 : Fin 2) (r : Fin 112) (b : Fin 2) : FVec F S16x128 .f32 :=
  combo (side g u s b0 b ⟨4 * (r.val / 16) + 0, by omega⟩) (side g u s b0 b ⟨4 * (r.val / 16) + 1, by omega⟩)
    (side g u s b0 b ⟨4 * (r.val / 16) + 2, by omega⟩) (side g u s b0 b ⟨4 * (r.val / 16) + 3, by omega⟩) (r.val % 16)

/-- The table. -/
def TAB (s b0 : Fin 2) : S112x2x16x128.Idx → F .f32 := fun y => tabRow g u s b0 (y 0) (y 1) (ix2 (y 2) (y 3))

def wordOf (a : Fin 28) (q : Fin 7) : BitVec 32 :=
  word (h (ix2 a ⟨4 * q.val + 0, by omega⟩)) (h (ix2 a ⟨4 * q.val + 1, by omega⟩)) (h (ix2 a ⟨4 * q.val + 2, by omega⟩))
    (h (ix2 a ⟨4 * q.val + 3, by omega⟩)) (BitVec.ofNat 32 (16 * q.val))

/-- Is the entry counted as a minus sign. -/
def isNeg (v : F .f32) : ℕ := if Scalar.cmpf .olt v (Scalar.ofBits .f32 0x00000000#32) = 1 then 1 else 0

/-- The number of the signs of one group of four. -/
def signsOf (a : Fin 28) (q : Fin 7) : ℕ :=
  isNeg (h (ix2 a ⟨4 * q.val + 0, by omega⟩)) + 2 * isNeg (h (ix2 a ⟨4 * q.val + 1, by omega⟩)) + 4 * isNeg (h (ix2 a ⟨4 * q.val + 2, by omega⟩))
    + 8 * isNeg (h (ix2 a ⟨4 * q.val + 3, by omega⟩))

theorem isNeg_le (v : F .f32) : isNeg v ≤ 1 := by unfold isNeg; split <;> omega

theorem signsOf_lt (a : Fin 28) (q : Fin 7) : signsOf h a q < 16 := by
  unfold signsOf
  have h0 := isNeg_le (h (ix2 a ⟨4 * q.val + 0, by omega⟩))
  have h1 := isNeg_le (h (ix2 a ⟨4 * q.val + 1, by omega⟩))
  have h2 := isNeg_le (h (ix2 a ⟨4 * q.val + 2, by omega⟩))
  have h3 := isNeg_le (h (ix2 a ⟨4 * q.val + 3, by omega⟩))
  omega

theorem wordOf_toNat (a : Fin 28) (q : Fin 7) : (wordOf h a q).toNat = 16 * q.val + signsOf h a q := by
  have hq := q.isLt
  have e : (BitVec.ofNat 32 (16 * q.val)).toNat = 16 * q.val := by rw [BitVec.toNat_ofNat]; omega
  unfold wordOf word signsOf isNeg Scalar.addi Scalar.select IntOp.addi
  simp only [BitVec.toNat_add, e]
  split_ifs <;> simp <;> omega

theorem wordOf_lt (a : Fin 28) (q : Fin 7) : (wordOf h a q).toNat < 112 := by
  have := signsOf_lt h a q
  rw [wordOf_toNat]; omega

/-- The words, where they are written. -/
def IDX : S224.Idx → BitVec 32 := fun y => wordOf h ⟨(y 0).val / 8, by have := (y 0).isLt; change _ < 224 at this; omega⟩ ⟨(y 0).val % 8 % 7, by omega⟩

def trow (s b0 : Fin 2) (r : Fin 112) : FVec F S2x16x128 .f32 := fun x => tabRow g u s b0 r (x 0) (ix2 (x 1) (x 2))

/-- The row that the signs choose. -/
def chosen (s b0 : Fin 2) (a : Fin 28) (q : Fin 7) : FVec F S2x16x128 .f32 := trow g u s b0 ⟨(wordOf h a q).toNat, wordOf_lt h a q⟩

def zsum (s b0 : Fin 2) (a : Fin 28) : FVec F S32x128 .f32 :=
  sum7 (chosen h g u s b0 a 0) (chosen h g u s b0 a 1) (chosen h g u s b0 a 2) (chosen h g u s b0 a 3) (chosen h g u s b0 a 4)
    (chosen h g u s b0 a 5) (chosen h g u s b0 a 6)

def zpart (p : Fin 3) (z : FVec F S32x128 .f32) : FVec F S32x128 .bf16 :=
  if p = 0 then hi z else if p = 1 then hi (rest z) else hi (rest (rest z))

/-- The rows of which the matrix unit takes the products. -/
def ZS : S2x3x896x256.Idx → F .bf16 := fun y =>
  zpart (y 1) (zsum h g u (y 0) ⟨(y 3).val / 128, by have := (y 3).isLt; change _ < 256 at this; omega⟩
    ⟨(y 2).val / 32, by have := (y 2).isLt; change _ < 896 at this; omega⟩)
    (ix2 ⟨(y 2).val % 32, by omega⟩ ⟨(y 3).val % 128, by omega⟩)

/-- One product. -/
def prodV (s : Fin 2) (c : Fin 4) (p : Fin 3) : FVec F S224x256 .f32 :=
  matmul dot_S224x256_S256x256_S224x256_1_0_0_1_n_n none
    (fun x => ZS h g u (ix4 s p ⟨224 * c.val + (x 0).val, by have := (x 0).isLt; change _ < 224 at this; omega⟩ (x 1)) : FVec F S224x256 .bf16)
    (signs : FVec F S256x256 .bf16) (constant S224x256 .f32 0x00000000#32)

def yv (s : Fin 2) (c : Fin 4) : FVec F S224x256 .f32 := addf (addf (prodV h g u s c 0) (prodV h g u s c 1)) (prodV h g u s c 2)

/-- The transformed rows. -/
def YF : S2x896x256.Idx → F .f32 := fun y =>
  yv h g u (y 0) ⟨(y 1).val / 224, by have := (y 1).isLt; change _ < 896 at this; omega⟩ (ix2 ⟨(y 1).val % 224, by omega⟩ (y 2))

/-- The greatest magnitudes of one half. -/
def amaxV (s : Fin 2) : FVec F S16x128 .f32 :=
  maximumf (maximumf (maximumf (maximumf (broadcast S16x128 (Scalar.ofBits .f32 0x00000000#32)) (peak (yv h g u s 0))) (peak (yv h g u s 1)))
    (peak (yv h g u s 2))) (peak (yv h g u s 3))

def tV : FVec F S32x1 .f32 := tOf (amaxV h g u 0) (amaxV h g u 1)

/-- The scales. -/
def SC : S32x128.Idx → F .f32 := scaleOf (tV h g u)

def codeq (q : Fin 56) : FVec F S32x256 .fp8e4m3 :=
  code (fun x => YF h g u (ix3 0 ⟨16 * q.val + (x 0).val, by have := (x 0).isLt; change _ < 16 at this; omega⟩ (x 1)))
    (fun x => YF h g u (ix3 1 ⟨16 * q.val + (x 0).val, by have := (x 0).isLt; change _ < 16 at this; omega⟩ (x 1))) (invOf (tV h g u))

/-- The codes. -/
def CODES : S32x14336.Idx → F .fp8e4m3 := fun y =>
  codeq h g u ⟨(y 1).val / 256, by have := (y 1).isLt; change _ < 14336 at this; omega⟩ (ix2 (y 0) ⟨(y 1).val % 256, by omega⟩)

end Cert.Transform.Hand
-- ==== Proof.Transform.Body.lean ====
/-
  What the body of the transform call leaves in its buffers (hand-written, untrusted).
-/
module

public import proofs.«01_k».proof.Proof.Transform.Spec

@[expose] public section

set_option maxRecDepth 16384

noncomputable section

namespace Cert.Transform.Hand

open Cert.Transform Cert.Transform.Facts₀ Cert.Transform.K0.Facts₀ Cert.Transform.Shapes1.Facts₀ Cert.Transform.Shapes2.Facts₀
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The buffers of one grid point. -/
structure Bufs where
  b1 : Memref sig .tc .smem S28x28 .f32
  b2 : Memref sig .tc .vmem S32x14336 .bf16
  b3 : Memref sig .tc .vmem S32x14336 .bf16
  b4 : Memref sig .tc .vmem S32x14336 .fp8e4m3
  w4 : b4.IsWhole
  b5 : Memref sig .tc .vmem S32x128 .f32
  b6 : Memref sig .tc .vmem S256x256 .bf16
  w6 : b6.IsWhole
  b7 : Memref sig .tc .smem S224 .i32
  b8 : Memref sig .tc .vmem S112x2x16x128 .f32
  b9 : Memref sig .tc .vmem S2x3x896x256 .bf16
  w9 : b9.IsWhole
  b10 : Memref sig .tc .vmem S2x896x256 .f32

/-- Where each buffer holds what it is to hold; the table is that of half `s` and columns `b0`. -/
structure Know where
  d4 : S32x14336.Idx → Prop
  d5 : S32x128.Idx → Prop
  d6 : S256x256.Idx → Prop
  d7 : S224.Idx → Prop
  s : Fin 2
  b0 : Fin 2
  d8 : S112x2x16x128.Idx → Prop
  d9 : S2x3x896x256.Idx → Prop
  d10 : S2x896x256.Idx → Prop

variable (c : Dev nD) (B : Bufs)
variable (h : S28x28.Idx → F .f32) (g u : S32x14336.Idx → F .bf16)

def part (st : Know) : Fin 10 → sProp (MT nD τ sig Unit (Elt F) ℕ (UR sig nD τ) ℕ)
  | 0 => known (F := F) c B.b1 h (fun _ => True)
  | 1 => known (F := F) c B.b2 g (fun _ => True)
  | 2 => known (F := F) c B.b3 u (fun _ => True)
  | 3 => known (F := F) c B.b4 (CODES h g u) st.d4
  | 4 => known (F := F) c B.b5 (SC h g u) st.d5
  | 5 => known (F := F) c B.b6 (signs (F := F)) st.d6
  | 6 => known (F := F) c B.b7 (IDX h) st.d7
  | 7 => known (F := F) c B.b8 (TAB g u st.s st.b0) st.d8
  | 8 => known (F := F) c B.b9 (ZS h g u) st.d9
  | 9 => known (F := F) c B.b10 (YF h g u) st.d10

/-- All buffers. -/
def St (st : Know) : sProp (MT nD τ sig Unit (Elt F) ℕ (UR sig nD τ) ℕ) := bigSep Finset.univ (part c B h g u st)

variable {c B h g u}
variable {st : Know} {α β : Type}

/-- A step that touches buffer `j` alone. -/
theorem use (j : Fin 10) (st st' : Know) {p : P F α} {a : α}
    (hs : ∀ i, i ≠ j → part c B h g u st i = part c B h g u st' i)
    (hp : Does c (part c B h g u st j) p a (part c B h g u st' j)) : Does c (St c B h g u st) p a (St c B h g u st') := by
  unfold St
  rw [bigSep_univ_split j, bigSep_univ_split (Φ := part c B h g u st') j,
    bigSep_congr (s := Finset.univ.erase j) (Φ := part c B h g u st) (Ψ := part c B h g u st') fun i hi => hs i (Finset.ne_of_mem_erase hi)]
  exact hp.frame _

theorem mono (j : Fin 10) (st st' : Know) (hs : ∀ i, i ≠ j → part c B h g u st i = part c B h g u st' i)
    (hp : part c B h g u st j ⊢ part c B h g u st' j) : St c B h g u st ⊢ St c B h g u st' := by
  unfold St
  rw [bigSep_univ_split j, bigSep_univ_split (Φ := part c B h g u st') j,
    bigSep_congr (s := Finset.univ.erase j) (Φ := part c B h g u st) (Ψ := part c B h g u st') fun i hi => hs i (Finset.ne_of_mem_erase hi)]
  exact sep_mono hp .rfl

theorem use1 {p : P F α} {a : α} (hp : Does (F := F) c (known c B.b1 h fun _ => True) p a (known c B.b1 h fun _ => True)) :
    Does c (St c B h g u st) p a (St c B h g u st) := use 0 st st (fun _ _ => rfl) hp
theorem use2 {p : P F α} {a : α} (hp : Does (F := F) c (known c B.b2 g fun _ => True) p a (known c B.b2 g fun _ => True)) :
    Does c (St c B h g u st) p a (St c B h g u st) := use 1 st st (fun _ _ => rfl) hp
theorem use3 {p : P F α} {a : α} (hp : Does (F := F) c (known c B.b3 u fun _ => True) p a (known c B.b3 u fun _ => True)) :
    Does c (St c B h g u st) p a (St c B h g u st) := use 2 st st (fun _ _ => rfl) hp
theorem use4 (D) {p : P F α} {a : α} (hp : Does (F := F) c (known c B.b4 (CODES h g u) st.d4) p a (known c B.b4 (CODES h g u) D)) :
    Does c (St c B h g u st) p a (St c B h g u { st with d4 := D }) :=
  use 3 st { st with d4 := D } (fun i hi => by fin_cases i <;> first | rfl | exact absurd rfl hi) hp
theorem use5 (D) {p : P F α} {a : α} (hp : Does (F := F) c (known c B.b5 (SC h g u) st.d5) p a (known c B.b5 (SC h g u) D)) :
    Does c (St c B h g u st) p a (St c B h g u { st with d5 := D }) :=
  use 4 st { st with d5 := D } (fun i hi => by fin_cases i <;> first | rfl | exact absurd rfl hi) hp
theorem use6 (D) {p : P F α} {a : α} (hp : Does (F := F) c (known c B.b6 (signs (F := F)) st.d6) p a (known c B.b6 (signs (F := F)) D)) :
    Does c (St c B h g u st) p a (St c B h g u { st with d6 := D }) :=
  use 5 st { st with d6 := D } (fun i hi => by fin_cases i <;> first | rfl | exact absurd rfl hi) hp
theorem use7 (D) {p : P F α} {a : α} (hp : Does (F := F) c (known c B.b7 (IDX h) st.d7) p a (known c B.b7 (IDX h) D)) :
    Does c (St c B h g u st) p a (St c B h g u { st with d7 := D }) :=
  use 6 st { st with d7 := D } (fun i hi => by fin_cases i <;> first | rfl | exact absurd rfl hi) hp
theorem use8 (D) {p : P F α} {a : α} (hp : Does (F := F) c (known c B.b8 (TAB g u st.s st.b0) st.d8) p a (known c B.b8 (TAB g u st.s st.b0) D)) :
    Does c (St c B h g u st) p a (St c B h g u { st with d8 := D }) :=
  use 7 st { st with d8 := D } (fun i hi => by fin_cases i <;> first | rfl | exact absurd rfl hi) hp
theorem use9 (D) {p : P F α} {a : α} (hp : Does (F := F) c (known c B.b9 (ZS h g u) st.d9) p a (known c B.b9 (ZS h g u) D)) :
    Does c (St c B h g u st) p a (St c B h g u { st with d9 := D }) :=
  use 8 st { st with d9 := D } (fun i hi => by fin_cases i <;> first | rfl | exact absurd rfl hi) hp
theorem use10 (D) {p : P F α} {a : α} (hp : Does (F := F) c (known c B.b10 (YF h g u) st.d10) p a (known c B.b10 (YF h g u) D)) :
    Does c (St c B h g u st) p a (St c B h g u { st with d10 := D }) :=
  use 9 st { st with d10 := D } (fun i hi => by fin_cases i <;> first | rfl | exact absurd rfl hi) hp

theorem weak4 (D : S32x14336.Idx → Prop) (hD : ∀ y, D y → st.d4 y) : St c B h g u st ⊢ St c B h g u { st with d4 := D } :=
  mono 3 st { st with d4 := D } (fun i hi => by fin_cases i <;> first | rfl | exact absurd rfl hi) (known_weaken fun y hy => ⟨hD y hy, rfl⟩)
theorem weak7 (D : S224.Idx → Prop) (hD : ∀ y, D y → st.d7 y) : St c B h g u st ⊢ St c B h g u { st with d7 := D } :=
  mono 6 st { st with d7 := D } (fun i hi => by fin_cases i <;> first | rfl | exact absurd rfl hi) (known_weaken fun y hy => ⟨hD y hy, rfl⟩)
theorem weak8 (s b0 : Fin 2) (D : S112x2x16x128.Idx → Prop) (hD : ∀ y, D y → st.d8 y ∧ s = st.s ∧ b0 = st.b0) :
    St c B h g u st ⊢ St c B h g u { st with s := s, b0 := b0, d8 := D } :=
  mono 7 st { st with s := s, b0 := b0, d8 := D } (fun i hi => by fin_cases i <;> first | rfl | exact absurd rfl hi)
    (known_weaken fun y hy => ⟨(hD y hy).1, by rw [(hD y hy).2.1, (hD y hy).2.2]⟩)
theorem weak9 (D : S2x3x896x256.Idx → Prop) (hD : ∀ y, D y → st.d9 y) : St c B h g u st ⊢ St c B h g u { st with d9 := D } :=
  mono 8 st { st with d9 := D } (fun i hi => by fin_cases i <;> first | rfl | exact absurd rfl hi) (known_weaken fun y hy => ⟨hD y hy, rfl⟩)
theorem weak10 (D : S2x896x256.Idx → Prop) (hD : ∀ y, D y → st.d10 y) : St c B h g u st ⊢ St c B h g u { st with d10 := D } :=
  mono 9 st { st with d10 := D } (fun i hi => by fin_cases i <;> first | rfl | exact absurd rfl hi) (known_weaken fun y hy => ⟨hD y hy, rfl⟩)

/-! ## The table -/

theorem piece_does (s : Fin 2) (k : Fin 112) : Does c (St c B h g u st) (piece B.b2 B.b3 s k) (gp g u s k) (St c B h g u st) := by
  unfold piece
  refine Does.bind (use2 (Does.load _ _ _ (fun _ => trivial) fun _ => rfl)) ?_
  refine Does.bind (use3 (Does.load _ _ _ (fun _ => trivial) fun _ => rfl)) ?_
  exact Does.ret _

/-- Unit axes added before a matrix. -/
theorem cast_up4 {a b : ℕ} (v : (⟨2, ![a, b]⟩ : Shape).Idx → α) (hc : (⟨2, ![a, b]⟩ : Shape).ShapeCasts ⟨4, ![1, 1, a, b]⟩) (x : (⟨4, ![1, 1, a, b]⟩ : Shape).Idx) :
    shapeCast ⟨4, ![1, 1, a, b]⟩ v hc x = v (ix2 (x 2) (x 3)) := by
  have x0 : (x 0).val < 1 := (x 0).isLt
  have x1 : (x 1).val < 1 := (x 1).isLt
  refine shapeCast_apply v hc x (ix2 (x 2) (x 3)) ?_
  rw [Shape.rowMajor_val_two, Shape.rowMajor_val_four]
  have e0 : (x 0).val = 0 := by omega
  have e1 : (x 1).val = 0 := by omega
  rw [e0, e1]; simp

theorem cast_up3 {a b : ℕ} (v : (⟨2, ![a, b]⟩ : Shape).Idx → α) (hc : (⟨2, ![a, b]⟩ : Shape).ShapeCasts ⟨3, ![1, a, b]⟩) (x : (⟨3, ![1, a, b]⟩ : Shape).Idx) :
    shapeCast ⟨3, ![1, a, b]⟩ v hc x = v (ix2 (x 1) (x 2)) := by
  have x0 : (x 0).val < 1 := (x 0).isLt
  refine shapeCast_apply v hc x (ix2 (x 1) (x 2)) ?_
  rw [Shape.rowMajor_val_two, Shape.rowMajor_val_three]
  have e0 : (x 0).val = 0 := by omega
  rw [e0]; simp

/-- Unit axes dropped before a matrix. -/
theorem cast_down4 {a b : ℕ} (v : (⟨4, ![1, 1, a, b]⟩ : Shape).Idx → α) (hc : (⟨4, ![1, 1, a, b]⟩ : Shape).ShapeCasts ⟨2, ![a, b]⟩) (x : (⟨2, ![a, b]⟩ : Shape).Idx) :
    shapeCast ⟨2, ![a, b]⟩ v hc x = v (ix4 0 0 (x 0) (x 1)) := by
  refine shapeCast_apply v hc x (ix4 0 0 (x 0) (x 1)) ?_
  rw [Shape.rowMajor_val_two, Shape.rowMajor_val_four]
  simp

theorem cast_down3 {a b : ℕ} (v : (⟨3, ![1, a, b]⟩ : Shape).Idx → α) (hc : (⟨3, ![1, a, b]⟩ : Shape).ShapeCasts ⟨2, ![a, b]⟩) (x : (⟨2, ![a, b]⟩ : Shape).Idx) :
    shapeCast ⟨2, ![a, b]⟩ v hc x = v (ix3 0 (x 0) (x 1)) := by
  refine shapeCast_apply v hc x (ix3 0 (x 0) (x 1)) ?_
  rw [Shape.rowMajor_val_two, Shape.rowMajor_val_three]
  simp

theorem cast_down43 {a b d : ℕ} (v : (⟨4, ![1, a, b, d]⟩ : Shape).Idx → α) (hc : (⟨4, ![1, a, b, d]⟩ : Shape).ShapeCasts ⟨3, ![a, b, d]⟩) (x : (⟨3, ![a, b, d]⟩ : Shape).Idx) :
    shapeCast ⟨3, ![a, b, d]⟩ v hc x = v (ix4 0 (x 0) (x 1) (x 2)) := by
  refine shapeCast_apply v hc x (ix4 0 (x 0) (x 1) (x 2)) ?_
  rw [Shape.rowMajor_val_three, Shape.rowMajor_val_four]
  simp

theorem idx_unit_val' {s : Shape} {off size : Fin s.rank → ℕ} {inb : ∀ a, off a + size a ≤ s.size a} (x : (Rect.unit (s := s) off size inb).shape.Idx) (a : Fin s.rank) :
    ((Rect.unit (s := s) off size inb).idx x a).val = off a + (x a).val := by
  show off a + 1 * (x a).val = _
  rw [Nat.one_mul]

theorem TAB_apply {s b0 : Fin 2} {y : S112x2x16x128.Idx} {r : Fin 112} {b : Fin 2} {i : Fin 16} {j : Fin 128}
    (h0 : (y 0).val = r.val) (h1 : (y 1).val = b.val) (h2 : (y 2).val = i.val) (h3 : (y 3).val = j.val) :
    TAB g u s b0 y = tabRow g u s b0 r b (ix2 i j) := by
  obtain rfl : y 0 = r := Fin.ext h0
  obtain rfl : y 1 = b := Fin.ext h1
  obtain rfl : y 2 = i := Fin.ext h2
  obtain rfl : y 3 = j := Fin.ext h3
  rfl

theorem putT_does (r : Fin 112) (b : Fin 2) (v : FVec F S16x128 .f32) (hv : v = tabRow g u st.s st.b0 r b) (D : S112x2x16x128.Idx → Prop)
    (hD : ∀ y, D y → st.d8 y ∨ ((y 0).val = r.val ∧ (y 1).val = b.val)) :
    Does c (St c B h g u st) (putT B.b8 r b v) ⟨⟩ (St c B h g u { st with d8 := D }) := by
  subst hv
  unfold putT
  refine use8 D (Does.load_unused _ _ (Does.store _ _ _ _ ?_ ?_))
  · intro x
    have x0 : (x 0).val < 1 := (x 0).isLt
    have x1 : (x 1).val < 1 := (x 1).isLt
    exact (cast_up4 _ _ x).trans (TAB_apply (by rw [idx_unit_val']; simp; omega) (by rw [idx_unit_val']; simp; omega) (by rw [idx_unit_val']; simp) (by rw [idx_unit_val']; simp)).symm
  · intro y hy
    refine (hD y hy).imp_right fun ⟨e0, e1⟩ => ?_
    rw [Rect.mem_set_unit]
    have y2 : (y 2).val < 16 := (y 2).isLt
    have y3 : (y 3).val < 128 := (y 3).isLt
    intro a; fin_cases a <;> simp [S1x1x16x128] <;> omega

/-- One group of the table. -/
theorem group_does (s b0 : Fin 2) (q : Fin 7) (hs : st.s = s) (hb : st.b0 = b0) (D : S112x2x16x128.Idx → Prop)
    (hD : ∀ y, D y → st.d8 y ∨ (16 * q.val ≤ (y 0).val ∧ (y 0).val < 16 * q.val + 16)) :
    Does c (St c B h g u st) (group B.b2 B.b3 B.b8 s b0 q) ⟨⟩ (St c B h g u { st with d8 := D }) := by
  subst hs hb
  unfold group
  iterate 8 refine Does.bind (piece_does _ _) ?_
  have side0 (k : Fin 28) : side g u st.s st.b0 0 k = addf (gp g u st.s ⟨k.val * 4 + st.b0.val, by omega⟩) (gp g u st.s ⟨k.val * 4 + st.b0.val + 2, by omega⟩) := if_pos rfl
  have side1 (k : Fin 28) : side g u st.s st.b0 1 k = subf (gp g u st.s ⟨k.val * 4 + st.b0.val, by omega⟩) (gp g u st.s ⟨k.val * 4 + st.b0.val + 2, by omega⟩) := if_neg (by decide)
  have hd (m : Fin 16) : (16 * q.val + m.val) / 16 = q.val := by omega
  have hm (m : Fin 16) : (16 * q.val + m.val) % 16 = m.val := by omega
  refine Does.bind (a := ⟨⟩) (R' := St c B h g u { st with d8 := fun y => st.d8 y ∨ (16 * q.val ≤ (y 0).val ∧ (y 0).val < 16 * q.val + 16 ∧ (y 1).val = 0) }) ?_ ?_
  · refine Does.conseq (Does.loop _ (fun k => St c B h g u { st with d8 := fun y => st.d8 y ∨ (16 * q.val ≤ (y 0).val ∧ (y 0).val < 16 * q.val + k ∧ (y 1).val = 0) }) fun m => ?_)
      (weak8 st.s st.b0 _ fun y hy => ⟨hy.resolve_right (by omega), rfl, rfl⟩) .rfl
    refine putT_does (st := { st with d8 := fun y => st.d8 y ∨ (16 * q.val ≤ (y 0).val ∧ (y 0).val < 16 * q.val + m.val ∧ (y 1).val = 0) }) _ _ _ ?_ _ fun y hy => ?_
    · unfold tabRow
      simp only [side0, hd, hm]
    · rcases hy with hy | ⟨h1, h2, h3⟩
      · exact .inl (.inl hy)
      · by_cases hlt : (y 0).val < 16 * q.val + m.val
        · exact .inl (.inr ⟨h1, hlt, h3⟩)
        · exact .inr ⟨by show (y 0).val = 16 * q.val + m.val; omega, h3⟩
  · refine Does.conseq (Does.loop _ (fun k => St c B h g u { st with d8 := fun y => (st.d8 y ∨ (16 * q.val ≤ (y 0).val ∧ (y 0).val < 16 * q.val + 16 ∧ (y 1).val = 0)) ∨ (16 * q.val ≤ (y 0).val ∧ (y 0).val < 16 * q.val + k ∧ (y 1).val = 1) }) fun m => ?_)
      (weak8 st.s st.b0 _ fun y hy => ⟨hy.resolve_right (by omega), rfl, rfl⟩) (weak8 st.s st.b0 _ fun y hy => ⟨?_, rfl, rfl⟩)
    · refine putT_does (st := { st with d8 := fun y => (st.d8 y ∨ (16 * q.val ≤ (y 0).val ∧ (y 0).val < 16 * q.val + 16 ∧ (y 1).val = 0)) ∨ (16 * q.val ≤ (y 0).val ∧ (y 0).val < 16 * q.val + m.val ∧ (y 1).val = 1) }) _ _ _ ?_ _ fun y hy => ?_
      · unfold tabRow
        simp only [side1, hd, hm]
      · rcases hy with hy | ⟨h1, h2, h3⟩
        · exact .inl (.inl hy)
        · by_cases hlt : (y 0).val < 16 * q.val + m.val
          · exact .inl (.inr ⟨h1, hlt, h3⟩)
          · exact .inr ⟨by show (y 0).val = 16 * q.val + m.val; omega, h3⟩
    · rcases hD y hy with hy | ⟨h1, h2⟩
      · exact .inl (.inl hy)
      · have y1 : (y 1).val < 2 := (y 1).isLt
        by_cases h3 : (y 1).val = 0
        · exact .inl (.inr ⟨h1, h2, h3⟩)
        · exact .inr ⟨h1, h2, by omega⟩

/-! ## The rows -/

theorem chk_of_lt (v : BitVec 32) (hv : v.toNat < 112) : k0_chk1 v := by
  intro a
  fin_cases a
  · show v.toNat + 1 ≤ 112; omega
  · exact Nat.le_refl _
  · exact Nat.le_refl _
  · exact Nat.le_refl _

theorem row_does (a : Fin 28) (q : Fin 7) (k : ℕ) (hk : k < 224) (e : k = 8 * a.val + q.val)
    (h7 : ∀ y : S224.Idx, (y 0).val % 8 < 7 → st.d7 y) (h8 : ∀ y, st.d8 y) :
    Does c (St c B h g u st) (row B.b7 B.b8 k hk) (chosen h g u st.s st.b0 a q) (St c B h g u st) := by
  unfold row
  have hx (x : (Rect.unit (s := S224) ![k] S1.size (inbW k hk)).shape.Idx) : (((Rect.unit (s := S224) ![k] S1.size (inbW k hk)).idx x) 0).val = k := by
    have x0 : (x 0).val < 1 := (x 0).isLt
    rw [idx_unit_val']; simp; omega
  refine Does.bind (use7 st.d7 (Does.smem _ _ _ (wordOf h a q) (fun x => h7 _ ?_) (fun x => ?_))) ?_
  · rw [hx]; omega
  · unfold IDX
    congr 1
    · exact Fin.ext (by show _ / 8 = _; rw [hx]; omega)
    · exact Fin.ext (by show _ % 8 % 7 = _; rw [hx]; omega)
  refine Does.bind (Does.assume (chk_of_lt _ (wordOf_lt h a q))) ?_
  refine Does.bind (use8 st.d8 (Does.load _ _ _ (fun x => h8 _) fun x => rfl)) ?_
  refine (Does.ret _).val ?_
  funext x
  refine (cast_down43 _ _ x).trans ?_
  refine TAB_apply ?_ ?_ ?_ ?_ <;> rw [idx_unit_val']
  · show (wordOf h a q).toNat + 0 = _; rfl
  · show 0 + (x 0).val = _; omega
  · show 0 + (x 1).val = _; omega
  · show 0 + (x 2).val = _; omega

theorem ZS_apply {y : S2x3x896x256.Idx} {s b0 : Fin 2} {p : Fin 3} {a : Fin 28} {i : Fin 32} {j : Fin 128}
    (h0 : (y 0).val = s.val) (h1 : (y 1).val = p.val) (h2 : (y 2).val = 32 * a.val + i.val) (h3 : (y 3).val = 128 * b0.val + j.val) :
    ZS h g u y = zpart p (zsum h g u s b0 a) (ix2 i j) := by
  obtain rfl : y 0 = s := Fin.ext h0
  obtain rfl : y 1 = p := Fin.ext h1
  have e3 : (⟨(y 3).val / 128, by have := (y 3).isLt; change _ < 256 at this; omega⟩ : Fin 2) = b0 := Fin.ext (by show (y 3).val / 128 = _; omega)
  have e2 : (⟨(y 2).val / 32, by have := (y 2).isLt; change _ < 896 at this; omega⟩ : Fin 28) = a := Fin.ext (by show (y 2).val / 32 = _; omega)
  have f2 : (⟨(y 2).val % 32, by omega⟩ : Fin 32) = i := Fin.ext (by show (y 2).val % 32 = _; omega)
  have f3 : (⟨(y 3).val % 128, by omega⟩ : Fin 128) = j := Fin.ext (by show (y 3).val % 128 = _; omega)
  unfold ZS
  rw [e3, e2, f2, f3]

theorem putZ_does (s b0 : Fin 2) (p : Fin 3) (a : Fin 28) (v : FVec F S32x128 .bf16) (hv : v = zpart p (zsum h g u s b0 a)) (D : S2x3x896x256.Idx → Prop)
    (hD : ∀ y, D y → st.d9 y ∨ ((y 0).val = s.val ∧ (y 1).val = p.val ∧ (y 2).val / 32 = a.val ∧ (y 3).val / 128 = b0.val)) :
    Does c (St c B h g u st) (putZ B.b9 B.w9 s b0 p a v) ⟨⟩ (St c B h g u { st with d9 := D }) := by
  subst hv
  unfold putZ
  refine use9 D (Does.load_unused _ _ (Does.store _ _ _ _ ?_ ?_))
  · intro x
    have x0 : (x 0).val < 1 := (x 0).isLt
    have x1 : (x 1).val < 1 := (x 1).isLt
    exact (cast_up4 _ _ x).trans (ZS_apply (by rw [idx_unit_val']; simp; omega) (by rw [idx_unit_val']; simp; omega) (by rw [idx_unit_val']; simp) (by rw [idx_unit_val']; simp)).symm
  · intro y hy
    refine (hD y hy).imp_right fun ⟨e0, e1, e2, e3⟩ => ?_
    rw [Rect.mem_set_unit]
    intro d; fin_cases d <;> simp [S1x1x32x128] <;> omega

theorem zpart_0 (z : FVec F S32x128 .f32) : hi z = zpart 0 z := (if_pos rfl).symm
theorem zpart_1 (z : FVec F S32x128 .f32) : hi (rest z) = zpart 1 z := ((if_neg (by decide)).trans (if_pos rfl)).symm
theorem zpart_2 (z : FVec F S32x128 .f32) : hi (rest (rest z)) = zpart 2 z := ((if_neg (by decide)).trans (if_neg (by decide))).symm

/-- One row of signs. -/
theorem signed_does (s b0 : Fin 2) (a : Fin 28) (hs : st.s = s) (hb : st.b0 = b0)
    (h7 : ∀ y : S224.Idx, (y 0).val % 8 < 7 → st.d7 y) (h8 : ∀ y, st.d8 y) (D : S2x3x896x256.Idx → Prop)
    (hD : ∀ y, D y → st.d9 y ∨ ((y 0).val = s.val ∧ (y 2).val / 32 = a.val ∧ (y 3).val / 128 = b0.val)) :
    Does c (St c B h g u st) (signed B.b7 B.b8 B.b9 B.w9 s b0 a) ⟨⟩ (St c B h g u { st with d9 := D }) := by
  subst hs hb
  unfold signed
  refine Does.bind (row_does a 0 _ _ rfl h7 h8) ?_
  refine Does.bind (row_does a 1 _ _ rfl h7 h8) ?_
  refine Does.bind (row_does a 2 _ _ rfl h7 h8) ?_
  refine Does.bind (row_does a 3 _ _ rfl h7 h8) ?_
  refine Does.bind (row_does a 4 _ _ rfl h7 h8) ?_
  refine Does.bind (row_does a 5 _ _ rfl h7 h8) ?_
  refine Does.bind (row_does a 6 _ _ rfl h7 h8) ?_
  let E (n : ℕ) : S2x3x896x256.Idx → Prop := fun y => st.d9 y ∨ ((y 0).val = st.s.val ∧ (y 1).val < n ∧ (y 2).val / 32 = a.val ∧ (y 3).val / 128 = st.b0.val)
  have hE (n : ℕ) (y : S2x3x896x256.Idx) (hy : E (n + 1) y) : E n y ∨ ((y 0).val = st.s.val ∧ (y 1).val = n ∧ (y 2).val / 32 = a.val ∧ (y 3).val / 128 = st.b0.val) := by
    rcases hy with hy | ⟨e0, e1, e2, e3⟩
    · exact .inl (.inl hy)
    · by_cases hn : (y 1).val < n
      · exact .inl (.inr ⟨e0, hn, e2, e3⟩)
      · exact .inr ⟨e0, by omega, e2, e3⟩
  refine Does.bind (putZ_does _ _ 0 _ _ (zpart_0 (zsum h g u st.s st.b0 a)) (E 1) fun y hy => ?_) ?_
  · rcases hE 0 y hy with hy | hy
    · exact .inl (hy.resolve_right (by omega))
    · exact .inr hy
  refine Does.bind (putZ_does (st := { st with d9 := E 1 }) _ _ 1 _ _ (zpart_1 (zsum h g u st.s st.b0 a)) (E 2) (hE 1)) ?_
  refine putZ_does (st := { st with d9 := E 2 }) _ _ 2 _ _ (zpart_2 (zsum h g u st.s st.b0 a)) D fun y hy => hE 2 y ?_
  have y1 : (y 1).val < 3 := (y 1).isLt
  rcases hD y hy with hy | ⟨e0, e2, e3⟩
  · exact .inl hy
  · exact .inr ⟨e0, y1, e2, e3⟩

end Cert.Transform.Hand
-- ==== Proof.Transform.Body2.lean ====
/-
  The whole body of the transform call (hand-written, untrusted).
-/
module

public import proofs.«01_k».proof.Proof.Transform.Body

@[expose] public section

set_option maxRecDepth 16384

noncomputable section

namespace Cert.Transform.Hand

open Cert.Transform Cert.Transform.Facts₀ Cert.Transform.K0.Facts₀ Cert.Transform.Shapes1.Facts₀ Cert.Transform.Shapes2.Facts₀
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {c : Dev nD} {B : Bufs}
variable {h : S28x28.Idx → F .f32} {g u : S32x14336.Idx → F .bf16}
variable {st : Know}

/-! ## All rows -/

/-- The words the body reads. -/
def isWord (y : S224.Idx) : Prop := (y 0).val % 8 < 7

theorem half1_does (s b0 : Fin 2) (hs : st.s = s) (hb : st.b0 = b0) (h7 : ∀ y : S224.Idx, (y 0).val % 8 < 7 → st.d7 y)
    (D : S2x3x896x256.Idx → Prop) (hD : ∀ y, D y → st.d9 y ∨ ((y 0).val = s.val ∧ (y 3).val / 128 = b0.val)) :
    Does c (St c B h g u st) (loop 7 (fun q => group B.b2 B.b3 B.b8 s b0 q) >>= fun _ => loop 28 fun a => signed B.b7 B.b8 B.b9 B.w9 s b0 a) ⟨⟩
      (St c B h g u { st with d8 := fun _ => True, d9 := D }) := by
  refine Does.bind (a := ⟨⟩) (R' := St c B h g u { st with d8 := fun _ => True }) ?_ ?_
  · refine Does.conseq (Does.loop _ (fun k => St c B h g u { st with d8 := fun y => (y 0).val < 16 * k }) fun q => ?_)
      (weak8 st.s st.b0 _ fun y hy => absurd hy (by omega)) (weak8 st.s st.b0 _ fun y hy => ⟨?_, rfl, rfl⟩)
    · refine group_does (st := { st with d8 := fun y => (y 0).val < 16 * q.val }) s b0 q hs hb _ fun y hy => ?_
      change (y 0).val < 16 * (q.val + 1) at hy
      by_cases hlt : (y 0).val < 16 * q.val
      · exact .inl hlt
      · exact .inr ⟨by omega, by omega⟩
    · have y0 : (y 0).val < 112 := (y 0).isLt
      show (y 0).val < 16 * 7
      omega
  · refine Does.conseq (Does.loop _ (fun k => St c B h g u { st with d8 := fun _ => True, d9 := fun y => st.d9 y ∨ ((y 0).val = s.val ∧ (y 2).val / 32 < k ∧ (y 3).val / 128 = b0.val) }) fun a => ?_)
      (weak9 _ fun y hy => hy.resolve_right (by omega)) (weak9 _ fun y hy => ?_)
    · refine signed_does (st := { st with d8 := fun _ => True, d9 := fun y => st.d9 y ∨ ((y 0).val = s.val ∧ (y 2).val / 32 < a.val ∧ (y 3).val / 128 = b0.val) })
        s b0 a hs hb h7 (fun _ => trivial) _ fun y hy => ?_
      rcases hy with hy | ⟨e0, e2, e3⟩
      · exact .inl (.inl hy)
      · by_cases hlt : (y 2).val / 32 < a.val
        · exact .inl (.inr ⟨e0, hlt, e3⟩)
        · exact .inr ⟨e0, by omega, e3⟩
    · have y2 : (y 2).val < 896 := (y 2).isLt
      rcases hD y hy with hy | ⟨e0, e3⟩
      · exact .inl hy
      · exact .inr ⟨e0, by omega, e3⟩

theorem phase1_does (h7 : ∀ y : S224.Idx, (y 0).val % 8 < 7 → st.d7 y) :
    Does c (St c B h g u st) (phase1 B.b2 B.b3 B.b7 B.b8 B.b9 B.w9) ⟨⟩ (St c B h g u { st with d8 := fun _ => False, d9 := fun _ => True }) := by
  unfold phase1
  refine Does.conseq (Does.loop _ (fun k => St c B h g u { st with d8 := fun _ => False, d9 := fun y => (y 0).val < k }) fun s => ?_)
    ((weak8 st.s st.b0 (fun _ => False) fun y hy => hy.elim).trans (weak9 _ fun y hy => absurd hy (by omega)))
    (weak9 _ fun y hy => (show (y 0).val < 2 from (y 0).isLt))
  refine Does.conseq (Does.loop _ (fun k => St c B h g u { st with d8 := fun _ => False, d9 := fun y => (y 0).val < s.val ∨ ((y 0).val = s.val ∧ (y 3).val / 128 < k) }) fun b0 => ?_)
    (weak9 _ fun y hy => hy.resolve_right (by omega)) (weak9 _ fun y hy => ?_)
  · refine Does.conseq (half1_does (st := { st with s := s, b0 := b0, d8 := fun _ => False, d9 := fun y => (y 0).val < s.val ∨ ((y 0).val = s.val ∧ (y 3).val / 128 < b0.val) })
      s b0 rfl rfl h7 (fun y => (y 0).val < s.val ∨ ((y 0).val = s.val ∧ (y 3).val / 128 < b0.val + 1)) fun y hy => ?_)
      (weak8 s b0 (fun _ => False) fun y hy => hy.elim) (weak8 st.s st.b0 (fun _ => False) fun y hy => hy.elim)
    rcases hy with hy | ⟨e0, e3⟩
    · exact .inl (.inl hy)
    · by_cases hlt : (y 3).val / 128 < b0.val
      · exact .inl (.inr ⟨e0, hlt⟩)
      · exact .inr ⟨e0, by omega⟩
  · have y3 : (y 3).val < 256 := (y 3).isLt
    change (y 0).val < s.val + 1 at hy
    show (y 0).val < s.val ∨ ((y 0).val = s.val ∧ (y 3).val / 128 < 2)
    omega

/-! ## The products -/

theorem idx_whole (x : (Rect.unit (s := S256x256) ![0, 0] S256x256.size inb_S256x256_S256x256_0_0).shape.Idx) :
    (Rect.unit (s := S256x256) ![0, 0] S256x256.size inb_S256x256_S256x256_0_0).idx x = x := by
  funext a
  refine Fin.ext ?_
  rw [idx_unit_val']
  fin_cases a
  · exact Nat.zero_add _
  · exact Nat.zero_add _

theorem idx_whole' (x : (Rect.unit (s := S32x128) ![0, 0] S32x128.size inb_S32x128_S32x128_0_0).shape.Idx) :
    (Rect.unit (s := S32x128) ![0, 0] S32x128.size inb_S32x128_S32x128_0_0).idx x = x := by
  funext a
  refine Fin.ext ?_
  rw [idx_unit_val']
  fin_cases a
  · exact Nat.zero_add _
  · exact Nat.zero_add _

theorem mem_whole (y : S256x256.Idx) : y ∈ (Rect.unit (s := S256x256) ![0, 0] S256x256.size inb_S256x256_S256x256_0_0).set := by
  rw [Rect.mem_set_unit]
  have y0 : (y 0).val < 256 := (y 0).isLt
  have y1 : (y 1).val < 256 := (y 1).isLt
  intro d; fin_cases d
  · show 0 ≤ (y 0).val ∧ (y 0).val < 0 + 256; omega
  · show 0 ≤ (y 1).val ∧ (y 1).val < 0 + 256; omega

theorem mem_whole' (y : S32x128.Idx) : y ∈ (Rect.unit (s := S32x128) ![0, 0] S32x128.size inb_S32x128_S32x128_0_0).set := by
  rw [Rect.mem_set_unit]
  have y0 : (y 0).val < 32 := (y 0).isLt
  have y1 : (y 1).val < 128 := (y 1).isLt
  intro d; fin_cases d
  · show 0 ≤ (y 0).val ∧ (y 0).val < 0 + 32; omega
  · show 0 ≤ (y 1).val ∧ (y 1).val < 0 + 128; omega

theorem prodP_does (s : Fin 2) (k : Fin 4) (p : Fin 3) (h6 : ∀ y, st.d6 y) (h9 : ∀ y, st.d9 y) :
    Does c (St c B h g u st) (prodP B.b6 B.b9 s k p) (prodV h g u s k p) (St c B h g u st) := by
  unfold prodP
  refine Does.bind (use9 st.d9 (Does.load _ _ _ (fun x => h9 _) fun x => rfl)) ?_
  refine Does.bind (use6 st.d6 (Does.load _ _ (signs (F := F)) (fun x => h6 _) fun x => congrArg _ (idx_whole x))) ?_
  refine (Does.ret _).val ?_
  unfold prodV
  refine congrArg (fun z : FVec F S224x256 .bf16 => matmul dot_S224x256_S256x256_S224x256_1_0_0_1_n_n none z (signs : FVec F S256x256 .bf16) (constant S224x256 .f32 0x00000000#32)) ?_
  funext x
  refine (cast_down4 _ _ x).trans (congrArg _ ?_)
  funext a
  refine Fin.ext ?_
  rw [idx_unit_val']
  fin_cases a
  · exact Nat.add_zero _
  · exact Nat.add_zero _
  · rfl
  · exact Nat.zero_add _

theorem YF_apply {y : S2x896x256.Idx} {s : Fin 2} {k : Fin 4} {i : Fin 224} {j : Fin 256}
    (h0 : (y 0).val = s.val) (h1 : (y 1).val = 224 * k.val + i.val) (h2 : (y 2).val = j.val) :
    YF h g u y = yv h g u s k (ix2 i j) := by
  obtain rfl : y 0 = s := Fin.ext h0
  obtain rfl : y 2 = j := Fin.ext h2
  have e1 : (⟨(y 1).val / 224, by have := (y 1).isLt; change _ < 896 at this; omega⟩ : Fin 4) = k := Fin.ext (by show (y 1).val / 224 = _; omega)
  have f1 : (⟨(y 1).val % 224, by omega⟩ : Fin 224) = i := Fin.ext (by show (y 1).val % 224 = _; omega)
  unfold YF
  rw [e1, f1]

theorem chunk_does (s : Fin 2) (k : Fin 4) (acc : FVec F S16x128 .f32) (h6 : ∀ y, st.d6 y) (h9 : ∀ y, st.d9 y) (D : S2x896x256.Idx → Prop)
    (hD : ∀ y, D y → st.d10 y ∨ ((y 0).val = s.val ∧ (y 1).val / 224 = k.val)) :
    Does c (St c B h g u st) (chunk B.b6 B.b9 B.b10 s k acc) (maximumf acc (peak (yv h g u s k))) (St c B h g u { st with d10 := D }) := by
  unfold chunk
  refine Does.bind (prodP_does s k 0 h6 h9) ?_
  refine Does.bind (prodP_does s k 1 h6 h9) ?_
  refine Does.bind (prodP_does s k 2 h6 h9) ?_
  have key : Does c (St c B h g u st) (Prog.lift (.load B.b10 (Rect.unit (s := S2x896x256) ![s.val, 224 * k.val, 0] S1x224x256.size (inbY s k)).toLoadRect (View.loadsAt_vmem h_S1x224x256)) >>= fun _ =>
      Prog.lift (.store B.b10 (Rect.unit (s := S2x896x256) ![s.val, 224 * k.val, 0] S1x224x256.size (inbY s k)) (shapeCast S1x224x256 (yv h g u s k) shapeCasts_S224x256_S1x224x256) Finset.univ (View.stores_vmem_bits_univ h_S1x224x256 rfl) (.inl rfl)))
      ⟨⟩ (St c B h g u { st with d10 := D }) := by
    refine use10 D (Does.load_unused _ _ (Does.store _ _ _ _ ?_ ?_))
    · intro x
      have x0 : (x 0).val < 1 := (x 0).isLt
      exact (cast_up3 _ _ x).trans (YF_apply (by rw [idx_unit_val']; simp; omega) (by rw [idx_unit_val']; simp) (by rw [idx_unit_val']; simp)).symm
    · intro y hy
      refine (hD y hy).imp_right fun ⟨e0, e1⟩ => ?_
      have y2 : (y 2).val < 256 := (y 2).isLt
      rw [Rect.mem_set_unit]
      intro d; fin_cases d <;> simp [S1x224x256] <;> omega
  exact Does.seq key (Does.ret _)

theorem half_does (s : Fin 2) (h6 : ∀ y, st.d6 y) (h9 : ∀ y, st.d9 y) (D : S2x896x256.Idx → Prop)
    (hD : ∀ y, D y → st.d10 y ∨ (y 0).val = s.val) :
    Does c (St c B h g u st) (half B.b6 B.b9 B.b10 s) (amaxV h g u s) (St c B h g u { st with d10 := D }) := by
  unfold half
  let E (n : ℕ) : S2x896x256.Idx → Prop := fun y => st.d10 y ∨ ((y 0).val = s.val ∧ (y 1).val / 224 < n)
  have hE (n : ℕ) (y : S2x896x256.Idx) (hy : E (n + 1) y) : E n y ∨ ((y 0).val = s.val ∧ (y 1).val / 224 = n) := by
    rcases hy with hy | ⟨e0, e1⟩
    · exact .inl (.inl hy)
    · by_cases hn : (y 1).val / 224 < n
      · exact .inl (.inr ⟨e0, hn⟩)
      · exact .inr ⟨e0, by omega⟩
  refine Does.bind (chunk_does s 0 _ h6 h9 (E 1) fun y hy => ?_) ?_
  · rcases hE 0 y hy with hy | hy
    · exact .inl (hy.resolve_right (by omega))
    · exact .inr hy
  refine Does.bind (chunk_does (st := { st with d10 := E 1 }) s 1 _ h6 h9 (E 2) (hE 1)) ?_
  refine Does.bind (chunk_does (st := { st with d10 := E 2 }) s 2 _ h6 h9 (E 3) (hE 2)) ?_
  refine chunk_does (st := { st with d10 := E 3 }) s 3 _ h6 h9 D fun y hy => hE 3 y ?_
  have y1 : (y 1).val < 896 := (y 1).isLt
  rcases hD y hy with hy | e0
  · exact .inl hy
  · exact .inr ⟨e0, by omega⟩

/-! ## The codes -/

theorem CODES_apply {y : S32x14336.Idx} {q : Fin 56} {i : Fin 32} {j : Fin 256} (h0 : (y 0).val = i.val) (h1 : (y 1).val = 256 * q.val + j.val) :
    CODES h g u y = codeq h g u q (ix2 i j) := by
  obtain rfl : y 0 = i := Fin.ext h0
  have e1 : (⟨(y 1).val / 256, by have := (y 1).isLt; change _ < 14336 at this; omega⟩ : Fin 56) = q := Fin.ext (by show (y 1).val / 256 = _; omega)
  have f1 : (⟨(y 1).val % 256, by omega⟩ : Fin 256) = j := Fin.ext (by show (y 1).val % 256 = _; omega)
  unfold CODES
  rw [e1, f1]

theorem quant_does (q : Fin 56) (h10 : ∀ y, st.d10 y) (D : S32x14336.Idx → Prop) (hD : ∀ y, D y → st.d4 y ∨ (y 1).val / 256 = q.val) :
    Does c (St c B h g u st) (quant B.b4 B.w4 B.b10 (invOf (tV h g u)) q) ⟨⟩ (St c B h g u { st with d4 := D }) := by
  unfold quant
  refine Does.bind (use10 st.d10 (Does.load _ _ _ (fun x => h10 _) fun x => rfl)) ?_
  refine Does.bind (use10 st.d10 (Does.load _ _ _ (fun x => h10 _) fun x => rfl)) ?_
  have cut (s : Fin 2) : (shapeCast S16x256 (fun x => YF h g u ((Rect.unit (s := S2x896x256) ![s.val, 16 * q.val, 0] S1x16x256.size (inbQ s q)).idx x)) shapeCasts_S1x16x256_S16x256 : FVec F S16x256 .f32)
      = fun x => YF h g u (ix3 s ⟨16 * q.val + (x 0).val, by have := (x 0).isLt; change _ < 16 at this; omega⟩ (x 1)) := by
    funext x
    refine (cast_down3 _ _ x).trans (congrArg _ ?_)
    funext a
    refine Fin.ext ?_
    rw [idx_unit_val']
    fin_cases a
    · exact Nat.add_zero _
    · rfl
    · exact Nat.zero_add _
  refine use4 D (Does.load_unused _ _ (Does.store _ _ _ _ ?_ ?_))
  · intro x
    rw [CODES_apply (q := q) (i := x 0) (j := x 1) (by rw [idx_unit_val']; simp) (by rw [idx_unit_val']; simp)]
    unfold codeq
    rw [← cut 0, ← cut 1]
    exact congrArg _ (ix2_eta x).symm
  · intro y hy
    refine (hD y hy).imp_right fun e1 => ?_
    have y0 : (y 0).val < 32 := (y 0).isLt
    rw [Rect.mem_set_unit]
    intro d; fin_cases d <;> simp [S32x256] <;> omega

/-- What a grid point does once the signs are written. -/
theorem mainS_does (h6 : ∀ y, st.d6 y) (h7 : ∀ y : S224.Idx, (y 0).val % 8 < 7 → st.d7 y) :
    Does c (St c B h g u st) (mainS B.b2 B.b3 B.b4 B.w4 B.b5 B.b6 B.b7 B.b8 B.b9 B.w9 B.b10) ⟨⟩
      (St c B h g u { st with d4 := fun _ => True, d5 := fun _ => True, d8 := fun _ => False, d9 := fun _ => True, d10 := fun _ => True }) := by
  unfold mainS
  refine Does.bind (phase1_does h7) ?_
  refine Does.bind (half_does (st := { st with d8 := fun _ => False, d9 := fun _ => True }) 0 h6 (fun _ => trivial) (fun y => (y 0).val = 0) fun y hy => .inr hy) ?_
  refine Does.bind (half_does (st := { st with d8 := fun _ => False, d9 := fun _ => True, d10 := fun y => (y 0).val = 0 }) 1 h6 (fun _ => trivial) (fun _ => True) fun y _ => ?_) ?_
  · have y0 : (y 0).val < 2 := (y 0).isLt
    show (y 0).val = 0 ∨ (y 0).val = 1
    omega
  have key : Does c (St c B h g u { st with d8 := fun _ => False, d9 := fun _ => True, d10 := fun _ => True })
      (Prog.lift (.load B.b5 (Rect.unit (s := S32x128) ![0, 0] S32x128.size inb_S32x128_S32x128_0_0).toLoadRect (View.loadsAt_vmem h_S32x128)) >>= fun _ =>
      Prog.lift (.store B.b5 (Rect.unit (s := S32x128) ![0, 0] S32x128.size inb_S32x128_S32x128_0_0) (SC h g u) Finset.univ (View.stores_vmem_bits_univ h_S32x128 rfl) (.inl rfl)))
      ⟨⟩ (St c B h g u { st with d5 := fun _ => True, d8 := fun _ => False, d9 := fun _ => True, d10 := fun _ => True }) := by
    refine use5 (st := { st with d8 := fun _ => False, d9 := fun _ => True, d10 := fun _ => True }) (fun _ => True) (Does.load_unused _ _ (Does.store _ _ _ _ (fun x => ?_) fun y _ => .inr (mem_whole' y)))
    exact congrArg _ (idx_whole' x).symm
  refine Does.seq key ?_
  refine Does.conseq (Does.loop _ (fun k => St c B h g u { st with d4 := fun y => (y 1).val / 256 < k, d5 := fun _ => True, d8 := fun _ => False, d9 := fun _ => True, d10 := fun _ => True }) fun q => ?_)
    (weak4 _ fun y hy => absurd hy (by omega)) (weak4 _ fun y _ => ?_)
  · refine quant_does (st := { st with d4 := fun y => (y 1).val / 256 < q.val, d5 := fun _ => True, d8 := fun _ => False, d9 := fun _ => True, d10 := fun _ => True })
      q (fun _ => trivial) _ fun y hy => ?_
    change (y 1).val / 256 < q.val + 1 at hy
    show (y 1).val / 256 < q.val ∨ _
    omega
  · have y1 : (y 1).val < 14336 := (y 1).isLt
    show (y 1).val / 256 < 56
    omega

/-! ## The first grid point -/

theorem wordP_does (a : Fin 28) (q : Fin 7) (D : S224.Idx → Prop) (hD : ∀ y, D y → st.d7 y ∨ (y 0).val = 8 * a.val + q.val) :
    Does c (St c B h g u st) (wordP B.b1 B.b7 a q) ⟨⟩ (St c B h g u { st with d7 := D }) := by
  unfold wordP
  have hx (k : Fin 28) (x : (Rect.unit (s := S28x28) ![a.val, k.val] S1x1.size (inbH a k)).shape.Idx) :
      h ((Rect.unit (s := S28x28) ![a.val, k.val] S1x1.size (inbH a k)).idx x) = h (ix2 a k) := by
    have x0 : (x 0).val < 1 := (x 0).isLt
    have x1 : (x 1).val < 1 := (x 1).isLt
    refine congrArg h ?_
    funext d
    refine Fin.ext ?_
    rw [idx_unit_val']
    fin_cases d
    · show a.val + (x 0).val = a.val; omega
    · show k.val + (x 1).val = k.val; omega
  refine Does.bind (use1 (Does.smem _ _ _ _ (fun _ => trivial) (hx ⟨4 * q.val + 0, by omega⟩))) ?_
  refine Does.bind (use1 (Does.smem _ _ _ _ (fun _ => trivial) (hx ⟨4 * q.val + 1, by omega⟩))) ?_
  refine Does.bind (use1 (Does.smem _ _ _ _ (fun _ => trivial) (hx ⟨4 * q.val + 2, by omega⟩))) ?_
  refine Does.bind (use1 (Does.smem _ _ _ _ (fun _ => trivial) (hx ⟨4 * q.val + 3, by omega⟩))) ?_
  refine use7 D (Does.smem_unused _ _ _ (Does.store _ _ _ _ ?_ ?_))
  · intro x
    have x0 : (x 0).val < 1 := (x 0).isLt
    show wordOf h a q = IDX h _
    unfold IDX
    congr 1
    · exact Fin.ext (by show a.val = _ / 8; rw [idx_unit_val']; show a.val = (8 * a.val + q.val + (x 0).val) / 8; omega)
    · exact Fin.ext (by show q.val = _ % 8 % 7; rw [idx_unit_val']; show q.val = (8 * a.val + q.val + (x 0).val) % 8 % 7; omega)
  · intro y hy
    refine (hD y hy).imp_right fun e => ?_
    rw [Rect.mem_set_unit]
    intro d; fin_cases d; simp [S1]; omega

theorem initS_does :
    Does c (St c B h g u st) (initS B.b1 B.b6 B.w6 B.b7) ⟨⟩ (St c B h g u { st with d6 := fun _ => True, d7 := isWord }) := by
  unfold initS
  have key : Does c (St c B h g u st)
      (Prog.lift (.load B.b6 (Rect.unit (s := S256x256) ![0, 0] S256x256.size inb_S256x256_S256x256_0_0).toLoadRect (View.loadsAt_vmem h_S256x256)) >>= fun _ =>
      Prog.lift (.store B.b6 (Rect.unit (s := S256x256) ![0, 0] S256x256.size inb_S256x256_S256x256_0_0) (shapeCast S256x256 (signs (F := F)) shapeCasts_S256x256_S256x256) Finset.univ (View.stores_vmem h_S256x256 (B.w6.storeExact_slice rfl _ packedbf16_S256x256_S256x256_0_0) (fun _ => rfl)) (.inl rfl)))
      ⟨⟩ (St c B h g u { st with d6 := fun _ => True }) := by
    refine use6 (fun _ => True) (Does.load_unused _ _ (Does.store _ _ _ _ (fun x => ?_) fun y _ => .inr (mem_whole y)))
    rw [idx_whole, shapeCast_self]
  have key2 : Does c (St c B h g u { st with d6 := fun _ => True }) (loop 28 fun a => loop 7 fun q => wordP B.b1 B.b7 a q) ⟨⟩
      (St c B h g u { st with d6 := fun _ => True, d7 := isWord }) := by
    refine Does.conseq (Does.loop _ (fun k => St c B h g u { st with d6 := fun _ => True, d7 := fun y => isWord y ∧ (y 0).val / 8 < k }) fun a => ?_)
      (weak7 _ fun y hy => absurd hy.2 (by omega)) (weak7 _ fun y hy => ⟨hy, ?_⟩)
    · refine Does.conseq (Does.loop _ (fun k => St c B h g u { st with d6 := fun _ => True, d7 := fun y => isWord y ∧ ((y 0).val / 8 < a.val ∨ ((y 0).val / 8 = a.val ∧ (y 0).val % 8 < k)) }) fun q => ?_)
        (weak7 _ fun y hy => ⟨hy.1, hy.2.resolve_right (by omega)⟩) (weak7 _ fun y hy => ⟨hy.1, ?_⟩)
      · refine wordP_does (st := { st with d6 := fun _ => True, d7 := fun y => isWord y ∧ ((y 0).val / 8 < a.val ∨ ((y 0).val / 8 = a.val ∧ (y 0).val % 8 < q.val)) }) a q _ fun y hy => ?_
        obtain ⟨hw, hy⟩ := hy
        by_cases e : (y 0).val = 8 * a.val + q.val
        · exact .inr e
        · exact .inl ⟨hw, by omega⟩
      · have hw : (y 0).val % 8 < 7 := hy.1
        have h2 : (y 0).val / 8 < a.val + 1 := hy.2
        omega
    · have y0 : (y 0).val < 224 := (y 0).isLt
      omega
  exact Does.seq key key2

end Cert.Transform.Hand
-- ==== Proof.Transform.Eq.lean ====
/-
  The printed body equals the one written with loops (hand-written, untrusted).
-/
module

public import proofs.«01_k».proof.Proof.Transform.Struct

@[expose] public section

set_option maxRecDepth 16384

noncomputable section

open Idealize.ShloMosaic Idealize.SL.Sem

namespace Cert.Transform.Hand

open Cert.Transform

variable {F : FTy → Type} [FloatOps F] [Facts]

variable (i : grid0.Coords) (arg1 : Memref sig .tc .smem S28x28 .f32) (harg1 : arg1.IsWhole) (arg2 : Memref sig .tc .vmem S32x14336 .bf16) (harg2 : arg2.IsWhole) (arg3 : Memref sig .tc .vmem S32x14336 .bf16) (harg3 : arg3.IsWhole) (arg4 : Memref sig .tc .vmem S32x14336 .fp8e4m3) (harg4 : arg4.IsWhole) (arg5 : Memref sig .tc .vmem S32x128 .f32) (harg5 : arg5.IsWhole) (arg6 : Memref sig .tc .vmem S256x256 .bf16) (harg6 : arg6.IsWhole) (arg7 : Memref sig .tc .smem S224 .i32) (harg7 : arg7.IsWhole) (arg8 : Memref sig .tc .vmem S112x2x16x128 .f32) (harg8 : arg8.IsWhole) (arg9 : Memref sig .tc .vmem S2x3x896x256 .bf16) (harg9 : arg9.IsWhole) (arg10 : Memref sig .tc .vmem S2x896x256 .f32) (harg10 : arg10.IsWhole)

set_option maxHeartbeats 4000000 in
theorem body_eq_rest (h : ¬ k0_cond1 i = 1#1) :
    (cc0_transform i arg1 harg1 arg2 harg2 arg3 harg3 arg4 harg4 arg5 harg5 arg6 harg6 arg7 harg7 arg8 harg8 arg9 harg9 arg10 harg10 : P F PUnit)
      = mainS arg2 arg3 arg4 harg4 arg5 arg6 arg7 arg8 arg9 harg9 arg10 := by
  unfold cc0_transform k0_part458 k0_part451 k0_part6
  rw [dif_neg h]
  chain_rfl

theorem loopFor_eq {E : Type → Type} {w : Nat} {σ : Type} (l : Scf.Loop w) (hok : l.OK) (init : σ) (body : Fin l.trips → σ → Prog E σ) :
    Scf.Loop.for l hok init body = Scf.forFrom body (List.finRange l.trips) init := Scf.for_eq ..

set_option maxHeartbeats 4000000 in
theorem body_eq_first (h : k0_cond1 i = 1#1) :
    (cc0_transform i arg1 harg1 arg2 harg2 arg3 harg3 arg4 harg4 arg5 harg5 arg6 harg6 arg7 harg7 arg8 harg8 arg9 harg9 arg10 harg10 : P F PUnit)
      = (initS arg1 arg6 harg6 arg7 >>= fun _ => mainS arg2 arg3 arg4 harg4 arg5 arg6 arg7 arg8 arg9 harg9 arg10) := by
  unfold cc0_transform k0_part458 k0_part451 k0_part6
  rw [dif_pos h]
  simp only [loopFor_eq]
  chain_rfl

end Cert.Transform.Hand
-- ==== Proof.Transform.Run.lean ====
/-
  The run of the transform call: the signs tracked from the first grid point on (hand-written, untrusted).
-/
module

public import proofs.«01_k».proof.Proof.Transform.Body2
public import proofs.«01_k».proof.Proof.Transform.Eq
public import proofs.«01_k».proof.Proof.Gen.Transform.Frame
public import Idealize.ShloMosaic.Lib.Claim

@[expose] public section

set_option maxRecDepth 16384

noncomputable section

namespace Cert.Transform.Hand

open Cert.Transform Cert.Transform.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-- The signs' block, the same at every point. -/
def blkH (c : Dev nD) : S28x28.Idx → F .f32 := iblk m c 0 ⟨0, by decide⟩

theorem blkH_eq (c : Dev nD) (t : Fin cfg0.N) : iblk m c 0 t = blkH m c := by
  rfl

/-- The scratch buffers between points: after the first point the matrix and the words are known. -/
def scr (c : Dev nD) (n : ℕ) : sProp (MT nD τ sig Unit (Elt F) ℕ (UR sig nD τ) ℕ) :=
  iprop(known (F := F) c (Memref.whole cc0_scratch0) (signs (F := F)) (fun _ => n ≠ 0)
    ∗ known (F := F) c (Memref.whole cc0_scratch1) (IDX (blkH m c)) (fun y => n ≠ 0 ∧ isWord y)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f)
    ∗ (∃ r : PrngReg, prngReg c r))

theorem known_of_whole {c : Dev nD} {b : Ref sig .tc} {f : Buf (Elt F) ((c : Thread nD τ).loc b)} {X : b.ty.shape.Idx → Elt F b.ty.elt} {D : b.ty.shape.Idx → Prop} (hD : ∀ y, ¬ D y) :
    (((c : Thread nD τ).loc b) ↦{fullShare} f : sProp (MT nD τ sig Unit (Elt F) ℕ (UR sig nD τ) ℕ)) ⊢ known c (Memref.whole b) X D := by
  rw [← owns_whole]
  exact (all_known (F := F) (D := fun _ => True)).trans (known_weaken fun y hy => (hD y hy).elim)

theorem whole_of_known {c : Dev nD} {b : Ref sig .tc} {X : b.ty.shape.Idx → Elt F b.ty.elt} {D : b.ty.shape.Idx → Prop} :
    (known c (Memref.whole b) X D : sProp (MT nD τ sig Unit (Elt F) ℕ (UR sig nD τ) ℕ)) ⊢ iprop(∃ f : Buf (Elt F) ((c : Thread nD τ).loc b), ((c : Thread nD τ).loc b) ↦{fullShare} f) := by
  unfold known
  refine (ownsSat_any _ _ _).trans ?_
  refine exists_mono fun X => ?_
  rw [owns_whole]

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => CODES (F := F) (blkH m c) (iblk m c 1 t) (iblk m c 2 t)
    | ⟨4, _⟩ => SC (F := F) (blkH m c) (iblk m c 1 t) (iblk m c 2 t)
  Φ t := scr m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = CODES (F := F) (blkH m c) (iblk m c 1 t) (iblk m c 2 t) := by dsimp only [dats]
theorem after0_4 (c : Dev nD) (t : Fin cfg0.N) : (dats m 0 c).after 4 t = SC (F := F) (blkH m c) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body at a point -/

/-- The buffers at point `t`. -/
def bufs (t : Fin cfg0.N) : Bufs where
  b1 := st0_0 t
  b2 := st0_1 t
  b3 := st0_2 t
  b4 := st0_3 t
  w4 := hstage0_3 ((cfg0.slots t 3).cast nbuf0_3)
  b5 := st0_4 t
  b6 := Memref.whole cc0_scratch0
  w6 := Memref.isWhole_whole _
  b7 := Memref.whole cc0_scratch1
  b8 := Memref.whole cc0_scratch2
  b9 := Memref.whole cc0_scratch3
  w9 := Memref.isWhole_whole _
  b10 := Memref.whole cc0_scratch4

def pre (n : ℕ) : Know := ⟨fun _ => False, fun _ => False, fun _ => n ≠ 0, fun y => n ≠ 0 ∧ isWord y, 0, 0, fun _ => False, fun _ => False, fun _ => False⟩
def post : Know := ⟨fun _ => True, fun _ => True, fun _ => True, isWord, 0, 0, fun _ => False, fun _ => True, fun _ => True⟩

theorem first_iff : ∀ t : Fin cfg0.N, k0_cond1 (grid0.coords t) = 1#1 ↔ t.val = 0 :=
  (by decide +kernel : ∀ t : Fin grid0.N, k0_cond1 (grid0.coords t) = 1#1 ↔ t.val = 0)

theorem body_does (c : Dev nD) (t : Fin cfg0.N) (h : S28x28.Idx → F .f32) (g u : S32x14336.Idx → F .bf16) :
    Does c (St c (bufs t) h g u (pre t.val)) (bodyAt0 t) ⟨⟩ (St c (bufs t) h g u post) := by
  unfold bodyAt0
  by_cases hc : k0_cond1 (grid0.coords t) = 1#1
  · rw [body_eq_first (F := F) (h := hc)]
    refine Does.bind (initS_does (B := bufs t) (st := pre t.val)) ?_
    exact mainS_does (B := bufs t) (st := { pre t.val with d6 := fun _ => True, d7 := isWord }) (fun _ => trivial) fun _ hy => hy
  · have hn : t.val ≠ 0 := fun e => hc ((first_iff t).mpr e)
    rw [body_eq_rest (F := F) (h := hc)]
    have e : pre t.val = { pre t.val with d6 := fun _ => True, d7 := isWord } := by
      unfold pre; simp [hn]
    rw [e]
    exact mainS_does (B := bufs t) (st := { pre t.val with d6 := fun _ => True, d7 := isWord }) (fun _ => trivial) fun _ hy => hy

theorem St_eq {c : Dev nD} {B : Bufs} {h : S28x28.Idx → F .f32} {g u : S32x14336.Idx → F .bf16} {st : Know} :
    St c B h g u st = iprop(known (F := F) c B.b1 h (fun _ => True) ∗ known (F := F) c B.b2 g (fun _ => True) ∗ known (F := F) c B.b3 u (fun _ => True)
      ∗ known (F := F) c B.b4 (CODES h g u) st.d4 ∗ known (F := F) c B.b5 (SC h g u) st.d5 ∗ known (F := F) c B.b6 (signs (F := F)) st.d6
      ∗ known (F := F) c B.b7 (IDX h) st.d7 ∗ known (F := F) c B.b8 (TAB g u st.s st.b0) st.d8 ∗ known (F := F) c B.b9 (ZS h g u) st.d9
      ∗ known (F := F) c B.b10 (YF h g u) st.d10) := by
  unfold St
  rw [show (Finset.univ : Finset (Fin 10)) = {0, 1, 2, 3, 4, 5, 6, 7, 8, 9} from rfl]
  repeat rw [bigSep_insert (by decide)]
  rw [bigSep_singleton]
  rfl

def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem none_of_owns {c : Dev nD} {cs : CoreSpace} {s : Shape} {e : EltTy} {b : Memref sig .tc cs s e} {X Y : s.Idx → Elt F e} :
    (owns (c : Thread nD τ) b fullShare Y : sProp (MT nD τ sig Unit (Elt F) ℕ (UR sig nD τ) ℕ)) ⊢ known c b X (fun _ => False) :=
  (all_known (F := F) (D := fun _ => True)).trans (known_weaken fun y hy => hy.elim)

theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, blkH_eq]
  rw [show (dats m 0 c).Φ t.succ = scr m c (t.val + 1) from rfl, show (dats m 0 c).Φ t.castSucc = scr m c t.val from rfl,
    show (dats m 0 c).owesAt () t.succ = (dats m 0 c).owesAt () t.castSucc from rfl,
    after0_0, after0_1, after0_2, after0_3, after0_4, blkH_eq]
  unfold scr
  iintro ⟨⟨S0, S1, ⟨%f2, S2⟩, ⟨%f3, S3⟩, ⟨%f4, S4⟩, HP⟩, Ho, ⟨%d0, H0⟩, ⟨%d1, H1⟩, ⟨%d2, H2⟩, ⟨%d3, H3⟩, ⟨%d4, H4⟩⟩
  iapply (body_does (F := F) c t (blkH m c) (iblk m c 1 t) (iblk m c 2 t) _)
  rw [St_eq, St_eq]
  isplitl [S0 S1 S2 S3 S4 H0 H1 H2 H3 H4]
  · isplitl [H0]; · iapply (all_known (F := F)); iexact H0
    isplitl [H1]; · iapply (all_known (F := F)); iexact H1
    isplitl [H2]; · iapply (all_known (F := F)); iexact H2
    isplitl [H3]; · iapply (none_of_owns (F := F)); iexact H3
    isplitl [H4]; · iapply (none_of_owns (F := F)); iexact H4
    isplitl [S0]; · iexact S0
    isplitl [S1]; · iexact S1
    isplitl [S2]; · iapply (known_of_whole (F := F) (fun _ h => h)); iexact S2
    isplitl [S3]; · iapply (known_of_whole (F := F) (fun _ h => h)); iexact S3
    iapply (known_of_whole (F := F) (fun _ h => h)); iexact S4
  iintro ⟨H0, H1, H2, H3, H4, S0, S1, S2, S3, S4⟩
  isplitl [S0 S1 S2 S3 S4 HP]
  · isplitl [S0]; · iapply (known_weaken (F := F) (fun y _ => ⟨trivial, rfl⟩)); iexact S0
    isplitl [S1]; · iapply (known_weaken (F := F) (fun y h => ⟨h.2, rfl⟩)); iexact S1
    isplitl [S2]; · iapply (whole_of_known (F := F)); iexact S2
    isplitl [S3]; · iapply (whole_of_known (F := F)); iexact S3
    isplitl [S4]; · iapply (whole_of_known (F := F)); iexact S4
    iexact HP
  isplitl [Ho]; · iexact Ho
  isplitl [H0]; · iapply (known_all (F := F)); iexact H0
  isplitl [H1]; · iapply (known_all (F := F)); iexact H1
  isplitl [H2]; · iapply (known_all (F := F)); iexact H2
  isplitl [H3]; · iapply (known_all (F := F)); iexact H3
  iapply (known_all (F := F)); iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats (F := F) m 0 c).Φ 0 := by
  rw [show (dats m 0 c).Φ 0 = scr m c 0 from rfl]
  unfold scr Pipeline.ΦA
  rw [scopedRest0_eq]
  iintro ⟨⟨⟨%f0, S0⟩, S2, S3, S4, ⟨%f1, S1⟩⟩, HP⟩
  isplitl [S0]; · iapply (known_of_whole (F := F) (fun _ h => h rfl)); iexact S0
  isplitl [S1]; · iapply (known_of_whole (F := F) (fun _ h => h.1 rfl)); iexact S1
  isplitl [S2]; · iexact S2
  isplitl [S3]; · iexact S3
  isplitl [S4]; · iexact S4
  iexact HP

theorem hout (c : Dev nD) : (dats (F := F) m 0 c).Φ (Fin.last cfg0.N) ⊢ Pipeline.ΦA spec0 c := by
  rw [show (dats m 0 c).Φ (Fin.last cfg0.N) = scr m c cfg0.N from rfl]
  unfold scr Pipeline.ΦA
  rw [scopedRest0_eq]
  iintro ⟨S0, S1, S2, S3, S4, HP⟩
  isplitl [S0 S1 S2 S3 S4]
  · isplitl [S0]; · iapply (whole_of_known (F := F)); iexact S0
    isplitl [S2]; · iexact S2
    isplitl [S3]; · iexact S3
    isplitl [S4]; · iexact S4
    iapply (whole_of_known (F := F)); iexact S1
  iexact HP

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame of the transform call. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Transform.Hand
-- ==== Proof.Transform.Transfer.lean ====
/-
  The idealized transform call is the same program (hand-written, untrusted).
-/
module

public import proofs.«01_k».proof.Proof.Transform.Run
public import proofs.«01_k».proof.Proof.Gen.TransformIdeal

@[expose] public section

set_option maxRecDepth 16384

noncomputable section

namespace Cert.Transform.Hand

open Idealize.ShloMosaic

variable {F : FTy → Type} [FloatOps F]

theorem cc_same : @Cert.TransformIdeal.cc0_transform F _ _ = @Cert.Transform.cc0_transform F _ _ := by
  chain_rfl

theorem defs_same : Cert.TransformIdeal.defs (F := F) = Cert.Transform.defs (F := F) := by
  chain_rfl

theorem main_same : Cert.TransformIdeal.main (F := F) = Cert.Transform.main (F := F) := by
  chain_rfl

end Cert.Transform.Hand
-- ==== Proof.Transform.Scal.lean ====
/-
  The mathematics of the transform over the reals (hand-written, untrusted).
-/
module

public import Idealize.ShloMosaic.Lib.Pointwise
public import Idealize.ShloMosaic.Lib.ValueLayout
public import Mathlib.Data.EReal.Operations
public import Mathlib.Data.EReal.Inv

@[expose] public section

set_option maxRecDepth 16384

noncomputable section

namespace Cert.Transform.Hand

open Idealize.ShloMosaic

/-! ## Constants -/

theorem bits_one : Ideal.ofBits .f32 0x3F800000#32 = ((1 : ℝ) : EReal) := by
  simp [Ideal.ofBits, Ideal.ieee]
  rw [← EReal.coe_mul]
  norm_num

theorem bits_neg_one : Ideal.ofBits .f32 0xBF800000#32 = ((-1 : ℝ) : EReal) := by
  simp [Ideal.ofBits, Ideal.ieee]
  rw [← EReal.coe_mul]
  norm_num

theorem bits_zero : Ideal.ofBits .f32 0x00000000#32 = 0 := by
  simp [Ideal.ofBits, Ideal.ieee]

theorem bits_bot : Ideal.ofBits .f32 0xFF800000#32 = ⊥ := by
  simp [Ideal.ofBits, Ideal.ieee]

theorem bits_top16 : Ideal.ofBits .bf16 0x7F80#16 = ⊤ := by
  simp [Ideal.ofBits, Ideal.ieee]

/-- The factor of the transform is a positive real. -/
theorem bits_c : ∃ c : ℝ, 0 < c ∧ Ideal.ofBits .f32 0x3C08D677#32 = (c : EReal) := by
  refine ⟨_, ?_, by simp [Ideal.ofBits, Ideal.ieee]; rfl⟩
  norm_num

/-! ## The gate -/

/-- The gated product of one pair of operands. -/
def gv (a b : EReal) : EReal := a * Ideal.div ((1 : ℝ) : EReal) (((1 : ℝ) : EReal) + Ideal.exp (-a)) * b

theorem gv_real (a b : ℝ) : ∃ r : ℝ, gv a b = (r : EReal) := by
  have h : (0 : ℝ) < 1 + Real.exp (-a) := by positivity
  refine ⟨a * (1 * (1 / (1 + Real.exp (-a)))) * b, ?_⟩
  unfold gv
  rw [← EReal.coe_neg, Ideal.exp_coe, ← EReal.coe_add, Ideal.div_coe h.ne', ← EReal.coe_mul, ← EReal.coe_mul, ← EReal.coe_mul]

/-! ## Signs -/

/-- The sign of a counted minus. -/
def sg (b : Prop) [Decidable b] : ℝ := if b then -1 else 1

def oddR (v : BitVec 32) : Bool := IntOp.andi (IntOp.ctpop v) 1#32 == 1#32

def foldK (v : BitVec 32) : BitVec 32 :=
  let v1 := IntOp.xori v (IntOp.shrsi .vector v 4#32)
  let v2 := IntOp.xori v1 (IntOp.shrsi .vector v1 2#32)
  IntOp.xori v2 (IntOp.shrsi .vector v2 1#32)

def oddK (v : BitVec 32) : Bool := IntOp.andi (foldK v) 1#32 == 1#32

theorem odd_split : ∀ (w : Fin 2) (v : Fin 256), oddR (BitVec.ofNat 32 (256 * w.val + v.val)) = ((w == 1) ^^ oddK (BitVec.ofNat 32 v.val)) := by
  decide +kernel

theorem and_split (w w' i j : ℕ) (hi : i < 256) (hj : j < 256) :
    (256 * w + i) &&& (256 * w' + j) = 256 * (w &&& w') + (i &&& j) := by
  have hij : i &&& j < 2 ^ 8 := lt_of_le_of_lt Nat.and_le_left hi
  apply Nat.eq_of_testBit_eq
  intro k
  rw [Nat.testBit_and, show (256 : ℕ) = 2 ^ 8 from rfl, Nat.testBit_two_pow_mul_add _ hi, Nat.testBit_two_pow_mul_add _ hj, Nat.testBit_two_pow_mul_add _ hij]
  split
  · rw [Nat.testBit_and]
  · rw [Nat.testBit_and]

theorem and_two : ∀ w w' : Fin 2, w.val &&& w'.val = (if w = 1 ∧ w' = 1 then (1 : Fin 2) else 0).val := by decide

theorem two_cases : ∀ b : Fin 2, b = 0 ∨ b = 1 := by decide

/-- The entry of the matrix of signs, 256 by 256. -/
def HK (i j : Fin 256) : ℝ := if oddK (IntOp.andi (BitVec.ofNat 32 i.val) (BitVec.ofNat 32 j.val)) = true then -1 else 1

/-- The entry of the matrix of signs, 512 by 512. -/
def HR (p q : Fin 512) : ℝ := if oddR (IntOp.andi (BitVec.ofNat 32 p.val) (BitVec.ofNat 32 q.val)) = true then -1 else 1

/-- The column `256 b + j`. -/
def col2 (b : Fin 2) (j : Fin 256) : Fin 512 := ⟨256 * b.val + j.val, by omega⟩

theorem HR_split (w w' : Fin 2) (i j : Fin 256) : HR (col2 w i) (col2 w' j) = (if w = 1 ∧ w' = 1 then -1 else 1) * HK i j := by
  unfold HR HK col2 IntOp.andi
  rw [← BitVec.ofNat_and, ← BitVec.ofNat_and]
  dsimp only
  rw [and_split _ _ _ _ i.isLt j.isLt]
  have hij : i.val &&& j.val < 256 := lt_of_le_of_lt Nat.and_le_left i.isLt
  have key := odd_split (if w = 1 ∧ w' = 1 then 1 else 0) ⟨i.val &&& j.val, hij⟩
  have e : w.val &&& w'.val = (if w = 1 ∧ w' = 1 then (1 : Fin 2) else 0).val := and_two w w'
  rw [e, key]
  by_cases hw : w = 1 ∧ w' = 1
  · simp only [hw, and_self, if_true]
    cases oddK _ <;> simp
  · simp only [hw, if_false]
    cases oddK _ <;> simp

theorem sum_halves (f : Fin 512 → ℝ) : ∑ p : Fin 512, f p = ∑ i : Fin 256, (f (col2 0 i) + f (col2 1 i)) := by
  rw [Finset.sum_add_distrib]
  have := Fin.sum_univ_add (a := 256) (b := 256) f
  rw [show (∑ p : Fin 512, f p) = ∑ p : Fin (256 + 256), f p from rfl, this]
  refine congrArg₂ (· + ·) ?_ ?_
  · refine Finset.sum_congr rfl fun i _ => congrArg f (Fin.ext ?_)
    simp [col2]
  · refine Finset.sum_congr rfl fun i _ => congrArg f (Fin.ext ?_)
    simp [col2, Nat.add_comm]

/-- The transform of one token, row `a`, column `q`: as the plain mathematics has it. -/
def YR (x : Fin 28 → Fin 512 → ℝ) (σ : Fin 28 → Fin 28 → ℝ) (a : Fin 28) (q : Fin 512) : ℝ :=
  ∑ p : Fin 512, (∑ k : Fin 28, σ a k * x k p) * HR p q

/-- The signed sum that the kernel takes first. -/
def ZK (x : Fin 28 → Fin 512 → ℝ) (σ : Fin 28 → Fin 28 → ℝ) (a : Fin 28) (b : Fin 2) (i : Fin 256) : ℝ :=
  ∑ k : Fin 28, σ a k * (x k (col2 0 i) + (if b = 0 then 1 else -1) * x k (col2 1 i))

/-- What the kernel takes in two steps is the transform. -/
theorem sum_ZK (x : Fin 28 → Fin 512 → ℝ) (σ : Fin 28 → Fin 28 → ℝ) (a : Fin 28) (b : Fin 2) (j : Fin 256) :
    ∑ i : Fin 256, ZK x σ a b i * HK i j = YR x σ a (col2 b j) := by
  unfold YR ZK
  rw [sum_halves]
  refine Finset.sum_congr rfl fun i _ => ?_
  rw [HR_split, HR_split]
  have e : (∑ k : Fin 28, σ a k * (x k (col2 0 i) + (if b = 0 then 1 else -1) * x k (col2 1 i)))
      = (∑ k : Fin 28, σ a k * x k (col2 0 i)) + (if b = 0 then 1 else -1) * ∑ k : Fin 28, σ a k * x k (col2 1 i) := by
    rw [Finset.mul_sum, ← Finset.sum_add_distrib]
    exact Finset.sum_congr rfl fun k _ => by ring
  rw [e]
  rcases two_cases b with rfl | rfl
  · simp; ring
  · simp; ring

/-! ## The greatest magnitude -/

theorem coe_max' (a b : ℝ) : ((max a b : ℝ) : EReal) = max (a : EReal) (b : EReal) := EReal.coe_strictMono.monotone.map_max

theorem fold_max_le {n : ℕ} (b B : EReal) (f : Fin n → EReal) :
    (Finset.univ.fold max b f ≤ B) ↔ (b ≤ B ∧ ∀ k, f k ≤ B) := by
  rw [Finset.fold_max_le]
  simp

/-- Scaling every entry by a positive factor scales the greatest magnitude. -/
theorem peak_scale {ι : Type*} (y : ι → ℝ) (c : ℝ) (hc : 0 < c) (M R : EReal) (i0 : ι)
    (hM : ∀ B, M ≤ B ↔ (0 ≤ B ∧ ∀ i, max (y i : EReal) (-(y i : EReal)) ≤ B))
    (hR : ∀ B, R ≤ B ↔ ∀ i, max ((y i : EReal) * (c : EReal)) (-((y i : EReal) * (c : EReal))) ≤ B) : R = M * (c : EReal) := by
  have hc0 : (0 : EReal) ≤ (c : EReal) := by exact_mod_cast hc.le
  have hci : (0 : EReal) ≤ ((c⁻¹ : ℝ) : EReal) := by exact_mod_cast (inv_pos.2 hc).le
  have hcc : ((c⁻¹ : ℝ) : EReal) * (c : EReal) = 1 := by
    rw [← EReal.coe_mul, inv_mul_cancel₀ hc.ne', EReal.coe_one]
  have hcc' : (c : EReal) * ((c⁻¹ : ℝ) : EReal) = 1 := by rw [mul_comm, hcc]
  have habs : ∀ i, max ((y i : EReal) * (c : EReal)) (-((y i : EReal) * (c : EReal))) = max (y i : EReal) (-(y i : EReal)) * (c : EReal) := by
    intro i
    rw [← EReal.coe_mul, ← EReal.coe_neg, ← EReal.coe_neg, ← coe_max', ← coe_max', ← EReal.coe_mul, max_mul_of_nonneg _ _ hc.le, neg_mul]
  have hnn : ∀ i, (0 : EReal) ≤ max (y i : EReal) (-(y i : EReal)) := by
    intro i
    rw [← EReal.coe_neg, ← coe_max']
    exact_mod_cast le_max_iff.2 (by rcases le_total 0 (y i) with h | h; exacts [Or.inl h, Or.inr (by linarith)])
  have hMle := (hM M).1 le_rfl
  have hRle := (hR R).1 le_rfl
  refine le_antisymm ((hR _).2 fun i => ?_) ?_
  · rw [habs]; exact mul_le_mul_of_nonneg_right (hMle.2 i) hc0
  · have h1 : M ≤ R * ((c⁻¹ : ℝ) : EReal) := by
      have h2 : ∀ i, max (y i : EReal) (-(y i : EReal)) ≤ R * ((c⁻¹ : ℝ) : EReal) := by
        intro i
        have h3 := mul_le_mul_of_nonneg_right (hRle i) hci
        rwa [habs, mul_assoc, hcc', mul_one] at h3
      exact (hM _).2 ⟨(hnn i0).trans (h2 i0), h2⟩
    have h4 := mul_le_mul_of_nonneg_right h1 hc0
    rwa [mul_assoc, hcc, mul_one] at h4

/-! ## The power of two -/

/-- One step of the search for the exponent. -/
def stepE (t : EReal) (bit e : BitVec 32) : BitVec 32 :=
  Scalar.select (Ideal.cmp .oge t (Ideal.ofBits .f32 (IntOp.shli .vector (IntOp.addi e bit) 23#32))) (IntOp.addi e bit) e

/-- The exponent of the scale. -/
def exE (t : EReal) : BitVec 32 :=
  let e := stepE t 1#32 (stepE t 2#32 (stepE t 4#32 (stepE t 8#32 (stepE t 16#32 (stepE t 32#32 (stepE t 64#32 (stepE t 128#32 0#32)))))))
  Scalar.select (IntOp.cmpi .eq e 0#32) 0#32 (IntOp.subi e 126#32)

/-- The scale. -/
def scE (t : EReal) : EReal := Ideal.ofBits .f32 (IntOp.shli .vector (IntOp.addi (exE t) 127#32) 23#32)

/-- Its reciprocal. -/
def invE (t : EReal) : EReal := Ideal.ofBits .f32 (IntOp.shli .vector (IntOp.subi 127#32 (exE t)) 23#32)

/-- The code of one entry. -/
def codeE (y t : EReal) : EReal :=
  min (Ideal.ofBits .f32 0x43E00000#32) (max (Ideal.ofBits .f32 0xC3E00000#32) (y * invE t))

/-- The factor of the transform. -/
def CF : EReal := Ideal.ofBits .f32 0x3C08D677#32

/-- The factor of the greatest magnitude. -/
def CT : EReal := Ideal.ofBits .f32 0x3B124925#32

theorem shli_host (v : BitVec 32) : IntOp.shli .host v 23#32 = IntOp.shli .vector v 23#32 := by
  unfold IntOp.shli
  rw [if_pos (by decide), if_pos (by decide)]

end Cert.Transform.Hand
-- ==== Proof.Transform.KVal.lean ====
/-
  What one grid point of the transform computes, over the extended reals (hand-written, untrusted).
-/
module

public import proofs.«01_k».proof.Proof.Transform.Body
public import proofs.«01_k».proof.Proof.Transform.Scal

@[expose] public section

set_option maxRecDepth 16384

noncomputable section

namespace Cert.Transform.Hand

open Cert.Transform Cert.Transform.Facts₀ Cert.Transform.K0.Facts₀ Cert.Transform.Shapes1.Facts₀ Cert.Transform.Shapes2.Facts₀
open Idealize.ShloMosaic

variable (h : S28x28.Idx → EReal) (g u : S32x14336.Idx → EReal)

/-- The sign that the kernel reads off an entry. -/
def sigma (a k : Fin 28) : ℝ := 1 - 2 * (isNeg (F := Ideal) (h (ix2 a k)) : ℝ)

/-- The token `16 s + i` of the block. -/
def tok (s : Fin 2) (i : Fin 16) : Fin 32 := ⟨16 * s.val + i.val, by omega⟩

/-- The column `512 k + p`. -/
def colK (k : Fin 28) (p : Fin 512) : Fin 14336 := ⟨512 * k.val + p.val, by omega⟩

/-- The column `128 b0 + l` of a half. -/
def c128 (b0 : Fin 2) (l : Fin 128) : Fin 256 := ⟨128 * b0.val + l.val, by omega⟩

theorem gp_at (s : Fin 2) (c : Fin 112) (i : Fin 16) (l : Fin 128) (r : Fin 32) (d : Fin 14336) (hr : r.val = 16 * s.val + i.val)
    (hd : d.val = 128 * c.val + l.val) : gp (F := Ideal) g u s c (ix2 i l) = gv (g (ix2 r d)) (u (ix2 r d)) := by
  have e : (Rect.unit (s := S32x14336) ![16 * s.val, 128 * c.val] S16x128.size (inbX s c)).idx (ix2 i l) = ix2 r d := by
    funext a
    apply Fin.ext
    rw [idx_unit_val']
    match a with
    | ⟨0, _⟩ => exact hr.symm
    | ⟨1, _⟩ => exact hd.symm
  show g _ * Ideal.div (Ideal.ofBits .f32 0x3F800000#32) (Ideal.ofBits .f32 0x3F800000#32 + Ideal.exp (Ideal.ofBits .f32 0x00000000#32 - g _)) * u _ = _
  rw [e, bits_one, bits_zero, zero_sub]
  rfl

variable (x : Fin 32 → Fin 28 → Fin 512 → ℝ)

theorem side_at (hx : ∀ r k p, gv (g (ix2 r (colK k p))) (u (ix2 r (colK k p))) = (x r k p : EReal))
    (s b0 b : Fin 2) (k : Fin 28) (i : Fin 16) (l : Fin 128) :
    side (F := Ideal) g u s b0 b k (ix2 i l)
      = ((x (tok s i) k (col2 0 (c128 b0 l)) + (if b = 0 then 1 else -1) * x (tok s i) k (col2 1 (c128 b0 l)) : ℝ) : EReal) := by
  have e0 : gp (F := Ideal) g u s ⟨k.val * 4 + b0.val, by omega⟩ (ix2 i l) = (x (tok s i) k (col2 0 (c128 b0 l)) : EReal) :=
    (gp_at g u s _ i l (tok s i) (colK k (col2 0 (c128 b0 l))) rfl (by simp only [colK, col2, c128, Fin.val_zero]; omega)).trans (hx _ _ _)
  have e1 : gp (F := Ideal) g u s ⟨k.val * 4 + b0.val + 2, by omega⟩ (ix2 i l) = (x (tok s i) k (col2 1 (c128 b0 l)) : EReal) :=
    (gp_at g u s _ i l (tok s i) (colK k (col2 1 (c128 b0 l))) rfl (by simp only [colK, col2, c128, Fin.val_one]; omega)).trans (hx _ _ _)
  rcases two_cases b with rfl | rfl
  · show gp (F := Ideal) g u s _ (ix2 i l) + gp (F := Ideal) g u s _ (ix2 i l) = _
    rw [e0, e1, ← EReal.coe_add, if_pos rfl, one_mul]
  · show gp (F := Ideal) g u s _ (ix2 i l) - gp (F := Ideal) g u s _ (ix2 i l) = _
    rw [e0, e1, ← EReal.coe_sub, if_neg (by decide), neg_one_mul, sub_eq_add_neg]

theorem le_one {e : ℕ} (he : e ≤ 1) : e = 0 ∨ e = 1 := by omega

/-- A combination of four is the signed sum. -/
theorem combo_at (x0 x1 x2 x3 : FVec Ideal S16x128 .f32) (i : S16x128.Idx) (r0 r1 r2 r3 : ℝ) (h0 : x0 i = (r0 : EReal)) (h1 : x1 i = (r1 : EReal))
    (h2 : x2 i = (r2 : EReal)) (h3 : x3 i = (r3 : EReal)) (e0 e1 e2 e3 : ℕ) (l0 : e0 ≤ 1) (l1 : e1 ≤ 1) (l2 : e2 ≤ 1) (l3 : e3 ≤ 1) :
    combo (F := Ideal) x0 x1 x2 x3 (e0 + 2 * e1 + 4 * e2 + 8 * e3) i
      = (((1 - 2 * e0) * r0 + (1 - 2 * e1) * r1 + (1 - 2 * e2) * r2 + (1 - 2 * e3) * r3 : ℝ) : EReal) := by
  have ha (a b : FVec Ideal S16x128 .f32) : (addf a b : FVec Ideal S16x128 .f32) i = (a i : EReal) + (b i : EReal) := rfl
  have hs (a b : FVec Ideal S16x128 .f32) : (subf a b : FVec Ideal S16x128 .f32) i = (a i : EReal) - (b i : EReal) := rfl
  have hn (a : FVec Ideal S16x128 .f32) : (neg0 a : FVec Ideal S16x128 .f32) i = -(a i : EReal) := by
    show Ideal.ofBits .f32 0x00000000#32 - (a i : EReal) = _
    rw [bits_zero, zero_sub]
  rcases le_one l0 with rfl | rfl <;> rcases le_one l1 with rfl | rfl <;> rcases le_one l2 with rfl | rfl <;> rcases le_one l3 with rfl | rfl <;>
    simp only [Nat.reduceMul, Nat.reduceAdd, combo, ha, hs, hn, h0, h1, h2, h3, ← EReal.coe_add, ← EReal.coe_sub, ← EReal.coe_neg] <;>
    exact congrArg _ (by push_cast; ring)

/-- The signed sum of one group of four rows, as the table has it. -/
theorem chosen_at (hx : ∀ r k p, gv (g (ix2 r (colK k p))) (u (ix2 r (colK k p))) = (x r k p : EReal))
    (s b0 : Fin 2) (a : Fin 28) (q : Fin 7) (b : Fin 2) (i : Fin 16) (l : Fin 128) :
    chosen (F := Ideal) h g u s b0 a q (ix3 b i l)
      = ((∑ j : Fin 4, sigma h a ⟨4 * q.val + j.val, by omega⟩ * (x (tok s i) ⟨4 * q.val + j.val, by omega⟩ (col2 0 (c128 b0 l))
          + (if b = 0 then 1 else -1) * x (tok s i) ⟨4 * q.val + j.val, by omega⟩ (col2 1 (c128 b0 l))) : ℝ) : EReal) := by
  have hl := signsOf_lt (F := Ideal) h a q
  have hw := wordOf_toNat (F := Ideal) h a q
  have hd : (wordOf (F := Ideal) h a q).toNat / 16 = q.val := by omega
  have hm : (wordOf (F := Ideal) h a q).toNat % 16 = signsOf (F := Ideal) h a q := by omega
  show tabRow (F := Ideal) g u s b0 ⟨(wordOf (F := Ideal) h a q).toNat, wordOf_lt (F := Ideal) h a q⟩ b (ix2 i l) = _
  unfold tabRow
  simp only [hd, hm]
  unfold signsOf
  rw [combo_at _ _ _ _ (ix2 i l) _ _ _ _ (side_at g u x hx s b0 b _ i l) (side_at g u x hx s b0 b _ i l) (side_at g u x hx s b0 b _ i l)
    (side_at g u x hx s b0 b _ i l) _ _ _ _ (isNeg_le _) (isNeg_le _) (isNeg_le _) (isNeg_le _)]
  rw [Fin.sum_univ_four]
  rfl

theorem sum_28 (f : Fin 28 → ℝ) : ∑ k : Fin 28, f k = ∑ q : Fin 7, ∑ j : Fin 4, f ⟨4 * q.val + j.val, by omega⟩ := by
  rw [Fin.sum_univ_tiles 7 4 rfl f]
  refine Finset.sum_congr rfl fun q _ => Finset.sum_congr rfl fun j _ => congrArg f (Fin.ext ?_)
  show q.val * 4 + j.val = 4 * q.val + j.val
  omega

theorem zsum_at (hx : ∀ r k p, gv (g (ix2 r (colK k p))) (u (ix2 r (colK k p))) = (x r k p : EReal))
    (s b0 : Fin 2) (a : Fin 28) (b : Fin 2) (i : Fin 16) (l : Fin 128) (r : Fin 32) (hr : r.val = 16 * b.val + i.val) :
    zsum (F := Ideal) h g u s b0 a (ix2 r l) = ((ZK (x (tok s i)) (sigma h) a b (c128 b0 l) : ℝ) : EReal) := by
  unfold zsum sum7
  refine (shapeCast_apply _ shapeCasts_S2x16x128_S32x128 (ix2 r l) (ix3 b i l) ?_).trans ?_
  · rw [Shape.rowMajor_val_two, Shape.rowMajor_val_three]
    show (b.val * 16 + i.val) * 128 + l.val = r.val * 128 + l.val
    rw [hr]; ring
  · have ha (a b : FVec Ideal S2x16x128 .f32) (y : S2x16x128.Idx) : (addf a b : FVec Ideal S2x16x128 .f32) y = (a y : EReal) + (b y : EReal) := rfl
    simp only [ha, chosen_at h g u x hx, ← EReal.coe_add]
    unfold ZK
    rw [sum_28, Fin.sum_univ_seven]
    exact congrArg _ (by ring)

/-- The three parts: the whole value, and zero twice. -/
theorem zpart_at (z : FVec Ideal S32x128 .f32) (i : S32x128.Idx) (r : ℝ) (hz : z i = (r : EReal)) (p : Fin 3) :
    zpart (F := Ideal) p z i = if p = 0 then (r : EReal) else 0 := by
  have h1 : (rest (F := Ideal) z) i = (0 : EReal) := by
    show (z i : EReal) - (z i : EReal) = 0
    rw [hz, ← EReal.coe_sub, sub_self, EReal.coe_zero]
  have h2 : (rest (F := Ideal) (rest z)) i = (0 : EReal) := by
    show (rest (F := Ideal) z i : EReal) - (rest (F := Ideal) z i : EReal) = 0
    rw [h1, sub_zero]
  unfold zpart
  split
  · exact hz
  · split
    · exact h1
    · exact h2

theorem signs_at (i j : Fin 256) : (signs (F := Ideal)) (ix2 i j) = (HK i j : EReal) := by
  have e0 : iota .tc S256x256 32 [0] iota_S256x256_d0_w32 (ix2 i j) = BitVec.ofNat 32 i.val := by pointwise
  have e1 : iota .tc S256x256 32 [1] iota_S256x256_d1_w32 (ix2 i j) = BitVec.ofNat 32 j.val := by pointwise
  show Scalar.select (IntOp.cmpi .eq (IntOp.andi (foldK (IntOp.andi (iota .tc S256x256 32 [0] iota_S256x256_d0_w32 (ix2 i j))
    (iota .tc S256x256 32 [1] iota_S256x256_d1_w32 (ix2 i j)))) 1#32) 1#32)
    (Ideal.ofBits .f32 0xBF800000#32) (Ideal.ofBits .f32 0x3F800000#32) = _
  rw [e0, e1, bits_one, bits_neg_one]
  unfold HK oddK
  generalize IntOp.andi (foldK _) 1#32 = v
  unfold Scalar.select IntOp.cmpi
  by_cases hv : v = 1#32
  · simp [hv]
  · have : (v == 1#32) = false := by simpa using hv
    simp [hv, this]

/-! ## The transformed rows -/

theorem ZS_at (hx : ∀ r k p, gv (g (ix2 r (colK k p))) (u (ix2 r (colK k p))) = (x r k p : EReal))
    (s : Fin 2) (p : Fin 3) (a : Fin 28) (b : Fin 2) (i : Fin 16) (ρ : Fin 896) (hρ : ρ.val = 32 * a.val + 16 * b.val + i.val) (k : Fin 256) :
    ZS (F := Ideal) h g u (ix4 s p ρ k) = if p = 0 then ((ZK (x (tok s i)) (sigma h) a b k : ℝ) : EReal) else 0 := by
  have ea : (⟨ρ.val / 32, by omega⟩ : Fin 28) = a := Fin.ext (by show ρ.val / 32 = a.val; omega)
  have ek : c128 ⟨k.val / 128, by omega⟩ ⟨k.val % 128, by omega⟩ = k := Fin.ext (by show 128 * (k.val / 128) + k.val % 128 = k.val; omega)
  show zpart (F := Ideal) p (zsum (F := Ideal) h g u s ⟨k.val / 128, by omega⟩ ⟨ρ.val / 32, by omega⟩) (ix2 ⟨ρ.val % 32, by omega⟩ ⟨k.val % 128, by omega⟩) = _
  rw [ea]
  refine (zpart_at _ _ _ (zsum_at h g u x hx s _ a b i _ _ ?_) p).trans ?_
  · show ρ.val % 32 = _; omega
  · rw [ek]

theorem prodV_sum (s : Fin 2) (c : Fin 4) (p : Fin 3) (i : Fin 224) (j : Fin 256) :
    (prodV (F := Ideal) h g u s c p (ix2 i j) : EReal)
      = ∑ k : Fin 256, (ZS (F := Ideal) h g u (ix4 s p ⟨224 * c.val + i.val, by omega⟩ k) : EReal) * (signs (F := Ideal) (ix2 k j) : EReal) := by
  pointwise [prodV]

theorem coe_sum' {n : ℕ} (f : Fin n → ℝ) : ((∑ k, f k : ℝ) : EReal) = ∑ k, (f k : EReal) := by
  induction n with
  | zero => simp
  | succ n ih => rw [Fin.sum_univ_succ, Fin.sum_univ_succ, EReal.coe_add, ih]

theorem yv_at (hx : ∀ r k p, gv (g (ix2 r (colK k p))) (u (ix2 r (colK k p))) = (x r k p : EReal))
    (s : Fin 2) (c : Fin 4) (t : Fin 224) (a : Fin 28) (b : Fin 2) (i : Fin 16) (hρ : 224 * c.val + t.val = 32 * a.val + 16 * b.val + i.val) (j : Fin 256) :
    yv (F := Ideal) h g u s c (ix2 t j) = ((YR (x (tok s i)) (sigma h) a (col2 b j) : ℝ) : EReal) := by
  have e (p : Fin 3) : (prodV (F := Ideal) h g u s c p (ix2 t j) : EReal) = if p = 0 then ((YR (x (tok s i)) (sigma h) a (col2 b j) : ℝ) : EReal) else 0 := by
    have eS (k : Fin 256) : (ZS (F := Ideal) h g u (ix4 s p ⟨224 * c.val + t.val, by omega⟩ k) : EReal) = if p = 0 then ((ZK (x (tok s i)) (sigma h) a b k : ℝ) : EReal) else 0 :=
      ZS_at h g u x hx s p a b i ⟨224 * c.val + t.val, by omega⟩ hρ k
    rw [prodV_sum]
    simp only [eS, signs_at]
    split
    · rw [← sum_ZK, coe_sum']
      exact Finset.sum_congr rfl fun k _ => (EReal.coe_mul _ _).symm
    · simp
  show (prodV (F := Ideal) h g u s c 0 (ix2 t j) : EReal) + prodV (F := Ideal) h g u s c 1 (ix2 t j) + prodV (F := Ideal) h g u s c 2 (ix2 t j) = _
  rw [e, e, e, if_pos rfl, if_neg (by decide), if_neg (by decide), add_zero, add_zero]

theorem YF_at (hx : ∀ r k p, gv (g (ix2 r (colK k p))) (u (ix2 r (colK k p))) = (x r k p : EReal))
    (s : Fin 2) (ρ : Fin 896) (a : Fin 28) (b : Fin 2) (i : Fin 16) (hρ : ρ.val = 32 * a.val + 16 * b.val + i.val) (j : Fin 256) :
    YF (F := Ideal) h g u (ix3 s ρ j) = ((YR (x (tok s i)) (sigma h) a (col2 b j) : ℝ) : EReal) :=
  yv_at h g u x hx s ⟨ρ.val / 224, by omega⟩ ⟨ρ.val % 224, by omega⟩ a b i (by show 224 * (ρ.val / 224) + ρ.val % 224 = _; omega) j

/-! ## The greatest magnitude -/

/-- A magnitude. -/
def mag (v : EReal) : EReal := max v (-v)

theorem peak_eq (d : FVec Ideal S224x256 .f32) (i : Fin 16) (l : Fin 128) :
    (peak (F := Ideal) d (ix2 i l) : EReal)
      = max (Finset.univ.fold max ⊥ fun m : Fin 14 => mag (d (ix2 ⟨m.val * 16 + i.val, by omega⟩ ⟨l.val, by omega⟩)))
          (Finset.univ.fold max ⊥ fun m : Fin 14 => mag (d (ix2 ⟨m.val * 16 + i.val, by omega⟩ ⟨128 + l.val, by omega⟩))) := by
  rw [← bits_bot]
  pointwise [peak]
  rfl

theorem tOf_eq (a b : FVec Ideal S16x128 .f32) (s : Fin 2) (i : Fin 16) :
    (tOf (F := Ideal) a b (ix2 (tok s i) 0) : EReal)
      = (Finset.univ.fold max ⊥ fun l : Fin 128 => ((if s = 0 then a else b) (ix2 i l) : EReal)) * CF * CT := by
  rw [← bits_bot]
  pointwise [tOf]
  rcases two_cases s with rfl | rfl
  · have hs (l : Fin 128) : (if h : (tok 0 i).val < 16 then a (ix2 ⟨(tok 0 i).val, h⟩ l) else b (ix2 ⟨(tok 0 i).val - 16, by omega⟩ l)) = a (ix2 i l) := by
      have hi : (tok 0 i).val = i.val := by show 16 * 0 + i.val = _; omega
      rw [dif_pos (by omega)]
      exact congrArg (fun z => a (ix2 z l)) (Fin.ext hi)
    simp only [hs]
    rfl
  · have hs (l : Fin 128) : (if h : (tok 1 i).val < 16 then a (ix2 ⟨(tok 1 i).val, h⟩ l) else b (ix2 ⟨(tok 1 i).val - 16, by omega⟩ l)) = b (ix2 i l) := by
      have hi : (tok 1 i).val = 16 + i.val := by show 16 * 1 + i.val = _; omega
      rw [dif_neg (by omega)]
      exact congrArg (fun z => b (ix2 z l)) (Fin.ext (by show (tok 1 i).val - 16 = i.val; omega))
    simp only [hs]
    rfl

theorem peak_le (d : FVec Ideal S224x256 .f32) (i : Fin 16) (l : Fin 128) (B : EReal) :
    (peak (F := Ideal) d (ix2 i l) : EReal) ≤ B ↔
      ∀ (m : Fin 14) (w : Fin 2), mag (d (ix2 ⟨m.val * 16 + i.val, by omega⟩ ⟨128 * w.val + l.val, by omega⟩)) ≤ B := by
  rw [peak_eq, max_le_iff, fold_max_le, fold_max_le]
  constructor
  · rintro ⟨⟨-, h0⟩, -, h1⟩ m w
    rcases two_cases w with rfl | rfl
    · have e : (⟨128 * (0 : Fin 2).val + l.val, by omega⟩ : Fin 256) = ⟨l.val, by omega⟩ := Fin.ext (by show 128 * 0 + l.val = l.val; omega)
      rw [e]; exact h0 m
    · exact h1 m
  · intro H
    refine ⟨⟨bot_le, fun m => ?_⟩, bot_le, fun m => H m 1⟩
    have e : (⟨128 * (0 : Fin 2).val + l.val, by omega⟩ : Fin 256) = ⟨l.val, by omega⟩ := Fin.ext (by show 128 * 0 + l.val = l.val; omega)
    have := H m 0
    rwa [e] at this

theorem four_cases : ∀ c : Fin 4, c = 0 ∨ c = 1 ∨ c = 2 ∨ c = 3 := by decide

theorem amaxV_le (s : Fin 2) (i : Fin 16) (l : Fin 128) (B : EReal) :
    (amaxV (F := Ideal) h g u s (ix2 i l) : EReal) ≤ B ↔ (0 ≤ B ∧ ∀ (c : Fin 4) (m : Fin 14) (w : Fin 2),
      mag (yv (F := Ideal) h g u s c (ix2 ⟨m.val * 16 + i.val, by omega⟩ ⟨128 * w.val + l.val, by omega⟩)) ≤ B) := by
  show max (max (max (max (Ideal.ofBits .f32 0x00000000#32) (peak (F := Ideal) (yv (F := Ideal) h g u s 0) (ix2 i l))) (peak (F := Ideal) (yv (F := Ideal) h g u s 1) (ix2 i l)))
    (peak (F := Ideal) (yv (F := Ideal) h g u s 2) (ix2 i l))) (peak (F := Ideal) (yv (F := Ideal) h g u s 3) (ix2 i l)) ≤ B ↔ _
  rw [bits_zero, max_le_iff, max_le_iff, max_le_iff, max_le_iff, peak_le, peak_le, peak_le, peak_le]
  constructor
  · rintro ⟨⟨⟨⟨a, b0⟩, b1⟩, b2⟩, b3⟩
    refine ⟨a, fun c => ?_⟩
    rcases four_cases c with rfl | rfl | rfl | rfl
    exacts [b0, b1, b2, b3]
  · rintro ⟨a, b⟩; exact ⟨⟨⟨⟨a, b 0⟩, b 1⟩, b 2⟩, b 3⟩

/-- The greatest magnitude of a token, before the factors. -/
theorem tV_at (hx : ∀ r k p, gv (g (ix2 r (colK k p))) (u (ix2 r (colK k p))) = (x r k p : EReal)) (s : Fin 2) (i : Fin 16) :
    ∃ M : EReal, (tV (F := Ideal) h g u (ix2 (tok s i) 0) : EReal) = M * CF * CT ∧
      ∀ B, M ≤ B ↔ (0 ≤ B ∧ ∀ y : Fin 28 × Fin 512, mag ((YR (x (tok s i)) (sigma h) y.1 y.2 : ℝ) : EReal) ≤ B) := by
  have es : (if s = 0 then amaxV (F := Ideal) h g u 0 else amaxV (F := Ideal) h g u 1) = amaxV (F := Ideal) h g u s := by
    rcases two_cases s with rfl | rfl <;> rfl
  refine ⟨_, tOf_eq _ _ s i, fun B => ?_⟩
  rw [es, fold_max_le]
  constructor
  · rintro ⟨-, H⟩
    have H' := fun l => (amaxV_le h g u s i l B).1 (H l)
    refine ⟨(H' 0).1, fun y => ?_⟩
    obtain ⟨a, q⟩ := y
    have ha := a.isLt
    have hq := q.isLt
    have hc : (2 * a.val + q.val / 256) / 14 < 4 := by omega
    have hm : (2 * a.val + q.val / 256) % 14 < 14 := by omega
    have key := (H' ⟨q.val % 128, by omega⟩).2 ⟨_, hc⟩ ⟨_, hm⟩ ⟨q.val / 128 % 2, by omega⟩
    rw [yv_at h g u x hx s _ _ a ⟨q.val / 256, by omega⟩ i (by
      show 224 * ((2 * a.val + q.val / 256) / 14) + ((2 * a.val + q.val / 256) % 14 * 16 + i.val) = 32 * a.val + 16 * (q.val / 256) + i.val
      omega)] at key
    have eq : col2 ⟨q.val / 256, by omega⟩ ⟨128 * (q.val / 128 % 2) + q.val % 128, by omega⟩ = q := Fin.ext (by
      show 256 * (q.val / 256) + (128 * (q.val / 128 % 2) + q.val % 128) = q.val
      omega)
    rw [← eq]
    exact key
  · rintro ⟨hB, H⟩
    refine ⟨bot_le, fun l => (amaxV_le h g u s i l B).2 ⟨hB, fun c m w => ?_⟩⟩
    have hc := c.isLt
    have hm := m.isLt
    rw [yv_at h g u x hx s c _ ⟨(14 * c.val + m.val) / 2, by omega⟩ ⟨(14 * c.val + m.val) % 2, by omega⟩ i (by
      show 224 * c.val + (m.val * 16 + i.val) = 32 * ((14 * c.val + m.val) / 2) + 16 * ((14 * c.val + m.val) % 2) + i.val
      omega)]
    exact H (_, _)

/-! ## The two results -/

theorem bisect_at (t : FVec Ideal S32x1 .f32) (bit : BitVec 32) (e : IVec S32x1 32) (y : S32x1.Idx) : bisect (F := Ideal) t bit e y = stepE (t y) bit (e y) := rfl

theorem expo_at (t : FVec Ideal S32x1 .f32) (y : S32x1.Idx) : expo (F := Ideal) t y = exE (t y) := by
  have key (e : IVec S32x1 32) : select (cmpi .eq e (broadcast S32x1 0#32)) (broadcast S32x1 0#32) (subi e (broadcast S32x1 126#32)) y
      = Scalar.select (IntOp.cmpi .eq (e y) 0#32) 0#32 (IntOp.subi (e y) 126#32) := rfl
  have h0 : (broadcast S32x1 0#32 : IVec S32x1 32) y = 0#32 := rfl
  unfold expo exE
  refine (key _).trans ?_
  rw [bisect_at, bisect_at, bisect_at, bisect_at, bisect_at, bisect_at, bisect_at, bisect_at, h0]

theorem scaleOf_at (t : FVec Ideal S32x1 .f32) (r : Fin 32) (l : Fin 128) : (scaleOf (F := Ideal) t (ix2 r l) : EReal) = scE (t (ix2 r 0)) := by
  have e : (scaleOf (F := Ideal) t (ix2 r l) : EReal)
      = (bitcastToFloat (F := Ideal) .f32 (shli (addi (expo (F := Ideal) t) (broadcast S32x1 127#32)) (broadcast S32x1 23#32)) (ix2 r 0) : EReal) := by
    unfold scaleOf
    generalize bitcastToFloat (F := Ideal) .f32 (shli (addi (expo (F := Ideal) t) (broadcast S32x1 127#32)) (broadcast S32x1 23#32)) = v
    pointwise
  rw [e]
  unfold scE
  rw [← expo_at]
  generalize expo (F := Ideal) t = e
  rfl

theorem invOf_at (t : FVec Ideal S32x1 .f32) (r : Fin 32) (l : Fin 256) : (invOf (F := Ideal) t (ix2 r l) : EReal) = invE (t (ix2 r 0)) := by
  have e : (invOf (F := Ideal) t (ix2 r l) : EReal)
      = (bitcastToFloat (F := Ideal) .f32 (shli (subi (broadcast S32x1 127#32) (expo (F := Ideal) t)) (broadcast S32x1 23#32)) (ix2 r 0) : EReal) := by
    unfold invOf
    generalize bitcastToFloat (F := Ideal) .f32 (shli (subi (broadcast S32x1 127#32) (expo (F := Ideal) t)) (broadcast S32x1 23#32)) = v
    pointwise
  rw [e]
  unfold invE
  rw [← expo_at]
  generalize expo (F := Ideal) t = e
  rfl

theorem SC_at (r : Fin 32) (l : Fin 128) : (SC (F := Ideal) h g u (ix2 r l) : EReal) = scE (tV (F := Ideal) h g u (ix2 r 0)) := scaleOf_at _ r l

theorem code_at (a b : FVec Ideal S16x256 .f32) (inv : FVec Ideal S32x256 .f32) (s : Fin 2) (i : Fin 16) (j : Fin 256) :
    (code (F := Ideal) a b inv (ix2 (tok s i) j) : EReal)
      = min (Ideal.ofBits .f32 0x43E00000#32) (max (Ideal.ofBits .f32 0xC3E00000#32) (((if s = 0 then a else b) (ix2 i j) : EReal) * CF * inv (ix2 (tok s i) j))) := by
  pointwise [code]
  rcases two_cases s with rfl | rfl
  · have hs : (if h : (tok 0 i).val < 16 then a (ix2 ⟨(tok 0 i).val, h⟩ j) else b (ix2 ⟨(tok 0 i).val - 16, by omega⟩ j)) = a (ix2 i j) := by
      have hi : (tok 0 i).val = i.val := by show 16 * 0 + i.val = _; omega
      rw [dif_pos (by omega)]
      exact congrArg (fun z => a (ix2 z j)) (Fin.ext hi)
    rw [hs]
    rfl
  · have hs : (if h : (tok 1 i).val < 16 then a (ix2 ⟨(tok 1 i).val, h⟩ j) else b (ix2 ⟨(tok 1 i).val - 16, by omega⟩ j)) = b (ix2 i j) := by
      have hi : (tok 1 i).val = 16 + i.val := by show 16 * 1 + i.val = _; omega
      rw [dif_neg (by omega)]
      exact congrArg (fun z => b (ix2 z j)) (Fin.ext (by show (tok 1 i).val - 16 = i.val; omega))
    rw [hs]
    rfl

theorem CODES_at (hx : ∀ r k p, gv (g (ix2 r (colK k p))) (u (ix2 r (colK k p))) = (x r k p : EReal)) (s : Fin 2) (i : Fin 16) (a : Fin 28) (q : Fin 512) :
    (CODES (F := Ideal) h g u (ix2 (tok s i) (colK a q)) : EReal)
      = codeE (((YR (x (tok s i)) (sigma h) a q : ℝ) : EReal) * CF) (tV (F := Ideal) h g u (ix2 (tok s i) 0)) := by
  have ha := a.isLt
  have hq := q.isLt
  have hq0 : (512 * a.val + q.val) / 256 < 56 := by omega
  have e : (CODES (F := Ideal) h g u (ix2 (tok s i) (colK a q)) : EReal)
      = codeq (F := Ideal) h g u ⟨(512 * a.val + q.val) / 256, hq0⟩ (ix2 (tok s i) ⟨(512 * a.val + q.val) % 256, by omega⟩) := rfl
  have ec : col2 ⟨q.val / 256, by omega⟩ ⟨(512 * a.val + q.val) % 256, by omega⟩ = q := Fin.ext (by
    show 256 * (q.val / 256) + (512 * a.val + q.val) % 256 = q.val
    omega)
  have ey (s : Fin 2) : (YF (F := Ideal) h g u (ix3 s ⟨16 * ((512 * a.val + q.val) / 256) + i.val, by omega⟩ ⟨(512 * a.val + q.val) % 256, by omega⟩) : EReal)
      = ((YR (x (tok s i)) (sigma h) a q : ℝ) : EReal) := by
    rw [YF_at h g u x hx s _ a ⟨q.val / 256, by omega⟩ i (by
      show 16 * ((512 * a.val + q.val) / 256) + i.val = 32 * a.val + 16 * (q.val / 256) + i.val
      omega), ec]
  rw [e]
  unfold codeq
  rw [code_at, invOf_at]
  unfold codeE
  refine congrArg (fun z => min _ (max _ (z * CF * _))) ?_
  rcases two_cases s with rfl | rfl
  · exact ey 0
  · exact ey 1

end Cert.Transform.Hand
-- ==== Proof.Transform.Final.lean ====
/-
  The two arrays the transform call leaves, each as one function of the argument arrays (hand-written, untrusted).
-/
module

public import proofs.«01_k».proof.Proof.Transform.KVal
public import proofs.«01_k».proof.Proof.Transform.Run
public import Idealize.ShloMosaic.Lib.Pipeline.ValueKit
public import Idealize.ShloMosaic.Lib.ValueIdx
public import Idealize.ShloMosaic.Lib.Pointwise

@[expose] public section

set_option maxRecDepth 16384

noncomputable section

namespace Cert.Transform.Hand

open Cert.Transform Cert.Transform.Gen
open Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![0, 0] ∧ win0_1.index t = ![t.val, 0] ∧ win0_2.index t = ![t.val, 0]
    ∧ win0_3.index t = ![t.val, 0] ∧ win0_4.index t = ![t.val, 0] :=
  (by decide +kernel : ∀ t : Fin grid0.N, _)

/-- Row `r` of block `t`. -/
def rowOf (t : Fin 48) (r : Fin 32) : Fin 1536 := ⟨32 * t.val + r.val, by omega⟩

/-- Block `t` of an array of rows. -/
def blkOf (A : S1536x14336.Idx → EReal) (t : Fin 48) : S32x14336.Idx → EReal := fun z => A (ix2 (rowOf t (z 0)) (z 1))

/-- The block a row lies in, and its place there. -/
def blkAt (n : Fin 1536) : Fin 48 := ⟨n.val / 32, by omega⟩
def inBlk (n : Fin 1536) : Fin 32 := ⟨n.val % 32, by omega⟩

/-- The codes of all rows. -/
def KCODES (G U : S1536x14336.Idx → EReal) (H : S28x28.Idx → EReal) : S1536x14336.Idx → EReal := fun y =>
  CODES (F := Ideal) H (blkOf G (blkAt (y 0))) (blkOf U (blkAt (y 0))) (ix2 (inBlk (y 0)) (y 1))

/-- The scales of all rows. -/
def KSC (G U : S1536x14336.Idx → EReal) (H : S28x28.Idx → EReal) : S1536x128.Idx → EReal := fun y =>
  SC (F := Ideal) H (blkOf G (blkAt (y 0))) (blkOf U (blkAt (y 0))) (ix2 (inBlk (y 0)) (y 1))

theorem iblk0_arg (c : Dev nD) (t : Fin cfg0.N) : (iblk m c 0 t : S28x28.Idx → EReal) = (m ((c : Thread nD τ).loc main_arg2) : S28x28.Idx → EReal) := by
  funext y
  blk_point [iblk, V, idx t]

theorem blkH_arg (c : Dev nD) : (blkH m c : S28x28.Idx → EReal) = (m ((c : Thread nD τ).loc main_arg2) : S28x28.Idx → EReal) :=
  iblk0_arg m c ⟨0, by decide⟩

theorem blkAt_rowOf (t : Fin 48) (r : Fin 32) : blkAt (rowOf t r) = t := Fin.ext (by show (32 * t.val + r.val) / 32 = t.val; omega)
theorem inBlk_rowOf (t : Fin 48) (r : Fin 32) : inBlk (rowOf t r) = r := Fin.ext (by show (32 * t.val + r.val) % 32 = r.val; omega)
theorem rowOf_blkAt (n : Fin 1536) : rowOf (blkAt n) (inBlk n) = n := Fin.ext (by show 32 * (n.val / 32) + n.val % 32 = n.val; omega)

theorem KCODES_row (G U : S1536x14336.Idx → EReal) (H : S28x28.Idx → EReal) (t : Fin 48) (r : Fin 32) (d : Fin 14336) :
    KCODES G U H (ix2 (rowOf t r) d) = CODES (F := Ideal) H (blkOf G t) (blkOf U t) (ix2 r d) := by
  show CODES (F := Ideal) H (blkOf G (blkAt (rowOf t r))) (blkOf U (blkAt (rowOf t r))) (ix2 (inBlk (rowOf t r)) d) = _
  rw [blkAt_rowOf, inBlk_rowOf]

theorem KSC_row (G U : S1536x14336.Idx → EReal) (H : S28x28.Idx → EReal) (t : Fin 48) (r : Fin 32) (l : Fin 128) :
    KSC G U H (ix2 (rowOf t r) l) = SC (F := Ideal) H (blkOf G t) (blkOf U t) (ix2 r l) := by
  show SC (F := Ideal) H (blkOf G (blkAt (rowOf t r))) (blkOf U (blkAt (rowOf t r))) (ix2 (inBlk (rowOf t r)) l) = _
  rw [blkAt_rowOf, inBlk_rowOf]

theorem emb3 (A : S1536x14336.Idx → EReal) (t : Fin cfg0.N) (y : S32x14336.Idx) : A ((win0_3.blk t).view.emb y) = A (ix2 (rowOf t (y 0)) (y 1)) := by
  unfold rowOf
  blk_point [idx t]

theorem emb4 (A : S1536x128.Idx → EReal) (t : Fin cfg0.N) (y : S32x128.Idx) : A ((win0_4.blk t).view.emb y) = A (ix2 (rowOf t (y 0)) (y 1)) := by
  unfold rowOf
  blk_point [idx t]

theorem eta2 {a b : ℕ} (y : (⟨2, ![a, b]⟩ : Shape).Idx) : y = ix2 (y 0) (y 1) := by
  funext d
  match d with
  | ⟨0, _⟩ => rfl
  | ⟨1, _⟩ => rfl

theorem iblk1_arg (c : Dev nD) (t : Fin cfg0.N) : (iblk m c 1 t : S32x14336.Idx → EReal) = blkOf (m ((c : Thread nD τ).loc main_arg0)) t := by
  funext y
  unfold blkOf rowOf
  blk_point [iblk, V, idx t]

theorem iblk2_arg (c : Dev nD) (t : Fin cfg0.N) : (iblk m c 2 t : S32x14336.Idx → EReal) = blkOf (m ((c : Thread nD τ).loc main_arg1)) t := by
  funext y
  unfold blkOf rowOf
  blk_point [iblk, V, idx t]

/-- The codes after the run. -/
theorem final_codes (c : Dev nD) : (dats (F := Ideal) m 0 c).arrAt 3 (cfgs 0).N
    = KCODES (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3, blkH_arg, iblk1_arg, iblk2_arg]
  refine (congrArg _ (eta2 y)).trans ((KCODES_row _ _ _ t (y 0) (y 1)).symm.trans (emb3 _ t y).symm)

/-- The scales after the run. -/
theorem final_scales (c : Dev nD) : (dats (F := Ideal) m 0 c).arrAt 4 (cfgs 0).N
    = KSC (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4, blkH_arg, iblk1_arg, iblk2_arg]
  refine (congrArg _ (eta2 y)).trans ((KSC_row _ _ _ t (y 0) (y 1)).symm.trans (emb4 _ t y).symm)

end Cert.Transform.Hand
-- ==== Proof.Transform.Count.lean ====
/-
  The exponent found bit by bit is the number of powers of two not above the value (hand-written, untrusted).
-/
module

public import proofs.«01_k».proof.Proof.Transform.Scal

@[expose] public section

set_option maxRecDepth 16384

noncomputable section

namespace Cert.Transform.Hand

open Idealize.ShloMosaic

/-- The float whose exponent field is `k`, its sign and fraction zero. -/
def pw (k : ℕ) : EReal := Ideal.ofBits .f32 (IntOp.shli .vector (BitVec.ofNat 32 k) 23#32)

theorem pw_fields : ∀ k : Fin 256, (IntOp.shli .vector (BitVec.ofNat 32 k.val) 23#32).extractLsb' (8 + 23) 1 = 0#1
    ∧ ((IntOp.shli .vector (BitVec.ofNat 32 k.val) 23#32).extractLsb' 23 8).toNat = k.val
    ∧ ((IntOp.shli .vector (BitVec.ofNat 32 k.val) 23#32).extractLsb' 0 23).toNat = 0 := by
  decide +kernel

theorem ieee_top (b : BitVec 32) (h1 : b.extractLsb' (8 + 23) 1 = 0#1) (h2 : (b.extractLsb' 23 8).toNat = 255) (h3 : (b.extractLsb' 0 23).toNat = 0) :
    Ideal.ieee 8 23 b = ⊤ := by
  unfold Ideal.ieee
  simp only [h1, h2, h3]
  simp

theorem ieee_pow (b : BitVec 32) (k : ℕ) (h0 : 1 ≤ k) (hk : k ≤ 254) (h1 : b.extractLsb' (8 + 23) 1 = 0#1) (h2 : (b.extractLsb' 23 8).toNat = k)
    (h3 : (b.extractLsb' 0 23).toNat = 0) : Ideal.ieee 8 23 b = (((2 : ℝ) ^ ((k : ℤ) - 127) : ℝ) : EReal) := by
  unfold Ideal.ieee
  simp only [h1, h2, h3]
  rw [if_neg (by omega), if_neg (by omega)]
  have e : ((k : ℤ) - 127) = 23 + ((k : ℤ) - (2 ^ (8 - 1) - 1) - ((23 : ℕ) : ℤ)) := by norm_num
  refine congrArg (fun r : ℝ => (r : EReal)) ?_
  rw [e, zpow_add₀ (by norm_num)]
  norm_num

theorem pw_ieee (k : ℕ) : pw k = Ideal.ieee 8 23 (IntOp.shli .vector (BitVec.ofNat 32 k) 23#32) := by
  unfold pw
  generalize IntOp.shli .vector (BitVec.ofNat 32 k) 23#32 = b
  unfold Ideal.ofBits
  rfl

theorem pw_top : pw 255 = ⊤ := by
  obtain ⟨h1, h2, h3⟩ := pw_fields ⟨255, by decide⟩
  rw [pw_ieee]
  exact ieee_top _ h1 h2 h3

/-- Field `k` is the power `2 ^ (k - 127)`. -/
theorem pw_val (k : ℕ) (h0 : 1 ≤ k) (hk : k ≤ 254) : pw k = (((2 : ℝ) ^ ((k : ℤ) - 127) : ℝ) : EReal) := by
  obtain ⟨h1, h2, h3⟩ := pw_fields ⟨k, by omega⟩
  rw [pw_ieee]
  exact ieee_pow _ k h0 hk h1 h2 h3

theorem pw_mono {j k : ℕ} (h0 : 1 ≤ j) (hjk : j ≤ k) (hk : k ≤ 255) : pw j ≤ pw k := by
  rcases Nat.lt_or_ge k 255 with h | h
  · rw [pw_val j h0 (by omega), pw_val k (by omega) (by omega)]
    have e : ((j : ℤ) - 127) ≤ (k : ℤ) - 127 := by omega
    exact EReal.coe_le_coe_iff.2 (zpow_le_zpow_right₀ (by norm_num : (1 : ℝ) ≤ 2) e)
  · obtain rfl : k = 255 := by omega
    rw [pw_top]
    exact le_top

/-- What is known of the field when `w` values of it are left. -/
def Inv (t : EReal) (w n : ℕ) : Prop := n + w ≤ 256 ∧ (n = 0 ∨ pw n ≤ t) ∧ ∀ j, n + w ≤ j → j ≤ 255 → ¬ pw j ≤ t

theorem step_inv (t : EReal) (h n : ℕ) (h0 : 1 ≤ h) (hi : Inv t (h + h) n) :
    ∃ n', stepE t (BitVec.ofNat 32 h) (BitVec.ofNat 32 n) = BitVec.ofNat 32 n' ∧ Inv t h n' := by
  obtain ⟨i1, i2, i3⟩ := hi
  have e : IntOp.addi (BitVec.ofNat 32 n) (BitVec.ofNat 32 h) = BitVec.ofNat 32 (n + h) := (BitVec.ofNat_add n h).symm
  unfold stepE
  rw [e]
  show ∃ n', Scalar.select (Ideal.cmp .oge t (pw (n + h))) _ _ = _ ∧ _
  by_cases hc : pw (n + h) ≤ t
  · refine ⟨n + h, by simp [Scalar.select, Ideal.cmp, hc], by omega, .inr hc, fun j hj => i3 j (by omega)⟩
  · refine ⟨n, by simp [Scalar.select, Ideal.cmp, hc], by omega, i2, fun j hj hj' hn => hc ?_⟩
    exact (pw_mono (by omega) hj hj').trans hn

/-- The field the eight steps find. -/
def field (t : EReal) : BitVec 32 :=
  stepE t 1#32 (stepE t 2#32 (stepE t 4#32 (stepE t 8#32 (stepE t 16#32 (stepE t 32#32 (stepE t 64#32 (stepE t 128#32 0#32)))))))

theorem field_spec (t : EReal) : ∃ n, n ≤ 255 ∧ field t = BitVec.ofNat 32 n ∧ ∀ j, 1 ≤ j → j ≤ 255 → (pw j ≤ t ↔ j ≤ n) := by
  obtain ⟨a, ea, ia⟩ := step_inv t 128 0 (by decide) ⟨by decide, .inl rfl, fun j h h' => by omega⟩
  obtain ⟨b, eb, ib⟩ := step_inv t 64 a (by decide) ia
  obtain ⟨c, ec, ic⟩ := step_inv t 32 b (by decide) ib
  obtain ⟨d, ed, id⟩ := step_inv t 16 c (by decide) ic
  obtain ⟨e, ee, ie⟩ := step_inv t 8 d (by decide) id
  obtain ⟨f, ef, jf⟩ := step_inv t 4 e (by decide) ie
  obtain ⟨g, eg, ig⟩ := step_inv t 2 f (by decide) jf
  obtain ⟨n, en, i1, i2, i3⟩ := step_inv t 1 g (by decide) ig
  refine ⟨n, by omega, ?_, fun j hj hj' => ⟨fun hp => ?_, fun hn => ?_⟩⟩
  · rw [← en, ← eg, ← ef, ← ee, ← ed, ← ec, ← eb, ← ea]
    rfl
  · by_contra hlt
    exact i3 j (by omega) hj' hp
  · rcases i2 with h | h
    · omega
    · exact (pw_mono hj hn (by omega)).trans h

theorem count_le (n N : ℕ) : (∑ j ∈ Finset.range N, if j + 1 ≤ n then 1 else 0) = min N n := by
  induction N with
  | zero => simp
  | succ N ih =>
    rw [Finset.sum_range_succ, ih]
    split_ifs <;> omega

/-- Adding words of numbers is the word of the sum. -/
theorem fold_words {ι : Type*} [DecidableEq ι] (s : Finset ι) (g : ι → ℕ) (f : ι → BitVec 32) (hf : ∀ j, f j = BitVec.ofNat 32 (g j))
    [Std.Commutative (IntOp.addi (w := 32))] [Std.Associative (IntOp.addi (w := 32))] :
    s.fold IntOp.addi 0#32 f = BitVec.ofNat 32 (∑ j ∈ s, g j) := by
  induction s using Finset.induction_on with
  | empty => rfl
  | insert a s ha ih =>
    rw [Finset.fold_insert ha, Finset.sum_insert ha, ih, hf, BitVec.ofNat_add]
    rfl

/-- The field is the number of powers not above the value. -/
theorem field_count (t : EReal) [Std.Commutative (IntOp.addi (w := 32))] [Std.Associative (IntOp.addi (w := 32))] :
    (Finset.univ.fold IntOp.addi 0#32 fun j : Fin 255 => (Ideal.cmp .oge t (pw (j.val + 1))).setWidth 32) = field t := by
  obtain ⟨n, hn, en, h⟩ := field_spec t
  rw [en, fold_words Finset.univ (fun j : Fin 255 => if j.val + 1 ≤ n then 1 else 0) _ fun j => ?_]
  · rw [Fin.sum_univ_eq_sum_range (fun j => if j + 1 ≤ n then 1 else 0), count_le, min_eq_right hn]
  · have := h (j.val + 1) (by omega) (by omega)
    by_cases hc : pw (j.val + 1) ≤ t
    · simp [Ideal.cmp, hc, this.1 hc]
    · have hc' : ¬ j.val + 1 ≤ n := fun hh => hc (this.2 hh)
      simp [Ideal.cmp, hc, hc']

end Cert.Transform.Hand
-- ==== Proof.Transform.RVal.lean ====
/-
  What the reference of the transform computes, over the extended reals (hand-written, untrusted).
-/
module

public import proofs.«01_k».proof.Proof.Transform.KVal
public import proofs.«01_k».proof.Proof.Transform.Count
public import proofs.«01_k».proof.Proof.Transform.Reference

@[expose] public section

set_option maxRecDepth 16384

noncomputable section

namespace Cert.TransformReferenceIdeal.Hand

open Cert.TransformReferenceIdeal Cert.TransformReferenceIdeal.Read Cert.TransformReferenceIdeal.Facts₀
open Idealize.ShloMosaic
open Cert.Transform.Hand (gv colK YR HR oddR pw field field_count exE scE invE codeE CF CT mag shli_host bits_one bits_neg_one bits_bot fold_max_le coe_sum')

variable (G U : S1536x14336.Idx → EReal) (H : S28x28.Idx → EReal)
variable (n : Fin 1536) (x : Fin 28 → Fin 512 → ℝ) (σ : Fin 28 → Fin 28 → ℝ)

theorem v3_at (i : S1536x14336.Idx) : (val_main_v3 (F := Ideal) G U i : EReal) = gv (G i) (U i) := by
  unfold gv
  rw [← bits_one]
  simp only [val_main_v3_apply, val_main_v1_apply, val_main_v0_apply, val_main_v2_apply, val_main_call0_v5_apply, val_main_call0_v4_apply,
    val_main_call0_v3_apply, val_main_call0_v2_apply, val_main_call0_v1_apply, val_main_call0_v0_apply, val_main_call0_cst_apply, val_main_call0_cst_0_apply]
  rfl

theorem v4_at (k : Fin 28) (p : Fin 512) : (val_main_v4 (F := Ideal) G U (ix3 n k p) : EReal) = gv (G (ix2 n (colK k p))) (U (ix2 n (colK k p))) := by
  have hk := k.isLt
  have hp := p.isLt
  have e : idx_main_v4 (ix3 n k p) = ix2 n (colK k p) := by
    funext a
    apply Fin.ext
    match a with
    | ⟨0, _⟩ => show ((n.val * 28 + k.val) * 512 + p.val) / 14336 = n.val; omega
    | ⟨1, _⟩ => show ((n.val * 28 + k.val) * 512 + p.val) % 14336 = 512 * k.val + p.val; omega
  rw [val_main_v4_apply, e, v3_at]

theorem v6_at (hx : ∀ k p, gv (G (ix2 n (colK k p))) (U (ix2 n (colK k p))) = (x k p : EReal)) (hσ : ∀ a k, H (ix2 a k) = (σ a k : EReal))
    (a : Fin 28) (p : Fin 512) : (val_main_v6 (F := Ideal) G U H (ix3 n a p) : EReal) = ((∑ k : Fin 28, σ a k * x k p : ℝ) : EReal) := by
  rw [val_main_v6_apply, val_main_v5_apply, coe_sum']
  refine Finset.sum_congr rfl fun k _ => ?_
  have e1 : lidx_main_v5 (idx_main_v6 (ix3 n a p)) k = ix2 a k := by
    funext d; match d with
    | ⟨0, _⟩ => rfl
    | ⟨1, _⟩ => rfl
  have e2 : ridx_main_v5 (idx_main_v6 (ix3 n a p)) k = ix3 n k p := by
    funext d; match d with
    | ⟨0, _⟩ => rfl
    | ⟨1, _⟩ => rfl
    | ⟨2, _⟩ => rfl
  rw [e1, e2, EReal.coe_mul, ← hσ, ← hx, ← v4_at]

theorem v15_at (p q : Fin 512) : (val_main_v15 (F := Ideal) (ix2 p q) : EReal) = (HR p q : EReal) := by
  simp only [val_main_v15_apply, val_main_v14_apply, val_main_v13_apply, val_main_v12_apply, val_main_v11_apply, val_main_v10_apply, val_main_v9_apply,
    val_main_v8_apply, val_main_v7_apply, val_main_call1_v0_apply, val_main_call1_v1_apply, val_main_c_apply, val_main_c_0_apply, val_main_cst_apply, val_main_cst_1_apply]
  show Scalar.select (IntOp.cmpi .eq (IntOp.andi (IntOp.ctpop (IntOp.andi (BitVec.ofNat 32 p.val) (BitVec.ofNat 32 q.val))) 1#32) 1#32)
    (Ideal.ofBits .f32 0xBF800000#32) (Ideal.ofBits .f32 0x3F800000#32) = _
  rw [bits_one, bits_neg_one]
  unfold HR oddR
  generalize IntOp.andi (IntOp.ctpop _) 1#32 = v
  unfold Scalar.select IntOp.cmpi
  by_cases hv : v = 1#32
  · simp [hv]
  · have : (v == 1#32) = false := by simpa using hv
    simp [hv, this]

theorem v16_at (hx : ∀ k p, gv (G (ix2 n (colK k p))) (U (ix2 n (colK k p))) = (x k p : EReal)) (hσ : ∀ a k, H (ix2 a k) = (σ a k : EReal))
    (a : Fin 28) (q : Fin 512) : (val_main_v16 (F := Ideal) G U H (ix3 n a q) : EReal) = ((YR x σ a q : ℝ) : EReal) := by
  rw [val_main_v16_apply]
  unfold YR
  rw [coe_sum']
  refine Finset.sum_congr rfl fun p _ => ?_
  have e1 : lidx_main_v16 (ix3 n a q) p = ix3 n a p := by
    funext d; match d with
    | ⟨0, _⟩ => rfl
    | ⟨1, _⟩ => rfl
    | ⟨2, _⟩ => rfl
  have e2 : ridx_main_v16 (ix3 n a q) p = ix2 p q := by
    funext d; match d with
    | ⟨0, _⟩ => rfl
    | ⟨1, _⟩ => rfl
  rw [e1, e2, EReal.coe_mul, ← v6_at G U H n x σ hx hσ, ← v15_at]

theorem v19_at (hx : ∀ k p, gv (G (ix2 n (colK k p))) (U (ix2 n (colK k p))) = (x k p : EReal)) (hσ : ∀ a k, H (ix2 a k) = (σ a k : EReal))
    (a : Fin 28) (q : Fin 512) : (val_main_v19 (F := Ideal) G U H (ix2 n (colK a q)) : EReal) = ((YR x σ a q : ℝ) : EReal) * CF := by
  have ha := a.isLt
  have hq := q.isLt
  have e : idx_main_v19 (ix2 n (colK a q)) = ix3 n a q := by
    funext d
    apply Fin.ext
    match d with
    | ⟨0, _⟩ => show (n.val * 14336 + (512 * a.val + q.val)) / 14336 = n.val; omega
    | ⟨1, _⟩ => show (n.val * 14336 + (512 * a.val + q.val)) / 512 % 28 = a.val; omega
    | ⟨2, _⟩ => show (n.val * 14336 + (512 * a.val + q.val)) % 512 = q.val; omega
  rw [val_main_v19_apply, e, val_main_v18_apply, val_main_v17_apply, val_main_cst_2_apply]
  show (val_main_v16 (F := Ideal) G U H (ix3 n a q) : EReal) * CF = _
  rw [v16_at G U H n x σ hx hσ]

theorem v21_eq : (val_main_v21 (F := Ideal) G U H (ix1 n) : EReal)
    = Finset.univ.fold max ⊥ fun d : Fin 14336 => mag (val_main_v19 (F := Ideal) G U H (ix2 n d)) := by
  rw [← bits_bot]
  unfold val_main_v21
  have e (y : FVec Ideal S1536x14336 .f32) : (Host.reduce (FloatOps.maximumf (F := Ideal) (φ := .f32)) y (val_main_cst_3 (F := Ideal)) reducesTo_S1536x14336_S1536_d1 h_S_ (ix1 n) : EReal)
      = Finset.univ.fold max (Ideal.ofBits .f32 0xFF800000#32) fun d : Fin 14336 => (y (ix2 n d) : EReal) := by
    pointwise [val_main_cst_3]
  rw [e]
  rfl

theorem col_surj (d : Fin 14336) : ∃ a q, colK a q = d :=
  ⟨⟨d.val / 512, by omega⟩, ⟨d.val % 512, by omega⟩, Fin.ext (by show 512 * (d.val / 512) + d.val % 512 = d.val; omega)⟩

/-- The greatest magnitude of a token. -/
theorem v24_at (hx : ∀ k p, gv (G (ix2 n (colK k p))) (U (ix2 n (colK k p))) = (x k p : EReal)) (hσ : ∀ a k, H (ix2 a k) = (σ a k : EReal)) :
    ∃ R : EReal, (val_main_v24 (F := Ideal) G U H (ix2 n 0) : EReal) = R * CT ∧
      ∀ B, R ≤ B ↔ ∀ y : Fin 28 × Fin 512, mag (((YR x σ y.1 y.2 : ℝ) : EReal) * CF) ≤ B := by
  refine ⟨Finset.univ.fold max ⊥ fun d : Fin 14336 => mag (val_main_v19 (F := Ideal) G U H (ix2 n d)), ?_, fun B => ?_⟩
  · have e : idx_main_v22 (ix2 n 0) = ix1 n := by
      funext d; match d with
      | ⟨0, _⟩ => rfl
    rw [val_main_v24_apply, val_main_v23_apply, val_main_cst_4_apply, val_main_v22_apply, e, v21_eq]
    rfl
  · rw [fold_max_le]
    constructor
    · rintro ⟨-, h⟩ y
      have := h (colK y.1 y.2)
      rwa [v19_at G U H n x σ hx hσ] at this
    · intro h
      refine ⟨bot_le, fun d => ?_⟩
      obtain ⟨a, q, rfl⟩ := col_surj d
      rw [v19_at G U H n x σ hx hσ]
      exact h (a, q)

/-! ## The exponent, the number of powers not above the value -/

theorem v33_at (j : Fin 255) : val_main_v33 (F := Ideal) G U H (ix2 n j)
    = (Ideal.cmp .oge (val_main_v24 (F := Ideal) G U H (ix2 n 0)) (pw (j.val + 1))).setWidth 32 := by
  have e : idx_main_v31 (ix2 n j) = ix2 n 0 := by
    funext d; match d with
    | ⟨0, _⟩ => rfl
    | ⟨1, _⟩ => rfl
  rw [val_main_v33_apply, val_main_v32_apply, val_main_v31_apply, e, val_main_v30_apply, val_main_v29_apply, val_main_v28_apply, val_main_v27_apply,
    val_main_v26_apply, val_main_v25_apply, val_main_c_5_apply, val_main_c_6_apply, shli_host]
  generalize val_main_v24 (F := Ideal) G U H (ix2 n 0) = t
  have e' : IntOp.addi (BitVec.ofNat 32 j.val) 1#32 = BitVec.ofNat 32 (j.val + 1) := (BitVec.ofNat_add j.val 1).symm
  unfold pw
  rw [← e']
  rfl

theorem v34_at : val_main_v34 (F := Ideal) G U H (ix1 n) = field (val_main_v24 (F := Ideal) G U H (ix2 n 0)) := by
  unfold val_main_v34
  have e (y : IVec S1536x255 32) : Host.reduce IntOp.addi y (val_main_c_7 (F := Ideal)) reducesTo_S1536x255_S1536_d1 h_S_ (ix1 n)
      = Finset.univ.fold IntOp.addi 0#32 fun j : Fin 255 => y (ix2 n j) := by
    pointwise [val_main_c_7]
  rw [e, ← field_count]
  exact congrArg (Finset.univ.fold IntOp.addi 0#32) (funext fun j => v33_at G U H n j)

theorem v40_at : val_main_v40 (F := Ideal) G U H (ix2 n 0) = exE (val_main_v24 (F := Ideal) G U H (ix2 n 0)) := by
  have e : idx_main_v35 (ix2 n 0) = ix1 n := by
    funext d; match d with
    | ⟨0, _⟩ => rfl
  have e' (t : EReal) : exE t = Scalar.select (IntOp.cmpi .eq (field t) 0#32) 0#32 (IntOp.subi (field t) 126#32) := rfl
  rw [e', ← v34_at, val_main_v40_apply, val_main_v39_apply, val_main_v38_apply, val_main_v37_apply, val_main_v36_apply, val_main_v35_apply, e,
    val_main_call2_v1_apply, val_main_call2_v0_apply, val_main_c_8_apply, val_main_c_9_apply, val_main_c_10_apply]

/-! ## The two results -/

theorem scales_at (l : Fin 128) : (val_main_v55 (F := Ideal) G U H (ix2 n l) : EReal) = scE (val_main_v24 (F := Ideal) G U H (ix2 n 0)) := by
  have e : idx_main_v55 (ix2 n l) = ix2 n 0 := by
    funext d; match d with
    | ⟨0, _⟩ => rfl
    | ⟨1, _⟩ => rfl
  unfold scE
  rw [← v40_at, val_main_v55_apply, e]
  simp only [val_main_v45_apply, val_main_v44_apply, val_main_v43_apply, val_main_v42_apply, val_main_v41_apply, val_main_c_11_apply, val_main_c_12_apply, shli_host]
  rfl

theorem codes_at (hx : ∀ k p, gv (G (ix2 n (colK k p))) (U (ix2 n (colK k p))) = (x k p : EReal)) (hσ : ∀ a k, H (ix2 a k) = (σ a k : EReal))
    (a : Fin 28) (q : Fin 512) : (val_main_v54 (F := Ideal) G U H (ix2 n (colK a q)) : EReal)
      = codeE (((YR x σ a q : ℝ) : EReal) * CF) (val_main_v24 (F := Ideal) G U H (ix2 n 0)) := by
  have e : idx_main_v51 (ix2 n (colK a q)) = ix2 n 0 := by
    funext d; match d with
    | ⟨0, _⟩ => rfl
    | ⟨1, _⟩ => rfl
  unfold codeE invE
  rw [← v40_at, ← v19_at G U H n x σ hx hσ]
  simp only [val_main_v54_apply, val_main_v53_apply, val_main_call3_v4_apply, val_main_call3_v3_apply, val_main_call3_v2_apply, val_main_call3_v1_apply,
    val_main_call3_v0_apply, val_main_cst_15_apply, val_main_cst_16_apply, val_main_v52_apply, val_main_v51_apply, e, val_main_v50_apply, val_main_v49_apply,
    val_main_v48_apply, val_main_v47_apply, val_main_v46_apply, val_main_c_13_apply, val_main_c_14_apply, shli_host]
  rfl

end Cert.TransformReferenceIdeal.Hand
-- ==== Proof.Transform.Join.lean ====
/-
  The transform call and its reference leave the same codes and scales (hand-written, untrusted).
-/
module

public import proofs.«01_k».proof.Proof.Transform.Final
public import proofs.«01_k».proof.Proof.Transform.RVal
public import proofs.«01_k».proof.Proof.Gen.Pre_finite_signs

@[expose] public section

set_option maxRecDepth 16384

noncomputable section

namespace Cert.Transform.Hand

open Cert.Transform
open Idealize.ShloMosaic
open Cert.TransformReferenceIdeal.Read (val_main_v24 val_main_v54 val_main_v55)
open Cert.TransformReferenceIdeal.Hand (v24_at codes_at scales_at)

/-! ## What the condition says -/

theorem coe_of_mag {v : EReal} (h : mag v < ⊤) : ∃ r : ℝ, v = (r : EReal) := by
  unfold mag at h
  induction v with
  | bot => simp at h
  | coe r => exact ⟨r, rfl⟩
  | top => simp at h

theorem sign_of_mag {v : EReal} (h : mag v = ((1 : ℝ) : EReal)) : v = (((1 : ℝ) - 2 * (isNeg (F := Ideal) v : ℝ) : ℝ) : EReal) := by
  obtain ⟨r, rfl⟩ := coe_of_mag (v := v) (by rw [h]; exact EReal.coe_lt_top 1)
  have hz : isNeg (F := Ideal) ((r : ℝ) : EReal) = if r < 0 then 1 else 0 := by
    unfold isNeg
    show (if Ideal.cmp .olt ((r : ℝ) : EReal) (Ideal.ofBits .f32 0x00000000#32) = 1 then 1 else 0) = _
    rw [bits_zero]
    by_cases hr : r < 0
    · have : ((r : ℝ) : EReal) < 0 := by exact_mod_cast hr
      simp [Ideal.cmp, this, hr]
    · have : ¬ ((r : ℝ) : EReal) < 0 := by exact_mod_cast hr
      simp [Ideal.cmp, this, hr]
  rw [hz]
  have hm : max r (-r) = 1 := by
    unfold mag at h
    rw [← EReal.coe_neg, ← coe_max'] at h
    exact_mod_cast h
  have h2 : |r| = 1 := hm
  congr 1
  rcases (abs_eq (by norm_num : (0:ℝ) ≤ 1)).1 h2 with h1 | h1
  · rw [h1]; norm_num
  · rw [h1]; norm_num

variable {G U : S1536x14336.Idx → EReal} {H : S28x28.Idx → EReal}

theorem cond_gate (y : S1536x14336.Idx) : (Cert.Pre_finite_signs.fn (F := Ideal) G U H).1 y = Ideal.cmp .olt (mag (G y)) (Ideal.ofBits .bf16 0x7F80#16) := by
  unfold mag
  pointwise [Cert.Pre_finite_signs.fn]
  rfl

theorem cond_up (y : S1536x14336.Idx) : (Cert.Pre_finite_signs.fn (F := Ideal) G U H).2.1 y = Ideal.cmp .olt (mag (U y)) (Ideal.ofBits .bf16 0x7F80#16) := by
  unfold mag
  pointwise [Cert.Pre_finite_signs.fn]
  rfl

theorem cond_signs (y : S28x28.Idx) : (Cert.Pre_finite_signs.fn (F := Ideal) G U H).2.2 y = Ideal.cmp .oeq (mag (H y)) (Ideal.ofBits .f32 0x3F800000#32) := by
  unfold mag
  pointwise [Cert.Pre_finite_signs.fn]
  rfl

theorem gate_real (h : (Cert.Pre_finite_signs.fn (F := Ideal) G U H).1 = fun _ => 1#1) (y : S1536x14336.Idx) : ∃ r : ℝ, G y = (r : EReal) := by
  have e := (cond_gate (G := G) (U := U) (H := H) y).symm.trans (congrFun h y)
  rw [bits_top16] at e
  refine coe_of_mag ?_
  by_contra hn
  simp [Ideal.cmp, hn] at e

theorem up_real (h : (Cert.Pre_finite_signs.fn (F := Ideal) G U H).2.1 = fun _ => 1#1) (y : S1536x14336.Idx) : ∃ r : ℝ, U y = (r : EReal) := by
  have e := (cond_up (G := G) (U := U) (H := H) y).symm.trans (congrFun h y)
  rw [bits_top16] at e
  refine coe_of_mag ?_
  by_contra hn
  simp [Ideal.cmp, hn] at e

theorem signs_sigma (h : (Cert.Pre_finite_signs.fn (F := Ideal) G U H).2.2 = fun _ => 1#1) (a k : Fin 28) : H (ix2 a k) = (sigma H a k : EReal) := by
  have e := (cond_signs (G := G) (U := U) (H := H) (ix2 a k)).symm.trans (congrFun h _)
  rw [bits_one] at e
  refine sign_of_mag ?_
  by_contra hn
  rw [EReal.coe_one] at e hn
  simp [Ideal.cmp, hn] at e

/-! ## One token -/

theorem row_cases (n : Fin 1536) : ∃ (t : Fin 48) (s : Fin 2) (i : Fin 16), n = rowOf t (tok s i) :=
  ⟨⟨n.val / 32, by omega⟩, ⟨n.val % 32 / 16, by omega⟩, ⟨n.val % 16, by omega⟩,
    Fin.ext (by show n.val = 32 * (n.val / 32) + (16 * (n.val % 32 / 16) + n.val % 16); omega)⟩

/-- The gated products of a block are reals. -/
theorem prods (hG : ∀ y, ∃ r : ℝ, G y = (r : EReal)) (hU : ∀ y, ∃ r : ℝ, U y = (r : EReal)) (t : Fin 48) :
    ∃ x : Fin 32 → Fin 28 → Fin 512 → ℝ, ∀ r k p, gv (G (ix2 (rowOf t r) (colK k p))) (U (ix2 (rowOf t r) (colK k p))) = (x r k p : EReal) := by
  have : ∀ (r : Fin 32) (k : Fin 28) (p : Fin 512), ∃ v : ℝ, gv (G (ix2 (rowOf t r) (colK k p))) (U (ix2 (rowOf t r) (colK k p))) = (v : EReal) := fun r k p => by
    obtain ⟨a, ha⟩ := hG (ix2 (rowOf t r) (colK k p))
    obtain ⟨b, hb⟩ := hU (ix2 (rowOf t r) (colK k p))
    rw [ha, hb]
    exact gv_real a b
  choose x hx using this
  exact ⟨x, hx⟩

section

variable (hG : ∀ y, ∃ r : ℝ, G y = (r : EReal)) (hU : ∀ y, ∃ r : ℝ, U y = (r : EReal)) (hH : ∀ a k, H (ix2 a k) = (sigma H a k : EReal))
include hG hU hH

/-- The scaled peak of a token is the same in both programs. -/
theorem peak_same (t : Fin 48) (s : Fin 2) (i : Fin 16) :
    tV (F := Ideal) H (blkOf G t) (blkOf U t) (ix2 (tok s i) 0) = (val_main_v24 (F := Ideal) G U H (ix2 (rowOf t (tok s i)) 0) : EReal) := by
  obtain ⟨x, hx⟩ := prods hG hU t
  obtain ⟨M, eM, hM⟩ := tV_at H (blkOf G t) (blkOf U t) x hx s i
  obtain ⟨R, eR, hR⟩ := v24_at G U H (rowOf t (tok s i)) (x (tok s i)) (sigma H) (hx (tok s i)) hH
  obtain ⟨c, hc, ec⟩ := bits_c
  have eC : CF = (c : EReal) := ec
  rw [eM, eR, eC, peak_scale (fun y : Fin 28 × Fin 512 => YR (x (tok s i)) (sigma H) y.1 y.2) c hc M R (0, 0) hM (by rw [eC] at hR; exact hR)]

theorem codes_row (n : Fin 1536) (d : Fin 14336) : KCODES G U H (ix2 n d) = (val_main_v54 (F := Ideal) G U H (ix2 n d) : EReal) := by
  obtain ⟨t, s, i, rfl⟩ := row_cases n
  obtain ⟨a, q, rfl⟩ := Cert.TransformReferenceIdeal.Hand.col_surj d
  obtain ⟨x, hx⟩ := prods hG hU t
  rw [KCODES_row, CODES_at H (blkOf G t) (blkOf U t) x hx, peak_same hG hU hH]
  exact (codes_at G U H (rowOf t (tok s i)) (x (tok s i)) (sigma H) (hx (tok s i)) hH a q).symm

theorem scales_row (n : Fin 1536) (l : Fin 128) : KSC G U H (ix2 n l) = (val_main_v55 (F := Ideal) G U H (ix2 n l) : EReal) := by
  obtain ⟨t, s, i, rfl⟩ := row_cases n
  rw [KSC_row, SC_at, peak_same hG hU hH]
  exact (scales_at G U H (rowOf t (tok s i)) l).symm

/-- The codes agree. -/
theorem codes_same : KCODES G U H = (val_main_v54 (F := Ideal) G U H : S1536x14336.Idx → EReal) := by
  funext y
  refine (congrArg _ (eta2 y)).trans ((codes_row hG hU hH (y 0) (y 1)).trans (congrArg _ (eta2 y).symm))

/-- The scales agree. -/
theorem scales_same : KSC G U H = (val_main_v55 (F := Ideal) G U H : S1536x128.Idx → EReal) := by
  funext y
  refine (congrArg _ (eta2 y)).trans ((scales_row hG hU hH (y 0) (y 1)).trans (congrArg _ (eta2 y).symm))

end

end Cert.Transform.Hand
-- ==== Proof.Transform.Claims.lean ====
/-
  The claims about the transform call (hand-written, untrusted).
-/
module

public import proofs.«01_k».proof.Defs
public import proofs.«01_k».proof.Proof.Transform.Transfer
public import proofs.«01_k».proof.Proof.Transform.Join
public import Idealize.ShloMosaic.Lib.Quiescent

@[expose] public section

set_option maxRecDepth 16384

noncomputable section

namespace Cert.Transform.Hand

open Idealize.ShloMosaic Idealize.ShloMosaic.TcCoe Idealize.SL.Sem

/-! ## The runs -/

/-- The idealized call runs to the two arrays, its arguments unchanged. -/
theorem run_ideal (m : (ℓ : Loc Cert.TransformIdeal.nD Cert.TransformIdeal.τ Cert.TransformIdeal.sig) → Buf (Elt Ideal) ℓ) (ρ : Dev Cert.TransformIdeal.nD → PrngReg) :
    θ_run (Cert.TransformIdeal.defs (F := Ideal)) (onTc (τ := Cert.TransformIdeal.τ) (Cert.TransformIdeal.main (F := Ideal))) ⟨m, fun _ => 0, ρ⟩ (fun r => ∀ c : Dev Cert.TransformIdeal.nD,
      r.2.mem ((c.tc : Thread Cert.TransformIdeal.nD Cert.TransformIdeal.τ).loc Cert.TransformIdeal.main_v0_0)
        = KCODES (m ((c.tc : Thread Cert.TransformIdeal.nD Cert.TransformIdeal.τ).loc Cert.TransformIdeal.main_arg0)) (m ((c.tc : Thread Cert.TransformIdeal.nD Cert.TransformIdeal.τ).loc Cert.TransformIdeal.main_arg1)) (m ((c.tc : Thread Cert.TransformIdeal.nD Cert.TransformIdeal.τ).loc Cert.TransformIdeal.main_arg2))
      ∧ r.2.mem ((c.tc : Thread Cert.TransformIdeal.nD Cert.TransformIdeal.τ).loc Cert.TransformIdeal.main_v0_1)
        = KSC (m ((c.tc : Thread Cert.TransformIdeal.nD Cert.TransformIdeal.τ).loc Cert.TransformIdeal.main_arg0)) (m ((c.tc : Thread Cert.TransformIdeal.nD Cert.TransformIdeal.τ).loc Cert.TransformIdeal.main_arg1)) (m ((c.tc : Thread Cert.TransformIdeal.nD Cert.TransformIdeal.τ).loc Cert.TransformIdeal.main_arg2))
      ∧ r.2.mem ((c.tc : Thread Cert.TransformIdeal.nD Cert.TransformIdeal.τ).loc Cert.TransformIdeal.main_arg0) = m ((c.tc : Thread Cert.TransformIdeal.nD Cert.TransformIdeal.τ).loc Cert.TransformIdeal.main_arg0)
      ∧ r.2.mem ((c.tc : Thread Cert.TransformIdeal.nD Cert.TransformIdeal.τ).loc Cert.TransformIdeal.main_arg1) = m ((c.tc : Thread Cert.TransformIdeal.nD Cert.TransformIdeal.τ).loc Cert.TransformIdeal.main_arg1)
      ∧ r.2.mem ((c.tc : Thread Cert.TransformIdeal.nD Cert.TransformIdeal.τ).loc Cert.TransformIdeal.main_arg2) = m ((c.tc : Thread Cert.TransformIdeal.nD Cert.TransformIdeal.τ).loc Cert.TransformIdeal.main_arg2)) := by
  rw [defs_same, main_same]
  refine θ_run_mono (θ_run_and (unchanged (F := Ideal) m ρ) (run_main (F := Ideal) m ρ)) fun r h c => ?_
  exact ⟨((h.2 c).1 3).trans (final_codes m c), ((h.2 c).1 4).trans (final_scales m c), h.1 c⟩

/-- The idealized call's frame. -/
theorem frame_ideal (m : (ℓ : Loc Cert.TransformIdeal.nD Cert.TransformIdeal.τ Cert.TransformIdeal.sig) → Buf (Elt Ideal) ℓ) (ρ : Dev Cert.TransformIdeal.nD → PrngReg) :
    θ_run (Cert.TransformIdeal.defs (F := Ideal)) (onTc (τ := Cert.TransformIdeal.τ) (Cert.TransformIdeal.main (F := Ideal))) ⟨m, fun _ => 0, ρ⟩ (fun r => (∀ c : Dev Cert.TransformIdeal.nD,
      r.2.mem ((c.tc : Thread Cert.TransformIdeal.nD Cert.TransformIdeal.τ).loc Cert.TransformIdeal.main_arg0) = m ((c.tc : Thread Cert.TransformIdeal.nD Cert.TransformIdeal.τ).loc Cert.TransformIdeal.main_arg0)
      ∧ r.2.mem ((c.tc : Thread Cert.TransformIdeal.nD Cert.TransformIdeal.τ).loc Cert.TransformIdeal.main_arg1) = m ((c.tc : Thread Cert.TransformIdeal.nD Cert.TransformIdeal.τ).loc Cert.TransformIdeal.main_arg1)
      ∧ r.2.mem ((c.tc : Thread Cert.TransformIdeal.nD Cert.TransformIdeal.τ).loc Cert.TransformIdeal.main_arg2) = m ((c.tc : Thread Cert.TransformIdeal.nD Cert.TransformIdeal.τ).loc Cert.TransformIdeal.main_arg2))
      ∧ r.2.sem = fun _ => 0) := by
  rw [defs_same, main_same]
  exact frame (F := Ideal) m ρ

end Cert.Transform.Hand

namespace Cert.TransformReferenceIdeal.Hand

open Cert.TransformReferenceIdeal
open Idealize.ShloMosaic Idealize.ShloMosaic.TcCoe Idealize.SL.Sem

variable (m : (ℓ : Loc nD τ sig) → Buf (Elt Ideal) ℓ) (ρ : Dev nD → PrngReg)

/-- The reference runs to its two terms, its arguments unchanged. -/
theorem run_stages : θ_run (defs (F := Ideal)) (onTc (τ := τ) (main (F := Ideal))) ⟨m, fun _ => 0, ρ⟩ (fun r => ∀ c : Dev nD,
      r.2.mem ((c.tc : Thread nD τ).loc main_v54)
        = Read.val_main_v54 (F := Ideal) (m ((c.tc : Thread nD τ).loc main_arg0)) (m ((c.tc : Thread nD τ).loc main_arg1)) (m ((c.tc : Thread nD τ).loc main_arg2))
      ∧ r.2.mem ((c.tc : Thread nD τ).loc main_v55)
        = Read.val_main_v55 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine θ_run_mono (Value.run (F := Ideal) m ρ) fun r h c => ?_
  obtain ⟨h0, h1, h2⟩ := h c
  exact ⟨h0.trans (Read.val_main_v54_eq m c), h1.trans (Read.val_main_v55_eq m c), h2⟩

/-- The reference's frame. -/
theorem frame_ref : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_mono (run_stages m ρ) fun r h => ⟨fun c => (h c).2.2, sem_eq_zero_of_no_sems (by decide) r.2⟩

end Cert.TransformReferenceIdeal.Hand

/-! ## The value claim -/

namespace Cert.Transform.Hand

open Idealize.ShloMosaic Idealize.ShloMosaic.TcCoe Idealize.SL.Sem

/-- The transform call and its plain definition compute the same codes and the same scales over the extended reals. -/
theorem algebraic_transform : Cert.algebraic_TransformIdeal_TransformReferenceIdeal_pre_finite_signs (hTransformIdeal := Cert.TransformIdeal.Gen.facts)
    (hTransformReferenceIdeal := Cert.TransformReferenceIdeal.Gen.facts) (hPre_finite_signs := Cert.Pre_finite_signs.Gen.facts) := by
  intro m g m' g' hpre hargs
  refine ⟨_, _, run_ideal m g, ?_⟩
  refine θ_run_mono (Cert.TransformReferenceIdeal.Hand.run_stages m' g') fun r h c => ?_
  obtain ⟨h0, h1, h2⟩ := h c
  obtain ⟨p0, p1, p2⟩ := hpre c
  have hG := gate_real p0
  have hU := up_real p1
  have hH := signs_sigma p2
  rw [(hargs c).1, (hargs c).2.1, (hargs c).2.2] at h0 h1
  exact ⟨h0.trans (codes_same hG hU hH).symm, h1.trans (scales_same hG hU hH).symm, h2⟩

end Cert.Transform.Hand
-- ==== Proof.lean ====
/-
  The proof of `Cert.Claim` (proof/Defs.lean), hand-written, untrusted. Down: the generated frames, and the algebraic claim, for
  which Proof/Down/Value.lean reads both programs' result arrays as one function of the arguments. Transform: the run of the
  body, the frames and the algebraic claim are in Proof/Transform.
-/
module

public import proofs.«01_k».proof.Defs
public import proofs.«01_k».proof.Proof.Gen.Down.Frame
public import proofs.«01_k».proof.Proof.Gen.DownIdeal.Frame
public import proofs.«01_k».proof.Proof.Gen.DownIdeal.Value
public import proofs.«01_k».proof.Proof.Gen.DownReferenceIdeal.Frame
public import proofs.«01_k».proof.Proof.Gen.DownReferenceIdeal.Value
public import proofs.«01_k».proof.Proof.Down.Value
public import proofs.«01_k».proof.Proof.Gen.Transform.Frame
public import proofs.«01_k».proof.Proof.Gen.TransformIdeal
public import proofs.«01_k».proof.Proof.Gen.TransformReferenceIdeal
public import proofs.«01_k».proof.Proof.Gen.Pre_finite_signs
public import proofs.«01_k».proof.Proof.Transform.Reference
public import proofs.«01_k».proof.Proof.Transform.Claims

@[expose] public section

noncomputable section

namespace Cert.Proof

open Idealize.ShloMosaic Idealize.SL.Sem

/-- The tiled down projection and its plain definition compute the same array over the extended reals. -/
theorem algebraic_down : Cert.algebraic_DownIdeal_DownReferenceIdeal (hDownIdeal := Cert.DownIdeal.Gen.facts)
    (hDownReferenceIdeal := Cert.DownReferenceIdeal.Gen.facts) := by
  intro m g m' g' _ hargs
  refine ⟨fun c => (Cert.DownIdeal.Gen.dats m 0 c).arrAt 4 Cert.DownIdeal.cfg0.N, Cert.DownIdeal.Value.run_blocks m g, ?_⟩
  refine (θ_run (Cert.DownReferenceIdeal.defs (F := Ideal)) _ _).mono (fun r h c => ?_)
    (Cert.DownReferenceIdeal.Value.run_blocks m' g')
  obtain ⟨hv, h0, h1, h2, h3⟩ := h c
  refine ⟨hv.trans ?_, h0, h1, h2, h3⟩
  refine (Cert.DownReferenceIdeal.Hand.final m' c).trans (Eq.trans ?_ (Cert.DownIdeal.Hand.final m c).symm)
  rw [(hargs c).1, (hargs c).2.1, (hargs c).2.2.1, (hargs c).2.2.2]

theorem claim : Cert.Claim := ⟨Cert.Down.Gen.facts, Cert.DownIdeal.Gen.facts, Cert.DownReferenceIdeal.Gen.facts,
  Cert.Transform.Gen.facts, Cert.TransformIdeal.Gen.facts, Cert.TransformReferenceIdeal.Gen.facts, Cert.Pre_finite_signs.Gen.facts,
  fun m ρ _ => Cert.Down.Gen.frame m ρ, fun m ρ _ => Cert.DownIdeal.Gen.frame m ρ,
  fun m ρ _ => Cert.DownReferenceIdeal.Gen.frame m ρ,
  fun m ρ _ => Cert.Transform.Hand.frame m ρ, fun m ρ _ => Cert.Transform.Hand.frame_ideal m ρ, fun m ρ _ => Cert.Transform.Hand.frame_ideal m ρ,
  fun m ρ _ => Cert.TransformReferenceIdeal.Hand.frame_ref m ρ, fun m ρ _ => Cert.TransformReferenceIdeal.Hand.frame_ref m ρ,
  trivial, algebraic_down, trivial, Cert.Transform.Hand.algebraic_transform⟩

end Cert.Proof

end
